-- ==== Defs.lean ====
def Pre_Attn [hPre_table_in_pool : Cert.Pre_table_in_pool.Facts] (m : (ℓ : Loc Cert.Attn.nD Cert.Attn.τ Cert.Attn.sig) → Buf (Elt Bits) ℓ) : Prop :=
  ∀ c : Dev Cert.Attn.nD,
    (Cert.Pre_table_in_pool.fn (F := Bits) (m ((c.tc : Thread Cert.Attn.nD Cert.Attn.τ).loc Cert.Attn.main_arg0)) (m ((c.tc : Thread Cert.Attn.nD Cert.Attn.τ).loc Cert.Attn.main_arg1)) (m ((c.tc : Thread Cert.Attn.nD Cert.Attn.τ).loc Cert.Attn.main_arg2)) (m ((c.tc : Thread Cert.Attn.nD Cert.Attn.τ).loc Cert.Attn.main_arg3)) (m ((c.tc : Thread Cert.Attn.nD Cert.Attn.τ).loc Cert.Attn.main_arg4)) (m ((c.tc : Thread Cert.Attn.nD Cert.Attn.τ).loc Cert.Attn.main_arg5)) (m ((c.tc : Thread Cert.Attn.nD Cert.Attn.τ).loc Cert.Attn.main_arg6)) (m ((c.tc : Thread Cert.Attn.nD Cert.Attn.τ).loc Cert.Attn.main_arg7))) = (fun _ => 1#1)

def Pre_AttnIdeal [hPre_table_in_pool : Cert.Pre_table_in_pool.Facts] (m : (ℓ : Loc Cert.AttnIdeal.nD Cert.AttnIdeal.τ Cert.AttnIdeal.sig) → Buf (Elt Ideal) ℓ) : Prop :=
  ∀ c : Dev Cert.AttnIdeal.nD,
    (Cert.Pre_table_in_pool.fn (F := Ideal) (m ((c.tc : Thread Cert.AttnIdeal.nD Cert.AttnIdeal.τ).loc Cert.AttnIdeal.main_arg0)) (m ((c.tc : Thread Cert.AttnIdeal.nD Cert.AttnIdeal.τ).loc Cert.AttnIdeal.main_arg1)) (m ((c.tc : Thread Cert.AttnIdeal.nD Cert.AttnIdeal.τ).loc Cert.AttnIdeal.main_arg2)) (m ((c.tc : Thread Cert.AttnIdeal.nD Cert.AttnIdeal.τ).loc Cert.AttnIdeal.main_arg3)) (m ((c.tc : Thread Cert.AttnIdeal.nD Cert.AttnIdeal.τ).loc Cert.AttnIdeal.main_arg4)) (m ((c.tc : Thread Cert.AttnIdeal.nD Cert.AttnIdeal.τ).loc Cert.AttnIdeal.main_arg5)) (m ((c.tc : Thread Cert.AttnIdeal.nD Cert.AttnIdeal.τ).loc Cert.AttnIdeal.main_arg6)) (m ((c.tc : Thread Cert.AttnIdeal.nD Cert.AttnIdeal.τ).loc Cert.AttnIdeal.main_arg7))) = (fun _ => 1#1)

def Pre_AttnIdeal_step_inputs [hPre_step_inputs : Cert.Pre_step_inputs.Facts] (m : (ℓ : Loc Cert.AttnIdeal.nD Cert.AttnIdeal.τ Cert.AttnIdeal.sig) → Buf (Elt Ideal) ℓ) : Prop :=
  ∀ c : Dev Cert.AttnIdeal.nD,
    (Cert.Pre_step_inputs.fn (F := Ideal) (m ((c.tc : Thread Cert.AttnIdeal.nD Cert.AttnIdeal.τ).loc Cert.AttnIdeal.main_arg0)) (m ((c.tc : Thread Cert.AttnIdeal.nD Cert.AttnIdeal.τ).loc Cert.AttnIdeal.main_arg1)) (m ((c.tc : Thread Cert.AttnIdeal.nD Cert.AttnIdeal.τ).loc Cert.AttnIdeal.main_arg2)) (m ((c.tc : Thread Cert.AttnIdeal.nD Cert.AttnIdeal.τ).loc Cert.AttnIdeal.main_arg3)) (m ((c.tc : Thread Cert.AttnIdeal.nD Cert.AttnIdeal.τ).loc Cert.AttnIdeal.main_arg4)) (m ((c.tc : Thread Cert.AttnIdeal.nD Cert.AttnIdeal.τ).loc Cert.AttnIdeal.main_arg5)) (m ((c.tc : Thread Cert.AttnIdeal.nD Cert.AttnIdeal.τ).loc Cert.AttnIdeal.main_arg6)) (m ((c.tc : Thread Cert.AttnIdeal.nD Cert.AttnIdeal.τ).loc Cert.AttnIdeal.main_arg7))) = (fun _ => 1#1)

def Pre_AttnRefIdeal (m : (ℓ : Loc Cert.AttnRefIdeal.nD Cert.AttnRefIdeal.τ Cert.AttnRefIdeal.sig) → Buf (Elt Ideal) ℓ) : Prop :=
  True

def Pre_AttnRefIdeal_step_inputs [hPre_step_inputs : Cert.Pre_step_inputs.Facts] (m : (ℓ : Loc Cert.AttnRefIdeal.nD Cert.AttnRefIdeal.τ Cert.AttnRefIdeal.sig) → Buf (Elt Ideal) ℓ) : Prop :=
  ∀ c : Dev Cert.AttnRefIdeal.nD,
    (Cert.Pre_step_inputs.fn (F := Ideal) (m ((c.tc : Thread Cert.AttnRefIdeal.nD Cert.AttnRefIdeal.τ).loc Cert.AttnRefIdeal.main_arg0)) (m ((c.tc : Thread Cert.AttnRefIdeal.nD Cert.AttnRefIdeal.τ).loc Cert.AttnRefIdeal.main_arg1)) (m ((c.tc : Thread Cert.AttnRefIdeal.nD Cert.AttnRefIdeal.τ).loc Cert.AttnRefIdeal.main_arg2)) (m ((c.tc : Thread Cert.AttnRefIdeal.nD Cert.AttnRefIdeal.τ).loc Cert.AttnRefIdeal.main_arg3)) (m ((c.tc : Thread Cert.AttnRefIdeal.nD Cert.AttnRefIdeal.τ).loc Cert.AttnRefIdeal.main_arg4)) (m ((c.tc : Thread Cert.AttnRefIdeal.nD Cert.AttnRefIdeal.τ).loc Cert.AttnRefIdeal.main_arg5)) (m ((c.tc : Thread Cert.AttnRefIdeal.nD Cert.AttnRefIdeal.τ).loc Cert.AttnRefIdeal.main_arg6)) (m ((c.tc : Thread Cert.AttnRefIdeal.nD Cert.AttnRefIdeal.τ).loc Cert.AttnRefIdeal.main_arg7))) = (fun _ => 1#1)

def Pre_Down (m : (ℓ : Loc Cert.Down.nD Cert.Down.τ Cert.Down.sig) → Buf (Elt Bits) ℓ) : Prop :=
  True

def Pre_DownIdeal (m : (ℓ : Loc Cert.DownIdeal.nD Cert.DownIdeal.τ Cert.DownIdeal.sig) → Buf (Elt Ideal) ℓ) : Prop :=
  True

def Pre_DownRefIdeal (m : (ℓ : Loc Cert.DownRefIdeal.nD Cert.DownRefIdeal.τ Cert.DownRefIdeal.sig) → Buf (Elt Ideal) ℓ) : Prop :=
  True

def Pre_Hidden (m : (ℓ : Loc Cert.Hidden.nD Cert.Hidden.τ Cert.Hidden.sig) → Buf (Elt Bits) ℓ) : Prop :=
  True

def Pre_HiddenIdeal (m : (ℓ : Loc Cert.HiddenIdeal.nD Cert.HiddenIdeal.τ Cert.HiddenIdeal.sig) → Buf (Elt Ideal) ℓ) : Prop :=
  True

def Pre_HiddenRefIdeal (m : (ℓ : Loc Cert.HiddenRefIdeal.nD Cert.HiddenRefIdeal.τ Cert.HiddenRefIdeal.sig) → Buf (Elt Ideal) ℓ) : Prop :=
  True

def Pre_Glu (m : (ℓ : Loc Cert.Glu.nD Cert.Glu.τ Cert.Glu.sig) → Buf (Elt Bits) ℓ) : Prop :=
  True

def Pre_GluIdeal (m : (ℓ : Loc Cert.GluIdeal.nD Cert.GluIdeal.τ Cert.GluIdeal.sig) → Buf (Elt Ideal) ℓ) : Prop :=
  True

def Pre_GluRefIdeal (m : (ℓ : Loc Cert.GluRefIdeal.nD Cert.GluRefIdeal.τ Cert.GluRefIdeal.sig) → Buf (Elt Ideal) ℓ) : Prop :=
  True

def Pre_Norm (m : (ℓ : Loc Cert.Norm.nD Cert.Norm.τ Cert.Norm.sig) → Buf (Elt Bits) ℓ) : Prop :=
  True

def Pre_NormIdeal (m : (ℓ : Loc Cert.NormIdeal.nD Cert.NormIdeal.τ Cert.NormIdeal.sig) → Buf (Elt Ideal) ℓ) : Prop :=
  True

def Pre_NormRefIdeal (m : (ℓ : Loc Cert.NormRefIdeal.nD Cert.NormRefIdeal.τ Cert.NormRefIdeal.sig) → Buf (Elt Ideal) ℓ) : Prop :=
  True

def Pre_Step (m : (ℓ : Loc Cert.Step.nD Cert.Step.τ Cert.Step.sig) → Buf (Elt Bits) ℓ) : Prop :=
  True

def Pre_StepIdeal (m : (ℓ : Loc Cert.StepIdeal.nD Cert.StepIdeal.τ Cert.StepIdeal.sig) → Buf (Elt Ideal) ℓ) : Prop :=
  True

def Pre_StepRefIdeal (m : (ℓ : Loc Cert.StepRefIdeal.nD Cert.StepRefIdeal.τ Cert.StepRefIdeal.sig) → Buf (Elt Ideal) ℓ) : Prop :=
  True

def Pre_Mix (m : (ℓ : Loc Cert.Mix.nD Cert.Mix.τ Cert.Mix.sig) → Buf (Elt Bits) ℓ) : Prop :=
  True

def Pre_MixIdeal (m : (ℓ : Loc Cert.MixIdeal.nD Cert.MixIdeal.τ Cert.MixIdeal.sig) → Buf (Elt Ideal) ℓ) : Prop :=
  True

def Pre_MixRefIdeal (m : (ℓ : Loc Cert.MixRefIdeal.nD Cert.MixRefIdeal.τ Cert.MixRefIdeal.sig) → Buf (Elt Ideal) ℓ) : Prop :=
  True

def Pre_Last (m : (ℓ : Loc Cert.Last.nD Cert.Last.τ Cert.Last.sig) → Buf (Elt Bits) ℓ) : Prop :=
  True

def Pre_LastIdeal (m : (ℓ : Loc Cert.LastIdeal.nD Cert.LastIdeal.τ Cert.LastIdeal.sig) → Buf (Elt Ideal) ℓ) : Prop :=
  True

def Pre_LastRefIdeal (m : (ℓ : Loc Cert.LastRefIdeal.nD Cert.LastRefIdeal.τ Cert.LastRefIdeal.sig) → Buf (Elt Ideal) ℓ) : Prop :=
  True

def Pre_Blend (m : (ℓ : Loc Cert.Blend.nD Cert.Blend.τ Cert.Blend.sig) → Buf (Elt Bits) ℓ) : Prop :=
  True

def Pre_BlendIdeal (m : (ℓ : Loc Cert.BlendIdeal.nD Cert.BlendIdeal.τ Cert.BlendIdeal.sig) → Buf (Elt Ideal) ℓ) : Prop :=
  True

def Pre_BlendRefIdeal (m : (ℓ : Loc Cert.BlendRefIdeal.nD Cert.BlendRefIdeal.τ Cert.BlendRefIdeal.sig) → Buf (Elt Ideal) ℓ) : Prop :=
  True

def quiescent_Attn [hAttn : Cert.Attn.Facts] [hPre_table_in_pool : Cert.Pre_table_in_pool.Facts] : Prop :=
  ∀ (m : (ℓ : Loc Cert.Attn.nD Cert.Attn.τ Cert.Attn.sig) → Buf (Elt Bits) ℓ) (g : Dev Cert.Attn.nD → PrngReg), Pre_Attn m →
    θ_run (Cert.Attn.defs (F := Bits)) (onTc (τ := Cert.Attn.τ) (Cert.Attn.main (F := Bits))) ⟨m, fun _ => 0, g⟩ (fun r => (∀ c : Dev Cert.Attn.nD,
      r.2.mem ((c.tc : Thread Cert.Attn.nD Cert.Attn.τ).loc Cert.Attn.main_arg0) = m ((c.tc : Thread Cert.Attn.nD Cert.Attn.τ).loc Cert.Attn.main_arg0)
      ∧ r.2.mem ((c.tc : Thread Cert.Attn.nD Cert.Attn.τ).loc Cert.Attn.main_arg1) = m ((c.tc : Thread Cert.Attn.nD Cert.Attn.τ).loc Cert.Attn.main_arg1)
      ∧ r.2.mem ((c.tc : Thread Cert.Attn.nD Cert.Attn.τ).loc Cert.Attn.main_arg2) = m ((c.tc : Thread Cert.Attn.nD Cert.Attn.τ).loc Cert.Attn.main_arg2)
      ∧ r.2.mem ((c.tc : Thread Cert.Attn.nD Cert.Attn.τ).loc Cert.Attn.main_arg3) = m ((c.tc : Thread Cert.Attn.nD Cert.Attn.τ).loc Cert.Attn.main_arg3)
      ∧ r.2.mem ((c.tc : Thread Cert.Attn.nD Cert.Attn.τ).loc Cert.Attn.main_arg4) = m ((c.tc : Thread Cert.Attn.nD Cert.Attn.τ).loc Cert.Attn.main_arg4)
      ∧ r.2.mem ((c.tc : Thread Cert.Attn.nD Cert.Attn.τ).loc Cert.Attn.main_arg5) = m ((c.tc : Thread Cert.Attn.nD Cert.Attn.τ).loc Cert.Attn.main_arg5)
      ∧ r.2.mem ((c.tc : Thread Cert.Attn.nD Cert.Attn.τ).loc Cert.Attn.main_arg6) = m ((c.tc : Thread Cert.Attn.nD Cert.Attn.τ).loc Cert.Attn.main_arg6)
      ∧ r.2.mem ((c.tc : Thread Cert.Attn.nD Cert.Attn.τ).loc Cert.Attn.main_arg7) = m ((c.tc : Thread Cert.Attn.nD Cert.Attn.τ).loc Cert.Attn.main_arg7))
      ∧ r.2.sem = fun _ => 0)

def quiescent_AttnIdeal [hAttnIdeal : Cert.AttnIdeal.Facts] [hPre_table_in_pool : Cert.Pre_table_in_pool.Facts] : Prop :=
  ∀ (m : (ℓ : Loc Cert.AttnIdeal.nD Cert.AttnIdeal.τ Cert.AttnIdeal.sig) → Buf (Elt Ideal) ℓ) (g : Dev Cert.AttnIdeal.nD → PrngReg), Pre_AttnIdeal m →
    θ_run (Cert.AttnIdeal.defs (F := Ideal)) (onTc (τ := Cert.AttnIdeal.τ) (Cert.AttnIdeal.main (F := Ideal))) ⟨m, fun _ => 0, g⟩ (fun r => (∀ c : Dev Cert.AttnIdeal.nD,
      r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
      ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
      ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2)
      ∧ r.2.mem ((c.tc : Thread Cert.AttnIdeal.nD Cert.AttnIdeal.τ).loc Cert.AttnIdeal.main_arg3) = m ((c.tc : Thread Cert.AttnIdeal.nD Cert.AttnIdeal.τ).loc Cert.AttnIdeal.main_arg3)
      ∧ r.2.mem ((c.tc : Thread Cert.AttnIdeal.nD Cert.AttnIdeal.τ).loc Cert.AttnIdeal.main_arg4) = m ((c.tc : Thread Cert.AttnIdeal.nD Cert.AttnIdeal.τ).loc Cert.AttnIdeal.main_arg4)
      ∧ r.2.mem ((c.tc : Thread Cert.AttnIdeal.nD Cert.AttnIdeal.τ).loc Cert.AttnIdeal.main_arg5) = m ((c.tc : Thread Cert.AttnIdeal.nD Cert.AttnIdeal.τ).loc Cert.AttnIdeal.main_arg5)
      ∧ r.2.mem ((c.tc : Thread Cert.AttnIdeal.nD Cert.AttnIdeal.τ).loc Cert.AttnIdeal.main_arg6) = m ((c.tc : Thread Cert.AttnIdeal.nD Cert.AttnIdeal.τ).loc Cert.AttnIdeal.main_arg6)
      ∧ r.2.mem ((c.tc : Thread Cert.AttnIdeal.nD Cert.AttnIdeal.τ).loc Cert.AttnIdeal.main_arg7) = m ((c.tc : Thread Cert.AttnIdeal.nD Cert.AttnIdeal.τ).loc Cert.AttnIdeal.main_arg7))
      ∧ r.2.sem = fun _ => 0)

def quiescent_AttnIdeal_pre_step_inputs [hAttnIdeal : Cert.AttnIdeal.Facts] [hPre_step_inputs : Cert.Pre_step_inputs.Facts] : Prop :=
  ∀ (m : (ℓ : Loc Cert.AttnIdeal.nD Cert.AttnIdeal.τ Cert.AttnIdeal.sig) → Buf (Elt Ideal) ℓ) (g : Dev Cert.AttnIdeal.nD → PrngReg), Pre_AttnIdeal_step_inputs m →
    θ_run (Cert.AttnIdeal.defs (F := Ideal)) (onTc (τ := Cert.AttnIdeal.τ) (Cert.AttnIdeal.main (F := Ideal))) ⟨m, fun _ => 0, g⟩ (fun r => (∀ c : Dev Cert.AttnIdeal.nD,
      r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
      ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
      ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2)
      ∧ r.2.mem ((c.tc : Thread Cert.AttnIdeal.nD Cert.AttnIdeal.τ).loc Cert.AttnIdeal.main_arg3) = m ((c.tc : Thread Cert.AttnIdeal.nD Cert.AttnIdeal.τ).loc Cert.AttnIdeal.main_arg3)
      ∧ r.2.mem ((c.tc : Thread Cert.AttnIdeal.nD Cert.AttnIdeal.τ).loc Cert.AttnIdeal.main_arg4) = m ((c.tc : Thread Cert.AttnIdeal.nD Cert.AttnIdeal.τ).loc Cert.AttnIdeal.main_arg4)
      ∧ r.2.mem ((c.tc : Thread Cert.AttnIdeal.nD Cert.AttnIdeal.τ).loc Cert.AttnIdeal.main_arg5) = m ((c.tc : Thread Cert.AttnIdeal.nD Cert.AttnIdeal.τ).loc Cert.AttnIdeal.main_arg5)
      ∧ r.2.mem ((c.tc : Thread Cert.AttnIdeal.nD Cert.AttnIdeal.τ).loc Cert.AttnIdeal.main_arg6) = m ((c.tc : Thread Cert.AttnIdeal.nD Cert.AttnIdeal.τ).loc Cert.AttnIdeal.main_arg6)
      ∧ r.2.mem ((c.tc : Thread Cert.AttnIdeal.nD Cert.AttnIdeal.τ).loc Cert.AttnIdeal.main_arg7) = m ((c.tc : Thread Cert.AttnIdeal.nD Cert.AttnIdeal.τ).loc Cert.AttnIdeal.main_arg7))
      ∧ r.2.sem = fun _ => 0)

def quiescent_AttnRefIdeal [hAttnRefIdeal : Cert.AttnRefIdeal.Facts] : Prop :=
  ∀ (m : (ℓ : Loc Cert.AttnRefIdeal.nD Cert.AttnRefIdeal.τ Cert.AttnRefIdeal.sig) → Buf (Elt Ideal) ℓ) (g : Dev Cert.AttnRefIdeal.nD → PrngReg), Pre_AttnRefIdeal m →
    θ_run (Cert.AttnRefIdeal.defs (F := Ideal)) (onTc (τ := Cert.AttnRefIdeal.τ) (Cert.AttnRefIdeal.main (F := Ideal))) ⟨m, fun _ => 0, g⟩ (fun r => (∀ c : Dev Cert.AttnRefIdeal.nD,
      r.2.mem ((c.tc : Thread Cert.AttnRefIdeal.nD Cert.AttnRefIdeal.τ).loc Cert.AttnRefIdeal.main_arg0) = m ((c.tc : Thread Cert.AttnRefIdeal.nD Cert.AttnRefIdeal.τ).loc Cert.AttnRefIdeal.main_arg0)
      ∧ r.2.mem ((c.tc : Thread Cert.AttnRefIdeal.nD Cert.AttnRefIdeal.τ).loc Cert.AttnRefIdeal.main_arg1) = m ((c.tc : Thread Cert.AttnRefIdeal.nD Cert.AttnRefIdeal.τ).loc Cert.AttnRefIdeal.main_arg1)
      ∧ r.2.mem ((c.tc : Thread Cert.AttnRefIdeal.nD Cert.AttnRefIdeal.τ).loc Cert.AttnRefIdeal.main_arg2) = m ((c.tc : Thread Cert.AttnRefIdeal.nD Cert.AttnRefIdeal.τ).loc Cert.AttnRefIdeal.main_arg2)
      ∧ r.2.mem ((c.tc : Thread Cert.AttnRefIdeal.nD Cert.AttnRefIdeal.τ).loc Cert.AttnRefIdeal.main_arg3) = m ((c.tc : Thread Cert.AttnRefIdeal.nD Cert.AttnRefIdeal.τ).loc Cert.AttnRefIdeal.main_arg3)
      ∧ r.2.mem ((c.tc : Thread Cert.AttnRefIdeal.nD Cert.AttnRefIdeal.τ).loc Cert.AttnRefIdeal.main_arg4) = m ((c.tc : Thread Cert.AttnRefIdeal.nD Cert.AttnRefIdeal.τ).loc Cert.AttnRefIdeal.main_arg4)
      ∧ r.2.mem ((c.tc : Thread Cert.AttnRefIdeal.nD Cert.AttnRefIdeal.τ).loc Cert.AttnRefIdeal.main_arg5) = m ((c.tc : Thread Cert.AttnRefIdeal.nD Cert.AttnRefIdeal.τ).loc Cert.AttnRefIdeal.main_arg5)
      ∧ r.2.mem ((c.tc : Thread Cert.AttnRefIdeal.nD Cert.AttnRefIdeal.τ).loc Cert.AttnRefIdeal.main_arg6) = m ((c.tc : Thread Cert.AttnRefIdeal.nD Cert.AttnRefIdeal.τ).loc Cert.AttnRefIdeal.main_arg6)
      ∧ r.2.mem ((c.tc : Thread Cert.AttnRefIdeal.nD Cert.AttnRefIdeal.τ).loc Cert.AttnRefIdeal.main_arg7) = m ((c.tc : Thread Cert.AttnRefIdeal.nD Cert.AttnRefIdeal.τ).loc Cert.AttnRefIdeal.main_arg7))
      ∧ r.2.sem = fun _ => 0)

def quiescent_AttnRefIdeal_pre_step_inputs [hAttnRefIdeal : Cert.AttnRefIdeal.Facts] [hPre_step_inputs : Cert.Pre_step_inputs.Facts] : Prop :=
  ∀ (m : (ℓ : Loc Cert.AttnRefIdeal.nD Cert.AttnRefIdeal.τ Cert.AttnRefIdeal.sig) → Buf (Elt Ideal) ℓ) (g : Dev Cert.AttnRefIdeal.nD → PrngReg), Pre_AttnRefIdeal_step_inputs m →
    θ_run (Cert.AttnRefIdeal.defs (F := Ideal)) (onTc (τ := Cert.AttnRefIdeal.τ) (Cert.AttnRefIdeal.main (F := Ideal))) ⟨m, fun _ => 0, g⟩ (fun r => (∀ c : Dev Cert.AttnRefIdeal.nD,
      r.2.mem ((c.tc : Thread Cert.AttnRefIdeal.nD Cert.AttnRefIdeal.τ).loc Cert.AttnRefIdeal.main_arg0) = m ((c.tc : Thread Cert.AttnRefIdeal.nD Cert.AttnRefIdeal.τ).loc Cert.AttnRefIdeal.main_arg0)
      ∧ r.2.mem ((c.tc : Thread Cert.AttnRefIdeal.nD Cert.AttnRefIdeal.τ).loc Cert.AttnRefIdeal.main_arg1) = m ((c.tc : Thread Cert.AttnRefIdeal.nD Cert.AttnRefIdeal.τ).loc Cert.AttnRefIdeal.main_arg1)
      ∧ r.2.mem ((c.tc : Thread Cert.AttnRefIdeal.nD Cert.AttnRefIdeal.τ).loc Cert.AttnRefIdeal.main_arg2) = m ((c.tc : Thread Cert.AttnRefIdeal.nD Cert.AttnRefIdeal.τ).loc Cert.AttnRefIdeal.main_arg2)
      ∧ r.2.mem ((c.tc : Thread Cert.AttnRefIdeal.nD Cert.AttnRefIdeal.τ).loc Cert.AttnRefIdeal.main_arg3) = m ((c.tc : Thread Cert.AttnRefIdeal.nD Cert.AttnRefIdeal.τ).loc Cert.AttnRefIdeal.main_arg3)
      ∧ r.2.mem ((c.tc : Thread Cert.AttnRefIdeal.nD Cert.AttnRefIdeal.τ).loc Cert.AttnRefIdeal.main_arg4) = m ((c.tc : Thread Cert.AttnRefIdeal.nD Cert.AttnRefIdeal.τ).loc Cert.AttnRefIdeal.main_arg4)
      ∧ r.2.mem ((c.tc : Thread Cert.AttnRefIdeal.nD Cert.AttnRefIdeal.τ).loc Cert.AttnRefIdeal.main_arg5) = m ((c.tc : Thread Cert.AttnRefIdeal.nD Cert.AttnRefIdeal.τ).loc Cert.AttnRefIdeal.main_arg5)
      ∧ r.2.mem ((c.tc : Thread Cert.AttnRefIdeal.nD Cert.AttnRefIdeal.τ).loc Cert.AttnRefIdeal.main_arg6) = m ((c.tc : Thread Cert.AttnRefIdeal.nD Cert.AttnRefIdeal.τ).loc Cert.AttnRefIdeal.main_arg6)
      ∧ r.2.mem ((c.tc : Thread Cert.AttnRefIdeal.nD Cert.AttnRefIdeal.τ).loc Cert.AttnRefIdeal.main_arg7) = m ((c.tc : Thread Cert.AttnRefIdeal.nD Cert.AttnRefIdeal.τ).loc Cert.AttnRefIdeal.main_arg7))
      ∧ r.2.sem = fun _ => 0)

def quiescent_Down [hDown : Cert.Down.Facts] : Prop :=
  ∀ (m : (ℓ : Loc Cert.Down.nD Cert.Down.τ Cert.Down.sig) → Buf (Elt Bits) ℓ) (g : Dev Cert.Down.nD → PrngReg), Pre_Down m →
    θ_run (Cert.Down.defs (F := Bits)) (onTc (τ := Cert.Down.τ) (Cert.Down.main (F := Bits))) ⟨m, fun _ => 0, g⟩ (fun r => (∀ c : Dev Cert.Down.nD,
      r.2.mem ((c.tc : Thread Cert.Down.nD Cert.Down.τ).loc Cert.Down.main_arg0) = m ((c.tc : Thread Cert.Down.nD Cert.Down.τ).loc Cert.Down.main_arg0)
      ∧ r.2.mem ((c.tc : Thread Cert.Down.nD Cert.Down.τ).loc Cert.Down.main_arg1) = m ((c.tc : Thread Cert.Down.nD Cert.Down.τ).loc Cert.Down.main_arg1)
      ∧ r.2.mem ((c.tc : Thread Cert.Down.nD Cert.Down.τ).loc Cert.Down.main_arg2) = m ((c.tc : Thread Cert.Down.nD Cert.Down.τ).loc Cert.Down.main_arg2))
      ∧ r.2.sem = fun _ => 0)

def quiescent_DownIdeal [hDownIdeal : Cert.DownIdeal.Facts] : Prop :=
  ∀ (m : (ℓ : Loc Cert.DownIdeal.nD Cert.DownIdeal.τ Cert.DownIdeal.sig) → Buf (Elt Ideal) ℓ) (g : Dev Cert.DownIdeal.nD → PrngReg), Pre_DownIdeal m →
    θ_run (Cert.DownIdeal.defs (F := Ideal)) (onTc (τ := Cert.DownIdeal.τ) (Cert.DownIdeal.main (F := Ideal))) ⟨m, fun _ => 0, g⟩ (fun r => (∀ c : Dev Cert.DownIdeal.nD,
      r.2.mem ((c.tc : Thread Cert.DownIdeal.nD Cert.DownIdeal.τ).loc Cert.DownIdeal.main_arg0) = m ((c.tc : Thread Cert.DownIdeal.nD Cert.DownIdeal.τ).loc Cert.DownIdeal.main_arg0)
      ∧ r.2.mem ((c.tc : Thread Cert.DownIdeal.nD Cert.DownIdeal.τ).loc Cert.DownIdeal.main_arg1) = m ((c.tc : Thread Cert.DownIdeal.nD Cert.DownIdeal.τ).loc Cert.DownIdeal.main_arg1)
      ∧ r.2.mem ((c.tc : Thread Cert.DownIdeal.nD Cert.DownIdeal.τ).loc Cert.DownIdeal.main_arg2) = m ((c.tc : Thread Cert.DownIdeal.nD Cert.DownIdeal.τ).loc Cert.DownIdeal.main_arg2))
      ∧ r.2.sem = fun _ => 0)

def quiescent_DownRefIdeal [hDownRefIdeal : Cert.DownRefIdeal.Facts] : Prop :=
  ∀ (m : (ℓ : Loc Cert.DownRefIdeal.nD Cert.DownRefIdeal.τ Cert.DownRefIdeal.sig) → Buf (Elt Ideal) ℓ) (g : Dev Cert.DownRefIdeal.nD → PrngReg), Pre_DownRefIdeal m →
    θ_run (Cert.DownRefIdeal.defs (F := Ideal)) (onTc (τ := Cert.DownRefIdeal.τ) (Cert.DownRefIdeal.main (F := Ideal))) ⟨m, fun _ => 0, g⟩ (fun r => (∀ c : Dev Cert.DownRefIdeal.nD,
      r.2.mem ((c.tc : Thread Cert.DownRefIdeal.nD Cert.DownRefIdeal.τ).loc Cert.DownRefIdeal.main_arg0) = m ((c.tc : Thread Cert.DownRefIdeal.nD Cert.DownRefIdeal.τ).loc Cert.DownRefIdeal.main_arg0)
      ∧ r.2.mem ((c.tc : Thread Cert.DownRefIdeal.nD Cert.DownRefIdeal.τ).loc Cert.DownRefIdeal.main_arg1) = m ((c.tc : Thread Cert.DownRefIdeal.nD Cert.DownRefIdeal.τ).loc Cert.DownRefIdeal.main_arg1)
      ∧ r.2.mem ((c.tc : Thread Cert.DownRefIdeal.nD Cert.DownRefIdeal.τ).loc Cert.DownRefIdeal.main_arg2) = m ((c.tc : Thread Cert.DownRefIdeal.nD Cert.DownRefIdeal.τ).loc Cert.DownRefIdeal.main_arg2))
      ∧ r.2.sem = fun _ => 0)

def quiescent_Hidden [hHidden : Cert.Hidden.Facts] : Prop :=
  ∀ (m : (ℓ : Loc Cert.Hidden.nD Cert.Hidden.τ Cert.Hidden.sig) → Buf (Elt Bits) ℓ) (g : Dev Cert.Hidden.nD → PrngReg), Pre_Hidden m →
    θ_run (Cert.Hidden.defs (F := Bits)) (onTc (τ := Cert.Hidden.τ) (Cert.Hidden.main (F := Bits))) ⟨m, fun _ => 0, g⟩ (fun r => (∀ c : Dev Cert.Hidden.nD,
      r.2.mem ((c.tc : Thread Cert.Hidden.nD Cert.Hidden.τ).loc Cert.Hidden.main_arg0) = m ((c.tc : Thread Cert.Hidden.nD Cert.Hidden.τ).loc Cert.Hidden.main_arg0)
      ∧ r.2.mem ((c.tc : Thread Cert.Hidden.nD Cert.Hidden.τ).loc Cert.Hidden.main_arg1) = m ((c.tc : Thread Cert.Hidden.nD Cert.Hidden.τ).loc Cert.Hidden.main_arg1)
      ∧ r.2.mem ((c.tc : Thread Cert.Hidden.nD Cert.Hidden.τ).loc Cert.Hidden.main_arg2) = m ((c.tc : Thread Cert.Hidden.nD Cert.Hidden.τ).loc Cert.Hidden.main_arg2)
      ∧ r.2.mem ((c.tc : Thread Cert.Hidden.nD Cert.Hidden.τ).loc Cert.Hidden.main_arg3) = m ((c.tc : Thread Cert.Hidden.nD Cert.Hidden.τ).loc Cert.Hidden.main_arg3)
      ∧ r.2.mem ((c.tc : Thread Cert.Hidden.nD Cert.Hidden.τ).loc Cert.Hidden.main_arg4) = m ((c.tc : Thread Cert.Hidden.nD Cert.Hidden.τ).loc Cert.Hidden.main_arg4)
      ∧ r.2.mem ((c.tc : Thread Cert.Hidden.nD Cert.Hidden.τ).loc Cert.Hidden.main_arg5) = m ((c.tc : Thread Cert.Hidden.nD Cert.Hidden.τ).loc Cert.Hidden.main_arg5))
      ∧ r.2.sem = fun _ => 0)

def quiescent_HiddenIdeal [hHiddenIdeal : Cert.HiddenIdeal.Facts] : Prop :=
  ∀ (m : (ℓ : Loc Cert.HiddenIdeal.nD Cert.HiddenIdeal.τ Cert.HiddenIdeal.sig) → Buf (Elt Ideal) ℓ) (g : Dev Cert.HiddenIdeal.nD → PrngReg), Pre_HiddenIdeal m →
    θ_run (Cert.HiddenIdeal.defs (F := Ideal)) (onTc (τ := Cert.HiddenIdeal.τ) (Cert.HiddenIdeal.main (F := Ideal))) ⟨m, fun _ => 0, g⟩ (fun r => (∀ c : Dev Cert.HiddenIdeal.nD,
      r.2.mem ((c.tc : Thread Cert.HiddenIdeal.nD Cert.HiddenIdeal.τ).loc Cert.HiddenIdeal.main_arg0) = m ((c.tc : Thread Cert.HiddenIdeal.nD Cert.HiddenIdeal.τ).loc Cert.HiddenIdeal.main_arg0)
      ∧ r.2.mem ((c.tc : Thread Cert.HiddenIdeal.nD Cert.HiddenIdeal.τ).loc Cert.HiddenIdeal.main_arg1) = m ((c.tc : Thread Cert.HiddenIdeal.nD Cert.HiddenIdeal.τ).loc Cert.HiddenIdeal.main_arg1)
      ∧ r.2.mem ((c.tc : Thread Cert.HiddenIdeal.nD Cert.HiddenIdeal.τ).loc Cert.HiddenIdeal.main_arg2) = m ((c.tc : Thread Cert.HiddenIdeal.nD Cert.HiddenIdeal.τ).loc Cert.HiddenIdeal.main_arg2)
      ∧ r.2.mem ((c.tc : Thread Cert.HiddenIdeal.nD Cert.HiddenIdeal.τ).loc Cert.HiddenIdeal.main_arg3) = m ((c.tc : Thread Cert.HiddenIdeal.nD Cert.HiddenIdeal.τ).loc Cert.HiddenIdeal.main_arg3)
      ∧ r.2.mem ((c.tc : Thread Cert.HiddenIdeal.nD Cert.HiddenIdeal.τ).loc Cert.HiddenIdeal.main_arg4) = m ((c.tc : Thread Cert.HiddenIdeal.nD Cert.HiddenIdeal.τ).loc Cert.HiddenIdeal.main_arg4)
      ∧ r.2.mem ((c.tc : Thread Cert.HiddenIdeal.nD Cert.HiddenIdeal.τ).loc Cert.HiddenIdeal.main_arg5) = m ((c.tc : Thread Cert.HiddenIdeal.nD Cert.HiddenIdeal.τ).loc Cert.HiddenIdeal.main_arg5))
      ∧ r.2.sem = fun _ => 0)

def quiescent_HiddenRefIdeal [hHiddenRefIdeal : Cert.HiddenRefIdeal.Facts] : Prop :=
  ∀ (m : (ℓ : Loc Cert.HiddenRefIdeal.nD Cert.HiddenRefIdeal.τ Cert.HiddenRefIdeal.sig) → Buf (Elt Ideal) ℓ) (g : Dev Cert.HiddenRefIdeal.nD → PrngReg), Pre_HiddenRefIdeal m →
    θ_run (Cert.HiddenRefIdeal.defs (F := Ideal)) (onTc (τ := Cert.HiddenRefIdeal.τ) (Cert.HiddenRefIdeal.main (F := Ideal))) ⟨m, fun _ => 0, g⟩ (fun r => (∀ c : Dev Cert.HiddenRefIdeal.nD,
      r.2.mem ((c.tc : Thread Cert.HiddenRefIdeal.nD Cert.HiddenRefIdeal.τ).loc Cert.HiddenRefIdeal.main_arg0) = m ((c.tc : Thread Cert.HiddenRefIdeal.nD Cert.HiddenRefIdeal.τ).loc Cert.HiddenRefIdeal.main_arg0)
      ∧ r.2.mem ((c.tc : Thread Cert.HiddenRefIdeal.nD Cert.HiddenRefIdeal.τ).loc Cert.HiddenRefIdeal.main_arg1) = m ((c.tc : Thread Cert.HiddenRefIdeal.nD Cert.HiddenRefIdeal.τ).loc Cert.HiddenRefIdeal.main_arg1)
      ∧ r.2.mem ((c.tc : Thread Cert.HiddenRefIdeal.nD Cert.HiddenRefIdeal.τ).loc Cert.HiddenRefIdeal.main_arg2) = m ((c.tc : Thread Cert.HiddenRefIdeal.nD Cert.HiddenRefIdeal.τ).loc Cert.HiddenRefIdeal.main_arg2)
      ∧ r.2.mem ((c.tc : Thread Cert.HiddenRefIdeal.nD Cert.HiddenRefIdeal.τ).loc Cert.HiddenRefIdeal.main_arg3) = m ((c.tc : Thread Cert.HiddenRefIdeal.nD Cert.HiddenRefIdeal.τ).loc Cert.HiddenRefIdeal.main_arg3)
      ∧ r.2.mem ((c.tc : Thread Cert.HiddenRefIdeal.nD Cert.HiddenRefIdeal.τ).loc Cert.HiddenRefIdeal.main_arg4) = m ((c.tc : Thread Cert.HiddenRefIdeal.nD Cert.HiddenRefIdeal.τ).loc Cert.HiddenRefIdeal.main_arg4)
      ∧ r.2.mem ((c.tc : Thread Cert.HiddenRefIdeal.nD Cert.HiddenRefIdeal.τ).loc Cert.HiddenRefIdeal.main_arg5) = m ((c.tc : Thread Cert.HiddenRefIdeal.nD Cert.HiddenRefIdeal.τ).loc Cert.HiddenRefIdeal.main_arg5))
      ∧ r.2.sem = fun _ => 0)

def quiescent_Glu [hGlu : Cert.Glu.Facts] : Prop :=
  ∀ (m : (ℓ : Loc Cert.Glu.nD Cert.Glu.τ Cert.Glu.sig) → Buf (Elt Bits) ℓ) (g : Dev Cert.Glu.nD → PrngReg), Pre_Glu m →
    θ_run (Cert.Glu.defs (F := Bits)) (onTc (τ := Cert.Glu.τ) (Cert.Glu.main (F := Bits))) ⟨m, fun _ => 0, g⟩ (fun r => (∀ c : Dev Cert.Glu.nD,
      r.2.mem ((c.tc : Thread Cert.Glu.nD Cert.Glu.τ).loc Cert.Glu.main_arg0) = m ((c.tc : Thread Cert.Glu.nD Cert.Glu.τ).loc Cert.Glu.main_arg0)
      ∧ r.2.mem ((c.tc : Thread Cert.Glu.nD Cert.Glu.τ).loc Cert.Glu.main_arg1) = m ((c.tc : Thread Cert.Glu.nD Cert.Glu.τ).loc Cert.Glu.main_arg1))
      ∧ r.2.sem = fun _ => 0)

def quiescent_GluIdeal [hGluIdeal : Cert.GluIdeal.Facts] : Prop :=
  ∀ (m : (ℓ : Loc Cert.GluIdeal.nD Cert.GluIdeal.τ Cert.GluIdeal.sig) → Buf (Elt Ideal) ℓ) (g : Dev Cert.GluIdeal.nD → PrngReg), Pre_GluIdeal m →
    θ_run (Cert.GluIdeal.defs (F := Ideal)) (onTc (τ := Cert.GluIdeal.τ) (Cert.GluIdeal.main (F := Ideal))) ⟨m, fun _ => 0, g⟩ (fun r => (∀ c : Dev Cert.GluIdeal.nD,
      r.2.mem ((c.tc : Thread Cert.GluIdeal.nD Cert.GluIdeal.τ).loc Cert.GluIdeal.main_arg0) = m ((c.tc : Thread Cert.GluIdeal.nD Cert.GluIdeal.τ).loc Cert.GluIdeal.main_arg0)
      ∧ r.2.mem ((c.tc : Thread Cert.GluIdeal.nD Cert.GluIdeal.τ).loc Cert.GluIdeal.main_arg1) = m ((c.tc : Thread Cert.GluIdeal.nD Cert.GluIdeal.τ).loc Cert.GluIdeal.main_arg1))
      ∧ r.2.sem = fun _ => 0)

def quiescent_GluRefIdeal [hGluRefIdeal : Cert.GluRefIdeal.Facts] : Prop :=
  ∀ (m : (ℓ : Loc Cert.GluRefIdeal.nD Cert.GluRefIdeal.τ Cert.GluRefIdeal.sig) → Buf (Elt Ideal) ℓ) (g : Dev Cert.GluRefIdeal.nD → PrngReg), Pre_GluRefIdeal m →
    θ_run (Cert.GluRefIdeal.defs (F := Ideal)) (onTc (τ := Cert.GluRefIdeal.τ) (Cert.GluRefIdeal.main (F := Ideal))) ⟨m, fun _ => 0, g⟩ (fun r => (∀ c : Dev Cert.GluRefIdeal.nD,
      r.2.mem ((c.tc : Thread Cert.GluRefIdeal.nD Cert.GluRefIdeal.τ).loc Cert.GluRefIdeal.main_arg0) = m ((c.tc : Thread Cert.GluRefIdeal.nD Cert.GluRefIdeal.τ).loc Cert.GluRefIdeal.main_arg0)
      ∧ r.2.mem ((c.tc : Thread Cert.GluRefIdeal.nD Cert.GluRefIdeal.τ).loc Cert.GluRefIdeal.main_arg1) = m ((c.tc : Thread Cert.GluRefIdeal.nD Cert.GluRefIdeal.τ).loc Cert.GluRefIdeal.main_arg1))
      ∧ r.2.sem = fun _ => 0)

def quiescent_Norm [hNorm : Cert.Norm.Facts] : Prop :=
  ∀ (m : (ℓ : Loc Cert.Norm.nD Cert.Norm.τ Cert.Norm.sig) → Buf (Elt Bits) ℓ) (g : Dev Cert.Norm.nD → PrngReg), Pre_Norm m →
    θ_run (Cert.Norm.defs (F := Bits)) (onTc (τ := Cert.Norm.τ) (Cert.Norm.main (F := Bits))) ⟨m, fun _ => 0, g⟩ (fun r => (∀ c : Dev Cert.Norm.nD,
      r.2.mem ((c.tc : Thread Cert.Norm.nD Cert.Norm.τ).loc Cert.Norm.main_arg0) = m ((c.tc : Thread Cert.Norm.nD Cert.Norm.τ).loc Cert.Norm.main_arg0)
      ∧ r.2.mem ((c.tc : Thread Cert.Norm.nD Cert.Norm.τ).loc Cert.Norm.main_arg1) = m ((c.tc : Thread Cert.Norm.nD Cert.Norm.τ).loc Cert.Norm.main_arg1))
      ∧ r.2.sem = fun _ => 0)

def quiescent_NormIdeal [hNormIdeal : Cert.NormIdeal.Facts] : Prop :=
  ∀ (m : (ℓ : Loc Cert.NormIdeal.nD Cert.NormIdeal.τ Cert.NormIdeal.sig) → Buf (Elt Ideal) ℓ) (g : Dev Cert.NormIdeal.nD → PrngReg), Pre_NormIdeal m →
    θ_run (Cert.NormIdeal.defs (F := Ideal)) (onTc (τ := Cert.NormIdeal.τ) (Cert.NormIdeal.main (F := Ideal))) ⟨m, fun _ => 0, g⟩ (fun r => (∀ c : Dev Cert.NormIdeal.nD,
      r.2.mem ((c.tc : Thread Cert.NormIdeal.nD Cert.NormIdeal.τ).loc Cert.NormIdeal.main_arg0) = m ((c.tc : Thread Cert.NormIdeal.nD Cert.NormIdeal.τ).loc Cert.NormIdeal.main_arg0)
      ∧ r.2.mem ((c.tc : Thread Cert.NormIdeal.nD Cert.NormIdeal.τ).loc Cert.NormIdeal.main_arg1) = m ((c.tc : Thread Cert.NormIdeal.nD Cert.NormIdeal.τ).loc Cert.NormIdeal.main_arg1))
      ∧ r.2.sem = fun _ => 0)

def quiescent_NormRefIdeal [hNormRefIdeal : Cert.NormRefIdeal.Facts] : Prop :=
  ∀ (m : (ℓ : Loc Cert.NormRefIdeal.nD Cert.NormRefIdeal.τ Cert.NormRefIdeal.sig) → Buf (Elt Ideal) ℓ) (g : Dev Cert.NormRefIdeal.nD → PrngReg), Pre_NormRefIdeal m →
    θ_run (Cert.NormRefIdeal.defs (F := Ideal)) (onTc (τ := Cert.NormRefIdeal.τ) (Cert.NormRefIdeal.main (F := Ideal))) ⟨m, fun _ => 0, g⟩ (fun r => (∀ c : Dev Cert.NormRefIdeal.nD,
      r.2.mem ((c.tc : Thread Cert.NormRefIdeal.nD Cert.NormRefIdeal.τ).loc Cert.NormRefIdeal.main_arg0) = m ((c.tc : Thread Cert.NormRefIdeal.nD Cert.NormRefIdeal.τ).loc Cert.NormRefIdeal.main_arg0)
      ∧ r.2.mem ((c.tc : Thread Cert.NormRefIdeal.nD Cert.NormRefIdeal.τ).loc Cert.NormRefIdeal.main_arg1) = m ((c.tc : Thread Cert.NormRefIdeal.nD Cert.NormRefIdeal.τ).loc Cert.NormRefIdeal.main_arg1))
      ∧ r.2.sem = fun _ => 0)

def quiescent_Step [hStep : Cert.Step.Facts] : Prop :=
  ∀ (m : (ℓ : Loc Cert.Step.nD Cert.Step.τ Cert.Step.sig) → Buf (Elt Bits) ℓ) (g : Dev Cert.Step.nD → PrngReg), Pre_Step m →
    θ_run (Cert.Step.defs (F := Bits)) (onTc (τ := Cert.Step.τ) (Cert.Step.main (F := Bits))) ⟨m, fun _ => 0, g⟩ (fun r => (∀ c : Dev Cert.Step.nD,
      r.2.mem ((c.tc : Thread Cert.Step.nD Cert.Step.τ).loc Cert.Step.main_arg0) = m ((c.tc : Thread Cert.Step.nD Cert.Step.τ).loc Cert.Step.main_arg0)
      ∧ r.2.mem ((c.tc : Thread Cert.Step.nD Cert.Step.τ).loc Cert.Step.main_arg1) = m ((c.tc : Thread Cert.Step.nD Cert.Step.τ).loc Cert.Step.main_arg1)
      ∧ r.2.mem ((c.tc : Thread Cert.Step.nD Cert.Step.τ).loc Cert.Step.main_arg2) = m ((c.tc : Thread Cert.Step.nD Cert.Step.τ).loc Cert.Step.main_arg2)
      ∧ r.2.mem ((c.tc : Thread Cert.Step.nD Cert.Step.τ).loc Cert.Step.main_arg3) = m ((c.tc : Thread Cert.Step.nD Cert.Step.τ).loc Cert.Step.main_arg3)
      ∧ r.2.mem ((c.tc : Thread Cert.Step.nD Cert.Step.τ).loc Cert.Step.main_arg4) = m ((c.tc : Thread Cert.Step.nD Cert.Step.τ).loc Cert.Step.main_arg4)
      ∧ r.2.mem ((c.tc : Thread Cert.Step.nD Cert.Step.τ).loc Cert.Step.main_arg5) = m ((c.tc : Thread Cert.Step.nD Cert.Step.τ).loc Cert.Step.main_arg5))
      ∧ r.2.sem = fun _ => 0)

def quiescent_StepIdeal [hStepIdeal : Cert.StepIdeal.Facts] : Prop :=
  ∀ (m : (ℓ : Loc Cert.StepIdeal.nD Cert.StepIdeal.τ Cert.StepIdeal.sig) → Buf (Elt Ideal) ℓ) (g : Dev Cert.StepIdeal.nD → PrngReg), Pre_StepIdeal m →
    θ_run (Cert.StepIdeal.defs (F := Ideal)) (onTc (τ := Cert.StepIdeal.τ) (Cert.StepIdeal.main (F := Ideal))) ⟨m, fun _ => 0, g⟩ (fun r => (∀ c : Dev Cert.StepIdeal.nD,
      r.2.mem ((c.tc : Thread Cert.StepIdeal.nD Cert.StepIdeal.τ).loc Cert.StepIdeal.main_arg0) = m ((c.tc : Thread Cert.StepIdeal.nD Cert.StepIdeal.τ).loc Cert.StepIdeal.main_arg0)
      ∧ r.2.mem ((c.tc : Thread Cert.StepIdeal.nD Cert.StepIdeal.τ).loc Cert.StepIdeal.main_arg1) = m ((c.tc : Thread Cert.StepIdeal.nD Cert.StepIdeal.τ).loc Cert.StepIdeal.main_arg1)
      ∧ r.2.mem ((c.tc : Thread Cert.StepIdeal.nD Cert.StepIdeal.τ).loc Cert.StepIdeal.main_arg2) = m ((c.tc : Thread Cert.StepIdeal.nD Cert.StepIdeal.τ).loc Cert.StepIdeal.main_arg2)
      ∧ r.2.mem ((c.tc : Thread Cert.StepIdeal.nD Cert.StepIdeal.τ).loc Cert.StepIdeal.main_arg3) = m ((c.tc : Thread Cert.StepIdeal.nD Cert.StepIdeal.τ).loc Cert.StepIdeal.main_arg3)
      ∧ r.2.mem ((c.tc : Thread Cert.StepIdeal.nD Cert.StepIdeal.τ).loc Cert.StepIdeal.main_arg4) = m ((c.tc : Thread Cert.StepIdeal.nD Cert.StepIdeal.τ).loc Cert.StepIdeal.main_arg4)
      ∧ r.2.mem ((c.tc : Thread Cert.StepIdeal.nD Cert.StepIdeal.τ).loc Cert.StepIdeal.main_arg5) = m ((c.tc : Thread Cert.StepIdeal.nD Cert.StepIdeal.τ).loc Cert.StepIdeal.main_arg5))
      ∧ r.2.sem = fun _ => 0)

def quiescent_StepRefIdeal [hStepRefIdeal : Cert.StepRefIdeal.Facts] : Prop :=
  ∀ (m : (ℓ : Loc Cert.StepRefIdeal.nD Cert.StepRefIdeal.τ Cert.StepRefIdeal.sig) → Buf (Elt Ideal) ℓ) (g : Dev Cert.StepRefIdeal.nD → PrngReg), Pre_StepRefIdeal m →
    θ_run (Cert.StepRefIdeal.defs (F := Ideal)) (onTc (τ := Cert.StepRefIdeal.τ) (Cert.StepRefIdeal.main (F := Ideal))) ⟨m, fun _ => 0, g⟩ (fun r => (∀ c : Dev Cert.StepRefIdeal.nD,
      r.2.mem ((c.tc : Thread Cert.StepRefIdeal.nD Cert.StepRefIdeal.τ).loc Cert.StepRefIdeal.main_arg0) = m ((c.tc : Thread Cert.StepRefIdeal.nD Cert.StepRefIdeal.τ).loc Cert.StepRefIdeal.main_arg0)
      ∧ r.2.mem ((c.tc : Thread Cert.StepRefIdeal.nD Cert.StepRefIdeal.τ).loc Cert.StepRefIdeal.main_arg1) = m ((c.tc : Thread Cert.StepRefIdeal.nD Cert.StepRefIdeal.τ).loc Cert.StepRefIdeal.main_arg1)
      ∧ r.2.mem ((c.tc : Thread Cert.StepRefIdeal.nD Cert.StepRefIdeal.τ).loc Cert.StepRefIdeal.main_arg2) = m ((c.tc : Thread Cert.StepRefIdeal.nD Cert.StepRefIdeal.τ).loc Cert.StepRefIdeal.main_arg2)
      ∧ r.2.mem ((c.tc : Thread Cert.StepRefIdeal.nD Cert.StepRefIdeal.τ).loc Cert.StepRefIdeal.main_arg3) = m ((c.tc : Thread Cert.StepRefIdeal.nD Cert.StepRefIdeal.τ).loc Cert.StepRefIdeal.main_arg3)
      ∧ r.2.mem ((c.tc : Thread Cert.StepRefIdeal.nD Cert.StepRefIdeal.τ).loc Cert.StepRefIdeal.main_arg4) = m ((c.tc : Thread Cert.StepRefIdeal.nD Cert.StepRefIdeal.τ).loc Cert.StepRefIdeal.main_arg4)
      ∧ r.2.mem ((c.tc : Thread Cert.StepRefIdeal.nD Cert.StepRefIdeal.τ).loc Cert.StepRefIdeal.main_arg5) = m ((c.tc : Thread Cert.StepRefIdeal.nD Cert.StepRefIdeal.τ).loc Cert.StepRefIdeal.main_arg5))
      ∧ r.2.sem = fun _ => 0)

def quiescent_Mix [hMix : Cert.Mix.Facts] : Prop :=
  ∀ (m : (ℓ : Loc Cert.Mix.nD Cert.Mix.τ Cert.Mix.sig) → Buf (Elt Bits) ℓ) (g : Dev Cert.Mix.nD → PrngReg), Pre_Mix m →
    θ_run (Cert.Mix.defs (F := Bits)) (onTc (τ := Cert.Mix.τ) (Cert.Mix.main (F := Bits))) ⟨m, fun _ => 0, g⟩ (fun r => (∀ c : Dev Cert.Mix.nD,
      r.2.mem ((c.tc : Thread Cert.Mix.nD Cert.Mix.τ).loc Cert.Mix.main_arg0) = m ((c.tc : Thread Cert.Mix.nD Cert.Mix.τ).loc Cert.Mix.main_arg0)
      ∧ r.2.mem ((c.tc : Thread Cert.Mix.nD Cert.Mix.τ).loc Cert.Mix.main_arg1) = m ((c.tc : Thread Cert.Mix.nD Cert.Mix.τ).loc Cert.Mix.main_arg1)
      ∧ r.2.mem ((c.tc : Thread Cert.Mix.nD Cert.Mix.τ).loc Cert.Mix.main_arg2) = m ((c.tc : Thread Cert.Mix.nD Cert.Mix.τ).loc Cert.Mix.main_arg2)
      ∧ r.2.mem ((c.tc : Thread Cert.Mix.nD Cert.Mix.τ).loc Cert.Mix.main_arg3) = m ((c.tc : Thread Cert.Mix.nD Cert.Mix.τ).loc Cert.Mix.main_arg3))
      ∧ r.2.sem = fun _ => 0)

def quiescent_MixIdeal [hMixIdeal : Cert.MixIdeal.Facts] : Prop :=
  ∀ (m : (ℓ : Loc Cert.MixIdeal.nD Cert.MixIdeal.τ Cert.MixIdeal.sig) → Buf (Elt Ideal) ℓ) (g : Dev Cert.MixIdeal.nD → PrngReg), Pre_MixIdeal m →
    θ_run (Cert.MixIdeal.defs (F := Ideal)) (onTc (τ := Cert.MixIdeal.τ) (Cert.MixIdeal.main (F := Ideal))) ⟨m, fun _ => 0, g⟩ (fun r => (∀ c : Dev Cert.MixIdeal.nD,
      r.2.mem ((c.tc : Thread Cert.MixIdeal.nD Cert.MixIdeal.τ).loc Cert.MixIdeal.main_arg0) = m ((c.tc : Thread Cert.MixIdeal.nD Cert.MixIdeal.τ).loc Cert.MixIdeal.main_arg0)
      ∧ r.2.mem ((c.tc : Thread Cert.MixIdeal.nD Cert.MixIdeal.τ).loc Cert.MixIdeal.main_arg1) = m ((c.tc : Thread Cert.MixIdeal.nD Cert.MixIdeal.τ).loc Cert.MixIdeal.main_arg1)
      ∧ r.2.mem ((c.tc : Thread Cert.MixIdeal.nD Cert.MixIdeal.τ).loc Cert.MixIdeal.main_arg2) = m ((c.tc : Thread Cert.MixIdeal.nD Cert.MixIdeal.τ).loc Cert.MixIdeal.main_arg2)
      ∧ r.2.mem ((c.tc : Thread Cert.MixIdeal.nD Cert.MixIdeal.τ).loc Cert.MixIdeal.main_arg3) = m ((c.tc : Thread Cert.MixIdeal.nD Cert.MixIdeal.τ).loc Cert.MixIdeal.main_arg3))
      ∧ r.2.sem = fun _ => 0)

def quiescent_MixRefIdeal [hMixRefIdeal : Cert.MixRefIdeal.Facts] : Prop :=
  ∀ (m : (ℓ : Loc Cert.MixRefIdeal.nD Cert.MixRefIdeal.τ Cert.MixRefIdeal.sig) → Buf (Elt Ideal) ℓ) (g : Dev Cert.MixRefIdeal.nD → PrngReg), Pre_MixRefIdeal m →
    θ_run (Cert.MixRefIdeal.defs (F := Ideal)) (onTc (τ := Cert.MixRefIdeal.τ) (Cert.MixRefIdeal.main (F := Ideal))) ⟨m, fun _ => 0, g⟩ (fun r => (∀ c : Dev Cert.MixRefIdeal.nD,
      r.2.mem ((c.tc : Thread Cert.MixRefIdeal.nD Cert.MixRefIdeal.τ).loc Cert.MixRefIdeal.main_arg0) = m ((c.tc : Thread Cert.MixRefIdeal.nD Cert.MixRefIdeal.τ).loc Cert.MixRefIdeal.main_arg0)
      ∧ r.2.mem ((c.tc : Thread Cert.MixRefIdeal.nD Cert.MixRefIdeal.τ).loc Cert.MixRefIdeal.main_arg1) = m ((c.tc : Thread Cert.MixRefIdeal.nD Cert.MixRefIdeal.τ).loc Cert.MixRefIdeal.main_arg1)
      ∧ r.2.mem ((c.tc : Thread Cert.MixRefIdeal.nD Cert.MixRefIdeal.τ).loc Cert.MixRefIdeal.main_arg2) = m ((c.tc : Thread Cert.MixRefIdeal.nD Cert.MixRefIdeal.τ).loc Cert.MixRefIdeal.main_arg2)
      ∧ r.2.mem ((c.tc : Thread Cert.MixRefIdeal.nD Cert.MixRefIdeal.τ).loc Cert.MixRefIdeal.main_arg3) = m ((c.tc : Thread Cert.MixRefIdeal.nD Cert.MixRefIdeal.τ).loc Cert.MixRefIdeal.main_arg3))
      ∧ r.2.sem = fun _ => 0)

def quiescent_Last [hLast : Cert.Last.Facts] : Prop :=
  ∀ (m : (ℓ : Loc Cert.Last.nD Cert.Last.τ Cert.Last.sig) → Buf (Elt Bits) ℓ) (g : Dev Cert.Last.nD → PrngReg), Pre_Last m →
    θ_run (Cert.Last.defs (F := Bits)) (onTc (τ := Cert.Last.τ) (Cert.Last.main (F := Bits))) ⟨m, fun _ => 0, g⟩ (fun r => (∀ c : Dev Cert.Last.nD,
      r.2.mem ((c.tc : Thread Cert.Last.nD Cert.Last.τ).loc Cert.Last.main_arg0) = m ((c.tc : Thread Cert.Last.nD Cert.Last.τ).loc Cert.Last.main_arg0)
      ∧ r.2.mem ((c.tc : Thread Cert.Last.nD Cert.Last.τ).loc Cert.Last.main_arg1) = m ((c.tc : Thread Cert.Last.nD Cert.Last.τ).loc Cert.Last.main_arg1))
      ∧ r.2.sem = fun _ => 0)

def quiescent_LastIdeal [hLastIdeal : Cert.LastIdeal.Facts] : Prop :=
  ∀ (m : (ℓ : Loc Cert.LastIdeal.nD Cert.LastIdeal.τ Cert.LastIdeal.sig) → Buf (Elt Ideal) ℓ) (g : Dev Cert.LastIdeal.nD → PrngReg), Pre_LastIdeal m →
    θ_run (Cert.LastIdeal.defs (F := Ideal)) (onTc (τ := Cert.LastIdeal.τ) (Cert.LastIdeal.main (F := Ideal))) ⟨m, fun _ => 0, g⟩ (fun r => (∀ c : Dev Cert.LastIdeal.nD,
      r.2.mem ((c.tc : Thread Cert.LastIdeal.nD Cert.LastIdeal.τ).loc Cert.LastIdeal.main_arg0) = m ((c.tc : Thread Cert.LastIdeal.nD Cert.LastIdeal.τ).loc Cert.LastIdeal.main_arg0)
      ∧ r.2.mem ((c.tc : Thread Cert.LastIdeal.nD Cert.LastIdeal.τ).loc Cert.LastIdeal.main_arg1) = m ((c.tc : Thread Cert.LastIdeal.nD Cert.LastIdeal.τ).loc Cert.LastIdeal.main_arg1))
      ∧ r.2.sem = fun _ => 0)

def quiescent_LastRefIdeal [hLastRefIdeal : Cert.LastRefIdeal.Facts] : Prop :=
  ∀ (m : (ℓ : Loc Cert.LastRefIdeal.nD Cert.LastRefIdeal.τ Cert.LastRefIdeal.sig) → Buf (Elt Ideal) ℓ) (g : Dev Cert.LastRefIdeal.nD → PrngReg), Pre_LastRefIdeal m →
    θ_run (Cert.LastRefIdeal.defs (F := Ideal)) (onTc (τ := Cert.LastRefIdeal.τ) (Cert.LastRefIdeal.main (F := Ideal))) ⟨m, fun _ => 0, g⟩ (fun r => (∀ c : Dev Cert.LastRefIdeal.nD,
      r.2.mem ((c.tc : Thread Cert.LastRefIdeal.nD Cert.LastRefIdeal.τ).loc Cert.LastRefIdeal.main_arg0) = m ((c.tc : Thread Cert.LastRefIdeal.nD Cert.LastRefIdeal.τ).loc Cert.LastRefIdeal.main_arg0)
      ∧ r.2.mem ((c.tc : Thread Cert.LastRefIdeal.nD Cert.LastRefIdeal.τ).loc Cert.LastRefIdeal.main_arg1) = m ((c.tc : Thread Cert.LastRefIdeal.nD Cert.LastRefIdeal.τ).loc Cert.LastRefIdeal.main_arg1))
      ∧ r.2.sem = fun _ => 0)

def quiescent_Blend [hBlend : Cert.Blend.Facts] : Prop :=
  ∀ (m : (ℓ : Loc Cert.Blend.nD Cert.Blend.τ Cert.Blend.sig) → Buf (Elt Bits) ℓ) (g : Dev Cert.Blend.nD → PrngReg), Pre_Blend m →
    θ_run (Cert.Blend.defs (F := Bits)) (onTc (τ := Cert.Blend.τ) (Cert.Blend.main (F := Bits))) ⟨m, fun _ => 0, g⟩ (fun r => (∀ c : Dev Cert.Blend.nD,
      r.2.mem ((c.tc : Thread Cert.Blend.nD Cert.Blend.τ).loc Cert.Blend.main_arg0) = m ((c.tc : Thread Cert.Blend.nD Cert.Blend.τ).loc Cert.Blend.main_arg0)
      ∧ r.2.mem ((c.tc : Thread Cert.Blend.nD Cert.Blend.τ).loc Cert.Blend.main_arg1) = m ((c.tc : Thread Cert.Blend.nD Cert.Blend.τ).loc Cert.Blend.main_arg1))
      ∧ r.2.sem = fun _ => 0)

def quiescent_BlendIdeal [hBlendIdeal : Cert.BlendIdeal.Facts] : Prop :=
  ∀ (m : (ℓ : Loc Cert.BlendIdeal.nD Cert.BlendIdeal.τ Cert.BlendIdeal.sig) → Buf (Elt Ideal) ℓ) (g : Dev Cert.BlendIdeal.nD → PrngReg), Pre_BlendIdeal m →
    θ_run (Cert.BlendIdeal.defs (F := Ideal)) (onTc (τ := Cert.BlendIdeal.τ) (Cert.BlendIdeal.main (F := Ideal))) ⟨m, fun _ => 0, g⟩ (fun r => (∀ c : Dev Cert.BlendIdeal.nD,
      r.2.mem ((c.tc : Thread Cert.BlendIdeal.nD Cert.BlendIdeal.τ).loc Cert.BlendIdeal.main_arg0) = m ((c.tc : Thread Cert.BlendIdeal.nD Cert.BlendIdeal.τ).loc Cert.BlendIdeal.main_arg0)
      ∧ r.2.mem ((c.tc : Thread Cert.BlendIdeal.nD Cert.BlendIdeal.τ).loc Cert.BlendIdeal.main_arg1) = m ((c.tc : Thread Cert.BlendIdeal.nD Cert.BlendIdeal.τ).loc Cert.BlendIdeal.main_arg1))
      ∧ r.2.sem = fun _ => 0)

def quiescent_BlendRefIdeal [hBlendRefIdeal : Cert.BlendRefIdeal.Facts] : Prop :=
  ∀ (m : (ℓ : Loc Cert.BlendRefIdeal.nD Cert.BlendRefIdeal.τ Cert.BlendRefIdeal.sig) → Buf (Elt Ideal) ℓ) (g : Dev Cert.BlendRefIdeal.nD → PrngReg), Pre_BlendRefIdeal m →
    θ_run (Cert.BlendRefIdeal.defs (F := Ideal)) (onTc (τ := Cert.BlendRefIdeal.τ) (Cert.BlendRefIdeal.main (F := Ideal))) ⟨m, fun _ => 0, g⟩ (fun r => (∀ c : Dev Cert.BlendRefIdeal.nD,
      r.2.mem ((c.tc : Thread Cert.BlendRefIdeal.nD Cert.BlendRefIdeal.τ).loc Cert.BlendRefIdeal.main_arg0) = m ((c.tc : Thread Cert.BlendRefIdeal.nD Cert.BlendRefIdeal.τ).loc Cert.BlendRefIdeal.main_arg0)
      ∧ r.2.mem ((c.tc : Thread Cert.BlendRefIdeal.nD Cert.BlendRefIdeal.τ).loc Cert.BlendRefIdeal.main_arg1) = m ((c.tc : Thread Cert.BlendRefIdeal.nD Cert.BlendRefIdeal.τ).loc Cert.BlendRefIdeal.main_arg1))
      ∧ r.2.sem = fun _ => 0)

def preserves_Attn_AttnIdeal : Prop :=
  IdealRules.named_const.Statement Cert.AttnIdeal.κ "masked" .f32 0xF149F2CA#32 ⊥

def algebraic_AttnIdeal_AttnRefIdeal_on_query_rows_pre_step_inputs [hAttnIdeal : Cert.AttnIdeal.Facts] [hAttnRefIdeal : Cert.AttnRefIdeal.Facts] [hPre_step_inputs : Cert.Pre_step_inputs.Facts] [hOn_query_rows : Cert.On_query_rows.Facts] : Prop :=
  ∀ (m : (ℓ : Loc Cert.AttnIdeal.nD Cert.AttnIdeal.τ Cert.AttnIdeal.sig) → Buf (Elt Ideal) ℓ) (g : Dev Cert.AttnIdeal.nD → PrngReg)
    (m' : (ℓ : Loc Cert.AttnRefIdeal.nD Cert.AttnRefIdeal.τ Cert.AttnRefIdeal.sig) → Buf (Elt Ideal) ℓ) (g' : Dev Cert.AttnRefIdeal.nD → PrngReg), Pre_AttnIdeal_step_inputs m →
    (∀ c : Dev Cert.AttnIdeal.nD,
      m' ((c.tc : Thread Cert.AttnRefIdeal.nD Cert.AttnRefIdeal.τ).loc Cert.AttnRefIdeal.main_arg0) = m ((c.tc : Thread Cert.AttnIdeal.nD Cert.AttnIdeal.τ).loc Cert.AttnIdeal.main_arg0)
      ∧ m' ((c.tc : Thread Cert.AttnRefIdeal.nD Cert.AttnRefIdeal.τ).loc Cert.AttnRefIdeal.main_arg1) = m ((c.tc : Thread Cert.AttnIdeal.nD Cert.AttnIdeal.τ).loc Cert.AttnIdeal.main_arg1)
      ∧ m' ((c.tc : Thread Cert.AttnRefIdeal.nD Cert.AttnRefIdeal.τ).loc Cert.AttnRefIdeal.main_arg2) = m ((c.tc : Thread Cert.AttnIdeal.nD Cert.AttnIdeal.τ).loc Cert.AttnIdeal.main_arg2)
      ∧ m' ((c.tc : Thread Cert.AttnRefIdeal.nD Cert.AttnRefIdeal.τ).loc Cert.AttnRefIdeal.main_arg3) = m ((c.tc : Thread Cert.AttnIdeal.nD Cert.AttnIdeal.τ).loc Cert.AttnIdeal.main_arg3)
      ∧ m' ((c.tc : Thread Cert.AttnRefIdeal.nD Cert.AttnRefIdeal.τ).loc Cert.AttnRefIdeal.main_arg4) = m ((c.tc : Thread Cert.AttnIdeal.nD Cert.AttnIdeal.τ).loc Cert.AttnIdeal.main_arg4)
      ∧ m' ((c.tc : Thread Cert.AttnRefIdeal.nD Cert.AttnRefIdeal.τ).loc Cert.AttnRefIdeal.main_arg5) = m ((c.tc : Thread Cert.AttnIdeal.nD Cert.AttnIdeal.τ).loc Cert.AttnIdeal.main_arg5)
      ∧ m' ((c.tc : Thread Cert.AttnRefIdeal.nD Cert.AttnRefIdeal.τ).loc Cert.AttnRefIdeal.main_arg6) = m ((c.tc : Thread Cert.AttnIdeal.nD Cert.AttnIdeal.τ).loc Cert.AttnIdeal.main_arg6)
      ∧ m' ((c.tc : Thread Cert.AttnRefIdeal.nD Cert.AttnRefIdeal.τ).loc Cert.AttnRefIdeal.main_arg7) = m ((c.tc : Thread Cert.AttnIdeal.nD Cert.AttnIdeal.τ).loc Cert.AttnIdeal.main_arg7)) →
    ∃ (v0 : (c : Dev Cert.AttnIdeal.nD) → Buf (Elt Ideal) ((c.tc : Thread Cert.AttnIdeal.nD Cert.AttnIdeal.τ).loc Cert.AttnIdeal.main_v9_0)) (v1 : (c : Dev Cert.AttnIdeal.nD) → Buf (Elt Ideal) ((c.tc : Thread Cert.AttnIdeal.nD Cert.AttnIdeal.τ).loc Cert.AttnIdeal.main_v9_1)),
      θ_run (Cert.AttnIdeal.defs (F := Ideal)) (onTc (τ := Cert.AttnIdeal.τ) (Cert.AttnIdeal.main (F := Ideal))) ⟨m, fun _ => 0, g⟩ (fun r => ∀ c : Dev Cert.AttnIdeal.nD,
          (∀ i : (⟨4, ![128, 2, 16, 128]⟩ : Shape).Idx, (Cert.On_query_rows.fn (F := Ideal) (m ((c.tc : Thread Cert.AttnIdeal.nD Cert.AttnIdeal.τ).loc Cert.AttnIdeal.main_arg0)) (m ((c.tc : Thread Cert.AttnIdeal.nD Cert.AttnIdeal.τ).loc Cert.AttnIdeal.main_arg1)) (m ((c.tc : Thread Cert.AttnIdeal.nD Cert.AttnIdeal.τ).loc Cert.AttnIdeal.main_arg2)) (m ((c.tc : Thread Cert.AttnIdeal.nD Cert.AttnIdeal.τ).loc Cert.AttnIdeal.main_arg3)) (m ((c.tc : Thread Cert.AttnIdeal.nD Cert.AttnIdeal.τ).loc Cert.AttnIdeal.main_arg4)) (m ((c.tc : Thread Cert.AttnIdeal.nD Cert.AttnIdeal.τ).loc Cert.AttnIdeal.main_arg5)) (m ((c.tc : Thread Cert.AttnIdeal.nD Cert.AttnIdeal.τ).loc Cert.AttnIdeal.main_arg6)) (m ((c.tc : Thread Cert.AttnIdeal.nD Cert.AttnIdeal.τ).loc Cert.AttnIdeal.main_arg7))).1 i = 1#1 → r.2.mem ((c.tc : Thread Cert.AttnIdeal.nD Cert.AttnIdeal.τ).loc Cert.AttnIdeal.main_v9_0) i = v0 c i)
          ∧ (∀ i : (⟨3, ![128, 2048, 128]⟩ : Shape).Idx, (Cert.On_query_rows.fn (F := Ideal) (m ((c.tc : Thread Cert.AttnIdeal.nD Cert.AttnIdeal.τ).loc Cert.AttnIdeal.main_arg0)) (m ((c.tc : Thread Cert.AttnIdeal.nD Cert.AttnIdeal.τ).loc Cert.AttnIdeal.main_arg1)) (m ((c.tc : Thread Cert.AttnIdeal.nD Cert.AttnIdeal.τ).loc Cert.AttnIdeal.main_arg2)) (m ((c.tc : Thread Cert.AttnIdeal.nD Cert.AttnIdeal.τ).loc Cert.AttnIdeal.main_arg3)) (m ((c.tc : Thread Cert.AttnIdeal.nD Cert.AttnIdeal.τ).loc Cert.AttnIdeal.main_arg4)) (m ((c.tc : Thread Cert.AttnIdeal.nD Cert.AttnIdeal.τ).loc Cert.AttnIdeal.main_arg5)) (m ((c.tc : Thread Cert.AttnIdeal.nD Cert.AttnIdeal.τ).loc Cert.AttnIdeal.main_arg6)) (m ((c.tc : Thread Cert.AttnIdeal.nD Cert.AttnIdeal.τ).loc Cert.AttnIdeal.main_arg7))).2 i = 1#1 → r.2.mem ((c.tc : Thread Cert.AttnIdeal.nD Cert.AttnIdeal.τ).loc Cert.AttnIdeal.main_v9_1) i = v1 c i)
          ∧ r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
          ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
          ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2)
          ∧ r.2.mem ((c.tc : Thread Cert.AttnIdeal.nD Cert.AttnIdeal.τ).loc Cert.AttnIdeal.main_arg3) = m ((c.tc : Thread Cert.AttnIdeal.nD Cert.AttnIdeal.τ).loc Cert.AttnIdeal.main_arg3)
          ∧ r.2.mem ((c.tc : Thread Cert.AttnIdeal.nD Cert.AttnIdeal.τ).loc Cert.AttnIdeal.main_arg4) = m ((c.tc : Thread Cert.AttnIdeal.nD Cert.AttnIdeal.τ).loc Cert.AttnIdeal.main_arg4)
          ∧ r.2.mem ((c.tc : Thread Cert.AttnIdeal.nD Cert.AttnIdeal.τ).loc Cert.AttnIdeal.main_arg5) = m ((c.tc : Thread Cert.AttnIdeal.nD Cert.AttnIdeal.τ).loc Cert.AttnIdeal.main_arg5)
          ∧ r.2.mem ((c.tc : Thread Cert.AttnIdeal.nD Cert.AttnIdeal.τ).loc Cert.AttnIdeal.main_arg6) = m ((c.tc : Thread Cert.AttnIdeal.nD Cert.AttnIdeal.τ).loc Cert.AttnIdeal.main_arg6)
          ∧ r.2.mem ((c.tc : Thread Cert.AttnIdeal.nD Cert.AttnIdeal.τ).loc Cert.AttnIdeal.main_arg7) = m ((c.tc : Thread Cert.AttnIdeal.nD Cert.AttnIdeal.τ).loc Cert.AttnIdeal.main_arg7))
      ∧ θ_run (Cert.AttnRefIdeal.defs (F := Ideal)) (onTc (τ := Cert.AttnRefIdeal.τ) (Cert.AttnRefIdeal.main (F := Ideal))) ⟨m', fun _ => 0, g'⟩ (fun r => ∀ c : Dev Cert.AttnRefIdeal.nD,
          (∀ i : (⟨4, ![128, 2, 16, 128]⟩ : Shape).Idx, (Cert.On_query_rows.fn (F := Ideal) (m ((c.tc : Thread Cert.AttnIdeal.nD Cert.AttnIdeal.τ).loc Cert.AttnIdeal.main_arg0)) (m ((c.tc : Thread Cert.AttnIdeal.nD Cert.AttnIdeal.τ).loc Cert.AttnIdeal.main_arg1)) (m ((c.tc : Thread Cert.AttnIdeal.nD Cert.AttnIdeal.τ).loc Cert.AttnIdeal.main_arg2)) (m ((c.tc : Thread Cert.AttnIdeal.nD Cert.AttnIdeal.τ).loc Cert.AttnIdeal.main_arg3)) (m ((c.tc : Thread Cert.AttnIdeal.nD Cert.AttnIdeal.τ).loc Cert.AttnIdeal.main_arg4)) (m ((c.tc : Thread Cert.AttnIdeal.nD Cert.AttnIdeal.τ).loc Cert.AttnIdeal.main_arg5)) (m ((c.tc : Thread Cert.AttnIdeal.nD Cert.AttnIdeal.τ).loc Cert.AttnIdeal.main_arg6)) (m ((c.tc : Thread Cert.AttnIdeal.nD Cert.AttnIdeal.τ).loc Cert.AttnIdeal.main_arg7))).1 i = 1#1 → r.2.mem ((c.tc : Thread Cert.AttnRefIdeal.nD Cert.AttnRefIdeal.τ).loc Cert.AttnRefIdeal.main_v92) i = v0 c i)
          ∧ (∀ i : (⟨3, ![128, 2048, 128]⟩ : Shape).Idx, (Cert.On_query_rows.fn (F := Ideal) (m ((c.tc : Thread Cert.AttnIdeal.nD Cert.AttnIdeal.τ).loc Cert.AttnIdeal.main_arg0)) (m ((c.tc : Thread Cert.AttnIdeal.nD Cert.AttnIdeal.τ).loc Cert.AttnIdeal.main_arg1)) (m ((c.tc : Thread Cert.AttnIdeal.nD Cert.AttnIdeal.τ).loc Cert.AttnIdeal.main_arg2)) (m ((c.tc : Thread Cert.AttnIdeal.nD Cert.AttnIdeal.τ).loc Cert.AttnIdeal.main_arg3)) (m ((c.tc : Thread Cert.AttnIdeal.nD Cert.AttnIdeal.τ).loc Cert.AttnIdeal.main_arg4)) (m ((c.tc : Thread Cert.AttnIdeal.nD Cert.AttnIdeal.τ).loc Cert.AttnIdeal.main_arg5)) (m ((c.tc : Thread Cert.AttnIdeal.nD Cert.AttnIdeal.τ).loc Cert.AttnIdeal.main_arg6)) (m ((c.tc : Thread Cert.AttnIdeal.nD Cert.AttnIdeal.τ).loc Cert.AttnIdeal.main_arg7))).2 i = 1#1 → r.2.mem ((c.tc : Thread Cert.AttnRefIdeal.nD Cert.AttnRefIdeal.τ).loc Cert.AttnRefIdeal.main_v94) i = v1 c i)
          ∧ r.2.mem ((c.tc : Thread Cert.AttnRefIdeal.nD Cert.AttnRefIdeal.τ).loc Cert.AttnRefIdeal.main_arg0) = m' ((c.tc : Thread Cert.AttnRefIdeal.nD Cert.AttnRefIdeal.τ).loc Cert.AttnRefIdeal.main_arg0)
          ∧ r.2.mem ((c.tc : Thread Cert.AttnRefIdeal.nD Cert.AttnRefIdeal.τ).loc Cert.AttnRefIdeal.main_arg1) = m' ((c.tc : Thread Cert.AttnRefIdeal.nD Cert.AttnRefIdeal.τ).loc Cert.AttnRefIdeal.main_arg1)
          ∧ r.2.mem ((c.tc : Thread Cert.AttnRefIdeal.nD Cert.AttnRefIdeal.τ).loc Cert.AttnRefIdeal.main_arg2) = m' ((c.tc : Thread Cert.AttnRefIdeal.nD Cert.AttnRefIdeal.τ).loc Cert.AttnRefIdeal.main_arg2)
          ∧ r.2.mem ((c.tc : Thread Cert.AttnRefIdeal.nD Cert.AttnRefIdeal.τ).loc Cert.AttnRefIdeal.main_arg3) = m' ((c.tc : Thread Cert.AttnRefIdeal.nD Cert.AttnRefIdeal.τ).loc Cert.AttnRefIdeal.main_arg3)
          ∧ r.2.mem ((c.tc : Thread Cert.AttnRefIdeal.nD Cert.AttnRefIdeal.τ).loc Cert.AttnRefIdeal.main_arg4) = m' ((c.tc : Thread Cert.AttnRefIdeal.nD Cert.AttnRefIdeal.τ).loc Cert.AttnRefIdeal.main_arg4)
          ∧ r.2.mem ((c.tc : Thread Cert.AttnRefIdeal.nD Cert.AttnRefIdeal.τ).loc Cert.AttnRefIdeal.main_arg5) = m' ((c.tc : Thread Cert.AttnRefIdeal.nD Cert.AttnRefIdeal.τ).loc Cert.AttnRefIdeal.main_arg5)
          ∧ r.2.mem ((c.tc : Thread Cert.AttnRefIdeal.nD Cert.AttnRefIdeal.τ).loc Cert.AttnRefIdeal.main_arg6) = m' ((c.tc : Thread Cert.AttnRefIdeal.nD Cert.AttnRefIdeal.τ).loc Cert.AttnRefIdeal.main_arg6)
          ∧ r.2.mem ((c.tc : Thread Cert.AttnRefIdeal.nD Cert.AttnRefIdeal.τ).loc Cert.AttnRefIdeal.main_arg7) = m' ((c.tc : Thread Cert.AttnRefIdeal.nD Cert.AttnRefIdeal.τ).loc Cert.AttnRefIdeal.main_arg7))

def preserves_Down_DownIdeal : Prop :=
  True

def algebraic_DownIdeal_DownRefIdeal [hDownIdeal : Cert.DownIdeal.Facts] [hDownRefIdeal : Cert.DownRefIdeal.Facts] : Prop :=
  ∀ (m : (ℓ : Loc Cert.DownIdeal.nD Cert.DownIdeal.τ Cert.DownIdeal.sig) → Buf (Elt Ideal) ℓ) (g : Dev Cert.DownIdeal.nD → PrngReg)
    (m' : (ℓ : Loc Cert.DownRefIdeal.nD Cert.DownRefIdeal.τ Cert.DownRefIdeal.sig) → Buf (Elt Ideal) ℓ) (g' : Dev Cert.DownRefIdeal.nD → PrngReg), Pre_DownIdeal m →
    (∀ c : Dev Cert.DownIdeal.nD,
      m' ((c.tc : Thread Cert.DownRefIdeal.nD Cert.DownRefIdeal.τ).loc Cert.DownRefIdeal.main_arg0) = m ((c.tc : Thread Cert.DownIdeal.nD Cert.DownIdeal.τ).loc Cert.DownIdeal.main_arg0)
      ∧ m' ((c.tc : Thread Cert.DownRefIdeal.nD Cert.DownRefIdeal.τ).loc Cert.DownRefIdeal.main_arg1) = m ((c.tc : Thread Cert.DownIdeal.nD Cert.DownIdeal.τ).loc Cert.DownIdeal.main_arg1)
      ∧ m' ((c.tc : Thread Cert.DownRefIdeal.nD Cert.DownRefIdeal.τ).loc Cert.DownRefIdeal.main_arg2) = m ((c.tc : Thread Cert.DownIdeal.nD Cert.DownIdeal.τ).loc Cert.DownIdeal.main_arg2)) →
    ∃ (v0 : (c : Dev Cert.DownIdeal.nD) → Buf (Elt Ideal) ((c.tc : Thread Cert.DownIdeal.nD Cert.DownIdeal.τ).loc Cert.DownIdeal.main_v0)),
      θ_run (Cert.DownIdeal.defs (F := Ideal)) (onTc (τ := Cert.DownIdeal.τ) (Cert.DownIdeal.main (F := Ideal))) ⟨m, fun _ => 0, g⟩ (fun r => ∀ c : Dev Cert.DownIdeal.nD,
          r.2.mem ((c.tc : Thread Cert.DownIdeal.nD Cert.DownIdeal.τ).loc Cert.DownIdeal.main_v0) = v0 c
          ∧ r.2.mem ((c.tc : Thread Cert.DownIdeal.nD Cert.DownIdeal.τ).loc Cert.DownIdeal.main_arg0) = m ((c.tc : Thread Cert.DownIdeal.nD Cert.DownIdeal.τ).loc Cert.DownIdeal.main_arg0)
          ∧ r.2.mem ((c.tc : Thread Cert.DownIdeal.nD Cert.DownIdeal.τ).loc Cert.DownIdeal.main_arg1) = m ((c.tc : Thread Cert.DownIdeal.nD Cert.DownIdeal.τ).loc Cert.DownIdeal.main_arg1)
          ∧ r.2.mem ((c.tc : Thread Cert.DownIdeal.nD Cert.DownIdeal.τ).loc Cert.DownIdeal.main_arg2) = m ((c.tc : Thread Cert.DownIdeal.nD Cert.DownIdeal.τ).loc Cert.DownIdeal.main_arg2))
      ∧ θ_run (Cert.DownRefIdeal.defs (F := Ideal)) (onTc (τ := Cert.DownRefIdeal.τ) (Cert.DownRefIdeal.main (F := Ideal))) ⟨m', fun _ => 0, g'⟩ (fun r => ∀ c : Dev Cert.DownRefIdeal.nD,
          r.2.mem ((c.tc : Thread Cert.DownRefIdeal.nD Cert.DownRefIdeal.τ).loc Cert.DownRefIdeal.main_v2) = v0 c
          ∧ r.2.mem ((c.tc : Thread Cert.DownRefIdeal.nD Cert.DownRefIdeal.τ).loc Cert.DownRefIdeal.main_arg0) = m' ((c.tc : Thread Cert.DownRefIdeal.nD Cert.DownRefIdeal.τ).loc Cert.DownRefIdeal.main_arg0)
          ∧ r.2.mem ((c.tc : Thread Cert.DownRefIdeal.nD Cert.DownRefIdeal.τ).loc Cert.DownRefIdeal.main_arg1) = m' ((c.tc : Thread Cert.DownRefIdeal.nD Cert.DownRefIdeal.τ).loc Cert.DownRefIdeal.main_arg1)
          ∧ r.2.mem ((c.tc : Thread Cert.DownRefIdeal.nD Cert.DownRefIdeal.τ).loc Cert.DownRefIdeal.main_arg2) = m' ((c.tc : Thread Cert.DownRefIdeal.nD Cert.DownRefIdeal.τ).loc Cert.DownRefIdeal.main_arg2))

def preserves_Hidden_HiddenIdeal : Prop :=
  True

def algebraic_HiddenIdeal_HiddenRefIdeal [hHiddenIdeal : Cert.HiddenIdeal.Facts] [hHiddenRefIdeal : Cert.HiddenRefIdeal.Facts] : Prop :=
  ∀ (m : (ℓ : Loc Cert.HiddenIdeal.nD Cert.HiddenIdeal.τ Cert.HiddenIdeal.sig) → Buf (Elt Ideal) ℓ) (g : Dev Cert.HiddenIdeal.nD → PrngReg)
    (m' : (ℓ : Loc Cert.HiddenRefIdeal.nD Cert.HiddenRefIdeal.τ Cert.HiddenRefIdeal.sig) → Buf (Elt Ideal) ℓ) (g' : Dev Cert.HiddenRefIdeal.nD → PrngReg), Pre_HiddenIdeal m →
    (∀ c : Dev Cert.HiddenIdeal.nD,
      m' ((c.tc : Thread Cert.HiddenRefIdeal.nD Cert.HiddenRefIdeal.τ).loc Cert.HiddenRefIdeal.main_arg0) = m ((c.tc : Thread Cert.HiddenIdeal.nD Cert.HiddenIdeal.τ).loc Cert.HiddenIdeal.main_arg0)
      ∧ m' ((c.tc : Thread Cert.HiddenRefIdeal.nD Cert.HiddenRefIdeal.τ).loc Cert.HiddenRefIdeal.main_arg1) = m ((c.tc : Thread Cert.HiddenIdeal.nD Cert.HiddenIdeal.τ).loc Cert.HiddenIdeal.main_arg1)
      ∧ m' ((c.tc : Thread Cert.HiddenRefIdeal.nD Cert.HiddenRefIdeal.τ).loc Cert.HiddenRefIdeal.main_arg2) = m ((c.tc : Thread Cert.HiddenIdeal.nD Cert.HiddenIdeal.τ).loc Cert.HiddenIdeal.main_arg2)
      ∧ m' ((c.tc : Thread Cert.HiddenRefIdeal.nD Cert.HiddenRefIdeal.τ).loc Cert.HiddenRefIdeal.main_arg3) = m ((c.tc : Thread Cert.HiddenIdeal.nD Cert.HiddenIdeal.τ).loc Cert.HiddenIdeal.main_arg3)
      ∧ m' ((c.tc : Thread Cert.HiddenRefIdeal.nD Cert.HiddenRefIdeal.τ).loc Cert.HiddenRefIdeal.main_arg4) = m ((c.tc : Thread Cert.HiddenIdeal.nD Cert.HiddenIdeal.τ).loc Cert.HiddenIdeal.main_arg4)
      ∧ m' ((c.tc : Thread Cert.HiddenRefIdeal.nD Cert.HiddenRefIdeal.τ).loc Cert.HiddenRefIdeal.main_arg5) = m ((c.tc : Thread Cert.HiddenIdeal.nD Cert.HiddenIdeal.τ).loc Cert.HiddenIdeal.main_arg5)) →
    ∃ (v0 : (c : Dev Cert.HiddenIdeal.nD) → Buf (Elt Ideal) ((c.tc : Thread Cert.HiddenIdeal.nD Cert.HiddenIdeal.τ).loc Cert.HiddenIdeal.main_v5_0)) (v1 : (c : Dev Cert.HiddenIdeal.nD) → Buf (Elt Ideal) ((c.tc : Thread Cert.HiddenIdeal.nD Cert.HiddenIdeal.τ).loc Cert.HiddenIdeal.main_v5_1)),
      θ_run (Cert.HiddenIdeal.defs (F := Ideal)) (onTc (τ := Cert.HiddenIdeal.τ) (Cert.HiddenIdeal.main (F := Ideal))) ⟨m, fun _ => 0, g⟩ (fun r => ∀ c : Dev Cert.HiddenIdeal.nD,
          r.2.mem ((c.tc : Thread Cert.HiddenIdeal.nD Cert.HiddenIdeal.τ).loc Cert.HiddenIdeal.main_v5_0) = v0 c
          ∧ r.2.mem ((c.tc : Thread Cert.HiddenIdeal.nD Cert.HiddenIdeal.τ).loc Cert.HiddenIdeal.main_v5_1) = v1 c
          ∧ r.2.mem ((c.tc : Thread Cert.HiddenIdeal.nD Cert.HiddenIdeal.τ).loc Cert.HiddenIdeal.main_arg0) = m ((c.tc : Thread Cert.HiddenIdeal.nD Cert.HiddenIdeal.τ).loc Cert.HiddenIdeal.main_arg0)
          ∧ r.2.mem ((c.tc : Thread Cert.HiddenIdeal.nD Cert.HiddenIdeal.τ).loc Cert.HiddenIdeal.main_arg1) = m ((c.tc : Thread Cert.HiddenIdeal.nD Cert.HiddenIdeal.τ).loc Cert.HiddenIdeal.main_arg1)
          ∧ r.2.mem ((c.tc : Thread Cert.HiddenIdeal.nD Cert.HiddenIdeal.τ).loc Cert.HiddenIdeal.main_arg2) = m ((c.tc : Thread Cert.HiddenIdeal.nD Cert.HiddenIdeal.τ).loc Cert.HiddenIdeal.main_arg2)
          ∧ r.2.mem ((c.tc : Thread Cert.HiddenIdeal.nD Cert.HiddenIdeal.τ).loc Cert.HiddenIdeal.main_arg3) = m ((c.tc : Thread Cert.HiddenIdeal.nD Cert.HiddenIdeal.τ).loc Cert.HiddenIdeal.main_arg3)
          ∧ r.2.mem ((c.tc : Thread Cert.HiddenIdeal.nD Cert.HiddenIdeal.τ).loc Cert.HiddenIdeal.main_arg4) = m ((c.tc : Thread Cert.HiddenIdeal.nD Cert.HiddenIdeal.τ).loc Cert.HiddenIdeal.main_arg4)
          ∧ r.2.mem ((c.tc : Thread Cert.HiddenIdeal.nD Cert.HiddenIdeal.τ).loc Cert.HiddenIdeal.main_arg5) = m ((c.tc : Thread Cert.HiddenIdeal.nD Cert.HiddenIdeal.τ).loc Cert.HiddenIdeal.main_arg5))
      ∧ θ_run (Cert.HiddenRefIdeal.defs (F := Ideal)) (onTc (τ := Cert.HiddenRefIdeal.τ) (Cert.HiddenRefIdeal.main (F := Ideal))) ⟨m', fun _ => 0, g'⟩ (fun r => ∀ c : Dev Cert.HiddenRefIdeal.nD,
          r.2.mem ((c.tc : Thread Cert.HiddenRefIdeal.nD Cert.HiddenRefIdeal.τ).loc Cert.HiddenRefIdeal.main_v29) = v0 c
          ∧ r.2.mem ((c.tc : Thread Cert.HiddenRefIdeal.nD Cert.HiddenRefIdeal.τ).loc Cert.HiddenRefIdeal.main_v30) = v1 c
          ∧ r.2.mem ((c.tc : Thread Cert.HiddenRefIdeal.nD Cert.HiddenRefIdeal.τ).loc Cert.HiddenRefIdeal.main_arg0) = m' ((c.tc : Thread Cert.HiddenRefIdeal.nD Cert.HiddenRefIdeal.τ).loc Cert.HiddenRefIdeal.main_arg0)
          ∧ r.2.mem ((c.tc : Thread Cert.HiddenRefIdeal.nD Cert.HiddenRefIdeal.τ).loc Cert.HiddenRefIdeal.main_arg1) = m' ((c.tc : Thread Cert.HiddenRefIdeal.nD Cert.HiddenRefIdeal.τ).loc Cert.HiddenRefIdeal.main_arg1)
          ∧ r.2.mem ((c.tc : Thread Cert.HiddenRefIdeal.nD Cert.HiddenRefIdeal.τ).loc Cert.HiddenRefIdeal.main_arg2) = m' ((c.tc : Thread Cert.HiddenRefIdeal.nD Cert.HiddenRefIdeal.τ).loc Cert.HiddenRefIdeal.main_arg2)
          ∧ r.2.mem ((c.tc : Thread Cert.HiddenRefIdeal.nD Cert.HiddenRefIdeal.τ).loc Cert.HiddenRefIdeal.main_arg3) = m' ((c.tc : Thread Cert.HiddenRefIdeal.nD Cert.HiddenRefIdeal.τ).loc Cert.HiddenRefIdeal.main_arg3)
          ∧ r.2.mem ((c.tc : Thread Cert.HiddenRefIdeal.nD Cert.HiddenRefIdeal.τ).loc Cert.HiddenRefIdeal.main_arg4) = m' ((c.tc : Thread Cert.HiddenRefIdeal.nD Cert.HiddenRefIdeal.τ).loc Cert.HiddenRefIdeal.main_arg4)
          ∧ r.2.mem ((c.tc : Thread Cert.HiddenRefIdeal.nD Cert.HiddenRefIdeal.τ).loc Cert.HiddenRefIdeal.main_arg5) = m' ((c.tc : Thread Cert.HiddenRefIdeal.nD Cert.HiddenRefIdeal.τ).loc Cert.HiddenRefIdeal.main_arg5))

def preserves_Glu_GluIdeal : Prop :=
  True

def algebraic_GluIdeal_GluRefIdeal [hGluIdeal : Cert.GluIdeal.Facts] [hGluRefIdeal : Cert.GluRefIdeal.Facts] : Prop :=
  ∀ (m : (ℓ : Loc Cert.GluIdeal.nD Cert.GluIdeal.τ Cert.GluIdeal.sig) → Buf (Elt Ideal) ℓ) (g : Dev Cert.GluIdeal.nD → PrngReg)
    (m' : (ℓ : Loc Cert.GluRefIdeal.nD Cert.GluRefIdeal.τ Cert.GluRefIdeal.sig) → Buf (Elt Ideal) ℓ) (g' : Dev Cert.GluRefIdeal.nD → PrngReg), Pre_GluIdeal m →
    (∀ c : Dev Cert.GluIdeal.nD,
      m' ((c.tc : Thread Cert.GluRefIdeal.nD Cert.GluRefIdeal.τ).loc Cert.GluRefIdeal.main_arg0) = m ((c.tc : Thread Cert.GluIdeal.nD Cert.GluIdeal.τ).loc Cert.GluIdeal.main_arg0)
      ∧ m' ((c.tc : Thread Cert.GluRefIdeal.nD Cert.GluRefIdeal.τ).loc Cert.GluRefIdeal.main_arg1) = m ((c.tc : Thread Cert.GluIdeal.nD Cert.GluIdeal.τ).loc Cert.GluIdeal.main_arg1)) →
    ∃ (v0 : (c : Dev Cert.GluIdeal.nD) → Buf (Elt Ideal) ((c.tc : Thread Cert.GluIdeal.nD Cert.GluIdeal.τ).loc Cert.GluIdeal.main_v0)),
      θ_run (Cert.GluIdeal.defs (F := Ideal)) (onTc (τ := Cert.GluIdeal.τ) (Cert.GluIdeal.main (F := Ideal))) ⟨m, fun _ => 0, g⟩ (fun r => ∀ c : Dev Cert.GluIdeal.nD,
          r.2.mem ((c.tc : Thread Cert.GluIdeal.nD Cert.GluIdeal.τ).loc Cert.GluIdeal.main_v0) = v0 c
          ∧ r.2.mem ((c.tc : Thread Cert.GluIdeal.nD Cert.GluIdeal.τ).loc Cert.GluIdeal.main_arg0) = m ((c.tc : Thread Cert.GluIdeal.nD Cert.GluIdeal.τ).loc Cert.GluIdeal.main_arg0)
          ∧ r.2.mem ((c.tc : Thread Cert.GluIdeal.nD Cert.GluIdeal.τ).loc Cert.GluIdeal.main_arg1) = m ((c.tc : Thread Cert.GluIdeal.nD Cert.GluIdeal.τ).loc Cert.GluIdeal.main_arg1))
      ∧ θ_run (Cert.GluRefIdeal.defs (F := Ideal)) (onTc (τ := Cert.GluRefIdeal.τ) (Cert.GluRefIdeal.main (F := Ideal))) ⟨m', fun _ => 0, g'⟩ (fun r => ∀ c : Dev Cert.GluRefIdeal.nD,
          r.2.mem ((c.tc : Thread Cert.GluRefIdeal.nD Cert.GluRefIdeal.τ).loc Cert.GluRefIdeal.main_v11) = v0 c
          ∧ r.2.mem ((c.tc : Thread Cert.GluRefIdeal.nD Cert.GluRefIdeal.τ).loc Cert.GluRefIdeal.main_arg0) = m' ((c.tc : Thread Cert.GluRefIdeal.nD Cert.GluRefIdeal.τ).loc Cert.GluRefIdeal.main_arg0)
          ∧ r.2.mem ((c.tc : Thread Cert.GluRefIdeal.nD Cert.GluRefIdeal.τ).loc Cert.GluRefIdeal.main_arg1) = m' ((c.tc : Thread Cert.GluRefIdeal.nD Cert.GluRefIdeal.τ).loc Cert.GluRefIdeal.main_arg1))

def preserves_Norm_NormIdeal : Prop :=
  True

def algebraic_NormIdeal_NormRefIdeal [hNormIdeal : Cert.NormIdeal.Facts] [hNormRefIdeal : Cert.NormRefIdeal.Facts] : Prop :=
  ∀ (m : (ℓ : Loc Cert.NormIdeal.nD Cert.NormIdeal.τ Cert.NormIdeal.sig) → Buf (Elt Ideal) ℓ) (g : Dev Cert.NormIdeal.nD → PrngReg)
    (m' : (ℓ : Loc Cert.NormRefIdeal.nD Cert.NormRefIdeal.τ Cert.NormRefIdeal.sig) → Buf (Elt Ideal) ℓ) (g' : Dev Cert.NormRefIdeal.nD → PrngReg), Pre_NormIdeal m →
    (∀ c : Dev Cert.NormIdeal.nD,
      m' ((c.tc : Thread Cert.NormRefIdeal.nD Cert.NormRefIdeal.τ).loc Cert.NormRefIdeal.main_arg0) = m ((c.tc : Thread Cert.NormIdeal.nD Cert.NormIdeal.τ).loc Cert.NormIdeal.main_arg0)
      ∧ m' ((c.tc : Thread Cert.NormRefIdeal.nD Cert.NormRefIdeal.τ).loc Cert.NormRefIdeal.main_arg1) = m ((c.tc : Thread Cert.NormIdeal.nD Cert.NormIdeal.τ).loc Cert.NormIdeal.main_arg1)) →
    ∃ (v0 : (c : Dev Cert.NormIdeal.nD) → Buf (Elt Ideal) ((c.tc : Thread Cert.NormIdeal.nD Cert.NormIdeal.τ).loc Cert.NormIdeal.main_v1)),
      θ_run (Cert.NormIdeal.defs (F := Ideal)) (onTc (τ := Cert.NormIdeal.τ) (Cert.NormIdeal.main (F := Ideal))) ⟨m, fun _ => 0, g⟩ (fun r => ∀ c : Dev Cert.NormIdeal.nD,
          r.2.mem ((c.tc : Thread Cert.NormIdeal.nD Cert.NormIdeal.τ).loc Cert.NormIdeal.main_v1) = v0 c
          ∧ r.2.mem ((c.tc : Thread Cert.NormIdeal.nD Cert.NormIdeal.τ).loc Cert.NormIdeal.main_arg0) = m ((c.tc : Thread Cert.NormIdeal.nD Cert.NormIdeal.τ).loc Cert.NormIdeal.main_arg0)
          ∧ r.2.mem ((c.tc : Thread Cert.NormIdeal.nD Cert.NormIdeal.τ).loc Cert.NormIdeal.main_arg1) = m ((c.tc : Thread Cert.NormIdeal.nD Cert.NormIdeal.τ).loc Cert.NormIdeal.main_arg1))
      ∧ θ_run (Cert.NormRefIdeal.defs (F := Ideal)) (onTc (τ := Cert.NormRefIdeal.τ) (Cert.NormRefIdeal.main (F := Ideal))) ⟨m', fun _ => 0, g'⟩ (fun r => ∀ c : Dev Cert.NormRefIdeal.nD,
          r.2.mem ((c.tc : Thread Cert.NormRefIdeal.nD Cert.NormRefIdeal.τ).loc Cert.NormRefIdeal.main_v12) = v0 c
          ∧ r.2.mem ((c.tc : Thread Cert.NormRefIdeal.nD Cert.NormRefIdeal.τ).loc Cert.NormRefIdeal.main_arg0) = m' ((c.tc : Thread Cert.NormRefIdeal.nD Cert.NormRefIdeal.τ).loc Cert.NormRefIdeal.main_arg0)
          ∧ r.2.mem ((c.tc : Thread Cert.NormRefIdeal.nD Cert.NormRefIdeal.τ).loc Cert.NormRefIdeal.main_arg1) = m' ((c.tc : Thread Cert.NormRefIdeal.nD Cert.NormRefIdeal.τ).loc Cert.NormRefIdeal.main_arg1))

def preserves_Step_StepIdeal : Prop :=
  True

def algebraic_StepIdeal_StepRefIdeal [hStepIdeal : Cert.StepIdeal.Facts] [hStepRefIdeal : Cert.StepRefIdeal.Facts] : Prop :=
  ∀ (m : (ℓ : Loc Cert.StepIdeal.nD Cert.StepIdeal.τ Cert.StepIdeal.sig) → Buf (Elt Ideal) ℓ) (g : Dev Cert.StepIdeal.nD → PrngReg)
    (m' : (ℓ : Loc Cert.StepRefIdeal.nD Cert.StepRefIdeal.τ Cert.StepRefIdeal.sig) → Buf (Elt Ideal) ℓ) (g' : Dev Cert.StepRefIdeal.nD → PrngReg), Pre_StepIdeal m →
    (∀ c : Dev Cert.StepIdeal.nD,
      m' ((c.tc : Thread Cert.StepRefIdeal.nD Cert.StepRefIdeal.τ).loc Cert.StepRefIdeal.main_arg0) = m ((c.tc : Thread Cert.StepIdeal.nD Cert.StepIdeal.τ).loc Cert.StepIdeal.main_arg0)
      ∧ m' ((c.tc : Thread Cert.StepRefIdeal.nD Cert.StepRefIdeal.τ).loc Cert.StepRefIdeal.main_arg1) = m ((c.tc : Thread Cert.StepIdeal.nD Cert.StepIdeal.τ).loc Cert.StepIdeal.main_arg1)
      ∧ m' ((c.tc : Thread Cert.StepRefIdeal.nD Cert.StepRefIdeal.τ).loc Cert.StepRefIdeal.main_arg2) = m ((c.tc : Thread Cert.StepIdeal.nD Cert.StepIdeal.τ).loc Cert.StepIdeal.main_arg2)
      ∧ m' ((c.tc : Thread Cert.StepRefIdeal.nD Cert.StepRefIdeal.τ).loc Cert.StepRefIdeal.main_arg3) = m ((c.tc : Thread Cert.StepIdeal.nD Cert.StepIdeal.τ).loc Cert.StepIdeal.main_arg3)
      ∧ m' ((c.tc : Thread Cert.StepRefIdeal.nD Cert.StepRefIdeal.τ).loc Cert.StepRefIdeal.main_arg4) = m ((c.tc : Thread Cert.StepIdeal.nD Cert.StepIdeal.τ).loc Cert.StepIdeal.main_arg4)
      ∧ m' ((c.tc : Thread Cert.StepRefIdeal.nD Cert.StepRefIdeal.τ).loc Cert.StepRefIdeal.main_arg5) = m ((c.tc : Thread Cert.StepIdeal.nD Cert.StepIdeal.τ).loc Cert.StepIdeal.main_arg5)) →
    ∃ (v0 : (c : Dev Cert.StepIdeal.nD) → Buf (Elt Ideal) ((c.tc : Thread Cert.StepIdeal.nD Cert.StepIdeal.τ).loc Cert.StepIdeal.main_v3_0)) (v1 : (c : Dev Cert.StepIdeal.nD) → Buf (Elt Ideal) ((c.tc : Thread Cert.StepIdeal.nD Cert.StepIdeal.τ).loc Cert.StepIdeal.main_v3_1)),
      θ_run (Cert.StepIdeal.defs (F := Ideal)) (onTc (τ := Cert.StepIdeal.τ) (Cert.StepIdeal.main (F := Ideal))) ⟨m, fun _ => 0, g⟩ (fun r => ∀ c : Dev Cert.StepIdeal.nD,
          r.2.mem ((c.tc : Thread Cert.StepIdeal.nD Cert.StepIdeal.τ).loc Cert.StepIdeal.main_v3_0) = v0 c
          ∧ r.2.mem ((c.tc : Thread Cert.StepIdeal.nD Cert.StepIdeal.τ).loc Cert.StepIdeal.main_v3_1) = v1 c
          ∧ r.2.mem ((c.tc : Thread Cert.StepIdeal.nD Cert.StepIdeal.τ).loc Cert.StepIdeal.main_arg0) = m ((c.tc : Thread Cert.StepIdeal.nD Cert.StepIdeal.τ).loc Cert.StepIdeal.main_arg0)
          ∧ r.2.mem ((c.tc : Thread Cert.StepIdeal.nD Cert.StepIdeal.τ).loc Cert.StepIdeal.main_arg1) = m ((c.tc : Thread Cert.StepIdeal.nD Cert.StepIdeal.τ).loc Cert.StepIdeal.main_arg1)
          ∧ r.2.mem ((c.tc : Thread Cert.StepIdeal.nD Cert.StepIdeal.τ).loc Cert.StepIdeal.main_arg2) = m ((c.tc : Thread Cert.StepIdeal.nD Cert.StepIdeal.τ).loc Cert.StepIdeal.main_arg2)
          ∧ r.2.mem ((c.tc : Thread Cert.StepIdeal.nD Cert.StepIdeal.τ).loc Cert.StepIdeal.main_arg3) = m ((c.tc : Thread Cert.StepIdeal.nD Cert.StepIdeal.τ).loc Cert.StepIdeal.main_arg3)
          ∧ r.2.mem ((c.tc : Thread Cert.StepIdeal.nD Cert.StepIdeal.τ).loc Cert.StepIdeal.main_arg4) = m ((c.tc : Thread Cert.StepIdeal.nD Cert.StepIdeal.τ).loc Cert.StepIdeal.main_arg4)
          ∧ r.2.mem ((c.tc : Thread Cert.StepIdeal.nD Cert.StepIdeal.τ).loc Cert.StepIdeal.main_arg5) = m ((c.tc : Thread Cert.StepIdeal.nD Cert.StepIdeal.τ).loc Cert.StepIdeal.main_arg5))
      ∧ θ_run (Cert.StepRefIdeal.defs (F := Ideal)) (onTc (τ := Cert.StepRefIdeal.τ) (Cert.StepRefIdeal.main (F := Ideal))) ⟨m', fun _ => 0, g'⟩ (fun r => ∀ c : Dev Cert.StepRefIdeal.nD,
          r.2.mem ((c.tc : Thread Cert.StepRefIdeal.nD Cert.StepRefIdeal.τ).loc Cert.StepRefIdeal.main_v27) = v0 c
          ∧ r.2.mem ((c.tc : Thread Cert.StepRefIdeal.nD Cert.StepRefIdeal.τ).loc Cert.StepRefIdeal.main_v1) = v1 c
          ∧ r.2.mem ((c.tc : Thread Cert.StepRefIdeal.nD Cert.StepRefIdeal.τ).loc Cert.StepRefIdeal.main_arg0) = m' ((c.tc : Thread Cert.StepRefIdeal.nD Cert.StepRefIdeal.τ).loc Cert.StepRefIdeal.main_arg0)
          ∧ r.2.mem ((c.tc : Thread Cert.StepRefIdeal.nD Cert.StepRefIdeal.τ).loc Cert.StepRefIdeal.main_arg1) = m' ((c.tc : Thread Cert.StepRefIdeal.nD Cert.StepRefIdeal.τ).loc Cert.StepRefIdeal.main_arg1)
          ∧ r.2.mem ((c.tc : Thread Cert.StepRefIdeal.nD Cert.StepRefIdeal.τ).loc Cert.StepRefIdeal.main_arg2) = m' ((c.tc : Thread Cert.StepRefIdeal.nD Cert.StepRefIdeal.τ).loc Cert.StepRefIdeal.main_arg2)
          ∧ r.2.mem ((c.tc : Thread Cert.StepRefIdeal.nD Cert.StepRefIdeal.τ).loc Cert.StepRefIdeal.main_arg3) = m' ((c.tc : Thread Cert.StepRefIdeal.nD Cert.StepRefIdeal.τ).loc Cert.StepRefIdeal.main_arg3)
          ∧ r.2.mem ((c.tc : Thread Cert.StepRefIdeal.nD Cert.StepRefIdeal.τ).loc Cert.StepRefIdeal.main_arg4) = m' ((c.tc : Thread Cert.StepRefIdeal.nD Cert.StepRefIdeal.τ).loc Cert.StepRefIdeal.main_arg4)
          ∧ r.2.mem ((c.tc : Thread Cert.StepRefIdeal.nD Cert.StepRefIdeal.τ).loc Cert.StepRefIdeal.main_arg5) = m' ((c.tc : Thread Cert.StepRefIdeal.nD Cert.StepRefIdeal.τ).loc Cert.StepRefIdeal.main_arg5))

def preserves_Mix_MixIdeal : Prop :=
  True

def algebraic_MixIdeal_MixRefIdeal [hMixIdeal : Cert.MixIdeal.Facts] [hMixRefIdeal : Cert.MixRefIdeal.Facts] : Prop :=
  ∀ (m : (ℓ : Loc Cert.MixIdeal.nD Cert.MixIdeal.τ Cert.MixIdeal.sig) → Buf (Elt Ideal) ℓ) (g : Dev Cert.MixIdeal.nD → PrngReg)
    (m' : (ℓ : Loc Cert.MixRefIdeal.nD Cert.MixRefIdeal.τ Cert.MixRefIdeal.sig) → Buf (Elt Ideal) ℓ) (g' : Dev Cert.MixRefIdeal.nD → PrngReg), Pre_MixIdeal m →
    (∀ c : Dev Cert.MixIdeal.nD,
      m' ((c.tc : Thread Cert.MixRefIdeal.nD Cert.MixRefIdeal.τ).loc Cert.MixRefIdeal.main_arg0) = m ((c.tc : Thread Cert.MixIdeal.nD Cert.MixIdeal.τ).loc Cert.MixIdeal.main_arg0)
      ∧ m' ((c.tc : Thread Cert.MixRefIdeal.nD Cert.MixRefIdeal.τ).loc Cert.MixRefIdeal.main_arg1) = m ((c.tc : Thread Cert.MixIdeal.nD Cert.MixIdeal.τ).loc Cert.MixIdeal.main_arg1)
      ∧ m' ((c.tc : Thread Cert.MixRefIdeal.nD Cert.MixRefIdeal.τ).loc Cert.MixRefIdeal.main_arg2) = m ((c.tc : Thread Cert.MixIdeal.nD Cert.MixIdeal.τ).loc Cert.MixIdeal.main_arg2)
      ∧ m' ((c.tc : Thread Cert.MixRefIdeal.nD Cert.MixRefIdeal.τ).loc Cert.MixRefIdeal.main_arg3) = m ((c.tc : Thread Cert.MixIdeal.nD Cert.MixIdeal.τ).loc Cert.MixIdeal.main_arg3)) →
    ∃ (v0 : (c : Dev Cert.MixIdeal.nD) → Buf (Elt Ideal) ((c.tc : Thread Cert.MixIdeal.nD Cert.MixIdeal.τ).loc Cert.MixIdeal.main_v0)),
      θ_run (Cert.MixIdeal.defs (F := Ideal)) (onTc (τ := Cert.MixIdeal.τ) (Cert.MixIdeal.main (F := Ideal))) ⟨m, fun _ => 0, g⟩ (fun r => ∀ c : Dev Cert.MixIdeal.nD,
          r.2.mem ((c.tc : Thread Cert.MixIdeal.nD Cert.MixIdeal.τ).loc Cert.MixIdeal.main_v0) = v0 c
          ∧ r.2.mem ((c.tc : Thread Cert.MixIdeal.nD Cert.MixIdeal.τ).loc Cert.MixIdeal.main_arg0) = m ((c.tc : Thread Cert.MixIdeal.nD Cert.MixIdeal.τ).loc Cert.MixIdeal.main_arg0)
          ∧ r.2.mem ((c.tc : Thread Cert.MixIdeal.nD Cert.MixIdeal.τ).loc Cert.MixIdeal.main_arg1) = m ((c.tc : Thread Cert.MixIdeal.nD Cert.MixIdeal.τ).loc Cert.MixIdeal.main_arg1)
          ∧ r.2.mem ((c.tc : Thread Cert.MixIdeal.nD Cert.MixIdeal.τ).loc Cert.MixIdeal.main_arg2) = m ((c.tc : Thread Cert.MixIdeal.nD Cert.MixIdeal.τ).loc Cert.MixIdeal.main_arg2)
          ∧ r.2.mem ((c.tc : Thread Cert.MixIdeal.nD Cert.MixIdeal.τ).loc Cert.MixIdeal.main_arg3) = m ((c.tc : Thread Cert.MixIdeal.nD Cert.MixIdeal.τ).loc Cert.MixIdeal.main_arg3))
      ∧ θ_run (Cert.MixRefIdeal.defs (F := Ideal)) (onTc (τ := Cert.MixRefIdeal.τ) (Cert.MixRefIdeal.main (F := Ideal))) ⟨m', fun _ => 0, g'⟩ (fun r => ∀ c : Dev Cert.MixRefIdeal.nD,
          r.2.mem ((c.tc : Thread Cert.MixRefIdeal.nD Cert.MixRefIdeal.τ).loc Cert.MixRefIdeal.main_v4) = v0 c
          ∧ r.2.mem ((c.tc : Thread Cert.MixRefIdeal.nD Cert.MixRefIdeal.τ).loc Cert.MixRefIdeal.main_arg0) = m' ((c.tc : Thread Cert.MixRefIdeal.nD Cert.MixRefIdeal.τ).loc Cert.MixRefIdeal.main_arg0)
          ∧ r.2.mem ((c.tc : Thread Cert.MixRefIdeal.nD Cert.MixRefIdeal.τ).loc Cert.MixRefIdeal.main_arg1) = m' ((c.tc : Thread Cert.MixRefIdeal.nD Cert.MixRefIdeal.τ).loc Cert.MixRefIdeal.main_arg1)
          ∧ r.2.mem ((c.tc : Thread Cert.MixRefIdeal.nD Cert.MixRefIdeal.τ).loc Cert.MixRefIdeal.main_arg2) = m' ((c.tc : Thread Cert.MixRefIdeal.nD Cert.MixRefIdeal.τ).loc Cert.MixRefIdeal.main_arg2)
          ∧ r.2.mem ((c.tc : Thread Cert.MixRefIdeal.nD Cert.MixRefIdeal.τ).loc Cert.MixRefIdeal.main_arg3) = m' ((c.tc : Thread Cert.MixRefIdeal.nD Cert.MixRefIdeal.τ).loc Cert.MixRefIdeal.main_arg3))

def preserves_Last_LastIdeal : Prop :=
  True

def algebraic_LastIdeal_LastRefIdeal [hLastIdeal : Cert.LastIdeal.Facts] [hLastRefIdeal : Cert.LastRefIdeal.Facts] : Prop :=
  ∀ (m : (ℓ : Loc Cert.LastIdeal.nD Cert.LastIdeal.τ Cert.LastIdeal.sig) → Buf (Elt Ideal) ℓ) (g : Dev Cert.LastIdeal.nD → PrngReg)
    (m' : (ℓ : Loc Cert.LastRefIdeal.nD Cert.LastRefIdeal.τ Cert.LastRefIdeal.sig) → Buf (Elt Ideal) ℓ) (g' : Dev Cert.LastRefIdeal.nD → PrngReg), Pre_LastIdeal m →
    (∀ c : Dev Cert.LastIdeal.nD,
      m' ((c.tc : Thread Cert.LastRefIdeal.nD Cert.LastRefIdeal.τ).loc Cert.LastRefIdeal.main_arg0) = m ((c.tc : Thread Cert.LastIdeal.nD Cert.LastIdeal.τ).loc Cert.LastIdeal.main_arg0)
      ∧ m' ((c.tc : Thread Cert.LastRefIdeal.nD Cert.LastRefIdeal.τ).loc Cert.LastRefIdeal.main_arg1) = m ((c.tc : Thread Cert.LastIdeal.nD Cert.LastIdeal.τ).loc Cert.LastIdeal.main_arg1)) →
    ∃ (v0 : (c : Dev Cert.LastIdeal.nD) → Buf (Elt Ideal) ((c.tc : Thread Cert.LastIdeal.nD Cert.LastIdeal.τ).loc Cert.LastIdeal.main_v1)),
      θ_run (Cert.LastIdeal.defs (F := Ideal)) (onTc (τ := Cert.LastIdeal.τ) (Cert.LastIdeal.main (F := Ideal))) ⟨m, fun _ => 0, g⟩ (fun r => ∀ c : Dev Cert.LastIdeal.nD,
          r.2.mem ((c.tc : Thread Cert.LastIdeal.nD Cert.LastIdeal.τ).loc Cert.LastIdeal.main_v1) = v0 c
          ∧ r.2.mem ((c.tc : Thread Cert.LastIdeal.nD Cert.LastIdeal.τ).loc Cert.LastIdeal.main_arg0) = m ((c.tc : Thread Cert.LastIdeal.nD Cert.LastIdeal.τ).loc Cert.LastIdeal.main_arg0)
          ∧ r.2.mem ((c.tc : Thread Cert.LastIdeal.nD Cert.LastIdeal.τ).loc Cert.LastIdeal.main_arg1) = m ((c.tc : Thread Cert.LastIdeal.nD Cert.LastIdeal.τ).loc Cert.LastIdeal.main_arg1))
      ∧ θ_run (Cert.LastRefIdeal.defs (F := Ideal)) (onTc (τ := Cert.LastRefIdeal.τ) (Cert.LastRefIdeal.main (F := Ideal))) ⟨m', fun _ => 0, g'⟩ (fun r => ∀ c : Dev Cert.LastRefIdeal.nD,
          r.2.mem ((c.tc : Thread Cert.LastRefIdeal.nD Cert.LastRefIdeal.τ).loc Cert.LastRefIdeal.main_v12) = v0 c
          ∧ r.2.mem ((c.tc : Thread Cert.LastRefIdeal.nD Cert.LastRefIdeal.τ).loc Cert.LastRefIdeal.main_arg0) = m' ((c.tc : Thread Cert.LastRefIdeal.nD Cert.LastRefIdeal.τ).loc Cert.LastRefIdeal.main_arg0)
          ∧ r.2.mem ((c.tc : Thread Cert.LastRefIdeal.nD Cert.LastRefIdeal.τ).loc Cert.LastRefIdeal.main_arg1) = m' ((c.tc : Thread Cert.LastRefIdeal.nD Cert.LastRefIdeal.τ).loc Cert.LastRefIdeal.main_arg1))

def preserves_Blend_BlendIdeal : Prop :=
  True

def algebraic_BlendIdeal_BlendRefIdeal [hBlendIdeal : Cert.BlendIdeal.Facts] [hBlendRefIdeal : Cert.BlendRefIdeal.Facts] : Prop :=
  ∀ (m : (ℓ : Loc Cert.BlendIdeal.nD Cert.BlendIdeal.τ Cert.BlendIdeal.sig) → Buf (Elt Ideal) ℓ) (g : Dev Cert.BlendIdeal.nD → PrngReg)
    (m' : (ℓ : Loc Cert.BlendRefIdeal.nD Cert.BlendRefIdeal.τ Cert.BlendRefIdeal.sig) → Buf (Elt Ideal) ℓ) (g' : Dev Cert.BlendRefIdeal.nD → PrngReg), Pre_BlendIdeal m →
    (∀ c : Dev Cert.BlendIdeal.nD,
      m' ((c.tc : Thread Cert.BlendRefIdeal.nD Cert.BlendRefIdeal.τ).loc Cert.BlendRefIdeal.main_arg0) = m ((c.tc : Thread Cert.BlendIdeal.nD Cert.BlendIdeal.τ).loc Cert.BlendIdeal.main_arg0)
      ∧ m' ((c.tc : Thread Cert.BlendRefIdeal.nD Cert.BlendRefIdeal.τ).loc Cert.BlendRefIdeal.main_arg1) = m ((c.tc : Thread Cert.BlendIdeal.nD Cert.BlendIdeal.τ).loc Cert.BlendIdeal.main_arg1)) →
    ∃ (v0 : (c : Dev Cert.BlendIdeal.nD) → Buf (Elt Ideal) ((c.tc : Thread Cert.BlendIdeal.nD Cert.BlendIdeal.τ).loc Cert.BlendIdeal.main_v0)),
      θ_run (Cert.BlendIdeal.defs (F := Ideal)) (onTc (τ := Cert.BlendIdeal.τ) (Cert.BlendIdeal.main (F := Ideal))) ⟨m, fun _ => 0, g⟩ (fun r => ∀ c : Dev Cert.BlendIdeal.nD,
          r.2.mem ((c.tc : Thread Cert.BlendIdeal.nD Cert.BlendIdeal.τ).loc Cert.BlendIdeal.main_v0) = v0 c
          ∧ r.2.mem ((c.tc : Thread Cert.BlendIdeal.nD Cert.BlendIdeal.τ).loc Cert.BlendIdeal.main_arg0) = m ((c.tc : Thread Cert.BlendIdeal.nD Cert.BlendIdeal.τ).loc Cert.BlendIdeal.main_arg0)
          ∧ r.2.mem ((c.tc : Thread Cert.BlendIdeal.nD Cert.BlendIdeal.τ).loc Cert.BlendIdeal.main_arg1) = m ((c.tc : Thread Cert.BlendIdeal.nD Cert.BlendIdeal.τ).loc Cert.BlendIdeal.main_arg1))
      ∧ θ_run (Cert.BlendRefIdeal.defs (F := Ideal)) (onTc (τ := Cert.BlendRefIdeal.τ) (Cert.BlendRefIdeal.main (F := Ideal))) ⟨m', fun _ => 0, g'⟩ (fun r => ∀ c : Dev Cert.BlendRefIdeal.nD,
          r.2.mem ((c.tc : Thread Cert.BlendRefIdeal.nD Cert.BlendRefIdeal.τ).loc Cert.BlendRefIdeal.main_v11) = v0 c
          ∧ r.2.mem ((c.tc : Thread Cert.BlendRefIdeal.nD Cert.BlendRefIdeal.τ).loc Cert.BlendRefIdeal.main_arg0) = m' ((c.tc : Thread Cert.BlendRefIdeal.nD Cert.BlendRefIdeal.τ).loc Cert.BlendRefIdeal.main_arg0)
          ∧ r.2.mem ((c.tc : Thread Cert.BlendRefIdeal.nD Cert.BlendRefIdeal.τ).loc Cert.BlendRefIdeal.main_arg1) = m' ((c.tc : Thread Cert.BlendRefIdeal.nD Cert.BlendRefIdeal.τ).loc Cert.BlendRefIdeal.main_arg1))

def Claim : Prop :=
  ∃ (hAttn : Cert.Attn.Facts) (hAttnIdeal : Cert.AttnIdeal.Facts) (hAttnRefIdeal : Cert.AttnRefIdeal.Facts) (hDown : Cert.Down.Facts) (hDownIdeal : Cert.DownIdeal.Facts) (hDownRefIdeal : Cert.DownRefIdeal.Facts) (hHidden : Cert.Hidden.Facts) (hHiddenIdeal : Cert.HiddenIdeal.Facts) (hHiddenRefIdeal : Cert.HiddenRefIdeal.Facts) (hGlu : Cert.Glu.Facts) (hGluIdeal : Cert.GluIdeal.Facts) (hGluRefIdeal : Cert.GluRefIdeal.Facts) (hNorm : Cert.Norm.Facts) (hNormIdeal : Cert.NormIdeal.Facts) (hNormRefIdeal : Cert.NormRefIdeal.Facts) (hStep : Cert.Step.Facts) (hStepIdeal : Cert.StepIdeal.Facts) (hStepRefIdeal : Cert.StepRefIdeal.Facts) (hMix : Cert.Mix.Facts) (hMixIdeal : Cert.MixIdeal.Facts) (hMixRefIdeal : Cert.MixRefIdeal.Facts) (hLast : Cert.Last.Facts) (hLastIdeal : Cert.LastIdeal.Facts) (hLastRefIdeal : Cert.LastRefIdeal.Facts) (hBlend : Cert.Blend.Facts) (hBlendIdeal : Cert.BlendIdeal.Facts) (hBlendRefIdeal : Cert.BlendRefIdeal.Facts) (hPre_table_in_pool : Cert.Pre_table_in_pool.Facts) (hPre_step_inputs : Cert.Pre_step_inputs.Facts) (hOn_query_rows : Cert.On_query_rows.Facts),
    quiescent_Attn (hAttn := hAttn) (hPre_table_in_pool := hPre_table_in_pool)
    ∧ quiescent_AttnIdeal (hAttnIdeal := hAttnIdeal) (hPre_table_in_pool := hPre_table_in_pool)
    ∧ quiescent_AttnIdeal_pre_step_inputs (hAttnIdeal := hAttnIdeal) (hPre_step_inputs := hPre_step_inputs)
    ∧ quiescent_AttnRefIdeal (hAttnRefIdeal := hAttnRefIdeal)
    ∧ quiescent_AttnRefIdeal_pre_step_inputs (hAttnRefIdeal := hAttnRefIdeal) (hPre_step_inputs := hPre_step_inputs)
    ∧ quiescent_Down (hDown := hDown)
    ∧ quiescent_DownIdeal (hDownIdeal := hDownIdeal)
    ∧ quiescent_DownRefIdeal (hDownRefIdeal := hDownRefIdeal)
    ∧ quiescent_Hidden (hHidden := hHidden)
    ∧ quiescent_HiddenIdeal (hHiddenIdeal := hHiddenIdeal)
    ∧ quiescent_HiddenRefIdeal (hHiddenRefIdeal := hHiddenRefIdeal)
    ∧ quiescent_Glu (hGlu := hGlu)
    ∧ quiescent_GluIdeal (hGluIdeal := hGluIdeal)
    ∧ quiescent_GluRefIdeal (hGluRefIdeal := hGluRefIdeal)
    ∧ quiescent_Norm (hNorm := hNorm)
    ∧ quiescent_NormIdeal (hNormIdeal := hNormIdeal)
    ∧ quiescent_NormRefIdeal (hNormRefIdeal := hNormRefIdeal)
    ∧ quiescent_Step (hStep := hStep)
    ∧ quiescent_StepIdeal (hStepIdeal := hStepIdeal)
    ∧ quiescent_StepRefIdeal (hStepRefIdeal := hStepRefIdeal)
    ∧ quiescent_Mix (hMix := hMix)
    ∧ quiescent_MixIdeal (hMixIdeal := hMixIdeal)
    ∧ quiescent_MixRefIdeal (hMixRefIdeal := hMixRefIdeal)
    ∧ quiescent_Last (hLast := hLast)
    ∧ quiescent_LastIdeal (hLastIdeal := hLastIdeal)
    ∧ quiescent_LastRefIdeal (hLastRefIdeal := hLastRefIdeal)
    ∧ quiescent_Blend (hBlend := hBlend)
    ∧ quiescent_BlendIdeal (hBlendIdeal := hBlendIdeal)
    ∧ quiescent_BlendRefIdeal (hBlendRefIdeal := hBlendRefIdeal)
    ∧ preserves_Attn_AttnIdeal
    ∧ algebraic_AttnIdeal_AttnRefIdeal_on_query_rows_pre_step_inputs (hAttnIdeal := hAttnIdeal) (hAttnRefIdeal := hAttnRefIdeal) (hPre_step_inputs := hPre_step_inputs) (hOn_query_rows := hOn_query_rows)
    ∧ preserves_Down_DownIdeal
    ∧ algebraic_DownIdeal_DownRefIdeal (hDownIdeal := hDownIdeal) (hDownRefIdeal := hDownRefIdeal)
    ∧ preserves_Hidden_HiddenIdeal
    ∧ algebraic_HiddenIdeal_HiddenRefIdeal (hHiddenIdeal := hHiddenIdeal) (hHiddenRefIdeal := hHiddenRefIdeal)
    ∧ preserves_Glu_GluIdeal
    ∧ algebraic_GluIdeal_GluRefIdeal (hGluIdeal := hGluIdeal) (hGluRefIdeal := hGluRefIdeal)
    ∧ preserves_Norm_NormIdeal
    ∧ algebraic_NormIdeal_NormRefIdeal (hNormIdeal := hNormIdeal) (hNormRefIdeal := hNormRefIdeal)
    ∧ preserves_Step_StepIdeal
    ∧ algebraic_StepIdeal_StepRefIdeal (hStepIdeal := hStepIdeal) (hStepRefIdeal := hStepRefIdeal)
    ∧ preserves_Mix_MixIdeal
    ∧ algebraic_MixIdeal_MixRefIdeal (hMixIdeal := hMixIdeal) (hMixRefIdeal := hMixRefIdeal)
    ∧ preserves_Last_LastIdeal
    ∧ algebraic_LastIdeal_LastRefIdeal (hLastIdeal := hLastIdeal) (hLastRefIdeal := hLastRefIdeal)
    ∧ preserves_Blend_BlendIdeal
    ∧ algebraic_BlendIdeal_BlendRefIdeal (hBlendIdeal := hBlendIdeal) (hBlendRefIdeal := hBlendRefIdeal)
-- ==== On_query_rows.lean ====
abbrev S128x16 : Shape := ⟨2, ![128, 16]⟩
abbrev S128x8x128 : Shape := ⟨3, ![128, 8, 128]⟩
abbrev S128x2x128 : Shape := ⟨3, ![128, 2, 128]⟩
abbrev S128x3x2x2x128 : Shape := ⟨5, ![128, 3, 2, 2, 128]⟩
abbrev S128x3x2x4 : Shape := ⟨4, ![128, 3, 2, 4]⟩
abbrev S128x512x2x2x128 : Shape := ⟨5, ![128, 512, 2, 2, 128]⟩
abbrev S2560x128x2x2x128 : Shape := ⟨5, ![2560, 128, 2, 2, 128]⟩
abbrev S128x2x16x128 : Shape := ⟨4, ![128, 2, 16, 128]⟩
abbrev S_ : Shape := ⟨0, ![]⟩
abbrev S128x2048x128 : Shape := ⟨3, ![128, 2048, 128]⟩

class Facts : Prop where
  bcast_S_S128x2x16x128 : S_.BroadcastsInDim S128x2x16x128 (![] : Fin 0 → Fin S128x2x16x128.rank)
  bcast_S_S128x2048x128 : S_.BroadcastsInDim S128x2048x128 (![] : Fin 0 → Fin S128x2048x128.rank)

variable [Facts]

def fn {F : FTy → Type} [FloatOps F] (main_arg0 : IVec S128x16 32) (main_arg1 : FVec F S128x8x128 .f32) (main_arg2 : FVec F S128x2x128 .f32) (main_arg3 : FVec F S128x3x2x2x128 .f32) (main_arg4 : FVec F S128x8x128 .f32) (main_arg5 : FVec F S128x3x2x4 .f32) (main_arg6 : FVec F S128x512x2x2x128 .f32) (main_arg7 : FVec F S2560x128x2x2x128 .f32) : IVec S128x2x16x128 1 × IVec S128x2048x128 1 :=
  let main_v0 : IVec S128x2x16x128 32 := iotaInDim S128x2x16x128 32 2
  let main_c : IVec S_ 32 := constantI S_ 32 4#32
  let main_v1 : IVec S128x2x16x128 32 := broadcastInDim S128x2x16x128 ![] bcast_S_S128x2x16x128 main_c
  let main_v2 : IVec S128x2x16x128 1 := cmpi .slt main_v0 main_v1
  let main_c_0 : IVec S_ 1 := constantI S_ 1 1#1
  let main_v3 : IVec S128x2048x128 1 := broadcastInDim S128x2048x128 ![] bcast_S_S128x2048x128 main_c_0
  (main_v2, main_v3)
-- ==== Pre_step_inputs.lean ====
abbrev S128x16 : Shape := ⟨2, ![128, 16]⟩
abbrev S128x8x128 : Shape := ⟨3, ![128, 8, 128]⟩
abbrev S128x2x128 : Shape := ⟨3, ![128, 2, 128]⟩
abbrev S128x3x2x2x128 : Shape := ⟨5, ![128, 3, 2, 2, 128]⟩
abbrev S128x3x2x4 : Shape := ⟨4, ![128, 3, 2, 4]⟩
abbrev S128x512x2x2x128 : Shape := ⟨5, ![128, 512, 2, 2, 128]⟩
abbrev S2560x128x2x2x128 : Shape := ⟨5, ![2560, 128, 2, 2, 128]⟩
abbrev S_ : Shape := ⟨0, ![]⟩
abbrev S128x2x33 : Shape := ⟨3, ![128, 2, 33]⟩
abbrev S128x2 : Shape := ⟨2, ![128, 2]⟩

class Facts : Prop where
  bcast_S_S128x16 : S_.BroadcastsInDim S128x16 (![] : Fin 0 → Fin S128x16.rank)
  reducesTo_S128x16_S_d0_1 : S128x16.ReducesTo [0, 1] S_
  h_S_ : 0 < S_.numel
  bcast_S_S128x8x128 : S_.BroadcastsInDim S128x8x128 (![] : Fin 0 → Fin S128x8x128.rank)
  reducesTo_S128x8x128_S_d0_1_2 : S128x8x128.ReducesTo [0, 1, 2] S_
  bcast_S_S128x3x2x2x128 : S_.BroadcastsInDim S128x3x2x2x128 (![] : Fin 0 → Fin S128x3x2x2x128.rank)
  reducesTo_S128x3x2x2x128_S_d0_1_2_3_4 : S128x3x2x2x128.ReducesTo [0, 1, 2, 3, 4] S_
  bcast_S_S128x512x2x2x128 : S_.BroadcastsInDim S128x512x2x2x128 (![] : Fin 0 → Fin S128x512x2x2x128.rank)
  reducesTo_S128x512x2x2x128_S_d0_1_2_3_4 : S128x512x2x2x128.ReducesTo [0, 1, 2, 3, 4] S_
  bcast_S_S2560x128x2x2x128 : S_.BroadcastsInDim S2560x128x2x2x128 (![] : Fin 0 → Fin S2560x128x2x2x128.rank)
  reducesTo_S2560x128x2x2x128_S_d0_1_2_3_4 : S2560x128x2x2x128.ReducesTo [0, 1, 2, 3, 4] S_
  slices_S128x2x128_S128x2x33_0_0_0 : S128x2x128.Slices ![0, 0, 0] S128x2x33
  bcast_S_S128x2x33 : S_.BroadcastsInDim S128x2x33 (![] : Fin 0 → Fin S128x2x33.rank)
  reducesTo_S128x2x33_S128x2_d2 : S128x2x33.ReducesTo [2] S128x2
  reducesTo_S128x2_S_d0_1 : S128x2.ReducesTo [0, 1] S_

variable [Facts]

def fn_part1 {F : FTy → Type} [FloatOps F] (main_arg2 : FVec F S128x2x128 .f32) (main_arg7 : FVec F S2560x128x2x2x128 .f32) (main_v5 : IVec S_ 1) (main_v14 : IVec S_ 1) (main_v15 : FVec F S128x512x2x2x128 .f32) (main_cst_5 : FVec F S_ .f32) : IVec S_ 1 :=
  let main_v16 : FVec F S128x512x2x2x128 .f32 := broadcastInDim S128x512x2x2x128 ![] bcast_S_S128x512x2x2x128 main_cst_5
  let main_v17 : IVec S128x512x2x2x128 1 := cmpf .olt main_v15 main_v16
  let main_c_6 : IVec S_ 1 := constantI S_ 1 1#1
  let main_v18 : IVec S_ 1 := (fun x v => Host.reduce IntOp.andi x v reducesTo_S128x512x2x2x128_S_d0_1_2_3_4 h_S_) main_v17 main_c_6
  let main_v19 : IVec S_ 1 := andi main_v14 main_v18
  let main_v20 : FVec F S2560x128x2x2x128 .f32 := Host.absf main_arg7
  let main_cst_7 : FVec F S_ .f32 := constant S_ .f32 0x7F800000#32
  let main_v21 : FVec F S2560x128x2x2x128 .f32 := broadcastInDim S2560x128x2x2x128 ![] bcast_S_S2560x128x2x2x128 main_cst_7
  let main_v22 : IVec S2560x128x2x2x128 1 := cmpf .olt main_v20 main_v21
  let main_c_8 : IVec S_ 1 := constantI S_ 1 1#1
  let main_v23 : IVec S_ 1 := (fun x v => Host.reduce IntOp.andi x v reducesTo_S2560x128x2x2x128_S_d0_1_2_3_4 h_S_) main_v22 main_c_8
  let main_v24 : IVec S_ 1 := andi main_v19 main_v23
  let main_v25 : IVec S_ 1 := andi main_v5 main_v24
  let main_v26 : FVec F S128x2x33 .f32 := (extractStridedSlice S128x2x33 ![0, 0, 0] · slices_S128x2x128_S128x2x33_0_0_0) main_arg2
  let main_cst_9 : FVec F S_ .f32 := constant S_ .f32 0x00000000#32
  let main_v27 : FVec F S128x2x33 .f32 := broadcastInDim S128x2x33 ![] bcast_S_S128x2x33 main_cst_9
  let main_v28 : IVec S128x2x33 1 := cmpf .ogt main_v26 main_v27
  let main_c_10 : IVec S_ 1 := constantI S_ 1 0#1
  let main_v29 : IVec S128x2 1 := (fun x v => Host.reduce IntOp.ori x v reducesTo_S128x2x33_S128x2_d2 h_S_) main_v28 main_c_10
  let main_c_11 : IVec S_ 1 := constantI S_ 1 1#1
  let main_v30 : IVec S_ 1 := (fun x v => Host.reduce IntOp.andi x v reducesTo_S128x2_S_d0_1 h_S_) main_v29 main_c_11
  let main_v31 : IVec S_ 1 := andi main_v25 main_v30
  main_v31

def fn {F : FTy → Type} [FloatOps F] (main_arg0 : IVec S128x16 32) (main_arg1 : FVec F S128x8x128 .f32) (main_arg2 : FVec F S128x2x128 .f32) (main_arg3 : FVec F S128x3x2x2x128 .f32) (main_arg4 : FVec F S128x8x128 .f32) (main_arg5 : FVec F S128x3x2x4 .f32) (main_arg6 : FVec F S128x512x2x2x128 .f32) (main_arg7 : FVec F S2560x128x2x2x128 .f32) : IVec S_ 1 :=
  let main_c : IVec S_ 32 := constantI S_ 32 0#32
  let main_v0 : IVec S128x16 32 := broadcastInDim S128x16 ![] bcast_S_S128x16 main_c
  let main_v1 : IVec S128x16 1 := cmpi .sge main_arg0 main_v0
  let main_c_0 : IVec S_ 32 := constantI S_ 32 2560#32
  let main_v2 : IVec S128x16 32 := broadcastInDim S128x16 ![] bcast_S_S128x16 main_c_0
  let main_v3 : IVec S128x16 1 := cmpi .slt main_arg0 main_v2
  let main_v4 : IVec S128x16 1 := andi main_v1 main_v3
  let main_c_1 : IVec S_ 1 := constantI S_ 1 1#1
  let main_v5 : IVec S_ 1 := (fun x v => Host.reduce IntOp.andi x v reducesTo_S128x16_S_d0_1 h_S_) main_v4 main_c_1
  let main_v6 : FVec F S128x8x128 .f32 := Host.absf main_arg1
  let main_cst : FVec F S_ .f32 := constant S_ .f32 0x7F800000#32
  let main_v7 : FVec F S128x8x128 .f32 := broadcastInDim S128x8x128 ![] bcast_S_S128x8x128 main_cst
  let main_v8 : IVec S128x8x128 1 := cmpf .olt main_v6 main_v7
  let main_c_2 : IVec S_ 1 := constantI S_ 1 1#1
  let main_v9 : IVec S_ 1 := (fun x v => Host.reduce IntOp.andi x v reducesTo_S128x8x128_S_d0_1_2 h_S_) main_v8 main_c_2
  let main_v10 : FVec F S128x3x2x2x128 .f32 := Host.absf main_arg3
  let main_cst_3 : FVec F S_ .f32 := constant S_ .f32 0x7F800000#32
  let main_v11 : FVec F S128x3x2x2x128 .f32 := broadcastInDim S128x3x2x2x128 ![] bcast_S_S128x3x2x2x128 main_cst_3
  let main_v12 : IVec S128x3x2x2x128 1 := cmpf .olt main_v10 main_v11
  let main_c_4 : IVec S_ 1 := constantI S_ 1 1#1
  let main_v13 : IVec S_ 1 := (fun x v => Host.reduce IntOp.andi x v reducesTo_S128x3x2x2x128_S_d0_1_2_3_4 h_S_) main_v12 main_c_4
  let main_v14 : IVec S_ 1 := andi main_v9 main_v13
  let main_v15 : FVec F S128x512x2x2x128 .f32 := Host.absf main_arg6
  let main_cst_5 : FVec F S_ .f32 := constant S_ .f32 0x7F800000#32
  fn_part1 (F := F) main_arg2 main_arg7 main_v5 main_v14 main_v15 main_cst_5
-- ==== Pre_table_in_pool.lean ====
abbrev S128x16 : Shape := ⟨2, ![128, 16]⟩
abbrev S128x8x128 : Shape := ⟨3, ![128, 8, 128]⟩
abbrev S128x2x128 : Shape := ⟨3, ![128, 2, 128]⟩
abbrev S128x3x2x2x128 : Shape := ⟨5, ![128, 3, 2, 2, 128]⟩
abbrev S128x3x2x4 : Shape := ⟨4, ![128, 3, 2, 4]⟩
abbrev S128x512x2x2x128 : Shape := ⟨5, ![128, 512, 2, 2, 128]⟩
abbrev S2560x128x2x2x128 : Shape := ⟨5, ![2560, 128, 2, 2, 128]⟩
abbrev S_ : Shape := ⟨0, ![]⟩

class Facts : Prop where
  bcast_S_S128x16 : S_.BroadcastsInDim S128x16 (![] : Fin 0 → Fin S128x16.rank)

variable [Facts]

def fn {F : FTy → Type} [FloatOps F] (main_arg0 : IVec S128x16 32) (main_arg1 : FVec F S128x8x128 .f32) (main_arg2 : FVec F S128x2x128 .f32) (main_arg3 : FVec F S128x3x2x2x128 .f32) (main_arg4 : FVec F S128x8x128 .f32) (main_arg5 : FVec F S128x3x2x4 .f32) (main_arg6 : FVec F S128x512x2x2x128 .f32) (main_arg7 : FVec F S2560x128x2x2x128 .f32) : IVec S128x16 1 :=
  let main_c : IVec S_ 32 := constantI S_ 32 0#32
  let main_v0 : IVec S128x16 32 := broadcastInDim S128x16 ![] bcast_S_S128x16 main_c
  let main_v1 : IVec S128x16 1 := cmpi .sge main_arg0 main_v0
  let main_c_0 : IVec S_ 32 := constantI S_ 32 2560#32
  let main_v2 : IVec S128x16 32 := broadcastInDim S128x16 ![] bcast_S_S128x16 main_c_0
  let main_v3 : IVec S128x16 1 := cmpi .slt main_arg0 main_v2
  let main_v4 : IVec S128x16 1 := andi main_v1 main_v3
  main_v4
-- ==== Attn.lean ====
abbrev S128x16 : Shape := ⟨2, ![128, 16]⟩
abbrev S128x8x128 : Shape := ⟨3, ![128, 8, 128]⟩
abbrev S128x2x128 : Shape := ⟨3, ![128, 2, 128]⟩
abbrev S128x3x2x2x128 : Shape := ⟨5, ![128, 3, 2, 2, 128]⟩
abbrev S128x3x2x4 : Shape := ⟨4, ![128, 3, 2, 4]⟩
abbrev S128x512x2x2x128 : Shape := ⟨5, ![128, 512, 2, 2, 128]⟩
abbrev S2560x128x2x2x128 : Shape := ⟨5, ![2560, 128, 2, 2, 128]⟩
abbrev S128x2x4x128 : Shape := ⟨4, ![128, 2, 4, 128]⟩
abbrev S_ : Shape := ⟨0, ![]⟩
abbrev S128x2x16x128 : Shape := ⟨4, ![128, 2, 16, 128]⟩
abbrev S128x1x24 : Shape := ⟨3, ![128, 1, 24]⟩
abbrev S128x1x128 : Shape := ⟨3, ![128, 1, 128]⟩
abbrev S128x3x512 : Shape := ⟨3, ![128, 3, 512]⟩
abbrev S128x2048x128 : Shape := ⟨3, ![128, 2048, 128]⟩
abbrev S1310720x128 : Shape := ⟨2, ![1310720, 128]⟩
abbrev S1x2x16x128 : Shape := ⟨4, ![1, 2, 16, 128]⟩
abbrev S1x2x128 : Shape := ⟨3, ![1, 2, 128]⟩
abbrev S1x3x512 : Shape := ⟨3, ![1, 3, 512]⟩
abbrev S1x1x128 : Shape := ⟨3, ![1, 1, 128]⟩
abbrev S1x2048x128 : Shape := ⟨3, ![1, 2048, 128]⟩
abbrev S512x128 : Shape := ⟨2, ![512, 128]⟩
abbrev S1x1 : Shape := ⟨2, ![1, 1]⟩
abbrev S1x128 : Shape := ⟨2, ![1, 128]⟩
abbrev S16x128 : Shape := ⟨2, ![16, 128]⟩
abbrev S1x1x16x128 : Shape := ⟨4, ![1, 1, 16, 128]⟩
abbrev S128x128 : Shape := ⟨2, ![128, 128]⟩
abbrev S2048x128 : Shape := ⟨2, ![2048, 128]⟩
abbrev S16x256 : Shape := ⟨2, ![16, 256]⟩
abbrev S2048x256 : Shape := ⟨2, ![2048, 256]⟩
abbrev S16x2048 : Shape := ⟨2, ![16, 2048]⟩
abbrev S1x2048 : Shape := ⟨2, ![1, 2048]⟩
abbrev S1 : Shape := ⟨1, ![1]⟩
abbrev S16 : Shape := ⟨1, ![16]⟩
abbrev S16x1 : Shape := ⟨2, ![16, 1]⟩
abbrev S1x512x128 : Shape := ⟨3, ![1, 512, 128]⟩
abbrev S16x512 : Shape := ⟨2, ![16, 512]⟩
abbrev S1x512 : Shape := ⟨2, ![1, 512]⟩

abbrev nBuf : Space → Nat
  | .hbm => 24
  | .vmem => 48
  | .smem => 1
  | _ => 0

abbrev bufTy : (tb : Table) → Fin (tcTables nBuf tb) → BufTy
  | .hbm, ⟨0, _⟩ => ⟨S128x8x128, .f32⟩
  | .hbm, ⟨1, _⟩ => ⟨S128x2x128, .f32⟩
  | .hbm, ⟨2, _⟩ => ⟨S128x3x2x2x128, .f32⟩
  | .hbm, ⟨3, _⟩ => ⟨S128x8x128, .f32⟩
  | .hbm, ⟨4, _⟩ => ⟨S128x3x2x4, .f32⟩
  | .hbm, ⟨5, _⟩ => ⟨S128x512x2x2x128, .f32⟩
  | .hbm, ⟨6, _⟩ => ⟨S2560x128x2x2x128, .f32⟩
  | .hbm, ⟨7, _⟩ => ⟨S128x2x4x128, .f32⟩
  | .hbm, ⟨8, _⟩ => ⟨S_, .i32⟩
  | .hbm, ⟨9, _⟩ => ⟨S_, .f32⟩
  | .hbm, ⟨10, _⟩ => ⟨S128x2x16x128, .f32⟩
  | .hbm, ⟨11, _⟩ => ⟨S128x2x4x128, .f32⟩
  | .hbm, ⟨12, _⟩ => ⟨S_, .i32⟩
  | .hbm, ⟨13, _⟩ => ⟨S_, .f32⟩
  | .hbm, ⟨14, _⟩ => ⟨S128x2x16x128, .f32⟩
  | .hbm, ⟨15, _⟩ => ⟨S128x1x24, .f32⟩
  | .hbm, ⟨16, _⟩ => ⟨S_, .i32⟩
  | .hbm, ⟨17, _⟩ => ⟨S_, .f32⟩
  | .hbm, ⟨18, _⟩ => ⟨S128x1x128, .f32⟩
  | .hbm, ⟨19, _⟩ => ⟨S128x3x512, .f32⟩
  | .hbm, ⟨20, _⟩ => ⟨S128x2048x128, .f32⟩
  | .hbm, ⟨21, _⟩ => ⟨S1310720x128, .f32⟩
  | .hbm, ⟨22, _⟩ => ⟨S128x2x16x128, .f32⟩
  | .hbm, ⟨23, _⟩ => ⟨S128x2048x128, .f32⟩
  | .local _ .vmem, ⟨0, _⟩ => ⟨S1x2x16x128, .f32⟩
  | .local _ .vmem, ⟨1, _⟩ => ⟨S1x2x16x128, .f32⟩
  | .local _ .vmem, ⟨2, _⟩ => ⟨S1x2x128, .f32⟩
  | .local _ .vmem, ⟨3, _⟩ => ⟨S1x2x128, .f32⟩
  | .local _ .vmem, ⟨4, _⟩ => ⟨S1x3x512, .f32⟩
  | .local _ .vmem, ⟨5, _⟩ => ⟨S1x3x512, .f32⟩
  | .local _ .vmem, ⟨6, _⟩ => ⟨S1x2x16x128, .f32⟩
  | .local _ .vmem, ⟨7, _⟩ => ⟨S1x2x16x128, .f32⟩
  | .local _ .vmem, ⟨8, _⟩ => ⟨S1x1x128, .f32⟩
  | .local _ .vmem, ⟨9, _⟩ => ⟨S1x1x128, .f32⟩
  | .local _ .vmem, ⟨10, _⟩ => ⟨S1x2048x128, .f32⟩
  | .local _ .vmem, ⟨11, _⟩ => ⟨S1x2048x128, .f32⟩
  | .local _ .vmem, ⟨12, _⟩ => ⟨S512x128, .f32⟩
  | .local _ .vmem, ⟨13, _⟩ => ⟨S512x128, .f32⟩
  | .local _ .vmem, ⟨14, _⟩ => ⟨S512x128, .f32⟩
  | .local _ .vmem, ⟨15, _⟩ => ⟨S512x128, .f32⟩
  | .local _ .vmem, ⟨16, _⟩ => ⟨S512x128, .f32⟩
  | .local _ .vmem, ⟨17, _⟩ => ⟨S512x128, .f32⟩
  | .local _ .vmem, ⟨18, _⟩ => ⟨S512x128, .f32⟩
  | .local _ .vmem, ⟨19, _⟩ => ⟨S512x128, .f32⟩
  | .local _ .vmem, ⟨20, _⟩ => ⟨S512x128, .f32⟩
  | .local _ .vmem, ⟨21, _⟩ => ⟨S512x128, .f32⟩
  | .local _ .vmem, ⟨22, _⟩ => ⟨S512x128, .f32⟩
  | .local _ .vmem, ⟨23, _⟩ => ⟨S512x128, .f32⟩
  | .local _ .vmem, ⟨24, _⟩ => ⟨S512x128, .f32⟩
  | .local _ .vmem, ⟨25, _⟩ => ⟨S512x128, .f32⟩
  | .local _ .vmem, ⟨26, _⟩ => ⟨S512x128, .f32⟩
  | .local _ .vmem, ⟨27, _⟩ => ⟨S512x128, .f32⟩
  | .local _ .vmem, ⟨28, _⟩ => ⟨S512x128, .f32⟩
  | .local _ .vmem, ⟨29, _⟩ => ⟨S512x128, .f32⟩
  | .local _ .vmem, ⟨30, _⟩ => ⟨S512x128, .f32⟩
  | .local _ .vmem, ⟨31, _⟩ => ⟨S512x128, .f32⟩
  | .local _ .vmem, ⟨32, _⟩ => ⟨S512x128, .f32⟩
  | .local _ .vmem, ⟨33, _⟩ => ⟨S512x128, .f32⟩
  | .local _ .vmem, ⟨34, _⟩ => ⟨S512x128, .f32⟩
  | .local _ .vmem, ⟨35, _⟩ => ⟨S512x128, .f32⟩
  | .local _ .vmem, ⟨36, _⟩ => ⟨S512x128, .f32⟩
  | .local _ .vmem, ⟨37, _⟩ => ⟨S512x128, .f32⟩
  | .local _ .vmem, ⟨38, _⟩ => ⟨S512x128, .f32⟩
  | .local _ .vmem, ⟨39, _⟩ => ⟨S512x128, .f32⟩
  | .local _ .vmem, ⟨40, _⟩ => ⟨S512x128, .f32⟩
  | .local _ .vmem, ⟨41, _⟩ => ⟨S512x128, .f32⟩
  | .local _ .vmem, ⟨42, _⟩ => ⟨S512x128, .f32⟩
  | .local _ .vmem, ⟨43, _⟩ => ⟨S512x128, .f32⟩
  | .local _ .vmem, ⟨44, _⟩ => ⟨S1x2x16x128, .f32⟩
  | .local _ .vmem, ⟨45, _⟩ => ⟨S1x2x16x128, .f32⟩
  | .local _ .vmem, ⟨46, _⟩ => ⟨S1x2048x128, .f32⟩
  | .local _ .vmem, ⟨47, _⟩ => ⟨S1x2048x128, .f32⟩
  | .local _ .smem, ⟨0, _⟩ => ⟨S128x16, .i32⟩
  | _, _ => ⟨S128x8x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | _, _ => false

abbrev semScoped : Fin 0 → Bool
  | ⟨_, h⟩ => absurd h (Nat.not_lt_zero _)

abbrev dmaSemScoped : Fin 48 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | _ => false

abbrev sig : RefSig :=
  ofTc nBuf bufTy 0 48 bufScoped semScoped dmaSemScoped tileCredit tileCredit_eq_zero tileCredit_pos

abbrev main_arg1 : Ref sig .tc := ⟨.hbm, 0, rfl⟩
abbrev main_arg2 : Ref sig .tc := ⟨.hbm, 1, rfl⟩
abbrev main_arg3 : Ref sig .tc := ⟨.hbm, 2, rfl⟩
abbrev main_arg4 : Ref sig .tc := ⟨.hbm, 3, rfl⟩
abbrev main_arg5 : Ref sig .tc := ⟨.hbm, 4, rfl⟩
abbrev main_arg6 : Ref sig .tc := ⟨.hbm, 5, rfl⟩
abbrev main_arg7 : Ref sig .tc := ⟨.hbm, 6, rfl⟩
abbrev main_v0 : Ref sig .tc := ⟨.hbm, 7, rfl⟩
abbrev main_c : Ref sig .tc := ⟨.hbm, 8, rfl⟩
abbrev main_call0_v0 : Ref sig .tc := ⟨.hbm, 9, rfl⟩
abbrev main_v1 : Ref sig .tc := ⟨.hbm, 10, rfl⟩
abbrev main_v2 : Ref sig .tc := ⟨.hbm, 11, rfl⟩
abbrev main_c_0 : Ref sig .tc := ⟨.hbm, 12, rfl⟩
abbrev main_call1_v0 : Ref sig .tc := ⟨.hbm, 13, rfl⟩
abbrev main_v3 : Ref sig .tc := ⟨.hbm, 14, rfl⟩
abbrev main_v4 : Ref sig .tc := ⟨.hbm, 15, rfl⟩
abbrev main_c_1 : Ref sig .tc := ⟨.hbm, 16, rfl⟩
abbrev main_call2_v0 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9_0 : Ref sig .tc := ⟨.hbm, 22, rfl⟩
abbrev main_v9_1 : Ref sig .tc := ⟨.hbm, 23, rfl⟩
abbrev main_arg0 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_stg13_0 : Ref sig .tc := ⟨.vmem, 26, rfl⟩
abbrev cc0_stg13_1 : Ref sig .tc := ⟨.vmem, 27, rfl⟩
abbrev cc0_stg14_0 : Ref sig .tc := ⟨.vmem, 28, rfl⟩
abbrev cc0_stg14_1 : Ref sig .tc := ⟨.vmem, 29, rfl⟩
abbrev cc0_stg15_0 : Ref sig .tc := ⟨.vmem, 30, rfl⟩
abbrev cc0_stg15_1 : Ref sig .tc := ⟨.vmem, 31, rfl⟩
abbrev cc0_stg16_0 : Ref sig .tc := ⟨.vmem, 32, rfl⟩
abbrev cc0_stg16_1 : Ref sig .tc := ⟨.vmem, 33, rfl⟩
abbrev cc0_stg17_0 : Ref sig .tc := ⟨.vmem, 34, rfl⟩
abbrev cc0_stg17_1 : Ref sig .tc := ⟨.vmem, 35, rfl⟩
abbrev cc0_stg18_0 : Ref sig .tc := ⟨.vmem, 36, rfl⟩
abbrev cc0_stg18_1 : Ref sig .tc := ⟨.vmem, 37, rfl⟩
abbrev cc0_stg19_0 : Ref sig .tc := ⟨.vmem, 38, rfl⟩
abbrev cc0_stg19_1 : Ref sig .tc := ⟨.vmem, 39, rfl⟩
abbrev cc0_stg20_0 : Ref sig .tc := ⟨.vmem, 40, rfl⟩
abbrev cc0_stg20_1 : Ref sig .tc := ⟨.vmem, 41, rfl⟩
abbrev cc0_stg21_0 : Ref sig .tc := ⟨.vmem, 42, rfl⟩
abbrev cc0_stg21_1 : Ref sig .tc := ⟨.vmem, 43, rfl⟩
abbrev cc0_stg22_0 : Ref sig .tc := ⟨.vmem, 44, rfl⟩
abbrev cc0_stg22_1 : Ref sig .tc := ⟨.vmem, 45, rfl⟩
abbrev cc0_stg23_0 : Ref sig .tc := ⟨.vmem, 46, rfl⟩
abbrev cc0_stg23_1 : Ref sig .tc := ⟨.vmem, 47, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25
abbrev cc0_sem13_0 : DmaSem sig := 26
abbrev cc0_sem13_1 : DmaSem sig := 27
abbrev cc0_sem14_0 : DmaSem sig := 28
abbrev cc0_sem14_1 : DmaSem sig := 29
abbrev cc0_sem15_0 : DmaSem sig := 30
abbrev cc0_sem15_1 : DmaSem sig := 31
abbrev cc0_sem16_0 : DmaSem sig := 32
abbrev cc0_sem16_1 : DmaSem sig := 33
abbrev cc0_sem17_0 : DmaSem sig := 34
abbrev cc0_sem17_1 : DmaSem sig := 35
abbrev cc0_sem18_0 : DmaSem sig := 36
abbrev cc0_sem18_1 : DmaSem sig := 37
abbrev cc0_sem19_0 : DmaSem sig := 38
abbrev cc0_sem19_1 : DmaSem sig := 39
abbrev cc0_sem20_0 : DmaSem sig := 40
abbrev cc0_sem20_1 : DmaSem sig := 41
abbrev cc0_sem21_0 : DmaSem sig := 42
abbrev cc0_sem21_1 : DmaSem sig := 43
abbrev cc0_sem22_0 : DmaSem sig := 44
abbrev cc0_sem22_1 : DmaSem sig := 45
abbrev cc0_sem23_0 : DmaSem sig := 46
abbrev cc0_sem23_1 : DmaSem sig := 47

abbrev nD : Nat := 1
abbrev τ : Topo := Topo.v7x

variable {F : FTy → Type} [FloatOps F]

abbrev grid0 : Pipeline.Grid := ⟨1, ![128], ![false]⟩

abbrev pre0 : Pipeline.Prefetch sig := ⟨1, ![main_arg0.idx], fun | 0 => main_arg0.names | ⟨_ + 1, h⟩ => absurd h (Nat.not_lt.2 (Nat.le_add_left _ _)), fun | 0 => rfl | ⟨_ + 1, h⟩ => absurd h (Nat.not_lt.2 (Nat.le_add_left _ _))⟩

def k0_off1 (i : grid0.Coords) : Fin 2 → Nat :=
  let arg0 : BitVec 32 := BitVec.ofNat 32 (i 0).val
  let v0 : Index := Scalar.indexCast arg0
  let c0 : Index := 0#32
  ![v0.toNat, 0]
def k0_off2 (i : grid0.Coords) : Fin 2 → Nat :=
  let arg0 : BitVec 32 := BitVec.ofNat 32 (i 0).val
  let v0 : Index := Scalar.indexCast arg0
  let c1 : Index := 1#32
  ![v0.toNat, 1]
def k0_off3 (i : grid0.Coords) : Fin 2 → Nat :=
  let arg0 : BitVec 32 := BitVec.ofNat 32 (i 0).val
  let v0 : Index := Scalar.indexCast arg0
  let c2 : Index := 2#32
  ![v0.toNat, 2]
def k0_off4 (i : grid0.Coords) : Fin 2 → Nat :=
  let arg0 : BitVec 32 := BitVec.ofNat 32 (i 0).val
  let v0 : Index := Scalar.indexCast arg0
  let c3 : Index := 3#32
  ![v0.toNat, 3]
def k0_off5 (i : grid0.Coords) : Fin 2 → Nat :=
  let arg0 : BitVec 32 := BitVec.ofNat 32 (i 0).val
  let v0 : Index := Scalar.indexCast arg0
  let c4 : Index := 4#32
  ![v0.toNat, 4]
def k0_off6 (i : grid0.Coords) : Fin 2 → Nat :=
  let arg0 : BitVec 32 := BitVec.ofNat 32 (i 0).val
  let v0 : Index := Scalar.indexCast arg0
  let c5 : Index := 5#32
  ![v0.toNat, 5]
def k0_off7 (i : grid0.Coords) : Fin 2 → Nat :=
  let arg0 : BitVec 32 := BitVec.ofNat 32 (i 0).val
  let v0 : Index := Scalar.indexCast arg0
  let c6 : Index := 6#32
  ![v0.toNat, 6]
def k0_off8 (i : grid0.Coords) : Fin 2 → Nat :=
  let arg0 : BitVec 32 := BitVec.ofNat 32 (i 0).val
  let v0 : Index := Scalar.indexCast arg0
  let c7 : Index := 7#32
  ![v0.toNat, 7]
def k0_off9 (i : grid0.Coords) : Fin 2 → Nat :=
  let arg0 : BitVec 32 := BitVec.ofNat 32 (i 0).val
  let v0 : Index := Scalar.indexCast arg0
  let c8 : Index := 8#32
  ![v0.toNat, 8]
def k0_off10 (i : grid0.Coords) : Fin 2 → Nat :=
  let arg0 : BitVec 32 := BitVec.ofNat 32 (i 0).val
  let v0 : Index := Scalar.indexCast arg0
  let c9 : Index := 9#32
  ![v0.toNat, 9]
def k0_off11 (i : grid0.Coords) : Fin 2 → Nat :=
  let arg0 : BitVec 32 := BitVec.ofNat 32 (i 0).val
  let v0 : Index := Scalar.indexCast arg0
  let c10 : Index := 10#32
  ![v0.toNat, 10]
def k0_off12 (i : grid0.Coords) : Fin 2 → Nat :=
  let arg0 : BitVec 32 := BitVec.ofNat 32 (i 0).val
  let v0 : Index := Scalar.indexCast arg0
  let c11 : Index := 11#32
  ![v0.toNat, 11]
def k0_off13 (i : grid0.Coords) : Fin 2 → Nat :=
  let arg0 : BitVec 32 := BitVec.ofNat 32 (i 0).val
  let v0 : Index := Scalar.indexCast arg0
  let c12 : Index := 12#32
  ![v0.toNat, 12]
def k0_off14 (i : grid0.Coords) : Fin 2 → Nat :=
  let arg0 : BitVec 32 := BitVec.ofNat 32 (i 0).val
  let v0 : Index := Scalar.indexCast arg0
  let c13 : Index := 13#32
  ![v0.toNat, 13]
def k0_off15 (i : grid0.Coords) : Fin 2 → Nat :=
  let arg0 : BitVec 32 := BitVec.ofNat 32 (i 0).val
  let v0 : Index := Scalar.indexCast arg0
  let c14 : Index := 14#32
  ![v0.toNat, 14]
def k0_off16 (i : grid0.Coords) : Fin 2 → Nat :=
  let arg0 : BitVec 32 := BitVec.ofNat 32 (i 0).val
  let v0 : Index := Scalar.indexCast arg0
  let c15 : Index := 15#32
  ![v0.toNat, 15]
def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_6 (k0_off1_inb : ∀ i : grid0.Coords, ∀ a, (k0_off1 i) a + S1x1.size a ≤ S128x16.size a) (numel1_S1x1 : S1x1.numel = 1) (pf : pre0.Contents (Elt F)) (i : grid0.Coords) : Fin 2 → Nat :=
  let arg0 : BitVec 32 := BitVec.ofNat 32 (i 0).val
  let v0 : Index := Scalar.indexCast arg0
  let c0 : Index := 0#32
  let v1 : BitVec 32 := pf.at 0 (Rect.unit (s := S128x16) ![v0.toNat, 0] S1x1.size (k0_off1_inb i)) numel1_S1x1
  let c0_i32 : BitVec 32 := 0#32
  let c0_i32_0 : BitVec 32 := 0#32
  ![v1.toNat, c0_i32.toNat]

def cc0_transform_7 (k0_off2_inb : ∀ i : grid0.Coords, ∀ a, (k0_off2 i) a + S1x1.size a ≤ S128x16.size a) (numel1_S1x1 : S1x1.numel = 1) (pf : pre0.Contents (Elt F)) (i : grid0.Coords) : Fin 2 → Nat :=
  let arg0 : BitVec 32 := BitVec.ofNat 32 (i 0).val
  let v0 : Index := Scalar.indexCast arg0
  let c1 : Index := 1#32
  let v1 : BitVec 32 := pf.at 0 (Rect.unit (s := S128x16) ![v0.toNat, 1] S1x1.size (k0_off2_inb i)) numel1_S1x1
  let c0_i32 : BitVec 32 := 0#32
  let c0_i32_0 : BitVec 32 := 0#32
  ![v1.toNat, c0_i32.toNat]

def cc0_transform_8 (k0_off3_inb : ∀ i : grid0.Coords, ∀ a, (k0_off3 i) a + S1x1.size a ≤ S128x16.size a) (numel1_S1x1 : S1x1.numel = 1) (pf : pre0.Contents (Elt F)) (i : grid0.Coords) : Fin 2 → Nat :=
  let arg0 : BitVec 32 := BitVec.ofNat 32 (i 0).val
  let v0 : Index := Scalar.indexCast arg0
  let c2 : Index := 2#32
  let v1 : BitVec 32 := pf.at 0 (Rect.unit (s := S128x16) ![v0.toNat, 2] S1x1.size (k0_off3_inb i)) numel1_S1x1
  let c0_i32 : BitVec 32 := 0#32
  let c0_i32_0 : BitVec 32 := 0#32
  ![v1.toNat, c0_i32.toNat]

def cc0_transform_9 (k0_off4_inb : ∀ i : grid0.Coords, ∀ a, (k0_off4 i) a + S1x1.size a ≤ S128x16.size a) (numel1_S1x1 : S1x1.numel = 1) (pf : pre0.Contents (Elt F)) (i : grid0.Coords) : Fin 2 → Nat :=
  let arg0 : BitVec 32 := BitVec.ofNat 32 (i 0).val
  let v0 : Index := Scalar.indexCast arg0
  let c3 : Index := 3#32
  let v1 : BitVec 32 := pf.at 0 (Rect.unit (s := S128x16) ![v0.toNat, 3] S1x1.size (k0_off4_inb i)) numel1_S1x1
  let c0_i32 : BitVec 32 := 0#32
  let c0_i32_0 : BitVec 32 := 0#32
  ![v1.toNat, c0_i32.toNat]

def cc0_transform_10 (k0_off5_inb : ∀ i : grid0.Coords, ∀ a, (k0_off5 i) a + S1x1.size a ≤ S128x16.size a) (numel1_S1x1 : S1x1.numel = 1) (pf : pre0.Contents (Elt F)) (i : grid0.Coords) : Fin 2 → Nat :=
  let arg0 : BitVec 32 := BitVec.ofNat 32 (i 0).val
  let v0 : Index := Scalar.indexCast arg0
  let c4 : Index := 4#32
  let v1 : BitVec 32 := pf.at 0 (Rect.unit (s := S128x16) ![v0.toNat, 4] S1x1.size (k0_off5_inb i)) numel1_S1x1
  let c0_i32 : BitVec 32 := 0#32
  let c0_i32_0 : BitVec 32 := 0#32
  ![v1.toNat, c0_i32.toNat]

def cc0_transform_11 (k0_off6_inb : ∀ i : grid0.Coords, ∀ a, (k0_off6 i) a + S1x1.size a ≤ S128x16.size a) (numel1_S1x1 : S1x1.numel = 1) (pf : pre0.Contents (Elt F)) (i : grid0.Coords) : Fin 2 → Nat :=
  let arg0 : BitVec 32 := BitVec.ofNat 32 (i 0).val
  let v0 : Index := Scalar.indexCast arg0
  let c5 : Index := 5#32
  let v1 : BitVec 32 := pf.at 0 (Rect.unit (s := S128x16) ![v0.toNat, 5] S1x1.size (k0_off6_inb i)) numel1_S1x1
  let c0_i32 : BitVec 32 := 0#32
  let c0_i32_0 : BitVec 32 := 0#32
  ![v1.toNat, c0_i32.toNat]

def cc0_transform_12 (k0_off7_inb : ∀ i : grid0.Coords, ∀ a, (k0_off7 i) a + S1x1.size a ≤ S128x16.size a) (numel1_S1x1 : S1x1.numel = 1) (pf : pre0.Contents (Elt F)) (i : grid0.Coords) : Fin 2 → Nat :=
  let arg0 : BitVec 32 := BitVec.ofNat 32 (i 0).val
  let v0 : Index := Scalar.indexCast arg0
  let c6 : Index := 6#32
  let v1 : BitVec 32 := pf.at 0 (Rect.unit (s := S128x16) ![v0.toNat, 6] S1x1.size (k0_off7_inb i)) numel1_S1x1
  let c0_i32 : BitVec 32 := 0#32
  let c0_i32_0 : BitVec 32 := 0#32
  ![v1.toNat, c0_i32.toNat]

def cc0_transform_13 (k0_off8_inb : ∀ i : grid0.Coords, ∀ a, (k0_off8 i) a + S1x1.size a ≤ S128x16.size a) (numel1_S1x1 : S1x1.numel = 1) (pf : pre0.Contents (Elt F)) (i : grid0.Coords) : Fin 2 → Nat :=
  let arg0 : BitVec 32 := BitVec.ofNat 32 (i 0).val
  let v0 : Index := Scalar.indexCast arg0
  let c7 : Index := 7#32
  let v1 : BitVec 32 := pf.at 0 (Rect.unit (s := S128x16) ![v0.toNat, 7] S1x1.size (k0_off8_inb i)) numel1_S1x1
  let c0_i32 : BitVec 32 := 0#32
  let c0_i32_0 : BitVec 32 := 0#32
  ![v1.toNat, c0_i32.toNat]

def cc0_transform_14 (k0_off9_inb : ∀ i : grid0.Coords, ∀ a, (k0_off9 i) a + S1x1.size a ≤ S128x16.size a) (numel1_S1x1 : S1x1.numel = 1) (pf : pre0.Contents (Elt F)) (i : grid0.Coords) : Fin 2 → Nat :=
  let arg0 : BitVec 32 := BitVec.ofNat 32 (i 0).val
  let v0 : Index := Scalar.indexCast arg0
  let c8 : Index := 8#32
  let v1 : BitVec 32 := pf.at 0 (Rect.unit (s := S128x16) ![v0.toNat, 8] S1x1.size (k0_off9_inb i)) numel1_S1x1
  let c0_i32 : BitVec 32 := 0#32
  let c0_i32_0 : BitVec 32 := 0#32
  ![v1.toNat, c0_i32.toNat]

def cc0_transform_15 (k0_off10_inb : ∀ i : grid0.Coords, ∀ a, (k0_off10 i) a + S1x1.size a ≤ S128x16.size a) (numel1_S1x1 : S1x1.numel = 1) (pf : pre0.Contents (Elt F)) (i : grid0.Coords) : Fin 2 → Nat :=
  let arg0 : BitVec 32 := BitVec.ofNat 32 (i 0).val
  let v0 : Index := Scalar.indexCast arg0
  let c9 : Index := 9#32
  let v1 : BitVec 32 := pf.at 0 (Rect.unit (s := S128x16) ![v0.toNat, 9] S1x1.size (k0_off10_inb i)) numel1_S1x1
  let c0_i32 : BitVec 32 := 0#32
  let c0_i32_0 : BitVec 32 := 0#32
  ![v1.toNat, c0_i32.toNat]

def cc0_transform_16 (k0_off11_inb : ∀ i : grid0.Coords, ∀ a, (k0_off11 i) a + S1x1.size a ≤ S128x16.size a) (numel1_S1x1 : S1x1.numel = 1) (pf : pre0.Contents (Elt F)) (i : grid0.Coords) : Fin 2 → Nat :=
  let arg0 : BitVec 32 := BitVec.ofNat 32 (i 0).val
  let v0 : Index := Scalar.indexCast arg0
  let c10 : Index := 10#32
  let v1 : BitVec 32 := pf.at 0 (Rect.unit (s := S128x16) ![v0.toNat, 10] S1x1.size (k0_off11_inb i)) numel1_S1x1
  let c0_i32 : BitVec 32 := 0#32
  let c0_i32_0 : BitVec 32 := 0#32
  ![v1.toNat, c0_i32.toNat]

def cc0_transform_17 (k0_off12_inb : ∀ i : grid0.Coords, ∀ a, (k0_off12 i) a + S1x1.size a ≤ S128x16.size a) (numel1_S1x1 : S1x1.numel = 1) (pf : pre0.Contents (Elt F)) (i : grid0.Coords) : Fin 2 → Nat :=
  let arg0 : BitVec 32 := BitVec.ofNat 32 (i 0).val
  let v0 : Index := Scalar.indexCast arg0
  let c11 : Index := 11#32
  let v1 : BitVec 32 := pf.at 0 (Rect.unit (s := S128x16) ![v0.toNat, 11] S1x1.size (k0_off12_inb i)) numel1_S1x1
  let c0_i32 : BitVec 32 := 0#32
  let c0_i32_0 : BitVec 32 := 0#32
  ![v1.toNat, c0_i32.toNat]

def cc0_transform_18 (k0_off13_inb : ∀ i : grid0.Coords, ∀ a, (k0_off13 i) a + S1x1.size a ≤ S128x16.size a) (numel1_S1x1 : S1x1.numel = 1) (pf : pre0.Contents (Elt F)) (i : grid0.Coords) : Fin 2 → Nat :=
  let arg0 : BitVec 32 := BitVec.ofNat 32 (i 0).val
  let v0 : Index := Scalar.indexCast arg0
  let c12 : Index := 12#32
  let v1 : BitVec 32 := pf.at 0 (Rect.unit (s := S128x16) ![v0.toNat, 12] S1x1.size (k0_off13_inb i)) numel1_S1x1
  let c0_i32 : BitVec 32 := 0#32
  let c0_i32_0 : BitVec 32 := 0#32
  ![v1.toNat, c0_i32.toNat]

def cc0_transform_19 (k0_off14_inb : ∀ i : grid0.Coords, ∀ a, (k0_off14 i) a + S1x1.size a ≤ S128x16.size a) (numel1_S1x1 : S1x1.numel = 1) (pf : pre0.Contents (Elt F)) (i : grid0.Coords) : Fin 2 → Nat :=
  let arg0 : BitVec 32 := BitVec.ofNat 32 (i 0).val
  let v0 : Index := Scalar.indexCast arg0
  let c13 : Index := 13#32
  let v1 : BitVec 32 := pf.at 0 (Rect.unit (s := S128x16) ![v0.toNat, 13] S1x1.size (k0_off14_inb i)) numel1_S1x1
  let c0_i32 : BitVec 32 := 0#32
  let c0_i32_0 : BitVec 32 := 0#32
  ![v1.toNat, c0_i32.toNat]

def cc0_transform_20 (k0_off15_inb : ∀ i : grid0.Coords, ∀ a, (k0_off15 i) a + S1x1.size a ≤ S128x16.size a) (numel1_S1x1 : S1x1.numel = 1) (pf : pre0.Contents (Elt F)) (i : grid0.Coords) : Fin 2 → Nat :=
  let arg0 : BitVec 32 := BitVec.ofNat 32 (i 0).val
  let v0 : Index := Scalar.indexCast arg0
  let c14 : Index := 14#32
  let v1 : BitVec 32 := pf.at 0 (Rect.unit (s := S128x16) ![v0.toNat, 14] S1x1.size (k0_off15_inb i)) numel1_S1x1
  let c0_i32 : BitVec 32 := 0#32
  let c0_i32_0 : BitVec 32 := 0#32
  ![v1.toNat, c0_i32.toNat]

def cc0_transform_21 (k0_off16_inb : ∀ i : grid0.Coords, ∀ a, (k0_off16 i) a + S1x1.size a ≤ S128x16.size a) (numel1_S1x1 : S1x1.numel = 1) (pf : pre0.Contents (Elt F)) (i : grid0.Coords) : Fin 2 → Nat :=
  let arg0 : BitVec 32 := BitVec.ofNat 32 (i 0).val
  let v0 : Index := Scalar.indexCast arg0
  let c15 : Index := 15#32
  let v1 : BitVec 32 := pf.at 0 (Rect.unit (s := S128x16) ![v0.toNat, 15] S1x1.size (k0_off16_inb i)) numel1_S1x1
  let c0_i32 : BitVec 32 := 0#32
  let c0_i32_0 : BitVec 32 := 0#32
  ![v1.toNat, c0_i32.toNat]

def cc0_transform_22 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_23 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x2x16x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x2x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x3x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x2x16x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x1x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x2048x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x128 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S512x128 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S512x128 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S512x128 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S512x128 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S512x128 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S512x128 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]

abbrev stage0_19 : Fin 2 → Memref sig .tc .vmem S512x128 .f32 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true]

abbrev stage0_20 : Fin 2 → Memref sig .tc .vmem S512x128 .f32 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true]

abbrev stage0_21 : Fin 2 → Memref sig .tc .vmem S512x128 .f32 := fun | 0 => Memref.whole cc0_stg21_0 | 1 => Memref.whole cc0_stg21_1 | ⟨_ + 2, h⟩ => absurd h (Nat.not_lt.2 (Nat.le_add_left _ _))
abbrev sem0_21 : Fin 2 → DmaSem sig := fun | 0 => cc0_sem21_0 | 1 => cc0_sem21_1 | ⟨_ + 2, h⟩ => absurd h (Nat.not_lt.2 (Nat.le_add_left _ _))
abbrev reads0_21 : Fin grid0.rank → Bool := ![true]

abbrev stage0_22 : Fin 2 → Memref sig .tc .vmem S1x2x16x128 .f32 := fun | 0 => Memref.whole cc0_stg22_0 | 1 => Memref.whole cc0_stg22_1 | ⟨_ + 2, h⟩ => absurd h (Nat.not_lt.2 (Nat.le_add_left _ _))
abbrev sem0_22 : Fin 2 → DmaSem sig := fun | 0 => cc0_sem22_0 | 1 => cc0_sem22_1 | ⟨_ + 2, h⟩ => absurd h (Nat.not_lt.2 (Nat.le_add_left _ _))
abbrev reads0_22 : Fin grid0.rank → Bool := ![true]

abbrev stage0_23 : Fin 2 → Memref sig .tc .vmem S1x2048x128 .f32 := fun | 0 => Memref.whole cc0_stg23_0 | 1 => Memref.whole cc0_stg23_1 | ⟨_ + 2, h⟩ => absurd h (Nat.not_lt.2 (Nat.le_add_left _ _))
abbrev sem0_23 : Fin 2 → DmaSem sig := fun | 0 => cc0_sem23_0 | 1 => cc0_sem23_1 | ⟨_ + 2, h⟩ => absurd h (Nat.not_lt.2 (Nat.le_add_left _ _))
abbrev reads0_23 : Fin grid0.rank → Bool := ![true]
-- ==== AttnIdeal.lean ====
variable {F : FTy → Type} [FloatOps F] [Named F]
def κ : String → Option EReal := fun
  | "masked" => some ⊥
  | _ => none
-- ==== AttnRefIdeal.lean ====
abbrev S128x16 : Shape := ⟨2, ![128, 16]⟩
abbrev S128x8x128 : Shape := ⟨3, ![128, 8, 128]⟩
abbrev S128x2x128 : Shape := ⟨3, ![128, 2, 128]⟩
abbrev S128x3x2x2x128 : Shape := ⟨5, ![128, 3, 2, 2, 128]⟩
abbrev S128x3x2x4 : Shape := ⟨4, ![128, 3, 2, 4]⟩
abbrev S128x512x2x2x128 : Shape := ⟨5, ![128, 512, 2, 2, 128]⟩
abbrev S2560x128x2x2x128 : Shape := ⟨5, ![2560, 128, 2, 2, 128]⟩
abbrev S128x2x4x128 : Shape := ⟨4, ![128, 2, 4, 128]⟩
abbrev S_ : Shape := ⟨0, ![]⟩
abbrev S128x16x1 : Shape := ⟨3, ![128, 16, 1]⟩
abbrev S128x16x128x2x2x128 : Shape := ⟨6, ![128, 16, 128, 2, 2, 128]⟩
abbrev S128x2048x2x2x128 : Shape := ⟨5, ![128, 2048, 2, 2, 128]⟩
abbrev S128x1x2x2x128 : Shape := ⟨5, ![128, 1, 2, 2, 128]⟩
abbrev S128x2049x2x2x128 : Shape := ⟨5, ![128, 2049, 2, 2, 128]⟩
abbrev S128x2x128x64 : Shape := ⟨4, ![128, 2, 128, 64]⟩
abbrev S128x2x8192 : Shape := ⟨3, ![128, 2, 8192]⟩
abbrev S128x2x2049 : Shape := ⟨3, ![128, 2, 2049]⟩
abbrev S128x2x1x2049 : Shape := ⟨4, ![128, 2, 1, 2049]⟩
abbrev S128x2049x2x1x128 : Shape := ⟨5, ![128, 2049, 2, 1, 128]⟩
abbrev S128x2049x2x128 : Shape := ⟨4, ![128, 2049, 2, 128]⟩
abbrev S128x2x4x2049 : Shape := ⟨4, ![128, 2, 4, 2049]⟩
abbrev S128x2x4 : Shape := ⟨3, ![128, 2, 4]⟩
abbrev S128x2x4x1 : Shape := ⟨4, ![128, 2, 4, 1]⟩
abbrev S128x513x2x2x128 : Shape := ⟨5, ![128, 513, 2, 2, 128]⟩
abbrev S513 : Shape := ⟨1, ![513]⟩
abbrev S128x513x2x1x128 : Shape := ⟨5, ![128, 513, 2, 1, 128]⟩
abbrev S128x513x2x128 : Shape := ⟨4, ![128, 513, 2, 128]⟩
abbrev S128x2x4x513 : Shape := ⟨4, ![128, 2, 4, 513]⟩
abbrev S128x3x2x4x1 : Shape := ⟨5, ![128, 3, 2, 4, 1]⟩
abbrev S128x1x2x4x1 : Shape := ⟨5, ![128, 1, 2, 4, 1]⟩
abbrev S128x2x16x128 : Shape := ⟨4, ![128, 2, 16, 128]⟩
abbrev S128x2048x128 : Shape := ⟨3, ![128, 2048, 128]⟩

abbrev nBuf : Space → Nat
  | .hbm => 133
  | .vmem => 0
  | .smem => 0
  | _ => 0

abbrev hbmTy0_0 (i : Nat) : BufTy := match i % 128 with
  | 0 => ⟨S128x16, .i32⟩
  | 1 => ⟨S128x8x128, .f32⟩
  | 2 => ⟨S128x2x128, .f32⟩
  | 3 => ⟨S128x3x2x2x128, .f32⟩
  | 4 => ⟨S128x8x128, .f32⟩
  | 5 => ⟨S128x3x2x4, .f32⟩
  | 6 => ⟨S128x512x2x2x128, .f32⟩
  | 7 => ⟨S2560x128x2x2x128, .f32⟩
  | 8 => ⟨S128x2x4x128, .f32⟩
  | 9 => ⟨S_, .i32⟩
  | 10 => ⟨S128x16, .i32⟩
  | 11 => ⟨S128x16, .i1⟩
  | 12 => ⟨S_, .i32⟩
  | 13 => ⟨S128x16, .i32⟩
  | 14 => ⟨S128x16, .i32⟩
  | 15 => ⟨S128x16, .i32⟩
  | 16 => ⟨S128x16x1, .i32⟩
  | 17 => ⟨S128x16x128x2x2x128, .f32⟩
  | 18 => ⟨S128x2048x2x2x128, .f32⟩
  | 19 => ⟨S128x1x2x2x128, .f32⟩
  | 20 => ⟨S128x2049x2x2x128, .f32⟩
  | 21 => ⟨S_, .f32⟩
  | 22 => ⟨S128x2x128, .f32⟩
  | 23 => ⟨S128x2x128, .i1⟩
  | 24 => ⟨S128x2x128x64, .i1⟩
  | 25 => ⟨S128x2x8192, .i1⟩
  | 26 => ⟨S128x2x2049, .i1⟩
  | 27 => ⟨S128x2x1x2049, .i1⟩
  | 28 => ⟨S128x2049x2x1x128, .f32⟩
  | 29 => ⟨S128x2049x2x128, .f32⟩
  | 30 => ⟨S128x2049x2x1x128, .f32⟩
  | 31 => ⟨S128x2049x2x128, .f32⟩
  | 32 => ⟨S128x2x4x2049, .i1⟩
  | 33 => ⟨S128x2x4x2049, .f32⟩
  | 34 => ⟨S_, .f32⟩
  | 35 => ⟨S128x2x4x2049, .f32⟩
  | 36 => ⟨S128x2x4x2049, .f32⟩
  | 37 => ⟨S_, .f32⟩
  | 38 => ⟨S_, .f32⟩
  | 39 => ⟨S128x2x4x2049, .f32⟩
  | 40 => ⟨S128x2x4x2049, .f32⟩
  | 41 => ⟨S_, .f32⟩
  | 42 => ⟨S128x2x4, .f32⟩
  | 43 => ⟨S128x2x4x1, .f32⟩
  | 44 => ⟨S128x2x4x2049, .f32⟩
  | 45 => ⟨S128x2x4x2049, .f32⟩
  | 46 => ⟨S128x2x4x2049, .f32⟩
  | 47 => ⟨S_, .f32⟩
  | 48 => ⟨S_, .f32⟩
  | 49 => ⟨S128x2x4x2049, .f32⟩
  | 50 => ⟨S128x2x4x2049, .f32⟩
  | 51 => ⟨S_, .f32⟩
  | 52 => ⟨S128x2x4, .f32⟩
  | 53 => ⟨S128x2x4x1, .f32⟩
  | 54 => ⟨S_, .f32⟩
  | 55 => ⟨S128x2x4x1, .f32⟩
  | 56 => ⟨S128x2x4x1, .f32⟩
  | 57 => ⟨S128x2x4x2049, .f32⟩
  | 58 => ⟨S128x2x4x2049, .f32⟩
  | 59 => ⟨S128x2x4x128, .f32⟩
  | 60 => ⟨S128x1x2x2x128, .f32⟩
  | 61 => ⟨S128x513x2x2x128, .f32⟩
  | 62 => ⟨S513, .i32⟩
  | 63 => ⟨S_, .i32⟩
  | 64 => ⟨S513, .i32⟩
  | 65 => ⟨S513, .i32⟩
  | 66 => ⟨S_, .i32⟩
  | 67 => ⟨S513, .i32⟩
  | 68 => ⟨S513, .i1⟩
  | 69 => ⟨S_, .i32⟩
  | 70 => ⟨S513, .i32⟩
  | 71 => ⟨S513, .i32⟩
  | 72 => ⟨S_, .i32⟩
  | 73 => ⟨S513, .i32⟩
  | 74 => ⟨S513, .i1⟩
  | 75 => ⟨S513, .i1⟩
  | 76 => ⟨S_, .i32⟩
  | 77 => ⟨S513, .i32⟩
  | 78 => ⟨S513, .i1⟩
  | 79 => ⟨S513, .i1⟩
  | 80 => ⟨S128x513x2x1x128, .f32⟩
  | 81 => ⟨S128x513x2x128, .f32⟩
  | 82 => ⟨S128x513x2x1x128, .f32⟩
  | 83 => ⟨S128x513x2x128, .f32⟩
  | 84 => ⟨S128x2x4x513, .i1⟩
  | 85 => ⟨S128x2x4x513, .f32⟩
  | 86 => ⟨S_, .f32⟩
  | 87 => ⟨S128x2x4x513, .f32⟩
  | 88 => ⟨S128x2x4x513, .f32⟩
  | 89 => ⟨S_, .f32⟩
  | 90 => ⟨S_, .f32⟩
  | 91 => ⟨S128x2x4x513, .f32⟩
  | 92 => ⟨S128x2x4x513, .f32⟩
  | 93 => ⟨S_, .f32⟩
  | 94 => ⟨S128x2x4, .f32⟩
  | 95 => ⟨S128x2x4x1, .f32⟩
  | 96 => ⟨S128x2x4x513, .f32⟩
  | 97 => ⟨S128x2x4x513, .f32⟩
  | 98 => ⟨S128x2x4x513, .f32⟩
  | 99 => ⟨S_, .f32⟩
  | 100 => ⟨S_, .f32⟩
  | 101 => ⟨S128x2x4x513, .f32⟩
  | 102 => ⟨S128x2x4x513, .f32⟩
  | 103 => ⟨S_, .f32⟩
  | 104 => ⟨S128x2x4, .f32⟩
  | 105 => ⟨S128x2x4x1, .f32⟩
  | 106 => ⟨S_, .f32⟩
  | 107 => ⟨S128x2x4x1, .f32⟩
  | 108 => ⟨S128x2x4x1, .f32⟩
  | 109 => ⟨S128x2x4x513, .f32⟩
  | 110 => ⟨S128x2x4x513, .f32⟩
  | 111 => ⟨S128x2x4x128, .f32⟩
  | 112 => ⟨S128x3x2x4x1, .f32⟩
  | 113 => ⟨S128x1x2x4x1, .f32⟩
  | 114 => ⟨S128x2x4x1, .f32⟩
  | 115 => ⟨S128x2x4x128, .f32⟩
  | 116 => ⟨S128x2x4x128, .f32⟩
  | 117 => ⟨S128x2x4x128, .f32⟩
  | 118 => ⟨S128x1x2x4x1, .f32⟩
  | 119 => ⟨S128x2x4x1, .f32⟩
  | 120 => ⟨S128x2x4x128, .f32⟩
  | 121 => ⟨S128x2x4x128, .f32⟩
  | 122 => ⟨S128x2x4x128, .f32⟩
  | 123 => ⟨S128x1x2x4x1, .f32⟩
  | 124 => ⟨S128x2x4x1, .f32⟩
  | 125 => ⟨S128x2x4x128, .f32⟩
  | 126 => ⟨S128x2x4x128, .f32⟩
  | 127 => ⟨S128x2x4x128, .f32⟩
  | _ => ⟨S128x16, .i32⟩

abbrev hbmTy0_1 (i : Nat) : BufTy := match i % 128 with
  | 0 => ⟨S_, .i32⟩
  | 1 => ⟨S_, .f32⟩
  | 2 => ⟨S128x2x16x128, .f32⟩
  | 3 => ⟨S128x512x2x2x128, .f32⟩
  | 4 => ⟨S128x2048x128, .f32⟩
  | _ => ⟨S128x16, .i32⟩

abbrev hbmTy (i : Nat) : BufTy := match i / 128 with
  | 0 => hbmTy0_0 i
  | 1 => hbmTy0_1 i
  | _ => ⟨S128x16, .i32⟩

abbrev bufTy : (tb : Table) → Fin (tcTables nBuf tb) → BufTy
  | .hbm, ⟨i, _⟩ => hbmTy i
  | _, _ => ⟨S128x16, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_c : Ref sig .tc := ⟨.hbm, 9, rfl⟩
abbrev main_v1 : Ref sig .tc := ⟨.hbm, 10, rfl⟩
abbrev main_v2 : Ref sig .tc := ⟨.hbm, 11, rfl⟩
abbrev main_c_0 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_cst_1 : Ref sig .tc := ⟨.hbm, 34, rfl⟩
abbrev main_v23 : Ref sig .tc := ⟨.hbm, 35, rfl⟩
abbrev main_v24 : Ref sig .tc := ⟨.hbm, 36, rfl⟩
abbrev main_cst_2 : Ref sig .tc := ⟨.hbm, 37, rfl⟩
abbrev main_call0_v0 : Ref sig .tc := ⟨.hbm, 38, rfl⟩
abbrev main_call0_v1 : Ref sig .tc := ⟨.hbm, 39, rfl⟩
abbrev main_v25 : Ref sig .tc := ⟨.hbm, 40, rfl⟩
abbrev main_cst_3 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_cst_4 : Ref sig .tc := ⟨.hbm, 47, rfl⟩
abbrev main_call1_v0 : Ref sig .tc := ⟨.hbm, 48, rfl⟩
abbrev main_call1_v1 : Ref sig .tc := ⟨.hbm, 49, rfl⟩
abbrev main_v31 : Ref sig .tc := ⟨.hbm, 50, rfl⟩
abbrev main_cst_5 : Ref sig .tc := ⟨.hbm, 51, rfl⟩
abbrev main_v32 : Ref sig .tc := ⟨.hbm, 52, rfl⟩
abbrev main_v33 : Ref sig .tc := ⟨.hbm, 53, rfl⟩
abbrev main_cst_6 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_c_7 : Ref sig .tc := ⟨.hbm, 63, rfl⟩
abbrev main_v42 : Ref sig .tc := ⟨.hbm, 64, rfl⟩
abbrev main_v43 : Ref sig .tc := ⟨.hbm, 65, rfl⟩
abbrev main_c_8 : Ref sig .tc := ⟨.hbm, 66, rfl⟩
abbrev main_v44 : Ref sig .tc := ⟨.hbm, 67, rfl⟩
abbrev main_v45 : Ref sig .tc := ⟨.hbm, 68, rfl⟩
abbrev main_c_9 : Ref sig .tc := ⟨.hbm, 69, rfl⟩
abbrev main_v46 : Ref sig .tc := ⟨.hbm, 70, rfl⟩
abbrev main_v47 : Ref sig .tc := ⟨.hbm, 71, rfl⟩
abbrev main_c_10 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_c_11 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_cst_12 : Ref sig .tc := ⟨.hbm, 86, rfl⟩
abbrev main_v60 : Ref sig .tc := ⟨.hbm, 87, rfl⟩
abbrev main_v61 : Ref sig .tc := ⟨.hbm, 88, rfl⟩
abbrev main_cst_13 : Ref sig .tc := ⟨.hbm, 89, rfl⟩
abbrev main_call2_v0 : Ref sig .tc := ⟨.hbm, 90, rfl⟩
abbrev main_call2_v1 : Ref sig .tc := ⟨.hbm, 91, rfl⟩
abbrev main_v62 : Ref sig .tc := ⟨.hbm, 92, rfl⟩
abbrev main_cst_14 : Ref sig .tc := ⟨.hbm, 93, rfl⟩
abbrev main_v63 : Ref sig .tc := ⟨.hbm, 94, rfl⟩
abbrev main_v64 : Ref sig .tc := ⟨.hbm, 95, rfl⟩
abbrev main_v65 : Ref sig .tc := ⟨.hbm, 96, rfl⟩
abbrev main_v66 : Ref sig .tc := ⟨.hbm, 97, rfl⟩
abbrev main_v67 : Ref sig .tc := ⟨.hbm, 98, rfl⟩
abbrev main_cst_15 : Ref sig .tc := ⟨.hbm, 99, rfl⟩
abbrev main_call3_v0 : Ref sig .tc := ⟨.hbm, 100, rfl⟩
abbrev main_call3_v1 : Ref sig .tc := ⟨.hbm, 101, rfl⟩
abbrev main_v68 : Ref sig .tc := ⟨.hbm, 102, rfl⟩
abbrev main_cst_16 : Ref sig .tc := ⟨.hbm, 103, rfl⟩
abbrev main_v69 : Ref sig .tc := ⟨.hbm, 104, rfl⟩
abbrev main_v70 : Ref sig .tc := ⟨.hbm, 105, rfl⟩
abbrev main_cst_17 : Ref sig .tc := ⟨.hbm, 106, rfl⟩
abbrev main_v71 : Ref sig .tc := ⟨.hbm, 107, rfl⟩
abbrev main_v72 : Ref sig .tc := ⟨.hbm, 108, rfl⟩
abbrev main_v73 : Ref sig .tc := ⟨.hbm, 109, rfl⟩
abbrev main_v74 : Ref sig .tc := ⟨.hbm, 110, rfl⟩
abbrev main_v75 : Ref sig .tc := ⟨.hbm, 111, rfl⟩
abbrev main_v76 : Ref sig .tc := ⟨.hbm, 112, rfl⟩
abbrev main_v77 : Ref sig .tc := ⟨.hbm, 113, rfl⟩
abbrev main_v78 : Ref sig .tc := ⟨.hbm, 114, rfl⟩
abbrev main_v79 : Ref sig .tc := ⟨.hbm, 115, rfl⟩
abbrev main_v80 : Ref sig .tc := ⟨.hbm, 116, rfl⟩
abbrev main_v81 : Ref sig .tc := ⟨.hbm, 117, rfl⟩
abbrev main_v82 : Ref sig .tc := ⟨.hbm, 118, rfl⟩
abbrev main_v83 : Ref sig .tc := ⟨.hbm, 119, rfl⟩
abbrev main_v84 : Ref sig .tc := ⟨.hbm, 120, rfl⟩
abbrev main_v85 : Ref sig .tc := ⟨.hbm, 121, rfl⟩
abbrev main_v86 : Ref sig .tc := ⟨.hbm, 122, rfl⟩
abbrev main_v87 : Ref sig .tc := ⟨.hbm, 123, rfl⟩
abbrev main_v88 : Ref sig .tc := ⟨.hbm, 124, rfl⟩
abbrev main_v89 : Ref sig .tc := ⟨.hbm, 125, rfl⟩
abbrev main_v90 : Ref sig .tc := ⟨.hbm, 126, rfl⟩
abbrev main_v91 : Ref sig .tc := ⟨.hbm, 127, rfl⟩
abbrev main_c_18 : Ref sig .tc := ⟨.hbm, 128, rfl⟩
abbrev main_call4_v0 : Ref sig .tc := ⟨.hbm, 129, rfl⟩
abbrev main_v92 : Ref sig .tc := ⟨.hbm, 130, rfl⟩
abbrev main_v93 : Ref sig .tc := ⟨.hbm, 131, rfl⟩
abbrev main_v94 : Ref sig .tc := ⟨.hbm, 132, rfl⟩

abbrev nD : Nat := 1
abbrev τ : Topo := Topo.v7x

variable {F : FTy → Type} [FloatOps F]
-- ==== Down.lean ====
abbrev S8192x2048 : Shape := ⟨2, ![8192, 2048]⟩
abbrev S8192x5632 : Shape := ⟨2, ![8192, 5632]⟩
abbrev S5632x2048 : Shape := ⟨2, ![5632, 2048]⟩
abbrev S512x5632 : Shape := ⟨2, ![512, 5632]⟩
abbrev S5632x256 : Shape := ⟨2, ![5632, 256]⟩
abbrev S512x256 : Shape := ⟨2, ![512, 256]⟩
abbrev S256x256 : Shape := ⟨2, ![256, 256]⟩

abbrev nBuf : Space → Nat
  | .hbm => 4
  | .vmem => 9
  | .smem => 0
  | _ => 0

abbrev bufTy : (tb : Table) → Fin (tcTables nBuf tb) → BufTy
  | .hbm, ⟨0, _⟩ => ⟨S8192x2048, .f32⟩
  | .hbm, ⟨1, _⟩ => ⟨S8192x5632, .bf16⟩
  | .hbm, ⟨2, _⟩ => ⟨S5632x2048, .f32⟩
  | .hbm, ⟨3, _⟩ => ⟨S8192x2048, .f32⟩
  | .local _ .vmem, ⟨0, _⟩ => ⟨S512x5632, .bf16⟩
  | .local _ .vmem, ⟨1, _⟩ => ⟨S512x5632, .bf16⟩
  | .local _ .vmem, ⟨2, _⟩ => ⟨S5632x256, .f32⟩
  | .local _ .vmem, ⟨3, _⟩ => ⟨S5632x256, .f32⟩
  | .local _ .vmem, ⟨4, _⟩ => ⟨S512x256, .f32⟩
  | .local _ .vmem, ⟨5, _⟩ => ⟨S512x256, .f32⟩
  | .local _ .vmem, ⟨6, _⟩ => ⟨S512x256, .f32⟩
  | .local _ .vmem, ⟨7, _⟩ => ⟨S512x256, .f32⟩
  | .local _ .vmem, ⟨8, _⟩ => ⟨S5632x256, .bf16⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![8, 16], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

@[reducible] def k0_t1_loop : Scf.Loop 32 :=
  let c0_i32_8 : BitVec 32 := 0#32
  let c22_i32 : BitVec 32 := 22#32
  let v9 : BitVec 32 := Scalar.addi c0_i32_8 c22_i32
  let c1_i32 : BitVec 32 := 1#32
  ⟨c0_i32_8, v9, c1_i32⟩
def k0_mult1 (k0_t1 : Fin k0_t1_loop.trips) : BitVec 32 :=
  let c0_i32_8 : BitVec 32 := 0#32
  let c1_i32 : BitVec 32 := 1#32
  let arg7 : BitVec 32 := Scf.iv c0_i32_8 c1_i32 k0_t1
  let c256_i32 : BitVec 32 := 256#32
  let v10 : BitVec 32 := Scalar.muli arg7 c256_i32
  v10
def k0_off1 (k0_t1 : Fin k0_t1_loop.trips) : Fin 2 → Nat :=
  let c0_i32_8 : BitVec 32 := 0#32
  let c1_i32 : BitVec 32 := 1#32
  let arg7 : BitVec 32 := Scf.iv c0_i32_8 c1_i32 k0_t1
  let c256_i32 : BitVec 32 := 256#32
  let v10 : BitVec 32 := Scalar.muli arg7 c256_i32
  let v11 : BitVec 32 := v10
  let v12 : Index := Scalar.indexCast v11
  let c0_10 : Index := 0#32
  ![v12.toNat, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  let c0_i32_1 : BitVec 32 := 0#32
  ![c0_i32_0.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x5632 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S5632x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S512x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== DownRefIdeal.lean ====
abbrev S8192x2048 : Shape := ⟨2, ![8192, 2048]⟩
abbrev S8192x5632 : Shape := ⟨2, ![8192, 5632]⟩
abbrev S5632x2048 : Shape := ⟨2, ![5632, 2048]⟩

abbrev nBuf : Space → Nat
  | .hbm => 6
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S8192x5632, .bf16⟩
  | .hbm, ⟨2, _⟩ => ⟨S5632x2048, .f32⟩
  | .hbm, ⟨3, _⟩ => ⟨S8192x5632, .f32⟩
  | .hbm, ⟨4, _⟩ => ⟨S8192x2048, .f32⟩
  | .hbm, ⟨5, _⟩ => ⟨S8192x2048, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== Hidden.lean ====
abbrev S8192x2048 : Shape := ⟨2, ![8192, 2048]⟩
abbrev S2x5632 : Shape := ⟨2, ![2, 5632]⟩
abbrev S2048x5632 : Shape := ⟨2, ![2048, 5632]⟩
abbrev S3x5632 : Shape := ⟨2, ![3, 5632]⟩
abbrev S5632 : Shape := ⟨1, ![5632]⟩
abbrev S_ : Shape := ⟨0, ![]⟩
abbrev S6x5632 : Shape := ⟨2, ![6, 5632]⟩
abbrev S8x5632 : Shape := ⟨2, ![8, 5632]⟩
abbrev S5x5632 : Shape := ⟨2, ![5, 5632]⟩
abbrev S1x5632 : Shape := ⟨2, ![1, 5632]⟩
abbrev S8192x5632 : Shape := ⟨2, ![8192, 5632]⟩
abbrev S512x2048 : Shape := ⟨2, ![512, 2048]⟩
abbrev S2048x512 : Shape := ⟨2, ![2048, 512]⟩
abbrev S8x512 : Shape := ⟨2, ![8, 512]⟩
abbrev S1x512 : Shape := ⟨2, ![1, 512]⟩
abbrev S512x512 : Shape := ⟨2, ![512, 512]⟩
abbrev S520x512 : Shape := ⟨2, ![520, 512]⟩
abbrev S256x512 : Shape := ⟨2, ![256, 512]⟩

abbrev nBuf : Space → Nat
  | .hbm => 15
  | .vmem => 19
  | .smem => 0
  | _ => 0

abbrev bufTy : (tb : Table) → Fin (tcTables nBuf tb) → BufTy
  | .hbm, ⟨0, _⟩ => ⟨S8192x2048, .bf16⟩
  | .hbm, ⟨1, _⟩ => ⟨S2x5632, .f32⟩
  | .hbm, ⟨2, _⟩ => ⟨S2048x5632, .f32⟩
  | .hbm, ⟨3, _⟩ => ⟨S2048x5632, .f32⟩
  | .hbm, ⟨4, _⟩ => ⟨S3x5632, .f32⟩
  | .hbm, ⟨5, _⟩ => ⟨S5632, .f32⟩
  | .hbm, ⟨6, _⟩ => ⟨S_, .f32⟩
  | .hbm, ⟨7, _⟩ => ⟨S6x5632, .f32⟩
  | .hbm, ⟨8, _⟩ => ⟨S8x5632, .f32⟩
  | .hbm, ⟨9, _⟩ => ⟨S_, .f32⟩
  | .hbm, ⟨10, _⟩ => ⟨S5x5632, .f32⟩
  | .hbm, ⟨11, _⟩ => ⟨S8x5632, .f32⟩
  | .hbm, ⟨12, _⟩ => ⟨S1x5632, .f32⟩
  | .hbm, ⟨13, _⟩ => ⟨S8192x5632, .bf16⟩
  | .hbm, ⟨14, _⟩ => ⟨S8x5632, .f32⟩
  | .local _ .vmem, ⟨0, _⟩ => ⟨S512x2048, .bf16⟩
  | .local _ .vmem, ⟨1, _⟩ => ⟨S512x2048, .bf16⟩
  | .local _ .vmem, ⟨2, _⟩ => ⟨S2048x512, .f32⟩
  | .local _ .vmem, ⟨3, _⟩ => ⟨S2048x512, .f32⟩
  | .local _ .vmem, ⟨4, _⟩ => ⟨S2048x512, .f32⟩
  | .local _ .vmem, ⟨5, _⟩ => ⟨S2048x512, .f32⟩
  | .local _ .vmem, ⟨6, _⟩ => ⟨S8x512, .f32⟩
  | .local _ .vmem, ⟨7, _⟩ => ⟨S8x512, .f32⟩
  | .local _ .vmem, ⟨8, _⟩ => ⟨S8x512, .f32⟩
  | .local _ .vmem, ⟨9, _⟩ => ⟨S8x512, .f32⟩
  | .local _ .vmem, ⟨10, _⟩ => ⟨S1x512, .f32⟩
  | .local _ .vmem, ⟨11, _⟩ => ⟨S1x512, .f32⟩
  | .local _ .vmem, ⟨12, _⟩ => ⟨S512x512, .bf16⟩
  | .local _ .vmem, ⟨13, _⟩ => ⟨S512x512, .bf16⟩
  | .local _ .vmem, ⟨14, _⟩ => ⟨S8x512, .f32⟩
  | .local _ .vmem, ⟨15, _⟩ => ⟨S8x512, .f32⟩
  | .local _ .vmem, ⟨16, _⟩ => ⟨S2048x512, .bf16⟩
  | .local _ .vmem, ⟨17, _⟩ => ⟨S2048x512, .bf16⟩
  | .local _ .vmem, ⟨18, _⟩ => ⟨S520x512, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_v1 : Ref sig .tc := ⟨.hbm, 8, rfl⟩
abbrev main_cst_0 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5_0 : Ref sig .tc := ⟨.hbm, 13, rfl⟩
abbrev main_v5_1 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_scratch0 : Ref sig .tc := ⟨.vmem, 16, rfl⟩
abbrev cc0_scratch1 : Ref sig .tc := ⟨.vmem, 17, rfl⟩
abbrev cc0_scratch2 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![11, 16], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

@[reducible] def k0_t1_loop : Scf.Loop 32 :=
  let c0_i32_22 : BitVec 32 := 0#32
  let c8_i32 : BitVec 32 := 8#32
  let v43 : BitVec 32 := Scalar.addi c0_i32_22 c8_i32
  let c1_i32 : BitVec 32 := 1#32
  ⟨c0_i32_22, v43, c1_i32⟩
def k0_mult1 (k0_t1 : Fin k0_t1_loop.trips) : BitVec 32 :=
  let c0_i32_22 : BitVec 32 := 0#32
  let c1_i32 : BitVec 32 := 1#32
  let arg13 : BitVec 32 := Scf.iv c0_i32_22 c1_i32 k0_t1
  let c256_i32 : BitVec 32 := 256#32
  let v45 : BitVec 32 := Scalar.muli arg13 c256_i32
  v45
def k0_off1 (k0_t1 : Fin k0_t1_loop.trips) : Fin 2 → Nat :=
  let c0_i32_22 : BitVec 32 := 0#32
  let c1_i32 : BitVec 32 := 1#32
  let arg13 : BitVec 32 := Scf.iv c0_i32_22 c1_i32 k0_t1
  let c256_i32 : BitVec 32 := 256#32
  let v45 : BitVec 32 := Scalar.muli arg13 c256_i32
  let v46 : BitVec 32 := v45
  let v47 : Index := Scalar.indexCast v46
  let c0_28 : Index := 0#32
  ![v47.toNat, 0]
@[reducible] def k0_t2_loop : Scf.Loop 32 :=
  let c0_i32_24 : BitVec 32 := 0#32
  let c8_i32_25 : BitVec 32 := 8#32
  let v44 : BitVec 32 := Scalar.addi c0_i32_24 c8_i32_25
  let c1_i32_26 : BitVec 32 := 1#32
  ⟨c0_i32_24, v44, c1_i32_26⟩
def k0_mult2 (k0_t2 : Fin k0_t2_loop.trips) : BitVec 32 :=
  let c0_i32_24 : BitVec 32 := 0#32
  let c1_i32_26 : BitVec 32 := 1#32
  let arg13 : BitVec 32 := Scf.iv c0_i32_24 c1_i32_26 k0_t2
  let c256_i32 : BitVec 32 := 256#32
  let v45 : BitVec 32 := Scalar.muli arg13 c256_i32
  v45
def k0_off2 (k0_t2 : Fin k0_t2_loop.trips) : Fin 2 → Nat :=
  let c0_i32_24 : BitVec 32 := 0#32
  let c1_i32_26 : BitVec 32 := 1#32
  let arg13 : BitVec 32 := Scf.iv c0_i32_24 c1_i32_26 k0_t2
  let c256_i32 : BitVec 32 := 256#32
  let v45 : BitVec 32 := Scalar.muli arg13 c256_i32
  let v46 : BitVec 32 := v45
  let v47 : Index := Scalar.indexCast v46
  let c0_28 : Index := 0#32
  ![v47.toNat, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  let c0_i32_1 : BitVec 32 := 0#32
  ![c0_i32_0.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  let c0_i32_1 : BitVec 32 := 0#32
  ![c0_i32_0.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S2048x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S2048x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S8x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S8x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S512x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S8x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]
-- ==== HiddenRefIdeal.lean ====
abbrev S8192x2048 : Shape := ⟨2, ![8192, 2048]⟩
abbrev S2x5632 : Shape := ⟨2, ![2, 5632]⟩
abbrev S2048x5632 : Shape := ⟨2, ![2048, 5632]⟩
abbrev S3x5632 : Shape := ⟨2, ![3, 5632]⟩
abbrev S5632 : Shape := ⟨1, ![5632]⟩
abbrev S8192x5632 : Shape := ⟨2, ![8192, 5632]⟩
abbrev S8194x5632 : Shape := ⟨2, ![8194, 5632]⟩
abbrev S1x5632 : Shape := ⟨2, ![1, 5632]⟩
abbrev S_ : Shape := ⟨0, ![]⟩
abbrev S8x5632 : Shape := ⟨2, ![8, 5632]⟩

abbrev nBuf : Space → Nat
  | .hbm => 45
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S2x5632, .f32⟩
  | .hbm, ⟨2, _⟩ => ⟨S2048x5632, .f32⟩
  | .hbm, ⟨3, _⟩ => ⟨S2048x5632, .f32⟩
  | .hbm, ⟨4, _⟩ => ⟨S3x5632, .f32⟩
  | .hbm, ⟨5, _⟩ => ⟨S5632, .f32⟩
  | .hbm, ⟨6, _⟩ => ⟨S8192x2048, .f32⟩
  | .hbm, ⟨7, _⟩ => ⟨S8192x5632, .f32⟩
  | .hbm, ⟨8, _⟩ => ⟨S8194x5632, .f32⟩
  | .hbm, ⟨9, _⟩ => ⟨S1x5632, .f32⟩
  | .hbm, ⟨10, _⟩ => ⟨S5632, .f32⟩
  | .hbm, ⟨11, _⟩ => ⟨S8192x5632, .f32⟩
  | .hbm, ⟨12, _⟩ => ⟨S1x5632, .f32⟩
  | .hbm, ⟨13, _⟩ => ⟨S8192x5632, .f32⟩
  | .hbm, ⟨14, _⟩ => ⟨S8192x5632, .f32⟩
  | .hbm, ⟨15, _⟩ => ⟨S1x5632, .f32⟩
  | .hbm, ⟨16, _⟩ => ⟨S5632, .f32⟩
  | .hbm, ⟨17, _⟩ => ⟨S8192x5632, .f32⟩
  | .hbm, ⟨18, _⟩ => ⟨S1x5632, .f32⟩
  | .hbm, ⟨19, _⟩ => ⟨S8192x5632, .f32⟩
  | .hbm, ⟨20, _⟩ => ⟨S8192x5632, .f32⟩
  | .hbm, ⟨21, _⟩ => ⟨S8192x5632, .f32⟩
  | .hbm, ⟨22, _⟩ => ⟨S1x5632, .f32⟩
  | .hbm, ⟨23, _⟩ => ⟨S5632, .f32⟩
  | .hbm, ⟨24, _⟩ => ⟨S8192x5632, .f32⟩
  | .hbm, ⟨25, _⟩ => ⟨S1x5632, .f32⟩
  | .hbm, ⟨26, _⟩ => ⟨S8192x5632, .f32⟩
  | .hbm, ⟨27, _⟩ => ⟨S8192x5632, .f32⟩
  | .hbm, ⟨28, _⟩ => ⟨S8192x5632, .f32⟩
  | .hbm, ⟨29, _⟩ => ⟨S1x5632, .f32⟩
  | .hbm, ⟨30, _⟩ => ⟨S8192x5632, .f32⟩
  | .hbm, ⟨31, _⟩ => ⟨S8192x5632, .f32⟩
  | .hbm, ⟨32, _⟩ => ⟨S8192x5632, .f32⟩
  | .hbm, ⟨33, _⟩ => ⟨S8192x5632, .f32⟩
  | .hbm, ⟨34, _⟩ => ⟨S_, .f32⟩
  | .hbm, ⟨35, _⟩ => ⟨S8192x5632, .f32⟩
  | .hbm, ⟨36, _⟩ => ⟨S8192x5632, .f32⟩
  | .hbm, ⟨37, _⟩ => ⟨S_, .f32⟩
  | .hbm, ⟨38, _⟩ => ⟨S8192x5632, .f32⟩
  | .hbm, ⟨39, _⟩ => ⟨S8192x5632, .f32⟩
  | .hbm, ⟨40, _⟩ => ⟨S8192x5632, .f32⟩
  | .hbm, ⟨41, _⟩ => ⟨S8192x5632, .f32⟩
  | .hbm, ⟨42, _⟩ => ⟨S8192x5632, .f32⟩
  | .hbm, ⟨43, _⟩ => ⟨S8192x5632, .bf16⟩
  | .hbm, ⟨44, _⟩ => ⟨S8x5632, .f32⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_call0_v0 : Ref sig .tc := ⟨.hbm, 32, rfl⟩
abbrev main_call0_v1 : Ref sig .tc := ⟨.hbm, 33, rfl⟩
abbrev main_call0_cst : Ref sig .tc := ⟨.hbm, 34, rfl⟩
abbrev main_call0_v2 : Ref sig .tc := ⟨.hbm, 35, rfl⟩
abbrev main_call0_v3 : Ref sig .tc := ⟨.hbm, 36, rfl⟩
abbrev main_call0_cst_0 : Ref sig .tc := ⟨.hbm, 37, rfl⟩
abbrev main_call0_v4 : Ref sig .tc := ⟨.hbm, 38, rfl⟩
abbrev main_call0_v5 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩

abbrev nD : Nat := 1
abbrev τ : Topo := Topo.v7x

variable {F : FTy → Type} [FloatOps F]
-- ==== Glu.lean ====
abbrev S8192x2048 : Shape := ⟨2, ![8192, 2048]⟩
abbrev S2048x4632 : Shape := ⟨2, ![2048, 4632]⟩
abbrev S8192x1024 : Shape := ⟨2, ![8192, 1024]⟩
abbrev S512x2048 : Shape := ⟨2, ![512, 2048]⟩
abbrev S2048x512 : Shape := ⟨2, ![2048, 512]⟩
abbrev S512x512 : Shape := ⟨2, ![512, 512]⟩
abbrev S256x512 : Shape := ⟨2, ![256, 512]⟩

abbrev nBuf : Space → Nat
  | .hbm => 3
  | .vmem => 10
  | .smem => 0
  | _ => 0

abbrev bufTy : (tb : Table) → Fin (tcTables nBuf tb) → BufTy
  | .hbm, ⟨0, _⟩ => ⟨S8192x2048, .bf16⟩
  | .hbm, ⟨1, _⟩ => ⟨S2048x4632, .f32⟩
  | .hbm, ⟨2, _⟩ => ⟨S8192x1024, .f32⟩
  | .local _ .vmem, ⟨0, _⟩ => ⟨S512x2048, .bf16⟩
  | .local _ .vmem, ⟨1, _⟩ => ⟨S512x2048, .bf16⟩
  | .local _ .vmem, ⟨2, _⟩ => ⟨S2048x512, .f32⟩
  | .local _ .vmem, ⟨3, _⟩ => ⟨S2048x512, .f32⟩
  | .local _ .vmem, ⟨4, _⟩ => ⟨S2048x512, .f32⟩
  | .local _ .vmem, ⟨5, _⟩ => ⟨S2048x512, .f32⟩
  | .local _ .vmem, ⟨6, _⟩ => ⟨S512x512, .f32⟩
  | .local _ .vmem, ⟨7, _⟩ => ⟨S512x512, .f32⟩
  | .local _ .vmem, ⟨8, _⟩ => ⟨S2048x512, .bf16⟩
  | .local _ .vmem, ⟨9, _⟩ => ⟨S2048x512, .bf16⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![2, 16], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

@[reducible] def k0_t1_loop : Scf.Loop 32 :=
  let c0_i32_9 : BitVec 32 := 0#32
  let c8_i32 : BitVec 32 := 8#32
  let v11 : BitVec 32 := Scalar.addi c0_i32_9 c8_i32
  let c1_i32 : BitVec 32 := 1#32
  ⟨c0_i32_9, v11, c1_i32⟩
def k0_mult1 (k0_t1 : Fin k0_t1_loop.trips) : BitVec 32 :=
  let c0_i32_9 : BitVec 32 := 0#32
  let c1_i32 : BitVec 32 := 1#32
  let arg8 : BitVec 32 := Scf.iv c0_i32_9 c1_i32 k0_t1
  let c256_i32 : BitVec 32 := 256#32
  let v13 : BitVec 32 := Scalar.muli arg8 c256_i32
  v13
def k0_off1 (k0_t1 : Fin k0_t1_loop.trips) : Fin 2 → Nat :=
  let c0_i32_9 : BitVec 32 := 0#32
  let c1_i32 : BitVec 32 := 1#32
  let arg8 : BitVec 32 := Scf.iv c0_i32_9 c1_i32 k0_t1
  let c256_i32 : BitVec 32 := 256#32
  let v13 : BitVec 32 := Scalar.muli arg8 c256_i32
  let v14 : BitVec 32 := v13
  let v15 : Index := Scalar.indexCast v14
  let c0_15 : Index := 0#32
  ![v15.toNat, 0]
@[reducible] def k0_t2_loop : Scf.Loop 32 :=
  let c0_i32_11 : BitVec 32 := 0#32
  let c8_i32_12 : BitVec 32 := 8#32
  let v12 : BitVec 32 := Scalar.addi c0_i32_11 c8_i32_12
  let c1_i32_13 : BitVec 32 := 1#32
  ⟨c0_i32_11, v12, c1_i32_13⟩
def k0_mult2 (k0_t2 : Fin k0_t2_loop.trips) : BitVec 32 :=
  let c0_i32_11 : BitVec 32 := 0#32
  let c1_i32_13 : BitVec 32 := 1#32
  let arg8 : BitVec 32 := Scf.iv c0_i32_11 c1_i32_13 k0_t2
  let c256_i32 : BitVec 32 := 256#32
  let v13 : BitVec 32 := Scalar.muli arg8 c256_i32
  v13
def k0_off2 (k0_t2 : Fin k0_t2_loop.trips) : Fin 2 → Nat :=
  let c0_i32_11 : BitVec 32 := 0#32
  let c1_i32_13 : BitVec 32 := 1#32
  let arg8 : BitVec 32 := Scf.iv c0_i32_11 c1_i32_13 k0_t2
  let c256_i32 : BitVec 32 := 256#32
  let v13 : BitVec 32 := Scalar.muli arg8 c256_i32
  let v14 : BitVec 32 := v13
  let v15 : Index := Scalar.indexCast v14
  let c0_15 : Index := 0#32
  ![v15.toNat, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  let c0_i32_1 : BitVec 32 := 0#32
  ![c0_i32_0.toNat, v0.toNat]

def cc0_transform_2 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.addi arg0 c2_i32
  let c0_i32 : BitVec 32 := 0#32
  let c0_i32_0 : BitVec 32 := 0#32
  ![c0_i32.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S2048x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S2048x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== GluRefIdeal.lean ====
abbrev S8192x2048 : Shape := ⟨2, ![8192, 2048]⟩
abbrev S2048x4632 : Shape := ⟨2, ![2048, 4632]⟩
abbrev S2048x2048 : Shape := ⟨2, ![2048, 2048]⟩
abbrev S8192x1024 : Shape := ⟨2, ![8192, 1024]⟩
abbrev S_ : Shape := ⟨0, ![]⟩

abbrev nBuf : Space → Nat
  | .hbm => 16
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S2048x4632, .f32⟩
  | .hbm, ⟨2, _⟩ => ⟨S8192x2048, .f32⟩
  | .hbm, ⟨3, _⟩ => ⟨S2048x2048, .f32⟩
  | .hbm, ⟨4, _⟩ => ⟨S8192x2048, .f32⟩
  | .hbm, ⟨5, _⟩ => ⟨S8192x1024, .f32⟩
  | .hbm, ⟨6, _⟩ => ⟨S8192x1024, .f32⟩
  | .hbm, ⟨7, _⟩ => ⟨S8192x1024, .f32⟩
  | .hbm, ⟨8, _⟩ => ⟨S8192x1024, .f32⟩
  | .hbm, ⟨9, _⟩ => ⟨S_, .f32⟩
  | .hbm, ⟨10, _⟩ => ⟨S8192x1024, .f32⟩
  | .hbm, ⟨11, _⟩ => ⟨S8192x1024, .f32⟩
  | .hbm, ⟨12, _⟩ => ⟨S_, .f32⟩
  | .hbm, ⟨13, _⟩ => ⟨S8192x1024, .f32⟩
  | .hbm, ⟨14, _⟩ => ⟨S8192x1024, .f32⟩
  | .hbm, ⟨15, _⟩ => ⟨S8192x1024, .f32⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_cst : Ref sig .tc := ⟨.hbm, 9, rfl⟩
abbrev main_v7 : Ref sig .tc := ⟨.hbm, 10, rfl⟩
abbrev main_v8 : Ref sig .tc := ⟨.hbm, 11, rfl⟩
abbrev main_cst_0 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩

abbrev nD : Nat := 1
abbrev τ : Topo := Topo.v7x

variable {F : FTy → Type} [FloatOps F]
-- ==== Norm.lean ====
abbrev S8192x2048 : Shape := ⟨2, ![8192, 2048]⟩
abbrev S2048 : Shape := ⟨1, ![2048]⟩
abbrev S1x2048 : Shape := ⟨2, ![1, 2048]⟩
abbrev S512x2048 : Shape := ⟨2, ![512, 2048]⟩
abbrev S512 : Shape := ⟨1, ![512]⟩
abbrev S512x1 : Shape := ⟨2, ![512, 1]⟩

abbrev nBuf : Space → Nat
  | .hbm => 4
  | .vmem => 5
  | .smem => 0
  | _ => 0

abbrev bufTy : (tb : Table) → Fin (tcTables nBuf tb) → BufTy
  | .hbm, ⟨0, _⟩ => ⟨S8192x2048, .f32⟩
  | .hbm, ⟨1, _⟩ => ⟨S2048, .f32⟩
  | .hbm, ⟨2, _⟩ => ⟨S1x2048, .f32⟩
  | .hbm, ⟨3, _⟩ => ⟨S8192x2048, .f32⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S512x2048, .f32⟩
  | .local _ .vmem, ⟨4, _⟩ => ⟨S512x2048, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== NormRefIdeal.lean ====
abbrev S8192x2048 : Shape := ⟨2, ![8192, 2048]⟩
abbrev S2048 : Shape := ⟨1, ![2048]⟩
abbrev S_ : Shape := ⟨0, ![]⟩
abbrev S8192 : Shape := ⟨1, ![8192]⟩
abbrev S8192x1 : Shape := ⟨2, ![8192, 1]⟩
abbrev S1x2048 : Shape := ⟨2, ![1, 2048]⟩

abbrev nBuf : Space → Nat
  | .hbm => 18
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S2048, .f32⟩
  | .hbm, ⟨2, _⟩ => ⟨S8192x2048, .f32⟩
  | .hbm, ⟨3, _⟩ => ⟨S_, .f32⟩
  | .hbm, ⟨4, _⟩ => ⟨S8192, .f32⟩
  | .hbm, ⟨5, _⟩ => ⟨S8192x1, .f32⟩
  | .hbm, ⟨6, _⟩ => ⟨S_, .f32⟩
  | .hbm, ⟨7, _⟩ => ⟨S8192x1, .f32⟩
  | .hbm, ⟨8, _⟩ => ⟨S8192x1, .f32⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S8192x1, .f32⟩
  | .hbm, ⟨13, _⟩ => ⟨S8192x2048, .f32⟩
  | .hbm, ⟨14, _⟩ => ⟨S8192x2048, .f32⟩
  | .hbm, ⟨15, _⟩ => ⟨S1x2048, .f32⟩
  | .hbm, ⟨16, _⟩ => ⟨S8192x2048, .f32⟩
  | .hbm, ⟨17, _⟩ => ⟨S8192x2048, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩

abbrev nD : Nat := 1
abbrev τ : Topo := Topo.v7x

variable {F : FTy → Type} [FloatOps F]
-- ==== Step.lean ====
abbrev S128x2048 : Shape := ⟨2, ![128, 2048]⟩
abbrev S128x11264 : Shape := ⟨2, ![128, 11264]⟩
abbrev S2048x5632 : Shape := ⟨2, ![2048, 5632]⟩
abbrev S3x5632 : Shape := ⟨2, ![3, 5632]⟩
abbrev S5632 : Shape := ⟨1, ![5632]⟩
abbrev S_ : Shape := ⟨0, ![]⟩
abbrev S5x5632 : Shape := ⟨2, ![5, 5632]⟩
abbrev S8x5632 : Shape := ⟨2, ![8, 5632]⟩
abbrev S1x5632 : Shape := ⟨2, ![1, 5632]⟩
abbrev S128x5632 : Shape := ⟨2, ![128, 5632]⟩
abbrev S2048x512 : Shape := ⟨2, ![2048, 512]⟩
abbrev S128x512 : Shape := ⟨2, ![128, 512]⟩
abbrev S8x512 : Shape := ⟨2, ![8, 512]⟩
abbrev S1x512 : Shape := ⟨2, ![1, 512]⟩
abbrev S256x512 : Shape := ⟨2, ![256, 512]⟩

abbrev nBuf : Space → Nat
  | .hbm => 12
  | .vmem => 19
  | .smem => 0
  | _ => 0

abbrev bufTy : (tb : Table) → Fin (tcTables nBuf tb) → BufTy
  | .hbm, ⟨0, _⟩ => ⟨S128x2048, .bf16⟩
  | .hbm, ⟨1, _⟩ => ⟨S128x11264, .f32⟩
  | .hbm, ⟨2, _⟩ => ⟨S2048x5632, .f32⟩
  | .hbm, ⟨3, _⟩ => ⟨S2048x5632, .f32⟩
  | .hbm, ⟨4, _⟩ => ⟨S3x5632, .f32⟩
  | .hbm, ⟨5, _⟩ => ⟨S5632, .f32⟩
  | .hbm, ⟨6, _⟩ => ⟨S_, .f32⟩
  | .hbm, ⟨7, _⟩ => ⟨S5x5632, .f32⟩
  | .hbm, ⟨8, _⟩ => ⟨S8x5632, .f32⟩
  | .hbm, ⟨9, _⟩ => ⟨S1x5632, .f32⟩
  | .hbm, ⟨10, _⟩ => ⟨S128x5632, .bf16⟩
  | .hbm, ⟨11, _⟩ => ⟨S128x5632, .f32⟩
  | .local _ .vmem, ⟨0, _⟩ => ⟨S128x2048, .bf16⟩
  | .local _ .vmem, ⟨1, _⟩ => ⟨S2048x512, .f32⟩
  | .local _ .vmem, ⟨2, _⟩ => ⟨S2048x512, .f32⟩
  | .local _ .vmem, ⟨3, _⟩ => ⟨S2048x512, .f32⟩
  | .local _ .vmem, ⟨4, _⟩ => ⟨S2048x512, .f32⟩
  | .local _ .vmem, ⟨5, _⟩ => ⟨S128x512, .f32⟩
  | .local _ .vmem, ⟨6, _⟩ => ⟨S128x512, .f32⟩
  | .local _ .vmem, ⟨7, _⟩ => ⟨S128x512, .f32⟩
  | .local _ .vmem, ⟨8, _⟩ => ⟨S128x512, .f32⟩
  | .local _ .vmem, ⟨9, _⟩ => ⟨S8x512, .f32⟩
  | .local _ .vmem, ⟨10, _⟩ => ⟨S8x512, .f32⟩
  | .local _ .vmem, ⟨11, _⟩ => ⟨S1x512, .f32⟩
  | .local _ .vmem, ⟨12, _⟩ => ⟨S1x512, .f32⟩
  | .local _ .vmem, ⟨13, _⟩ => ⟨S128x512, .bf16⟩
  | .local _ .vmem, ⟨14, _⟩ => ⟨S128x512, .bf16⟩
  | .local _ .vmem, ⟨15, _⟩ => ⟨S128x512, .f32⟩
  | .local _ .vmem, ⟨16, _⟩ => ⟨S128x512, .f32⟩
  | .local _ .vmem, ⟨17, _⟩ => ⟨S2048x512, .bf16⟩
  | .local _ .vmem, ⟨18, _⟩ => ⟨S2048x512, .bf16⟩
  | _, _ => ⟨S128x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3_0 : Ref sig .tc := ⟨.hbm, 10, rfl⟩
abbrev main_v3_1 : Ref sig .tc := ⟨.hbm, 11, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_scratch0 : Ref sig .tc := ⟨.vmem, 17, rfl⟩
abbrev cc0_scratch1 : Ref sig .tc := ⟨.vmem, 18, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16

abbrev nD : Nat := 1
abbrev τ : Topo := Topo.v7x

variable {F : FTy → Type} [FloatOps F]

abbrev grid0 : Pipeline.Grid := ⟨2, ![11, 1], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

@[reducible] def k0_t1_loop : Scf.Loop 32 :=
  let c0_i32_19 : BitVec 32 := 0#32
  let c8_i32 : BitVec 32 := 8#32
  let v33 : BitVec 32 := Scalar.addi c0_i32_19 c8_i32
  let c1_i32 : BitVec 32 := 1#32
  ⟨c0_i32_19, v33, c1_i32⟩
def k0_mult1 (k0_t1 : Fin k0_t1_loop.trips) : BitVec 32 :=
  let c0_i32_19 : BitVec 32 := 0#32
  let c1_i32 : BitVec 32 := 1#32
  let arg13 : BitVec 32 := Scf.iv c0_i32_19 c1_i32 k0_t1
  let c256_i32 : BitVec 32 := 256#32
  let v35 : BitVec 32 := Scalar.muli arg13 c256_i32
  v35
def k0_off1 (k0_t1 : Fin k0_t1_loop.trips) : Fin 2 → Nat :=
  let c0_i32_19 : BitVec 32 := 0#32
  let c1_i32 : BitVec 32 := 1#32
  let arg13 : BitVec 32 := Scf.iv c0_i32_19 c1_i32 k0_t1
  let c256_i32 : BitVec 32 := 256#32
  let v35 : BitVec 32 := Scalar.muli arg13 c256_i32
  let v36 : BitVec 32 := v35
  let v37 : Index := Scalar.indexCast v36
  let c0_25 : Index := 0#32
  ![v37.toNat, 0]
@[reducible] def k0_t2_loop : Scf.Loop 32 :=
  let c0_i32_21 : BitVec 32 := 0#32
  let c8_i32_22 : BitVec 32 := 8#32
  let v34 : BitVec 32 := Scalar.addi c0_i32_21 c8_i32_22
  let c1_i32_23 : BitVec 32 := 1#32
  ⟨c0_i32_21, v34, c1_i32_23⟩
def k0_mult2 (k0_t2 : Fin k0_t2_loop.trips) : BitVec 32 :=
  let c0_i32_21 : BitVec 32 := 0#32
  let c1_i32_23 : BitVec 32 := 1#32
  let arg13 : BitVec 32 := Scf.iv c0_i32_21 c1_i32_23 k0_t2
  let c256_i32 : BitVec 32 := 256#32
  let v35 : BitVec 32 := Scalar.muli arg13 c256_i32
  v35
def k0_off2 (k0_t2 : Fin k0_t2_loop.trips) : Fin 2 → Nat :=
  let c0_i32_21 : BitVec 32 := 0#32
  let c1_i32_23 : BitVec 32 := 1#32
  let arg13 : BitVec 32 := Scf.iv c0_i32_21 c1_i32_23 k0_t2
  let c256_i32 : BitVec 32 := 256#32
  let v35 : BitVec 32 := Scalar.muli arg13 c256_i32
  let v36 : BitVec 32 := v35
  let v37 : Index := Scalar.indexCast v36
  let c0_25 : Index := 0#32
  ![v37.toNat, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  let c0_i32_1 : BitVec 32 := 0#32
  ![c0_i32_0.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  let c0_i32_1 : BitVec 32 := 0#32
  ![c0_i32_0.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let arg1 : BitVec 32 := BitVec.ofNat 32 (i 1).val
  let c11_i32 : BitVec 32 := 11#32
  let v0 : BitVec 32 := Scalar.addi arg0 c11_i32
  let c0_i32 : BitVec 32 := 0#32
  let c0_i32_0 : BitVec 32 := 0#32
  ![c0_i32.toNat, v0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 1 → Memref sig .tc .vmem S128x2048 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, true]

abbrev stage0_1 : Fin 2 → Memref sig .tc .vmem S2048x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S2048x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S128x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S128x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S8x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S128x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S128x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== StepRefIdeal.lean ====
abbrev S128x2048 : Shape := ⟨2, ![128, 2048]⟩
abbrev S128x11264 : Shape := ⟨2, ![128, 11264]⟩
abbrev S2048x5632 : Shape := ⟨2, ![2048, 5632]⟩
abbrev S3x5632 : Shape := ⟨2, ![3, 5632]⟩
abbrev S5632 : Shape := ⟨1, ![5632]⟩
abbrev S128x5632 : Shape := ⟨2, ![128, 5632]⟩
abbrev S1x5632 : Shape := ⟨2, ![1, 5632]⟩
abbrev S_ : Shape := ⟨0, ![]⟩

abbrev nBuf : Space → Nat
  | .hbm => 42
  | .vmem => 0
  | .smem => 0
  | _ => 0

abbrev bufTy : (tb : Table) → Fin (tcTables nBuf tb) → BufTy
  | .hbm, ⟨0, _⟩ => ⟨S128x2048, .bf16⟩
  | .hbm, ⟨1, _⟩ => ⟨S128x11264, .f32⟩
  | .hbm, ⟨2, _⟩ => ⟨S2048x5632, .f32⟩
  | .hbm, ⟨3, _⟩ => ⟨S2048x5632, .f32⟩
  | .hbm, ⟨4, _⟩ => ⟨S3x5632, .f32⟩
  | .hbm, ⟨5, _⟩ => ⟨S5632, .f32⟩
  | .hbm, ⟨6, _⟩ => ⟨S128x2048, .f32⟩
  | .hbm, ⟨7, _⟩ => ⟨S128x5632, .f32⟩
  | .hbm, ⟨8, _⟩ => ⟨S1x5632, .f32⟩
  | .hbm, ⟨9, _⟩ => ⟨S5632, .f32⟩
  | .hbm, ⟨10, _⟩ => ⟨S128x5632, .f32⟩
  | .hbm, ⟨11, _⟩ => ⟨S1x5632, .f32⟩
  | .hbm, ⟨12, _⟩ => ⟨S128x5632, .f32⟩
  | .hbm, ⟨13, _⟩ => ⟨S128x5632, .f32⟩
  | .hbm, ⟨14, _⟩ => ⟨S1x5632, .f32⟩
  | .hbm, ⟨15, _⟩ => ⟨S5632, .f32⟩
  | .hbm, ⟨16, _⟩ => ⟨S128x5632, .f32⟩
  | .hbm, ⟨17, _⟩ => ⟨S1x5632, .f32⟩
  | .hbm, ⟨18, _⟩ => ⟨S128x5632, .f32⟩
  | .hbm, ⟨19, _⟩ => ⟨S128x5632, .f32⟩
  | .hbm, ⟨20, _⟩ => ⟨S128x5632, .f32⟩
  | .hbm, ⟨21, _⟩ => ⟨S1x5632, .f32⟩
  | .hbm, ⟨22, _⟩ => ⟨S5632, .f32⟩
  | .hbm, ⟨23, _⟩ => ⟨S1x5632, .f32⟩
  | .hbm, ⟨24, _⟩ => ⟨S128x5632, .f32⟩
  | .hbm, ⟨25, _⟩ => ⟨S128x5632, .f32⟩
  | .hbm, ⟨26, _⟩ => ⟨S128x5632, .f32⟩
  | .hbm, ⟨27, _⟩ => ⟨S1x5632, .f32⟩
  | .hbm, ⟨28, _⟩ => ⟨S128x5632, .f32⟩
  | .hbm, ⟨29, _⟩ => ⟨S128x5632, .f32⟩
  | .hbm, ⟨30, _⟩ => ⟨S128x5632, .f32⟩
  | .hbm, ⟨31, _⟩ => ⟨S128x5632, .f32⟩
  | .hbm, ⟨32, _⟩ => ⟨S_, .f32⟩
  | .hbm, ⟨33, _⟩ => ⟨S128x5632, .f32⟩
  | .hbm, ⟨34, _⟩ => ⟨S128x5632, .f32⟩
  | .hbm, ⟨35, _⟩ => ⟨S_, .f32⟩
  | .hbm, ⟨36, _⟩ => ⟨S128x5632, .f32⟩
  | .hbm, ⟨37, _⟩ => ⟨S128x5632, .f32⟩
  | .hbm, ⟨38, _⟩ => ⟨S128x5632, .f32⟩
  | .hbm, ⟨39, _⟩ => ⟨S128x5632, .f32⟩
  | .hbm, ⟨40, _⟩ => ⟨S128x5632, .f32⟩
  | .hbm, ⟨41, _⟩ => ⟨S128x5632, .bf16⟩
  | _, _ => ⟨S128x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_call0_v0 : Ref sig .tc := ⟨.hbm, 30, rfl⟩
abbrev main_call0_v1 : Ref sig .tc := ⟨.hbm, 31, rfl⟩
abbrev main_call0_cst : Ref sig .tc := ⟨.hbm, 32, rfl⟩
abbrev main_call0_v2 : Ref sig .tc := ⟨.hbm, 33, rfl⟩
abbrev main_call0_v3 : Ref sig .tc := ⟨.hbm, 34, rfl⟩
abbrev main_call0_cst_0 : Ref sig .tc := ⟨.hbm, 35, rfl⟩
abbrev main_call0_v4 : Ref sig .tc := ⟨.hbm, 36, rfl⟩
abbrev main_call0_v5 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩

abbrev nD : Nat := 1
abbrev τ : Topo := Topo.v7x

variable {F : FTy → Type} [FloatOps F]
-- ==== Mix.lean ====
abbrev S8192x2048 : Shape := ⟨2, ![8192, 2048]⟩
abbrev S8192x1024 : Shape := ⟨2, ![8192, 1024]⟩
abbrev S2048x2048 : Shape := ⟨2, ![2048, 2048]⟩
abbrev S512x1024 : Shape := ⟨2, ![512, 1024]⟩
abbrev S1024x512 : Shape := ⟨2, ![1024, 512]⟩
abbrev S512x512 : Shape := ⟨2, ![512, 512]⟩
abbrev S256x512 : Shape := ⟨2, ![256, 512]⟩

abbrev nBuf : Space → Nat
  | .hbm => 5
  | .vmem => 14
  | .smem => 0
  | _ => 0

abbrev bufTy : (tb : Table) → Fin (tcTables nBuf tb) → BufTy
  | .hbm, ⟨0, _⟩ => ⟨S8192x2048, .f32⟩
  | .hbm, ⟨1, _⟩ => ⟨S8192x1024, .bf16⟩
  | .hbm, ⟨2, _⟩ => ⟨S8192x1024, .bf16⟩
  | .hbm, ⟨3, _⟩ => ⟨S2048x2048, .f32⟩
  | .hbm, ⟨4, _⟩ => ⟨S8192x2048, .f32⟩
  | .local _ .vmem, ⟨0, _⟩ => ⟨S512x1024, .bf16⟩
  | .local _ .vmem, ⟨1, _⟩ => ⟨S512x1024, .bf16⟩
  | .local _ .vmem, ⟨2, _⟩ => ⟨S512x1024, .bf16⟩
  | .local _ .vmem, ⟨3, _⟩ => ⟨S512x1024, .bf16⟩
  | .local _ .vmem, ⟨4, _⟩ => ⟨S1024x512, .f32⟩
  | .local _ .vmem, ⟨5, _⟩ => ⟨S1024x512, .f32⟩
  | .local _ .vmem, ⟨6, _⟩ => ⟨S1024x512, .f32⟩
  | .local _ .vmem, ⟨7, _⟩ => ⟨S1024x512, .f32⟩
  | .local _ .vmem, ⟨8, _⟩ => ⟨S512x512, .f32⟩
  | .local _ .vmem, ⟨9, _⟩ => ⟨S512x512, .f32⟩
  | .local _ .vmem, ⟨10, _⟩ => ⟨S512x512, .f32⟩
  | .local _ .vmem, ⟨11, _⟩ => ⟨S512x512, .f32⟩
  | .local _ .vmem, ⟨12, _⟩ => ⟨S1024x512, .bf16⟩
  | .local _ .vmem, ⟨13, _⟩ => ⟨S1024x512, .bf16⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_scratch1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![4, 16], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

@[reducible] def k0_t1_loop : Scf.Loop 32 :=
  let c0_i32_13 : BitVec 32 := 0#32
  let c4_i32 : BitVec 32 := 4#32
  let v13 : BitVec 32 := Scalar.addi c0_i32_13 c4_i32
  let c1_i32 : BitVec 32 := 1#32
  ⟨c0_i32_13, v13, c1_i32⟩
def k0_mult1 (k0_t1 : Fin k0_t1_loop.trips) : BitVec 32 :=
  let c0_i32_13 : BitVec 32 := 0#32
  let c1_i32 : BitVec 32 := 1#32
  let arg10 : BitVec 32 := Scf.iv c0_i32_13 c1_i32 k0_t1
  let c256_i32 : BitVec 32 := 256#32
  let v15 : BitVec 32 := Scalar.muli arg10 c256_i32
  v15
def k0_off1 (k0_t1 : Fin k0_t1_loop.trips) : Fin 2 → Nat :=
  let c0_i32_13 : BitVec 32 := 0#32
  let c1_i32 : BitVec 32 := 1#32
  let arg10 : BitVec 32 := Scf.iv c0_i32_13 c1_i32 k0_t1
  let c256_i32 : BitVec 32 := 256#32
  let v15 : BitVec 32 := Scalar.muli arg10 c256_i32
  let v16 : BitVec 32 := v15
  let v17 : Index := Scalar.indexCast v16
  let c0_19 : Index := 0#32
  ![v17.toNat, 0]
@[reducible] def k0_t2_loop : Scf.Loop 32 :=
  let c0_i32_15 : BitVec 32 := 0#32
  let c4_i32_16 : BitVec 32 := 4#32
  let v14 : BitVec 32 := Scalar.addi c0_i32_15 c4_i32_16
  let c1_i32_17 : BitVec 32 := 1#32
  ⟨c0_i32_15, v14, c1_i32_17⟩
def k0_mult2 (k0_t2 : Fin k0_t2_loop.trips) : BitVec 32 :=
  let c0_i32_15 : BitVec 32 := 0#32
  let c1_i32_17 : BitVec 32 := 1#32
  let arg10 : BitVec 32 := Scf.iv c0_i32_15 c1_i32_17 k0_t2
  let c256_i32 : BitVec 32 := 256#32
  let v15 : BitVec 32 := Scalar.muli arg10 c256_i32
  v15
def k0_off2 (k0_t2 : Fin k0_t2_loop.trips) : Fin 2 → Nat :=
  let c0_i32_15 : BitVec 32 := 0#32
  let c1_i32_17 : BitVec 32 := 1#32
  let arg10 : BitVec 32 := Scf.iv c0_i32_15 c1_i32_17 k0_t2
  let c256_i32 : BitVec 32 := 256#32
  let v15 : BitVec 32 := Scalar.muli arg10 c256_i32
  let v16 : BitVec 32 := v15
  let v17 : Index := Scalar.indexCast v16
  let c0_19 : Index := 0#32
  ![v17.toNat, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  let c0_i32_1 : BitVec 32 := 0#32
  ![c0_i32_0.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c1_i32 : BitVec 32 := 1#32
  let c0_i32_0 : BitVec 32 := 0#32
  ![c1_i32.toNat, v0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1024x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S512x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S512x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== MixRefIdeal.lean ====
abbrev S8192x2048 : Shape := ⟨2, ![8192, 2048]⟩
abbrev S8192x1024 : Shape := ⟨2, ![8192, 1024]⟩
abbrev S2048x2048 : Shape := ⟨2, ![2048, 2048]⟩

abbrev nBuf : Space → Nat
  | .hbm => 9
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S8192x1024, .bf16⟩
  | .hbm, ⟨2, _⟩ => ⟨S8192x1024, .bf16⟩
  | .hbm, ⟨3, _⟩ => ⟨S2048x2048, .f32⟩
  | .hbm, ⟨4, _⟩ => ⟨S8192x1024, .f32⟩
  | .hbm, ⟨5, _⟩ => ⟨S8192x1024, .f32⟩
  | .hbm, ⟨6, _⟩ => ⟨S8192x2048, .f32⟩
  | .hbm, ⟨7, _⟩ => ⟨S8192x2048, .f32⟩
  | .hbm, ⟨8, _⟩ => ⟨S8192x2048, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩

abbrev nD : Nat := 1
abbrev τ : Topo := Topo.v7x

variable {F : FTy → Type} [FloatOps F]
-- ==== Last.lean ====
abbrev S128x2048 : Shape := ⟨2, ![128, 2048]⟩
abbrev S2048 : Shape := ⟨1, ![2048]⟩
abbrev S1x2048 : Shape := ⟨2, ![1, 2048]⟩
abbrev S128 : Shape := ⟨1, ![128]⟩
abbrev S128x1 : Shape := ⟨2, ![128, 1]⟩

abbrev nBuf : Space → Nat
  | .hbm => 4
  | .vmem => 3
  | .smem => 0
  | _ => 0

abbrev bufTy : (tb : Table) → Fin (tcTables nBuf tb) → BufTy
  | .hbm, ⟨0, _⟩ => ⟨S128x2048, .f32⟩
  | .hbm, ⟨1, _⟩ => ⟨S2048, .f32⟩
  | .hbm, ⟨2, _⟩ => ⟨S1x2048, .f32⟩
  | .hbm, ⟨3, _⟩ => ⟨S128x2048, .f32⟩
  | .local _ .vmem, ⟨0, _⟩ => ⟨S128x2048, .f32⟩
  | .local _ .vmem, ⟨1, _⟩ => ⟨S1x2048, .f32⟩
  | .local _ .vmem, ⟨2, _⟩ => ⟨S128x2048, .f32⟩
  | _, _ => ⟨S128x2048, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S128x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]
-- ==== LastRefIdeal.lean ====
abbrev S128x2048 : Shape := ⟨2, ![128, 2048]⟩
abbrev S2048 : Shape := ⟨1, ![2048]⟩
abbrev S_ : Shape := ⟨0, ![]⟩
abbrev S128 : Shape := ⟨1, ![128]⟩
abbrev S128x1 : Shape := ⟨2, ![128, 1]⟩
abbrev S1x2048 : Shape := ⟨2, ![1, 2048]⟩

abbrev nBuf : Space → Nat
  | .hbm => 18
  | .vmem => 0
  | .smem => 0
  | _ => 0

abbrev bufTy : (tb : Table) → Fin (tcTables nBuf tb) → BufTy
  | .hbm, ⟨0, _⟩ => ⟨S128x2048, .f32⟩
  | .hbm, ⟨1, _⟩ => ⟨S2048, .f32⟩
  | .hbm, ⟨2, _⟩ => ⟨S128x2048, .f32⟩
  | .hbm, ⟨3, _⟩ => ⟨S_, .f32⟩
  | .hbm, ⟨4, _⟩ => ⟨S128, .f32⟩
  | .hbm, ⟨5, _⟩ => ⟨S128x1, .f32⟩
  | .hbm, ⟨6, _⟩ => ⟨S_, .f32⟩
  | .hbm, ⟨7, _⟩ => ⟨S128x1, .f32⟩
  | .hbm, ⟨8, _⟩ => ⟨S128x1, .f32⟩
  | .hbm, ⟨9, _⟩ => ⟨S_, .f32⟩
  | .hbm, ⟨10, _⟩ => ⟨S128x1, .f32⟩
  | .hbm, ⟨11, _⟩ => ⟨S128x1, .f32⟩
  | .hbm, ⟨12, _⟩ => ⟨S128x1, .f32⟩
  | .hbm, ⟨13, _⟩ => ⟨S128x2048, .f32⟩
  | .hbm, ⟨14, _⟩ => ⟨S128x2048, .f32⟩
  | .hbm, ⟨15, _⟩ => ⟨S1x2048, .f32⟩
  | .hbm, ⟨16, _⟩ => ⟨S128x2048, .f32⟩
  | .hbm, ⟨17, _⟩ => ⟨S128x2048, .f32⟩
  | _, _ => ⟨S128x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩

abbrev nD : Nat := 1
abbrev τ : Topo := Topo.v7x

variable {F : FTy → Type} [FloatOps F]
-- ==== Blend.lean ====
abbrev S128x2048 : Shape := ⟨2, ![128, 2048]⟩
abbrev S2048x4632 : Shape := ⟨2, ![2048, 4632]⟩
abbrev S128x1024 : Shape := ⟨2, ![128, 1024]⟩
abbrev S2048x512 : Shape := ⟨2, ![2048, 512]⟩
abbrev S128x512 : Shape := ⟨2, ![128, 512]⟩
abbrev S256x512 : Shape := ⟨2, ![256, 512]⟩

abbrev nBuf : Space → Nat
  | .hbm => 3
  | .vmem => 9
  | .smem => 0
  | _ => 0

abbrev bufTy : (tb : Table) → Fin (tcTables nBuf tb) → BufTy
  | .hbm, ⟨0, _⟩ => ⟨S128x2048, .bf16⟩
  | .hbm, ⟨1, _⟩ => ⟨S2048x4632, .f32⟩
  | .hbm, ⟨2, _⟩ => ⟨S128x1024, .f32⟩
  | .local _ .vmem, ⟨0, _⟩ => ⟨S128x2048, .bf16⟩
  | .local _ .vmem, ⟨1, _⟩ => ⟨S2048x512, .f32⟩
  | .local _ .vmem, ⟨2, _⟩ => ⟨S2048x512, .f32⟩
  | .local _ .vmem, ⟨3, _⟩ => ⟨S2048x512, .f32⟩
  | .local _ .vmem, ⟨4, _⟩ => ⟨S2048x512, .f32⟩
  | .local _ .vmem, ⟨5, _⟩ => ⟨S128x512, .f32⟩
  | .local _ .vmem, ⟨6, _⟩ => ⟨S128x512, .f32⟩
  | .local _ .vmem, ⟨7, _⟩ => ⟨S2048x512, .bf16⟩
  | .local _ .vmem, ⟨8, _⟩ => ⟨S2048x512, .bf16⟩
  | _, _ => ⟨S128x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_scratch1 : Ref sig .tc := ⟨.vmem, 8, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![2, 1], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

@[reducible] def k0_t1_loop : Scf.Loop 32 :=
  let c0_i32_9 : BitVec 32 := 0#32
  let c8_i32 : BitVec 32 := 8#32
  let v11 : BitVec 32 := Scalar.addi c0_i32_9 c8_i32
  let c1_i32 : BitVec 32 := 1#32
  ⟨c0_i32_9, v11, c1_i32⟩
def k0_mult1 (k0_t1 : Fin k0_t1_loop.trips) : BitVec 32 :=
  let c0_i32_9 : BitVec 32 := 0#32
  let c1_i32 : BitVec 32 := 1#32
  let arg8 : BitVec 32 := Scf.iv c0_i32_9 c1_i32 k0_t1
  let c256_i32 : BitVec 32 := 256#32
  let v13 : BitVec 32 := Scalar.muli arg8 c256_i32
  v13
def k0_off1 (k0_t1 : Fin k0_t1_loop.trips) : Fin 2 → Nat :=
  let c0_i32_9 : BitVec 32 := 0#32
  let c1_i32 : BitVec 32 := 1#32
  let arg8 : BitVec 32 := Scf.iv c0_i32_9 c1_i32 k0_t1
  let c256_i32 : BitVec 32 := 256#32
  let v13 : BitVec 32 := Scalar.muli arg8 c256_i32
  let v14 : BitVec 32 := v13
  let v15 : Index := Scalar.indexCast v14
  let c0_15 : Index := 0#32
  ![v15.toNat, 0]
@[reducible] def k0_t2_loop : Scf.Loop 32 :=
  let c0_i32_11 : BitVec 32 := 0#32
  let c8_i32_12 : BitVec 32 := 8#32
  let v12 : BitVec 32 := Scalar.addi c0_i32_11 c8_i32_12
  let c1_i32_13 : BitVec 32 := 1#32
  ⟨c0_i32_11, v12, c1_i32_13⟩
def k0_mult2 (k0_t2 : Fin k0_t2_loop.trips) : BitVec 32 :=
  let c0_i32_11 : BitVec 32 := 0#32
  let c1_i32_13 : BitVec 32 := 1#32
  let arg8 : BitVec 32 := Scf.iv c0_i32_11 c1_i32_13 k0_t2
  let c256_i32 : BitVec 32 := 256#32
  let v13 : BitVec 32 := Scalar.muli arg8 c256_i32
  v13
def k0_off2 (k0_t2 : Fin k0_t2_loop.trips) : Fin 2 → Nat :=
  let c0_i32_11 : BitVec 32 := 0#32
  let c1_i32_13 : BitVec 32 := 1#32
  let arg8 : BitVec 32 := Scf.iv c0_i32_11 c1_i32_13 k0_t2
  let c256_i32 : BitVec 32 := 256#32
  let v13 : BitVec 32 := Scalar.muli arg8 c256_i32
  let v14 : BitVec 32 := v13
  let v15 : Index := Scalar.indexCast v14
  let c0_15 : Index := 0#32
  ![v15.toNat, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  let c0_i32_1 : BitVec 32 := 0#32
  ![c0_i32_0.toNat, v0.toNat]

def cc0_transform_2 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.addi arg0 c2_i32
  let c0_i32 : BitVec 32 := 0#32
  let c0_i32_0 : BitVec 32 := 0#32
  ![c0_i32.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 1 → Memref sig .tc .vmem S128x2048 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, true]

abbrev stage0_1 : Fin 2 → Memref sig .tc .vmem S2048x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S2048x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S128x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== BlendRefIdeal.lean ====
abbrev S128x2048 : Shape := ⟨2, ![128, 2048]⟩
abbrev S2048x4632 : Shape := ⟨2, ![2048, 4632]⟩
abbrev S2048x2048 : Shape := ⟨2, ![2048, 2048]⟩
abbrev S128x1024 : Shape := ⟨2, ![128, 1024]⟩
abbrev S_ : Shape := ⟨0, ![]⟩

abbrev nBuf : Space → Nat
  | .hbm => 16
  | .vmem => 0
  | .smem => 0
  | _ => 0

abbrev bufTy : (tb : Table) → Fin (tcTables nBuf tb) → BufTy
  | .hbm, ⟨0, _⟩ => ⟨S128x2048, .bf16⟩
  | .hbm, ⟨1, _⟩ => ⟨S2048x4632, .f32⟩
  | .hbm, ⟨2, _⟩ => ⟨S128x2048, .f32⟩
  | .hbm, ⟨3, _⟩ => ⟨S2048x2048, .f32⟩
  | .hbm, ⟨4, _⟩ => ⟨S128x2048, .f32⟩
  | .hbm, ⟨5, _⟩ => ⟨S128x1024, .f32⟩
  | .hbm, ⟨6, _⟩ => ⟨S128x1024, .f32⟩
  | .hbm, ⟨7, _⟩ => ⟨S128x1024, .f32⟩
  | .hbm, ⟨8, _⟩ => ⟨S128x1024, .f32⟩
  | .hbm, ⟨9, _⟩ => ⟨S_, .f32⟩
  | .hbm, ⟨10, _⟩ => ⟨S128x1024, .f32⟩
  | .hbm, ⟨11, _⟩ => ⟨S128x1024, .f32⟩
  | .hbm, ⟨12, _⟩ => ⟨S_, .f32⟩
  | .hbm, ⟨13, _⟩ => ⟨S128x1024, .f32⟩
  | .hbm, ⟨14, _⟩ => ⟨S128x1024, .f32⟩
  | .hbm, ⟨15, _⟩ => ⟨S128x1024, .f32⟩
  | _, _ => ⟨S128x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_cst : Ref sig .tc := ⟨.hbm, 9, rfl⟩
abbrev main_v7 : Ref sig .tc := ⟨.hbm, 10, rfl⟩
abbrev main_v8 : Ref sig .tc := ⟨.hbm, 11, rfl⟩
abbrev main_cst_0 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩

abbrev nD : Nat := 1
abbrev τ : Topo := Topo.v7x

variable {F : FTy → Type} [FloatOps F]
-- ==== Proof.AttnRun.lean ====
/- One grid point of the machine reading of the kernel: the body's triple over whole staging buffers. The steps follow the launch's
   set-up; the body's text is unfolded only once the buffers' resources stand in the context. -/
module

public import proofs.«01_k».proof.Proof.Gen.Attn.Frame.Runs

@[expose] public section

-- membership in a rectangle of production extents (`View.cover_of_tiled`): the elaborator's structural look
-- recurses once per coordinate of the long axes
set_option maxRecDepth 16384

noncomputable section

namespace Cert.Attn.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the body is one straight line of sixteen page loads, two heads and their stores: its run is one long term
set_option maxHeartbeats 4000000 in
/-- The body's triple: on whole staging memrefs — the inputs' at their contents,
    the FORGOTTEN outputs' (22, 23) at anything, handed back at some contents nothing names —
    the body runs to the continuation holding the inputs' as they were: the printed functions are their skeletons (`Gen.*_eq_skeleton`),
    which `sl_exec` runs (Lib/Exec.lean). -/
theorem kernelRun0_A (c : Dev nD) (i : grid0.Coords) (arg2 : Memref sig .tc .vmem S1x2x16x128 .f32) (harg2 : arg2.IsWhole) (arg3 : Memref sig .tc .vmem S1x2x128 .f32) (harg3 : arg3.IsWhole) (arg4 : Memref sig .tc .vmem S1x3x512 .f32) (harg4 : arg4.IsWhole) (arg5 : Memref sig .tc .vmem S1x2x16x128 .f32) (harg5 : arg5.IsWhole) (arg6 : Memref sig .tc .vmem S1x1x128 .f32) (harg6 : arg6.IsWhole) (arg7 : Memref sig .tc .vmem S1x2048x128 .f32) (harg7 : arg7.IsWhole) (arg8 : Memref sig .tc .vmem S512x128 .f32) (harg8 : arg8.IsWhole) (arg9 : Memref sig .tc .vmem S512x128 .f32) (harg9 : arg9.IsWhole) (arg10 : Memref sig .tc .vmem S512x128 .f32) (harg10 : arg10.IsWhole) (arg11 : Memref sig .tc .vmem S512x128 .f32) (harg11 : arg11.IsWhole) (arg12 : Memref sig .tc .vmem S512x128 .f32) (harg12 : arg12.IsWhole) (arg13 : Memref sig .tc .vmem S512x128 .f32) (harg13 : arg13.IsWhole) (arg14 : Memref sig .tc .vmem S512x128 .f32) (harg14 : arg14.IsWhole) (arg15 : Memref sig .tc .vmem S512x128 .f32) (harg15 : arg15.IsWhole) (arg16 : Memref sig .tc .vmem S512x128 .f32) (harg16 : arg16.IsWhole) (arg17 : Memref sig .tc .vmem S512x128 .f32) (harg17 : arg17.IsWhole) (arg18 : Memref sig .tc .vmem S512x128 .f32) (harg18 : arg18.IsWhole) (arg19 : Memref sig .tc .vmem S512x128 .f32) (harg19 : arg19.IsWhole) (arg20 : Memref sig .tc .vmem S512x128 .f32) (harg20 : arg20.IsWhole) (arg21 : Memref sig .tc .vmem S512x128 .f32) (harg21 : arg21.IsWhole) (arg22 : Memref sig .tc .vmem S512x128 .f32) (harg22 : arg22.IsWhole) (arg23 : Memref sig .tc .vmem S512x128 .f32) (harg23 : arg23.IsWhole) (arg24 : Memref sig .tc .vmem S1x2x16x128 .f32) (harg24 : arg24.IsWhole) (arg25 : Memref sig .tc .vmem S1x2048x128 .f32) (harg25 : arg25.IsWhole)
    (x0 : Vec F S1x2x16x128 .f32) (x1 : Vec F S1x2x128 .f32) (x2 : Vec F S1x3x512 .f32) (x3 : Vec F S1x2x16x128 .f32) (x4 : Vec F S1x1x128 .f32) (x5 : Vec F S1x2048x128 .f32) (x6 : Vec F S512x128 .f32) (x7 : Vec F S512x128 .f32) (x8 : Vec F S512x128 .f32) (x9 : Vec F S512x128 .f32) (x10 : Vec F S512x128 .f32) (x11 : Vec F S512x128 .f32) (x12 : Vec F S512x128 .f32) (x13 : Vec F S512x128 .f32) (x14 : Vec F S512x128 .f32) (x15 : Vec F S512x128 .f32) (x16 : Vec F S512x128 .f32) (x17 : Vec F S512x128 .f32) (x18 : Vec F S512x128 .f32) (x19 : Vec F S512x128 .f32) (x20 : Vec F S512x128 .f32) (x21 : Vec F S512x128 .f32) (xt0 : TbBuf0 (F := F) c tbM0_0) :
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ owns (c : Thread nD τ) arg15 fullShare x13 ∗ owns (c : Thread nD τ) arg16 fullShare x14 ∗ owns (c : Thread nD τ) arg17 fullShare x15 ∗ owns (c : Thread nD τ) arg18 fullShare x16 ∗ owns (c : Thread nD τ) arg19 fullShare x17 ∗ owns (c : Thread nD τ) arg20 fullShare x18 ∗ owns (c : Thread nD τ) arg21 fullShare x19 ∗ owns (c : Thread nD τ) arg22 fullShare x20 ∗ owns (c : Thread nD τ) arg23 fullShare x21 ∗ (∃ d, owns (c : Thread nD τ) arg24 fullShare d) ∗ (∃ d, owns (c : Thread nD τ) arg25 fullShare d) ∗ tbPt0 c tbM0_0 xt0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ owns (c : Thread nD τ) arg15 fullShare x13 ∗ owns (c : Thread nD τ) arg16 fullShare x14 ∗ owns (c : Thread nD τ) arg17 fullShare x15 ∗ owns (c : Thread nD τ) arg18 fullShare x16 ∗ owns (c : Thread nD τ) arg19 fullShare x17 ∗ owns (c : Thread nD τ) arg20 fullShare x18 ∗ owns (c : Thread nD τ) arg21 fullShare x19 ∗ owns (c : Thread nD τ) arg22 fullShare x20 ∗ owns (c : Thread nD τ) arg23 fullShare x21 ∗ (∃ d, owns (c : Thread nD τ) arg24 fullShare d) ∗ (∃ d, owns (c : Thread nD τ) arg25 fullShare d) ∗ tbPt0 c tbM0_0 xt0) -∗ K ⟨⟩))
          ⊢ wp frame (wpE (defs₀ (F := F)) Variants.none c none) E (cc0__attn_sample_body i tbM0_0 htbM0_0 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25) K := by
    intro E K
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%f18, %hf18, H18⟩, ⟨%f19, %hf19, H19⟩, ⟨%f20, %hf20, H20⟩, ⟨%f21, %hf21, H21⟩, ⟨%d22, %f22, -, H22⟩, ⟨%d23, %f23, -, H23⟩, HT0, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10; obtain rfl := harg13.eq_unread hf11; obtain rfl := harg14.eq_unread hf12; obtain rfl := harg15.eq_unread hf13; obtain rfl := harg16.eq_unread hf14; obtain rfl := harg17.eq_unread hf15; obtain rfl := harg18.eq_unread hf16; obtain rfl := harg19.eq_unread hf17; obtain rfl := harg20.eq_unread hf18; obtain rfl := harg21.eq_unread hf19; obtain rfl := harg22.eq_unread hf20; obtain rfl := harg23.eq_unread hf21
    simp only [cc0__attn_sample_body_eq_skeleton]; unfold cc0__attn_sample_body_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton]
    sl_exec
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [H10]
    · iexists _; isplitr; · ipureintro; exact harg12.read_unread _
      iexact H10
    isplitl [H11]
    · iexists _; isplitr; · ipureintro; exact harg13.read_unread _
      iexact H11
    isplitl [H12]
    · iexists _; isplitr; · ipureintro; exact harg14.read_unread _
      iexact H12
    isplitl [H13]
    · iexists _; isplitr; · ipureintro; exact harg15.read_unread _
      iexact H13
    isplitl [H14]
    · iexists _; isplitr; · ipureintro; exact harg16.read_unread _
      iexact H14
    isplitl [H15]
    · iexists _; isplitr; · ipureintro; exact harg17.read_unread _
      iexact H15
    isplitl [H16]
    · iexists _; isplitr; · ipureintro; exact harg18.read_unread _
      iexact H16
    isplitl [H17]
    · iexists _; isplitr; · ipureintro; exact harg19.read_unread _
      iexact H17
    isplitl [H18]
    · iexists _; isplitr; · ipureintro; exact harg20.read_unread _
      iexact H18
    isplitl [H19]
    · iexists _; isplitr; · ipureintro; exact harg21.read_unread _
      iexact H19
    isplitl [H20]
    · iexists _; isplitr; · ipureintro; exact harg22.read_unread _
      iexact H20
    isplitl [H21]
    · iexists _; isplitr; · ipureintro; exact harg23.read_unread _
      iexact H21
    isplitl [H22]
    · iexists _, _; isplitr; swap; · iexact H22
      ipureintro; rfl
    isplitl [H23]
    · iexists _, _; isplitr; swap; · iexact H23
      ipureintro; rfl
    iexact HT0

end Cert.Attn.Gen

end
-- ==== Proof.AttnFrame.lean ====
/- The launch of the machine reading of the kernel: the pipeline's proof data, the body obligation at every grid point, the run of the
   whole program and the frame, for every table under its side condition `Ok`. -/
module

public import proofs.«01_k».proof.Proof.AttnRun
public import Idealize.ShloMosaic.Lib.Claim

@[expose] public section

-- membership in a rectangle of production extents (`View.cover_of_tiled`): the elaborator's structural look
-- recurses once per coordinate of the long axes
set_option maxRecDepth 16384

noncomputable section

namespace Cert.Attn.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## The pipeline's proof data -/

/-- The output windows this certificate FORGETS (22, 23): nothing reads what the kernel leaves in them, so nothing
    of it is named (Lib/Pipeline/Dat.lean `Dat.toRForget`). -/
def forgets0 : Fin 24 → Bool := fun w => w.val == 22 || w.val == 23

/-- The proof data of the one pipeline on core `c`: the arrays as the region finds them (`V`); after the body at
    point `t` each input's buffer at its block and the outputs, FORGOTTEN, at `Dat.unnamed`; the invariant the class's
    (Lib/Pipeline/Frame.lean `ΦA`: the scoped rest and the generator register) and the tables' halves (`ΦT`); nothing owed;
    each input's share of its array
    (`Pipeline.shareOf`: the full share of an array several windows stage, dealt among them). -/
def dats (hO : Ok m) (_ : Fin 1) (c : Dev nD) : Dat τ (Elt F) Unit ℕ (UR sig nD τ) ℕ (cfgM m hO) c where
  A w := V m c (Pipeline.arrRef spec0 w)
  after w t := match w with
    | ⟨0, _⟩ => iblk m hO c 0 t
    | ⟨1, _⟩ => iblk m hO c 1 t
    | ⟨2, _⟩ => iblk m hO c 2 t
    | ⟨3, _⟩ => iblk m hO c 3 t
    | ⟨4, _⟩ => iblk m hO c 4 t
    | ⟨5, _⟩ => iblk m hO c 5 t
    | ⟨6, _⟩ => iblk m hO c 6 t
    | ⟨7, _⟩ => iblk m hO c 7 t
    | ⟨8, _⟩ => iblk m hO c 8 t
    | ⟨9, _⟩ => iblk m hO c 9 t
    | ⟨10, _⟩ => iblk m hO c 10 t
    | ⟨11, _⟩ => iblk m hO c 11 t
    | ⟨12, _⟩ => iblk m hO c 12 t
    | ⟨13, _⟩ => iblk m hO c 13 t
    | ⟨14, _⟩ => iblk m hO c 14 t
    | ⟨15, _⟩ => iblk m hO c 15 t
    | ⟨16, _⟩ => iblk m hO c 16 t
    | ⟨17, _⟩ => iblk m hO c 17 t
    | ⟨18, _⟩ => iblk m hO c 18 t
    | ⟨19, _⟩ => iblk m hO c 19 t
    | ⟨20, _⟩ => iblk m hO c 20 t
    | ⟨21, _⟩ => iblk m hO c 21 t
    | ⟨22, h⟩ => Pipeline.Dat.unnamed (cfg := (cfgM m hO)) ⟨22, h⟩ t
    | ⟨23, h⟩ => Pipeline.Dat.unnamed (cfg := (cfgM m hO)) ⟨23, h⟩ t
    | ⟨_ + 24, h⟩ => absurd h (Nat.not_lt.2 (Nat.le_add_left _ _))
  Φ _ := iprop(Pipeline.ΦA spec0 c ∗ Pipeline.ΦT pre0 (tbl m) c)
  q w := Pipeline.shareOf spec0 w
  owed _ := 0

/-- The proof data's arrays are the region-entry contents: the proof data's definition projected (`dsimp`), so that
    `V` — a fold over @main's host prefix, long for some programs — is never unfolded to check it. -/
theorem A_eq (hO : Ok m) (c : Dev nD) (w : Fin (cfgM m hO).W) : (dats m hO 0 c).A w = V m c (Pipeline.arrRef spec0 w) := by
  dsimp only [dats]

/-- What the body leaves, window by window (the proof data's `match` reduced by `dsimp`). -/
theorem after0_0 (hO : Ok m) (c : Dev nD) (t : Fin (cfgM m hO).N) : (dats m hO 0 c).after 0 t = iblk m hO c 0 t := by dsimp only [dats]; try rfl
theorem after0_1 (hO : Ok m) (c : Dev nD) (t : Fin (cfgM m hO).N) : (dats m hO 0 c).after 1 t = iblk m hO c 1 t := by dsimp only [dats]; try rfl
theorem after0_2 (hO : Ok m) (c : Dev nD) (t : Fin (cfgM m hO).N) : (dats m hO 0 c).after 2 t = iblk m hO c 2 t := by dsimp only [dats]; try rfl
theorem after0_3 (hO : Ok m) (c : Dev nD) (t : Fin (cfgM m hO).N) : (dats m hO 0 c).after 3 t = iblk m hO c 3 t := by dsimp only [dats]; try rfl
theorem after0_4 (hO : Ok m) (c : Dev nD) (t : Fin (cfgM m hO).N) : (dats m hO 0 c).after 4 t = iblk m hO c 4 t := by dsimp only [dats]; try rfl
theorem after0_5 (hO : Ok m) (c : Dev nD) (t : Fin (cfgM m hO).N) : (dats m hO 0 c).after 5 t = iblk m hO c 5 t := by dsimp only [dats]; try rfl
theorem after0_6 (hO : Ok m) (c : Dev nD) (t : Fin (cfgM m hO).N) : (dats m hO 0 c).after 6 t = iblk m hO c 6 t := by dsimp only [dats]; try rfl
theorem after0_7 (hO : Ok m) (c : Dev nD) (t : Fin (cfgM m hO).N) : (dats m hO 0 c).after 7 t = iblk m hO c 7 t := by dsimp only [dats]; try rfl
theorem after0_8 (hO : Ok m) (c : Dev nD) (t : Fin (cfgM m hO).N) : (dats m hO 0 c).after 8 t = iblk m hO c 8 t := by dsimp only [dats]; try rfl
theorem after0_9 (hO : Ok m) (c : Dev nD) (t : Fin (cfgM m hO).N) : (dats m hO 0 c).after 9 t = iblk m hO c 9 t := by dsimp only [dats]; try rfl
theorem after0_10 (hO : Ok m) (c : Dev nD) (t : Fin (cfgM m hO).N) : (dats m hO 0 c).after 10 t = iblk m hO c 10 t := by dsimp only [dats]; try rfl
theorem after0_11 (hO : Ok m) (c : Dev nD) (t : Fin (cfgM m hO).N) : (dats m hO 0 c).after 11 t = iblk m hO c 11 t := by dsimp only [dats]; try rfl
theorem after0_12 (hO : Ok m) (c : Dev nD) (t : Fin (cfgM m hO).N) : (dats m hO 0 c).after 12 t = iblk m hO c 12 t := by dsimp only [dats]; try rfl
theorem after0_13 (hO : Ok m) (c : Dev nD) (t : Fin (cfgM m hO).N) : (dats m hO 0 c).after 13 t = iblk m hO c 13 t := by dsimp only [dats]; try rfl
theorem after0_14 (hO : Ok m) (c : Dev nD) (t : Fin (cfgM m hO).N) : (dats m hO 0 c).after 14 t = iblk m hO c 14 t := by dsimp only [dats]; try rfl
theorem after0_15 (hO : Ok m) (c : Dev nD) (t : Fin (cfgM m hO).N) : (dats m hO 0 c).after 15 t = iblk m hO c 15 t := by dsimp only [dats]; try rfl
theorem after0_16 (hO : Ok m) (c : Dev nD) (t : Fin (cfgM m hO).N) : (dats m hO 0 c).after 16 t = iblk m hO c 16 t := by dsimp only [dats]; try rfl
theorem after0_17 (hO : Ok m) (c : Dev nD) (t : Fin (cfgM m hO).N) : (dats m hO 0 c).after 17 t = iblk m hO c 17 t := by dsimp only [dats]; try rfl
theorem after0_18 (hO : Ok m) (c : Dev nD) (t : Fin (cfgM m hO).N) : (dats m hO 0 c).after 18 t = iblk m hO c 18 t := by dsimp only [dats]; try rfl
theorem after0_19 (hO : Ok m) (c : Dev nD) (t : Fin (cfgM m hO).N) : (dats m hO 0 c).after 19 t = iblk m hO c 19 t := by dsimp only [dats]; try rfl
theorem after0_20 (hO : Ok m) (c : Dev nD) (t : Fin (cfgM m hO).N) : (dats m hO 0 c).after 20 t = iblk m hO c 20 t := by dsimp only [dats]; try rfl
theorem after0_21 (hO : Ok m) (c : Dev nD) (t : Fin (cfgM m hO).N) : (dats m hO 0 c).after 21 t = iblk m hO c 21 t := by dsimp only [dats]; try rfl

/-- Each input's current staging buffer holds its block at every point, fetched there or not (`beforeK_W_of`). -/
theorem before0_0 (hO : Ok m) (c : Dev nD) (t : Fin (cfgM m hO).N) (d) : (dats m hO 0 c).before 0 t d = iblk m hO c 0 t :=
  before0_0_of m hO (dats m hO 0 c) (A_eq m hO c 0) (after0_0 m hO c) t d
theorem before0_1 (hO : Ok m) (c : Dev nD) (t : Fin (cfgM m hO).N) (d) : (dats m hO 0 c).before 1 t d = iblk m hO c 1 t :=
  before0_1_of m hO (dats m hO 0 c) (A_eq m hO c 1) (after0_1 m hO c) t d
theorem before0_2 (hO : Ok m) (c : Dev nD) (t : Fin (cfgM m hO).N) (d) : (dats m hO 0 c).before 2 t d = iblk m hO c 2 t :=
  before0_2_of m hO (dats m hO 0 c) (A_eq m hO c 2) (after0_2 m hO c) t d
theorem before0_3 (hO : Ok m) (c : Dev nD) (t : Fin (cfgM m hO).N) (d) : (dats m hO 0 c).before 3 t d = iblk m hO c 3 t :=
  before0_3_of m hO (dats m hO 0 c) (A_eq m hO c 3) (after0_3 m hO c) t d
theorem before0_4 (hO : Ok m) (c : Dev nD) (t : Fin (cfgM m hO).N) (d) : (dats m hO 0 c).before 4 t d = iblk m hO c 4 t :=
  before0_4_of m hO (dats m hO 0 c) (A_eq m hO c 4) (after0_4 m hO c) t d
theorem before0_5 (hO : Ok m) (c : Dev nD) (t : Fin (cfgM m hO).N) (d) : (dats m hO 0 c).before 5 t d = iblk m hO c 5 t :=
  before0_5_of m hO (dats m hO 0 c) (A_eq m hO c 5) (after0_5 m hO c) t d
theorem before0_6 (hO : Ok m) (c : Dev nD) (t : Fin (cfgM m hO).N) (d) : (dats m hO 0 c).before 6 t d = iblk m hO c 6 t :=
  before0_6_of m hO (dats m hO 0 c) (A_eq m hO c 6) (after0_6 m hO c) t d
theorem before0_7 (hO : Ok m) (c : Dev nD) (t : Fin (cfgM m hO).N) (d) : (dats m hO 0 c).before 7 t d = iblk m hO c 7 t :=
  before0_7_of m hO (dats m hO 0 c) (A_eq m hO c 7) (after0_7 m hO c) t d
theorem before0_8 (hO : Ok m) (c : Dev nD) (t : Fin (cfgM m hO).N) (d) : (dats m hO 0 c).before 8 t d = iblk m hO c 8 t :=
  before0_8_of m hO (dats m hO 0 c) (A_eq m hO c 8) (after0_8 m hO c) t d
theorem before0_9 (hO : Ok m) (c : Dev nD) (t : Fin (cfgM m hO).N) (d) : (dats m hO 0 c).before 9 t d = iblk m hO c 9 t :=
  before0_9_of m hO (dats m hO 0 c) (A_eq m hO c 9) (after0_9 m hO c) t d
theorem before0_10 (hO : Ok m) (c : Dev nD) (t : Fin (cfgM m hO).N) (d) : (dats m hO 0 c).before 10 t d = iblk m hO c 10 t :=
  before0_10_of m hO (dats m hO 0 c) (A_eq m hO c 10) (after0_10 m hO c) t d
theorem before0_11 (hO : Ok m) (c : Dev nD) (t : Fin (cfgM m hO).N) (d) : (dats m hO 0 c).before 11 t d = iblk m hO c 11 t :=
  before0_11_of m hO (dats m hO 0 c) (A_eq m hO c 11) (after0_11 m hO c) t d
theorem before0_12 (hO : Ok m) (c : Dev nD) (t : Fin (cfgM m hO).N) (d) : (dats m hO 0 c).before 12 t d = iblk m hO c 12 t :=
  before0_12_of m hO (dats m hO 0 c) (A_eq m hO c 12) (after0_12 m hO c) t d
theorem before0_13 (hO : Ok m) (c : Dev nD) (t : Fin (cfgM m hO).N) (d) : (dats m hO 0 c).before 13 t d = iblk m hO c 13 t :=
  before0_13_of m hO (dats m hO 0 c) (A_eq m hO c 13) (after0_13 m hO c) t d
theorem before0_14 (hO : Ok m) (c : Dev nD) (t : Fin (cfgM m hO).N) (d) : (dats m hO 0 c).before 14 t d = iblk m hO c 14 t :=
  before0_14_of m hO (dats m hO 0 c) (A_eq m hO c 14) (after0_14 m hO c) t d
theorem before0_15 (hO : Ok m) (c : Dev nD) (t : Fin (cfgM m hO).N) (d) : (dats m hO 0 c).before 15 t d = iblk m hO c 15 t :=
  before0_15_of m hO (dats m hO 0 c) (A_eq m hO c 15) (after0_15 m hO c) t d
theorem before0_16 (hO : Ok m) (c : Dev nD) (t : Fin (cfgM m hO).N) (d) : (dats m hO 0 c).before 16 t d = iblk m hO c 16 t :=
  before0_16_of m hO (dats m hO 0 c) (A_eq m hO c 16) (after0_16 m hO c) t d
theorem before0_17 (hO : Ok m) (c : Dev nD) (t : Fin (cfgM m hO).N) (d) : (dats m hO 0 c).before 17 t d = iblk m hO c 17 t :=
  before0_17_of m hO (dats m hO 0 c) (A_eq m hO c 17) (after0_17 m hO c) t d
theorem before0_18 (hO : Ok m) (c : Dev nD) (t : Fin (cfgM m hO).N) (d) : (dats m hO 0 c).before 18 t d = iblk m hO c 18 t :=
  before0_18_of m hO (dats m hO 0 c) (A_eq m hO c 18) (after0_18 m hO c) t d
theorem before0_19 (hO : Ok m) (c : Dev nD) (t : Fin (cfgM m hO).N) (d) : (dats m hO 0 c).before 19 t d = iblk m hO c 19 t :=
  before0_19_of m hO (dats m hO 0 c) (A_eq m hO c 19) (after0_19 m hO c) t d
theorem before0_20 (hO : Ok m) (c : Dev nD) (t : Fin (cfgM m hO).N) (d) : (dats m hO 0 c).before 20 t d = iblk m hO c 20 t :=
  before0_20_of m hO (dats m hO 0 c) (A_eq m hO c 20) (after0_20 m hO c) t d
theorem before0_21 (hO : Ok m) (c : Dev nD) (t : Fin (cfgM m hO).N) (d) : (dats m hO 0 c).before 21 t d = iblk m hO c 21 t :=
  before0_21_of m hO (dats m hO 0 c) (A_eq m hO c 21) (after0_21 m hO c) t d

/-! ## The body obligation, at a generic point -/

/-- What the body is called with at point `t` (Lib/Pipeline.lean `BodyObligation`'s precondition, the windows one by one), -/
def bodyPre (hO : Ok m) (c : Dev nD) (t : Fin (cfgM m hO).N) : sProp 𝕄 :=
  iprop((dats m hO 0 c).Φ t.castSucc ∗ (dats m hO 0 c).owesAt () t.castSucc
    ∗ (∃ d, owns (c : Thread nD τ) (ms0_0 m hO t) fullShare ((dats m hO 0 c).before 0 t d))
    ∗ (∃ d, owns (c : Thread nD τ) (ms0_1 m hO t) fullShare ((dats m hO 0 c).before 1 t d))
    ∗ (∃ d, owns (c : Thread nD τ) (ms0_2 m hO t) fullShare ((dats m hO 0 c).before 2 t d))
    ∗ (∃ d, owns (c : Thread nD τ) (ms0_3 m hO t) fullShare ((dats m hO 0 c).before 3 t d))
    ∗ (∃ d, owns (c : Thread nD τ) (ms0_4 m hO t) fullShare ((dats m hO 0 c).before 4 t d))
    ∗ (∃ d, owns (c : Thread nD τ) (ms0_5 m hO t) fullShare ((dats m hO 0 c).before 5 t d))
    ∗ (∃ d, owns (c : Thread nD τ) (ms0_6 m hO t) fullShare ((dats m hO 0 c).before 6 t d))
    ∗ (∃ d, owns (c : Thread nD τ) (ms0_7 m hO t) fullShare ((dats m hO 0 c).before 7 t d))
    ∗ (∃ d, owns (c : Thread nD τ) (ms0_8 m hO t) fullShare ((dats m hO 0 c).before 8 t d))
    ∗ (∃ d, owns (c : Thread nD τ) (ms0_9 m hO t) fullShare ((dats m hO 0 c).before 9 t d))
    ∗ (∃ d, owns (c : Thread nD τ) (ms0_10 m hO t) fullShare ((dats m hO 0 c).before 10 t d))
    ∗ (∃ d, owns (c : Thread nD τ) (ms0_11 m hO t) fullShare ((dats m hO 0 c).before 11 t d))
    ∗ (∃ d, owns (c : Thread nD τ) (ms0_12 m hO t) fullShare ((dats m hO 0 c).before 12 t d))
    ∗ (∃ d, owns (c : Thread nD τ) (ms0_13 m hO t) fullShare ((dats m hO 0 c).before 13 t d))
    ∗ (∃ d, owns (c : Thread nD τ) (ms0_14 m hO t) fullShare ((dats m hO 0 c).before 14 t d))
    ∗ (∃ d, owns (c : Thread nD τ) (ms0_15 m hO t) fullShare ((dats m hO 0 c).before 15 t d))
    ∗ (∃ d, owns (c : Thread nD τ) (ms0_16 m hO t) fullShare ((dats m hO 0 c).before 16 t d))
    ∗ (∃ d, owns (c : Thread nD τ) (ms0_17 m hO t) fullShare ((dats m hO 0 c).before 17 t d))
    ∗ (∃ d, owns (c : Thread nD τ) (ms0_18 m hO t) fullShare ((dats m hO 0 c).before 18 t d))
    ∗ (∃ d, owns (c : Thread nD τ) (ms0_19 m hO t) fullShare ((dats m hO 0 c).before 19 t d))
    ∗ (∃ d, owns (c : Thread nD τ) (ms0_20 m hO t) fullShare ((dats m hO 0 c).before 20 t d))
    ∗ (∃ d, owns (c : Thread nD τ) (ms0_21 m hO t) fullShare ((dats m hO 0 c).before 21 t d))
    ∗ (∃ d, owns (c : Thread nD τ) (ms0_22 m hO t) fullShare d)
    ∗ (∃ d, owns (c : Thread nD τ) (ms0_23 m hO t) fullShare d))

/-- and what it returns. -/
def bodyPost (hO : Ok m) (c : Dev nD) (t : Fin (cfgM m hO).N) : sProp 𝕄 :=
  iprop((dats m hO 0 c).Φ t.succ ∗ (dats m hO 0 c).owesAt () t.succ
    ∗ owns (c : Thread nD τ) (ms0_0 m hO t) fullShare ((dats m hO 0 c).after 0 t)
    ∗ owns (c : Thread nD τ) (ms0_1 m hO t) fullShare ((dats m hO 0 c).after 1 t)
    ∗ owns (c : Thread nD τ) (ms0_2 m hO t) fullShare ((dats m hO 0 c).after 2 t)
    ∗ owns (c : Thread nD τ) (ms0_3 m hO t) fullShare ((dats m hO 0 c).after 3 t)
    ∗ owns (c : Thread nD τ) (ms0_4 m hO t) fullShare ((dats m hO 0 c).after 4 t)
    ∗ owns (c : Thread nD τ) (ms0_5 m hO t) fullShare ((dats m hO 0 c).after 5 t)
    ∗ owns (c : Thread nD τ) (ms0_6 m hO t) fullShare ((dats m hO 0 c).after 6 t)
    ∗ owns (c : Thread nD τ) (ms0_7 m hO t) fullShare ((dats m hO 0 c).after 7 t)
    ∗ owns (c : Thread nD τ) (ms0_8 m hO t) fullShare ((dats m hO 0 c).after 8 t)
    ∗ owns (c : Thread nD τ) (ms0_9 m hO t) fullShare ((dats m hO 0 c).after 9 t)
    ∗ owns (c : Thread nD τ) (ms0_10 m hO t) fullShare ((dats m hO 0 c).after 10 t)
    ∗ owns (c : Thread nD τ) (ms0_11 m hO t) fullShare ((dats m hO 0 c).after 11 t)
    ∗ owns (c : Thread nD τ) (ms0_12 m hO t) fullShare ((dats m hO 0 c).after 12 t)
    ∗ owns (c : Thread nD τ) (ms0_13 m hO t) fullShare ((dats m hO 0 c).after 13 t)
    ∗ owns (c : Thread nD τ) (ms0_14 m hO t) fullShare ((dats m hO 0 c).after 14 t)
    ∗ owns (c : Thread nD τ) (ms0_15 m hO t) fullShare ((dats m hO 0 c).after 15 t)
    ∗ owns (c : Thread nD τ) (ms0_16 m hO t) fullShare ((dats m hO 0 c).after 16 t)
    ∗ owns (c : Thread nD τ) (ms0_17 m hO t) fullShare ((dats m hO 0 c).after 17 t)
    ∗ owns (c : Thread nD τ) (ms0_18 m hO t) fullShare ((dats m hO 0 c).after 18 t)
    ∗ owns (c : Thread nD τ) (ms0_19 m hO t) fullShare ((dats m hO 0 c).after 19 t)
    ∗ owns (c : Thread nD τ) (ms0_20 m hO t) fullShare ((dats m hO 0 c).after 20 t)
    ∗ owns (c : Thread nD τ) (ms0_21 m hO t) fullShare ((dats m hO 0 c).after 21 t)
    ∗ (∃ d, owns (c : Thread nD τ) (ms0_22 m hO t) fullShare d)
    ∗ (∃ d, owns (c : Thread nD τ) (ms0_23 m hO t) fullShare d))

set_option maxHeartbeats 2400000 in
/-- The body at any point: the inputs' memrefs hold their blocks (`before0_W`); so the
    run applies; the invariant passes through unread; the core owes nothing throughout. -/
theorem sound_body (hO : Ok m) (c : Dev nD) (t : Fin (cfgM m hO).N) :
    bodyPre m hO c t ⊢ wp frame (wpE (defs₀ (F := F)) Variants.none c none) Set.univ (bodyAt0 (adm m hO) t) (fun _ => bodyPost m hO c t) := by
  unfold bodyPre bodyPost bodyAt0
  simp only [before0_0, before0_1, before0_2, before0_3, before0_4, before0_5, before0_6, before0_7, before0_8, before0_9, before0_10, before0_11, before0_12, before0_13, before0_14, before0_15, before0_16, before0_17, before0_18, before0_19, before0_20, before0_21]
  rw [show (dats m hO 0 c).Φ t.succ = (dats m hO 0 c).Φ t.castSucc from rfl,
    show (dats m hO 0 c).owesAt () t.succ = (dats m hO 0 c).owesAt () t.castSucc from rfl,
    after0_0, after0_1, after0_2, after0_3, after0_4, after0_5, after0_6, after0_7, after0_8, after0_9, after0_10, after0_11, after0_12, after0_13, after0_14, after0_15, after0_16, after0_17, after0_18, after0_19, after0_20, after0_21]
  rw [show (dats m hO 0 c).Φ t.castSucc = iprop(Pipeline.ΦA spec0 c ∗ Pipeline.ΦT pre0 (tbl m) c) from rfl, PhiT0_eq]
  iintro ⟨⟨HΦ, HT0⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩, ⟨%d23, H23⟩⟩
  iapply ((kernelRun0_A c (grid0.coords t) _ _ _ _ _ _ _ _ _ _ _ _ _ _ _ _ _ _ _ _ _ _ _ _ _ _ _ _ _ _ _ _ _ _ _ _ _ _ _ _ _ _ _ _ _ _ _ _ (iblk m hO c 0 t) (iblk m hO c 1 t) (iblk m hO c 2 t) (iblk m hO c 3 t) (iblk m hO c 4 t) (iblk m hO c 5 t) (iblk m hO c 6 t) (iblk m hO c 7 t) (iblk m hO c 8 t) (iblk m hO c 9 t) (iblk m hO c 10 t) (iblk m hO c 11 t) (iblk m hO c 12 t) (iblk m hO c 13 t) (iblk m hO c 14 t) (iblk m hO c 15 t) (iblk m hO c 16 t) (iblk m hO c 17 t) (iblk m hO c 18 t) (iblk m hO c 19 t) (iblk m hO c 20 t) (iblk m hO c 21 t) (tbl m 0)) Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexists _; iexact H22
  isplitl [H23]; · iexists _; iexact H23
  isplitl [HT0]; · iexact HT0
  iintro ⟨H0, H1, H2, H3, H4, H5, H6, H7, H8, H9, H10, H11, H12, H13, H14, H15, H16, H17, H18, H19, H20, H21, H22, H23, HT0⟩
  isplitl [HΦ HT0]
  · isplitl [HΦ]
    · iexact HΦ
    iexact HT0
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  iexact H23

/-- The body table's row at point `t`'s slots is the body as `bodyAt0` spells it. -/
theorem defs₀_row (hO : Ok m) (t : Fin (cfgM m hO).N) :
    defs₀ (F := F) .tc (cfgM m hO).body ((cfgM m hO).bodyArgs t ((cfgM m hO).slots t)) = bodyAt0 (adm m hO) t := by
  unfold defs₀; rw [Defs.onTc_tc]

/-- The library's body obligation, at every point: the body's triple restated (Lib/Pipeline/FrameBody.lean `triple_restated`). -/
theorem body_obligation (hO : Ok m) (c : Dev nD) : BodyObligation (dats (F := F) m hO 0 c) (defs₀ (F := F)) Variants.none () Set.univ forgets0 := fun t => by
  rw [bigSep_W0, bigSep_W0, defs₀_row m hO]
  exact triple_restated (sound_body m hO c t) rfl .rfl fun _ => .rfl

/-! ## The run and the frame -/

-- `θ_run_frameP_forget_shared`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent (hO : Ok m) : θ_run defs (onTc (τ := τ) (main (F := F))) (s₀ m ρ) (fun r => (Pipeline.RDat.FramePost ((Pipeline.pin pcfgs fun _ => adm m hO) 0) (fun c => (dats m hO 0 c).toRForget forgets0) (V m)) r ∧ r.2.sem = fun _ => 0) :=
  Pipeline.θ_run_frameP_forget_shared (Q' := _) pcfgs (fun _ => adm m hO) (dats m hO) (0 : Fin 1) launch₀0 defs₀ Variants.none forgets0 m ρ main
    (hbody := fun c => (body_obligation m hO c).loose) (hq := fun _ _ _ => rfl)
    (howed := fun _ _ => rfl) (V := V m) (hmain := hmain m Variants.none) (hA := A_eq m hO) (hpf := V_pre m) (hΦ := fun _ _ => rfl)

/-- At the compiled mesh, for any values, from any memory with zero counters: every weakly fair execution of @main on the
    TensorCores terminates, and every final state has every INPUT array of the pipeline unchanged, nothing stated of the
    FORGOTTEN outputs (windows 22, 23) (Lib/Pipeline/Frame.lean `RDat.FramePost` over the proof data with those windows
    forgotten, Dat.lean `Dat.toRForget`), and every other unscoped buffer at its region-entry contents. -/
theorem run_main (hO : Ok m) : θ_run defs (onTc (τ := τ) (main (F := F))) (s₀ m ρ) (Pipeline.RDat.FramePost ((Pipeline.pin pcfgs fun _ => adm m hO) 0) (fun c => (dats m hO 0 c).toRForget forgets0) (V m)) :=
  (θ_run defs _ _).mono (fun _ h => h.1) (run_main_quiescent m ρ hO)

set_option maxHeartbeats 1440000 in
/-- `frame` without the counters: the argument arrays end unchanged. -/
theorem unchanged (hO : Ok m) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun _ h c => ⟨((h c).2 main_arg0 (by decide : main_arg0 ∈ Pipeline.restRefs sig spec0)).trans (V_main_arg0 m c),
      ((h c).2 main_arg1 (by decide : main_arg1 ∈ Pipeline.restRefs sig spec0)).trans (V_main_arg1 m c),
      (Pipeline.RDat.FramePost.arr_in h c 1 rfl).trans ((A_eq m hO c 1).trans (V_main_arg2 m c)),
      ((h c).2 main_arg3 (by decide : main_arg3 ∈ Pipeline.restRefs sig spec0)).trans (V_main_arg3 m c),
      ((h c).2 main_arg4 (by decide : main_arg4 ∈ Pipeline.restRefs sig spec0)).trans (V_main_arg4 m c),
      ((h c).2 main_arg5 (by decide : main_arg5 ∈ Pipeline.restRefs sig spec0)).trans (V_main_arg5 m c),
      ((h c).2 main_arg6 (by decide : main_arg6 ∈ Pipeline.restRefs sig spec0)).trans (V_main_arg6 m c),
      ((h c).2 main_arg7 (by decide : main_arg7 ∈ Pipeline.restRefs sig spec0)).trans (V_main_arg7 m c)⟩) (run_main m ρ hO)

/-- THE FRAME: `Cert.quiescent_Attn`'s statement (Defs.lean) at any `F` — Proof.lean cites it at `Bits`:
    `theorem Cert.Proof.claim : Cert.Claim := ⟨Cert.Attn.Gen.facts, fun m ρ _ => Cert.Attn.Gen.frame m ρ⟩`; here for every contents of the PREFETCHED TABLES, UNDER `Gen.Ok m` (the pipeline's side condition of
    them), which Proof.lean proves from the precondition: `⟨…, fun m ρ h => Cert.Attn.Gen.frame m ρ (ok_of_pre m h)⟩`. -/
theorem frame (hO : Ok m) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7))
      ∧ r.2.sem = fun _ => 0) :=
  θ_run_and (unchanged m ρ hO) ((θ_run defs _ _).mono (fun _ h => h.2) (run_main_quiescent m ρ hO))

end Cert.Attn.Gen

end
-- ==== Proof.Softmax.lean ====
/- Softmax over a list of scores of which some are masked, in the extended reals: the form that keeps the last key
   apart and divides once at the end, and the form that divides every weight. No program is named here. -/
module

public import Idealize.ShloMosaic.Lib.Pointwise

@[expose] public section

set_option maxRecDepth 16384

noncomputable section

open Idealize.ShloMosaic

namespace Cert.Softmax

/-- Attention over the keys `s` and one key `sn` kept apart: the weights are exponentials against the greatest score,
    the weighted values are added up, and one division by the weights' sum comes last. -/
def apart {n : ℕ} (s v : Fin n → EReal) (sn vn : EReal) : EReal :=
  Ideal.div ((∑ k, Ideal.exp (s k - max (Finset.univ.fold max ⊥ s) sn) * v k) + Ideal.exp (sn - max (Finset.univ.fold max ⊥ s) sn) * vn)
    ((∑ k, Ideal.exp (s k - max (Finset.univ.fold max ⊥ s) sn)) + Ideal.exp (sn - max (Finset.univ.fold max ⊥ s) sn))

/-- Masked attention over the keys `t`: weights are exponentials against the greatest unmasked score and zero at masked keys,
    every weight is divided by their sum (no less than `c`), and the weighted values are added up. -/
def masked {n : ℕ} (ok : Fin n → Prop) [DecidablePred ok] (t v : Fin n → EReal) (c : EReal) : EReal :=
  ∑ k, Ideal.div (if ok k then Ideal.exp ((if ok k then t k else ⊥) - Finset.univ.fold max ⊥ fun j => if ok j then t j else ⊥) else 0)
    (max (∑ k, if ok k then Ideal.exp ((if ok k then t k else ⊥) - Finset.univ.fold max ⊥ fun j => if ok j then t j else ⊥) else 0) c) * v k

/-- The greatest of the unmasked scores is one of them. -/
theorem fold_eq {n : ℕ} (ok : Fin n → Prop) [DecidablePred ok] (t : Fin n → ℝ) (h : ∃ k, ok k) :
    ∃ k, ok k ∧ (Finset.univ.fold max ⊥ fun j => if ok j then (t j : EReal) else ⊥) = (t k : EReal) := by
  obtain ⟨k0, h0⟩ := h
  have e : (Finset.univ.fold max ⊥ fun j => if ok j then (t j : EReal) else ⊥) = Finset.univ.sup fun j => if ok j then (t j : EReal) else ⊥ := rfl
  obtain ⟨k, -, hk⟩ := Finset.exists_mem_eq_sup (Finset.univ : Finset (Fin n)) ⟨k0, Finset.mem_univ _⟩ fun j => if ok j then (t j : EReal) else ⊥
  rw [e, hk]
  by_cases hok : ok k
  · exact ⟨k, hok, by rw [if_pos hok]⟩
  · exfalso
    have := Finset.le_sup (f := fun j => if ok j then (t j : EReal) else ⊥) (Finset.mem_univ k0)
    rw [hk] at this
    simp only [if_pos h0, if_neg hok, le_bot_iff] at this
    exact EReal.coe_ne_bot _ this

/-- The greatest of `n + 1` scores is the greater of the last and of the greatest of the others. -/
theorem fold_castSucc {n : ℕ} (f : Fin (n + 1) → EReal) :
    Finset.univ.fold max ⊥ f = max (Finset.univ.fold max ⊥ fun k : Fin n => f k.castSucc) (f (Fin.last n)) := by
  have e : ∀ (m : ℕ) (g : Fin m → EReal), Finset.univ.fold max ⊥ g = Finset.univ.sup g := fun _ _ => rfl
  rw [e, e]
  refine le_antisymm (Finset.sup_le fun k _ => ?_) (max_le (Finset.sup_le fun k _ => Finset.le_sup (f := f) (Finset.mem_univ _)) (Finset.le_sup (f := f) (Finset.mem_univ _)))
  refine Fin.lastCases ?_ (fun k => ?_) k
  · exact le_max_right _ _
  · exact le_max_of_le_left (Finset.le_sup (f := fun k : Fin n => f k.castSucc) (Finset.mem_univ k))

theorem coe_sum {ι : Type} (s : Finset ι) (f : ι → ℝ) : ((∑ k ∈ s, f k : ℝ) : EReal) = ∑ k ∈ s, (f k : EReal) := by
  classical
  induction s using Finset.induction_on with
  | empty => simp
  | insert a s ha ih => rw [Finset.sum_insert ha, Finset.sum_insert ha, EReal.coe_add, ih]

/-- The two forms agree where the scores and the values are real numbers and some key is not masked. -/
theorem apart_eq_masked {n : ℕ} (ok : Fin (n + 1) → Prop) [DecidablePred ok] (t v : Fin (n + 1) → ℝ) (c : EReal) (hc : c ≤ 1) (h : ∃ k, ok k) :
    apart (fun k : Fin n => if ok k.castSucc then (t k.castSucc : EReal) else ⊥) (fun k => (v k.castSucc : EReal))
        (if ok (Fin.last n) then (t (Fin.last n) : EReal) else ⊥) (v (Fin.last n))
      = masked ok (fun k => (t k : EReal)) (fun k => (v k : EReal)) c := by
  obtain ⟨k0, h0, hm⟩ := fold_eq ok t h
  have hm' := fold_castSucc fun j => if ok j then (t j : EReal) else ⊥
  rw [hm] at hm'
  let E : Fin (n + 1) → ℝ := fun k => if ok k then Real.exp (t k - t k0) else 0
  have hE : ∀ k, Ideal.exp ((if ok k then (t k : EReal) else ⊥) - (t k0 : EReal)) = (E k : EReal) := fun k => by
    by_cases hk : ok k
    · simp only [E, if_pos hk]; rw [← EReal.coe_sub]; rfl
    · simp only [E, if_neg hk]; rw [EReal.bot_sub]; rfl
  have hE' : ∀ k, (if ok k then (E k : EReal) else 0) = (E k : EReal) := fun k => by
    by_cases hk : ok k
    · rw [if_pos hk]
    · simp only [E, if_neg hk]; rfl
  have hE0 : ∀ k, 0 ≤ E k := fun k => by
    by_cases hk : ok k
    · simp only [E, if_pos hk]; exact (Real.exp_pos _).le
    · simp only [E, if_neg hk]; exact le_refl _
  have hL : 1 ≤ ∑ k, E k := by
    have : E k0 = 1 := by simp only [E, if_pos h0, sub_self, Real.exp_zero]
    rw [← this]; exact Finset.single_le_sum (fun k _ => hE0 k) (Finset.mem_univ k0)
  have hL0 : (∑ k, E k) ≠ 0 := by linarith
  unfold apart masked
  rw [← hm', hm]
  simp only [hE, hE']
  rw [← Fin.sum_univ_castSucc (fun k => (E k : EReal)),
    ← Fin.sum_univ_castSucc (fun k => (E k : EReal) * (v k : EReal)), ← coe_sum, max_eq_left (hc.trans (by exact_mod_cast hL))]
  simp only [Ideal.div_coe hL0, ← EReal.coe_mul]
  rw [← coe_sum, ← coe_sum, ← EReal.coe_mul, Finset.sum_mul]
  refine congrArg _ (Finset.sum_congr rfl fun k _ => by ring)

end Cert.Softmax

end
-- ==== Proof.Reference.lean ====
/- What the reference computes, read at an index: its rows, its two masked attentions and its two results. -/
module

public import proofs.«01_k».proof.Proof.Gen.AttnRefIdeal.Read
public import proofs.«01_k».proof.Proof.Softmax
public import Idealize.ShloMosaic.Lib.WordCmp
public import Idealize.ShloMosaic.Lib.ValueIdx

@[expose] public section

set_option maxRecDepth 16384

noncomputable section

open Idealize.ShloMosaic Idealize.ShloMosaic.TcCoe Idealize.SL.Sem Idealize.ShloMosaic.WordCmp
open Cert.AttnRefIdeal Cert.AttnRefIdeal.Gen Cert.AttnRefIdeal.Read

namespace Cert.Reference

/-- The page table's word names a page of the pool. -/
def InPool (w : BitVec 32) : Prop := 0 ≤ w.toInt ∧ w.toInt < 2560

theorem InPool.lt {w : BitVec 32} (h : InPool w) : w.toNat < 2560 := by
  obtain ⟨h0, h1⟩ := h
  rw [BitVec.toInt_eq_toNat_cond] at h0 h1
  split at h0 <;> simp_all <;> omega

/-- A word naming a page is left alone by the wrap of negative indices. -/
theorem wrap_word {w : BitVec 32} (h : InPool w) :
    Scalar.select (IntOp.cmpi .slt w 0#32) (IntOp.addi w 2560#32) w = w := by
  have : IntOp.cmpi .slt w 0#32 = 0#1 := by
    have h0 := h.1
    simp only [IntOp.cmpi]
    rw [show BitVec.slt w 0#32 = false by simp [BitVec.slt]; omega]
    rfl
  rw [this]; rfl

/-- An axis the gather's indices do not name starts at zero. -/
theorem kept_start {s si t : Shape} {w : ℕ} (D : GatherDims s si t) (j : t.Idx) (idx : IVec si w) {a : Fin s.rank} (h : a ∉ D.startIndexMap) :
    D.start j idx a = 0 := by
  unfold GatherDims.start; rw [dif_neg h]

/-- The gather of pages read at an index: the page named by the table's word, clamped into the pool. -/
theorem gather_at (x : FVec Ideal S2560x128x2x2x128 .f32) (w : IVec S128x16x1 32) (b : Fin 128) (p : Fin 16) (j : Fin 128) (h c : Fin 2) (d : Fin 128) :
    Host.gather gather_S2560x128x2x2x128_S128x16x1_S128x16x128x2x2x128_2345_0_n_n_0_2_112822128 x w (ix6 b p j h c d)
      = x (ix5 ⟨min (w (ix3 b p 0)).toInt.toNat 2559, by omega⟩ j h c d) := by
  unfold Host.gather
  congr 1
  funext a
  refine Fin.ext ?_
  show GatherDims.start gather_S2560x128x2x2x128_S128x16x1_S128x16x128x2x2x128_2345_0_n_n_0_2_112822128 (ix6 b p j h c d) w a
    + GatherDims.batchCoord gather_S2560x128x2x2x128_S128x16x1_S128x16x128x2x2x128_2345_0_n_n_0_2_112822128 (ix6 b p j h c d) a
    + GatherDims.offCoord gather_S2560x128x2x2x128_S128x16x1_S128x16x128x2x2x128_2345_0_n_n_0_2_112822128 (ix6 b p j h c d) a = _
  rw [GatherDims.batchCoord_eq_zero _ _ _ List.not_mem_nil]
  match a with
  | ⟨0, _⟩ =>
    rw [GatherDims.offCoord_eq_zero _ _ _ (fun h => ((GatherDims.mem_sKept _ _).mp h).1 (List.mem_singleton.mpr rfl))]
    simp only [Nat.add_zero]
    unfold GatherDims.start
    rw [dif_pos (show (⟨0, by decide⟩ : Fin 5) ∈ gather_S2560x128x2x2x128_S128x16x1_S128x16x128x2x2x128_2345_0_n_n_0_2_112822128.startIndexMap from List.mem_singleton.mpr rfl)]
    have hsi : GatherDims.siIdx gather_S2560x128x2x2x128_S128x16x1_S128x16x128x2x2x128_2345_0_n_n_0_2_112822128 (ix6 b p j h c d) ⟨List.idxOf (⟨0, by decide⟩ : Fin 5) gather_S2560x128x2x2x128_S128x16x1_S128x16x128x2x2x128_2345_0_n_n_0_2_112822128.startIndexMap,
        List.idxOf_lt_length_iff.2 (List.mem_singleton.mpr rfl)⟩ = ix3 b p 0 := by
      funext b; refine Fin.ext ?_
      match b with
      | ⟨0, _⟩ => rfl
      | ⟨1, _⟩ => rfl
      | ⟨2, _⟩ => rfl
    rw [hsi]
    rfl
  | ⟨1, _⟩ =>
    rw [kept_start gather_S2560x128x2x2x128_S128x16x1_S128x16x128x2x2x128_2345_0_n_n_0_2_112822128 _ _ (show (⟨1, by decide⟩ : Fin 5) ∉ _ by decide)]
    unfold GatherDims.offCoord
    rw [dif_pos (show (⟨1, by decide⟩ : Fin 5) ∈ GatherDims.sKept gather_S2560x128x2x2x128_S128x16x1_S128x16x128x2x2x128_2345_0_n_n_0_2_112822128 by decide)]
    exact Nat.zero_add _
  | ⟨2, _⟩ =>
    rw [kept_start gather_S2560x128x2x2x128_S128x16x1_S128x16x128x2x2x128_2345_0_n_n_0_2_112822128 _ _ (show (⟨2, by decide⟩ : Fin 5) ∉ _ by decide)]
    unfold GatherDims.offCoord
    rw [dif_pos (show (⟨2, by decide⟩ : Fin 5) ∈ GatherDims.sKept gather_S2560x128x2x2x128_S128x16x1_S128x16x128x2x2x128_2345_0_n_n_0_2_112822128 by decide)]
    exact Nat.zero_add _
  | ⟨3, _⟩ =>
    rw [kept_start gather_S2560x128x2x2x128_S128x16x1_S128x16x128x2x2x128_2345_0_n_n_0_2_112822128 _ _ (show (⟨3, by decide⟩ : Fin 5) ∉ _ by decide)]
    unfold GatherDims.offCoord
    rw [dif_pos (show (⟨3, by decide⟩ : Fin 5) ∈ GatherDims.sKept gather_S2560x128x2x2x128_S128x16x1_S128x16x128x2x2x128_2345_0_n_n_0_2_112822128 by decide)]
    exact Nat.zero_add _
  | ⟨4, _⟩ =>
    rw [kept_start gather_S2560x128x2x2x128_S128x16x1_S128x16x128x2x2x128_2345_0_n_n_0_2_112822128 _ _ (show (⟨4, by decide⟩ : Fin 5) ∉ _ by decide)]
    unfold GatherDims.offCoord
    rw [dif_pos (show (⟨4, by decide⟩ : Fin 5) ∈ GatherDims.sKept gather_S2560x128x2x2x128_S128x16x1_S128x16x128x2x2x128_2345_0_n_n_0_2_112822128 by decide)]
    exact Nat.zero_add _

section
variable (x0 : IVec S128x16 32) (x1 : FVec Ideal S128x8x128 .f32) (x2 : FVec Ideal S128x2x128 .f32)
  (x3 : FVec Ideal S128x3x2x2x128 .f32) (x4 : FVec Ideal S128x8x128 .f32) (x5 : FVec Ideal S128x3x2x4 .f32)
  (x6 : FVec Ideal S128x512x2x2x128 .f32) (x7 : FVec Ideal S2560x128x2x2x128 .f32)

/-- Row `j` of the selected branch: the past rows through the page table, then this step's row. -/
def row (b : Fin 128) (j : Fin 2049) (h c : Fin 2) (d : Fin 128) : EReal :=
  if hj : (j : ℕ) < 2048 then x7 (ix5 ⟨min (x0 (ix2 b ⟨j / 128, by omega⟩)).toNat 2559, by omega⟩ ⟨j % 128, by omega⟩ h c d)
  else x3 (ix5 b 1 h c d)

/-- Row `j` of the window: the stored rows, then this step's row. -/
def winRow (b : Fin 128) (j : Fin 513) (h c : Fin 2) (d : Fin 128) : EReal :=
  if hj : (j : ℕ) < 512 then x6 (ix5 b ⟨j, hj⟩ h c d) else x3 (ix5 b 2 h c d)

theorem v6_at (ht : ∀ b p, InPool (x0 (ix2 b p))) (b : Fin 128) (p : Fin 16) : val_main_v6 (F := Ideal) x0 (ix3 b p 0) = x0 (ix2 b p) := by
  have := wrap_word (ht b p)
  pointwise [val_main_v6, val_main_v5, val_main_v4, val_main_v3, val_main_v2, val_main_v1, val_main_c, val_main_c_0]
  exact this

theorem v10_at (ht : ∀ b p, InPool (x0 (ix2 b p))) (b : Fin 128) (j : Fin 2049) (h c : Fin 2) (d : Fin 128) :
    val_main_v10 (F := Ideal) x0 x3 x7 (ix5 b j h c d) = row x0 x3 x7 b j h c d := by
  by_cases hj : (j : ℕ) < 2048
  · have e : val_main_v10 (F := Ideal) x0 x3 x7 (ix5 b j h c d) = val_main_v7 (F := Ideal) x0 x7 (ix6 b ⟨j / 128, by omega⟩ ⟨j % 128, by omega⟩ h c d) := by
      pointwise [val_main_v10, val_main_v8, val_main_v9]
      rw [dif_pos hj]
    have hw := ht b ⟨j / 128, by omega⟩
    have : (x0 (ix2 b ⟨j / 128, by omega⟩)).toInt.toNat = (x0 (ix2 b ⟨j / 128, by omega⟩)).toNat := by
      have h1 := hw.lt
      rw [BitVec.toInt_eq_toNat_of_lt (by omega)]; rfl
    rw [e, val_main_v7, gather_at, row, dif_pos hj]
    simp only [v6_at x0 ht, this]
  · rw [row, dif_neg hj]
    pointwise [val_main_v10, val_main_v8, val_main_v9]
    rw [dif_neg hj]
    exact congrArg (fun k => x3 (ix5 b k h c d)) (Fin.ext (by show 1 + (j.val - 2048) = 1; omega))

theorem v40_at (b : Fin 128) (j : Fin 513) (h c : Fin 2) (d : Fin 128) :
    val_main_v40 (F := Ideal) x3 x6 (ix5 b j h c d) = winRow x3 x6 b j h c d := by
  by_cases hj : (j : ℕ) < 512
  · rw [winRow, dif_pos hj]
    pointwise [val_main_v40, val_main_v39]
    rw [dif_pos hj]
  · rw [winRow, dif_neg hj]
    pointwise [val_main_v40, val_main_v39]
    rw [dif_neg hj]
    exact congrArg (fun k => x3 (ix5 b k h c d)) (Fin.ext (by show 2 + (j.val - 512) = 2; omega))

/-- The scale of the scores. -/
def scale : EReal := Ideal.ofBits .f32 0x3DB504F3#32
/-- The least denominator of the reference's softmax. -/
def least : EReal := Ideal.ofBits .f32 0x0DA24260#32

theorem ninf_bits : Ideal.ofBits FTy.f32 0xFF800000#32 = ⊥ := by simp [Ideal.ofBits, Ideal.ieee]

theorem zero_bits : Ideal.ofBits FTy.f32 0x00000000#32 = 0 := by simp [Ideal.ofBits, Ideal.ieee]
/-- A scalar constant read at its one index. -/
theorem const_at (w : BitVec 32) : constant (F := Ideal) S_ .f32 w ix0 = Ideal.ofBits .f32 w := rfl

/-- The chosen keys of the selected branch, as the reference's mask has them. -/
theorem v21_at (b : Fin 128) (h : Fin 2) (r : Fin 4) (j : Fin 2049) :
    val_main_v21 (F := Ideal) x2 (ix4 b h r j) = BitVec.ofBool (decide (0 < x2 (ix3 b h ⟨j / 64, by omega⟩))) := by
  pointwise [val_main_v21, val_main_v16, val_main_v15, val_main_v14, val_main_v13, val_main_v12, val_main_v11, val_main_cst]

/-- The masked scores of the selected branch. -/
theorem v25_at (ht : ∀ b p, InPool (x0 (ix2 b p))) (b : Fin 128) (h : Fin 2) (r : Fin 4) (j : Fin 2049) :
    val_main_v25 (F := Ideal) x0 x1 x2 x3 x7 (ix4 b h r j)
      = if 0 < x2 (ix3 b h ⟨j / 64, by omega⟩) then (∑ e : Fin 128, x1 (ix3 b ⟨h * 4 + r, by omega⟩ e) * row x0 x3 x7 b j h 0 e) * scale else ⊥ := by
  pointwise [val_main_v25, val_main_v24, val_main_v23, val_main_v22, val_main_v18, val_main_v17, val_main_v0, val_main_call0_v1, val_main_call0_v0, val_main_cst_2, val_main_cst_1, scale]
  simp only [v10_at x0 x3 x7 ht, v21_at, select_decide, id, const_at, zero_bits, ninf_bits]

/-- The selected branch of the reference: masked attention over the past rows and this step's row. -/
theorem v38_at (ht : ∀ b p, InPool (x0 (ix2 b p))) (b : Fin 128) (h : Fin 2) (r : Fin 4) (d : Fin 128) :
    val_main_v38 (F := Ideal) x0 x1 x2 x3 x7 (ix4 b h r d)
      = Softmax.masked (fun j : Fin 2049 => 0 < x2 (ix3 b h ⟨j / 64, by omega⟩))
          (fun j => (∑ e : Fin 128, x1 (ix3 b ⟨h * 4 + r, by omega⟩ e) * row x0 x3 x7 b j h 0 e) * scale)
          (fun j => row x0 x3 x7 b j h 1 d) least := by
  pointwise [val_main_v38, val_main_v37, val_main_v36, val_main_v35, val_main_v34, val_main_v33, val_main_v32, val_main_v31, val_main_v30, val_main_v29, val_main_v28, val_main_v27, val_main_v26, val_main_v20, val_main_v19, val_main_call1_v1, val_main_call1_v0, val_main_cst_3, val_main_cst_4, val_main_cst_5, val_main_cst_6, Softmax.masked, least]
  simp only [v10_at x0 x3 x7 ht, v25_at x0 x1 x2 x3 x7 ht, v21_at, select_decide, id, const_at, zero_bits, ninf_bits]

/-- The window's mask: every key but the first. -/
theorem v53_at (j : Fin 513) : val_main_v53 (F := Ideal) (ix1 j) = BitVec.ofBool (decide ((j : ℕ) ≠ 0)) := by
  have : ∀ x : Fin 513, (IntOp.andi
      (IntOp.andi (IntOp.cmpi CmpIPredicate.sle (IntOp.addi (1536#32) (BitVec.ofNat 32 x)) 2048#32)
        (IntOp.cmpi CmpIPredicate.slt (IntOp.subi (2048#32) (IntOp.addi (1536#32) (BitVec.ofNat 32 x))) 512#32))
      (IntOp.cmpi CmpIPredicate.sge (IntOp.addi (1536#32) (BitVec.ofNat 32 x)) 0#32)) = BitVec.ofBool (decide ((x : ℕ) ≠ 0)) := by
    decide +kernel
  pointwise [val_main_v53, val_main_v52, val_main_v51, val_main_v50, val_main_v49, val_main_v48, val_main_v47, val_main_v46, val_main_v45, val_main_v44, val_main_v43, val_main_v42, val_main_v41, val_main_c_7, val_main_c_8, val_main_c_9, val_main_c_10, val_main_c_11]
  exact this j

/-- The masked scores of the window branch. -/
theorem v62_at (b : Fin 128) (h : Fin 2) (r : Fin 4) (j : Fin 513) :
    val_main_v62 (F := Ideal) x1 x3 x6 (ix4 b h r j)
      = if (j : ℕ) ≠ 0 then (∑ e : Fin 128, x1 (ix3 b ⟨h * 4 + r, by omega⟩ e) * winRow x3 x6 b j h 0 e) * scale else ⊥ := by
  pointwise [val_main_v62, val_main_v61, val_main_v60, val_main_v59, val_main_v58, val_main_v55, val_main_v54, val_main_v0, val_main_call2_v1, val_main_call2_v0, val_main_cst_12, val_main_cst_13, scale]
  simp only [v40_at, v53_at, select_decide, id, const_at, zero_bits, ninf_bits]

/-- The window branch of the reference. -/
theorem v75_at (b : Fin 128) (h : Fin 2) (r : Fin 4) (d : Fin 128) :
    val_main_v75 (F := Ideal) x1 x3 x6 (ix4 b h r d)
      = Softmax.masked (fun j : Fin 513 => (j : ℕ) ≠ 0)
          (fun j => (∑ e : Fin 128, x1 (ix3 b ⟨h * 4 + r, by omega⟩ e) * winRow x3 x6 b j h 0 e) * scale)
          (fun j => winRow x3 x6 b j h 1 d) least := by
  pointwise [val_main_v75, val_main_v74, val_main_v73, val_main_v72, val_main_v71, val_main_v70, val_main_v69, val_main_v68, val_main_v67, val_main_v66, val_main_v65, val_main_v64, val_main_v63, val_main_v58, val_main_v57, val_main_v56, val_main_call3_v1, val_main_call3_v0, val_main_cst_14, val_main_cst_15, val_main_cst_16, val_main_cst_17, Softmax.masked, least]
  simp only [v40_at, v62_at, v53_at, select_decide, id, const_at, zero_bits, ninf_bits]

/-- The first result of the reference at one of the four query rows: the gated sum of the three branches. -/
theorem v92_at (b : Fin 128) (h : Fin 2) (r : Fin 16) (hr : (r : ℕ) < 4) (d : Fin 128) :
    val_main_v92 (F := Ideal) x0 x1 x2 x3 x4 x5 x6 x7 (ix4 b h r d)
      = x5 (ix4 b 0 h ⟨r, hr⟩) * x4 (ix3 b ⟨h * 4 + r, by omega⟩ d)
        + x5 (ix4 b 1 h ⟨r, hr⟩) * val_main_v38 (F := Ideal) x0 x1 x2 x3 x7 (ix4 b h ⟨r, hr⟩ d)
        + x5 (ix4 b 2 h ⟨r, hr⟩) * val_main_v75 (F := Ideal) x1 x3 x6 (ix4 b h ⟨r, hr⟩ d) := by
  have e : val_main_v92 (F := Ideal) x0 x1 x2 x3 x4 x5 x6 x7 (ix4 b h r d)
      = val_main_v91 (F := Ideal) x0 x1 x2 x3 x4 x5 x6 x7 (ix4 b h ⟨r, hr⟩ d) := by
    pointwise [val_main_v92]
    rw [dif_pos hr]
  rw [e]
  pointwise [val_main_v91, val_main_v90, val_main_v89, val_main_v88, val_main_v87, val_main_v86, val_main_v85, val_main_v84, val_main_v83, val_main_v82, val_main_v81, val_main_v80, val_main_v79, val_main_v78, val_main_v77, val_main_v76]

/-- The second result of the reference: the window's rows moved on by one, laid out as tile rows. -/
theorem v94_at (b : Fin 128) (i : Fin 2048) (d : Fin 128) :
    val_main_v94 (F := Ideal) x3 x6 (ix3 b i d)
      = winRow x3 x6 b ⟨1 + i / 4, by omega⟩ ⟨i / 2 % 2, by omega⟩ ⟨i % 2, by omega⟩ d := by
  rw [← v40_at]
  pointwise [val_main_v94, val_main_v93]

end

end Cert.Reference

end
-- ==== Proof.AttnIdealRun.lean ====
/- One grid point of the idealized reading of the kernel: the body's triple over whole staging buffers. The steps follow the launch's
   set-up; the body's text is unfolded only once the buffers' resources stand in the context. -/
module

public import proofs.«01_k».proof.Proof.Gen.AttnIdeal.Frame.Runs

@[expose] public section

-- membership in a rectangle of production extents (`View.cover_of_tiled`): the elaborator's structural look
-- recurses once per coordinate of the long axes
set_option maxRecDepth 16384

noncomputable section

namespace Cert.AttnIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 4000000 in
/-- What the body's stores leave in each output's staging memref, as pieces (last first), WITH the
    proof that on whole staging memrefs — the inputs' at their contents, the other outputs' at
    anything, the body runs to the continuation holding the inputs' as they were,
    each output's buffer with its pieces written: the printed functions are their skeletons
    (`Gen.*_eq_skeleton`), which `sl_exec` runs (Lib/Exec.lean); the pieces are
    the witness that run finds (assigned when `iexact` hands the buffer to the continuation). -/
noncomputable def kernelRun0_A (c : Dev nD) (i : grid0.Coords) (arg2 : Memref sig .tc .vmem S1x2x16x128 .f32) (harg2 : arg2.IsWhole) (arg3 : Memref sig .tc .vmem S1x2x128 .f32) (harg3 : arg3.IsWhole) (arg4 : Memref sig .tc .vmem S1x3x512 .f32) (harg4 : arg4.IsWhole) (arg5 : Memref sig .tc .vmem S1x2x16x128 .f32) (harg5 : arg5.IsWhole) (arg6 : Memref sig .tc .vmem S1x1x128 .f32) (harg6 : arg6.IsWhole) (arg7 : Memref sig .tc .vmem S1x2048x128 .f32) (harg7 : arg7.IsWhole) (arg8 : Memref sig .tc .vmem S512x128 .f32) (harg8 : arg8.IsWhole) (arg9 : Memref sig .tc .vmem S512x128 .f32) (harg9 : arg9.IsWhole) (arg10 : Memref sig .tc .vmem S512x128 .f32) (harg10 : arg10.IsWhole) (arg11 : Memref sig .tc .vmem S512x128 .f32) (harg11 : arg11.IsWhole) (arg12 : Memref sig .tc .vmem S512x128 .f32) (harg12 : arg12.IsWhole) (arg13 : Memref sig .tc .vmem S512x128 .f32) (harg13 : arg13.IsWhole) (arg14 : Memref sig .tc .vmem S512x128 .f32) (harg14 : arg14.IsWhole) (arg15 : Memref sig .tc .vmem S512x128 .f32) (harg15 : arg15.IsWhole) (arg16 : Memref sig .tc .vmem S512x128 .f32) (harg16 : arg16.IsWhole) (arg17 : Memref sig .tc .vmem S512x128 .f32) (harg17 : arg17.IsWhole) (arg18 : Memref sig .tc .vmem S512x128 .f32) (harg18 : arg18.IsWhole) (arg19 : Memref sig .tc .vmem S512x128 .f32) (harg19 : arg19.IsWhole) (arg20 : Memref sig .tc .vmem S512x128 .f32) (harg20 : arg20.IsWhole) (arg21 : Memref sig .tc .vmem S512x128 .f32) (harg21 : arg21.IsWhole) (arg22 : Memref sig .tc .vmem S512x128 .f32) (harg22 : arg22.IsWhole) (arg23 : Memref sig .tc .vmem S512x128 .f32) (harg23 : arg23.IsWhole) (arg24 : Memref sig .tc .vmem S1x2x16x128 .f32) (harg24 : arg24.IsWhole) (arg25 : Memref sig .tc .vmem S1x2048x128 .f32) (harg25 : arg25.IsWhole)
    (x0 : Vec F S1x2x16x128 .f32) (x1 : Vec F S1x2x128 .f32) (x2 : Vec F S1x3x512 .f32) (x3 : Vec F S1x2x16x128 .f32) (x4 : Vec F S1x1x128 .f32) (x5 : Vec F S1x2048x128 .f32) (x6 : Vec F S512x128 .f32) (x7 : Vec F S512x128 .f32) (x8 : Vec F S512x128 .f32) (x9 : Vec F S512x128 .f32) (x10 : Vec F S512x128 .f32) (x11 : Vec F S512x128 .f32) (x12 : Vec F S512x128 .f32) (x13 : Vec F S512x128 .f32) (x14 : Vec F S512x128 .f32) (x15 : Vec F S512x128 .f32) (x16 : Vec F S512x128 .f32) (x17 : Vec F S512x128 .f32) (x18 : Vec F S512x128 .f32) (x19 : Vec F S512x128 .f32) (x20 : Vec F S512x128 .f32) (x21 : Vec F S512x128 .f32) (xt0 : TbBuf0 (F := F) c tbM0_0) :
    Σ' (L22 : List (View.Piece (Elt F) S1x2x16x128 .f32)), { L23 : List (View.Piece (Elt F) S1x2048x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ owns (c : Thread nD τ) arg15 fullShare x13 ∗ owns (c : Thread nD τ) arg16 fullShare x14 ∗ owns (c : Thread nD τ) arg17 fullShare x15 ∗ owns (c : Thread nD τ) arg18 fullShare x16 ∗ owns (c : Thread nD τ) arg19 fullShare x17 ∗ owns (c : Thread nD τ) arg20 fullShare x18 ∗ owns (c : Thread nD τ) arg21 fullShare x19 ∗ owns (c : Thread nD τ) arg22 fullShare x20 ∗ owns (c : Thread nD τ) arg23 fullShare x21 ∗ (∃ d, owns (c : Thread nD τ) arg24 fullShare d) ∗ (∃ d, owns (c : Thread nD τ) arg25 fullShare d) ∗ tbPt0 c tbM0_0 xt0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ owns (c : Thread nD τ) arg15 fullShare x13 ∗ owns (c : Thread nD τ) arg16 fullShare x14 ∗ owns (c : Thread nD τ) arg17 fullShare x15 ∗ owns (c : Thread nD τ) arg18 fullShare x16 ∗ owns (c : Thread nD τ) arg19 fullShare x17 ∗ owns (c : Thread nD τ) arg20 fullShare x18 ∗ owns (c : Thread nD τ) arg21 fullShare x19 ∗ owns (c : Thread nD τ) arg22 fullShare x20 ∗ owns (c : Thread nD τ) arg23 fullShare x21 ∗ (∃ f, arg24.view.loc (c : Thread nD τ) ↦[arg24.view.set]{fullShare} arg24.view.writes (Elt F) f L22) ∗ (∃ f, arg25.view.loc (c : Thread nD τ) ↦[arg25.view.set]{fullShare} arg25.view.writes (Elt F) f L23) ∗ tbPt0 c tbM0_0 xt0) -∗ K ⟨⟩))
          ⊢ wp frame (wpE (defs₀ (F := F)) Variants.none c none) E (cc0__attn_sample_body i tbM0_0 htbM0_0 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25) K } := by
  refine ⟨?_, ?_, fun E K => ?run⟩
  case run =>
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%f18, %hf18, H18⟩, ⟨%f19, %hf19, H19⟩, ⟨%f20, %hf20, H20⟩, ⟨%f21, %hf21, H21⟩, ⟨%d22, %f22, -, H22⟩, ⟨%d23, %f23, -, H23⟩, HT0, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10; obtain rfl := harg13.eq_unread hf11; obtain rfl := harg14.eq_unread hf12; obtain rfl := harg15.eq_unread hf13; obtain rfl := harg16.eq_unread hf14; obtain rfl := harg17.eq_unread hf15; obtain rfl := harg18.eq_unread hf16; obtain rfl := harg19.eq_unread hf17; obtain rfl := harg20.eq_unread hf18; obtain rfl := harg21.eq_unread hf19; obtain rfl := harg22.eq_unread hf20; obtain rfl := harg23.eq_unread hf21
    simp only [cc0__attn_sample_body_eq_skeleton]; unfold cc0__attn_sample_body_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton]
    sl_exec
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [H10]
    · iexists _; isplitr; · ipureintro; exact harg12.read_unread _
      iexact H10
    isplitl [H11]
    · iexists _; isplitr; · ipureintro; exact harg13.read_unread _
      iexact H11
    isplitl [H12]
    · iexists _; isplitr; · ipureintro; exact harg14.read_unread _
      iexact H12
    isplitl [H13]
    · iexists _; isplitr; · ipureintro; exact harg15.read_unread _
      iexact H13
    isplitl [H14]
    · iexists _; isplitr; · ipureintro; exact harg16.read_unread _
      iexact H14
    isplitl [H15]
    · iexists _; isplitr; · ipureintro; exact harg17.read_unread _
      iexact H15
    isplitl [H16]
    · iexists _; isplitr; · ipureintro; exact harg18.read_unread _
      iexact H16
    isplitl [H17]
    · iexists _; isplitr; · ipureintro; exact harg19.read_unread _
      iexact H17
    isplitl [H18]
    · iexists _; isplitr; · ipureintro; exact harg20.read_unread _
      iexact H18
    isplitl [H19]
    · iexists _; isplitr; · ipureintro; exact harg21.read_unread _
      iexact H19
    isplitl [H20]
    · iexists _; isplitr; · ipureintro; exact harg22.read_unread _
      iexact H20
    isplitl [H21]
    · iexists _; isplitr; · ipureintro; exact harg23.read_unread _
      iexact H21
    isplitl [H22]; · iexists _; iexact H22
    isplitl [H23]; · iexists _; iexact H23
    iexact HT0

end Cert.AttnIdeal.Gen

end
-- ==== Proof.AttnIdealFrame.lean ====
/- The launch of the idealized reading of the kernel: the pipeline's proof data, the body obligation at every grid point, the run of the
   whole program and the frame, for every table under its side condition `Ok`. -/
module

public import proofs.«01_k».proof.Proof.AttnIdealRun
public import Idealize.ShloMosaic.Lib.Claim

@[expose] public section

-- membership in a rectangle of production extents (`View.cover_of_tiled`): the elaborator's structural look
-- recurses once per coordinate of the long axes
set_option maxRecDepth 16384

noncomputable section

namespace Cert.AttnIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)
/-- The run's pieces for output 22 tile its block (2 stores of `S1x1x16x128`, checked by the kernel's evaluation: Lib/Ring.lean `Piece.tiledL`, linear in the pieces, through a loop's `@[irreducible]` trip theorem too), so they cover it. -/
theorem cover0_A_22 (c : Dev nD) (i : grid0.Coords) (arg2 : Memref sig .tc .vmem S1x2x16x128 .f32) (harg2 : arg2.IsWhole) (arg3 : Memref sig .tc .vmem S1x2x128 .f32) (harg3 : arg3.IsWhole) (arg4 : Memref sig .tc .vmem S1x3x512 .f32) (harg4 : arg4.IsWhole) (arg5 : Memref sig .tc .vmem S1x2x16x128 .f32) (harg5 : arg5.IsWhole) (arg6 : Memref sig .tc .vmem S1x1x128 .f32) (harg6 : arg6.IsWhole) (arg7 : Memref sig .tc .vmem S1x2048x128 .f32) (harg7 : arg7.IsWhole) (arg8 : Memref sig .tc .vmem S512x128 .f32) (harg8 : arg8.IsWhole) (arg9 : Memref sig .tc .vmem S512x128 .f32) (harg9 : arg9.IsWhole) (arg10 : Memref sig .tc .vmem S512x128 .f32) (harg10 : arg10.IsWhole) (arg11 : Memref sig .tc .vmem S512x128 .f32) (harg11 : arg11.IsWhole) (arg12 : Memref sig .tc .vmem S512x128 .f32) (harg12 : arg12.IsWhole) (arg13 : Memref sig .tc .vmem S512x128 .f32) (harg13 : arg13.IsWhole) (arg14 : Memref sig .tc .vmem S512x128 .f32) (harg14 : arg14.IsWhole) (arg15 : Memref sig .tc .vmem S512x128 .f32) (harg15 : arg15.IsWhole) (arg16 : Memref sig .tc .vmem S512x128 .f32) (harg16 : arg16.IsWhole) (arg17 : Memref sig .tc .vmem S512x128 .f32) (harg17 : arg17.IsWhole) (arg18 : Memref sig .tc .vmem S512x128 .f32) (harg18 : arg18.IsWhole) (arg19 : Memref sig .tc .vmem S512x128 .f32) (harg19 : arg19.IsWhole) (arg20 : Memref sig .tc .vmem S512x128 .f32) (harg20 : arg20.IsWhole) (arg21 : Memref sig .tc .vmem S512x128 .f32) (harg21 : arg21.IsWhole) (arg22 : Memref sig .tc .vmem S512x128 .f32) (harg22 : arg22.IsWhole) (arg23 : Memref sig .tc .vmem S512x128 .f32) (harg23 : arg23.IsWhole) (arg24 : Memref sig .tc .vmem S1x2x16x128 .f32) (harg24 : arg24.IsWhole) (arg25 : Memref sig .tc .vmem S1x2048x128 .f32) (harg25 : arg25.IsWhole)
    (x0 : Vec F S1x2x16x128 .f32) (x1 : Vec F S1x2x128 .f32) (x2 : Vec F S1x3x512 .f32) (x3 : Vec F S1x2x16x128 .f32) (x4 : Vec F S1x1x128 .f32) (x5 : Vec F S1x2048x128 .f32) (x6 : Vec F S512x128 .f32) (x7 : Vec F S512x128 .f32) (x8 : Vec F S512x128 .f32) (x9 : Vec F S512x128 .f32) (x10 : Vec F S512x128 .f32) (x11 : Vec F S512x128 .f32) (x12 : Vec F S512x128 .f32) (x13 : Vec F S512x128 .f32) (x14 : Vec F S512x128 .f32) (x15 : Vec F S512x128 .f32) (x16 : Vec F S512x128 .f32) (x17 : Vec F S512x128 .f32) (x18 : Vec F S512x128 .f32) (x19 : Vec F S512x128 .f32) (x20 : Vec F S512x128 .f32) (x21 : Vec F S512x128 .f32) (xt0 : TbBuf0 (F := F) c tbM0_0) (y : S1x2x16x128.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 x0 x1 x2 x3 x4 x5 x6 x7 x8 x9 x10 x11 x12 x13 x14 x15 x16 x17 x18 x19 x20 x21 xt0).1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 x0 x1 x2 x3 x4 x5 x6 x7 x8 x9 x10 x11 x12 x13 x14 x15 x16 x17 x18 x19 x20 x21 xt0).1 S1x1x16x128.size (by sl_kernel_rfl) y

/-- What the run leaves in output 22's staging buffer: its pieces read back over junk. -/
def out0_A_22 (c : Dev nD) (i : grid0.Coords) (arg2 : Memref sig .tc .vmem S1x2x16x128 .f32) (harg2 : arg2.IsWhole) (arg3 : Memref sig .tc .vmem S1x2x128 .f32) (harg3 : arg3.IsWhole) (arg4 : Memref sig .tc .vmem S1x3x512 .f32) (harg4 : arg4.IsWhole) (arg5 : Memref sig .tc .vmem S1x2x16x128 .f32) (harg5 : arg5.IsWhole) (arg6 : Memref sig .tc .vmem S1x1x128 .f32) (harg6 : arg6.IsWhole) (arg7 : Memref sig .tc .vmem S1x2048x128 .f32) (harg7 : arg7.IsWhole) (arg8 : Memref sig .tc .vmem S512x128 .f32) (harg8 : arg8.IsWhole) (arg9 : Memref sig .tc .vmem S512x128 .f32) (harg9 : arg9.IsWhole) (arg10 : Memref sig .tc .vmem S512x128 .f32) (harg10 : arg10.IsWhole) (arg11 : Memref sig .tc .vmem S512x128 .f32) (harg11 : arg11.IsWhole) (arg12 : Memref sig .tc .vmem S512x128 .f32) (harg12 : arg12.IsWhole) (arg13 : Memref sig .tc .vmem S512x128 .f32) (harg13 : arg13.IsWhole) (arg14 : Memref sig .tc .vmem S512x128 .f32) (harg14 : arg14.IsWhole) (arg15 : Memref sig .tc .vmem S512x128 .f32) (harg15 : arg15.IsWhole) (arg16 : Memref sig .tc .vmem S512x128 .f32) (harg16 : arg16.IsWhole) (arg17 : Memref sig .tc .vmem S512x128 .f32) (harg17 : arg17.IsWhole) (arg18 : Memref sig .tc .vmem S512x128 .f32) (harg18 : arg18.IsWhole) (arg19 : Memref sig .tc .vmem S512x128 .f32) (harg19 : arg19.IsWhole) (arg20 : Memref sig .tc .vmem S512x128 .f32) (harg20 : arg20.IsWhole) (arg21 : Memref sig .tc .vmem S512x128 .f32) (harg21 : arg21.IsWhole) (arg22 : Memref sig .tc .vmem S512x128 .f32) (harg22 : arg22.IsWhole) (arg23 : Memref sig .tc .vmem S512x128 .f32) (harg23 : arg23.IsWhole) (arg24 : Memref sig .tc .vmem S1x2x16x128 .f32) (harg24 : arg24.IsWhole) (arg25 : Memref sig .tc .vmem S1x2048x128 .f32) (harg25 : arg25.IsWhole)
    (x0 : Vec F S1x2x16x128 .f32) (x1 : Vec F S1x2x128 .f32) (x2 : Vec F S1x3x512 .f32) (x3 : Vec F S1x2x16x128 .f32) (x4 : Vec F S1x1x128 .f32) (x5 : Vec F S1x2048x128 .f32) (x6 : Vec F S512x128 .f32) (x7 : Vec F S512x128 .f32) (x8 : Vec F S512x128 .f32) (x9 : Vec F S512x128 .f32) (x10 : Vec F S512x128 .f32) (x11 : Vec F S512x128 .f32) (x12 : Vec F S512x128 .f32) (x13 : Vec F S512x128 .f32) (x14 : Vec F S512x128 .f32) (x15 : Vec F S512x128 .f32) (x16 : Vec F S512x128 .f32) (x17 : Vec F S512x128 .f32) (x18 : Vec F S512x128 .f32) (x19 : Vec F S512x128 .f32) (x20 : Vec F S512x128 .f32) (x21 : Vec F S512x128 .f32) (xt0 : TbBuf0 (F := F) c tbM0_0) : Vec F S1x2x16x128 .f32 :=
  VO0_22.read (Elt F) (VO0_22.writes (Elt F) VO0_22.junk (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 x0 x1 x2 x3 x4 x5 x6 x7 x8 x9 x10 x11 x12 x13 x14 x15 x16 x17 x18 x19 x20 x21 xt0).1)

/-- The run's pieces for output 23 are of SEVERAL sizes (5 stores of `S1x1x128`, `S1x2048x128`): cut into blocks of `![1, 1, 128]` they tile its block (checked by the kernel's evaluation: Lib/Ring.lean `Piece.tiledBy`), so they cover it. -/
theorem cover0_A_23 (c : Dev nD) (i : grid0.Coords) (arg2 : Memref sig .tc .vmem S1x2x16x128 .f32) (harg2 : arg2.IsWhole) (arg3 : Memref sig .tc .vmem S1x2x128 .f32) (harg3 : arg3.IsWhole) (arg4 : Memref sig .tc .vmem S1x3x512 .f32) (harg4 : arg4.IsWhole) (arg5 : Memref sig .tc .vmem S1x2x16x128 .f32) (harg5 : arg5.IsWhole) (arg6 : Memref sig .tc .vmem S1x1x128 .f32) (harg6 : arg6.IsWhole) (arg7 : Memref sig .tc .vmem S1x2048x128 .f32) (harg7 : arg7.IsWhole) (arg8 : Memref sig .tc .vmem S512x128 .f32) (harg8 : arg8.IsWhole) (arg9 : Memref sig .tc .vmem S512x128 .f32) (harg9 : arg9.IsWhole) (arg10 : Memref sig .tc .vmem S512x128 .f32) (harg10 : arg10.IsWhole) (arg11 : Memref sig .tc .vmem S512x128 .f32) (harg11 : arg11.IsWhole) (arg12 : Memref sig .tc .vmem S512x128 .f32) (harg12 : arg12.IsWhole) (arg13 : Memref sig .tc .vmem S512x128 .f32) (harg13 : arg13.IsWhole) (arg14 : Memref sig .tc .vmem S512x128 .f32) (harg14 : arg14.IsWhole) (arg15 : Memref sig .tc .vmem S512x128 .f32) (harg15 : arg15.IsWhole) (arg16 : Memref sig .tc .vmem S512x128 .f32) (harg16 : arg16.IsWhole) (arg17 : Memref sig .tc .vmem S512x128 .f32) (harg17 : arg17.IsWhole) (arg18 : Memref sig .tc .vmem S512x128 .f32) (harg18 : arg18.IsWhole) (arg19 : Memref sig .tc .vmem S512x128 .f32) (harg19 : arg19.IsWhole) (arg20 : Memref sig .tc .vmem S512x128 .f32) (harg20 : arg20.IsWhole) (arg21 : Memref sig .tc .vmem S512x128 .f32) (harg21 : arg21.IsWhole) (arg22 : Memref sig .tc .vmem S512x128 .f32) (harg22 : arg22.IsWhole) (arg23 : Memref sig .tc .vmem S512x128 .f32) (harg23 : arg23.IsWhole) (arg24 : Memref sig .tc .vmem S1x2x16x128 .f32) (harg24 : arg24.IsWhole) (arg25 : Memref sig .tc .vmem S1x2048x128 .f32) (harg25 : arg25.IsWhole)
    (x0 : Vec F S1x2x16x128 .f32) (x1 : Vec F S1x2x128 .f32) (x2 : Vec F S1x3x512 .f32) (x3 : Vec F S1x2x16x128 .f32) (x4 : Vec F S1x1x128 .f32) (x5 : Vec F S1x2048x128 .f32) (x6 : Vec F S512x128 .f32) (x7 : Vec F S512x128 .f32) (x8 : Vec F S512x128 .f32) (x9 : Vec F S512x128 .f32) (x10 : Vec F S512x128 .f32) (x11 : Vec F S512x128 .f32) (x12 : Vec F S512x128 .f32) (x13 : Vec F S512x128 .f32) (x14 : Vec F S512x128 .f32) (x15 : Vec F S512x128 .f32) (x16 : Vec F S512x128 .f32) (x17 : Vec F S512x128 .f32) (x18 : Vec F S512x128 .f32) (x19 : Vec F S512x128 .f32) (x20 : Vec F S512x128 .f32) (x21 : Vec F S512x128 .f32) (xt0 : TbBuf0 (F := F) c tbM0_0) (y : S1x2048x128.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 x0 x1 x2 x3 x4 x5 x6 x7 x8 x9 x10 x11 x12 x13 x14 x15 x16 x17 x18 x19 x20 x21 xt0).2.1, y ∈ pc.1.set :=
  View.cover_of_tiledBy (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 x0 x1 x2 x3 x4 x5 x6 x7 x8 x9 x10 x11 x12 x13 x14 x15 x16 x17 x18 x19 x20 x21 xt0).2.1 ![1, 1, 128] (by sl_kernel_rfl) y

/-- What the run leaves in output 23's staging buffer: its pieces read back over junk. -/
def out0_A_23 (c : Dev nD) (i : grid0.Coords) (arg2 : Memref sig .tc .vmem S1x2x16x128 .f32) (harg2 : arg2.IsWhole) (arg3 : Memref sig .tc .vmem S1x2x128 .f32) (harg3 : arg3.IsWhole) (arg4 : Memref sig .tc .vmem S1x3x512 .f32) (harg4 : arg4.IsWhole) (arg5 : Memref sig .tc .vmem S1x2x16x128 .f32) (harg5 : arg5.IsWhole) (arg6 : Memref sig .tc .vmem S1x1x128 .f32) (harg6 : arg6.IsWhole) (arg7 : Memref sig .tc .vmem S1x2048x128 .f32) (harg7 : arg7.IsWhole) (arg8 : Memref sig .tc .vmem S512x128 .f32) (harg8 : arg8.IsWhole) (arg9 : Memref sig .tc .vmem S512x128 .f32) (harg9 : arg9.IsWhole) (arg10 : Memref sig .tc .vmem S512x128 .f32) (harg10 : arg10.IsWhole) (arg11 : Memref sig .tc .vmem S512x128 .f32) (harg11 : arg11.IsWhole) (arg12 : Memref sig .tc .vmem S512x128 .f32) (harg12 : arg12.IsWhole) (arg13 : Memref sig .tc .vmem S512x128 .f32) (harg13 : arg13.IsWhole) (arg14 : Memref sig .tc .vmem S512x128 .f32) (harg14 : arg14.IsWhole) (arg15 : Memref sig .tc .vmem S512x128 .f32) (harg15 : arg15.IsWhole) (arg16 : Memref sig .tc .vmem S512x128 .f32) (harg16 : arg16.IsWhole) (arg17 : Memref sig .tc .vmem S512x128 .f32) (harg17 : arg17.IsWhole) (arg18 : Memref sig .tc .vmem S512x128 .f32) (harg18 : arg18.IsWhole) (arg19 : Memref sig .tc .vmem S512x128 .f32) (harg19 : arg19.IsWhole) (arg20 : Memref sig .tc .vmem S512x128 .f32) (harg20 : arg20.IsWhole) (arg21 : Memref sig .tc .vmem S512x128 .f32) (harg21 : arg21.IsWhole) (arg22 : Memref sig .tc .vmem S512x128 .f32) (harg22 : arg22.IsWhole) (arg23 : Memref sig .tc .vmem S512x128 .f32) (harg23 : arg23.IsWhole) (arg24 : Memref sig .tc .vmem S1x2x16x128 .f32) (harg24 : arg24.IsWhole) (arg25 : Memref sig .tc .vmem S1x2048x128 .f32) (harg25 : arg25.IsWhole)
    (x0 : Vec F S1x2x16x128 .f32) (x1 : Vec F S1x2x128 .f32) (x2 : Vec F S1x3x512 .f32) (x3 : Vec F S1x2x16x128 .f32) (x4 : Vec F S1x1x128 .f32) (x5 : Vec F S1x2048x128 .f32) (x6 : Vec F S512x128 .f32) (x7 : Vec F S512x128 .f32) (x8 : Vec F S512x128 .f32) (x9 : Vec F S512x128 .f32) (x10 : Vec F S512x128 .f32) (x11 : Vec F S512x128 .f32) (x12 : Vec F S512x128 .f32) (x13 : Vec F S512x128 .f32) (x14 : Vec F S512x128 .f32) (x15 : Vec F S512x128 .f32) (x16 : Vec F S512x128 .f32) (x17 : Vec F S512x128 .f32) (x18 : Vec F S512x128 .f32) (x19 : Vec F S512x128 .f32) (x20 : Vec F S512x128 .f32) (x21 : Vec F S512x128 .f32) (xt0 : TbBuf0 (F := F) c tbM0_0) : Vec F S1x2048x128 .f32 :=
  VO0_23.read (Elt F) (VO0_23.writes (Elt F) VO0_23.junk (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 x0 x1 x2 x3 x4 x5 x6 x7 x8 x9 x10 x11 x12 x13 x14 x15 x16 x17 x18 x19 x20 x21 xt0).2.1)

/-! ## What the outputs hold after each point -/

/-- What the outputs' staging buffers hold after the body at point `t` (as a tuple, in window order): the run's contents at
    the point's memrefs and input blocks. -/
def outsAt0 (hO : Ok m) (c : Dev nD) (t : Fin (cfgM m hO).N) : Vec F S1x2x16x128 .f32 × Vec F S1x2048x128 .f32 :=
  (out0_A_22 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) (ms0_9 m hO t) (hs0_9 m hO t) (ms0_10 m hO t) (hs0_10 m hO t) (ms0_11 m hO t) (hs0_11 m hO t) (ms0_12 m hO t) (hs0_12 m hO t) (ms0_13 m hO t) (hs0_13 m hO t) (ms0_14 m hO t) (hs0_14 m hO t) (ms0_15 m hO t) (hs0_15 m hO t) (ms0_16 m hO t) (hs0_16 m hO t) (ms0_17 m hO t) (hs0_17 m hO t) (ms0_18 m hO t) (hs0_18 m hO t) (ms0_19 m hO t) (hs0_19 m hO t) (ms0_20 m hO t) (hs0_20 m hO t) (ms0_21 m hO t) (hs0_21 m hO t) (ms0_22 m hO t) (hs0_22 m hO t) (ms0_23 m hO t) (hs0_23 m hO t) (iblk m hO c 0 t) (iblk m hO c 1 t) (iblk m hO c 2 t) (iblk m hO c 3 t) (iblk m hO c 4 t) (iblk m hO c 5 t) (iblk m hO c 6 t) (iblk m hO c 7 t) (iblk m hO c 8 t) (iblk m hO c 9 t) (iblk m hO c 10 t) (iblk m hO c 11 t) (iblk m hO c 12 t) (iblk m hO c 13 t) (iblk m hO c 14 t) (iblk m hO c 15 t) (iblk m hO c 16 t) (iblk m hO c 17 t) (iblk m hO c 18 t) (iblk m hO c 19 t) (iblk m hO c 20 t) (iblk m hO c 21 t) (tbl m 0), out0_A_23 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) (ms0_9 m hO t) (hs0_9 m hO t) (ms0_10 m hO t) (hs0_10 m hO t) (ms0_11 m hO t) (hs0_11 m hO t) (ms0_12 m hO t) (hs0_12 m hO t) (ms0_13 m hO t) (hs0_13 m hO t) (ms0_14 m hO t) (hs0_14 m hO t) (ms0_15 m hO t) (hs0_15 m hO t) (ms0_16 m hO t) (hs0_16 m hO t) (ms0_17 m hO t) (hs0_17 m hO t) (ms0_18 m hO t) (hs0_18 m hO t) (ms0_19 m hO t) (hs0_19 m hO t) (ms0_20 m hO t) (hs0_20 m hO t) (ms0_21 m hO t) (hs0_21 m hO t) (ms0_22 m hO t) (hs0_22 m hO t) (ms0_23 m hO t) (hs0_23 m hO t) (iblk m hO c 0 t) (iblk m hO c 1 t) (iblk m hO c 2 t) (iblk m hO c 3 t) (iblk m hO c 4 t) (iblk m hO c 5 t) (iblk m hO c 6 t) (iblk m hO c 7 t) (iblk m hO c 8 t) (iblk m hO c 9 t) (iblk m hO c 10 t) (iblk m hO c 11 t) (iblk m hO c 12 t) (iblk m hO c 13 t) (iblk m hO c 14 t) (iblk m hO c 15 t) (iblk m hO c 16 t) (iblk m hO c 17 t) (iblk m hO c 18 t) (iblk m hO c 19 t) (iblk m hO c 20 t) (iblk m hO c 21 t) (tbl m 0))

/-! ## The pipeline's proof data -/

/-- The proof data of the one pipeline on core `c`: the arrays as the region finds them (`V`); after the body at
    point `t` each input's buffer at its block and the outputs' at `outsAt0`; the invariant the class's
    (Lib/Pipeline/Frame.lean `ΦA`: the scoped rest and the generator register) and the tables' halves (`ΦT`); nothing owed;
    each input's share of its array
    (`Pipeline.shareOf`: the full share of an array several windows stage, dealt among them). -/
def dats (hO : Ok m) (_ : Fin 1) (c : Dev nD) : Dat τ (Elt F) Unit ℕ (UR sig nD τ) ℕ (cfgM m hO) c where
  A w := V m c (Pipeline.arrRef spec0 w)
  after w t := match w with
    | ⟨0, _⟩ => iblk m hO c 0 t
    | ⟨1, _⟩ => iblk m hO c 1 t
    | ⟨2, _⟩ => iblk m hO c 2 t
    | ⟨3, _⟩ => iblk m hO c 3 t
    | ⟨4, _⟩ => iblk m hO c 4 t
    | ⟨5, _⟩ => iblk m hO c 5 t
    | ⟨6, _⟩ => iblk m hO c 6 t
    | ⟨7, _⟩ => iblk m hO c 7 t
    | ⟨8, _⟩ => iblk m hO c 8 t
    | ⟨9, _⟩ => iblk m hO c 9 t
    | ⟨10, _⟩ => iblk m hO c 10 t
    | ⟨11, _⟩ => iblk m hO c 11 t
    | ⟨12, _⟩ => iblk m hO c 12 t
    | ⟨13, _⟩ => iblk m hO c 13 t
    | ⟨14, _⟩ => iblk m hO c 14 t
    | ⟨15, _⟩ => iblk m hO c 15 t
    | ⟨16, _⟩ => iblk m hO c 16 t
    | ⟨17, _⟩ => iblk m hO c 17 t
    | ⟨18, _⟩ => iblk m hO c 18 t
    | ⟨19, _⟩ => iblk m hO c 19 t
    | ⟨20, _⟩ => iblk m hO c 20 t
    | ⟨21, _⟩ => iblk m hO c 21 t
    | ⟨22, _⟩ => (outsAt0 m hO c t).1
    | ⟨23, _⟩ => (outsAt0 m hO c t).2
    | ⟨_ + 24, h⟩ => absurd h (Nat.not_lt.2 (Nat.le_add_left _ _))
  Φ _ := iprop(Pipeline.ΦA spec0 c ∗ Pipeline.ΦT pre0 (tbl m) c)
  q w := Pipeline.shareOf spec0 w
  owed _ := 0

/-- The proof data's arrays are the region-entry contents: the proof data's definition projected (`dsimp`), so that
    `V` — a fold over @main's host prefix, long for some programs — is never unfolded to check it. -/
theorem A_eq (hO : Ok m) (c : Dev nD) (w : Fin (cfgM m hO).W) : (dats m hO 0 c).A w = V m c (Pipeline.arrRef spec0 w) := by
  dsimp only [dats]

/-- What the body leaves, window by window (the proof data's `match` reduced by `dsimp`). -/
theorem after0_0 (hO : Ok m) (c : Dev nD) (t : Fin (cfgM m hO).N) : (dats m hO 0 c).after 0 t = iblk m hO c 0 t := by dsimp only [dats]; try rfl
theorem after0_1 (hO : Ok m) (c : Dev nD) (t : Fin (cfgM m hO).N) : (dats m hO 0 c).after 1 t = iblk m hO c 1 t := by dsimp only [dats]; try rfl
theorem after0_2 (hO : Ok m) (c : Dev nD) (t : Fin (cfgM m hO).N) : (dats m hO 0 c).after 2 t = iblk m hO c 2 t := by dsimp only [dats]; try rfl
theorem after0_3 (hO : Ok m) (c : Dev nD) (t : Fin (cfgM m hO).N) : (dats m hO 0 c).after 3 t = iblk m hO c 3 t := by dsimp only [dats]; try rfl
theorem after0_4 (hO : Ok m) (c : Dev nD) (t : Fin (cfgM m hO).N) : (dats m hO 0 c).after 4 t = iblk m hO c 4 t := by dsimp only [dats]; try rfl
theorem after0_5 (hO : Ok m) (c : Dev nD) (t : Fin (cfgM m hO).N) : (dats m hO 0 c).after 5 t = iblk m hO c 5 t := by dsimp only [dats]; try rfl
theorem after0_6 (hO : Ok m) (c : Dev nD) (t : Fin (cfgM m hO).N) : (dats m hO 0 c).after 6 t = iblk m hO c 6 t := by dsimp only [dats]; try rfl
theorem after0_7 (hO : Ok m) (c : Dev nD) (t : Fin (cfgM m hO).N) : (dats m hO 0 c).after 7 t = iblk m hO c 7 t := by dsimp only [dats]; try rfl
theorem after0_8 (hO : Ok m) (c : Dev nD) (t : Fin (cfgM m hO).N) : (dats m hO 0 c).after 8 t = iblk m hO c 8 t := by dsimp only [dats]; try rfl
theorem after0_9 (hO : Ok m) (c : Dev nD) (t : Fin (cfgM m hO).N) : (dats m hO 0 c).after 9 t = iblk m hO c 9 t := by dsimp only [dats]; try rfl
theorem after0_10 (hO : Ok m) (c : Dev nD) (t : Fin (cfgM m hO).N) : (dats m hO 0 c).after 10 t = iblk m hO c 10 t := by dsimp only [dats]; try rfl
theorem after0_11 (hO : Ok m) (c : Dev nD) (t : Fin (cfgM m hO).N) : (dats m hO 0 c).after 11 t = iblk m hO c 11 t := by dsimp only [dats]; try rfl
theorem after0_12 (hO : Ok m) (c : Dev nD) (t : Fin (cfgM m hO).N) : (dats m hO 0 c).after 12 t = iblk m hO c 12 t := by dsimp only [dats]; try rfl
theorem after0_13 (hO : Ok m) (c : Dev nD) (t : Fin (cfgM m hO).N) : (dats m hO 0 c).after 13 t = iblk m hO c 13 t := by dsimp only [dats]; try rfl
theorem after0_14 (hO : Ok m) (c : Dev nD) (t : Fin (cfgM m hO).N) : (dats m hO 0 c).after 14 t = iblk m hO c 14 t := by dsimp only [dats]; try rfl
theorem after0_15 (hO : Ok m) (c : Dev nD) (t : Fin (cfgM m hO).N) : (dats m hO 0 c).after 15 t = iblk m hO c 15 t := by dsimp only [dats]; try rfl
theorem after0_16 (hO : Ok m) (c : Dev nD) (t : Fin (cfgM m hO).N) : (dats m hO 0 c).after 16 t = iblk m hO c 16 t := by dsimp only [dats]; try rfl
theorem after0_17 (hO : Ok m) (c : Dev nD) (t : Fin (cfgM m hO).N) : (dats m hO 0 c).after 17 t = iblk m hO c 17 t := by dsimp only [dats]; try rfl
theorem after0_18 (hO : Ok m) (c : Dev nD) (t : Fin (cfgM m hO).N) : (dats m hO 0 c).after 18 t = iblk m hO c 18 t := by dsimp only [dats]; try rfl
theorem after0_19 (hO : Ok m) (c : Dev nD) (t : Fin (cfgM m hO).N) : (dats m hO 0 c).after 19 t = iblk m hO c 19 t := by dsimp only [dats]; try rfl
theorem after0_20 (hO : Ok m) (c : Dev nD) (t : Fin (cfgM m hO).N) : (dats m hO 0 c).after 20 t = iblk m hO c 20 t := by dsimp only [dats]; try rfl
theorem after0_21 (hO : Ok m) (c : Dev nD) (t : Fin (cfgM m hO).N) : (dats m hO 0 c).after 21 t = iblk m hO c 21 t := by dsimp only [dats]; try rfl
theorem after0_22 (hO : Ok m) (c : Dev nD) (t : Fin (cfgM m hO).N) : (dats m hO 0 c).after 22 t = (outsAt0 m hO c t).1 := by dsimp only [dats]; try rfl
theorem after0_23 (hO : Ok m) (c : Dev nD) (t : Fin (cfgM m hO).N) : (dats m hO 0 c).after 23 t = (outsAt0 m hO c t).2 := by dsimp only [dats]; try rfl

/-- Each input's current staging buffer holds its block at every point, fetched there or not (`beforeK_W_of`). -/
theorem before0_0 (hO : Ok m) (c : Dev nD) (t : Fin (cfgM m hO).N) (d) : (dats m hO 0 c).before 0 t d = iblk m hO c 0 t :=
  before0_0_of m hO (dats m hO 0 c) (A_eq m hO c 0) (after0_0 m hO c) t d
theorem before0_1 (hO : Ok m) (c : Dev nD) (t : Fin (cfgM m hO).N) (d) : (dats m hO 0 c).before 1 t d = iblk m hO c 1 t :=
  before0_1_of m hO (dats m hO 0 c) (A_eq m hO c 1) (after0_1 m hO c) t d
theorem before0_2 (hO : Ok m) (c : Dev nD) (t : Fin (cfgM m hO).N) (d) : (dats m hO 0 c).before 2 t d = iblk m hO c 2 t :=
  before0_2_of m hO (dats m hO 0 c) (A_eq m hO c 2) (after0_2 m hO c) t d
theorem before0_3 (hO : Ok m) (c : Dev nD) (t : Fin (cfgM m hO).N) (d) : (dats m hO 0 c).before 3 t d = iblk m hO c 3 t :=
  before0_3_of m hO (dats m hO 0 c) (A_eq m hO c 3) (after0_3 m hO c) t d
theorem before0_4 (hO : Ok m) (c : Dev nD) (t : Fin (cfgM m hO).N) (d) : (dats m hO 0 c).before 4 t d = iblk m hO c 4 t :=
  before0_4_of m hO (dats m hO 0 c) (A_eq m hO c 4) (after0_4 m hO c) t d
theorem before0_5 (hO : Ok m) (c : Dev nD) (t : Fin (cfgM m hO).N) (d) : (dats m hO 0 c).before 5 t d = iblk m hO c 5 t :=
  before0_5_of m hO (dats m hO 0 c) (A_eq m hO c 5) (after0_5 m hO c) t d
theorem before0_6 (hO : Ok m) (c : Dev nD) (t : Fin (cfgM m hO).N) (d) : (dats m hO 0 c).before 6 t d = iblk m hO c 6 t :=
  before0_6_of m hO (dats m hO 0 c) (A_eq m hO c 6) (after0_6 m hO c) t d
theorem before0_7 (hO : Ok m) (c : Dev nD) (t : Fin (cfgM m hO).N) (d) : (dats m hO 0 c).before 7 t d = iblk m hO c 7 t :=
  before0_7_of m hO (dats m hO 0 c) (A_eq m hO c 7) (after0_7 m hO c) t d
theorem before0_8 (hO : Ok m) (c : Dev nD) (t : Fin (cfgM m hO).N) (d) : (dats m hO 0 c).before 8 t d = iblk m hO c 8 t :=
  before0_8_of m hO (dats m hO 0 c) (A_eq m hO c 8) (after0_8 m hO c) t d
theorem before0_9 (hO : Ok m) (c : Dev nD) (t : Fin (cfgM m hO).N) (d) : (dats m hO 0 c).before 9 t d = iblk m hO c 9 t :=
  before0_9_of m hO (dats m hO 0 c) (A_eq m hO c 9) (after0_9 m hO c) t d
theorem before0_10 (hO : Ok m) (c : Dev nD) (t : Fin (cfgM m hO).N) (d) : (dats m hO 0 c).before 10 t d = iblk m hO c 10 t :=
  before0_10_of m hO (dats m hO 0 c) (A_eq m hO c 10) (after0_10 m hO c) t d
theorem before0_11 (hO : Ok m) (c : Dev nD) (t : Fin (cfgM m hO).N) (d) : (dats m hO 0 c).before 11 t d = iblk m hO c 11 t :=
  before0_11_of m hO (dats m hO 0 c) (A_eq m hO c 11) (after0_11 m hO c) t d
theorem before0_12 (hO : Ok m) (c : Dev nD) (t : Fin (cfgM m hO).N) (d) : (dats m hO 0 c).before 12 t d = iblk m hO c 12 t :=
  before0_12_of m hO (dats m hO 0 c) (A_eq m hO c 12) (after0_12 m hO c) t d
theorem before0_13 (hO : Ok m) (c : Dev nD) (t : Fin (cfgM m hO).N) (d) : (dats m hO 0 c).before 13 t d = iblk m hO c 13 t :=
  before0_13_of m hO (dats m hO 0 c) (A_eq m hO c 13) (after0_13 m hO c) t d
theorem before0_14 (hO : Ok m) (c : Dev nD) (t : Fin (cfgM m hO).N) (d) : (dats m hO 0 c).before 14 t d = iblk m hO c 14 t :=
  before0_14_of m hO (dats m hO 0 c) (A_eq m hO c 14) (after0_14 m hO c) t d
theorem before0_15 (hO : Ok m) (c : Dev nD) (t : Fin (cfgM m hO).N) (d) : (dats m hO 0 c).before 15 t d = iblk m hO c 15 t :=
  before0_15_of m hO (dats m hO 0 c) (A_eq m hO c 15) (after0_15 m hO c) t d
theorem before0_16 (hO : Ok m) (c : Dev nD) (t : Fin (cfgM m hO).N) (d) : (dats m hO 0 c).before 16 t d = iblk m hO c 16 t :=
  before0_16_of m hO (dats m hO 0 c) (A_eq m hO c 16) (after0_16 m hO c) t d
theorem before0_17 (hO : Ok m) (c : Dev nD) (t : Fin (cfgM m hO).N) (d) : (dats m hO 0 c).before 17 t d = iblk m hO c 17 t :=
  before0_17_of m hO (dats m hO 0 c) (A_eq m hO c 17) (after0_17 m hO c) t d
theorem before0_18 (hO : Ok m) (c : Dev nD) (t : Fin (cfgM m hO).N) (d) : (dats m hO 0 c).before 18 t d = iblk m hO c 18 t :=
  before0_18_of m hO (dats m hO 0 c) (A_eq m hO c 18) (after0_18 m hO c) t d
theorem before0_19 (hO : Ok m) (c : Dev nD) (t : Fin (cfgM m hO).N) (d) : (dats m hO 0 c).before 19 t d = iblk m hO c 19 t :=
  before0_19_of m hO (dats m hO 0 c) (A_eq m hO c 19) (after0_19 m hO c) t d
theorem before0_20 (hO : Ok m) (c : Dev nD) (t : Fin (cfgM m hO).N) (d) : (dats m hO 0 c).before 20 t d = iblk m hO c 20 t :=
  before0_20_of m hO (dats m hO 0 c) (A_eq m hO c 20) (after0_20 m hO c) t d
theorem before0_21 (hO : Ok m) (c : Dev nD) (t : Fin (cfgM m hO).N) (d) : (dats m hO 0 c).before 21 t d = iblk m hO c 21 t :=
  before0_21_of m hO (dats m hO 0 c) (A_eq m hO c 21) (after0_21 m hO c) t d

/-! ## The body obligation, at a generic point -/

/-- What the body is called with at point `t` (Lib/Pipeline.lean `BodyObligation`'s precondition, the windows one by one), -/
def bodyPre (hO : Ok m) (c : Dev nD) (t : Fin (cfgM m hO).N) : sProp 𝕄 :=
  iprop((dats m hO 0 c).Φ t.castSucc ∗ (dats m hO 0 c).owesAt () t.castSucc
    ∗ (∃ d, owns (c : Thread nD τ) (ms0_0 m hO t) fullShare ((dats m hO 0 c).before 0 t d))
    ∗ (∃ d, owns (c : Thread nD τ) (ms0_1 m hO t) fullShare ((dats m hO 0 c).before 1 t d))
    ∗ (∃ d, owns (c : Thread nD τ) (ms0_2 m hO t) fullShare ((dats m hO 0 c).before 2 t d))
    ∗ (∃ d, owns (c : Thread nD τ) (ms0_3 m hO t) fullShare ((dats m hO 0 c).before 3 t d))
    ∗ (∃ d, owns (c : Thread nD τ) (ms0_4 m hO t) fullShare ((dats m hO 0 c).before 4 t d))
    ∗ (∃ d, owns (c : Thread nD τ) (ms0_5 m hO t) fullShare ((dats m hO 0 c).before 5 t d))
    ∗ (∃ d, owns (c : Thread nD τ) (ms0_6 m hO t) fullShare ((dats m hO 0 c).before 6 t d))
    ∗ (∃ d, owns (c : Thread nD τ) (ms0_7 m hO t) fullShare ((dats m hO 0 c).before 7 t d))
    ∗ (∃ d, owns (c : Thread nD τ) (ms0_8 m hO t) fullShare ((dats m hO 0 c).before 8 t d))
    ∗ (∃ d, owns (c : Thread nD τ) (ms0_9 m hO t) fullShare ((dats m hO 0 c).before 9 t d))
    ∗ (∃ d, owns (c : Thread nD τ) (ms0_10 m hO t) fullShare ((dats m hO 0 c).before 10 t d))
    ∗ (∃ d, owns (c : Thread nD τ) (ms0_11 m hO t) fullShare ((dats m hO 0 c).before 11 t d))
    ∗ (∃ d, owns (c : Thread nD τ) (ms0_12 m hO t) fullShare ((dats m hO 0 c).before 12 t d))
    ∗ (∃ d, owns (c : Thread nD τ) (ms0_13 m hO t) fullShare ((dats m hO 0 c).before 13 t d))
    ∗ (∃ d, owns (c : Thread nD τ) (ms0_14 m hO t) fullShare ((dats m hO 0 c).before 14 t d))
    ∗ (∃ d, owns (c : Thread nD τ) (ms0_15 m hO t) fullShare ((dats m hO 0 c).before 15 t d))
    ∗ (∃ d, owns (c : Thread nD τ) (ms0_16 m hO t) fullShare ((dats m hO 0 c).before 16 t d))
    ∗ (∃ d, owns (c : Thread nD τ) (ms0_17 m hO t) fullShare ((dats m hO 0 c).before 17 t d))
    ∗ (∃ d, owns (c : Thread nD τ) (ms0_18 m hO t) fullShare ((dats m hO 0 c).before 18 t d))
    ∗ (∃ d, owns (c : Thread nD τ) (ms0_19 m hO t) fullShare ((dats m hO 0 c).before 19 t d))
    ∗ (∃ d, owns (c : Thread nD τ) (ms0_20 m hO t) fullShare ((dats m hO 0 c).before 20 t d))
    ∗ (∃ d, owns (c : Thread nD τ) (ms0_21 m hO t) fullShare ((dats m hO 0 c).before 21 t d))
    ∗ (∃ d, owns (c : Thread nD τ) (ms0_22 m hO t) fullShare ((dats m hO 0 c).before 22 t d))
    ∗ (∃ d, owns (c : Thread nD τ) (ms0_23 m hO t) fullShare ((dats m hO 0 c).before 23 t d)))

/-- and what it returns. -/
def bodyPost (hO : Ok m) (c : Dev nD) (t : Fin (cfgM m hO).N) : sProp 𝕄 :=
  iprop((dats m hO 0 c).Φ t.succ ∗ (dats m hO 0 c).owesAt () t.succ
    ∗ owns (c : Thread nD τ) (ms0_0 m hO t) fullShare ((dats m hO 0 c).after 0 t)
    ∗ owns (c : Thread nD τ) (ms0_1 m hO t) fullShare ((dats m hO 0 c).after 1 t)
    ∗ owns (c : Thread nD τ) (ms0_2 m hO t) fullShare ((dats m hO 0 c).after 2 t)
    ∗ owns (c : Thread nD τ) (ms0_3 m hO t) fullShare ((dats m hO 0 c).after 3 t)
    ∗ owns (c : Thread nD τ) (ms0_4 m hO t) fullShare ((dats m hO 0 c).after 4 t)
    ∗ owns (c : Thread nD τ) (ms0_5 m hO t) fullShare ((dats m hO 0 c).after 5 t)
    ∗ owns (c : Thread nD τ) (ms0_6 m hO t) fullShare ((dats m hO 0 c).after 6 t)
    ∗ owns (c : Thread nD τ) (ms0_7 m hO t) fullShare ((dats m hO 0 c).after 7 t)
    ∗ owns (c : Thread nD τ) (ms0_8 m hO t) fullShare ((dats m hO 0 c).after 8 t)
    ∗ owns (c : Thread nD τ) (ms0_9 m hO t) fullShare ((dats m hO 0 c).after 9 t)
    ∗ owns (c : Thread nD τ) (ms0_10 m hO t) fullShare ((dats m hO 0 c).after 10 t)
    ∗ owns (c : Thread nD τ) (ms0_11 m hO t) fullShare ((dats m hO 0 c).after 11 t)
    ∗ owns (c : Thread nD τ) (ms0_12 m hO t) fullShare ((dats m hO 0 c).after 12 t)
    ∗ owns (c : Thread nD τ) (ms0_13 m hO t) fullShare ((dats m hO 0 c).after 13 t)
    ∗ owns (c : Thread nD τ) (ms0_14 m hO t) fullShare ((dats m hO 0 c).after 14 t)
    ∗ owns (c : Thread nD τ) (ms0_15 m hO t) fullShare ((dats m hO 0 c).after 15 t)
    ∗ owns (c : Thread nD τ) (ms0_16 m hO t) fullShare ((dats m hO 0 c).after 16 t)
    ∗ owns (c : Thread nD τ) (ms0_17 m hO t) fullShare ((dats m hO 0 c).after 17 t)
    ∗ owns (c : Thread nD τ) (ms0_18 m hO t) fullShare ((dats m hO 0 c).after 18 t)
    ∗ owns (c : Thread nD τ) (ms0_19 m hO t) fullShare ((dats m hO 0 c).after 19 t)
    ∗ owns (c : Thread nD τ) (ms0_20 m hO t) fullShare ((dats m hO 0 c).after 20 t)
    ∗ owns (c : Thread nD τ) (ms0_21 m hO t) fullShare ((dats m hO 0 c).after 21 t)
    ∗ owns (c : Thread nD τ) (ms0_22 m hO t) fullShare ((dats m hO 0 c).after 22 t)
    ∗ owns (c : Thread nD τ) (ms0_23 m hO t) fullShare ((dats m hO 0 c).after 23 t))

set_option maxHeartbeats 2400000 in
/-- The body at any point: the inputs' memrefs hold their blocks (`before0_W`); so the
    run applies; the invariant passes through unread; the core owes nothing throughout. -/
theorem sound_body (hO : Ok m) (c : Dev nD) (t : Fin (cfgM m hO).N) :
    bodyPre m hO c t ⊢ wp frame (wpE (defs₀ (F := F)) Variants.none c none) Set.univ (bodyAt0 (adm m hO) t) (fun _ => bodyPost m hO c t) := by
  unfold bodyPre bodyPost bodyAt0
  simp only [before0_0, before0_1, before0_2, before0_3, before0_4, before0_5, before0_6, before0_7, before0_8, before0_9, before0_10, before0_11, before0_12, before0_13, before0_14, before0_15, before0_16, before0_17, before0_18, before0_19, before0_20, before0_21]
  rw [show (dats m hO 0 c).Φ t.succ = (dats m hO 0 c).Φ t.castSucc from rfl,
    show (dats m hO 0 c).owesAt () t.succ = (dats m hO 0 c).owesAt () t.castSucc from rfl,
    after0_0, after0_1, after0_2, after0_3, after0_4, after0_5, after0_6, after0_7, after0_8, after0_9, after0_10, after0_11, after0_12, after0_13, after0_14, after0_15, after0_16, after0_17, after0_18, after0_19, after0_20, after0_21, after0_22, after0_23]
  rw [show (dats m hO 0 c).Φ t.castSucc = iprop(Pipeline.ΦA spec0 c ∗ Pipeline.ΦT pre0 (tbl m) c) from rfl, PhiT0_eq]
  unfold outsAt0
  unfold out0_A_22 out0_A_23; (try dsimp only)
  iintro ⟨⟨HΦ, HT0⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩, ⟨%d23, H23⟩⟩
  iapply ((kernelRun0_A c (grid0.coords t) _ _ _ _ _ _ _ _ _ _ _ _ _ _ _ _ _ _ _ _ _ _ _ _ _ _ _ _ _ _ _ _ _ _ _ _ _ _ _ _ _ _ _ _ _ _ _ _ (iblk m hO c 0 t) (iblk m hO c 1 t) (iblk m hO c 2 t) (iblk m hO c 3 t) (iblk m hO c 4 t) (iblk m hO c 5 t) (iblk m hO c 6 t) (iblk m hO c 7 t) (iblk m hO c 8 t) (iblk m hO c 9 t) (iblk m hO c 10 t) (iblk m hO c 11 t) (iblk m hO c 12 t) (iblk m hO c 13 t) (iblk m hO c 14 t) (iblk m hO c 15 t) (iblk m hO c 16 t) (iblk m hO c 17 t) (iblk m hO c 18 t) (iblk m hO c 19 t) (iblk m hO c 20 t) (iblk m hO c 21 t) (tbl m 0)).2.2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexists _; iexact H22
  isplitl [H23]; · iexists _; iexact H23
  isplitl [HT0]; · iexact HT0
  iintro ⟨H0, H1, H2, H3, H4, H5, H6, H7, H8, H9, H10, H11, H12, H13, H14, H15, H16, H17, H18, H19, H20, H21, ⟨%e22, H22⟩, ⟨%e23, H23⟩, HT0⟩
  isplitl [HΦ HT0]
  · isplitl [HΦ]
    · iexact HΦ
    iexact HT0
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]
  · unfold owns; iexists _; isplitr
    swap; · iexact H22
    ipureintro; exact View.read_writes_of_cover _ _ _ _ _ (cover0_A_22 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
  unfold owns; iexists _; isplitr
  swap; · iexact H23
  ipureintro; exact View.read_writes_of_cover _ _ _ _ _ (cover0_A_23 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)

/-- The body table's row at point `t`'s slots is the body as `bodyAt0` spells it. -/
theorem defs₀_row (hO : Ok m) (t : Fin (cfgM m hO).N) :
    defs₀ (F := F) .tc (cfgM m hO).body ((cfgM m hO).bodyArgs t ((cfgM m hO).slots t)) = bodyAt0 (adm m hO) t := by
  unfold defs₀; rw [Defs.onTc_tc]

/-- The library's body obligation, at every point: the body's triple restated (Lib/Pipeline/FrameBody.lean `triple_restated`). -/
theorem body_obligation (hO : Ok m) (c : Dev nD) : BodyObligation (dats (F := F) m hO 0 c) (defs₀ (F := F)) Variants.none () Set.univ := fun t => by
  rw [bigSep_W0, bigSep_W0, defs₀_row m hO]
  exact triple_restated (sound_body m hO c t) rfl .rfl fun _ => .rfl

/-! ## The run and the frame -/

-- `θ_run_frameP_shared`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent (hO : Ok m) : θ_run defs (onTc (τ := τ) (main (F := F))) (s₀ m ρ) (fun r => (Pipeline.FramePost (Pipeline.pin pcfgs fun _ => adm m hO) (dats m hO) 0 (V m)) r ∧ r.2.sem = fun _ => 0) :=
  Pipeline.θ_run_frameP_shared (Q' := _) pcfgs (fun _ => adm m hO) (dats m hO) (0 : Fin 1) launch₀0 defs₀ Variants.none m ρ main
    (hbody := fun c => (body_obligation m hO c).loose) (hq := fun _ _ _ => rfl)
    (howed := fun _ _ => rfl) (V := V m) (hmain := hmain m Variants.none) (hA := A_eq m hO) (hpf := V_pre m)
    (hΦ := fun _ _ => rfl)

/-- At the compiled mesh, for any values, from any memory with zero counters: every weakly fair execution of @main on the
    TensorCores terminates, and every final state has every array of the pipeline at what the library computes from the
    proof data and every other unscoped buffer as the region found it (Lib/Pipeline/Frame.lean `FramePost`). -/
theorem run_main (hO : Ok m) : θ_run defs (onTc (τ := τ) (main (F := F))) (s₀ m ρ) (Pipeline.FramePost (Pipeline.pin pcfgs fun _ => adm m hO) (dats m hO) 0 (V m)) :=
  (θ_run defs _ _).mono (fun _ h => h.1) (run_main_quiescent m ρ hO)

/-- `frame` without the counters: the argument arrays end unchanged. -/
theorem unchanged (hO : Ok m) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  frame_of m ρ hO (dats m hO) (A_eq m hO) (run_main m ρ hO)

/-- THE FRAME: `Cert.quiescent_AttnIdeal`'s statement (Defs.lean) at any `F` — Proof.lean cites it at `Bits`:
    `theorem Cert.Proof.claim : Cert.Claim := ⟨Cert.AttnIdeal.Gen.facts, fun m ρ _ => Cert.AttnIdeal.Gen.frame m ρ⟩`; here for every contents of the PREFETCHED TABLES, UNDER `Gen.Ok m` (the pipeline's side condition of
    them), which Proof.lean proves from the precondition: `⟨…, fun m ρ h => Cert.AttnIdeal.Gen.frame m ρ (ok_of_pre m h)⟩`. -/
theorem frame (hO : Ok m) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7))
      ∧ r.2.sem = fun _ => 0) :=
  θ_run_and (unchanged m ρ hO) ((θ_run defs _ _).mono (fun _ h => h.2) (run_main_quiescent m ρ hO))

end Cert.AttnIdeal.Gen

end
-- ==== Proof.AttnIdealPages.lean ====
/- Where the kernel's launch reads its pages: window `6 + p` of the launch fetches, at grid point `b`, the block of the
   pool that the page table names at `(b, p)`; with every word of the table a page of the pool, each such block lies
   inside the pool, which is the side condition of the launch. This is for its idealized reading. -/
module

public import proofs.«01_k».proof.Proof.AttnIdealFrame
public import proofs.«01_k».proof.Proof.Reference

@[expose] public section

set_option maxRecDepth 16384

noncomputable section

open Idealize.ShloMosaic Idealize.ShloMosaic.TcCoe Idealize.SL.Sem

namespace Cert.AttnIdeal.Pages

open Cert.AttnIdeal Cert.AttnIdeal.Gen
open Cert.Reference (InPool)

variable {F : FTy → Type} [FloatOps F] [Named F]

/-- The word an index map loads of the table, at row `i 0` and a page's column. -/
theorem word_at (pf : pre0.Contents (Elt F)) (i : grid0.Coords) (p : Fin 16)
    (h : ∀ a, (![(Scalar.indexCast (BitVec.ofNat 32 (i 0).val)).toNat, p.val] : Fin 2 → ℕ) a + S1x1.size a ≤ S128x16.size a) :
    pf.at 0 (Rect.unit (s := S128x16) ![(Scalar.indexCast (BitVec.ofNat 32 (i 0).val)).toNat, p.val] S1x1.size h) numel1_S1x1
      = (pf 0 : S128x16.Idx → BitVec 32) (ix2 ⟨(i 0).val, (i 0).isLt⟩ p) := by
  have e : (Rect.unit (s := S128x16) ![(Scalar.indexCast (BitVec.ofNat 32 (i 0).val)).toNat, p.val] S1x1.size h).point numel1_S1x1
      = (ix2 ⟨(i 0).val, (i 0).isLt⟩ p : S128x16.Idx) := by
    have hi : (i 0).val < 128 := (i 0).isLt
    funext a
    apply Fin.ext
    fin_cases a
    · show (BitVec.ofNat 32 (i 0).val).toNat + 1 * 0 = (i 0).val
      rw [BitVec.toNat_ofNat]; omega
    · show p.val + 1 * 0 = p.val
      omega
  exact congrArg (pf 0 : S128x16.Idx → BitVec 32) e

/-- A block of 512 rows named by a page of the pool lies inside the pool. -/
theorem inside (n : ℕ) (h : n < 2560) (f : Fin 2 → ℕ) (e : f = ![n, 0]) (a : Fin 2) : (f a + 1) * S512x128.size a ≤ S1310720x128.size a := by
  subst e
  fin_cases a
  · show (n + 1) * 512 ≤ 1310720
    omega
  · show (0 + 1) * 128 ≤ 128
    omega

theorem map_6 (pf : pre0.Contents (Elt F)) (i : grid0.Coords) :
    cc0_transform_6 k0_off1_inb numel1_S1x1 pf i = ![((pf 0 : S128x16.Idx → BitVec 32) (ix2 ⟨(i 0).val, (i 0).isLt⟩ 0)).toNat, 0] :=
  congrArg (fun w : BitVec 32 => (![w.toNat, 0] : Fin 2 → ℕ)) (word_at pf i 0 _)

theorem map_7 (pf : pre0.Contents (Elt F)) (i : grid0.Coords) :
    cc0_transform_7 k0_off2_inb numel1_S1x1 pf i = ![((pf 0 : S128x16.Idx → BitVec 32) (ix2 ⟨(i 0).val, (i 0).isLt⟩ 1)).toNat, 0] :=
  congrArg (fun w : BitVec 32 => (![w.toNat, 0] : Fin 2 → ℕ)) (word_at pf i 1 _)

theorem map_8 (pf : pre0.Contents (Elt F)) (i : grid0.Coords) :
    cc0_transform_8 k0_off3_inb numel1_S1x1 pf i = ![((pf 0 : S128x16.Idx → BitVec 32) (ix2 ⟨(i 0).val, (i 0).isLt⟩ 2)).toNat, 0] :=
  congrArg (fun w : BitVec 32 => (![w.toNat, 0] : Fin 2 → ℕ)) (word_at pf i 2 _)

theorem map_9 (pf : pre0.Contents (Elt F)) (i : grid0.Coords) :
    cc0_transform_9 k0_off4_inb numel1_S1x1 pf i = ![((pf 0 : S128x16.Idx → BitVec 32) (ix2 ⟨(i 0).val, (i 0).isLt⟩ 3)).toNat, 0] :=
  congrArg (fun w : BitVec 32 => (![w.toNat, 0] : Fin 2 → ℕ)) (word_at pf i 3 _)

theorem map_10 (pf : pre0.Contents (Elt F)) (i : grid0.Coords) :
    cc0_transform_10 k0_off5_inb numel1_S1x1 pf i = ![((pf 0 : S128x16.Idx → BitVec 32) (ix2 ⟨(i 0).val, (i 0).isLt⟩ 4)).toNat, 0] :=
  congrArg (fun w : BitVec 32 => (![w.toNat, 0] : Fin 2 → ℕ)) (word_at pf i 4 _)

theorem map_11 (pf : pre0.Contents (Elt F)) (i : grid0.Coords) :
    cc0_transform_11 k0_off6_inb numel1_S1x1 pf i = ![((pf 0 : S128x16.Idx → BitVec 32) (ix2 ⟨(i 0).val, (i 0).isLt⟩ 5)).toNat, 0] :=
  congrArg (fun w : BitVec 32 => (![w.toNat, 0] : Fin 2 → ℕ)) (word_at pf i 5 _)

theorem map_12 (pf : pre0.Contents (Elt F)) (i : grid0.Coords) :
    cc0_transform_12 k0_off7_inb numel1_S1x1 pf i = ![((pf 0 : S128x16.Idx → BitVec 32) (ix2 ⟨(i 0).val, (i 0).isLt⟩ 6)).toNat, 0] :=
  congrArg (fun w : BitVec 32 => (![w.toNat, 0] : Fin 2 → ℕ)) (word_at pf i 6 _)

theorem map_13 (pf : pre0.Contents (Elt F)) (i : grid0.Coords) :
    cc0_transform_13 k0_off8_inb numel1_S1x1 pf i = ![((pf 0 : S128x16.Idx → BitVec 32) (ix2 ⟨(i 0).val, (i 0).isLt⟩ 7)).toNat, 0] :=
  congrArg (fun w : BitVec 32 => (![w.toNat, 0] : Fin 2 → ℕ)) (word_at pf i 7 _)

theorem map_14 (pf : pre0.Contents (Elt F)) (i : grid0.Coords) :
    cc0_transform_14 k0_off9_inb numel1_S1x1 pf i = ![((pf 0 : S128x16.Idx → BitVec 32) (ix2 ⟨(i 0).val, (i 0).isLt⟩ 8)).toNat, 0] :=
  congrArg (fun w : BitVec 32 => (![w.toNat, 0] : Fin 2 → ℕ)) (word_at pf i 8 _)

theorem map_15 (pf : pre0.Contents (Elt F)) (i : grid0.Coords) :
    cc0_transform_15 k0_off10_inb numel1_S1x1 pf i = ![((pf 0 : S128x16.Idx → BitVec 32) (ix2 ⟨(i 0).val, (i 0).isLt⟩ 9)).toNat, 0] :=
  congrArg (fun w : BitVec 32 => (![w.toNat, 0] : Fin 2 → ℕ)) (word_at pf i 9 _)

theorem map_16 (pf : pre0.Contents (Elt F)) (i : grid0.Coords) :
    cc0_transform_16 k0_off11_inb numel1_S1x1 pf i = ![((pf 0 : S128x16.Idx → BitVec 32) (ix2 ⟨(i 0).val, (i 0).isLt⟩ 10)).toNat, 0] :=
  congrArg (fun w : BitVec 32 => (![w.toNat, 0] : Fin 2 → ℕ)) (word_at pf i 10 _)

theorem map_17 (pf : pre0.Contents (Elt F)) (i : grid0.Coords) :
    cc0_transform_17 k0_off12_inb numel1_S1x1 pf i = ![((pf 0 : S128x16.Idx → BitVec 32) (ix2 ⟨(i 0).val, (i 0).isLt⟩ 11)).toNat, 0] :=
  congrArg (fun w : BitVec 32 => (![w.toNat, 0] : Fin 2 → ℕ)) (word_at pf i 11 _)

theorem map_18 (pf : pre0.Contents (Elt F)) (i : grid0.Coords) :
    cc0_transform_18 k0_off13_inb numel1_S1x1 pf i = ![((pf 0 : S128x16.Idx → BitVec 32) (ix2 ⟨(i 0).val, (i 0).isLt⟩ 12)).toNat, 0] :=
  congrArg (fun w : BitVec 32 => (![w.toNat, 0] : Fin 2 → ℕ)) (word_at pf i 12 _)

theorem map_19 (pf : pre0.Contents (Elt F)) (i : grid0.Coords) :
    cc0_transform_19 k0_off14_inb numel1_S1x1 pf i = ![((pf 0 : S128x16.Idx → BitVec 32) (ix2 ⟨(i 0).val, (i 0).isLt⟩ 13)).toNat, 0] :=
  congrArg (fun w : BitVec 32 => (![w.toNat, 0] : Fin 2 → ℕ)) (word_at pf i 13 _)

theorem map_20 (pf : pre0.Contents (Elt F)) (i : grid0.Coords) :
    cc0_transform_20 k0_off15_inb numel1_S1x1 pf i = ![((pf 0 : S128x16.Idx → BitVec 32) (ix2 ⟨(i 0).val, (i 0).isLt⟩ 14)).toNat, 0] :=
  congrArg (fun w : BitVec 32 => (![w.toNat, 0] : Fin 2 → ℕ)) (word_at pf i 14 _)

theorem map_21 (pf : pre0.Contents (Elt F)) (i : grid0.Coords) :
    cc0_transform_21 k0_off16_inb numel1_S1x1 pf i = ![((pf 0 : S128x16.Idx → BitVec 32) (ix2 ⟨(i 0).val, (i 0).isLt⟩ 15)).toNat, 0] :=
  congrArg (fun w : BitVec 32 => (![w.toNat, 0] : Fin 2 → ℕ)) (word_at pf i 15 _)

/-- The side condition of the launch, of a table whose words name pages of the pool. -/
theorem ok_of_inPool (pf : pre0.Contents (Elt F)) (h : ∀ i : S128x16.Idx, InPool ((pf 0 : S128x16.Idx → BitVec 32) i)) : ok0 pf :=
  ⟨fun i => ⟨inside _ (h _).lt _ (map_6 pf i), Or.inl rfl⟩,
    fun i => ⟨inside _ (h _).lt _ (map_7 pf i), Or.inl rfl⟩,
    fun i => ⟨inside _ (h _).lt _ (map_8 pf i), Or.inl rfl⟩,
    fun i => ⟨inside _ (h _).lt _ (map_9 pf i), Or.inl rfl⟩,
    fun i => ⟨inside _ (h _).lt _ (map_10 pf i), Or.inl rfl⟩,
    fun i => ⟨inside _ (h _).lt _ (map_11 pf i), Or.inl rfl⟩,
    fun i => ⟨inside _ (h _).lt _ (map_12 pf i), Or.inl rfl⟩,
    fun i => ⟨inside _ (h _).lt _ (map_13 pf i), Or.inl rfl⟩,
    fun i => ⟨inside _ (h _).lt _ (map_14 pf i), Or.inl rfl⟩,
    fun i => ⟨inside _ (h _).lt _ (map_15 pf i), Or.inl rfl⟩,
    fun i => ⟨inside _ (h _).lt _ (map_16 pf i), Or.inl rfl⟩,
    fun i => ⟨inside _ (h _).lt _ (map_17 pf i), Or.inl rfl⟩,
    fun i => ⟨inside _ (h _).lt _ (map_18 pf i), Or.inl rfl⟩,
    fun i => ⟨inside _ (h _).lt _ (map_19 pf i), Or.inl rfl⟩,
    fun i => ⟨inside _ (h _).lt _ (map_20 pf i), Or.inl rfl⟩,
    fun i => ⟨inside _ (h _).lt _ (map_21 pf i), Or.inl rfl⟩⟩

/-- The table the launch reads is the kernel's first argument. -/
theorem tbl_eq (m : (ℓ : Loc nD τ sig) → Buf (Elt F) ℓ) (c : Dev nD) : tbl m 0 = m ((c : Thread nD τ).loc main_arg0) := by
  obtain rfl : c = 0 := Subsingleton.elim _ _
  exact V_main_arg0 m 0

theorem ok (m : (ℓ : Loc nD τ sig) → Buf (Elt F) ℓ)
    (h : ∀ i : S128x16.Idx, InPool ((m (((0 : Dev nD) : Thread nD τ).loc main_arg0) : S128x16.Idx → BitVec 32) i)) : Ok m :=
  ok_of_inPool (tbl m) fun i => by rw [tbl_eq m 0]; exact h i

end Cert.AttnIdeal.Pages

end
-- ==== Proof.Inputs.lean ====
/- What the two preconditions say, in plain terms: the page table's words name pages of the pool, the float arguments
   are real numbers, and some block of the selection is chosen for every head. -/
module

public import proofs.«01_k».proof.Proof.Gen.Pre_step_inputs
public import proofs.«01_k».proof.Proof.Gen.Pre_table_in_pool
public import proofs.«01_k».proof.Proof.Reference
public import Idealize.ShloMosaic.Lib.ReduceAll

@[expose] public section

set_option maxRecDepth 16384

noncomputable section

open Idealize.ShloMosaic Idealize.ShloMosaic.TcCoe Idealize.SL.Sem Idealize.ShloMosaic.WordCmp

namespace Cert.Inputs

open Cert.Reference (InPool)

theorem and_one : ∀ a b : BitVec 1, IntOp.andi a b = 1#1 → a = 1#1 ∧ b = 1#1 := by decide
theorem or_one : ∀ a b : BitVec 1, IntOp.ori a b = 1#1 → a = 1#1 ∨ b = 1#1 := by decide

/-- A fold by `or` that is one starts at one or meets a one. -/
theorem foldl_or {ι : Type} (x : ι → BitVec 1) : ∀ (l : List ι) (a : BitVec 1),
    l.foldl (fun a i => IntOp.ori a (x i)) a = 1#1 → a = 1#1 ∨ ∃ i ∈ l, x i = 1#1
  | [], a, e => Or.inl e
  | i :: l, a, e => by
    rcases foldl_or x l _ e with h | ⟨k, hk, h⟩
    · rcases or_one _ _ h with h | h
      · exact Or.inl h
      · exact Or.inr ⟨i, List.mem_cons_self .., h⟩
    · exact Or.inr ⟨k, List.mem_cons_of_mem _ hk, h⟩

/-- A reduction by `or` from zero that is one at `j` had a one at an index that reduces into `j`. -/
theorem reduce_or {s t u : Shape} {axes : List (Fin s.rank)} (x : s.Idx → BitVec 1) (init : u.Idx → BitVec 1) (h : s.ReducesTo axes t)
    (hu : 0 < u.numel) (j : t.Idx) (h0 : init (Shape.Idx.first hu) = 0#1) (e : Host.reduce IntOp.ori x init h hu j = 1#1) :
    ∃ i, h.drop i = j ∧ x i = 1#1 := by
  rw [Host.reduce_eq_foldl] at e
  rcases foldl_or x _ _ e with h' | ⟨i, hi, h'⟩
  · rw [h0] at h'; exact absurd h' (by decide)
  · exact ⟨i, by simpa using (List.mem_filter.1 hi).2, h'⟩

/-- The two comparisons of a table word. -/
theorem pool_word {w : BitVec 32} (h : IntOp.andi (IntOp.cmpi .sge w 0#32) (IntOp.cmpi .slt w 2560#32) = 1#1) : InPool w := by
  obtain ⟨h0, h1⟩ := and_one _ _ h
  simp only [IntOp.cmpi, ofBool_eq_one_iff, BitVec.sle_iff_toInt_le, BitVec.slt_iff_toInt_lt] at h0 h1
  exact ⟨by simpa using h0, by simpa using h1⟩

/-- A value whose absolute value is below infinity is a real number. -/
theorem real_of_abs {x : EReal} (h : Ideal.cmp .olt (max x (-x)) ⊤ = 1#1) : ∃ r : ℝ, x = r := by
  induction x with
  | bot => simp [Ideal.cmp] at h
  | top => simp [Ideal.cmp] at h
  | coe r => exact ⟨r, rfl⟩

theorem inf_bits : Ideal.ofBits FTy.f32 0x7F800000#32 = ⊤ := by simp [Ideal.ofBits, Ideal.ieee]

section
open Cert.Pre_table_in_pool Cert.Pre_table_in_pool.Gen

/-- The first precondition: every word of the table names a page. -/
theorem table {F : FTy → Type} [FloatOps F] (x0 : IVec S128x16 32) (x1 : FVec F S128x8x128 .f32) (x2 : FVec F S128x2x128 .f32) (x3 : FVec F S128x3x2x2x128 .f32)
    (x4 : FVec F S128x8x128 .f32) (x5 : FVec F S128x3x2x4 .f32) (x6 : FVec F S128x512x2x2x128 .f32) (x7 : FVec F S2560x128x2x2x128 .f32)
    (h : Cert.Pre_table_in_pool.fn (F := F) x0 x1 x2 x3 x4 x5 x6 x7 = fun _ => 1#1) (i : S128x16.Idx) : InPool (x0 i) :=
  pool_word (congrFun h i)
end

section
open Cert.Pre_step_inputs Cert.Pre_step_inputs.Gen

/-- What the second precondition says of the arguments. -/
structure Good (x0 : IVec S128x16 32) (x1 : FVec Ideal S128x8x128 .f32) (x2 : FVec Ideal S128x2x128 .f32) (x3 : FVec Ideal S128x3x2x2x128 .f32)
    (x6 : FVec Ideal S128x512x2x2x128 .f32) (x7 : FVec Ideal S2560x128x2x2x128 .f32) : Prop where
  table : ∀ i, InPool (x0 i)
  query : ∀ i, ∃ r : ℝ, x1 i = r
  fresh : ∀ i, ∃ r : ℝ, x3 i = r
  window : ∀ i, ∃ r : ℝ, x6 i = r
  cache : ∀ i, ∃ r : ℝ, x7 i = r
  chosen : ∀ (b : Fin 128) (h : Fin 2), ∃ k : Fin 33, (0 : EReal) < x2 (ix3 b h ⟨k, by omega⟩)

theorem scalar_idx : Subsingleton S_.Idx := ⟨fun a b => funext fun k => k.elim0⟩

/-- A block chosen, from the reduction by `or` over the first thirty-three. -/
theorem some_chosen (x2 : FVec Ideal S128x2x128 .f32) (b : Fin 128) (k : Fin 2)
    (e : Host.reduce IntOp.ori (cmpf (F := Ideal) .ogt (extractStridedSlice S128x2x33 ![0, 0, 0] x2 slices_S128x2x128_S128x2x33_0_0_0)
        (broadcastInDim S128x2x33 ![] bcast_S_S128x2x33 (constant S_ .f32 0x00000000#32))) (constantI S_ 1 0#1) reducesTo_S128x2x33_S128x2_d2 h_S_ (ix2 b k) = 1#1) :
    ∃ j : Fin 33, (0 : EReal) < x2 (ix3 b k ⟨j, by omega⟩) := by
  obtain ⟨i, hi, hx⟩ := reduce_or _ _ _ _ _ rfl e
  have h0 : ((i 0 : Fin 128) : ℕ) = b := by
    exact (Shape.ReducesTo.drop_apply_val reducesTo_S128x2x33_S128x2_d2 i 0).symm.trans (by rw [hi]; rfl)
  have h1 : ((i 1 : Fin 2) : ℕ) = k := by
    exact (Shape.ReducesTo.drop_apply_val reducesTo_S128x2x33_S128x2_d2 i 1).symm.trans (by rw [hi]; rfl)
  refine ⟨⟨(i 2 : Fin 33), (i 2).isLt⟩, ?_⟩
  have e0 : extractStridedSlice S128x2x33 ![0, 0, 0] x2 slices_S128x2x128_S128x2x33_0_0_0 i
      = x2 (ix3 b k ⟨(i 2 : Fin 33), by have := (i 2).isLt; change _ < 33 at this; omega⟩) := by
    unfold extractStridedSlice
    refine congrArg x2 (funext fun a => Fin.ext ?_)
    match a with
    | ⟨0, _⟩ => exact (Nat.zero_add _).trans h0
    | ⟨1, _⟩ => exact (Nat.zero_add _).trans h1
    | ⟨2, _⟩ => exact Nat.zero_add _
  have hx' : Ideal.cmp .ogt (extractStridedSlice S128x2x33 ![0, 0, 0] x2 slices_S128x2x128_S128x2x33_0_0_0 i) (Ideal.ofBits FTy.f32 0x00000000#32) = 1#1 := hx
  rw [e0, Cert.Reference.zero_bits] at hx'
  simpa [Ideal.cmp, ofBool_eq_one_iff] using hx'

/-- The second precondition, read. -/
theorem good (x0 : IVec S128x16 32) (x1 : FVec Ideal S128x8x128 .f32) (x2 : FVec Ideal S128x2x128 .f32) (x3 : FVec Ideal S128x3x2x2x128 .f32)
    (x4 : FVec Ideal S128x8x128 .f32) (x5 : FVec Ideal S128x3x2x4 .f32) (x6 : FVec Ideal S128x512x2x2x128 .f32) (x7 : FVec Ideal S2560x128x2x2x128 .f32)
    (h : Cert.Pre_step_inputs.fn (F := Ideal) x0 x1 x2 x3 x4 x5 x6 x7 = fun _ => 1#1) : Good x0 x1 x2 x3 x6 x7 := by
  have := scalar_idx
  have e := congrFun h ix0
  obtain ⟨e, hsel⟩ := and_one _ _ e
  obtain ⟨htab, e⟩ := and_one _ _ e
  obtain ⟨e, h7⟩ := and_one _ _ e
  obtain ⟨e, h6⟩ := and_one _ _ e
  obtain ⟨h1, h3⟩ := and_one _ _ e
  refine ⟨fun i => ?_, fun i => ?_, fun i => ?_, fun i => ?_, fun i => ?_, fun b k => ?_⟩
  · exact pool_word (Host.reduce_andi_all _ _ _ _ _ htab i)
  · have := Host.reduce_andi_all _ _ _ _ _ h1 i
    exact real_of_abs (inf_bits ▸ this)
  · have := Host.reduce_andi_all _ _ _ _ _ h3 i
    exact real_of_abs (inf_bits ▸ this)
  · have := Host.reduce_andi_all _ _ _ _ _ h6 i
    exact real_of_abs (inf_bits ▸ this)
  · have := Host.reduce_andi_all _ _ _ _ _ h7 i
    exact real_of_abs (inf_bits ▸ this)
  · have := Host.reduce_andi_all _ _ _ _ _ hsel (ix2 b k)
    exact some_chosen x2 b k this
end

end Cert.Inputs

end
-- ==== Proof.Blocks.lean ====
/- What the launch hands the kernel at grid point `b`: the rows of query `b`, its gates, its new keys and values, its
   window, and the sixteen pages that its row of the page table names — each as an entry of the arguments. -/
module

public import proofs.«01_k».proof.Proof.AttnIdealPages
public import Idealize.ShloMosaic.Lib.Pipeline.ValueKit
public import Idealize.ShloMosaic.Lib.Pointwise
public import Idealize.ShloMosaic.Lib.KernelVsHost

@[expose] public section

set_option maxRecDepth 16384

noncomputable section

open Idealize.ShloMosaic Idealize.ShloMosaic.TcCoe Idealize.SL.Sem

namespace Cert.Blocks

open Cert.AttnIdeal Cert.AttnIdeal.Gen
open Idealize.ShloMosaic.Pipeline (Dat)

variable (m : (ℓ : Loc nD τ sig) → Buf (Elt Ideal) ℓ)

/-! ### The arrays the host prepares -/

theorem pad_rows (X : S128x2x4x128.Idx → EReal) (v : S_.Idx → EReal) (b : Fin 128) (h : Fin 2) (r : Fin 16) (hr : r.val < 4) (d : Fin 128) :
    pad S128x2x16x128 ![0, 0, 0, 0] ![0, 0, 12, 0] ![0, 0, 0, 0] X v pads_S128x2x4x128_S128x2x16x128_000_000_0120_000 h_S_ (ix4 b h r d)
      = X (ix4 b h ⟨r.val, hr⟩ d) := by
  refine pad_apply_of_inside ![0, 0, 0, 0] ![0, 0, 12, 0] ![0, 0, 0, 0] X v pads_S128x2x4x128_S128x2x16x128_000_000_0120_000 h_S_ _ _ fun a => ?_
  fin_cases a
  · show b.val = 0 + b.val * (0 + 1); omega
  · show h.val = 0 + h.val * (0 + 1); omega
  · show r.val = 0 + r.val * (0 + 1); omega
  · show d.val = 0 + d.val * (0 + 1); omega

theorem pad_lanes (X : S128x1x24.Idx → EReal) (v : S_.Idx → EReal) (b : Fin 128) (l : Fin 128) (hl : l.val < 24) :
    pad S128x1x128 ![0, 0, 0] ![0, 0, 104] ![0, 0, 0] X v pads_S128x1x24_S128x1x128_000_000_01040 h_S_ (ix3 b 0 l)
      = X (ix3 b 0 ⟨l.val, hl⟩) := by
  refine pad_apply_of_inside ![0, 0, 0] ![0, 0, 104] ![0, 0, 0] X v pads_S128x1x24_S128x1x128_000_000_01040 h_S_ _ _ fun a => ?_
  fin_cases a
  · show b.val = 0 + b.val * (0 + 1); omega
  · show 0 = 0 + 0 * (0 + 1); omega
  · show l.val = 0 + l.val * (0 + 1); omega

theorem query_at (c : Dev nD) (b : Fin 128) (h : Fin 2) (r : Fin 16) (hr : r.val < 4) (d : Fin 128) :
    (V m c main_v1 : S128x2x16x128.Idx → EReal) (ix4 b h r d)
      = (m ((c : Thread nD τ).loc main_arg1) : S128x8x128.Idx → EReal) (ix3 b ⟨h.val * 4 + r.val, by omega⟩ d) := by
  simp only [V, hostOps0, hostOps0_1, hostOps0_2, hostOps0_3, hostOps0_4, hostOps0_5, hostOps0_6, List.flatten_cons,
    List.flatten_nil, List.append_nil, List.cons_append, List.nil_append]
  entry_read
  refine (pad_rows _ _ b h r hr d).trans ?_
  pointwise
  rfl

theorem oc_at (c : Dev nD) (b : Fin 128) (h : Fin 2) (r : Fin 16) (hr : r.val < 4) (d : Fin 128) :
    (V m c main_v3 : S128x2x16x128.Idx → EReal) (ix4 b h r d)
      = (m ((c : Thread nD τ).loc main_arg4) : S128x8x128.Idx → EReal) (ix3 b ⟨h.val * 4 + r.val, by omega⟩ d) := by
  simp only [V, hostOps0, hostOps0_1, hostOps0_2, hostOps0_3, hostOps0_4, hostOps0_5, hostOps0_6, List.flatten_cons,
    List.flatten_nil, List.append_nil, List.cons_append, List.nil_append]
  entry_read
  refine (pad_rows _ _ b h r hr d).trans ?_
  pointwise
  rfl

theorem gates_at (c : Dev nD) (b : Fin 128) (l : Fin 128) (hl : l.val < 24) :
    (V m c main_v5 : S128x1x128.Idx → EReal) (ix3 b 0 l)
      = (m ((c : Thread nD τ).loc main_arg5) : S128x3x2x4.Idx → EReal) (ix4 b ⟨l.val / 8, by omega⟩ ⟨l.val / 4 % 2, by omega⟩ ⟨l.val % 4, by omega⟩) := by
  simp only [V, hostOps0, hostOps0_1, hostOps0_2, hostOps0_3, hostOps0_4, hostOps0_5, hostOps0_6, List.flatten_cons,
    List.flatten_nil, List.append_nil, List.cons_append, List.nil_append]
  entry_read
  refine (pad_lanes _ _ b l hl).trans ?_
  pointwise
  rfl

theorem fresh_at (c : Dev nD) (b : Fin 128) (k : Fin 3) (l : Fin 512) :
    (V m c main_v6 : S128x3x512.Idx → EReal) (ix3 b k l)
      = (m ((c : Thread nD τ).loc main_arg3) : S128x3x2x2x128.Idx → EReal)
          (ix5 b k ⟨l.val / 256, by omega⟩ ⟨l.val / 128 % 2, by omega⟩ ⟨l.val % 128, by omega⟩) := by
  simp only [V, hostOps0, hostOps0_1, hostOps0_2, hostOps0_3, hostOps0_4, hostOps0_5, hostOps0_6, List.flatten_cons,
    List.flatten_nil, List.append_nil, List.cons_append, List.nil_append]
  entry_read
  pointwise

theorem window_at (c : Dev nD) (b : Fin 128) (i : Fin 2048) (d : Fin 128) :
    (V m c main_v7 : S128x2048x128.Idx → EReal) (ix3 b i d)
      = (m ((c : Thread nD τ).loc main_arg6) : S128x512x2x2x128.Idx → EReal)
          (ix5 b ⟨i.val / 4, by omega⟩ ⟨i.val / 2 % 2, by omega⟩ ⟨i.val % 2, by omega⟩ d) := by
  simp only [V, hostOps0, hostOps0_1, hostOps0_2, hostOps0_3, hostOps0_4, hostOps0_5, hostOps0_6, List.flatten_cons,
    List.flatten_nil, List.append_nil, List.cons_append, List.nil_append]
  entry_read
  pointwise

theorem pool_at (c : Dev nD) (n : Fin 1310720) (d : Fin 128) :
    (V m c main_v8 : S1310720x128.Idx → EReal) (ix2 n d)
      = (m ((c : Thread nD τ).loc main_arg7) : S2560x128x2x2x128.Idx → EReal)
          (ix5 ⟨n.val / 512, by omega⟩ ⟨n.val / 4 % 128, by omega⟩ ⟨n.val / 2 % 2, by omega⟩ ⟨n.val % 2, by omega⟩ d) := by
  simp only [V, hostOps0, hostOps0_1, hostOps0_2, hostOps0_3, hostOps0_4, hostOps0_5, hostOps0_6, List.flatten_cons,
    List.flatten_nil, List.append_nil, List.cons_append, List.nil_append]
  entry_read
  pointwise

/-! ### The blocks of a grid point -/

theorem N_eq (hO : Ok m) : (cfgM m hO).N = 128 := N_0

/-- The query a grid point is about. -/
abbrev batch (hO : Ok m) (t : Fin (cfgM m hO).N) : Fin 128 := ⟨t.val, t.isLt.trans_eq (N_eq m hO)⟩

theorem coord (hO : Ok m) (t : Fin (cfgM m hO).N) : (grid0.coords t 0).val = t.val := by
  have ht := t.isLt.trans_eq (N_eq m hO)
  refine (Pipeline.Grid.coords_val (G := grid0) t 0 (S := 1) (B := 128) (by decide) rfl).trans ?_
  omega

theorem coord_word (hO : Ok m) (t : Fin (cfgM m hO).N) : (BitVec.ofNat 32 (grid0.coords t 0).val).toNat = t.val := by
  have ht := t.isLt.trans_eq (N_eq m hO)
  rw [coord m hO t, BitVec.toNat_ofNat]; omega

/-- The word of the table a page's block index is, at a grid point, in terms of the first argument. -/
theorem word_batch (hO : Ok m) (c : Dev nD) (t : Fin (cfgM m hO).N) (p : Fin 16) (f : Fin 2 → ℕ)
    (e : f = ![((tbl m 0 : S128x16.Idx → BitVec 32) (ix2 ⟨(grid0.coords t 0).val, (grid0.coords t 0).isLt⟩ p)).toNat, 0]) :
    f = ![((m ((c : Thread nD τ).loc main_arg0) : S128x16.Idx → BitVec 32) (ix2 (batch m hO t) p)).toNat, 0] := by
  rw [e, AttnIdeal.Pages.tbl_eq m c]
  have ht : (⟨(grid0.coords t 0).val, (grid0.coords t 0).isLt⟩ : Fin 128) = batch m hO t := Fin.ext (coord m hO t)
  rw [ht]

theorem query_blk (hO : Ok m) (c : Dev nD) (t : Fin (cfgM m hO).N) (h : Fin 2) (r : Fin 16) (d : Fin 128) :
    (iblk m hO c 0 t : S1x2x16x128.Idx → EReal) (ix4 0 h r d)
      = (V m c main_v1 : S128x2x16x128.Idx → EReal) (ix4 (batch m hO t) h r d) := by
  have ht := coord_word m hO t
  refine congrArg (V m c main_v1 : S128x2x16x128.Idx → EReal) (funext fun a => Fin.ext ?_)
  refine (ValueKit.view_emb_slice_whole_unit_val main_v1 _ _ _ _ a).trans ?_
  fin_cases a
  · show (BitVec.ofNat 32 (grid0.coords t 0).val).toNat * 1 + 0 = t.val
    omega
  · show 0 * 2 + h.val = h.val
    omega
  · show 0 * 16 + r.val = r.val
    omega
  · show 0 * 128 + d.val = d.val
    omega

theorem chosen_blk (hO : Ok m) (c : Dev nD) (t : Fin (cfgM m hO).N) (h : Fin 2) (k : Fin 128) :
    (iblk m hO c 1 t : S1x2x128.Idx → EReal) (ix3 0 h k)
      = (V m c main_arg2 : S128x2x128.Idx → EReal) (ix3 (batch m hO t) h k) := by
  have ht := coord_word m hO t
  refine congrArg (V m c main_arg2 : S128x2x128.Idx → EReal) (funext fun a => Fin.ext ?_)
  refine (ValueKit.view_emb_slice_whole_unit_val main_arg2 _ _ _ _ a).trans ?_
  fin_cases a
  · show (BitVec.ofNat 32 (grid0.coords t 0).val).toNat * 1 + 0 = t.val
    omega
  · show 0 * 2 + h.val = h.val
    omega
  · show 0 * 128 + k.val = k.val
    omega

theorem fresh_blk (hO : Ok m) (c : Dev nD) (t : Fin (cfgM m hO).N) (k : Fin 3) (l : Fin 512) :
    (iblk m hO c 2 t : S1x3x512.Idx → EReal) (ix3 0 k l)
      = (V m c main_v6 : S128x3x512.Idx → EReal) (ix3 (batch m hO t) k l) := by
  have ht := coord_word m hO t
  refine congrArg (V m c main_v6 : S128x3x512.Idx → EReal) (funext fun a => Fin.ext ?_)
  refine (ValueKit.view_emb_slice_whole_unit_val main_v6 _ _ _ _ a).trans ?_
  fin_cases a
  · show (BitVec.ofNat 32 (grid0.coords t 0).val).toNat * 1 + 0 = t.val
    omega
  · show 0 * 3 + k.val = k.val
    omega
  · show 0 * 512 + l.val = l.val
    omega

theorem oc_blk (hO : Ok m) (c : Dev nD) (t : Fin (cfgM m hO).N) (h : Fin 2) (r : Fin 16) (d : Fin 128) :
    (iblk m hO c 3 t : S1x2x16x128.Idx → EReal) (ix4 0 h r d)
      = (V m c main_v3 : S128x2x16x128.Idx → EReal) (ix4 (batch m hO t) h r d) := by
  have ht := coord_word m hO t
  refine congrArg (V m c main_v3 : S128x2x16x128.Idx → EReal) (funext fun a => Fin.ext ?_)
  refine (ValueKit.view_emb_slice_whole_unit_val main_v3 _ _ _ _ a).trans ?_
  fin_cases a
  · show (BitVec.ofNat 32 (grid0.coords t 0).val).toNat * 1 + 0 = t.val
    omega
  · show 0 * 2 + h.val = h.val
    omega
  · show 0 * 16 + r.val = r.val
    omega
  · show 0 * 128 + d.val = d.val
    omega

theorem gates_blk (hO : Ok m) (c : Dev nD) (t : Fin (cfgM m hO).N) (l : Fin 128) :
    (iblk m hO c 4 t : S1x1x128.Idx → EReal) (ix3 0 0 l)
      = (V m c main_v5 : S128x1x128.Idx → EReal) (ix3 (batch m hO t) 0 l) := by
  have ht := coord_word m hO t
  refine congrArg (V m c main_v5 : S128x1x128.Idx → EReal) (funext fun a => Fin.ext ?_)
  refine (ValueKit.view_emb_slice_whole_unit_val main_v5 _ _ _ _ a).trans ?_
  fin_cases a
  · show (BitVec.ofNat 32 (grid0.coords t 0).val).toNat * 1 + 0 = t.val
    omega
  · show 0 * 1 + 0 = 0
    omega
  · show 0 * 128 + l.val = l.val
    omega

theorem window_blk (hO : Ok m) (c : Dev nD) (t : Fin (cfgM m hO).N) (i : Fin 2048) (d : Fin 128) :
    (iblk m hO c 5 t : S1x2048x128.Idx → EReal) (ix3 0 i d)
      = (V m c main_v7 : S128x2048x128.Idx → EReal) (ix3 (batch m hO t) i d) := by
  have ht := coord_word m hO t
  refine congrArg (V m c main_v7 : S128x2048x128.Idx → EReal) (funext fun a => Fin.ext ?_)
  refine (ValueKit.view_emb_slice_whole_unit_val main_v7 _ _ _ _ a).trans ?_
  fin_cases a
  · show (BitVec.ofNat 32 (grid0.coords t 0).val).toNat * 1 + 0 = t.val
    omega
  · show 0 * 2048 + i.val = i.val
    omega
  · show 0 * 128 + d.val = d.val
    omega

theorem page_blk_0 (hO : Ok m) (c : Dev nD) (t : Fin (cfgM m hO).N) (j : Fin 512) (d : Fin 128) (n : Fin 1310720)
    (hn : n.val = ((m ((c : Thread nD τ).loc main_arg0) : S128x16.Idx → BitVec 32) (ix2 (batch m hO t) 0)).toNat * 512 + j.val) :
    (iblk m hO c 6 t : S512x128.Idx → EReal) (ix2 j d) = (V m c main_v8 : S1310720x128.Idx → EReal) (ix2 n d) := by
  refine congrArg (V m c main_v8 : S1310720x128.Idx → EReal) (funext fun a => Fin.ext ?_)
  refine (ValueKit.view_emb_slice_whole_unit_val main_v8 _ _ _ _ a).trans ?_
  have e := word_batch m hO c t 0 _ (AttnIdeal.Pages.map_6 (tbl m) (grid0.coords t))
  fin_cases a
  · show cc0_transform_6 k0_off1_inb numel1_S1x1 (tbl m) (grid0.coords t) 0 * 512 + j.val = n.val
    rw [e, hn]; rfl
  · show cc0_transform_6 k0_off1_inb numel1_S1x1 (tbl m) (grid0.coords t) 1 * 128 + d.val = d.val
    rw [e]; show 0 * 128 + d.val = d.val; omega

theorem page_blk_1 (hO : Ok m) (c : Dev nD) (t : Fin (cfgM m hO).N) (j : Fin 512) (d : Fin 128) (n : Fin 1310720)
    (hn : n.val = ((m ((c : Thread nD τ).loc main_arg0) : S128x16.Idx → BitVec 32) (ix2 (batch m hO t) 1)).toNat * 512 + j.val) :
    (iblk m hO c 7 t : S512x128.Idx → EReal) (ix2 j d) = (V m c main_v8 : S1310720x128.Idx → EReal) (ix2 n d) := by
  refine congrArg (V m c main_v8 : S1310720x128.Idx → EReal) (funext fun a => Fin.ext ?_)
  refine (ValueKit.view_emb_slice_whole_unit_val main_v8 _ _ _ _ a).trans ?_
  have e := word_batch m hO c t 1 _ (AttnIdeal.Pages.map_7 (tbl m) (grid0.coords t))
  fin_cases a
  · show cc0_transform_7 k0_off2_inb numel1_S1x1 (tbl m) (grid0.coords t) 0 * 512 + j.val = n.val
    rw [e, hn]; rfl
  · show cc0_transform_7 k0_off2_inb numel1_S1x1 (tbl m) (grid0.coords t) 1 * 128 + d.val = d.val
    rw [e]; show 0 * 128 + d.val = d.val; omega

theorem page_blk_2 (hO : Ok m) (c : Dev nD) (t : Fin (cfgM m hO).N) (j : Fin 512) (d : Fin 128) (n : Fin 1310720)
    (hn : n.val = ((m ((c : Thread nD τ).loc main_arg0) : S128x16.Idx → BitVec 32) (ix2 (batch m hO t) 2)).toNat * 512 + j.val) :
    (iblk m hO c 8 t : S512x128.Idx → EReal) (ix2 j d) = (V m c main_v8 : S1310720x128.Idx → EReal) (ix2 n d) := by
  refine congrArg (V m c main_v8 : S1310720x128.Idx → EReal) (funext fun a => Fin.ext ?_)
  refine (ValueKit.view_emb_slice_whole_unit_val main_v8 _ _ _ _ a).trans ?_
  have e := word_batch m hO c t 2 _ (AttnIdeal.Pages.map_8 (tbl m) (grid0.coords t))
  fin_cases a
  · show cc0_transform_8 k0_off3_inb numel1_S1x1 (tbl m) (grid0.coords t) 0 * 512 + j.val = n.val
    rw [e, hn]; rfl
  · show cc0_transform_8 k0_off3_inb numel1_S1x1 (tbl m) (grid0.coords t) 1 * 128 + d.val = d.val
    rw [e]; show 0 * 128 + d.val = d.val; omega

theorem page_blk_3 (hO : Ok m) (c : Dev nD) (t : Fin (cfgM m hO).N) (j : Fin 512) (d : Fin 128) (n : Fin 1310720)
    (hn : n.val = ((m ((c : Thread nD τ).loc main_arg0) : S128x16.Idx → BitVec 32) (ix2 (batch m hO t) 3)).toNat * 512 + j.val) :
    (iblk m hO c 9 t : S512x128.Idx → EReal) (ix2 j d) = (V m c main_v8 : S1310720x128.Idx → EReal) (ix2 n d) := by
  refine congrArg (V m c main_v8 : S1310720x128.Idx → EReal) (funext fun a => Fin.ext ?_)
  refine (ValueKit.view_emb_slice_whole_unit_val main_v8 _ _ _ _ a).trans ?_
  have e := word_batch m hO c t 3 _ (AttnIdeal.Pages.map_9 (tbl m) (grid0.coords t))
  fin_cases a
  · show cc0_transform_9 k0_off4_inb numel1_S1x1 (tbl m) (grid0.coords t) 0 * 512 + j.val = n.val
    rw [e, hn]; rfl
  · show cc0_transform_9 k0_off4_inb numel1_S1x1 (tbl m) (grid0.coords t) 1 * 128 + d.val = d.val
    rw [e]; show 0 * 128 + d.val = d.val; omega

theorem page_blk_4 (hO : Ok m) (c : Dev nD) (t : Fin (cfgM m hO).N) (j : Fin 512) (d : Fin 128) (n : Fin 1310720)
    (hn : n.val = ((m ((c : Thread nD τ).loc main_arg0) : S128x16.Idx → BitVec 32) (ix2 (batch m hO t) 4)).toNat * 512 + j.val) :
    (iblk m hO c 10 t : S512x128.Idx → EReal) (ix2 j d) = (V m c main_v8 : S1310720x128.Idx → EReal) (ix2 n d) := by
  refine congrArg (V m c main_v8 : S1310720x128.Idx → EReal) (funext fun a => Fin.ext ?_)
  refine (ValueKit.view_emb_slice_whole_unit_val main_v8 _ _ _ _ a).trans ?_
  have e := word_batch m hO c t 4 _ (AttnIdeal.Pages.map_10 (tbl m) (grid0.coords t))
  fin_cases a
  · show cc0_transform_10 k0_off5_inb numel1_S1x1 (tbl m) (grid0.coords t) 0 * 512 + j.val = n.val
    rw [e, hn]; rfl
  · show cc0_transform_10 k0_off5_inb numel1_S1x1 (tbl m) (grid0.coords t) 1 * 128 + d.val = d.val
    rw [e]; show 0 * 128 + d.val = d.val; omega

theorem page_blk_5 (hO : Ok m) (c : Dev nD) (t : Fin (cfgM m hO).N) (j : Fin 512) (d : Fin 128) (n : Fin 1310720)
    (hn : n.val = ((m ((c : Thread nD τ).loc main_arg0) : S128x16.Idx → BitVec 32) (ix2 (batch m hO t) 5)).toNat * 512 + j.val) :
    (iblk m hO c 11 t : S512x128.Idx → EReal) (ix2 j d) = (V m c main_v8 : S1310720x128.Idx → EReal) (ix2 n d) := by
  refine congrArg (V m c main_v8 : S1310720x128.Idx → EReal) (funext fun a => Fin.ext ?_)
  refine (ValueKit.view_emb_slice_whole_unit_val main_v8 _ _ _ _ a).trans ?_
  have e := word_batch m hO c t 5 _ (AttnIdeal.Pages.map_11 (tbl m) (grid0.coords t))
  fin_cases a
  · show cc0_transform_11 k0_off6_inb numel1_S1x1 (tbl m) (grid0.coords t) 0 * 512 + j.val = n.val
    rw [e, hn]; rfl
  · show cc0_transform_11 k0_off6_inb numel1_S1x1 (tbl m) (grid0.coords t) 1 * 128 + d.val = d.val
    rw [e]; show 0 * 128 + d.val = d.val; omega

theorem page_blk_6 (hO : Ok m) (c : Dev nD) (t : Fin (cfgM m hO).N) (j : Fin 512) (d : Fin 128) (n : Fin 1310720)
    (hn : n.val = ((m ((c : Thread nD τ).loc main_arg0) : S128x16.Idx → BitVec 32) (ix2 (batch m hO t) 6)).toNat * 512 + j.val) :
    (iblk m hO c 12 t : S512x128.Idx → EReal) (ix2 j d) = (V m c main_v8 : S1310720x128.Idx → EReal) (ix2 n d) := by
  refine congrArg (V m c main_v8 : S1310720x128.Idx → EReal) (funext fun a => Fin.ext ?_)
  refine (ValueKit.view_emb_slice_whole_unit_val main_v8 _ _ _ _ a).trans ?_
  have e := word_batch m hO c t 6 _ (AttnIdeal.Pages.map_12 (tbl m) (grid0.coords t))
  fin_cases a
  · show cc0_transform_12 k0_off7_inb numel1_S1x1 (tbl m) (grid0.coords t) 0 * 512 + j.val = n.val
    rw [e, hn]; rfl
  · show cc0_transform_12 k0_off7_inb numel1_S1x1 (tbl m) (grid0.coords t) 1 * 128 + d.val = d.val
    rw [e]; show 0 * 128 + d.val = d.val; omega

theorem page_blk_7 (hO : Ok m) (c : Dev nD) (t : Fin (cfgM m hO).N) (j : Fin 512) (d : Fin 128) (n : Fin 1310720)
    (hn : n.val = ((m ((c : Thread nD τ).loc main_arg0) : S128x16.Idx → BitVec 32) (ix2 (batch m hO t) 7)).toNat * 512 + j.val) :
    (iblk m hO c 13 t : S512x128.Idx → EReal) (ix2 j d) = (V m c main_v8 : S1310720x128.Idx → EReal) (ix2 n d) := by
  refine congrArg (V m c main_v8 : S1310720x128.Idx → EReal) (funext fun a => Fin.ext ?_)
  refine (ValueKit.view_emb_slice_whole_unit_val main_v8 _ _ _ _ a).trans ?_
  have e := word_batch m hO c t 7 _ (AttnIdeal.Pages.map_13 (tbl m) (grid0.coords t))
  fin_cases a
  · show cc0_transform_13 k0_off8_inb numel1_S1x1 (tbl m) (grid0.coords t) 0 * 512 + j.val = n.val
    rw [e, hn]; rfl
  · show cc0_transform_13 k0_off8_inb numel1_S1x1 (tbl m) (grid0.coords t) 1 * 128 + d.val = d.val
    rw [e]; show 0 * 128 + d.val = d.val; omega

theorem page_blk_8 (hO : Ok m) (c : Dev nD) (t : Fin (cfgM m hO).N) (j : Fin 512) (d : Fin 128) (n : Fin 1310720)
    (hn : n.val = ((m ((c : Thread nD τ).loc main_arg0) : S128x16.Idx → BitVec 32) (ix2 (batch m hO t) 8)).toNat * 512 + j.val) :
    (iblk m hO c 14 t : S512x128.Idx → EReal) (ix2 j d) = (V m c main_v8 : S1310720x128.Idx → EReal) (ix2 n d) := by
  refine congrArg (V m c main_v8 : S1310720x128.Idx → EReal) (funext fun a => Fin.ext ?_)
  refine (ValueKit.view_emb_slice_whole_unit_val main_v8 _ _ _ _ a).trans ?_
  have e := word_batch m hO c t 8 _ (AttnIdeal.Pages.map_14 (tbl m) (grid0.coords t))
  fin_cases a
  · show cc0_transform_14 k0_off9_inb numel1_S1x1 (tbl m) (grid0.coords t) 0 * 512 + j.val = n.val
    rw [e, hn]; rfl
  · show cc0_transform_14 k0_off9_inb numel1_S1x1 (tbl m) (grid0.coords t) 1 * 128 + d.val = d.val
    rw [e]; show 0 * 128 + d.val = d.val; omega

theorem page_blk_9 (hO : Ok m) (c : Dev nD) (t : Fin (cfgM m hO).N) (j : Fin 512) (d : Fin 128) (n : Fin 1310720)
    (hn : n.val = ((m ((c : Thread nD τ).loc main_arg0) : S128x16.Idx → BitVec 32) (ix2 (batch m hO t) 9)).toNat * 512 + j.val) :
    (iblk m hO c 15 t : S512x128.Idx → EReal) (ix2 j d) = (V m c main_v8 : S1310720x128.Idx → EReal) (ix2 n d) := by
  refine congrArg (V m c main_v8 : S1310720x128.Idx → EReal) (funext fun a => Fin.ext ?_)
  refine (ValueKit.view_emb_slice_whole_unit_val main_v8 _ _ _ _ a).trans ?_
  have e := word_batch m hO c t 9 _ (AttnIdeal.Pages.map_15 (tbl m) (grid0.coords t))
  fin_cases a
  · show cc0_transform_15 k0_off10_inb numel1_S1x1 (tbl m) (grid0.coords t) 0 * 512 + j.val = n.val
    rw [e, hn]; rfl
  · show cc0_transform_15 k0_off10_inb numel1_S1x1 (tbl m) (grid0.coords t) 1 * 128 + d.val = d.val
    rw [e]; show 0 * 128 + d.val = d.val; omega

theorem page_blk_10 (hO : Ok m) (c : Dev nD) (t : Fin (cfgM m hO).N) (j : Fin 512) (d : Fin 128) (n : Fin 1310720)
    (hn : n.val = ((m ((c : Thread nD τ).loc main_arg0) : S128x16.Idx → BitVec 32) (ix2 (batch m hO t) 10)).toNat * 512 + j.val) :
    (iblk m hO c 16 t : S512x128.Idx → EReal) (ix2 j d) = (V m c main_v8 : S1310720x128.Idx → EReal) (ix2 n d) := by
  refine congrArg (V m c main_v8 : S1310720x128.Idx → EReal) (funext fun a => Fin.ext ?_)
  refine (ValueKit.view_emb_slice_whole_unit_val main_v8 _ _ _ _ a).trans ?_
  have e := word_batch m hO c t 10 _ (AttnIdeal.Pages.map_16 (tbl m) (grid0.coords t))
  fin_cases a
  · show cc0_transform_16 k0_off11_inb numel1_S1x1 (tbl m) (grid0.coords t) 0 * 512 + j.val = n.val
    rw [e, hn]; rfl
  · show cc0_transform_16 k0_off11_inb numel1_S1x1 (tbl m) (grid0.coords t) 1 * 128 + d.val = d.val
    rw [e]; show 0 * 128 + d.val = d.val; omega

theorem page_blk_11 (hO : Ok m) (c : Dev nD) (t : Fin (cfgM m hO).N) (j : Fin 512) (d : Fin 128) (n : Fin 1310720)
    (hn : n.val = ((m ((c : Thread nD τ).loc main_arg0) : S128x16.Idx → BitVec 32) (ix2 (batch m hO t) 11)).toNat * 512 + j.val) :
    (iblk m hO c 17 t : S512x128.Idx → EReal) (ix2 j d) = (V m c main_v8 : S1310720x128.Idx → EReal) (ix2 n d) := by
  refine congrArg (V m c main_v8 : S1310720x128.Idx → EReal) (funext fun a => Fin.ext ?_)
  refine (ValueKit.view_emb_slice_whole_unit_val main_v8 _ _ _ _ a).trans ?_
  have e := word_batch m hO c t 11 _ (AttnIdeal.Pages.map_17 (tbl m) (grid0.coords t))
  fin_cases a
  · show cc0_transform_17 k0_off12_inb numel1_S1x1 (tbl m) (grid0.coords t) 0 * 512 + j.val = n.val
    rw [e, hn]; rfl
  · show cc0_transform_17 k0_off12_inb numel1_S1x1 (tbl m) (grid0.coords t) 1 * 128 + d.val = d.val
    rw [e]; show 0 * 128 + d.val = d.val; omega

theorem page_blk_12 (hO : Ok m) (c : Dev nD) (t : Fin (cfgM m hO).N) (j : Fin 512) (d : Fin 128) (n : Fin 1310720)
    (hn : n.val = ((m ((c : Thread nD τ).loc main_arg0) : S128x16.Idx → BitVec 32) (ix2 (batch m hO t) 12)).toNat * 512 + j.val) :
    (iblk m hO c 18 t : S512x128.Idx → EReal) (ix2 j d) = (V m c main_v8 : S1310720x128.Idx → EReal) (ix2 n d) := by
  refine congrArg (V m c main_v8 : S1310720x128.Idx → EReal) (funext fun a => Fin.ext ?_)
  refine (ValueKit.view_emb_slice_whole_unit_val main_v8 _ _ _ _ a).trans ?_
  have e := word_batch m hO c t 12 _ (AttnIdeal.Pages.map_18 (tbl m) (grid0.coords t))
  fin_cases a
  · show cc0_transform_18 k0_off13_inb numel1_S1x1 (tbl m) (grid0.coords t) 0 * 512 + j.val = n.val
    rw [e, hn]; rfl
  · show cc0_transform_18 k0_off13_inb numel1_S1x1 (tbl m) (grid0.coords t) 1 * 128 + d.val = d.val
    rw [e]; show 0 * 128 + d.val = d.val; omega

theorem page_blk_13 (hO : Ok m) (c : Dev nD) (t : Fin (cfgM m hO).N) (j : Fin 512) (d : Fin 128) (n : Fin 1310720)
    (hn : n.val = ((m ((c : Thread nD τ).loc main_arg0) : S128x16.Idx → BitVec 32) (ix2 (batch m hO t) 13)).toNat * 512 + j.val) :
    (iblk m hO c 19 t : S512x128.Idx → EReal) (ix2 j d) = (V m c main_v8 : S1310720x128.Idx → EReal) (ix2 n d) := by
  refine congrArg (V m c main_v8 : S1310720x128.Idx → EReal) (funext fun a => Fin.ext ?_)
  refine (ValueKit.view_emb_slice_whole_unit_val main_v8 _ _ _ _ a).trans ?_
  have e := word_batch m hO c t 13 _ (AttnIdeal.Pages.map_19 (tbl m) (grid0.coords t))
  fin_cases a
  · show cc0_transform_19 k0_off14_inb numel1_S1x1 (tbl m) (grid0.coords t) 0 * 512 + j.val = n.val
    rw [e, hn]; rfl
  · show cc0_transform_19 k0_off14_inb numel1_S1x1 (tbl m) (grid0.coords t) 1 * 128 + d.val = d.val
    rw [e]; show 0 * 128 + d.val = d.val; omega

theorem page_blk_14 (hO : Ok m) (c : Dev nD) (t : Fin (cfgM m hO).N) (j : Fin 512) (d : Fin 128) (n : Fin 1310720)
    (hn : n.val = ((m ((c : Thread nD τ).loc main_arg0) : S128x16.Idx → BitVec 32) (ix2 (batch m hO t) 14)).toNat * 512 + j.val) :
    (iblk m hO c 20 t : S512x128.Idx → EReal) (ix2 j d) = (V m c main_v8 : S1310720x128.Idx → EReal) (ix2 n d) := by
  refine congrArg (V m c main_v8 : S1310720x128.Idx → EReal) (funext fun a => Fin.ext ?_)
  refine (ValueKit.view_emb_slice_whole_unit_val main_v8 _ _ _ _ a).trans ?_
  have e := word_batch m hO c t 14 _ (AttnIdeal.Pages.map_20 (tbl m) (grid0.coords t))
  fin_cases a
  · show cc0_transform_20 k0_off15_inb numel1_S1x1 (tbl m) (grid0.coords t) 0 * 512 + j.val = n.val
    rw [e, hn]; rfl
  · show cc0_transform_20 k0_off15_inb numel1_S1x1 (tbl m) (grid0.coords t) 1 * 128 + d.val = d.val
    rw [e]; show 0 * 128 + d.val = d.val; omega

theorem page_blk_15 (hO : Ok m) (c : Dev nD) (t : Fin (cfgM m hO).N) (j : Fin 512) (d : Fin 128) (n : Fin 1310720)
    (hn : n.val = ((m ((c : Thread nD τ).loc main_arg0) : S128x16.Idx → BitVec 32) (ix2 (batch m hO t) 15)).toNat * 512 + j.val) :
    (iblk m hO c 21 t : S512x128.Idx → EReal) (ix2 j d) = (V m c main_v8 : S1310720x128.Idx → EReal) (ix2 n d) := by
  refine congrArg (V m c main_v8 : S1310720x128.Idx → EReal) (funext fun a => Fin.ext ?_)
  refine (ValueKit.view_emb_slice_whole_unit_val main_v8 _ _ _ _ a).trans ?_
  have e := word_batch m hO c t 15 _ (AttnIdeal.Pages.map_21 (tbl m) (grid0.coords t))
  fin_cases a
  · show cc0_transform_21 k0_off16_inb numel1_S1x1 (tbl m) (grid0.coords t) 0 * 512 + j.val = n.val
    rw [e, hn]; rfl
  · show cc0_transform_21 k0_off16_inb numel1_S1x1 (tbl m) (grid0.coords t) 1 * 128 + d.val = d.val
    rw [e]; show 0 * 128 + d.val = d.val; omega

end Cert.Blocks

end
-- ==== Proof.Block.lean ====
/- What one grid point of the attention kernel computes, each stored payload read at an index. -/
module

public import proofs.«01_k».proof.Proof.Gen.AttnIdeal.Skeleton
public import proofs.«01_k».proof.Proof.Softmax
public import Idealize.ShloMosaic.Lib.WordCmp

@[expose] public section

set_option maxRecDepth 16384

noncomputable section

open Idealize.ShloMosaic Idealize.ShloMosaic.TcCoe Idealize.SL.Sem Idealize.ShloMosaic.WordCmp
open Cert.AttnIdeal Cert.AttnIdeal.Gen

namespace Cert.Block

/-- The lane numbers of a sixteen-row tile. -/
abbrev lanes : IVec S16x128 32 := iota .tc S16x128 32 [1] iota_S16x128_d1_w32
/-- The row numbers of a sixteen-row tile. -/
abbrev rows : IVec S16x128 32 := iota .tc S16x128 32 [0] iota_S16x128_d0_w32

theorem masked_bot : (Named.named (F := Ideal) κ "masked" (φ := .f32) 4048155338#32 : EReal) = ⊥ :=
  IdealRules.named_const.ideal_named_scalar _ _ _ _ rfl

theorem bot_bits : Ideal.ofBits FTy.f32 4286578688#32 = ⊥ := by simp [Ideal.ofBits, Ideal.ieee]

/-- The sum over the lanes that keeps the one lane numbered `c + r`. -/
theorem lane_sum (c : ℕ) (hc : c ≤ 112) (g : Fin 128 → EReal) (r : Fin 16) :
    (∑ x : Fin 128, Scalar.select (IntOp.cmpi .eq (BitVec.ofNat 32 x) (IntOp.addi (BitVec.ofNat 32 c) (BitVec.ofNat 32 r))) (g x) 0)
      = g ⟨c + r, by omega⟩ := by
  rw [Finset.sum_eq_single ⟨c + r, by omega⟩]
  · rw [addi_ofNat, cmpi_eq_ofNat (by simp; omega) (by simp; omega), select_decide, if_pos rfl]
  · intro x _ hx
    rw [addi_ofNat, cmpi_eq_ofNat (by omega) (by omega), select_decide, if_neg]
    intro h; exact hx (Fin.ext h)
  · intro h; exact absurd (Finset.mem_univ _) h

theorem shift_val : ∀ j : Fin 2048, IntOp.shrsi .vector (BitVec.ofNat 32 j) 6#32 = BitVec.ofNat 32 ((j : ℕ) / 64) := by
  decide +kernel

/-- The block number of a key, as a word, against a lane number. -/
theorem shift_word : ∀ j : Fin 2048, ∀ l : Fin 128, IntOp.cmpi .eq (IntOp.shrsi .vector (BitVec.ofNat 32 j) 6#32) (BitVec.ofNat 32 l)
    = BitVec.ofBool (decide ((j : ℕ) / 64 = l)) := by
  intro j l
  rw [shift_val j, cmpi_eq_ofNat (by omega) (by omega)]

/-- Which of the stored window keys are inside the window: all but the first. -/
theorem window_word : ∀ x : Fin 512, (IntOp.andi
      (IntOp.andi (IntOp.cmpi CmpIPredicate.sle (IntOp.addi (1536#32) (BitVec.ofNat 32 x)) 2048#32)
        (IntOp.cmpi CmpIPredicate.slt (IntOp.subi (2048#32) (IntOp.addi (1536#32) (BitVec.ofNat 32 x))) 512#32))
      (IntOp.cmpi CmpIPredicate.sge (IntOp.addi (1536#32) (BitVec.ofNat 32 x)) 0#32)) = BitVec.ofBool (decide ((x : ℕ) ≠ 0)) := by
  decide +kernel

/-- The selected branch of a head: attention over the past keys' scores and this step's key. -/
theorem pay55_at (v : FVec Ideal S2048x128 .bf16) (s : FVec Ideal S16x2048 .f32) (vn : FVec Ideal S1x128 .f32) (sn : FVec Ideal S16x1 .f32)
    (r : Fin 16) (d : Fin 128) :
    k0_pay55 (F := Ideal) v s vn sn (ix2 r d)
      = Softmax.apart (fun k => s (ix2 r k)) (fun k => v (ix2 k d)) (sn (ix2 r 0)) (vn (ix2 0 d)) := by
  pointwise [k0_pay55, Softmax.apart, bot_bits]

/-- The scores of the past keys: the scaled query times the key, plus the bias of the key's block. -/
theorem pay52_at (q : FVec Ideal S16x128 .bf16) (b : FVec Ideal S1x128 .f32) (k : FVec Ideal S2048x128 .bf16)
    (r : Fin 16) (j : Fin 2048) :
    k0_pay52 (F := Ideal) q b k (ix2 r j)
      = (∑ d : Fin 128, q (ix2 r d) * k (ix2 j d)) + b (ix2 0 ⟨j / 64, by omega⟩) := by
  pointwise [k0_pay52]
  simp only [shift_word, select_decide]
  rw [cmpi_sle_ofNat (by simp; omega) (by simp), select_decide, if_pos (by omega)]
  refine congrArg _ ?_
  rw [Finset.sum_eq_single ⟨j / 64, by omega⟩ (fun x _ hx => if_neg fun h => hx (Fin.ext h.symm)) (fun h => absurd (Finset.mem_univ _) h), if_pos rfl]

/-- The score of this step's key: the scaled query times the key, plus the bias of block 32. -/
theorem pay54_at (q : FVec Ideal S16x128 .f32) (b : FVec Ideal S1x128 .f32) (k : FVec Ideal S1x1x128 .f32)
    (r : Fin 16)  :
    k0_pay54 (F := Ideal) lanes q b k (ix2 r 0)
      = (∑ d : Fin 128, q (ix2 r d) * k (ix3 0 0 d)) + b (ix2 0 32) := by
  pointwise [k0_pay54]
  refine congrArg _ ?_
  exact (lane_sum 32 (by omega) (fun x => b (ix2 0 x)) 0)

/-- The window branch of a head: attention over the stored window keys but the first, and this step's key. -/
theorem pay60_at (q : FVec Ideal S16x128 .f32) (v : FVec Ideal S512x128 .bf16) (s : FVec Ideal S16x512 .f32) (kn vn : FVec Ideal S1x1x128 .f32)
    (r : Fin 16) (d : Fin 128) :
    k0_pay60 (F := Ideal) q v s k0_pay58 (k0_pay59 (F := Ideal)) kn vn (ix2 r d)
      = Softmax.apart (fun k : Fin 512 => if (k : ℕ) ≠ 0 then s (ix2 r k) else ⊥) (fun k => v (ix2 k d)) (∑ d, q (ix2 r d) * kn (ix3 0 0 d)) (vn (ix3 0 0 d)) := by
  pointwise [k0_pay60, k0_pay58, k0_pay59, bot_bits]
  simp only [window_word, select_decide, masked_bot]
  rfl

/-- A row of the selection words as a bias: zero where the block is selected, `-∞` elsewhere. -/
theorem pay45_at (s : FVec Ideal S1x1x128 .f32) (d : Fin 128) :
    k0_pay45 (F := Ideal) s (ix2 0 d) = if 0 < s (ix3 0 0 d) then 0 else ⊥ := by
  pointwise [k0_pay45]
  simp only [masked_bot]

/-- The scaled query. -/
theorem pay43_at (q : FVec Ideal S1x1x16x128 .f32) (r : Fin 16) (d : Fin 128) :
    k0_pay43 (F := Ideal) q (ix2 r d) = q (ix4 0 0 r d) * Ideal.ofBits .f32 0x3DB504F3#32 := by
  pointwise [k0_pay43]

/-- The scale. -/
abbrev scale : EReal := Ideal.ofBits .f32 0x3DB504F3#32

/-- The scaled query, widened again. -/
theorem pay44_at (q : FVec Ideal S1x1x16x128 .f32) (r : Fin 16) (d : Fin 128) :
    k0_pay44 (F := Ideal) q (ix2 r d) = q (ix4 0 0 r d) * Ideal.ofBits .f32 0x3DB504F3#32 := pay43_at q r d

/-- Pages of 128 rows put one below the other, read at a row: the page of the row, at the row in the page. -/
theorem stack_at (r : Fin 2048) (l : Fin 128) : ∀ (L : List (S128x128.Idx → EReal))
    (hs : ∀ s ∈ (L.map fun p => (⟨S128x128, p⟩ : (s : Shape) × (s.Idx → EReal))).map (·.1), s.FitsOff S2048x128 0) (c : ℕ)
    (hc : c < (axisSizes S2048x128 0 (L.map fun p => (⟨S128x128, p⟩ : (s : Shape) × (s.Idx → EReal)))).sum) (h : c / 128 < L.length),
    concatenateAt S2048x128 0 (ix2 r l) (L.map fun p => (⟨S128x128, p⟩ : (s : Shape) × (s.Idx → EReal))) hs c hc
      = L[c / 128] (ix2 ⟨c % 128, by omega⟩ l)
  | [], _, _, _, h => absurd h (Nat.not_lt_zero _)
  | [p], hs, c, hc, h => by
    have h1 : c / 128 = 0 := by simpa using h
    have e : [p][c / 128] = p := by simp only [h1, List.getElem_cons_zero]
    refine (concatenateAt_singleton 0 (ix2 r l) p hs c hc).trans (Eq.trans (congrArg p (funext fun b => Fin.ext ?_)) (congrFun e.symm _))
    match b with
    | ⟨0, _⟩ => show c = c % 128; omega
    | ⟨1, _⟩ => rfl
  | p :: q :: L, hs, c, hc, h => by
    refine (concatenateAt_cons 0 (ix2 r l) p ⟨S128x128, q⟩ (L.map fun p => (⟨S128x128, p⟩ : (s : Shape) × (s.Idx → EReal))) hs c hc).trans ?_
    by_cases hlt : c < 128
    · have h1 : c / 128 = 0 := by omega
      have e : (p :: q :: L)[c / 128] = p := by simp only [h1, List.getElem_cons_zero]
      refine (dif_pos hlt).trans (Eq.trans (congrArg p (funext fun b => Fin.ext ?_)) (congrFun e.symm _))
      match b with
      | ⟨0, _⟩ => show c = c % 128; omega
      | ⟨1, _⟩ => rfl
    · have hl : (c - 128) / 128 < (q :: L).length := by simp only [List.length_cons] at h ⊢; omega
      refine (dif_neg hlt).trans ((stack_at r l (q :: L) _ (c - 128) _ hl).trans ?_)
      have h1 : c / 128 = (c - 128) / 128 + 1 := by omega
      have h2 : (c - 128) % 128 = c % 128 := by omega
      simp only [h2]
      exact congrFun (by simp only [h1, List.getElem_cons_succ]) _

/-- The sixteen key pages of the second head. -/
theorem keys1_at (P : Fin 16 → FVec Ideal S128x128 .f32) (j : Fin 2048) (d : Fin 128) :
    k0_pay48 (F := Ideal) (k0_pay46 (F := Ideal) (P 0)) (k0_pay47 (F := Ideal) (P 1)) (P 2) (P 3) (P 4) (P 5) (P 6) (P 7) (P 8) (P 9) (P 10) (P 11) (P 12) (P 13) (P 14) (P 15) (ix2 j d)
      = P ⟨j / 128, by omega⟩ (ix2 ⟨j % 128, by omega⟩ d) := by
  refine (concatenate_apply S2048x128 0 ([shapeCast S128x128 (P 0) shapeCasts_S128x128_S128x128, shapeCast S128x128 (P 1) shapeCasts_S128x128_S128x128, shapeCast S128x128 (P 2) shapeCasts_S128x128_S128x128, shapeCast S128x128 (P 3) shapeCasts_S128x128_S128x128, shapeCast S128x128 (P 4) shapeCasts_S128x128_S128x128, shapeCast S128x128 (P 5) shapeCasts_S128x128_S128x128, shapeCast S128x128 (P 6) shapeCasts_S128x128_S128x128, shapeCast S128x128 (P 7) shapeCasts_S128x128_S128x128, shapeCast S128x128 (P 8) shapeCasts_S128x128_S128x128, shapeCast S128x128 (P 9) shapeCasts_S128x128_S128x128, shapeCast S128x128 (P 10) shapeCasts_S128x128_S128x128, shapeCast S128x128 (P 11) shapeCasts_S128x128_S128x128, shapeCast S128x128 (P 12) shapeCasts_S128x128_S128x128, shapeCast S128x128 (P 13) shapeCasts_S128x128_S128x128, shapeCast S128x128 (P 14) shapeCasts_S128x128_S128x128, shapeCast S128x128 (P 15) shapeCasts_S128x128_S128x128].map fun p => (⟨S128x128, p⟩ : (s : Shape) × (s.Idx → EReal))) concatenates_S128x128_S128x128_S128x128_S128x128_S128x128_S128x128_S128x128_S128x128_S128x128_S128x128_S128x128_S128x128_S128x128_S128x128_S128x128_S128x128_S2048x128_d0 (ix2 j d)).trans ?_
  refine (stack_at j d [shapeCast S128x128 (P 0) shapeCasts_S128x128_S128x128, shapeCast S128x128 (P 1) shapeCasts_S128x128_S128x128, shapeCast S128x128 (P 2) shapeCasts_S128x128_S128x128, shapeCast S128x128 (P 3) shapeCasts_S128x128_S128x128, shapeCast S128x128 (P 4) shapeCasts_S128x128_S128x128, shapeCast S128x128 (P 5) shapeCasts_S128x128_S128x128, shapeCast S128x128 (P 6) shapeCasts_S128x128_S128x128, shapeCast S128x128 (P 7) shapeCasts_S128x128_S128x128, shapeCast S128x128 (P 8) shapeCasts_S128x128_S128x128, shapeCast S128x128 (P 9) shapeCasts_S128x128_S128x128, shapeCast S128x128 (P 10) shapeCasts_S128x128_S128x128, shapeCast S128x128 (P 11) shapeCasts_S128x128_S128x128, shapeCast S128x128 (P 12) shapeCasts_S128x128_S128x128, shapeCast S128x128 (P 13) shapeCasts_S128x128_S128x128, shapeCast S128x128 (P 14) shapeCasts_S128x128_S128x128, shapeCast S128x128 (P 15) shapeCasts_S128x128_S128x128] _ _ _ (by
    show (j : ℕ) / 128 < 16; omega)).trans ?_
  refine congrFun ?_ _
  simp only [shapeCast_id]
  exact List.getElem_ofFn (f := P) (i := (j : ℕ) / 128) (by rw [List.length_ofFn]; omega)

/-- The sixteen value pages of the second head. -/
theorem vals1_at (P : Fin 16 → FVec Ideal S128x128 .f32) (j : Fin 2048) (d : Fin 128) :
    k0_pay51 (F := Ideal) (k0_pay50 (F := Ideal) (k0_pay49 (F := Ideal) (P 0)) (P 1) (P 2) (P 3) (P 4) (P 5) (P 6) (P 7) (P 8) (P 9) (P 10) (P 11) (P 12) (P 13) (P 14) (P 15)) (ix2 j d)
      = P ⟨j / 128, by omega⟩ (ix2 ⟨j % 128, by omega⟩ d) := keys1_at P j d

/-- The sixteen key pages of the first head. -/
theorem keys0_at (P : Fin 16 → FVec Ideal S128x128 .f32) (j : Fin 2048) (d : Fin 128) :
    k0_pay16 (F := Ideal) (k0_pay9 (F := Ideal) (P 0)) (k0_pay10 (F := Ideal) (P 1)) (k0_pay11 (F := Ideal) (P 2)) (k0_pay12 (F := Ideal) (P 3)) (k0_pay13 (F := Ideal) (P 4)) (k0_pay14 (F := Ideal) (P 5)) (k0_pay15 (F := Ideal) (P 6)) (P 7) (P 8) (P 9) (P 10) (P 11) (P 12) (P 13) (P 14) (P 15) (ix2 j d)
      = P ⟨j / 128, by omega⟩ (ix2 ⟨j % 128, by omega⟩ d) := keys1_at P j d

/-- The sixteen value pages of the first head. -/
theorem vals0_at (P : Fin 16 → FVec Ideal S128x128 .f32) (j : Fin 2048) (d : Fin 128) :
    k0_pay22 (F := Ideal) (k0_pay17 (F := Ideal) (P 0)) (k0_pay18 (F := Ideal) (P 1)) (k0_pay19 (F := Ideal) (P 2)) (k0_pay20 (F := Ideal) (P 3)) (k0_pay21 (F := Ideal) (P 4)) (P 5) (P 6) (P 7) (P 8) (P 9) (P 10) (P 11) (P 12) (P 13) (P 14) (P 15) (ix2 j d)
      = P ⟨j / 128, by omega⟩ (ix2 ⟨j % 128, by omega⟩ d) := keys1_at P j d

/-- The first head's selected branch is the second head's text. -/
theorem sel0_eq (q : FVec Ideal S1x1x16x128 .f32) (b : FVec Ideal S1x128 .f32) (k v : FVec Ideal S2048x128 .bf16) (kn vn : FVec Ideal S1x1x128 .f32) :
    k0_pay34 (F := Ideal) (k0_pay26 vn) (k0_pay31 lanes (k0_pay7 q) b k k0_pay23 (k0_pay24 (k0_pay6 q) b) kn)
        (k0_pay32 lanes (k0_pay7 q) b k v k0_pay23 (k0_pay24 (k0_pay6 q) b) kn) (k0_pay33 lanes (k0_pay7 q) b k k0_pay23 (k0_pay24 (k0_pay6 q) b) kn)
      = k0_pay55 v (k0_pay52 (k0_pay43 q) b k) (k0_pay53 vn) (k0_pay54 lanes (k0_pay44 q) b kn) := rfl

/-- The first head's window branch is the second head's text. -/
theorem win0_eq (q : FVec Ideal S1x1x16x128 .f32) (k v : FVec Ideal S1x512x128 .f32) (kn vn : FVec Ideal S1x1x128 .f32) :
    k0_pay39 (F := Ideal) (k0_pay35 v) (k0_pay36 (k0_pay6 q) k) (k0_pay37 vn) (k0_pay38 (k0_pay7 q) kn)
      = k0_pay60 (k0_pay44 q) (k0_pay56 v) (k0_pay57 (k0_pay43 q) k) k0_pay58 k0_pay59 kn vn := rfl

/-- The selected branch at a row and a lane, of the loaded blocks. -/
theorem sel_at (q : FVec Ideal S1x1x16x128 .f32) (s : FVec Ideal S1x1x128 .f32) (k v : FVec Ideal S2048x128 .bf16) (kn vn : FVec Ideal S1x1x128 .f32)
    (r : Fin 16) (d : Fin 128) :
    k0_pay55 (F := Ideal) v (k0_pay52 (k0_pay43 q) (k0_pay45 s) k) (k0_pay53 vn) (k0_pay54 lanes (k0_pay44 q) (k0_pay45 s) kn) (ix2 r d)
      = Softmax.apart (fun j : Fin 2048 => (∑ e : Fin 128, q (ix4 0 0 r e) * scale * k (ix2 j e)) + if 0 < s (ix3 0 0 ⟨j / 64, by omega⟩) then 0 else ⊥)
          (fun j => v (ix2 j d))
          ((∑ e : Fin 128, q (ix4 0 0 r e) * scale * kn (ix3 0 0 e)) + if 0 < s (ix3 0 0 32) then 0 else ⊥)
          (vn (ix3 0 0 d)) := by
  rw [pay55_at]
  simp only [pay52_at, pay54_at, pay45_at, pay43_at, pay44_at]
  pointwise [k0_pay53, scale]

/-- The window branch at a row and a lane, of the loaded blocks. -/
theorem win_at (q : FVec Ideal S1x1x16x128 .f32) (k v : FVec Ideal S1x512x128 .f32) (kn vn : FVec Ideal S1x1x128 .f32)
    (r : Fin 16) (d : Fin 128) :
    k0_pay60 (F := Ideal) (k0_pay44 q) (k0_pay56 v) (k0_pay57 (k0_pay43 q) k) k0_pay58 (k0_pay59 (F := Ideal)) kn vn (ix2 r d)
      = Softmax.apart (fun j : Fin 512 => if (j : ℕ) ≠ 0 then (∑ e : Fin 128, q (ix4 0 0 r e) * scale * k (ix3 0 j e)) else ⊥)
          (fun j => v (ix3 0 j d))
          (∑ e : Fin 128, q (ix4 0 0 r e) * scale * kn (ix3 0 0 e))
          (vn (ix3 0 0 d)) := by
  rw [pay60_at]
  simp only [pay43_at, pay44_at]
  pointwise [k0_pay56, k0_pay57, k0_pay43, scale]

/-- What the body stores for the first head: the three branches, each times its gate. -/
theorem pay42_at (g : FVec Ideal S1x128 .f32) (os ow : FVec Ideal S16x128 .f32) (o : FVec Ideal S1x1x16x128 .f32) (r : Fin 16) (d : Fin 128) :
    k0_pay42 (F := Ideal) g lanes rows os ow (k0_pay40 (F := Ideal) g lanes rows o) (k0_pay41 (F := Ideal) g lanes rows) (ix4 0 0 r d)
      = g (ix2 0 ⟨0 + r, by omega⟩) * o (ix4 0 0 r d) + g (ix2 0 ⟨8 + r, by omega⟩) * os (ix2 r d) + g (ix2 0 ⟨16 + r, by omega⟩) * ow (ix2 r d) := by
  pointwise [k0_pay42, k0_pay41, k0_pay40]
  rw [lane_sum 0 (by omega) (fun x => g (ix2 0 x)), lane_sum 8 (by omega) (fun x => g (ix2 0 x)), lane_sum 16 (by omega) (fun x => g (ix2 0 x))]
  simp only [Nat.zero_add]

/-- What the body stores for the second head. -/
theorem pay62_at  (g : FVec Ideal S1x128 .f32) (os ow : FVec Ideal S16x128 .f32) (o : FVec Ideal S1x1x16x128 .f32) (r : Fin 16) (d : Fin 128) :
    k0_pay62 (F := Ideal) g lanes rows os ow (k0_pay61 (F := Ideal) g lanes rows) o (ix4 0 0 r d)
      = g (ix2 0 ⟨4 + r, by omega⟩) * o (ix4 0 0 r d) + g (ix2 0 ⟨12 + r, by omega⟩) * os (ix2 r d) + g (ix2 0 ⟨20 + r, by omega⟩) * ow (ix2 r d) := by
  pointwise [k0_pay61, k0_pay62]
  rw [lane_sum 4 (by omega) (fun x => g (ix2 0 x)), lane_sum 12 (by omega) (fun x => g (ix2 0 x)), lane_sum 20 (by omega) (fun x => g (ix2 0 x))]

/-- The stored window moved up by four rows. -/
theorem pay63_at (w : FVec Ideal S1x2048x128 .f32) (i : Fin 2048) (d : Fin 128) (h : (i : ℕ) < 2044) :
    k0_pay63 (F := Ideal) w (ix3 0 i d) = w (ix3 0 ⟨i + 4, by omega⟩ d) := by
  pointwise [k0_pay63]
  exact congrArg w (congrFun (congrArg _ (Fin.ext (by simp only []; omega))) d)

end Cert.Block

end
-- ==== Proof.Outputs.lean ====
module

public import proofs.«01_k».proof.Proof.Block
public import Idealize.ShloMosaic.Lib.Pipeline.ValueKit
public import Idealize.ShloMosaic.Lib.Pointwise
public import proofs.«01_k».proof.Proof.AttnIdealFrame

@[expose] public section

set_option maxRecDepth 16384

noncomputable section

open Idealize.ShloMosaic Idealize.ShloMosaic.TcCoe Idealize.SL.Sem

namespace Cert.Outputs

open Cert.AttnIdeal Cert.AttnIdeal.Gen Cert.Block

/-- Every fourth row of a page's block from row `o` on. -/
def page (x : Vec Ideal S512x128 .f32) (o : Fin 4) : FVec Ideal S128x128 .f32 :=
  fun y => x (ix2 ⟨4 * (y 0).val + o.val, by have := (y 0).isLt; have := o.isLt; simp [S128x128] at *; omega⟩ (y 1))

/-- Every fourth row of the window's block from row `o` on. -/
def wrows (x : Vec Ideal S1x2048x128 .f32) (o : Fin 4) : FVec Ideal S1x512x128 .f32 :=
  fun y => x (ix3 0 ⟨4 * (y 1).val + o.val, by have := (y 1).isLt; have := o.isLt; simp [S1x512x128] at *; omega⟩ (y 2))

theorem page_0 (M : Memref sig .tc .vmem S512x128 .f32) (h : M.IsWhole) (x : Vec Ideal S512x128 .f32) :
    View.readAt (Elt Ideal) M.view { off := ![0, 0], size := ![128, 128], stride := ![4, 1], inb := inb_S512x128_S128x128_0_0_s_4_1 } (h.unread x) = page x 0 := by
  funext y
  rw [View.readAt_apply, h.read_unread]
  refine congrArg x (funext fun a => Fin.ext ?_)
  match a with
  | ⟨0, _⟩ => show 0 + 4 * (y 0).val = 4 * (y 0).val + 0; omega
  | ⟨1, _⟩ => show 0 + 1 * (y 1).val = (y 1).val; omega

theorem wrows_0 (M : Memref sig .tc .vmem S1x2048x128 .f32) (h : M.IsWhole) (x : Vec Ideal S1x2048x128 .f32) :
    View.readAt (Elt Ideal) M.view { off := ![0, 0, 0], size := ![1, 512, 128], stride := ![1, 4, 1], inb := inb_S1x2048x128_S1x512x128_0_0_0_s_1_4_1 } (h.unread x) = wrows x 0 := by
  funext y
  rw [View.readAt_apply, h.read_unread]
  refine congrArg x (funext fun a => Fin.ext ?_)
  match a with
  | ⟨0, _⟩ => show 0 + 1 * (y 0).val = 0; have h0 : (y 0).val < 1 := (y 0).isLt; omega
  | ⟨1, _⟩ => show 0 + 4 * (y 1).val = 4 * (y 1).val + 0; omega
  | ⟨2, _⟩ => show 0 + 1 * (y 2).val = (y 2).val; omega

theorem page_1 (M : Memref sig .tc .vmem S512x128 .f32) (h : M.IsWhole) (x : Vec Ideal S512x128 .f32) :
    View.readAt (Elt Ideal) M.view { off := ![1, 0], size := ![128, 128], stride := ![4, 1], inb := inb_S512x128_S128x128_1_0_s_4_1 } (h.unread x) = page x 1 := by
  funext y
  rw [View.readAt_apply, h.read_unread]
  refine congrArg x (funext fun a => Fin.ext ?_)
  match a with
  | ⟨0, _⟩ => show 1 + 4 * (y 0).val = 4 * (y 0).val + 1; omega
  | ⟨1, _⟩ => show 0 + 1 * (y 1).val = (y 1).val; omega

theorem wrows_1 (M : Memref sig .tc .vmem S1x2048x128 .f32) (h : M.IsWhole) (x : Vec Ideal S1x2048x128 .f32) :
    View.readAt (Elt Ideal) M.view { off := ![0, 1, 0], size := ![1, 512, 128], stride := ![1, 4, 1], inb := inb_S1x2048x128_S1x512x128_0_1_0_s_1_4_1 } (h.unread x) = wrows x 1 := by
  funext y
  rw [View.readAt_apply, h.read_unread]
  refine congrArg x (funext fun a => Fin.ext ?_)
  match a with
  | ⟨0, _⟩ => show 0 + 1 * (y 0).val = 0; have h0 : (y 0).val < 1 := (y 0).isLt; omega
  | ⟨1, _⟩ => show 1 + 4 * (y 1).val = 4 * (y 1).val + 1; omega
  | ⟨2, _⟩ => show 0 + 1 * (y 2).val = (y 2).val; omega

theorem page_2 (M : Memref sig .tc .vmem S512x128 .f32) (h : M.IsWhole) (x : Vec Ideal S512x128 .f32) :
    View.readAt (Elt Ideal) M.view { off := ![2, 0], size := ![128, 128], stride := ![4, 1], inb := inb_S512x128_S128x128_2_0_s_4_1 } (h.unread x) = page x 2 := by
  funext y
  rw [View.readAt_apply, h.read_unread]
  refine congrArg x (funext fun a => Fin.ext ?_)
  match a with
  | ⟨0, _⟩ => show 2 + 4 * (y 0).val = 4 * (y 0).val + 2; omega
  | ⟨1, _⟩ => show 0 + 1 * (y 1).val = (y 1).val; omega

theorem wrows_2 (M : Memref sig .tc .vmem S1x2048x128 .f32) (h : M.IsWhole) (x : Vec Ideal S1x2048x128 .f32) :
    View.readAt (Elt Ideal) M.view { off := ![0, 2, 0], size := ![1, 512, 128], stride := ![1, 4, 1], inb := inb_S1x2048x128_S1x512x128_0_2_0_s_1_4_1 } (h.unread x) = wrows x 2 := by
  funext y
  rw [View.readAt_apply, h.read_unread]
  refine congrArg x (funext fun a => Fin.ext ?_)
  match a with
  | ⟨0, _⟩ => show 0 + 1 * (y 0).val = 0; have h0 : (y 0).val < 1 := (y 0).isLt; omega
  | ⟨1, _⟩ => show 2 + 4 * (y 1).val = 4 * (y 1).val + 2; omega
  | ⟨2, _⟩ => show 0 + 1 * (y 2).val = (y 2).val; omega

theorem page_3 (M : Memref sig .tc .vmem S512x128 .f32) (h : M.IsWhole) (x : Vec Ideal S512x128 .f32) :
    View.readAt (Elt Ideal) M.view { off := ![3, 0], size := ![128, 128], stride := ![4, 1], inb := inb_S512x128_S128x128_3_0_s_4_1 } (h.unread x) = page x 3 := by
  funext y
  rw [View.readAt_apply, h.read_unread]
  refine congrArg x (funext fun a => Fin.ext ?_)
  match a with
  | ⟨0, _⟩ => show 3 + 4 * (y 0).val = 4 * (y 0).val + 3; omega
  | ⟨1, _⟩ => show 0 + 1 * (y 1).val = (y 1).val; omega

theorem wrows_3 (M : Memref sig .tc .vmem S1x2048x128 .f32) (h : M.IsWhole) (x : Vec Ideal S1x2048x128 .f32) :
    View.readAt (Elt Ideal) M.view { off := ![0, 3, 0], size := ![1, 512, 128], stride := ![1, 4, 1], inb := inb_S1x2048x128_S1x512x128_0_3_0_s_1_4_1 } (h.unread x) = wrows x 3 := by
  funext y
  rw [View.readAt_apply, h.read_unread]
  refine congrArg x (funext fun a => Fin.ext ?_)
  match a with
  | ⟨0, _⟩ => show 0 + 1 * (y 0).val = 0; have h0 : (y 0).val < 1 := (y 0).isLt; omega
  | ⟨1, _⟩ => show 3 + 4 * (y 1).val = 4 * (y 1).val + 3; omega
  | ⟨2, _⟩ => show 0 + 1 * (y 2).val = (y 2).val; omega

/-- One head's rows of a block of queries. -/
def qrows (x : Vec Ideal S1x2x16x128 .f32) (h : Fin 2) : FVec Ideal S1x1x16x128 .f32 := fun y => x (ix4 0 h (y 2) (y 3))

/-- One head's row of the selection words. -/
def srow (x : Vec Ideal S1x2x128 .f32) (h : Fin 2) : FVec Ideal S1x1x128 .f32 := fun y => x (ix3 0 h (y 2))

/-- The `c`-th group of 128 lanes of this step's keys and values of branch `k`. -/
def lanesOf (x : Vec Ideal S1x3x512 .f32) (k : Fin 3) (c : Fin 4) : FVec Ideal S1x1x128 .f32 :=
  fun y => x (ix3 0 k ⟨128 * c.val + (y 2).val, by have h2 : (y 2).val < 128 := (y 2).isLt; omega⟩)

theorem qrows_0 (x : Vec Ideal S1x2x16x128 .f32) :
    View.ld x (Rect.unit ![0, 0, 0, 0] ![1, 1, 16, 128] inb_S1x2x16x128_S1x1x16x128_0_0_0_0) = qrows x 0 := by
  funext y
  refine congrArg x (funext fun a => Fin.ext ?_)
  have h0 : (y 0).val < 1 := (y 0).isLt
  have h1 : (y 1).val < 1 := (y 1).isLt
  match a with
  | ⟨0, _⟩ => show 0 + 1 * (y 0).val = 0; omega
  | ⟨1, _⟩ => show 0 + 1 * (y 1).val = 0; omega
  | ⟨2, _⟩ => show 0 + 1 * (y 2).val = (y 2).val; omega
  | ⟨3, _⟩ => show 0 + 1 * (y 3).val = (y 3).val; omega

theorem srow_0 (x : Vec Ideal S1x2x128 .f32) :
    View.ld x (Rect.unit ![0, 0, 0] ![1, 1, 128] inb_S1x2x128_S1x1x128_0_0_0) = srow x 0 := by
  funext y
  refine congrArg x (funext fun a => Fin.ext ?_)
  have h0 : (y 0).val < 1 := (y 0).isLt
  have h1 : (y 1).val < 1 := (y 1).isLt
  match a with
  | ⟨0, _⟩ => show 0 + 1 * (y 0).val = 0; omega
  | ⟨1, _⟩ => show 0 + 1 * (y 1).val = 0; omega
  | ⟨2, _⟩ => show 0 + 1 * (y 2).val = (y 2).val; omega

theorem qrows_1 (x : Vec Ideal S1x2x16x128 .f32) :
    View.ld x (Rect.unit ![0, 1, 0, 0] ![1, 1, 16, 128] inb_S1x2x16x128_S1x1x16x128_0_1_0_0) = qrows x 1 := by
  funext y
  refine congrArg x (funext fun a => Fin.ext ?_)
  have h0 : (y 0).val < 1 := (y 0).isLt
  have h1 : (y 1).val < 1 := (y 1).isLt
  match a with
  | ⟨0, _⟩ => show 0 + 1 * (y 0).val = 0; omega
  | ⟨1, _⟩ => show 1 + 1 * (y 1).val = 1; omega
  | ⟨2, _⟩ => show 0 + 1 * (y 2).val = (y 2).val; omega
  | ⟨3, _⟩ => show 0 + 1 * (y 3).val = (y 3).val; omega

theorem srow_1 (x : Vec Ideal S1x2x128 .f32) :
    View.ld x (Rect.unit ![0, 1, 0] ![1, 1, 128] inb_S1x2x128_S1x1x128_0_1_0) = srow x 1 := by
  funext y
  refine congrArg x (funext fun a => Fin.ext ?_)
  have h0 : (y 0).val < 1 := (y 0).isLt
  have h1 : (y 1).val < 1 := (y 1).isLt
  match a with
  | ⟨0, _⟩ => show 0 + 1 * (y 0).val = 0; omega
  | ⟨1, _⟩ => show 1 + 1 * (y 1).val = 1; omega
  | ⟨2, _⟩ => show 0 + 1 * (y 2).val = (y 2).val; omega

theorem lanes_1_0 (x : Vec Ideal S1x3x512 .f32) :
    View.ld x (Rect.unit ![0, 1, 0] ![1, 1, 128] inb_S1x3x512_S1x1x128_0_1_0) = lanesOf x 1 0 := by
  funext y
  refine congrArg x (funext fun a => Fin.ext ?_)
  have h0 : (y 0).val < 1 := (y 0).isLt
  have h1 : (y 1).val < 1 := (y 1).isLt
  match a with
  | ⟨0, _⟩ => show 0 + 1 * (y 0).val = 0; omega
  | ⟨1, _⟩ => show 1 + 1 * (y 1).val = 1; omega
  | ⟨2, _⟩ => show 0 + 1 * (y 2).val = 128 * 0 + (y 2).val; omega

theorem lanes_1_1 (x : Vec Ideal S1x3x512 .f32) :
    View.ld x (Rect.unit ![0, 1, 128] ![1, 1, 128] inb_S1x3x512_S1x1x128_0_1_128) = lanesOf x 1 1 := by
  funext y
  refine congrArg x (funext fun a => Fin.ext ?_)
  have h0 : (y 0).val < 1 := (y 0).isLt
  have h1 : (y 1).val < 1 := (y 1).isLt
  match a with
  | ⟨0, _⟩ => show 0 + 1 * (y 0).val = 0; omega
  | ⟨1, _⟩ => show 1 + 1 * (y 1).val = 1; omega
  | ⟨2, _⟩ => show 128 + 1 * (y 2).val = 128 * 1 + (y 2).val; omega

theorem lanes_1_2 (x : Vec Ideal S1x3x512 .f32) :
    View.ld x (Rect.unit ![0, 1, 256] ![1, 1, 128] inb_S1x3x512_S1x1x128_0_1_256) = lanesOf x 1 2 := by
  funext y
  refine congrArg x (funext fun a => Fin.ext ?_)
  have h0 : (y 0).val < 1 := (y 0).isLt
  have h1 : (y 1).val < 1 := (y 1).isLt
  match a with
  | ⟨0, _⟩ => show 0 + 1 * (y 0).val = 0; omega
  | ⟨1, _⟩ => show 1 + 1 * (y 1).val = 1; omega
  | ⟨2, _⟩ => show 256 + 1 * (y 2).val = 128 * 2 + (y 2).val; omega

theorem lanes_1_3 (x : Vec Ideal S1x3x512 .f32) :
    View.ld x (Rect.unit ![0, 1, 384] ![1, 1, 128] inb_S1x3x512_S1x1x128_0_1_384) = lanesOf x 1 3 := by
  funext y
  refine congrArg x (funext fun a => Fin.ext ?_)
  have h0 : (y 0).val < 1 := (y 0).isLt
  have h1 : (y 1).val < 1 := (y 1).isLt
  match a with
  | ⟨0, _⟩ => show 0 + 1 * (y 0).val = 0; omega
  | ⟨1, _⟩ => show 1 + 1 * (y 1).val = 1; omega
  | ⟨2, _⟩ => show 384 + 1 * (y 2).val = 128 * 3 + (y 2).val; omega

theorem lanes_2_0 (x : Vec Ideal S1x3x512 .f32) :
    View.ld x (Rect.unit ![0, 2, 0] ![1, 1, 128] inb_S1x3x512_S1x1x128_0_2_0) = lanesOf x 2 0 := by
  funext y
  refine congrArg x (funext fun a => Fin.ext ?_)
  have h0 : (y 0).val < 1 := (y 0).isLt
  have h1 : (y 1).val < 1 := (y 1).isLt
  match a with
  | ⟨0, _⟩ => show 0 + 1 * (y 0).val = 0; omega
  | ⟨1, _⟩ => show 2 + 1 * (y 1).val = 2; omega
  | ⟨2, _⟩ => show 0 + 1 * (y 2).val = 128 * 0 + (y 2).val; omega

theorem lanes_2_1 (x : Vec Ideal S1x3x512 .f32) :
    View.ld x (Rect.unit ![0, 2, 128] ![1, 1, 128] inb_S1x3x512_S1x1x128_0_2_128) = lanesOf x 2 1 := by
  funext y
  refine congrArg x (funext fun a => Fin.ext ?_)
  have h0 : (y 0).val < 1 := (y 0).isLt
  have h1 : (y 1).val < 1 := (y 1).isLt
  match a with
  | ⟨0, _⟩ => show 0 + 1 * (y 0).val = 0; omega
  | ⟨1, _⟩ => show 2 + 1 * (y 1).val = 2; omega
  | ⟨2, _⟩ => show 128 + 1 * (y 2).val = 128 * 1 + (y 2).val; omega

theorem lanes_2_2 (x : Vec Ideal S1x3x512 .f32) :
    View.ld x (Rect.unit ![0, 2, 256] ![1, 1, 128] inb_S1x3x512_S1x1x128_0_2_256) = lanesOf x 2 2 := by
  funext y
  refine congrArg x (funext fun a => Fin.ext ?_)
  have h0 : (y 0).val < 1 := (y 0).isLt
  have h1 : (y 1).val < 1 := (y 1).isLt
  match a with
  | ⟨0, _⟩ => show 0 + 1 * (y 0).val = 0; omega
  | ⟨1, _⟩ => show 2 + 1 * (y 1).val = 2; omega
  | ⟨2, _⟩ => show 256 + 1 * (y 2).val = 128 * 2 + (y 2).val; omega

theorem lanes_2_3 (x : Vec Ideal S1x3x512 .f32) :
    View.ld x (Rect.unit ![0, 2, 384] ![1, 1, 128] inb_S1x3x512_S1x1x128_0_2_384) = lanesOf x 2 3 := by
  funext y
  refine congrArg x (funext fun a => Fin.ext ?_)
  have h0 : (y 0).val < 1 := (y 0).isLt
  have h1 : (y 1).val < 1 := (y 1).isLt
  match a with
  | ⟨0, _⟩ => show 0 + 1 * (y 0).val = 0; omega
  | ⟨1, _⟩ => show 2 + 1 * (y 1).val = 2; omega
  | ⟨2, _⟩ => show 384 + 1 * (y 2).val = 128 * 3 + (y 2).val; omega

theorem keys0_page (X : Fin 16 → Vec Ideal S512x128 .f32) (j : Fin 2048) (d : Fin 128) :
    (k0_pay16 (F := Ideal) (k0_pay9 (page (X 0) 0)) (k0_pay10 (page (X 1) 0)) (k0_pay11 (page (X 2) 0)) (k0_pay12 (page (X 3) 0)) (k0_pay13 (page (X 4) 0)) (k0_pay14 (page (X 5) 0)) (k0_pay15 (page (X 6) 0)) (page (X 7) 0) (page (X 8) 0) (page (X 9) 0) (page (X 10) 0) (page (X 11) 0) (page (X 12) 0) (page (X 13) 0) (page (X 14) 0) (page (X 15) 0)) (ix2 j d)
      = page (X ⟨j / 128, by omega⟩) 0 (ix2 ⟨j % 128, by omega⟩ d) := keys0_at (fun p => page (X p) 0) j d

theorem vals0_page (X : Fin 16 → Vec Ideal S512x128 .f32) (j : Fin 2048) (d : Fin 128) :
    (k0_pay22 (F := Ideal) (k0_pay17 (page (X 0) 1)) (k0_pay18 (page (X 1) 1)) (k0_pay19 (page (X 2) 1)) (k0_pay20 (page (X 3) 1)) (k0_pay21 (page (X 4) 1)) (page (X 5) 1) (page (X 6) 1) (page (X 7) 1) (page (X 8) 1) (page (X 9) 1) (page (X 10) 1) (page (X 11) 1) (page (X 12) 1) (page (X 13) 1) (page (X 14) 1) (page (X 15) 1)) (ix2 j d)
      = page (X ⟨j / 128, by omega⟩) 1 (ix2 ⟨j % 128, by omega⟩ d) := vals0_at (fun p => page (X p) 1) j d

theorem keys1_page (X : Fin 16 → Vec Ideal S512x128 .f32) (j : Fin 2048) (d : Fin 128) :
    (k0_pay48 (F := Ideal) (k0_pay46 (page (X 0) 2)) (k0_pay47 (page (X 1) 2)) (page (X 2) 2) (page (X 3) 2) (page (X 4) 2) (page (X 5) 2) (page (X 6) 2) (page (X 7) 2) (page (X 8) 2) (page (X 9) 2) (page (X 10) 2) (page (X 11) 2) (page (X 12) 2) (page (X 13) 2) (page (X 14) 2) (page (X 15) 2)) (ix2 j d)
      = page (X ⟨j / 128, by omega⟩) 2 (ix2 ⟨j % 128, by omega⟩ d) := keys1_at (fun p => page (X p) 2) j d

theorem vals1_page (X : Fin 16 → Vec Ideal S512x128 .f32) (j : Fin 2048) (d : Fin 128) :
    (k0_pay51 (F := Ideal) (k0_pay50 (F := Ideal) (k0_pay49 (page (X 0) 3)) (page (X 1) 3) (page (X 2) 3) (page (X 3) 3) (page (X 4) 3) (page (X 5) 3) (page (X 6) 3) (page (X 7) 3) (page (X 8) 3) (page (X 9) 3) (page (X 10) 3) (page (X 11) 3) (page (X 12) 3) (page (X 13) 3) (page (X 14) 3) (page (X 15) 3))) (ix2 j d)
      = page (X ⟨j / 128, by omega⟩) 3 (ix2 ⟨j % 128, by omega⟩ d) := vals1_at (fun p => page (X p) 3) j d

theorem pay5_at (g : Vec Ideal S1x1x128 .f32) (l : Fin 128) : k0_pay5 (F := Ideal) g (ix2 0 l) = g (ix3 0 0 l) := by
  pointwise [k0_pay5]

/-- A head's keys among four rows, or four groups of lanes: the even ones. -/
def kpos (h : Fin 2) : Fin 4 := ⟨2 * h.val, by omega⟩

/-- A head's values: the odd ones. -/
def vpos (h : Fin 2) : Fin 4 := ⟨2 * h.val + 1, by omega⟩

/-- The selected branch of one head at a grid point, of its blocks. -/
def selOut (x0 : Vec Ideal S1x2x16x128 .f32) (x1 : Vec Ideal S1x2x128 .f32) (x2 : Vec Ideal S1x3x512 .f32)
    (X : Fin 16 → Vec Ideal S512x128 .f32) (h : Fin 2) (r : Fin 16) (d : Fin 128) : EReal :=
  Softmax.apart (fun j : Fin 2048 => (∑ e : Fin 128, x0 (ix4 0 h r e) * scale * page (X ⟨j / 128, by omega⟩) (kpos h) (ix2 ⟨j % 128, by omega⟩ e))
      + if 0 < x1 (ix3 0 h ⟨j / 64, by omega⟩) then 0 else ⊥)
    (fun j => page (X ⟨j / 128, by omega⟩) (vpos h) (ix2 ⟨j % 128, by omega⟩ d))
    ((∑ e : Fin 128, x0 (ix4 0 h r e) * scale * lanesOf x2 1 (kpos h) (ix3 0 0 e)) + if 0 < x1 (ix3 0 h 32) then 0 else ⊥)
    (lanesOf x2 1 (vpos h) (ix3 0 0 d))

/-- The window branch of one head at a grid point, of its blocks. -/
def winOut (x0 : Vec Ideal S1x2x16x128 .f32) (x2 : Vec Ideal S1x3x512 .f32) (x5 : Vec Ideal S1x2048x128 .f32)
    (h : Fin 2) (r : Fin 16) (d : Fin 128) : EReal :=
  Softmax.apart (fun j : Fin 512 => if (j : ℕ) ≠ 0 then ∑ e : Fin 128, x0 (ix4 0 h r e) * scale * wrows x5 (kpos h) (ix3 0 j e) else ⊥)
    (fun j => wrows x5 (vpos h) (ix3 0 j d))
    (∑ e : Fin 128, x0 (ix4 0 h r e) * scale * lanesOf x2 2 (kpos h) (ix3 0 0 e))
    (lanesOf x2 2 (vpos h) (ix3 0 0 d))

/-- What a grid point stores in its block of the first result: three branches weighted by three gates. -/
def headOut (x0 : Vec Ideal S1x2x16x128 .f32) (x1 : Vec Ideal S1x2x128 .f32) (x2 : Vec Ideal S1x3x512 .f32) (x3 : Vec Ideal S1x2x16x128 .f32)
    (x4 : Vec Ideal S1x1x128 .f32) (x5 : Vec Ideal S1x2048x128 .f32) (X : Fin 16 → Vec Ideal S512x128 .f32)
    (h : Fin 2) (r : Fin 16) (d : Fin 128) : EReal :=
  x4 (ix3 0 0 ⟨4 * h.val + r.val, by omega⟩) * x3 (ix4 0 h r d) + x4 (ix3 0 0 ⟨8 + 4 * h.val + r.val, by omega⟩) * selOut x0 x1 x2 X h r d
    + x4 (ix3 0 0 ⟨16 + 4 * h.val + r.val, by omega⟩) * winOut x0 x2 x5 h r d

section
variable (x0 : Vec Ideal S1x2x16x128 .f32) (x1 : Vec Ideal S1x2x128 .f32) (x2 : Vec Ideal S1x3x512 .f32) (x3 : Vec Ideal S1x2x16x128 .f32)
    (x4 : Vec Ideal S1x1x128 .f32) (x5 : Vec Ideal S1x2048x128 .f32) (X : Fin 16 → Vec Ideal S512x128 .f32) (r : Fin 16) (d : Fin 128)

theorem sel1 : k0_pay55 (F := Ideal) (k0_pay51 (F := Ideal) (k0_pay50 (F := Ideal) (k0_pay49 (page (X 0) 3)) (page (X 1) 3) (page (X 2) 3) (page (X 3) 3) (page (X 4) 3) (page (X 5) 3) (page (X 6) 3) (page (X 7) 3) (page (X 8) 3) (page (X 9) 3) (page (X 10) 3) (page (X 11) 3) (page (X 12) 3) (page (X 13) 3) (page (X 14) 3) (page (X 15) 3)))
    (k0_pay52 (k0_pay43 (qrows x0 1)) (k0_pay45 (srow x1 1)) (k0_pay48 (F := Ideal) (k0_pay46 (page (X 0) 2)) (k0_pay47 (page (X 1) 2)) (page (X 2) 2) (page (X 3) 2) (page (X 4) 2) (page (X 5) 2) (page (X 6) 2) (page (X 7) 2) (page (X 8) 2) (page (X 9) 2) (page (X 10) 2) (page (X 11) 2) (page (X 12) 2) (page (X 13) 2) (page (X 14) 2) (page (X 15) 2)))
    (k0_pay53 (lanesOf x2 1 3)) (k0_pay54 lanes (k0_pay44 (qrows x0 1)) (k0_pay45 (srow x1 1)) (lanesOf x2 1 2)) (ix2 r d) = selOut x0 x1 x2 X 1 r d := by
  rw [sel_at]
  simp only [keys1_page, vals1_page]
  rfl

theorem sel0 : k0_pay34 (F := Ideal) (k0_pay26 (lanesOf x2 1 1)) (k0_pay31 lanes (k0_pay7 (qrows x0 0)) (k0_pay8 (srow x1 0)) (k0_pay16 (F := Ideal) (k0_pay9 (page (X 0) 0)) (k0_pay10 (page (X 1) 0)) (k0_pay11 (page (X 2) 0)) (k0_pay12 (page (X 3) 0)) (k0_pay13 (page (X 4) 0)) (k0_pay14 (page (X 5) 0)) (k0_pay15 (page (X 6) 0)) (page (X 7) 0) (page (X 8) 0) (page (X 9) 0) (page (X 10) 0) (page (X 11) 0) (page (X 12) 0) (page (X 13) 0) (page (X 14) 0) (page (X 15) 0)) k0_pay23 (k0_pay24 (k0_pay6 (qrows x0 0)) (k0_pay8 (srow x1 0))) (lanesOf x2 1 0))
        (k0_pay32 lanes (k0_pay7 (qrows x0 0)) (k0_pay8 (srow x1 0)) (k0_pay16 (F := Ideal) (k0_pay9 (page (X 0) 0)) (k0_pay10 (page (X 1) 0)) (k0_pay11 (page (X 2) 0)) (k0_pay12 (page (X 3) 0)) (k0_pay13 (page (X 4) 0)) (k0_pay14 (page (X 5) 0)) (k0_pay15 (page (X 6) 0)) (page (X 7) 0) (page (X 8) 0) (page (X 9) 0) (page (X 10) 0) (page (X 11) 0) (page (X 12) 0) (page (X 13) 0) (page (X 14) 0) (page (X 15) 0)) (k0_pay22 (F := Ideal) (k0_pay17 (page (X 0) 1)) (k0_pay18 (page (X 1) 1)) (k0_pay19 (page (X 2) 1)) (k0_pay20 (page (X 3) 1)) (k0_pay21 (page (X 4) 1)) (page (X 5) 1) (page (X 6) 1) (page (X 7) 1) (page (X 8) 1) (page (X 9) 1) (page (X 10) 1) (page (X 11) 1) (page (X 12) 1) (page (X 13) 1) (page (X 14) 1) (page (X 15) 1)) k0_pay23 (k0_pay24 (k0_pay6 (qrows x0 0)) (k0_pay8 (srow x1 0))) (lanesOf x2 1 0)) (k0_pay33 lanes (k0_pay7 (qrows x0 0)) (k0_pay8 (srow x1 0)) (k0_pay16 (F := Ideal) (k0_pay9 (page (X 0) 0)) (k0_pay10 (page (X 1) 0)) (k0_pay11 (page (X 2) 0)) (k0_pay12 (page (X 3) 0)) (k0_pay13 (page (X 4) 0)) (k0_pay14 (page (X 5) 0)) (k0_pay15 (page (X 6) 0)) (page (X 7) 0) (page (X 8) 0) (page (X 9) 0) (page (X 10) 0) (page (X 11) 0) (page (X 12) 0) (page (X 13) 0) (page (X 14) 0) (page (X 15) 0)) k0_pay23 (k0_pay24 (k0_pay6 (qrows x0 0)) (k0_pay8 (srow x1 0))) (lanesOf x2 1 0)) (ix2 r d) = selOut x0 x1 x2 X 0 r d := by
  rw [sel0_eq, show k0_pay8 (F := Ideal) (srow x1 0) = k0_pay45 (srow x1 0) from rfl, sel_at]
  simp only [keys0_page, vals0_page]
  rfl

theorem win1 : k0_pay60 (F := Ideal) (k0_pay44 (qrows x0 1)) (k0_pay56 (wrows x5 3)) (k0_pay57 (k0_pay43 (qrows x0 1)) (wrows x5 2))
    k0_pay58 k0_pay59 (lanesOf x2 2 2) (lanesOf x2 2 3) (ix2 r d) = winOut x0 x2 x5 1 r d := by
  rw [win_at]
  rfl

theorem win0 : k0_pay39 (F := Ideal) (k0_pay35 (wrows x5 1)) (k0_pay36 (k0_pay6 (qrows x0 0)) (wrows x5 0)) (k0_pay37 (lanesOf x2 2 1)) (k0_pay38 (k0_pay7 (qrows x0 0)) (lanesOf x2 2 0)) (ix2 r d) = winOut x0 x2 x5 0 r d := by
  rw [win0_eq, win_at]
  rfl

theorem head1 (os ow : FVec Ideal S16x128 .f32) (hs : os (ix2 r d) = selOut x0 x1 x2 X 1 r d) (hw : ow (ix2 r d) = winOut x0 x2 x5 1 r d) :
    k0_pay62 (F := Ideal) (k0_pay5 x4) lanes rows os ow (k0_pay61 (k0_pay5 x4) lanes rows) (qrows x3 1) (ix4 0 0 r d) = headOut x0 x1 x2 x3 x4 x5 X 1 r d := by
  rw [pay62_at, pay5_at, pay5_at, pay5_at, hs, hw]
  rfl

theorem head0 (os ow : FVec Ideal S16x128 .f32) (hs : os (ix2 r d) = selOut x0 x1 x2 X 0 r d) (hw : ow (ix2 r d) = winOut x0 x2 x5 0 r d) :
    k0_pay42 (F := Ideal) (k0_pay5 x4) lanes rows os ow (k0_pay40 (k0_pay5 x4) lanes rows (qrows x3 0)) (k0_pay41 (k0_pay5 x4) lanes rows) (ix4 0 0 r d) = headOut x0 x1 x2 x3 x4 x5 X 0 r d := by
  rw [pay42_at, pay5_at, pay5_at, pay5_at, hs, hw]
  unfold headOut
  rfl
end

/-- What a grid point leaves of the window: the rows four further on, and this step's four rows last. -/
def winNext (x2 : Vec Ideal S1x3x512 .f32) (x5 : Vec Ideal S1x2048x128 .f32) (i : Fin 2048) (d : Fin 128) : EReal :=
  if h : i.val < 2044 then x5 (ix3 0 ⟨i.val + 4, by omega⟩ d) else lanesOf x2 2 ⟨i.val - 2044, by omega⟩ (ix3 0 0 d)

theorem pay1_eq (x : Vec Ideal S1x1x128 .f32) : k0_pay1 (F := Ideal) x = x := by
  funext y
  pointwise [k0_pay1]

theorem pay2_eq (x : Vec Ideal S1x1x128 .f32) : k0_pay2 (F := Ideal) x = x := by
  funext y
  pointwise [k0_pay2]

theorem pay3_eq (x : Vec Ideal S1x1x128 .f32) : k0_pay3 (F := Ideal) x = x := by
  funext y
  pointwise [k0_pay3]

theorem pay4_eq (x : Vec Ideal S1x1x128 .f32) : k0_pay4 (F := Ideal) x = x := by
  funext y
  pointwise [k0_pay4]

/-- The window's contents with one row stored last, at an index. -/
theorem row_cons (k : ℕ) (inb : ∀ a, (![0, k, 0] : Fin 3 → ℕ) a + (![1, 1, 128] : Fin 3 → ℕ) a ≤ S1x2048x128.size a) (w : FVec Ideal S1x1x128 .f32)
    (L : List (View.Piece (Elt Ideal) S1x2048x128 .f32)) (y : S1x2048x128.Idx) :
    View.canon (Val := Elt Ideal) ((⟨Rect.unit (s := S1x2048x128) ![0, k, 0] ![1, 1, 128] inb, w⟩ : View.Piece (Elt Ideal) S1x2048x128 .f32) :: L) y
      = if (y 1).val = k then w (ix3 0 0 (y 2)) else View.canon (Val := Elt Ideal) L y := by
  have h0 : (y 0).val < 1 := (y 0).isLt
  split
  · rename_i hk
    have e : y = (Rect.unit (s := S1x2048x128) ![0, k, 0] ![1, 1, 128] inb).emb (ix3 0 0 (y 2)) := by
      funext a; apply Fin.ext
      match a with
      | ⟨0, _⟩ => show (y 0).val = 0 + 1 * 0; omega
      | ⟨1, _⟩ => show (y 1).val = k + 1 * 0; omega
      | ⟨2, _⟩ => show (y 2).val = 0 + 1 * (y 2).val; omega
    exact (congrArg _ e).trans (View.canon_cons_emb (Val := Elt Ideal) (s := S1x2048x128) (e := .f32) (Rect.unit (s := S1x2048x128) ![0, k, 0] ![1, 1, 128] inb) w L (ix3 0 0 (y 2) : S1x1x128.Idx))
  · rename_i hk
    refine View.canon_cons_of_not_mem (Val := Elt Ideal) _ L fun hm => ?_
    obtain ⟨x, rfl⟩ := (Rect.unit (s := S1x2048x128) ![0, k, 0] ![1, 1, 128] inb).exists_idx_of_mem hm
    refine hk ?_
    have h1 : (x 1).val < 1 := (x 1).isLt
    show k + 1 * (x 1).val = k
    omega

set_option maxHeartbeats 2000000 in
theorem out22_at  (c : Dev nD) (i : grid0.Coords) (arg2 : Memref sig .tc .vmem S1x2x16x128 .f32) (harg2 : arg2.IsWhole) (arg3 : Memref sig .tc .vmem S1x2x128 .f32) (harg3 : arg3.IsWhole) (arg4 : Memref sig .tc .vmem S1x3x512 .f32) (harg4 : arg4.IsWhole) (arg5 : Memref sig .tc .vmem S1x2x16x128 .f32) (harg5 : arg5.IsWhole) (arg6 : Memref sig .tc .vmem S1x1x128 .f32) (harg6 : arg6.IsWhole) (arg7 : Memref sig .tc .vmem S1x2048x128 .f32) (harg7 : arg7.IsWhole) (arg8 : Memref sig .tc .vmem S512x128 .f32) (harg8 : arg8.IsWhole) (arg9 : Memref sig .tc .vmem S512x128 .f32) (harg9 : arg9.IsWhole) (arg10 : Memref sig .tc .vmem S512x128 .f32) (harg10 : arg10.IsWhole) (arg11 : Memref sig .tc .vmem S512x128 .f32) (harg11 : arg11.IsWhole) (arg12 : Memref sig .tc .vmem S512x128 .f32) (harg12 : arg12.IsWhole) (arg13 : Memref sig .tc .vmem S512x128 .f32) (harg13 : arg13.IsWhole) (arg14 : Memref sig .tc .vmem S512x128 .f32) (harg14 : arg14.IsWhole) (arg15 : Memref sig .tc .vmem S512x128 .f32) (harg15 : arg15.IsWhole) (arg16 : Memref sig .tc .vmem S512x128 .f32) (harg16 : arg16.IsWhole) (arg17 : Memref sig .tc .vmem S512x128 .f32) (harg17 : arg17.IsWhole) (arg18 : Memref sig .tc .vmem S512x128 .f32) (harg18 : arg18.IsWhole) (arg19 : Memref sig .tc .vmem S512x128 .f32) (harg19 : arg19.IsWhole) (arg20 : Memref sig .tc .vmem S512x128 .f32) (harg20 : arg20.IsWhole) (arg21 : Memref sig .tc .vmem S512x128 .f32) (harg21 : arg21.IsWhole) (arg22 : Memref sig .tc .vmem S512x128 .f32) (harg22 : arg22.IsWhole) (arg23 : Memref sig .tc .vmem S512x128 .f32) (harg23 : arg23.IsWhole) (arg24 : Memref sig .tc .vmem S1x2x16x128 .f32) (harg24 : arg24.IsWhole) (arg25 : Memref sig .tc .vmem S1x2048x128 .f32) (harg25 : arg25.IsWhole)
    (x0 : Vec Ideal S1x2x16x128 .f32) (x1 : Vec Ideal S1x2x128 .f32) (x2 : Vec Ideal S1x3x512 .f32) (x3 : Vec Ideal S1x2x16x128 .f32) (x4 : Vec Ideal S1x1x128 .f32) (x5 : Vec Ideal S1x2048x128 .f32) (X : Fin 16 → Vec Ideal S512x128 .f32) (xt0 : TbBuf0 (F := Ideal) c tbM0_0)
    (y : S1x2x16x128.Idx) : out0_A_22 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 x0 x1 x2 x3 x4 x5 (X 0) (X 1) (X 2) (X 3) (X 4) (X 5) (X 6) (X 7) (X 8) (X 9) (X 10) (X 11) (X 12) (X 13) (X 14) (X 15) xt0 y = headOut x0 x1 x2 x3 x4 x5 X (y 1) (y 2) (y 3) := by
  frame_out
  simp only [page_0, page_1, page_2, page_3, wrows_0, wrows_1, wrows_2, wrows_3, qrows_0, qrows_1, srow_0, srow_1, lanes_1_0, lanes_1_1, lanes_1_2, lanes_1_3, lanes_2_0, lanes_2_1, lanes_2_2, lanes_2_3]
  canon_tiles x h
  · have e : x = ix4 0 0 (x 2) (x 3) := by
      funext a; apply Fin.ext
      match a with
      | ⟨0, _⟩ => show (x 0).val = 0; omega
      | ⟨1, _⟩ => show (x 1).val = 0; omega
      | ⟨2, _⟩ => rfl
      | ⟨3, _⟩ => rfl
    have e1 : y 1 = (1 : Fin 2) := Fin.ext (by show (y 1).val = 1; omega)
    have e2 : y 2 = x 2 := Fin.ext (by omega)
    have e3 : y 3 = x 3 := Fin.ext (by omega)
    rw [e1, e2, e3]
    exact (congrArg _ e).trans (head1 x0 x1 x2 x3 x4 x5 X (x 2) (x 3) _ _ (sel1 ..) (win1 ..))
  · have e : x = ix4 0 0 (x 2) (x 3) := by
      funext a; apply Fin.ext
      match a with
      | ⟨0, _⟩ => show (x 0).val = 0; omega
      | ⟨1, _⟩ => show (x 1).val = 0; omega
      | ⟨2, _⟩ => rfl
      | ⟨3, _⟩ => rfl
    have e1 : y 1 = (0 : Fin 2) := Fin.ext (by show (y 1).val = 0; omega)
    have e2 : y 2 = x 2 := Fin.ext (by omega)
    have e3 : y 3 = x 3 := Fin.ext (by omega)
    rw [e1, e2, e3]
    exact (congrArg _ e).trans (head0 x0 x1 x2 x3 x4 x5 X (x 2) (x 3) _ _ (sel0 ..) (win0 ..))

theorem out23_at  (c : Dev nD) (i : grid0.Coords) (arg2 : Memref sig .tc .vmem S1x2x16x128 .f32) (harg2 : arg2.IsWhole) (arg3 : Memref sig .tc .vmem S1x2x128 .f32) (harg3 : arg3.IsWhole) (arg4 : Memref sig .tc .vmem S1x3x512 .f32) (harg4 : arg4.IsWhole) (arg5 : Memref sig .tc .vmem S1x2x16x128 .f32) (harg5 : arg5.IsWhole) (arg6 : Memref sig .tc .vmem S1x1x128 .f32) (harg6 : arg6.IsWhole) (arg7 : Memref sig .tc .vmem S1x2048x128 .f32) (harg7 : arg7.IsWhole) (arg8 : Memref sig .tc .vmem S512x128 .f32) (harg8 : arg8.IsWhole) (arg9 : Memref sig .tc .vmem S512x128 .f32) (harg9 : arg9.IsWhole) (arg10 : Memref sig .tc .vmem S512x128 .f32) (harg10 : arg10.IsWhole) (arg11 : Memref sig .tc .vmem S512x128 .f32) (harg11 : arg11.IsWhole) (arg12 : Memref sig .tc .vmem S512x128 .f32) (harg12 : arg12.IsWhole) (arg13 : Memref sig .tc .vmem S512x128 .f32) (harg13 : arg13.IsWhole) (arg14 : Memref sig .tc .vmem S512x128 .f32) (harg14 : arg14.IsWhole) (arg15 : Memref sig .tc .vmem S512x128 .f32) (harg15 : arg15.IsWhole) (arg16 : Memref sig .tc .vmem S512x128 .f32) (harg16 : arg16.IsWhole) (arg17 : Memref sig .tc .vmem S512x128 .f32) (harg17 : arg17.IsWhole) (arg18 : Memref sig .tc .vmem S512x128 .f32) (harg18 : arg18.IsWhole) (arg19 : Memref sig .tc .vmem S512x128 .f32) (harg19 : arg19.IsWhole) (arg20 : Memref sig .tc .vmem S512x128 .f32) (harg20 : arg20.IsWhole) (arg21 : Memref sig .tc .vmem S512x128 .f32) (harg21 : arg21.IsWhole) (arg22 : Memref sig .tc .vmem S512x128 .f32) (harg22 : arg22.IsWhole) (arg23 : Memref sig .tc .vmem S512x128 .f32) (harg23 : arg23.IsWhole) (arg24 : Memref sig .tc .vmem S1x2x16x128 .f32) (harg24 : arg24.IsWhole) (arg25 : Memref sig .tc .vmem S1x2048x128 .f32) (harg25 : arg25.IsWhole)
    (x0 : Vec Ideal S1x2x16x128 .f32) (x1 : Vec Ideal S1x2x128 .f32) (x2 : Vec Ideal S1x3x512 .f32) (x3 : Vec Ideal S1x2x16x128 .f32) (x4 : Vec Ideal S1x1x128 .f32) (x5 : Vec Ideal S1x2048x128 .f32) (X : Fin 16 → Vec Ideal S512x128 .f32) (xt0 : TbBuf0 (F := Ideal) c tbM0_0)
    (y : S1x2048x128.Idx) : out0_A_23 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 x0 x1 x2 x3 x4 x5 (X 0) (X 1) (X 2) (X 3) (X 4) (X 5) (X 6) (X 7) (X 8) (X 9) (X 10) (X 11) (X 12) (X 13) (X 14) (X 15) xt0 y = winNext x2 x5 (y 1) (y 2) := by
  frame_out
  simp only [page_0, page_1, page_2, page_3, wrows_0, wrows_1, wrows_2, wrows_3, qrows_0, qrows_1, srow_0, srow_1, lanes_1_0, lanes_1_1, lanes_1_2, lanes_1_3, lanes_2_0, lanes_2_1, lanes_2_2, lanes_2_3, pay1_eq, pay2_eq, pay3_eq, pay4_eq]
  rw [row_cons, row_cons, row_cons, row_cons, View.canon_unit_zero (by funext a; fin_cases a <;> rfl)]
  unfold winNext
  have hy : (y 1).val < 2048 := (y 1).isLt
  by_cases h : (y 1).val < 2044
  · rw [if_neg (by omega), if_neg (by omega), if_neg (by omega), if_neg (by omega), dif_pos h]
    have e : y = ix3 0 (y 1) (y 2) := by
      funext a; apply Fin.ext
      have h0 : (y 0).val < 1 := (y 0).isLt
      match a with
      | ⟨0, _⟩ => show (y 0).val = 0; omega
      | ⟨1, _⟩ => rfl
      | ⟨2, _⟩ => rfl
    exact (congrArg _ e).trans (pay63_at x5 (y 1) (y 2) h)
  · rw [dif_neg h]
    have hc : (y 1).val = 2044 ∨ (y 1).val = 2045 ∨ (y 1).val = 2046 ∨ (y 1).val = 2047 := by omega
    have key : ∀ c : Fin 4, ∀ l : Fin 4, l = c → lanesOf x2 2 c (ix3 0 0 (y 2)) = lanesOf x2 2 l (ix3 0 0 (y 2)) := fun c l h => by rw [h]
    rcases hc with hc | hc | hc | hc
    · rw [if_neg (by omega), if_neg (by omega), if_neg (by omega), if_pos hc]
      exact key 0 _ (Fin.ext (by show (y 1).val - 2044 = 0; omega))
    · rw [if_neg (by omega), if_neg (by omega), if_pos hc]
      exact key 1 _ (Fin.ext (by show (y 1).val - 2044 = 1; omega))
    · rw [if_neg (by omega), if_pos hc]
      exact key 2 _ (Fin.ext (by show (y 1).val - 2044 = 2; omega))
    · rw [if_pos hc]
      exact key 3 _ (Fin.ext (by show (y 1).val - 2044 = 3; omega))

theorem out22_pages  (c : Dev nD) (i : grid0.Coords) (arg2 : Memref sig .tc .vmem S1x2x16x128 .f32) (harg2 : arg2.IsWhole) (arg3 : Memref sig .tc .vmem S1x2x128 .f32) (harg3 : arg3.IsWhole) (arg4 : Memref sig .tc .vmem S1x3x512 .f32) (harg4 : arg4.IsWhole) (arg5 : Memref sig .tc .vmem S1x2x16x128 .f32) (harg5 : arg5.IsWhole) (arg6 : Memref sig .tc .vmem S1x1x128 .f32) (harg6 : arg6.IsWhole) (arg7 : Memref sig .tc .vmem S1x2048x128 .f32) (harg7 : arg7.IsWhole) (arg8 : Memref sig .tc .vmem S512x128 .f32) (harg8 : arg8.IsWhole) (arg9 : Memref sig .tc .vmem S512x128 .f32) (harg9 : arg9.IsWhole) (arg10 : Memref sig .tc .vmem S512x128 .f32) (harg10 : arg10.IsWhole) (arg11 : Memref sig .tc .vmem S512x128 .f32) (harg11 : arg11.IsWhole) (arg12 : Memref sig .tc .vmem S512x128 .f32) (harg12 : arg12.IsWhole) (arg13 : Memref sig .tc .vmem S512x128 .f32) (harg13 : arg13.IsWhole) (arg14 : Memref sig .tc .vmem S512x128 .f32) (harg14 : arg14.IsWhole) (arg15 : Memref sig .tc .vmem S512x128 .f32) (harg15 : arg15.IsWhole) (arg16 : Memref sig .tc .vmem S512x128 .f32) (harg16 : arg16.IsWhole) (arg17 : Memref sig .tc .vmem S512x128 .f32) (harg17 : arg17.IsWhole) (arg18 : Memref sig .tc .vmem S512x128 .f32) (harg18 : arg18.IsWhole) (arg19 : Memref sig .tc .vmem S512x128 .f32) (harg19 : arg19.IsWhole) (arg20 : Memref sig .tc .vmem S512x128 .f32) (harg20 : arg20.IsWhole) (arg21 : Memref sig .tc .vmem S512x128 .f32) (harg21 : arg21.IsWhole) (arg22 : Memref sig .tc .vmem S512x128 .f32) (harg22 : arg22.IsWhole) (arg23 : Memref sig .tc .vmem S512x128 .f32) (harg23 : arg23.IsWhole) (arg24 : Memref sig .tc .vmem S1x2x16x128 .f32) (harg24 : arg24.IsWhole) (arg25 : Memref sig .tc .vmem S1x2048x128 .f32) (harg25 : arg25.IsWhole)
    (x0 : Vec Ideal S1x2x16x128 .f32) (x1 : Vec Ideal S1x2x128 .f32) (x2 : Vec Ideal S1x3x512 .f32) (x3 : Vec Ideal S1x2x16x128 .f32) (x4 : Vec Ideal S1x1x128 .f32) (x5 : Vec Ideal S1x2048x128 .f32) (x6 : Vec Ideal S512x128 .f32) (x7 : Vec Ideal S512x128 .f32) (x8 : Vec Ideal S512x128 .f32) (x9 : Vec Ideal S512x128 .f32) (x10 : Vec Ideal S512x128 .f32) (x11 : Vec Ideal S512x128 .f32) (x12 : Vec Ideal S512x128 .f32) (x13 : Vec Ideal S512x128 .f32) (x14 : Vec Ideal S512x128 .f32) (x15 : Vec Ideal S512x128 .f32) (x16 : Vec Ideal S512x128 .f32) (x17 : Vec Ideal S512x128 .f32) (x18 : Vec Ideal S512x128 .f32) (x19 : Vec Ideal S512x128 .f32) (x20 : Vec Ideal S512x128 .f32) (x21 : Vec Ideal S512x128 .f32) (xt0 : TbBuf0 (F := Ideal) c tbM0_0)
    (y : S1x2x16x128.Idx) : out0_A_22 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 x0 x1 x2 x3 x4 x5 x6 x7 x8 x9 x10 x11 x12 x13 x14 x15 x16 x17 x18 x19 x20 x21 xt0 y
      = headOut x0 x1 x2 x3 x4 x5 ![x6, x7, x8, x9, x10, x11, x12, x13, x14, x15, x16, x17, x18, x19, x20, x21] (y 1) (y 2) (y 3) :=
  out22_at c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 x0 x1 x2 x3 x4 x5 ![x6, x7, x8, x9, x10, x11, x12, x13, x14, x15, x16, x17, x18, x19, x20, x21] xt0 y

theorem out23_pages  (c : Dev nD) (i : grid0.Coords) (arg2 : Memref sig .tc .vmem S1x2x16x128 .f32) (harg2 : arg2.IsWhole) (arg3 : Memref sig .tc .vmem S1x2x128 .f32) (harg3 : arg3.IsWhole) (arg4 : Memref sig .tc .vmem S1x3x512 .f32) (harg4 : arg4.IsWhole) (arg5 : Memref sig .tc .vmem S1x2x16x128 .f32) (harg5 : arg5.IsWhole) (arg6 : Memref sig .tc .vmem S1x1x128 .f32) (harg6 : arg6.IsWhole) (arg7 : Memref sig .tc .vmem S1x2048x128 .f32) (harg7 : arg7.IsWhole) (arg8 : Memref sig .tc .vmem S512x128 .f32) (harg8 : arg8.IsWhole) (arg9 : Memref sig .tc .vmem S512x128 .f32) (harg9 : arg9.IsWhole) (arg10 : Memref sig .tc .vmem S512x128 .f32) (harg10 : arg10.IsWhole) (arg11 : Memref sig .tc .vmem S512x128 .f32) (harg11 : arg11.IsWhole) (arg12 : Memref sig .tc .vmem S512x128 .f32) (harg12 : arg12.IsWhole) (arg13 : Memref sig .tc .vmem S512x128 .f32) (harg13 : arg13.IsWhole) (arg14 : Memref sig .tc .vmem S512x128 .f32) (harg14 : arg14.IsWhole) (arg15 : Memref sig .tc .vmem S512x128 .f32) (harg15 : arg15.IsWhole) (arg16 : Memref sig .tc .vmem S512x128 .f32) (harg16 : arg16.IsWhole) (arg17 : Memref sig .tc .vmem S512x128 .f32) (harg17 : arg17.IsWhole) (arg18 : Memref sig .tc .vmem S512x128 .f32) (harg18 : arg18.IsWhole) (arg19 : Memref sig .tc .vmem S512x128 .f32) (harg19 : arg19.IsWhole) (arg20 : Memref sig .tc .vmem S512x128 .f32) (harg20 : arg20.IsWhole) (arg21 : Memref sig .tc .vmem S512x128 .f32) (harg21 : arg21.IsWhole) (arg22 : Memref sig .tc .vmem S512x128 .f32) (harg22 : arg22.IsWhole) (arg23 : Memref sig .tc .vmem S512x128 .f32) (harg23 : arg23.IsWhole) (arg24 : Memref sig .tc .vmem S1x2x16x128 .f32) (harg24 : arg24.IsWhole) (arg25 : Memref sig .tc .vmem S1x2048x128 .f32) (harg25 : arg25.IsWhole)
    (x0 : Vec Ideal S1x2x16x128 .f32) (x1 : Vec Ideal S1x2x128 .f32) (x2 : Vec Ideal S1x3x512 .f32) (x3 : Vec Ideal S1x2x16x128 .f32) (x4 : Vec Ideal S1x1x128 .f32) (x5 : Vec Ideal S1x2048x128 .f32) (x6 : Vec Ideal S512x128 .f32) (x7 : Vec Ideal S512x128 .f32) (x8 : Vec Ideal S512x128 .f32) (x9 : Vec Ideal S512x128 .f32) (x10 : Vec Ideal S512x128 .f32) (x11 : Vec Ideal S512x128 .f32) (x12 : Vec Ideal S512x128 .f32) (x13 : Vec Ideal S512x128 .f32) (x14 : Vec Ideal S512x128 .f32) (x15 : Vec Ideal S512x128 .f32) (x16 : Vec Ideal S512x128 .f32) (x17 : Vec Ideal S512x128 .f32) (x18 : Vec Ideal S512x128 .f32) (x19 : Vec Ideal S512x128 .f32) (x20 : Vec Ideal S512x128 .f32) (x21 : Vec Ideal S512x128 .f32) (xt0 : TbBuf0 (F := Ideal) c tbM0_0)
    (y : S1x2048x128.Idx) : out0_A_23 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 x0 x1 x2 x3 x4 x5 x6 x7 x8 x9 x10 x11 x12 x13 x14 x15 x16 x17 x18 x19 x20 x21 xt0 y = winNext x2 x5 (y 1) (y 2) :=
  out23_at c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 x0 x1 x2 x3 x4 x5 ![x6, x7, x8, x9, x10, x11, x12, x13, x14, x15, x16, x17, x18, x19, x20, x21] xt0 y

end Cert.Outputs
end
-- ==== Proof.Steps.lean ====
/- What a grid point of the launch stores in its blocks of the two results, of the blocks it is handed. -/
module

public import proofs.«01_k».proof.Proof.Blocks
public import proofs.«01_k».proof.Proof.Outputs

@[expose] public section

set_option maxRecDepth 16384

noncomputable section

open Idealize.ShloMosaic Idealize.ShloMosaic.TcCoe Idealize.SL.Sem

namespace Cert.Final

open Cert.AttnIdeal Cert.AttnIdeal.Gen Cert.Outputs Cert.Blocks
open Idealize.ShloMosaic.Pipeline (Dat)

variable (m : (ℓ : Loc nD τ sig) → Buf (Elt Ideal) ℓ)

/-- The sixteen pages a grid point is handed. -/
def pages (hO : Ok m) (c : Dev nD) (t : Fin (cfgM m hO).N) : Fin 16 → Vec Ideal S512x128 .f32 :=
  ![(iblk m hO c 6 t : S512x128.Idx → EReal), (iblk m hO c 7 t : S512x128.Idx → EReal), (iblk m hO c 8 t : S512x128.Idx → EReal), (iblk m hO c 9 t : S512x128.Idx → EReal), (iblk m hO c 10 t : S512x128.Idx → EReal), (iblk m hO c 11 t : S512x128.Idx → EReal), (iblk m hO c 12 t : S512x128.Idx → EReal), (iblk m hO c 13 t : S512x128.Idx → EReal), (iblk m hO c 14 t : S512x128.Idx → EReal), (iblk m hO c 15 t : S512x128.Idx → EReal), (iblk m hO c 16 t : S512x128.Idx → EReal), (iblk m hO c 17 t : S512x128.Idx → EReal), (iblk m hO c 18 t : S512x128.Idx → EReal), (iblk m hO c 19 t : S512x128.Idx → EReal), (iblk m hO c 20 t : S512x128.Idx → EReal), (iblk m hO c 21 t : S512x128.Idx → EReal)]

/-- The grid point of a query. -/
abbrev point (hO : Ok m) (b : Fin 128) : Fin (cfgM m hO).N := ⟨b.val, b.isLt.trans_eq (N_eq m hO).symm⟩

/-- What a grid point stores in its block of the first result. -/
def attended (hO : Ok m) (c : Dev nD) (t : Fin (cfgM m hO).N) (h : Fin 2) (r : Fin 16) (d : Fin 128) : EReal :=
  headOut (iblk m hO c 0 t : S1x2x16x128.Idx → EReal) (iblk m hO c 1 t : S1x2x128.Idx → EReal) (iblk m hO c 2 t : S1x3x512.Idx → EReal)
    (iblk m hO c 3 t : S1x2x16x128.Idx → EReal) (iblk m hO c 4 t : S1x1x128.Idx → EReal) (iblk m hO c 5 t : S1x2048x128.Idx → EReal)
    (pages m hO c t) h r d

/-- What a grid point stores in its block of the second result. -/
def moved (hO : Ok m) (c : Dev nD) (t : Fin (cfgM m hO).N) (i : Fin 2048) (d : Fin 128) : EReal :=
  winNext (iblk m hO c 2 t : S1x3x512.Idx → EReal) (iblk m hO c 5 t : S1x2048x128.Idx → EReal) i d

set_option maxHeartbeats 4000000 in
theorem outs_22 (hO : Ok m) (c : Dev nD) (t : Fin (cfgM m hO).N) (y : S1x2x16x128.Idx) :
    (outsAt0 m hO c t).1 y = attended m hO c t (y 1) (y 2) (y 3) :=
  out22_pages c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) (ms0_9 m hO t) (hs0_9 m hO t) (ms0_10 m hO t) (hs0_10 m hO t) (ms0_11 m hO t) (hs0_11 m hO t) (ms0_12 m hO t) (hs0_12 m hO t) (ms0_13 m hO t) (hs0_13 m hO t) (ms0_14 m hO t) (hs0_14 m hO t) (ms0_15 m hO t) (hs0_15 m hO t) (ms0_16 m hO t) (hs0_16 m hO t) (ms0_17 m hO t) (hs0_17 m hO t) (ms0_18 m hO t) (hs0_18 m hO t) (ms0_19 m hO t) (hs0_19 m hO t) (ms0_20 m hO t) (hs0_20 m hO t) (ms0_21 m hO t) (hs0_21 m hO t) (ms0_22 m hO t) (hs0_22 m hO t) (ms0_23 m hO t) (hs0_23 m hO t) (iblk m hO c 0 t) (iblk m hO c 1 t) (iblk m hO c 2 t) (iblk m hO c 3 t) (iblk m hO c 4 t) (iblk m hO c 5 t) (iblk m hO c 6 t) (iblk m hO c 7 t) (iblk m hO c 8 t) (iblk m hO c 9 t) (iblk m hO c 10 t) (iblk m hO c 11 t) (iblk m hO c 12 t) (iblk m hO c 13 t) (iblk m hO c 14 t) (iblk m hO c 15 t) (iblk m hO c 16 t) (iblk m hO c 17 t) (iblk m hO c 18 t) (iblk m hO c 19 t) (iblk m hO c 20 t) (iblk m hO c 21 t) (tbl m 0) y

set_option maxHeartbeats 4000000 in
theorem outs_23 (hO : Ok m) (c : Dev nD) (t : Fin (cfgM m hO).N) (y : S1x2048x128.Idx) :
    (outsAt0 m hO c t).2 y = moved m hO c t (y 1) (y 2) :=
  out23_pages c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) (ms0_9 m hO t) (hs0_9 m hO t) (ms0_10 m hO t) (hs0_10 m hO t) (ms0_11 m hO t) (hs0_11 m hO t) (ms0_12 m hO t) (hs0_12 m hO t) (ms0_13 m hO t) (hs0_13 m hO t) (ms0_14 m hO t) (hs0_14 m hO t) (ms0_15 m hO t) (hs0_15 m hO t) (ms0_16 m hO t) (hs0_16 m hO t) (ms0_17 m hO t) (hs0_17 m hO t) (ms0_18 m hO t) (hs0_18 m hO t) (ms0_19 m hO t) (hs0_19 m hO t) (ms0_20 m hO t) (hs0_20 m hO t) (ms0_21 m hO t) (hs0_21 m hO t) (ms0_22 m hO t) (hs0_22 m hO t) (ms0_23 m hO t) (hs0_23 m hO t) (iblk m hO c 0 t) (iblk m hO c 1 t) (iblk m hO c 2 t) (iblk m hO c 3 t) (iblk m hO c 4 t) (iblk m hO c 5 t) (iblk m hO c 6 t) (iblk m hO c 7 t) (iblk m hO c 8 t) (iblk m hO c 9 t) (iblk m hO c 10 t) (iblk m hO c 11 t) (iblk m hO c 12 t) (iblk m hO c 13 t) (iblk m hO c 14 t) (iblk m hO c 15 t) (iblk m hO c 16 t) (iblk m hO c 17 t) (iblk m hO c 18 t) (iblk m hO c 19 t) (iblk m hO c 20 t) (iblk m hO c 21 t) (tbl m 0) y

theorem after_22 (hO : Ok m) (c : Dev nD) (t : Fin (cfgM m hO).N) (y : S1x2x16x128.Idx) :
    ((dats m hO 0 c).after 22 t : S1x2x16x128.Idx → EReal) y = attended m hO c t (y 1) (y 2) (y 3) :=
  (congrFun (after0_22 m hO c t) y).trans (outs_22 m hO c t y)

theorem after_23 (hO : Ok m) (c : Dev nD) (t : Fin (cfgM m hO).N) (y : S1x2048x128.Idx) :
    ((dats m hO 0 c).after 23 t : S1x2048x128.Idx → EReal) y = moved m hO c t (y 1) (y 2) :=
  (congrFun (after0_23 m hO c t) y).trans (outs_23 m hO c t y)

end Cert.Final
end
-- ==== Proof.Final.lean ====
/- What the launch leaves in its two results: at query `b`, what grid point `b` stores of its blocks. -/
module

public import proofs.«01_k».proof.Proof.Steps
public import Idealize.ShloMosaic.Lib.Pipeline.Covers

@[expose] public section

set_option maxRecDepth 16384

noncomputable section

open Idealize.ShloMosaic Idealize.ShloMosaic.TcCoe Idealize.SL.Sem

namespace Cert.Final

open Cert.AttnIdeal Cert.AttnIdeal.Gen Cert.Outputs Cert.Blocks
open Idealize.ShloMosaic.Pipeline (Dat)

variable (m : (ℓ : Loc nD τ sig) → Buf (Elt Ideal) ℓ)

theorem covers_22 (hO : Ok m) : ((cfgM m hO).win 22).Covers := by
  refine Pipeline.Window.covers_of_indexMap_surj _ rfl (fun a => ?_) fun β => ?_
  · fin_cases a
    · show 0 < 1; omega
    · show 0 < 2; omega
    · show 0 < 16; omega
    · show 0 < 128; omega
  · have hb : (β (0 : Fin 4)).val < (128 + 1 - 1) / 1 := (β (0 : Fin 4)).isLt
    refine ⟨fun a => match a with | ⟨0, _⟩ => ⟨(β (0 : Fin 4)).val, by show _ < 128; omega⟩, fun a => ?_⟩
    fin_cases a
    · show (BitVec.ofNat 32 (β (0 : Fin 4)).val).toNat = (β (0 : Fin 4)).val
      rw [BitVec.toNat_ofNat]; omega
    · have h : (β (1 : Fin 4)).val < (2 + 2 - 1) / 2 := (β (1 : Fin 4)).isLt
      show 0 = (β (1 : Fin 4)).val
      omega
    · have h : (β (2 : Fin 4)).val < (16 + 16 - 1) / 16 := (β (2 : Fin 4)).isLt
      show 0 = (β (2 : Fin 4)).val
      omega
    · have h : (β (3 : Fin 4)).val < (128 + 128 - 1) / 128 := (β (3 : Fin 4)).isLt
      show 0 = (β (3 : Fin 4)).val
      omega

theorem covers_23 (hO : Ok m) : ((cfgM m hO).win 23).Covers := by
  refine Pipeline.Window.covers_of_indexMap_surj _ rfl (fun a => ?_) fun β => ?_
  · fin_cases a
    · show 0 < 1; omega
    · show 0 < 2048; omega
    · show 0 < 128; omega
  · have hb : (β (0 : Fin 3)).val < (128 + 1 - 1) / 1 := (β (0 : Fin 3)).isLt
    refine ⟨fun a => match a with | ⟨0, _⟩ => ⟨(β (0 : Fin 3)).val, by show _ < 128; omega⟩, fun a => ?_⟩
    fin_cases a
    · show (BitVec.ofNat 32 (β (0 : Fin 3)).val).toNat = (β (0 : Fin 3)).val
      rw [BitVec.toNat_ofNat]; omega
    · have h : (β (1 : Fin 3)).val < (2048 + 2048 - 1) / 2048 := (β (1 : Fin 3)).isLt
      show 0 = (β (1 : Fin 3)).val
      omega
    · have h : (β (2 : Fin 3)).val < (128 + 128 - 1) / 128 := (β (2 : Fin 3)).isLt
      show 0 = (β (2 : Fin 3)).val
      omega

/-- The first result. -/
def attendedArr (hO : Ok m) (c : Dev nD) : S128x2x16x128.Idx → EReal := fun j => attended m hO c (point m hO (j 0)) (j 1) (j 2) (j 3)

/-- The second result. -/
def movedArr (hO : Ok m) (c : Dev nD) : S128x2048x128.Idx → EReal := fun j => moved m hO c (point m hO (j 0)) (j 1) (j 2)

theorem attendedArr_at (hO : Ok m) (c : Dev nD) (t : Fin (cfgM m hO).N) (h : Fin 2) (r : Fin 16) (d : Fin 128) (j : S128x2x16x128.Idx)
    (e : ∀ a, (j a).val = (ix4 (batch m hO t) h r d a : Fin _).val) : attended m hO c t h r d = attendedArr m hO c j := by
  rw [show j = ix4 (batch m hO t) h r d from funext fun a => Fin.ext (e a)]
  rfl

theorem movedArr_at (hO : Ok m) (c : Dev nD) (t : Fin (cfgM m hO).N) (i : Fin 2048) (d : Fin 128) (j : S128x2048x128.Idx)
    (e : ∀ a, (j a).val = (ix3 (batch m hO t) i d a : Fin _).val) : moved m hO c t i d = movedArr m hO c j := by
  rw [show j = ix3 (batch m hO t) i d from funext fun a => Fin.ext (e a)]
  rfl

theorem final_22 (hO : Ok m) (c : Dev nD) :
    (dats m hO 0 c).arrAt 22 (cfgM m hO).N = attendedArr m hO c := by
  refine (dats m hO 0 c).arrAt_eq_of_covers 22 _ (covers_22 m hO) fun t _ y => ?_
  have ht := coord_word m hO t
  refine (after_22 m hO c t y).trans (attendedArr_at m hO c t _ _ _ _ fun a => ?_)
  refine (ValueKit.view_emb_slice_whole_unit_val main_v9_0 _ _ _ y a).trans ?_
  fin_cases a
  · show (BitVec.ofNat 32 (grid0.coords t 0).val).toNat * 1 + (y (0 : Fin 4)).val = t.val
    have h0 : (y (0 : Fin 4)).val < 1 := (y (0 : Fin 4)).isLt
    omega
  · show 0 * 2 + (y (1 : Fin 4)).val = (y (1 : Fin 4)).val
    omega
  · show 0 * 16 + (y (2 : Fin 4)).val = (y (2 : Fin 4)).val
    omega
  · show 0 * 128 + (y (3 : Fin 4)).val = (y (3 : Fin 4)).val
    omega

theorem final_23 (hO : Ok m) (c : Dev nD) :
    (dats m hO 0 c).arrAt 23 (cfgM m hO).N = movedArr m hO c := by
  refine (dats m hO 0 c).arrAt_eq_of_covers 23 _ (covers_23 m hO) fun t _ y => ?_
  have ht := coord_word m hO t
  refine (after_23 m hO c t y).trans (movedArr_at m hO c t _ _ _ fun a => ?_)
  refine (ValueKit.view_emb_slice_whole_unit_val main_v9_1 _ _ _ y a).trans ?_
  fin_cases a
  · show (BitVec.ofNat 32 (grid0.coords t 0).val).toNat * 1 + (y (0 : Fin 3)).val = t.val
    have h0 : (y (0 : Fin 3)).val < 1 := (y (0 : Fin 3)).isLt
    omega
  · show 0 * 2048 + (y (1 : Fin 3)).val = (y (1 : Fin 3)).val
    omega
  · show 0 * 128 + (y (2 : Fin 3)).val = (y (2 : Fin 3)).val
    omega

end Cert.Final
end
-- ==== Proof.Equation.lean ====
/- The two orders of one attention: the kernel scales the query before the scores and keeps this step's key apart, the
   reference scales the scores and has all keys in one softmax. Over the reals they are one number. -/
module

public import proofs.«01_k».proof.Proof.Reference
public import proofs.«01_k».proof.Proof.Block

@[expose] public section

noncomputable section

open Idealize.ShloMosaic

namespace Cert.Equation

theorem scale_real : ∃ s : ℝ, Ideal.ofBits FTy.f32 0x3DB504F3#32 = (s : EReal) := by
  refine ⟨(1 * (2 ^ 23 + 3474675 : ℕ) * (2 : ℝ) ^ (-27 : ℤ)), ?_⟩
  simp [Ideal.ofBits, Ideal.ieee]

theorem least_le : Reference.least ≤ 1 := by
  have h : Reference.least = (((2 ^ 23 + 2245216 : ℕ) * (2 : ℝ) ^ (-123 : ℤ) : ℝ) : EReal) := by
    unfold Reference.least
    simp [Ideal.ofBits, Ideal.ieee]
  rw [h]
  refine EReal.coe_le_coe_iff.2 ?_
  rw [zpow_neg, ← div_eq_mul_inv, div_le_one (by positivity)]
  norm_num

/-- A masked score, in the kernel's two spellings of the mask. -/
theorem bias (p : Prop) [Decidable p] (x : EReal) : (x + if p then 0 else ⊥) = if p then x else ⊥ := by
  split
  · exact add_zero x
  · exact EReal.add_bot x

theorem attention {n : ℕ} (ok : Fin (n + 1) → Prop) [DecidablePred ok] (q : Fin 128 → EReal) (k : Fin (n + 1) → Fin 128 → EReal) (v : Fin (n + 1) → EReal)
    (hq : ∀ e, ∃ r : ℝ, q e = r) (hk : ∀ j e, ∃ r : ℝ, k j e = r) (hv : ∀ j, ∃ r : ℝ, v j = r) (h : ∃ j, ok j) :
    Softmax.apart (fun j : Fin n => if ok j.castSucc then ∑ e : Fin 128, q e * Block.scale * k j.castSucc e else ⊥) (fun j => v j.castSucc)
        (if ok (Fin.last n) then ∑ e : Fin 128, q e * Block.scale * k (Fin.last n) e else ⊥) (v (Fin.last n))
      = Softmax.masked ok (fun j => (∑ e : Fin 128, q e * k j e) * Reference.scale) v Reference.least := by
  choose q' hq' using hq
  choose k' hk' using hk
  choose v' hv' using hv
  obtain ⟨s, hs⟩ := scale_real
  have e1 : ∀ j, (∑ e : Fin 128, q e * Block.scale * k j e) = (((∑ e : Fin 128, q' e * k' j e) * s : ℝ) : EReal) := fun j => by
    rw [Finset.sum_mul, Softmax.coe_sum]
    refine Finset.sum_congr rfl fun e _ => ?_
    rw [hq', hk', show Block.scale = (s : EReal) from hs, ← EReal.coe_mul, ← EReal.coe_mul]
    exact congrArg _ (by ring)
  have e2 : ∀ j, (∑ e : Fin 128, q e * k j e) * Reference.scale = (((∑ e : Fin 128, q' e * k' j e) * s : ℝ) : EReal) := fun j => by
    rw [show Reference.scale = (s : EReal) from hs, EReal.coe_mul, Softmax.coe_sum]
    refine congrArg (· * (s : EReal)) (Finset.sum_congr rfl fun e _ => ?_)
    rw [hq', hk', ← EReal.coe_mul]
  obtain rfl : v = fun j => (v' j : EReal) := funext hv'
  simp only [e1, e2]
  exact Softmax.apart_eq_masked ok (fun j => (∑ e : Fin 128, q' e * k' j e) * s) v' Reference.least least_le h

end Cert.Equation
end
-- ==== Proof.Compare.lean ====
/- The two programs agree: what the kernel's launch stores at a query is what the reference computes there. -/
module

public import proofs.«01_k».proof.Proof.Steps
public import proofs.«01_k».proof.Proof.Equation
public import proofs.«01_k».proof.Proof.Inputs

@[expose] public section

set_option maxRecDepth 16384

noncomputable section

open Idealize.ShloMosaic Idealize.ShloMosaic.TcCoe Idealize.SL.Sem

namespace Cert.Compare

open Cert.AttnIdeal Cert.AttnIdeal.Gen Cert.Outputs Cert.Blocks Cert.Final
open Cert.Reference (row winRow)

theorem ix5_congr {n0 n1 n2 n3 n4 : ℕ} {a a' : Fin n0} {b b' : Fin n1} {c c' : Fin n2} {d d' : Fin n3} {e e' : Fin n4}
    (ha : a.val = a'.val) (hb : b.val = b'.val) (hc : c.val = c'.val) (hd : d.val = d'.val) (he : e.val = e'.val) :
    ix5 a b c d e = ix5 a' b' c' d' e' := by
  rw [Fin.ext ha, Fin.ext hb, Fin.ext hc, Fin.ext hd, Fin.ext he]

theorem ix4_congr {n0 n1 n2 n3 : ℕ} {a a' : Fin n0} {b b' : Fin n1} {c c' : Fin n2} {d d' : Fin n3}
    (ha : a.val = a'.val) (hb : b.val = b'.val) (hc : c.val = c'.val) (hd : d.val = d'.val) :
    ix4 a b c d = ix4 a' b' c' d' := by
  rw [Fin.ext ha, Fin.ext hb, Fin.ext hc, Fin.ext hd]

variable (m : (ℓ : Loc nD τ sig) → Buf (Elt Ideal) ℓ) (c : Dev nD)

/-! ### The arguments -/

abbrev table : IVec AttnRefIdeal.S128x16 32 := m ((c : Thread nD τ).loc main_arg0)
abbrev query : FVec Ideal AttnRefIdeal.S128x8x128 .f32 := m ((c : Thread nD τ).loc main_arg1)
abbrev chosen : FVec Ideal AttnRefIdeal.S128x2x128 .f32 := m ((c : Thread nD τ).loc main_arg2)
abbrev fresh : FVec Ideal AttnRefIdeal.S128x3x2x2x128 .f32 := m ((c : Thread nD τ).loc main_arg3)
abbrev coarse : FVec Ideal AttnRefIdeal.S128x8x128 .f32 := m ((c : Thread nD τ).loc main_arg4)
abbrev gates : FVec Ideal AttnRefIdeal.S128x3x2x4 .f32 := m ((c : Thread nD τ).loc main_arg5)
abbrev window : FVec Ideal AttnRefIdeal.S128x512x2x2x128 .f32 := m ((c : Thread nD τ).loc main_arg6)
abbrev cache : FVec Ideal AttnRefIdeal.S2560x128x2x2x128 .f32 := m ((c : Thread nD τ).loc main_arg7)

/-- The inputs' condition on a core. -/
abbrev Good : Prop := Inputs.Good (table m c) (query m c) (chosen m c) (fresh m c) (window m c) (cache m c)

/-! ### The blocks, as entries of the arguments -/

theorem query_in (hO : Ok m) (t : Fin (cfgM m hO).N) (h : Fin 2) (r : Fin 16) (hr : r.val < 4) (e : Fin 128) :
    (iblk m hO c 0 t : S1x2x16x128.Idx → EReal) (ix4 0 h r e) = query m c (ix3 (batch m hO t) ⟨h.val * 4 + r.val, by omega⟩ e) :=
  (query_blk m hO c t h r e).trans (query_at m c _ h r hr e)

theorem chosen_in (hO : Ok m) (t : Fin (cfgM m hO).N) (h : Fin 2) (k : Fin 128) :
    (iblk m hO c 1 t : S1x2x128.Idx → EReal) (ix3 0 h k) = chosen m c (ix3 (batch m hO t) h k) := chosen_blk m hO c t h k

theorem coarse_in (hO : Ok m) (t : Fin (cfgM m hO).N) (h : Fin 2) (r : Fin 16) (hr : r.val < 4) (d : Fin 128) :
    (iblk m hO c 3 t : S1x2x16x128.Idx → EReal) (ix4 0 h r d) = coarse m c (ix3 (batch m hO t) ⟨h.val * 4 + r.val, by omega⟩ d) :=
  (oc_blk m hO c t h r d).trans (oc_at m c _ h r hr d)

theorem gates_in (hO : Ok m) (t : Fin (cfgM m hO).N) (l : Fin 128) (k : Fin 3) (h : Fin 2) (r : Fin 4) (hl : l.val = 8 * k.val + 4 * h.val + r.val) :
    (iblk m hO c 4 t : S1x1x128.Idx → EReal) (ix3 0 0 l) = gates m c (ix4 (batch m hO t) k h r) :=
  (gates_blk m hO c t l).trans ((gates_at m c _ l (by omega)).trans
    (congrArg (gates m c) (ix4_congr rfl (by show l.val / 8 = k.val; omega) (by show l.val / 4 % 2 = h.val; omega) (by show l.val % 4 = r.val; omega))))

theorem fresh_in (hO : Ok m) (t : Fin (cfgM m hO).N) (k : Fin 3) (o : Fin 4) (e : Fin 128) (h s : Fin 2) (ho : o.val = 2 * h.val + s.val) :
    lanesOf (iblk m hO c 2 t : S1x3x512.Idx → EReal) k o (ix3 0 0 e) = fresh m c (ix5 (batch m hO t) k h s e) := by
  refine (fresh_blk m hO c t k ⟨128 * o.val + e.val, by omega⟩).trans ((fresh_at m c _ k _).trans (congrArg (fresh m c) (ix5_congr rfl rfl ?_ ?_ ?_)))
  · show (128 * o.val + e.val) / 256 = h.val; omega
  · show (128 * o.val + e.val) / 128 % 2 = s.val; omega
  · show (128 * o.val + e.val) % 128 = e.val; omega

theorem window_in (hO : Ok m) (t : Fin (cfgM m hO).N) (i : Fin 2048) (e : Fin 128) (j : Fin 512) (h s : Fin 2) (hi : i.val = 4 * j.val + 2 * h.val + s.val) :
    (iblk m hO c 5 t : S1x2048x128.Idx → EReal) (ix3 0 i e) = window m c (ix5 (batch m hO t) j h s e) := by
  refine (window_blk m hO c t i e).trans ((window_at m c _ i e).trans (congrArg (window m c) (ix5_congr rfl ?_ ?_ ?_ rfl)))
  · show i.val / 4 = j.val; omega
  · show i.val / 2 % 2 = h.val; omega
  · show i.val % 2 = s.val; omega

set_option maxHeartbeats 4000000 in
theorem pages_in (hO : Ok m) (t : Fin (cfgM m hO).N) (p : Fin 16) (j : Fin 512) (e : Fin 128) (n : Fin 1310720)
    (hn : n.val = (table m c (ix2 (batch m hO t) p)).toNat * 512 + j.val) :
    pages m hO c t p (ix2 j e) = (V m c main_v8 : S1310720x128.Idx → EReal) (ix2 n e) := by
  match p with
  | ⟨0, _⟩ => exact page_blk_0 m hO c t j e n hn
  | ⟨1, _⟩ => exact page_blk_1 m hO c t j e n hn
  | ⟨2, _⟩ => exact page_blk_2 m hO c t j e n hn
  | ⟨3, _⟩ => exact page_blk_3 m hO c t j e n hn
  | ⟨4, _⟩ => exact page_blk_4 m hO c t j e n hn
  | ⟨5, _⟩ => exact page_blk_5 m hO c t j e n hn
  | ⟨6, _⟩ => exact page_blk_6 m hO c t j e n hn
  | ⟨7, _⟩ => exact page_blk_7 m hO c t j e n hn
  | ⟨8, _⟩ => exact page_blk_8 m hO c t j e n hn
  | ⟨9, _⟩ => exact page_blk_9 m hO c t j e n hn
  | ⟨10, _⟩ => exact page_blk_10 m hO c t j e n hn
  | ⟨11, _⟩ => exact page_blk_11 m hO c t j e n hn
  | ⟨12, _⟩ => exact page_blk_12 m hO c t j e n hn
  | ⟨13, _⟩ => exact page_blk_13 m hO c t j e n hn
  | ⟨14, _⟩ => exact page_blk_14 m hO c t j e n hn
  | ⟨15, _⟩ => exact page_blk_15 m hO c t j e n hn
  | ⟨k + 16, hk⟩ => exact absurd hk (by omega)

theorem past_in (hO : Ok m) (hg : Good m c) (t : Fin (cfgM m hO).N) (o : Fin 4) (e : Fin 128) (h s : Fin 2) (ho : o.val = 2 * h.val + s.val) (j : Fin 2048) :
    page (pages m hO c t ⟨j.val / 128, by omega⟩) o (ix2 ⟨j.val % 128, by omega⟩ e)
      = row (table m c) (fresh m c) (cache m c) (batch m hO t) j.castSucc h s e := by
  have hw := (hg.table (ix2 (batch m hO t) ⟨j.val / 128, by omega⟩)).lt
  refine (pages_in m c hO t ⟨j.val / 128, by omega⟩ ⟨4 * (j.val % 128) + o.val, by omega⟩ e
    ⟨(table m c (ix2 (batch m hO t) ⟨j.val / 128, by omega⟩)).toNat * 512 + (4 * (j.val % 128) + o.val), by omega⟩ rfl).trans ?_
  refine (pool_at m c _ e).trans ?_
  unfold row
  rw [dif_pos (show (j.castSucc : ℕ) < 2048 from j.isLt)]
  refine congrArg (cache m c) (ix5_congr ?_ ?_ ?_ ?_ rfl)
  · show ((table m c (ix2 (batch m hO t) ⟨j.val / 128, by omega⟩)).toNat * 512 + (4 * (j.val % 128) + o.val)) / 512
      = min (table m c (ix2 (batch m hO t) ⟨j.val / 128, by omega⟩)).toNat 2559
    omega
  · show ((table m c (ix2 (batch m hO t) ⟨j.val / 128, by omega⟩)).toNat * 512 + (4 * (j.val % 128) + o.val)) / 4 % 128 = j.val % 128
    omega
  · show ((table m c (ix2 (batch m hO t) ⟨j.val / 128, by omega⟩)).toNat * 512 + (4 * (j.val % 128) + o.val)) / 2 % 2 = h.val
    omega
  · show ((table m c (ix2 (batch m hO t) ⟨j.val / 128, by omega⟩)).toNat * 512 + (4 * (j.val % 128) + o.val)) % 2 = s.val
    omega

theorem stored_in (hO : Ok m) (t : Fin (cfgM m hO).N) (o : Fin 4) (e : Fin 128) (h s : Fin 2) (ho : o.val = 2 * h.val + s.val) (j : Fin 512) :
    wrows (iblk m hO c 5 t : S1x2048x128.Idx → EReal) o (ix3 0 j e) = winRow (fresh m c) (window m c) (batch m hO t) j.castSucc h s e := by
  refine (window_in m c hO t ⟨4 * j.val + o.val, by omega⟩ e j h s (by show 4 * j.val + o.val = _; omega)).trans ?_
  unfold winRow
  rw [dif_pos (show (j.castSucc : ℕ) < 512 from j.isLt)]
  rfl

theorem row_last (b : Fin 128) (h s : Fin 2) (e : Fin 128) :
    row (table m c) (fresh m c) (cache m c) b (Fin.last 2048) h s e = fresh m c (ix5 b 1 h s e) := by
  unfold row
  rw [dif_neg (show ¬ ((Fin.last 2048 : Fin 2049) : ℕ) < 2048 by simp)]

theorem winRow_last (b : Fin 128) (h s : Fin 2) (e : Fin 128) :
    winRow (fresh m c) (window m c) b (Fin.last 512) h s e = fresh m c (ix5 b 2 h s e) := by
  unfold winRow
  rw [dif_neg (show ¬ ((Fin.last 512 : Fin 513) : ℕ) < 512 by simp)]

theorem row_real (hg : Good m c) (b : Fin 128) (j : Fin 2049) (h s : Fin 2) (e : Fin 128) :
    ∃ x : ℝ, row (table m c) (fresh m c) (cache m c) b j h s e = x := by
  unfold row
  split
  · exact hg.cache _
  · exact hg.fresh _

theorem winRow_real (hg : Good m c) (b : Fin 128) (j : Fin 513) (h s : Fin 2) (e : Fin 128) :
    ∃ x : ℝ, winRow (fresh m c) (window m c) b j h s e = x := by
  unfold winRow
  split
  · exact hg.window _
  · exact hg.fresh _

/-! ### The branches -/

/-- The selected branch. -/
theorem selected_eq (hO : Ok m) (hg : Good m c) (t : Fin (cfgM m hO).N) (h : Fin 2) (r : Fin 16) (hr : r.val < 4) (d : Fin 128) :
    selOut (iblk m hO c 0 t : S1x2x16x128.Idx → EReal) (iblk m hO c 1 t : S1x2x128.Idx → EReal) (iblk m hO c 2 t : S1x3x512.Idx → EReal) (pages m hO c t) h r d
      = AttnRefIdeal.Read.val_main_v38 (F := Ideal) (table m c) (query m c) (chosen m c) (fresh m c) (cache m c) (ix4 (batch m hO t) h ⟨r.val, hr⟩ d) := by
  rw [Reference.v38_at _ _ _ _ _ (fun b p => hg.table _)]
  have hex : ∃ j : Fin 2049, (0 : EReal) < chosen m c (ix3 (batch m hO t) h ⟨j.val / 64, by omega⟩) := by
    obtain ⟨k, hk⟩ := hg.chosen (batch m hO t) h
    refine ⟨⟨64 * k.val, by omega⟩, ?_⟩
    rw [show (⟨64 * k.val / 64, by omega⟩ : Fin 128) = ⟨k.val, by omega⟩ from Fin.ext (by show 64 * k.val / 64 = k.val; omega)]
    exact hk
  refine Eq.trans ?_ (Equation.attention (fun j : Fin 2049 => (0 : EReal) < chosen m c (ix3 (batch m hO t) h ⟨j.val / 64, by omega⟩))
    (fun e => query m c (ix3 (batch m hO t) ⟨h.val * 4 + r.val, by omega⟩ e))
    (fun j e => row (table m c) (fresh m c) (cache m c) (batch m hO t) j h 0 e)
    (fun j => row (table m c) (fresh m c) (cache m c) (batch m hO t) j h 1 d)
    (fun e => hg.query _) (fun j e => row_real m c hg _ j h 0 e) (fun j => row_real m c hg _ j h 1 d) hex)
  unfold selOut
  simp only [Equation.bias, row_last, fun e => query_in m c hO t h r hr e, fun k => chosen_in m c hO t h k,
    fun e j => past_in m c hO hg t (kpos h) e h 0 rfl j, fun j => past_in m c hO hg t (vpos h) d h 1 rfl j,
    fun e => fresh_in m c hO t 1 (kpos h) e h 0 rfl, fresh_in m c hO t 1 (vpos h) d h 1 rfl]
  rfl

/-- The window branch. -/
theorem window_eq (hO : Ok m) (hg : Good m c) (t : Fin (cfgM m hO).N) (h : Fin 2) (r : Fin 16) (hr : r.val < 4) (d : Fin 128) :
    winOut (iblk m hO c 0 t : S1x2x16x128.Idx → EReal) (iblk m hO c 2 t : S1x3x512.Idx → EReal) (iblk m hO c 5 t : S1x2048x128.Idx → EReal) h r d
      = AttnRefIdeal.Read.val_main_v75 (F := Ideal) (query m c) (fresh m c) (window m c) (ix4 (batch m hO t) h ⟨r.val, hr⟩ d) := by
  rw [Reference.v75_at]
  refine Eq.trans ?_ (Equation.attention (fun j : Fin 513 => (j : ℕ) ≠ 0)
    (fun e => query m c (ix3 (batch m hO t) ⟨h.val * 4 + r.val, by omega⟩ e))
    (fun j e => winRow (fresh m c) (window m c) (batch m hO t) j h 0 e)
    (fun j => winRow (fresh m c) (window m c) (batch m hO t) j h 1 d)
    (fun e => hg.query _) (fun j e => winRow_real m c hg _ j h 0 e) (fun j => winRow_real m c hg _ j h 1 d) ⟨1, by decide⟩)
  unfold winOut
  rw [if_pos (show ((Fin.last 512 : Fin 513) : ℕ) ≠ 0 by simp)]
  simp only [winRow_last, fun e => query_in m c hO t h r hr e,
    fun e j => stored_in m c hO t (kpos h) e h 0 rfl j, fun j => stored_in m c hO t (vpos h) d h 1 rfl j,
    fun e => fresh_in m c hO t 2 (kpos h) e h 0 rfl, fresh_in m c hO t 2 (vpos h) d h 1 rfl]
  rfl

/-- The first result, at the rows that are queries. -/
theorem attended_eq (hO : Ok m) (hg : Good m c) (t : Fin (cfgM m hO).N) (h : Fin 2) (r : Fin 16) (hr : r.val < 4) (d : Fin 128) :
    attended m hO c t h r d = AttnRefIdeal.Read.val_main_v92 (F := Ideal) (table m c) (query m c) (chosen m c) (fresh m c) (coarse m c) (gates m c) (window m c) (cache m c)
      (ix4 (batch m hO t) h r d) := by
  rw [Reference.v92_at _ _ _ _ _ _ _ _ _ h r hr d, ← selected_eq m c hO hg t h r hr d, ← window_eq m c hO hg t h r hr d]
  unfold attended headOut
  rw [coarse_in m c hO t h r hr d, gates_in m c hO t _ 0 h ⟨r.val, hr⟩ (by show 4 * h.val + r.val = 8 * 0 + 4 * h.val + r.val; omega),
    gates_in m c hO t _ 1 h ⟨r.val, hr⟩ rfl, gates_in m c hO t _ 2 h ⟨r.val, hr⟩ rfl]

theorem winNext_lo (x2 : FVec Ideal S1x3x512 .f32) (x5 : FVec Ideal S1x2048x128 .f32) (i : Fin 2048) (d : Fin 128) (h : i.val < 2044) :
    winNext x2 x5 i d = x5 (ix3 0 ⟨i.val + 4, by omega⟩ d) := by unfold winNext; rw [dif_pos h]

theorem winNext_hi (x2 : FVec Ideal S1x3x512 .f32) (x5 : FVec Ideal S1x2048x128 .f32) (i : Fin 2048) (d : Fin 128) (h : ¬ i.val < 2044) :
    winNext x2 x5 i d = lanesOf x2 2 ⟨i.val - 2044, by omega⟩ (ix3 0 0 d) := by unfold winNext; rw [dif_neg h]

/-- The second result. -/
theorem moved_eq (hO : Ok m) (t : Fin (cfgM m hO).N) (i : Fin 2048) (d : Fin 128) :
    moved m hO c t i d = AttnRefIdeal.Read.val_main_v94 (F := Ideal) (fresh m c) (window m c) (ix3 (batch m hO t) i d) := by
  rw [Reference.v94_at]
  unfold winRow
  by_cases h : i.val < 2044
  · refine (winNext_lo _ _ i d h).trans (Eq.trans ?_ (dif_pos (show 1 + i.val / 4 < 512 by omega)).symm)
    refine window_in m c hO t _ d _ _ _ ?_
    show i.val + 4 = 4 * (1 + i.val / 4) + 2 * (i.val / 2 % 2) + i.val % 2
    omega
  · refine (winNext_hi _ _ i d h).trans (Eq.trans ?_ (dif_neg (show ¬ 1 + i.val / 4 < 512 by omega)).symm)
    refine fresh_in m c hO t 2 _ d _ _ ?_
    show i.val - 2044 = 2 * (i.val / 2 % 2) + i.val % 2
    omega

end Cert.Compare
end
-- ==== Proof.Value.lean ====
/- The two runs' results: the launch's from its blocks, the reference's from its stages, and their equality where the mask is set. -/
module

public import proofs.«01_k».proof.Proof.Final
public import proofs.«01_k».proof.Proof.Compare
public import proofs.«01_k».proof.Proof.Gen.AttnRefIdeal.Run
public import proofs.«01_k».proof.Proof.Gen.AttnRefIdeal.Read
public import proofs.«01_k».proof.Proof.Gen.On_query_rows
public import Idealize.ShloMosaic.Lib.Claim
public import Idealize.ShloMosaic.Lib.Pipeline.ValueKit

@[expose] public section

set_option maxRecDepth 16384

noncomputable section

open Idealize.ShloMosaic Idealize.ShloMosaic.TcCoe Idealize.SL.Sem

namespace Cert.Value

open Cert.AttnIdeal Cert.AttnIdeal.Gen Cert.Final Cert.Blocks

/-- The mask of the first result is set at the first four of the sixteen rows. -/
theorem row_lt (x0 : IVec AttnRefIdeal.S128x16 32) (x1 : FVec Ideal AttnRefIdeal.S128x8x128 .f32) (x2 : FVec Ideal AttnRefIdeal.S128x2x128 .f32)
    (x3 : FVec Ideal AttnRefIdeal.S128x3x2x2x128 .f32) (x4 : FVec Ideal AttnRefIdeal.S128x8x128 .f32) (x5 : FVec Ideal AttnRefIdeal.S128x3x2x4 .f32)
    (x6 : FVec Ideal AttnRefIdeal.S128x512x2x2x128 .f32) (x7 : FVec Ideal AttnRefIdeal.S2560x128x2x2x128 .f32)
    (i : Cert.On_query_rows.S128x2x16x128.Idx)
    (h : (Cert.On_query_rows.fn (F := Ideal) x0 x1 x2 x3 x4 x5 x6 x7).1 i = 1#1) : (i 2).val < 4 := by
  have key : ∀ r : Fin 16, IntOp.cmpi .slt (BitVec.ofNat 32 r.val) 4#32 = 1#1 → r.val < 4 := by decide
  exact key (i 2) h

/-- The launch's two result arrays. -/
theorem kernel_run (m : (ℓ : Loc nD τ sig) → Buf (Elt Ideal) ℓ) (ρ : Dev nD → PrngReg) (hO : Ok m) :
    θ_run defs (onTc (τ := τ) (main (F := Ideal))) ⟨m, fun _ => 0, ρ⟩ (fun r => ∀ c : Dev nD,
      r.2.mem ((c.tc : Thread nD τ).loc main_v9_0) = attendedArr m hO c
      ∧ r.2.mem ((c.tc : Thread nD τ).loc main_v9_1) = movedArr m hO c) :=
  (θ_run defs _ _).mono (fun r h c => ⟨(Pipeline.FramePost.out_eq h c 22).trans (final_22 m hO c), (Pipeline.FramePost.out_eq h c 23).trans (final_23 m hO c)⟩)
    (run_main m ρ hO)

theorem v92_of {x0 y0 : IVec AttnRefIdeal.S128x16 32} {x1 y1 : FVec Ideal AttnRefIdeal.S128x8x128 .f32} {x2 y2 : FVec Ideal AttnRefIdeal.S128x2x128 .f32}
    {x3 y3 : FVec Ideal AttnRefIdeal.S128x3x2x2x128 .f32} {x4 y4 : FVec Ideal AttnRefIdeal.S128x8x128 .f32} {x5 y5 : FVec Ideal AttnRefIdeal.S128x3x2x4 .f32}
    {x6 y6 : FVec Ideal AttnRefIdeal.S128x512x2x2x128 .f32} {x7 y7 : FVec Ideal AttnRefIdeal.S2560x128x2x2x128 .f32}
    (h0 : x0 = y0) (h1 : x1 = y1) (h2 : x2 = y2) (h3 : x3 = y3) (h4 : x4 = y4) (h5 : x5 = y5) (h6 : x6 = y6) (h7 : x7 = y7) :
    AttnRefIdeal.Read.val_main_v92 (F := Ideal) x0 x1 x2 x3 x4 x5 x6 x7 = AttnRefIdeal.Read.val_main_v92 (F := Ideal) y0 y1 y2 y3 y4 y5 y6 y7 := by
  subst h0; subst h1; subst h2; subst h3; subst h4; subst h5; subst h6; subst h7; rfl

theorem v94_of {x3 y3 : FVec Ideal AttnRefIdeal.S128x3x2x2x128 .f32} {x6 y6 : FVec Ideal AttnRefIdeal.S128x512x2x2x128 .f32}
    (h3 : x3 = y3) (h6 : x6 = y6) :
    AttnRefIdeal.Read.val_main_v94 (F := Ideal) x3 x6 = AttnRefIdeal.Read.val_main_v94 (F := Ideal) y3 y6 := by
  subst h3; subst h6; rfl

/-- The launch's first result at a query row is the reference's. -/
theorem attended_stage (m : (ℓ : Loc nD τ sig) → Buf (Elt Ideal) ℓ) (hO : Ok m) (c : Dev nD) (hg : Compare.Good m c)
    (i : S128x2x16x128.Idx) (hr : (i 2).val < 4) :
    attendedArr m hO c i = AttnRefIdeal.Read.val_main_v92 (F := Ideal) (Compare.table m c) (Compare.query m c) (Compare.chosen m c) (Compare.fresh m c)
      (Compare.coarse m c) (Compare.gates m c) (Compare.window m c) (Compare.cache m c) i := by
  refine (Compare.attended_eq m c hO hg (point m hO (i 0)) (i 1) (i 2) hr (i 3)).trans (congrArg _ ?_)
  funext a; fin_cases a <;> rfl

/-- The launch's second result is the reference's. -/
theorem moved_stage (m : (ℓ : Loc nD τ sig) → Buf (Elt Ideal) ℓ) (hO : Ok m) (c : Dev nD) (i : S128x2048x128.Idx) :
    movedArr m hO c i = AttnRefIdeal.Read.val_main_v94 (F := Ideal) (Compare.fresh m c) (Compare.window m c) i := by
  refine (Compare.moved_eq m c hO (point m hO (i 0)) (i 1) (i 2)).trans (congrArg _ ?_)
  funext a; fin_cases a <;> rfl

end Cert.Value
end
-- ==== Proof.DownRun.lean ====
/- One grid point of the down projection: what the loop over the weight block leaves in the scratch buffer, and the body's
   triple at the points that refill the scratch buffer and at those that do not. -/
module

public import proofs.«01_k».proof.Proof.Gen.DownIdeal.Frame.Runs
public import Idealize.ShloMosaic.Lib.WritesUnit
public import Idealize.ShloMosaic.Lib.WholeRead
public import Idealize.ShloMosaic.Lib.VecWindow
public import Idealize.ShloMosaic.Lib.Pointwise

@[expose] public section

set_option maxRecDepth 16384

noncomputable section

namespace Cert.DownIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The weight block rounded to bf16, as the scratch buffer holds it. -/
def narrow (x : Vec F S5632x256 .f32) : Vec F S5632x256 .bf16 := truncf .bf16 x bitsLt_bf16_f32

theorem pay1_eq (v : Vec F S256x256 .f32) : k0_pay1 v = truncf .bf16 v bitsLt_bf16_f32 := by
  unfold k0_pay1
  exact shapeCast_self _ _

/-- A trip's one store: 256 rows of the weight block, rounded. -/
theorem piece_eq (𝒱 : Variants) (c : Dev nD) (bd : Option 𝒱.V) (i : grid0.Coords) (arg2 : Memref sig .tc .vmem S512x5632 .bf16) (harg2 : arg2.IsWhole) (arg3 : Memref sig .tc .vmem S5632x256 .f32) (harg3 : arg3.IsWhole)
    (arg4 : Memref sig .tc .vmem S512x256 .f32) (harg4 : arg4.IsWhole) (arg5 : Memref sig .tc .vmem S512x256 .f32) (harg5 : arg5.IsWhole)
    (arg6 : Memref sig .tc .vmem S5632x256 .bf16) (harg6 : arg6.IsWhole)
    (h1 : k0_cond1 i = 1#1) (X : BufTy.Contents (Elt F) arg3.view.ty) (k : Fin k0_t1_loop.trips) :
    tripL_k0_t1 (F := F) 𝒱 c bd i arg2 harg2 arg3 harg3 arg4 harg4 arg5 harg5 arg6 harg6 h1 X k
      = [⟨Rect.unit (s := S5632x256) (k0_off1 k) S256x256.size (k0_off1_inb i k h1),
          k0_pay1 (View.readAt (Elt F) arg3.view (Rect.unit (s := S5632x256) (k0_off1 k) S256x256.size (k0_off1_inb i k h1)).toLoadRect X)⟩] := by
  unfold tripL_k0_t1 trip_k0_t1
  rfl

/-- Below the rows of the trips done so far the scratch buffer holds the rounded weight block. -/
theorem read_pb (𝒱 : Variants) (c : Dev nD) (bd : Option 𝒱.V) (i : grid0.Coords) (arg2 : Memref sig .tc .vmem S512x5632 .bf16) (harg2 : arg2.IsWhole) (arg3 : Memref sig .tc .vmem S5632x256 .f32) (harg3 : arg3.IsWhole)
    (arg4 : Memref sig .tc .vmem S512x256 .f32) (harg4 : arg4.IsWhole) (arg5 : Memref sig .tc .vmem S512x256 .f32) (harg5 : arg5.IsWhole)
    (arg6 : Memref sig .tc .vmem S5632x256 .bf16) (harg6 : arg6.IsWhole)
    (h1 : k0_cond1 i = 1#1) (x : Vec F S5632x256 .f32) (f : BufTy.Contents (Elt F) arg6.view.ty) (n : ℕ) (hn : n ≤ k0_t1_loop.trips)
    (y : S5632x256.Idx) (hy : (y 0).val < 256 * n) :
    arg6.view.read (Elt F) (arg6.view.writes (Elt F) f (pb_k0_t1 (F := F) 𝒱 c bd i arg2 harg2 arg3 harg3 arg4 harg4 arg5 harg5 arg6 harg6 h1 (harg3.unread x) n)) y
      = narrow x y := by
  induction n with
  | zero => omega
  | succ n ih =>
    have hk : n < k0_t1_loop.trips := hn
    have e := (pb_k0_t1_succ (F := F) 𝒱 c bd i arg2 harg2 arg3 harg3 arg4 harg4 arg5 harg5 arg6 harg6 h1 (harg3.unread x) ⟨n, hk⟩).trans
      (congrArg (· ++ _) (piece_eq (F := F) 𝒱 c bd i arg2 harg2 arg3 harg3 arg4 harg4 arg5 harg5 arg6 harg6 h1 (harg3.unread x) ⟨n, hk⟩))
    refine (congrArg (fun L => arg6.view.read (Elt F) (arg6.view.writes (Elt F) f L) y) e).trans ?_
    by_cases h : 256 * n ≤ (y 0).val
    · have hlt : (y 0).val - 256 * n < 256 := by omega
      refine (View.read_writes_cons_unit_of_mem arg6.view f _ _ _ y (ix2 ⟨(y 0).val - 256 * n, hlt⟩ ⟨(y 1).val, (y 1).isLt⟩ : S256x256.Idx)
        (k0_off1_eq ⟨n, hk⟩) ?_).trans ?_
      · intro a
        fin_cases a
        · show (y 0).val = 256 * n + ((y 0).val - 256 * n)
          omega
        · show (y 1).val = 0 + (y 1).val
          omega
      · rw [pay1_eq]
        refine congrArg (fun z => FloatOps.truncf .bf16 bitsLt_bf16_f32 z) ?_
        rw [Memref.IsWhole.readAt_unread]
        refine congrArg x (funext fun a => Fin.ext ?_)
        have e0 := congrFun (k0_off1_eq ⟨n, hk⟩) a
        fin_cases a
        · show k0_off1 ⟨n, hk⟩ 0 + 1 * ((y 0).val - 256 * n) = (y 0).val
          have e0' : k0_off1 ⟨n, hk⟩ 0 = 256 * n := e0
          omega
        · show k0_off1 ⟨n, hk⟩ 1 + 1 * (y 1).val = (y 1).val
          have e0' : k0_off1 ⟨n, hk⟩ 1 = 0 := e0
          omega
    · refine (View.read_writes_cons_unit_of_not_mem arg6.view f _ _ _ y (k0_off1_eq ⟨n, hk⟩) 0 (Or.inl ?_)).trans (ih (by omega) (by omega))
      show (y 0).val < 256 * n
      omega

/-- After the loop the scratch buffer holds the rounded weight block. -/
theorem read_all (𝒱 : Variants) (c : Dev nD) (bd : Option 𝒱.V) (i : grid0.Coords) (arg2 : Memref sig .tc .vmem S512x5632 .bf16) (harg2 : arg2.IsWhole) (arg3 : Memref sig .tc .vmem S5632x256 .f32) (harg3 : arg3.IsWhole)
    (arg4 : Memref sig .tc .vmem S512x256 .f32) (harg4 : arg4.IsWhole) (arg5 : Memref sig .tc .vmem S512x256 .f32) (harg5 : arg5.IsWhole)
    (arg6 : Memref sig .tc .vmem S5632x256 .bf16) (harg6 : arg6.IsWhole)
    (h1 : k0_cond1 i = 1#1) (x : Vec F S5632x256 .f32) (f : BufTy.Contents (Elt F) arg6.view.ty) :
    arg6.view.read (Elt F) (arg6.view.writes (Elt F) f (pb_k0_t1 (F := F) 𝒱 c bd i arg2 harg2 arg3 harg3 arg4 harg4 arg5 harg5 arg6 harg6 h1 (harg3.unread x) k0_t1_loop.trips))
      = narrow x := by
  funext y
  have ht : k0_t1_loop.trips = 22 := by decide +kernel
  have hy : (y 0).val < 5632 := (y 0).isLt
  exact read_pb 𝒱 c bd i arg2 harg2 arg3 harg3 arg4 harg4 arg5 harg5 arg6 harg6 h1 x f _ (Nat.le_refl _) y (by rw [ht]; omega)

/-- One whole-block store reads back as what was stored. -/
theorem read_store (v : View sig .tc .vmem S512x256 .f32) (f : v.ty.Contents (Elt F)) (w : Vec F S512x256 .f32) :
    v.read (Elt F) (v.writes (Elt F) f [⟨Rect.unit (s := S512x256) ![0, 0] S512x256.size inb_S512x256_S512x256_0_0, w⟩]) = w := by
  funext y
  refine View.read_writes_cons_unit_of_mem v f _ w [] y y rfl fun a => ?_
  fin_cases a
  · show (y 0).val = 0 + (y 0).val
    omega
  · show (y 1).val = 0 + (y 1).val
    omega

set_option maxHeartbeats 1000000 in
/-- The body at a point that refills the scratch buffer. -/
theorem run_fill (c : Dev nD) (i : grid0.Coords) (arg2 : Memref sig .tc .vmem S512x5632 .bf16) (harg2 : arg2.IsWhole) (arg3 : Memref sig .tc .vmem S5632x256 .f32) (harg3 : arg3.IsWhole)
    (arg4 : Memref sig .tc .vmem S512x256 .f32) (harg4 : arg4.IsWhole) (arg5 : Memref sig .tc .vmem S512x256 .f32) (harg5 : arg5.IsWhole)
    (arg6 : Memref sig .tc .vmem S5632x256 .bf16) (harg6 : arg6.IsWhole) (hc0 : cond0_0 i)
    (x0 : Vec F S512x5632 .bf16) (x1 : Vec F S5632x256 .f32) (x2 : Vec F S512x256 .f32) :
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ (∃ d, owns (c : Thread nD τ) arg6 fullShare d)
            ∗ (iprop(owns (c : Thread nD τ) arg2 fullShare x0 ∗ owns (c : Thread nD τ) arg3 fullShare x1 ∗ owns (c : Thread nD τ) arg4 fullShare x2 ∗ owns (c : Thread nD τ) arg5 fullShare (k0_pay2 x0 (narrow x1) x2) ∗ owns (c : Thread nD τ) arg6 fullShare (narrow x1)) -∗ K ⟨⟩))
          ⊢ wp frame (wpE (defs₀ (F := F)) Variants.none c none) E (cc0_body i arg2 harg2 arg3 harg3 arg4 harg4 arg5 harg5 arg6 harg6) K := by
    intro E K
    simp only [cc0_body_eq_skeleton]; unfold cc0_body_skel
    unfold owns
    iintro ⟨⟨%f0, %hf0, H0⟩, ⟨%f1, %hf1, H1⟩, ⟨%f2, %hf2, H2⟩, ⟨%d3, %f3, -, H3⟩, ⟨%ds0, %fs0, -, HS0⟩, Hk⟩
    obtain rfl := harg2.eq_unread hf0; obtain rfl := harg3.eq_unread hf1; obtain rfl := harg4.eq_unread hf2
    sl_exec (disch := first | sl_exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; swap; · iexact H3
      ipureintro
      refine (read_store arg5.view f3 _).trans ?_
      rw [View.readAt_full, View.readAt_full, View.readAt_full, harg2.read_unread, harg4.read_unread, read_all]
    iexists _; isplitr; swap; · iexact HS0
    ipureintro
    exact read_all Variants.none c none i arg2 harg2 arg3 harg3 arg4 harg4 arg5 harg5 arg6 harg6 hc0 x1 fs0

set_option maxHeartbeats 1000000 in
/-- The body at a point that keeps the scratch buffer. -/
theorem run_keep (c : Dev nD) (i : grid0.Coords) (arg2 : Memref sig .tc .vmem S512x5632 .bf16) (harg2 : arg2.IsWhole) (arg3 : Memref sig .tc .vmem S5632x256 .f32) (harg3 : arg3.IsWhole)
    (arg4 : Memref sig .tc .vmem S512x256 .f32) (harg4 : arg4.IsWhole) (arg5 : Memref sig .tc .vmem S512x256 .f32) (harg5 : arg5.IsWhole)
    (arg6 : Memref sig .tc .vmem S5632x256 .bf16) (harg6 : arg6.IsWhole) (hc0 : ¬cond0_0 i)
    (x0 : Vec F S512x5632 .bf16) (x1 : Vec F S5632x256 .f32) (x2 : Vec F S512x256 .f32) (w : Vec F S5632x256 .bf16) :
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ owns (c : Thread nD τ) arg6 fullShare w
            ∗ (iprop(owns (c : Thread nD τ) arg2 fullShare x0 ∗ owns (c : Thread nD τ) arg3 fullShare x1 ∗ owns (c : Thread nD τ) arg4 fullShare x2 ∗ owns (c : Thread nD τ) arg5 fullShare (k0_pay2 x0 w x2) ∗ owns (c : Thread nD τ) arg6 fullShare w) -∗ K ⟨⟩))
          ⊢ wp frame (wpE (defs₀ (F := F)) Variants.none c none) E (cc0_body i arg2 harg2 arg3 harg3 arg4 harg4 arg5 harg5 arg6 harg6) K := by
    intro E K
    simp only [cc0_body_eq_skeleton]; unfold cc0_body_skel
    unfold owns
    iintro ⟨⟨%f0, %hf0, H0⟩, ⟨%f1, %hf1, H1⟩, ⟨%f2, %hf2, H2⟩, ⟨%d3, %f3, -, H3⟩, ⟨%fs0, %hs0, HS0⟩, Hk⟩
    obtain rfl := harg2.eq_unread hf0; obtain rfl := harg3.eq_unread hf1; obtain rfl := harg4.eq_unread hf2; obtain rfl := harg6.eq_unread hs0
    sl_exec (disch := first | sl_exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; swap; · iexact H3
      ipureintro
      refine (read_store arg5.view f3 _).trans ?_
      rw [View.readAt_full, View.readAt_full, View.readAt_full, harg2.read_unread, harg4.read_unread, harg6.read_unread]
    iexists _; isplitr; swap; · iexact HS0
    ipureintro
    exact harg6.read_unread _

end Cert.DownIdeal.Gen

end
-- ==== Proof.DownFrame.lean ====
/- The launch of the down projection: the pipeline's proof data with the scratch buffer tracked from point to point, the body
   obligation, the run of the whole program and the frame. -/
module

public import proofs.«01_k».proof.Proof.DownRun
public import Idealize.ShloMosaic.Lib.Pipeline.ValueKit
public import Idealize.ShloMosaic.Lib.Claim

@[expose] public section

set_option maxRecDepth 16384

noncomputable section

namespace Cert.DownIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The two grid coordinates of a point: the column block of the weight, and the row block. -/
theorem coord_col (t : Fin cfg0.N) : (BitVec.ofNat 32 (grid0.coords t 0).val).toNat = t.val / 16 := by
  have ht : t.val < 128 := Nat.lt_of_lt_of_eq t.isLt N_0
  have e0 : (grid0.coords t 0).val = t.val / 16 % 8 := Pipeline.Grid.coords_val t 0 (by decide) rfl
  rw [e0, BitVec.toNat_ofNat]; omega

theorem coord_row (t : Fin cfg0.N) : (BitVec.ofNat 32 (grid0.coords t 1).val).toNat = t.val % 16 := by
  have ht : t.val < 128 := Nat.lt_of_lt_of_eq t.isLt N_0
  have e1 : (grid0.coords t 1).val = t.val / 1 % 16 := Pipeline.Grid.coords_val t 1 (by decide) rfl
  rw [e1, BitVec.toNat_ofNat]; omega

theorem coord_col' (t : Fin cfg0.N) : (Scalar.addi (BitVec.ofNat 32 (grid0.coords t 0).val) 0#32).toNat = t.val / 16 := by
  refine (congrArg BitVec.toNat (show Scalar.addi (BitVec.ofNat 32 (grid0.coords t 0).val) 0#32 = BitVec.ofNat 32 (grid0.coords t 0).val + 0#32 from rfl)).trans ?_
  rw [BitVec.add_zero]
  exact coord_col t

/-- The weight block at a point: all rows, the 256 columns of the point's column block. -/
theorem iblk1_at (c : Dev nD) (t : Fin cfg0.N) (y : S5632x256.Idx) (hb : 256 * (t.val / 16) + (y 1).val < 2048) :
    (iblk m c 1 t : S5632x256.Idx → Elt F .f32) y
      = (V m c main_arg2 : S5632x2048.Idx → Elt F .f32) (ix2 ⟨(y 0).val, (y 0).isLt⟩ ⟨256 * (t.val / 16) + (y 1).val, hb⟩) := by
  have ht := coord_col' t
  refine congrArg (V m c main_arg2 : S5632x2048.Idx → Elt F .f32) (funext fun a => Fin.ext ?_)
  refine (ValueKit.view_emb_slice_whole_unit_val main_arg2 _ _ _ _ a).trans ?_
  fin_cases a
  · show 0 * 5632 + (y 0).val = (y 0).val
    omega
  · show (Scalar.addi (BitVec.ofNat 32 (grid0.coords t 0).val) 0#32).toNat * 256 + (y 1).val = 256 * (t.val / 16) + (y 1).val
    omega

theorem col_lt (t : Fin cfg0.N) (y : S5632x256.Idx) : 256 * (t.val / 16) + (y 1).val < 2048 := by
  have ht : t.val < 128 := Nat.lt_of_lt_of_eq t.isLt N_0
  have hy : (y 1).val < 256 := (y 1).isLt
  omega

/-- The weight block stays the same from a point to the next unless the next starts a column block. -/
theorem iblk1_same (c : Dev nD) (t t' : Fin cfg0.N) (h : t'.val = t.val + 1) (h0 : t'.val % 16 ≠ 0) :
    iblk m c 1 t' = iblk m c 1 t := by
  funext y
  refine (iblk1_at m c t' y (col_lt t' y)).trans (Eq.trans ?_ (iblk1_at m c t y (col_lt t y)).symm)
  have e : t'.val / 16 = t.val / 16 := by omega
  refine congrArg (V m c main_arg2 : S5632x2048.Idx → Elt F .f32) (funext fun a => Fin.ext ?_)
  fin_cases a
  · rfl
  · show 256 * (t'.val / 16) + (y 1).val = 256 * (t.val / 16) + (y 1).val
    rw [e]

/-! ## The pipeline's proof data -/

/-- What is known before point `k`: unless the point starts a column block the scratch buffer holds its weight block, rounded. -/
def PhiS (c : Dev nD) (k : ℕ) : sProp 𝕄 :=
  iprop((∃ d, owns (c : Thread nD τ) scM0_0 fullShare d ∗ ⌜∀ t : Fin cfg0.N, t.val = k → t.val % 16 ≠ 0 → d = narrow (iblk m c 1 t)⌝) ∗ (∃ r, prngReg c r))

/-- The proof data: the arrays as launched, each input's buffer at its block, the output's at the block's sum. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => k0_pay2 (iblk m c 0 t) (narrow (iblk m c 1 t)) (iblk m c 2 t)
  Φ t := PhiS m c t.val
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) :
    (dats m 0 c).after 3 t = k0_pay2 (iblk m c 0 t) (narrow (iblk m c 1 t)) (iblk m c 2 t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d)))

def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t))

set_option maxHeartbeats 800000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2]
  rw [show (dats m 0 c).owesAt () t.succ = (dats m 0 c).owesAt () t.castSucc from rfl,
    after0_0, after0_1, after0_2, after0_3]
  rw [show (dats m 0 c).Φ t.castSucc = PhiS m c t.val from rfl, show (dats m 0 c).Φ t.succ = PhiS m c (t.val + 1) from rfl]
  unfold PhiS
  have hN : t.val < 128 := lt_of_lt_of_eq t.isLt (show cfg0.N = 128 from N_0)
  have next : ∀ t' : Fin cfg0.N, t'.val = t.val + 1 → t'.val % 16 ≠ 0 → narrow (iblk m c 1 t) = narrow (iblk m c 1 t') :=
    fun t' h h0 => congrArg narrow (iblk1_same m c t t' h h0).symm
  by_cases h0 : t.val % 16 = 0
  · iintro ⟨⟨⟨%ds, HS0, -⟩, Hg⟩, Ho, ⟨%d0, H0⟩, ⟨%d1, H1⟩, ⟨%d2, H2⟩, ⟨%d3, H3⟩⟩
    iapply ((run_fill c (grid0.coords t) _ _ _ _ _ _ _ _ _ _ ((hcond0_0 t).mpr h0) (iblk m c 0 t) (iblk m c 1 t) (iblk m c 2 t)) Set.univ _)
    isplitl [H0]; · iexact H0
    isplitl [H1]; · iexact H1
    isplitl [H2]; · iexact H2
    isplitl [H3]; · iexists _; iexact H3
    isplitl [HS0]; · iexists _; iexact HS0
    iintro ⟨H0, H1, H2, H3, HS0⟩
    isplitl [HS0 Hg]
    · isplitl [HS0]
      · iexists _; isplitl [HS0]; · iexact HS0
        ipureintro; exact next
      iexact Hg
    isplitl [Ho]; · iexact Ho
    isplitl [H0]; · iexact H0
    isplitl [H1]; · iexact H1
    isplitl [H2]; · iexact H2
    iexact H3
  · iintro ⟨⟨⟨%ds, HS0, %hds⟩, Hg⟩, Ho, ⟨%d0, H0⟩, ⟨%d1, H1⟩, ⟨%d2, H2⟩, ⟨%d3, H3⟩⟩
    obtain rfl := hds t rfl h0
    iapply ((run_keep c (grid0.coords t) _ _ _ _ _ _ _ _ _ _ (fun h => h0 ((hcond0_0 t).mp h)) (iblk m c 0 t) (iblk m c 1 t) (iblk m c 2 t) (narrow (iblk m c 1 t))) Set.univ _)
    isplitl [H0]; · iexact H0
    isplitl [H1]; · iexact H1
    isplitl [H2]; · iexact H2
    isplitl [H3]; · iexists _; iexact H3
    isplitl [HS0]; · iexact HS0
    iintro ⟨H0, H1, H2, H3, HS0⟩
    isplitl [HS0 Hg]
    · isplitl [HS0]
      · iexists _; isplitl [HS0]; · iexact HS0
        ipureintro; exact next
      iexact Hg
    isplitl [Ho]; · iexact Ho
    isplitl [H0]; · iexact H0
    isplitl [H1]; · iexact H1
    isplitl [H2]; · iexact H2
    iexact H3

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

theorem phi_in (c : Dev nD) : (Pipeline.ΦA spec0 c : sProp 𝕄) ⊢ PhiS m c 0 := by
  rw [PhiA0_eq]
  unfold PhiS
  iintro ⟨⟨%d, HS0⟩, Hg⟩
  isplitl [HS0]
  · iexists _; isplitl [HS0]; · iexact HS0
    ipureintro
    intro t h h0
    exact absurd (by rw [h]) h0
  iexact Hg

theorem phi_out (c : Dev nD) (k : ℕ) : PhiS m c k ⊢ (Pipeline.ΦA spec0 c : sProp 𝕄) := by
  rw [PhiA0_eq]
  unfold PhiS
  iintro ⟨⟨%d, HS0, -⟩, Hg⟩
  isplitl [HS0]
  · iexists _; iexact HS0
  iexact Hg

set_option backward.isDefEq.respectTransparency.types false in
/-- The launch: the arrays at what the proof data says, every counter at zero. -/
theorem run_main_quiescent : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m)
    (hin := fun c => phi_in m c) (hout := fun c => phi_out m c _)

theorem run_main : θ_run defs (onTc (τ := τ) (main (F := F))) (s₀ m ρ) (Pipeline.FramePost cfgs (dats m) 0 (V m)) :=
  (θ_run defs _ _).mono (fun _ h => h.1) (run_main_quiescent m ρ)

/-- The argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => ⟨((h c).1 2).trans (((dats m 0 c).arrAt_in 2 rfl _).trans ((A_eq m c 2).trans (V_main_arg0 m c))),
      ((h c).1 0).trans (((dats m 0 c).arrAt_in 0 rfl _).trans ((A_eq m c 0).trans (V_main_arg1 m c))),
      ((h c).1 1).trans (((dats m 0 c).arrAt_in 1 rfl _).trans ((A_eq m c 1).trans (V_main_arg2 m c)))⟩) (run_main m ρ)

/-- The frame. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (unchanged m ρ) ((θ_run defs _ _).mono (fun _ h => h.2) (run_main_quiescent m ρ))

end Cert.DownIdeal.Gen

end
-- ==== Proof.DownValue.lean ====
/- The down projection's result: the launch's from its blocks, the reference's from its product, and their equality. -/
module

public import proofs.«01_k».proof.Proof.DownFrame
public import proofs.«01_k».proof.Proof.Value
public import proofs.«01_k».proof.Proof.Gen.DownRefIdeal.Run
public import Idealize.ShloMosaic.Lib.KernelVsHost
public import Idealize.ShloMosaic.Lib.StackMember

@[expose] public section

set_option maxRecDepth 16384

noncomputable section

open Idealize.ShloMosaic Idealize.ShloMosaic.TcCoe Idealize.SL.Sem

namespace Cert.DownValue

open Cert.DownIdeal Cert.DownIdeal.Gen

/-- One entry of the result: the residual plus a row of the hidden activations times a column of the weight. -/
def entry (x : S8192x2048.Idx → EReal) (h : S8192x5632.Idx → EReal) (w : S5632x2048.Idx → EReal) (i : Fin 8192) (j : Fin 2048) : EReal :=
  x (ix2 i j) + ∑ k : Fin 5632, h (ix2 i k) * w (ix2 k j)

/-- A block's sum at an entry. -/
theorem block_apply (x0 : FVec Ideal S512x5632 .bf16) (w : FVec Ideal S5632x256 .bf16) (x2 : FVec Ideal S512x256 .f32) (r : Fin 512) (d : Fin 256) :
    k0_pay2 (F := Ideal) x0 w x2 (ix2 r d) = (x2 (ix2 r d) : EReal) + ∑ k : Fin 5632, (x0 (ix2 r k) : EReal) * (w (ix2 k d) : EReal) := by
  unfold k0_pay2
  show (x2 (ix2 r d) : EReal) + matmul (F := Ideal) dot_S512x5632_S5632x256_S512x256_1_0_0_1_n_n none x0 w (constant S512x256 .f32 0x00000000#32) (ix2 r d) = _
  rw [matmul_zero_eq_dotGeneral]
  exact congrArg _ (StackMember.dotGeneral_plain_apply none x0 w r d)

variable (m : (ℓ : Loc nD τ sig) → Buf (Elt Ideal) ℓ)

theorem t_lt (t : Fin cfg0.N) : t.val < 128 := Nat.lt_of_lt_of_eq t.isLt N_0

def rowOf (t : Fin cfg0.N) (r : Fin 512) : Fin 8192 := ⟨512 * (t.val % 16) + r.val, by omega⟩
def colOf (t : Fin cfg0.N) (d : Fin 256) : Fin 2048 := ⟨256 * (t.val / 16) + d.val, by have := t_lt t; omega⟩

theorem hidden_blk (c : Dev nD) (t : Fin cfg0.N) (r : Fin 512) (k : Fin 5632) :
    (iblk m c 0 t : S512x5632.Idx → EReal) (ix2 r k) = (V m c main_arg1 : S8192x5632.Idx → EReal) (ix2 (rowOf t r) k) := by
  have ht := coord_row t
  refine congrArg (V m c main_arg1 : S8192x5632.Idx → EReal) (funext fun a => Fin.ext ?_)
  refine (ValueKit.view_emb_slice_whole_unit_val main_arg1 _ _ _ _ a).trans ?_
  fin_cases a
  · show (BitVec.ofNat 32 (grid0.coords t 1).val).toNat * 512 + r.val = 512 * (t.val % 16) + r.val
    omega
  · show 0 * 5632 + k.val = k.val
    omega

theorem weight_blk (c : Dev nD) (t : Fin cfg0.N) (k : Fin 5632) (d : Fin 256) :
    (iblk m c 1 t : S5632x256.Idx → EReal) (ix2 k d) = (V m c main_arg2 : S5632x2048.Idx → EReal) (ix2 k (colOf t d)) :=
  iblk1_at m c t (ix2 k d) (colOf t d).isLt

theorem residual_blk (c : Dev nD) (t : Fin cfg0.N) (r : Fin 512) (d : Fin 256) :
    (iblk m c 2 t : S512x256.Idx → EReal) (ix2 r d) = (V m c main_arg0 : S8192x2048.Idx → EReal) (ix2 (rowOf t r) (colOf t d)) := by
  have ht := coord_row t
  have hs := coord_col t
  refine congrArg (V m c main_arg0 : S8192x2048.Idx → EReal) (funext fun a => Fin.ext ?_)
  refine (ValueKit.view_emb_slice_whole_unit_val main_arg0 _ _ _ _ a).trans ?_
  fin_cases a
  · show (BitVec.ofNat 32 (grid0.coords t 1).val).toNat * 512 + r.val = 512 * (t.val % 16) + r.val
    omega
  · show (BitVec.ofNat 32 (grid0.coords t 0).val).toNat * 256 + d.val = 256 * (t.val / 16) + d.val
    omega

theorem covers_3 : (cfg0.win 3).Covers := by
  refine Pipeline.Window.covers_of_indexMap_surj _ rfl (fun a => ?_) fun β => ?_
  · fin_cases a
    · show 0 < 512; omega
    · show 0 < 256; omega
  · have h0 : (β (0 : Fin 2)).val < (8192 + 512 - 1) / 512 := (β (0 : Fin 2)).isLt
    have h1 : (β (1 : Fin 2)).val < (2048 + 256 - 1) / 256 := (β (1 : Fin 2)).isLt
    refine ⟨fun a => match a with
      | ⟨0, _⟩ => ⟨(β (1 : Fin 2)).val, by show _ < 8; omega⟩
      | ⟨1, _⟩ => ⟨(β (0 : Fin 2)).val, by show _ < 16; omega⟩, fun a => ?_⟩
    fin_cases a
    · show (BitVec.ofNat 32 (β (0 : Fin 2)).val).toNat = (β (0 : Fin 2)).val
      rw [BitVec.toNat_ofNat]; omega
    · show (BitVec.ofNat 32 (β (1 : Fin 2)).val).toNat = (β (1 : Fin 2)).val
      rw [BitVec.toNat_ofNat]; omega

/-- The result array. -/
def sumArr (c : Dev nD) : S8192x2048.Idx → EReal := fun j => entry (V m c main_arg0) (V m c main_arg1) (V m c main_arg2) (j 0) (j 1)

theorem sumArr_at (c : Dev nD) (i : Fin 8192) (k : Fin 2048) (j : S8192x2048.Idx) (e : ∀ a, (j a).val = (ix2 i k a : Fin _).val) :
    entry (V m c main_arg0) (V m c main_arg1) (V m c main_arg2) i k = sumArr m c j := by
  rw [show j = ix2 i k from funext fun a => Fin.ext (e a)]
  rfl

theorem after_at (c : Dev nD) (t : Fin cfg0.N) (y : S512x256.Idx) :
    ((dats m 0 c).after 3 t : S512x256.Idx → EReal) y = entry (V m c main_arg0) (V m c main_arg1) (V m c main_arg2) (rowOf t (y 0)) (colOf t (y 1)) := by
  rw [after0_3, show y = ix2 (y 0) (y 1) from funext fun a => by fin_cases a <;> rfl]
  refine (block_apply _ _ _ (y 0) (y 1)).trans ?_
  refine congrArg₂ (· + ·) (residual_blk m c t (y 0) (y 1)) (Finset.sum_congr rfl fun k _ => ?_)
  exact congrArg₂ (· * ·) (hidden_blk m c t (y 0) k) (weight_blk m c t k (y 1))

theorem final_3 (c : Dev nD) : (dats m 0 c).arrAt 3 cfg0.N = sumArr m c := by
  refine (dats m 0 c).arrAt_eq_of_covers 3 _ covers_3 fun t _ y => ?_
  have ht := coord_row t
  have hs := coord_col t
  refine (after_at m c t y).trans (sumArr_at m c _ _ _ fun a => ?_)
  refine (ValueKit.view_emb_slice_whole_unit_val main_v0 _ _ _ y a).trans ?_
  fin_cases a
  · show (BitVec.ofNat 32 (grid0.coords t 1).val).toNat * 512 + (y (0 : Fin 2)).val = 512 * (t.val % 16) + (y (0 : Fin 2)).val
    omega
  · show (BitVec.ofNat 32 (grid0.coords t 0).val).toNat * 256 + (y (1 : Fin 2)).val = 256 * (t.val / 16) + (y (1 : Fin 2)).val
    omega

/-- The launch's result array. -/
theorem kernel_run (ρ : Dev nD → PrngReg) :
    θ_run defs (onTc (τ := τ) (main (F := Ideal))) ⟨m, fun _ => 0, ρ⟩ (fun r => ∀ c : Dev nD,
      r.2.mem ((c.tc : Thread nD τ).loc main_v0) = sumArr m c) :=
  (θ_run defs _ _).mono (fun r h c => (Pipeline.FramePost.out_eq h c 3).trans (final_3 m c)) (run_main m ρ)

/-- The reference's result at an entry. -/
theorem reference_apply (x : FVec Ideal DownRefIdeal.S8192x2048 .f32) (h : FVec Ideal DownRefIdeal.S8192x5632 .bf16)
    (w : FVec Ideal DownRefIdeal.S5632x2048 .f32) (i : DownRefIdeal.S8192x2048.Idx) :
    addf x (Host.dotGeneral DownRefIdeal.dot_S8192x5632_S5632x2048_S8192x2048_1_0_0_1_n_n none (extf .f32 h DownRefIdeal.Gen.bitsLt_bf16_f32) w) i
      = entry x h w (i 0) (i 1) := by
  rw [show i = ix2 (i 0) (i 1) from funext fun a => by fin_cases a <;> rfl]
  exact congrArg (x (ix2 (i 0) (i 1)) + ·) (StackMember.dotGeneral_plain_apply none _ w (i 0) (i 1))

end Cert.DownValue
end
-- ==== Proof.HiddenRun.lean ====
/- One grid point of the hidden activations: what the two loops over the weight blocks leave in the scratch buffers, the rows
   that the convolution reads, and the body's triple at the points that start a column block and at those that go on. -/
module

public import proofs.«01_k».proof.Proof.Gen.HiddenIdeal.Frame.Runs
public import Idealize.ShloMosaic.Lib.WritesUnit
public import Idealize.ShloMosaic.Lib.WholeRead
public import Idealize.ShloMosaic.Lib.VecWindow
public import Idealize.ShloMosaic.Lib.Pointwise

@[expose] public section

set_option maxRecDepth 16384

noncomputable section

namespace Cert.HiddenIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- A weight block rounded to bf16, as its scratch buffer holds it. -/
def narrow (x : Vec F S2048x512 .f32) : Vec F S2048x512 .bf16 := truncf .bf16 x bitsLt_bf16_f32

/-- The eight rows before a row block, then the block's 512 rows. -/
def halo (p : Vec F S8x512 .f32) (g : Vec F S512x512 .f32) : Vec F S520x512 .f32 := fun y =>
  if h : (y 0).val < 8 then p (ix2 ⟨(y 0).val, h⟩ ⟨(y 1).val, (y 1).isLt⟩)
  else g (ix2 ⟨(y 0).val - 8, by have : (y 0).val < 520 := (y 0).isLt; omega⟩ ⟨(y 1).val, (y 1).isLt⟩)

/-- The first eight rows of the halo buffer are `p`. -/
def Heads (z : Vec F S520x512 .f32) (p : Vec F S8x512 .f32) : Prop :=
  ∀ (y : S520x512.Idx) (h : (y 0).val < 8), z y = p (ix2 ⟨(y 0).val, h⟩ ⟨(y 1).val, (y 1).isLt⟩)

/-- The rows of the halo buffer from `k` on. -/
def rows (k : ℕ) (hk : ∀ a, (![k, 0] : Fin 2 → ℕ) a + S512x512.size a ≤ S520x512.size a) (z : Vec F S520x512 .f32) : Vec F S512x512 .f32 :=
  VecWindow.window z ![k, 0] S512x512.size hk

/-- The last eight rows of the gate's product. -/
def tail (x0 : Vec F S512x2048 .bf16) (w1 : Vec F S2048x512 .bf16) : Vec F S8x512 .f32 := k0_pay2 (k0_pay6 x0 w1)

/-- The block of hidden activations. -/
def act (x0 : Vec F S512x2048 .bf16) (w1 w2 : Vec F S2048x512 .bf16) (p : Vec F S8x512 .f32) (x4 : Vec F S8x512 .f32) (x5 : Vec F S1x512 .f32) : Vec F S512x512 .bf16 :=
  k0_pay1 (k0_pay7 x0 w2) (k0_pay10 x0 w1 x4 (rows 6 inb_S520x512_S512x512_6_0 (halo p (k0_pay6 x0 w1))) (rows 7 inb_S520x512_S512x512_7_0 (halo p (k0_pay6 x0 w1))) x5)

theorem pay3_eq (v : FVec F S512x512 .f32) : k0_pay3 v = k0_pay2 v := by
  unfold k0_pay3
  exact shapeCast_self _ _

theorem pay4_eq (v : Vec F S256x512 .f32) : k0_pay4 v = truncf .bf16 v bitsLt_bf16_f32 := by
  unfold k0_pay4
  exact shapeCast_self _ _

theorem pay5_eq (v : Vec F S256x512 .f32) : k0_pay5 v = truncf .bf16 v bitsLt_bf16_f32 := by
  unfold k0_pay5
  exact shapeCast_self _ _

theorem pay8_eq (v : Vec F S8x512 .f32) : k0_pay8 v = v := by
  unfold k0_pay8
  exact (shapeCast_self _ _).trans (shapeCast_self _ _)

theorem pay9_eq (x0 : Vec F S512x2048 .bf16) (w : Vec F S2048x512 .bf16) : k0_pay9 x0 w = k0_pay6 x0 w := by
  unfold k0_pay9
  exact shapeCast_self _ _

/-- A trip's one store: 256 rows of the weight block, rounded. -/
theorem piece_eq1 (𝒱 : Variants) (c : Dev nD) (bd : Option 𝒱.V) (i : grid0.Coords) (arg2 : Memref sig .tc .vmem S512x2048 .bf16) (harg2 : arg2.IsWhole) (arg3 : Memref sig .tc .vmem S2048x512 .f32) (harg3 : arg3.IsWhole)
    (arg4 : Memref sig .tc .vmem S2048x512 .f32) (harg4 : arg4.IsWhole) (arg5 : Memref sig .tc .vmem S8x512 .f32) (harg5 : arg5.IsWhole)
    (arg6 : Memref sig .tc .vmem S8x512 .f32) (harg6 : arg6.IsWhole) (arg7 : Memref sig .tc .vmem S1x512 .f32) (harg7 : arg7.IsWhole)
    (arg8 : Memref sig .tc .vmem S512x512 .bf16) (harg8 : arg8.IsWhole) (arg9 : Memref sig .tc .vmem S8x512 .f32) (harg9 : arg9.IsWhole)
    (arg10 : Memref sig .tc .vmem S2048x512 .bf16) (harg10 : arg10.IsWhole) (arg11 : Memref sig .tc .vmem S2048x512 .bf16) (harg11 : arg11.IsWhole)
    (arg12 : Memref sig .tc .vmem S520x512 .f32) (harg12 : arg12.IsWhole)
    (h1 : k0_cond1 i = 1#1) (X : BufTy.Contents (Elt F) arg3.view.ty) (k : Fin k0_t1_loop.trips) :
    tripL_k0_t1 (F := F) 𝒱 c bd i arg2 harg2 arg3 harg3 arg4 harg4 arg5 harg5 arg6 harg6 arg7 harg7 arg8 harg8 arg9 harg9 arg10 harg10 arg11 harg11 arg12 harg12 h1 X k
      = [⟨Rect.unit (s := S2048x512) (k0_off1 k) S256x512.size (k0_off1_inb i k h1),
          k0_pay4 (View.readAt (Elt F) arg3.view (Rect.unit (s := S2048x512) (k0_off1 k) S256x512.size (k0_off1_inb i k h1)).toLoadRect X)⟩] := by
  unfold tripL_k0_t1 trip_k0_t1
  rfl

/-- Below the rows of the trips done so far the scratch buffer holds the rounded weight block. -/
theorem read_pb1 (𝒱 : Variants) (c : Dev nD) (bd : Option 𝒱.V) (i : grid0.Coords) (arg2 : Memref sig .tc .vmem S512x2048 .bf16) (harg2 : arg2.IsWhole) (arg3 : Memref sig .tc .vmem S2048x512 .f32) (harg3 : arg3.IsWhole)
    (arg4 : Memref sig .tc .vmem S2048x512 .f32) (harg4 : arg4.IsWhole) (arg5 : Memref sig .tc .vmem S8x512 .f32) (harg5 : arg5.IsWhole)
    (arg6 : Memref sig .tc .vmem S8x512 .f32) (harg6 : arg6.IsWhole) (arg7 : Memref sig .tc .vmem S1x512 .f32) (harg7 : arg7.IsWhole)
    (arg8 : Memref sig .tc .vmem S512x512 .bf16) (harg8 : arg8.IsWhole) (arg9 : Memref sig .tc .vmem S8x512 .f32) (harg9 : arg9.IsWhole)
    (arg10 : Memref sig .tc .vmem S2048x512 .bf16) (harg10 : arg10.IsWhole) (arg11 : Memref sig .tc .vmem S2048x512 .bf16) (harg11 : arg11.IsWhole)
    (arg12 : Memref sig .tc .vmem S520x512 .f32) (harg12 : arg12.IsWhole)
    (h1 : k0_cond1 i = 1#1) (x : Vec F S2048x512 .f32) (f : BufTy.Contents (Elt F) arg10.view.ty) (n : ℕ) (hn : n ≤ k0_t1_loop.trips)
    (y : S2048x512.Idx) (hy : (y 0).val < 256 * n) :
    arg10.view.read (Elt F) (arg10.view.writes (Elt F) f (pb_k0_t1 (F := F) 𝒱 c bd i arg2 harg2 arg3 harg3 arg4 harg4 arg5 harg5 arg6 harg6 arg7 harg7 arg8 harg8 arg9 harg9 arg10 harg10 arg11 harg11 arg12 harg12 h1 (harg3.unread x) n)) y
      = narrow x y := by
  induction n with
  | zero => omega
  | succ n ih =>
    have hk : n < k0_t1_loop.trips := hn
    have e := (pb_k0_t1_succ (F := F) 𝒱 c bd i arg2 harg2 arg3 harg3 arg4 harg4 arg5 harg5 arg6 harg6 arg7 harg7 arg8 harg8 arg9 harg9 arg10 harg10 arg11 harg11 arg12 harg12 h1 (harg3.unread x) ⟨n, hk⟩).trans
      (congrArg (· ++ _) (piece_eq1 (F := F) 𝒱 c bd i arg2 harg2 arg3 harg3 arg4 harg4 arg5 harg5 arg6 harg6 arg7 harg7 arg8 harg8 arg9 harg9 arg10 harg10 arg11 harg11 arg12 harg12 h1 (harg3.unread x) ⟨n, hk⟩))
    refine (congrArg (fun L => arg10.view.read (Elt F) (arg10.view.writes (Elt F) f L) y) e).trans ?_
    by_cases h : 256 * n ≤ (y 0).val
    · have hlt : (y 0).val - 256 * n < 256 := by omega
      refine (View.read_writes_cons_unit_of_mem arg10.view f _ _ _ y (ix2 ⟨(y 0).val - 256 * n, hlt⟩ ⟨(y 1).val, (y 1).isLt⟩ : S256x512.Idx)
        (k0_off1_eq ⟨n, hk⟩) ?_).trans ?_
      · intro a
        fin_cases a
        · show (y 0).val = 256 * n + ((y 0).val - 256 * n)
          omega
        · show (y 1).val = 0 + (y 1).val
          omega
      · rw [pay4_eq]
        refine congrArg (fun z => FloatOps.truncf .bf16 bitsLt_bf16_f32 z) ?_
        rw [Memref.IsWhole.readAt_unread]
        refine congrArg x (funext fun a => Fin.ext ?_)
        have e0 := congrFun (k0_off1_eq ⟨n, hk⟩) a
        fin_cases a
        · show k0_off1 ⟨n, hk⟩ 0 + 1 * ((y 0).val - 256 * n) = (y 0).val
          have e0' : k0_off1 ⟨n, hk⟩ 0 = 256 * n := e0
          omega
        · show k0_off1 ⟨n, hk⟩ 1 + 1 * (y 1).val = (y 1).val
          have e0' : k0_off1 ⟨n, hk⟩ 1 = 0 := e0
          omega
    · refine (View.read_writes_cons_unit_of_not_mem arg10.view f _ _ _ y (k0_off1_eq ⟨n, hk⟩) 0 (Or.inl ?_)).trans (ih (by omega) (by omega))
      show (y 0).val < 256 * n
      omega

/-- After the loop the scratch buffer holds the rounded weight block. -/
theorem read_all1 (𝒱 : Variants) (c : Dev nD) (bd : Option 𝒱.V) (i : grid0.Coords) (arg2 : Memref sig .tc .vmem S512x2048 .bf16) (harg2 : arg2.IsWhole) (arg3 : Memref sig .tc .vmem S2048x512 .f32) (harg3 : arg3.IsWhole)
    (arg4 : Memref sig .tc .vmem S2048x512 .f32) (harg4 : arg4.IsWhole) (arg5 : Memref sig .tc .vmem S8x512 .f32) (harg5 : arg5.IsWhole)
    (arg6 : Memref sig .tc .vmem S8x512 .f32) (harg6 : arg6.IsWhole) (arg7 : Memref sig .tc .vmem S1x512 .f32) (harg7 : arg7.IsWhole)
    (arg8 : Memref sig .tc .vmem S512x512 .bf16) (harg8 : arg8.IsWhole) (arg9 : Memref sig .tc .vmem S8x512 .f32) (harg9 : arg9.IsWhole)
    (arg10 : Memref sig .tc .vmem S2048x512 .bf16) (harg10 : arg10.IsWhole) (arg11 : Memref sig .tc .vmem S2048x512 .bf16) (harg11 : arg11.IsWhole)
    (arg12 : Memref sig .tc .vmem S520x512 .f32) (harg12 : arg12.IsWhole)
    (h1 : k0_cond1 i = 1#1) (x : Vec F S2048x512 .f32) (f : BufTy.Contents (Elt F) arg10.view.ty) :
    arg10.view.read (Elt F) (arg10.view.writes (Elt F) f (pb_k0_t1 (F := F) 𝒱 c bd i arg2 harg2 arg3 harg3 arg4 harg4 arg5 harg5 arg6 harg6 arg7 harg7 arg8 harg8 arg9 harg9 arg10 harg10 arg11 harg11 arg12 harg12 h1 (harg3.unread x) k0_t1_loop.trips))
      = narrow x := by
  funext y
  have ht : k0_t1_loop.trips = 8 := by decide +kernel
  have hy : (y 0).val < 2048 := (y 0).isLt
  exact read_pb1 𝒱 c bd i arg2 harg2 arg3 harg3 arg4 harg4 arg5 harg5 arg6 harg6 arg7 harg7 arg8 harg8 arg9 harg9 arg10 harg10 arg11 harg11 arg12 harg12 h1 x f _ (Nat.le_refl _) y (by rw [ht]; omega)

/-- A trip's one store: 256 rows of the weight block, rounded. -/
theorem piece_eq2 (𝒱 : Variants) (c : Dev nD) (bd : Option 𝒱.V) (i : grid0.Coords) (arg2 : Memref sig .tc .vmem S512x2048 .bf16) (harg2 : arg2.IsWhole) (arg3 : Memref sig .tc .vmem S2048x512 .f32) (harg3 : arg3.IsWhole)
    (arg4 : Memref sig .tc .vmem S2048x512 .f32) (harg4 : arg4.IsWhole) (arg5 : Memref sig .tc .vmem S8x512 .f32) (harg5 : arg5.IsWhole)
    (arg6 : Memref sig .tc .vmem S8x512 .f32) (harg6 : arg6.IsWhole) (arg7 : Memref sig .tc .vmem S1x512 .f32) (harg7 : arg7.IsWhole)
    (arg8 : Memref sig .tc .vmem S512x512 .bf16) (harg8 : arg8.IsWhole) (arg9 : Memref sig .tc .vmem S8x512 .f32) (harg9 : arg9.IsWhole)
    (arg10 : Memref sig .tc .vmem S2048x512 .bf16) (harg10 : arg10.IsWhole) (arg11 : Memref sig .tc .vmem S2048x512 .bf16) (harg11 : arg11.IsWhole)
    (arg12 : Memref sig .tc .vmem S520x512 .f32) (harg12 : arg12.IsWhole)
    (h1 : k0_cond1 i = 1#1) (X : BufTy.Contents (Elt F) arg4.view.ty) (k : Fin k0_t2_loop.trips) :
    tripL_k0_t2 (F := F) 𝒱 c bd i arg2 harg2 arg3 harg3 arg4 harg4 arg5 harg5 arg6 harg6 arg7 harg7 arg8 harg8 arg9 harg9 arg10 harg10 arg11 harg11 arg12 harg12 h1 X k
      = [⟨Rect.unit (s := S2048x512) (k0_off2 k) S256x512.size (k0_off2_inb i k h1),
          k0_pay5 (View.readAt (Elt F) arg4.view (Rect.unit (s := S2048x512) (k0_off2 k) S256x512.size (k0_off2_inb i k h1)).toLoadRect X)⟩] := by
  unfold tripL_k0_t2 trip_k0_t2
  rfl

/-- Below the rows of the trips done so far the scratch buffer holds the rounded weight block. -/
theorem read_pb2 (𝒱 : Variants) (c : Dev nD) (bd : Option 𝒱.V) (i : grid0.Coords) (arg2 : Memref sig .tc .vmem S512x2048 .bf16) (harg2 : arg2.IsWhole) (arg3 : Memref sig .tc .vmem S2048x512 .f32) (harg3 : arg3.IsWhole)
    (arg4 : Memref sig .tc .vmem S2048x512 .f32) (harg4 : arg4.IsWhole) (arg5 : Memref sig .tc .vmem S8x512 .f32) (harg5 : arg5.IsWhole)
    (arg6 : Memref sig .tc .vmem S8x512 .f32) (harg6 : arg6.IsWhole) (arg7 : Memref sig .tc .vmem S1x512 .f32) (harg7 : arg7.IsWhole)
    (arg8 : Memref sig .tc .vmem S512x512 .bf16) (harg8 : arg8.IsWhole) (arg9 : Memref sig .tc .vmem S8x512 .f32) (harg9 : arg9.IsWhole)
    (arg10 : Memref sig .tc .vmem S2048x512 .bf16) (harg10 : arg10.IsWhole) (arg11 : Memref sig .tc .vmem S2048x512 .bf16) (harg11 : arg11.IsWhole)
    (arg12 : Memref sig .tc .vmem S520x512 .f32) (harg12 : arg12.IsWhole)
    (h1 : k0_cond1 i = 1#1) (x : Vec F S2048x512 .f32) (f : BufTy.Contents (Elt F) arg11.view.ty) (n : ℕ) (hn : n ≤ k0_t2_loop.trips)
    (y : S2048x512.Idx) (hy : (y 0).val < 256 * n) :
    arg11.view.read (Elt F) (arg11.view.writes (Elt F) f (pb_k0_t2 (F := F) 𝒱 c bd i arg2 harg2 arg3 harg3 arg4 harg4 arg5 harg5 arg6 harg6 arg7 harg7 arg8 harg8 arg9 harg9 arg10 harg10 arg11 harg11 arg12 harg12 h1 (harg4.unread x) n)) y
      = narrow x y := by
  induction n with
  | zero => omega
  | succ n ih =>
    have hk : n < k0_t2_loop.trips := hn
    have e := (pb_k0_t2_succ (F := F) 𝒱 c bd i arg2 harg2 arg3 harg3 arg4 harg4 arg5 harg5 arg6 harg6 arg7 harg7 arg8 harg8 arg9 harg9 arg10 harg10 arg11 harg11 arg12 harg12 h1 (harg4.unread x) ⟨n, hk⟩).trans
      (congrArg (· ++ _) (piece_eq2 (F := F) 𝒱 c bd i arg2 harg2 arg3 harg3 arg4 harg4 arg5 harg5 arg6 harg6 arg7 harg7 arg8 harg8 arg9 harg9 arg10 harg10 arg11 harg11 arg12 harg12 h1 (harg4.unread x) ⟨n, hk⟩))
    refine (congrArg (fun L => arg11.view.read (Elt F) (arg11.view.writes (Elt F) f L) y) e).trans ?_
    by_cases h : 256 * n ≤ (y 0).val
    · have hlt : (y 0).val - 256 * n < 256 := by omega
      refine (View.read_writes_cons_unit_of_mem arg11.view f _ _ _ y (ix2 ⟨(y 0).val - 256 * n, hlt⟩ ⟨(y 1).val, (y 1).isLt⟩ : S256x512.Idx)
        (k0_off2_eq ⟨n, hk⟩) ?_).trans ?_
      · intro a
        fin_cases a
        · show (y 0).val = 256 * n + ((y 0).val - 256 * n)
          omega
        · show (y 1).val = 0 + (y 1).val
          omega
      · rw [pay5_eq]
        refine congrArg (fun z => FloatOps.truncf .bf16 bitsLt_bf16_f32 z) ?_
        rw [Memref.IsWhole.readAt_unread]
        refine congrArg x (funext fun a => Fin.ext ?_)
        have e0 := congrFun (k0_off2_eq ⟨n, hk⟩) a
        fin_cases a
        · show k0_off2 ⟨n, hk⟩ 0 + 1 * ((y 0).val - 256 * n) = (y 0).val
          have e0' : k0_off2 ⟨n, hk⟩ 0 = 256 * n := e0
          omega
        · show k0_off2 ⟨n, hk⟩ 1 + 1 * (y 1).val = (y 1).val
          have e0' : k0_off2 ⟨n, hk⟩ 1 = 0 := e0
          omega
    · refine (View.read_writes_cons_unit_of_not_mem arg11.view f _ _ _ y (k0_off2_eq ⟨n, hk⟩) 0 (Or.inl ?_)).trans (ih (by omega) (by omega))
      show (y 0).val < 256 * n
      omega

/-- After the loop the scratch buffer holds the rounded weight block. -/
theorem read_all2 (𝒱 : Variants) (c : Dev nD) (bd : Option 𝒱.V) (i : grid0.Coords) (arg2 : Memref sig .tc .vmem S512x2048 .bf16) (harg2 : arg2.IsWhole) (arg3 : Memref sig .tc .vmem S2048x512 .f32) (harg3 : arg3.IsWhole)
    (arg4 : Memref sig .tc .vmem S2048x512 .f32) (harg4 : arg4.IsWhole) (arg5 : Memref sig .tc .vmem S8x512 .f32) (harg5 : arg5.IsWhole)
    (arg6 : Memref sig .tc .vmem S8x512 .f32) (harg6 : arg6.IsWhole) (arg7 : Memref sig .tc .vmem S1x512 .f32) (harg7 : arg7.IsWhole)
    (arg8 : Memref sig .tc .vmem S512x512 .bf16) (harg8 : arg8.IsWhole) (arg9 : Memref sig .tc .vmem S8x512 .f32) (harg9 : arg9.IsWhole)
    (arg10 : Memref sig .tc .vmem S2048x512 .bf16) (harg10 : arg10.IsWhole) (arg11 : Memref sig .tc .vmem S2048x512 .bf16) (harg11 : arg11.IsWhole)
    (arg12 : Memref sig .tc .vmem S520x512 .f32) (harg12 : arg12.IsWhole)
    (h1 : k0_cond1 i = 1#1) (x : Vec F S2048x512 .f32) (f : BufTy.Contents (Elt F) arg11.view.ty) :
    arg11.view.read (Elt F) (arg11.view.writes (Elt F) f (pb_k0_t2 (F := F) 𝒱 c bd i arg2 harg2 arg3 harg3 arg4 harg4 arg5 harg5 arg6 harg6 arg7 harg7 arg8 harg8 arg9 harg9 arg10 harg10 arg11 harg11 arg12 harg12 h1 (harg4.unread x) k0_t2_loop.trips))
      = narrow x := by
  funext y
  have ht : k0_t2_loop.trips = 8 := by decide +kernel
  have hy : (y 0).val < 2048 := (y 0).isLt
  exact read_pb2 𝒱 c bd i arg2 harg2 arg3 harg3 arg4 harg4 arg5 harg5 arg6 harg6 arg7 harg7 arg8 harg8 arg9 harg9 arg10 harg10 arg11 harg11 arg12 harg12 h1 x f _ (Nat.le_refl _) y (by rw [ht]; omega)

/-- One whole-block store reads back as what was stored. -/
theorem read_store8 (v : View sig .tc .vmem S512x512 .bf16) (f : v.ty.Contents (Elt F)) (w : Vec F S512x512 .bf16) :
    v.read (Elt F) (v.writes (Elt F) f [⟨Rect.unit (s := S512x512) ![0, 0] S512x512.size inb_S512x512_S512x512_0_0, w⟩]) = w := by
  funext y
  refine View.read_writes_cons_unit_of_mem v f _ w [] y y rfl fun a => ?_
  fin_cases a
  · show (y 0).val = 0 + (y 0).val
    omega
  · show (y 1).val = 0 + (y 1).val
    omega

theorem read_store9 (v : View sig .tc .vmem S8x512 .f32) (f : v.ty.Contents (Elt F)) (w : Vec F S8x512 .f32) :
    v.read (Elt F) (v.writes (Elt F) f [⟨Rect.unit (s := S8x512) ![0, 0] S8x512.size inb_S8x512_S8x512_0_0, w⟩]) = w := by
  funext y
  refine View.read_writes_cons_unit_of_mem v f _ w [] y y rfl fun a => ?_
  fin_cases a
  · show (y 0).val = 0 + (y 0).val
    omega
  · show (y 1).val = 0 + (y 1).val
    omega

/-- A store of the first eight rows reads back there. -/
theorem read_head (v : View sig .tc .vmem S520x512 .f32) (f : v.ty.Contents (Elt F)) (w : Vec F S8x512 .f32) (L : List (View.Piece (Elt F) S520x512 .f32)) :
    Heads (v.read (Elt F) (v.writes (Elt F) f (⟨Rect.unit (s := S520x512) ![0, 0] S8x512.size inb_S520x512_S8x512_0_0, w⟩ :: L))) w := by
  intro y h
  refine View.read_writes_cons_unit_of_mem v f _ w L y (ix2 ⟨(y 0).val, h⟩ ⟨(y 1).val, (y 1).isLt⟩ : S8x512.Idx) rfl fun a => ?_
  fin_cases a
  · show (y 0).val = 0 + (y 0).val
    omega
  · show (y 1).val = 0 + (y 1).val
    omega

theorem keeps_nil (v : View sig .tc .vmem S520x512 .f32) (f : v.ty.Contents (Elt F)) (z : Vec F S520x512 .f32) (p : Vec F S8x512 .f32)
    (hf : v.read (Elt F) f = z) (hz : Heads z p) : Heads (v.read (Elt F) (v.writes (Elt F) f [])) p := by
  have e : v.read (Elt F) (v.writes (Elt F) f []) = z := hf
  rw [e]
  exact hz

/-- A store of the rows from eight on leaves the halo. -/
theorem read_halo (v : View sig .tc .vmem S520x512 .f32) (f : v.ty.Contents (Elt F)) (g : Vec F S512x512 .f32) (p : Vec F S8x512 .f32)
    (L : List (View.Piece (Elt F) S520x512 .f32)) (hp : Heads (v.read (Elt F) (v.writes (Elt F) f L)) p) :
    v.read (Elt F) (v.writes (Elt F) f (⟨Rect.unit (s := S520x512) ![8, 0] S512x512.size inb_S520x512_S512x512_8_0, g⟩ :: L)) = halo p g := by
  funext y
  unfold halo
  split
  · rename_i h
    refine (View.read_writes_cons_unit_of_not_mem v f _ g L y rfl 0 (Or.inl ?_)).trans (hp y h)
    show (y 0).val < 8
    exact h
  · rename_i h
    have hy : (y 0).val < 520 := (y 0).isLt
    refine View.read_writes_cons_unit_of_mem v f _ g L y (ix2 ⟨(y 0).val - 8, by omega⟩ ⟨(y 1).val, (y 1).isLt⟩ : S512x512.Idx) rfl fun a => ?_
    fin_cases a
    · show (y 0).val = 8 + ((y 0).val - 8)
      omega
    · show (y 1).val = 0 + (y 1).val
      omega

set_option maxHeartbeats 2000000 in
/-- The body at a point that starts a column block. -/
theorem run_fill (c : Dev nD) (i : grid0.Coords) (arg2 : Memref sig .tc .vmem S512x2048 .bf16) (harg2 : arg2.IsWhole) (arg3 : Memref sig .tc .vmem S2048x512 .f32) (harg3 : arg3.IsWhole)
    (arg4 : Memref sig .tc .vmem S2048x512 .f32) (harg4 : arg4.IsWhole) (arg5 : Memref sig .tc .vmem S8x512 .f32) (harg5 : arg5.IsWhole)
    (arg6 : Memref sig .tc .vmem S8x512 .f32) (harg6 : arg6.IsWhole) (arg7 : Memref sig .tc .vmem S1x512 .f32) (harg7 : arg7.IsWhole)
    (arg8 : Memref sig .tc .vmem S512x512 .bf16) (harg8 : arg8.IsWhole) (arg9 : Memref sig .tc .vmem S8x512 .f32) (harg9 : arg9.IsWhole)
    (arg10 : Memref sig .tc .vmem S2048x512 .bf16) (harg10 : arg10.IsWhole) (arg11 : Memref sig .tc .vmem S2048x512 .bf16) (harg11 : arg11.IsWhole)
    (arg12 : Memref sig .tc .vmem S520x512 .f32) (harg12 : arg12.IsWhole)
    (hc0 : cond0_0 i) (hc1 : cond0_1 i) (x0 : Vec F S512x2048 .bf16) (x1 : Vec F S2048x512 .f32) (x2 : Vec F S2048x512 .f32) (x3 : Vec F S8x512 .f32) (x4 : Vec F S8x512 .f32) (x5 : Vec F S1x512 .f32) :
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare (act x0 (narrow x1) (narrow x2) x3 x4 x5) ∗ owns (c : Thread nD τ) arg9 fullShare (tail x0 (narrow x1)) ∗ owns (c : Thread nD τ) arg10 fullShare (narrow x1) ∗ owns (c : Thread nD τ) arg11 fullShare (narrow x2) ∗ (∃ d, owns (c : Thread nD τ) arg12 fullShare d ∗ ⌜Heads d (tail x0 (narrow x1))⌝)) -∗ K ⟨⟩))
          ⊢ wp frame (wpE (defs₀ (F := F)) Variants.none c none) E (cc0_body i arg2 harg2 arg3 harg3 arg4 harg4 arg5 harg5 arg6 harg6 arg7 harg7 arg8 harg8 arg9 harg9 arg10 harg10 arg11 harg11 arg12 harg12) K := by
    intro E K
    simp only [cc0_body_eq_skeleton]; unfold cc0_body_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%ds0, %fs0, -, HS0⟩, ⟨%ds1, %fs1, -, HS1⟩, ⟨%ds2, %fs2, -, HS2⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5
    sl_exec (disch := first | sl_exact hc0 | sl_exact hc1)
    sl_step
    have e4 : (run_fill.sl.v4 c i arg2 harg2 arg3 harg3 arg4 harg4 arg5 harg5 arg6 harg6 arg7 harg7 arg8 harg8 arg9 harg9 arg10 harg10 arg11 harg11 arg12 harg12 hc0 x1 fs0 : Vec F S2048x512 .bf16) = narrow x1 := by
      unfold run_fill.sl.v4
      exact (View.readAt_full _ _ _).trans (read_all1 Variants.none c none i arg2 harg2 arg3 harg3 arg4 harg4 arg5 harg5 arg6 harg6 arg7 harg7 arg8 harg8 arg9 harg9 arg10 harg10 arg11 harg11 arg12 harg12 hc0 x1 fs0)
    have e6 : (run_fill.sl.v6 c i arg2 harg2 arg3 harg3 arg4 harg4 arg5 harg5 arg6 harg6 arg7 harg7 arg8 harg8 arg9 harg9 arg10 harg10 arg11 harg11 arg12 harg12 hc0 x2 fs1 : Vec F S2048x512 .bf16) = narrow x2 := by
      unfold run_fill.sl.v6
      exact (View.readAt_full _ _ _).trans (read_all2 Variants.none c none i arg2 harg2 arg3 harg3 arg4 harg4 arg5 harg5 arg6 harg6 arg7 harg7 arg8 harg8 arg9 harg9 arg10 harg10 arg11 harg11 arg12 harg12 hc0 x2 fs1)
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; swap; · iexact H6
      ipureintro
      refine (read_store8 arg8.view f6 _).trans ?_
      unfold run_fill.sl.r_1 run_fill.sl.r_2
      rw [e4, e6, View.readAt_full, View.readAt_full, View.readAt_full, harg2.read_unread, harg6.read_unread, harg7.read_unread]
      unfold run_fill.sl.v17 run_fill.sl.v21 run_fill.sl.HS2_2
      rw [e4, View.readAt_full, harg2.read_unread, View.readAt_full, harg5.read_unread, pay8_eq, pay9_eq]
      refine congrArg₂ (fun a b => k0_pay1 (k0_pay7 x0 (narrow x2)) (k0_pay10 x0 (narrow x1) x4 a b x5)) ?_ ?_
      · exact congrArg (rows 6 inb_S520x512_S512x512_6_0) (read_halo arg12.view _ (k0_pay6 x0 (narrow x1)) x3 _ (read_head arg12.view _ x3 []))
      · exact congrArg (rows 7 inb_S520x512_S512x512_7_0) (read_halo arg12.view _ (k0_pay6 x0 (narrow x1)) x3 _ (read_head arg12.view _ x3 []))
    isplitl [H7]
    · iexists _; isplitr; swap; · iexact H7
      ipureintro
      refine (read_store9 arg9.view f7 _).trans ?_
      unfold run_fill.sl.r
      rw [e4, View.readAt_full, harg2.read_unread]
      rfl
    isplitl [HS0]
    · iexists _; isplitr; swap; · iexact HS0
      ipureintro
      exact read_all1 Variants.none c none i arg2 harg2 arg3 harg3 arg4 harg4 arg5 harg5 arg6 harg6 arg7 harg7 arg8 harg8 arg9 harg9 arg10 harg10 arg11 harg11 arg12 harg12 hc0 x1 fs0
    isplitl [HS1]
    · iexists _; isplitr; swap; · iexact HS1
      ipureintro
      exact read_all2 Variants.none c none i arg2 harg2 arg3 harg3 arg4 harg4 arg5 harg5 arg6 harg6 arg7 harg7 arg8 harg8 arg9 harg9 arg10 harg10 arg11 harg11 arg12 harg12 hc0 x2 fs1
    iexists _; isplitl [HS2]
    · iexists _; isplitr; swap; · iexact HS2
      ipureintro; rfl
    ipureintro
    rw [pay3_eq]
    unfold run_fill.sl.r
    rw [e4, View.readAt_full, harg2.read_unread]
    exact read_head arg12.view fs2 (tail x0 (narrow x1)) _

set_option maxHeartbeats 2000000 in
/-- The body at a point that goes on with a column block. -/
theorem run_keep (c : Dev nD) (i : grid0.Coords) (arg2 : Memref sig .tc .vmem S512x2048 .bf16) (harg2 : arg2.IsWhole) (arg3 : Memref sig .tc .vmem S2048x512 .f32) (harg3 : arg3.IsWhole)
    (arg4 : Memref sig .tc .vmem S2048x512 .f32) (harg4 : arg4.IsWhole) (arg5 : Memref sig .tc .vmem S8x512 .f32) (harg5 : arg5.IsWhole)
    (arg6 : Memref sig .tc .vmem S8x512 .f32) (harg6 : arg6.IsWhole) (arg7 : Memref sig .tc .vmem S1x512 .f32) (harg7 : arg7.IsWhole)
    (arg8 : Memref sig .tc .vmem S512x512 .bf16) (harg8 : arg8.IsWhole) (arg9 : Memref sig .tc .vmem S8x512 .f32) (harg9 : arg9.IsWhole)
    (arg10 : Memref sig .tc .vmem S2048x512 .bf16) (harg10 : arg10.IsWhole) (arg11 : Memref sig .tc .vmem S2048x512 .bf16) (harg11 : arg11.IsWhole)
    (arg12 : Memref sig .tc .vmem S520x512 .f32) (harg12 : arg12.IsWhole)
    (hc0 : ¬cond0_0 i) (hc1 : ¬cond0_1 i) (x0 : Vec F S512x2048 .bf16) (x1 : Vec F S2048x512 .f32) (x2 : Vec F S2048x512 .f32) (x3 : Vec F S8x512 .f32) (x4 : Vec F S8x512 .f32) (x5 : Vec F S1x512 .f32)
    (w1 w2 : Vec F S2048x512 .bf16) (z : Vec F S520x512 .f32) (p : Vec F S8x512 .f32) (hz : Heads z p) :
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ (∃ d, owns (c : Thread nD τ) arg9 fullShare d) ∗ owns (c : Thread nD τ) arg10 fullShare w1 ∗ owns (c : Thread nD τ) arg11 fullShare w2 ∗ owns (c : Thread nD τ) arg12 fullShare z
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare (act x0 w1 w2 p x4 x5) ∗ owns (c : Thread nD τ) arg9 fullShare (tail x0 w1) ∗ owns (c : Thread nD τ) arg10 fullShare w1 ∗ owns (c : Thread nD τ) arg11 fullShare w2 ∗ (∃ d, owns (c : Thread nD τ) arg12 fullShare d ∗ ⌜Heads d (tail x0 w1)⌝)) -∗ K ⟨⟩))
          ⊢ wp frame (wpE (defs₀ (F := F)) Variants.none c none) E (cc0_body i arg2 harg2 arg3 harg3 arg4 harg4 arg5 harg5 arg6 harg6 arg7 harg7 arg8 harg8 arg9 harg9 arg10 harg10 arg11 harg11 arg12 harg12) K := by
    intro E K
    simp only [cc0_body_eq_skeleton]; unfold cc0_body_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%fs0, %hs0, HS0⟩, ⟨%fs1, %hs1, HS1⟩, ⟨%fs2, %hs2, HS2⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg10.eq_unread hs0; obtain rfl := harg11.eq_unread hs1; obtain rfl := harg12.eq_unread hs2
    sl_exec (disch := first | sl_exact hc0 | sl_exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; swap; · iexact H6
      ipureintro
      refine (read_store8 arg8.view f6 _).trans ?_
      unfold run_keep.sl.r_1 run_keep.sl.r_2
      rw [View.readAt_full, View.readAt_full, View.readAt_full, View.readAt_full, View.readAt_full, harg2.read_unread, harg11.read_unread, harg10.read_unread, harg6.read_unread, harg7.read_unread]
      unfold run_keep.sl.HS2_1
      rw [View.readAt_full, View.readAt_full, harg2.read_unread, harg10.read_unread, pay9_eq]
      refine congrArg₂ (fun a b => k0_pay1 (k0_pay7 x0 w2) (k0_pay10 x0 w1 x4 a b x5)) ?_ ?_
      · exact congrArg (rows 6 inb_S520x512_S512x512_6_0) (read_halo arg12.view (harg12.unread z) (k0_pay6 x0 w1) p [] (keeps_nil arg12.view _ z p hs2 hz))
      · exact congrArg (rows 7 inb_S520x512_S512x512_7_0) (read_halo arg12.view (harg12.unread z) (k0_pay6 x0 w1) p [] (keeps_nil arg12.view _ z p hs2 hz))
    isplitl [H7]
    · iexists _; isplitr; swap; · iexact H7
      ipureintro
      refine (read_store9 arg9.view f7 _).trans ?_
      unfold run_keep.sl.r
      rw [View.readAt_full, View.readAt_full, harg2.read_unread, harg10.read_unread]
      rfl
    isplitl [HS0]
    · iexists _; isplitr; swap; · iexact HS0
      ipureintro
      exact harg10.read_unread _
    isplitl [HS1]
    · iexists _; isplitr; swap; · iexact HS1
      ipureintro
      exact harg11.read_unread _
    iexists _; isplitl [HS2]
    · iexists _; isplitr; swap; · iexact HS2
      ipureintro; rfl
    ipureintro
    rw [pay3_eq]
    unfold run_keep.sl.r
    rw [View.readAt_full, View.readAt_full, harg2.read_unread, harg10.read_unread]
    exact read_head arg12.view (harg12.unread z) (tail x0 w1) _

end Cert.HiddenIdeal.Gen

end
-- ==== Proof.HiddenFrame.lean ====
/- The launch of the hidden activations: the pipeline's proof data with the three scratch buffers tracked from point to point, the body
   obligation, the run of the whole program and the frame. -/
module

public import proofs.«01_k».proof.Proof.HiddenRun
public import Idealize.ShloMosaic.Lib.Pipeline.ValueKit
public import Idealize.ShloMosaic.Lib.Claim

@[expose] public section

set_option maxRecDepth 16384

noncomputable section

namespace Cert.HiddenIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The two grid coordinates of a point: the column block, and the row block. -/
theorem coord_col (t : Fin cfg0.N) : (BitVec.ofNat 32 (grid0.coords t 0).val).toNat = t.val / 16 := by
  have ht : t.val < 176 := Nat.lt_of_lt_of_eq t.isLt N_0
  have e0 : (grid0.coords t 0).val = t.val / 16 % 11 := Pipeline.Grid.coords_val t 0 (by decide) rfl
  rw [e0, BitVec.toNat_ofNat]; omega

theorem coord_row (t : Fin cfg0.N) : (BitVec.ofNat 32 (grid0.coords t 1).val).toNat = t.val % 16 := by
  have ht : t.val < 176 := Nat.lt_of_lt_of_eq t.isLt N_0
  have e1 : (grid0.coords t 1).val = t.val / 1 % 16 := Pipeline.Grid.coords_val t 1 (by decide) rfl
  rw [e1, BitVec.toNat_ofNat]; omega

theorem coord_col' (t : Fin cfg0.N) : (Scalar.addi (BitVec.ofNat 32 (grid0.coords t 0).val) 0#32).toNat = t.val / 16 := by
  refine (congrArg BitVec.toNat (show Scalar.addi (BitVec.ofNat 32 (grid0.coords t 0).val) 0#32 = BitVec.ofNat 32 (grid0.coords t 0).val + 0#32 from rfl)).trans ?_
  rw [BitVec.add_zero]
  exact coord_col t

theorem col_lt (t : Fin cfg0.N) (y : S2048x512.Idx) : 512 * (t.val / 16) + (y 1).val < 5632 := by
  have ht : t.val < 176 := Nat.lt_of_lt_of_eq t.isLt N_0
  have hy : (y 1).val < 512 := (y 1).isLt
  omega

/-- The gate weight's block at a point: all rows, the 512 columns of the point's column block. -/
theorem iblk1_at (c : Dev nD) (t : Fin cfg0.N) (y : S2048x512.Idx) (hb : 512 * (t.val / 16) + (y 1).val < 5632) :
    (iblk m c 1 t : S2048x512.Idx → Elt F .f32) y
      = (V m c main_arg2 : S2048x5632.Idx → Elt F .f32) (ix2 ⟨(y 0).val, (y 0).isLt⟩ ⟨512 * (t.val / 16) + (y 1).val, hb⟩) := by
  have ht := coord_col' t
  refine congrArg (V m c main_arg2 : S2048x5632.Idx → Elt F .f32) (funext fun a => Fin.ext ?_)
  refine (ValueKit.view_emb_slice_whole_unit_val main_arg2 _ _ _ _ a).trans ?_
  fin_cases a
  · show 0 * 2048 + (y 0).val = (y 0).val
    omega
  · show (Scalar.addi (BitVec.ofNat 32 (grid0.coords t 0).val) 0#32).toNat * 512 + (y 1).val = 512 * (t.val / 16) + (y 1).val
    omega

/-- The block stays the same from a point to the next unless the next starts a column block. -/
theorem iblk1_same (c : Dev nD) (t t' : Fin cfg0.N) (h : t'.val = t.val + 1) (h0 : t'.val % 16 ≠ 0) :
    iblk m c 1 t' = iblk m c 1 t := by
  funext y
  refine (iblk1_at m c t' y (col_lt t' y)).trans (Eq.trans ?_ (iblk1_at m c t y (col_lt t y)).symm)
  have e : t'.val / 16 = t.val / 16 := by omega
  refine congrArg (V m c main_arg2 : S2048x5632.Idx → Elt F .f32) (funext fun a => Fin.ext ?_)
  fin_cases a
  · rfl
  · show 512 * (t'.val / 16) + (y 1).val = 512 * (t.val / 16) + (y 1).val
    rw [e]

/-- The up weight's block at a point: all rows, the 512 columns of the point's column block. -/
theorem iblk2_at (c : Dev nD) (t : Fin cfg0.N) (y : S2048x512.Idx) (hb : 512 * (t.val / 16) + (y 1).val < 5632) :
    (iblk m c 2 t : S2048x512.Idx → Elt F .f32) y
      = (V m c main_arg3 : S2048x5632.Idx → Elt F .f32) (ix2 ⟨(y 0).val, (y 0).isLt⟩ ⟨512 * (t.val / 16) + (y 1).val, hb⟩) := by
  have ht := coord_col' t
  refine congrArg (V m c main_arg3 : S2048x5632.Idx → Elt F .f32) (funext fun a => Fin.ext ?_)
  refine (ValueKit.view_emb_slice_whole_unit_val main_arg3 _ _ _ _ a).trans ?_
  fin_cases a
  · show 0 * 2048 + (y 0).val = (y 0).val
    omega
  · show (Scalar.addi (BitVec.ofNat 32 (grid0.coords t 0).val) 0#32).toNat * 512 + (y 1).val = 512 * (t.val / 16) + (y 1).val
    omega

/-- The block stays the same from a point to the next unless the next starts a column block. -/
theorem iblk2_same (c : Dev nD) (t t' : Fin cfg0.N) (h : t'.val = t.val + 1) (h0 : t'.val % 16 ≠ 0) :
    iblk m c 2 t' = iblk m c 2 t := by
  funext y
  refine (iblk2_at m c t' y (col_lt t' y)).trans (Eq.trans ?_ (iblk2_at m c t y (col_lt t y)).symm)
  have e : t'.val / 16 = t.val / 16 := by omega
  refine congrArg (V m c main_arg3 : S2048x5632.Idx → Elt F .f32) (funext fun a => Fin.ext ?_)
  fin_cases a
  · rfl
  · show 512 * (t'.val / 16) + (y 1).val = 512 * (t.val / 16) + (y 1).val
    rw [e]

/-! ## The pipeline's proof data -/

/-- The point before. -/
def prevPt (t : Fin cfg0.N) : Fin cfg0.N := ⟨t.val - 1, lt_of_le_of_lt (Nat.sub_le _ _) t.isLt⟩

/-- The eight rows before a point's row block: at the first row block those handed in, later the last of the point before. -/
def before8 (c : Dev nD) (t : Fin cfg0.N) : Vec F S8x512 .f32 :=
  if t.val % 16 = 0 then iblk m c 3 t else tail (iblk m c 0 (prevPt t)) (narrow (iblk m c 1 (prevPt t)))

theorem before8_start (c : Dev nD) (t : Fin cfg0.N) (h : t.val % 16 = 0) : before8 m c t = iblk m c 3 t := if_pos h

theorem before8_next (c : Dev nD) (t t' : Fin cfg0.N) (h : t'.val = t.val + 1) (h0 : t'.val % 16 ≠ 0) :
    before8 m c t' = tail (iblk m c 0 t) (narrow (iblk m c 1 t)) := by
  have e : prevPt t' = t := Fin.ext (by show t'.val - 1 = t.val; omega)
  unfold before8
  rw [if_neg h0, e]

/-- What is known before point `k`: unless the point starts a column block the scratch buffers hold its weight blocks, rounded,
    and the eight rows before its row block. -/
def PhiS (c : Dev nD) (k : ℕ) : sProp 𝕄 :=
  iprop(iprop((∃ d, owns (c : Thread nD τ) scM0_0 fullShare d ∗ ⌜∀ t : Fin cfg0.N, t.val = k → t.val % 16 ≠ 0 → d = narrow (iblk m c 1 t)⌝)
    ∗ (∃ d, owns (c : Thread nD τ) scM0_1 fullShare d ∗ ⌜∀ t : Fin cfg0.N, t.val = k → t.val % 16 ≠ 0 → d = narrow (iblk m c 2 t)⌝)
    ∗ (∃ d, owns (c : Thread nD τ) scM0_2 fullShare d ∗ ⌜∀ t : Fin cfg0.N, t.val = k → t.val % 16 ≠ 0 → Heads d (before8 m c t)⌝)) ∗ (∃ r, prngReg c r))

/-- The proof data: the arrays as launched, each input's buffer at its block, the outputs' at the block of hidden activations and
    at the last eight rows of the gate's product. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => act (iblk m c 0 t) (narrow (iblk m c 1 t)) (narrow (iblk m c 2 t)) (before8 m c t) (iblk m c 4 t) (iblk m c 5 t)
    | ⟨7, _⟩ => tail (iblk m c 0 t) (narrow (iblk m c 1 t))
  Φ t := PhiS m c t.val
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) :
    (dats m 0 c).after 6 t = act (iblk m c 0 t) (narrow (iblk m c 1 t)) (narrow (iblk m c 2 t)) (before8 m c t) (iblk m c 4 t) (iblk m c 5 t) := by dsimp only [dats]
theorem after0_7 (c : Dev nD) (t : Fin cfg0.N) : (dats m 0 c).after 7 t = tail (iblk m c 0 t) (narrow (iblk m c 1 t)) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d)))

def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t))

set_option maxHeartbeats 1600000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5]
  rw [show (dats m 0 c).owesAt () t.succ = (dats m 0 c).owesAt () t.castSucc from rfl,
    after0_0, after0_1, after0_2, after0_3, after0_4, after0_5, after0_6, after0_7]
  rw [show (dats m 0 c).Φ t.castSucc = PhiS m c t.val from rfl, show (dats m 0 c).Φ t.succ = PhiS m c (t.val + 1) from rfl]
  unfold PhiS
  have next1 : ∀ t' : Fin cfg0.N, t'.val = t.val + 1 → t'.val % 16 ≠ 0 → narrow (iblk m c 1 t) = narrow (iblk m c 1 t') :=
    fun t' h h0 => congrArg narrow (iblk1_same m c t t' h h0).symm
  have next2 : ∀ t' : Fin cfg0.N, t'.val = t.val + 1 → t'.val % 16 ≠ 0 → narrow (iblk m c 2 t) = narrow (iblk m c 2 t') :=
    fun t' h h0 => congrArg narrow (iblk2_same m c t t' h h0).symm
  have next3 : ∀ z : Vec F S520x512 .f32, Heads z (tail (iblk m c 0 t) (narrow (iblk m c 1 t))) →
      ∀ t' : Fin cfg0.N, t'.val = t.val + 1 → t'.val % 16 ≠ 0 → Heads z (before8 m c t') := fun z hz t' h h0 => by
    rw [before8_next m c t t' h h0]
    exact hz
  by_cases h0 : t.val % 16 = 0
  · rw [before8_start m c t h0]
    iintro ⟨⟨⟨⟨%ds0, HS0, -⟩, ⟨%ds1, HS1, -⟩, ⟨%ds2, HS2, -⟩⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
    iapply ((run_fill c (grid0.coords t) _ _ _ _ _ _ _ _ _ _ _ _ _ _ _ _ _ _ _ _ _ _ ((hcond0_0 t).mpr h0) ((hcond0_1 t).mpr h0) (iblk m c 0 t) (iblk m c 1 t) (iblk m c 2 t) (iblk m c 3 t) (iblk m c 4 t) (iblk m c 5 t)) Set.univ _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [H7]; · iexists _; iexact H7
    isplitl [HS0]; · iexists _; iexact HS0
    isplitl [HS1]; · iexists _; iexact HS1
    isplitl [HS2]; · iexists _; iexact HS2
    iintro ⟨H0, H1, H2, H3, H4, H5, H6, H7, HS0, HS1, ⟨%z, HS2, %hz⟩⟩
    isplitl [HS0 HS1 HS2 Hg]
    · isplitl [HS0 HS1 HS2]
      · isplitl [HS0]
        · iexists _; isplitl [HS0]; · iexact HS0
          ipureintro; exact next1
        isplitl [HS1]
        · iexists _; isplitl [HS1]; · iexact HS1
          ipureintro; exact next2
        iexists _; isplitl [HS2]; · iexact HS2
        ipureintro; exact next3 z hz
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    iexact H7
  · iintro ⟨⟨⟨⟨%ds0, HS0, %hds0⟩, ⟨%ds1, HS1, %hds1⟩, ⟨%ds2, HS2, %hds2⟩⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
    obtain rfl := hds0 t rfl h0
    obtain rfl := hds1 t rfl h0
    iapply ((run_keep c (grid0.coords t) _ _ _ _ _ _ _ _ _ _ _ _ _ _ _ _ _ _ _ _ _ _ (fun h => h0 ((hcond0_0 t).mp h)) (fun h => h0 ((hcond0_1 t).mp h)) (iblk m c 0 t) (iblk m c 1 t) (iblk m c 2 t) (iblk m c 3 t) (iblk m c 4 t) (iblk m c 5 t) (narrow (iblk m c 1 t)) (narrow (iblk m c 2 t)) ds2 (before8 m c t) (hds2 t rfl h0)) Set.univ _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [H7]; · iexists _; iexact H7
    isplitl [HS0]; · iexact HS0
    isplitl [HS1]; · iexact HS1
    isplitl [HS2]; · iexact HS2
    iintro ⟨H0, H1, H2, H3, H4, H5, H6, H7, HS0, HS1, ⟨%z, HS2, %hz⟩⟩
    isplitl [HS0 HS1 HS2 Hg]
    · isplitl [HS0 HS1 HS2]
      · isplitl [HS0]
        · iexists _; isplitl [HS0]; · iexact HS0
          ipureintro; exact next1
        isplitl [HS1]
        · iexists _; isplitl [HS1]; · iexact HS1
          ipureintro; exact next2
        iexists _; isplitl [HS2]; · iexact HS2
        ipureintro; exact next3 z hz
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    iexact H7

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

theorem phi_in (c : Dev nD) : (Pipeline.ΦA spec0 c : sProp 𝕄) ⊢ PhiS m c 0 := by
  rw [PhiA0_eq]
  unfold PhiS
  iintro ⟨⟨⟨%d0, HS0⟩, ⟨%d1, HS1⟩, ⟨%d2, HS2⟩⟩, Hg⟩
  isplitl [HS0 HS1 HS2]
  · isplitl [HS0]
    · iexists _; isplitl [HS0]; · iexact HS0
      ipureintro
      intro t h h0
      exact absurd (by rw [h]) h0
    isplitl [HS1]
    · iexists _; isplitl [HS1]; · iexact HS1
      ipureintro
      intro t h h0
      exact absurd (by rw [h]) h0
    iexists _; isplitl [HS2]; · iexact HS2
    ipureintro
    intro t h h0
    exact absurd (by rw [h]) h0
  iexact Hg

theorem phi_out (c : Dev nD) (k : ℕ) : PhiS m c k ⊢ (Pipeline.ΦA spec0 c : sProp 𝕄) := by
  rw [PhiA0_eq]
  unfold PhiS
  iintro ⟨⟨⟨%d0, HS0, -⟩, ⟨%d1, HS1, -⟩, ⟨%d2, HS2, -⟩⟩, Hg⟩
  isplitl [HS0 HS1 HS2]
  · isplitl [HS0]
    · iexists _; iexact HS0
    isplitl [HS1]
    · iexists _; iexact HS1
    iexists _; iexact HS2
  iexact Hg

set_option backward.isDefEq.respectTransparency.types false in
/-- The launch: the arrays at what the proof data says, every counter at zero. -/
theorem run_main_quiescent : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m)
    (hin := fun c => phi_in m c) (hout := fun c => phi_out m c _)

theorem run_main : θ_run defs (onTc (τ := τ) (main (F := F))) (s₀ m ρ) (Pipeline.FramePost cfgs (dats m) 0 (V m)) :=
  (θ_run defs _ _).mono (fun _ h => h.1) (run_main_quiescent m ρ)

/-- The frame. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  θ_run_and (frame_of m ρ (dats m) (A_eq m) (run_main m ρ)) ((θ_run defs _ _).mono (fun _ h => h.2) (run_main_quiescent m ρ))

end Cert.HiddenIdeal.Gen

end
-- ==== Proof.HiddenValue.lean ====
/- The hidden activations' results: the launch's from its blocks, the reference's from its text, and their equality. -/
module

public import proofs.«01_k».proof.Proof.HiddenFrame
public import proofs.«01_k».proof.Proof.DownValue
public import proofs.«01_k».proof.Proof.Gen.HiddenRefIdeal.Run
public import Idealize.ShloMosaic.Lib.KernelVsHost
public import Idealize.ShloMosaic.Lib.StackMember
public import Idealize.ShloMosaic.Lib.Pipeline.Value
public import Idealize.ShloMosaic.Lib.IdealHost
public import Idealize.ShloMosaic.Lib.Pointwise

@[expose] public section

set_option maxRecDepth 16384

noncomputable section

open Idealize.ShloMosaic Idealize.ShloMosaic.TcCoe Idealize.SL.Sem

namespace Cert.HiddenValue

open Cert.HiddenIdeal Cert.HiddenIdeal.Gen

/-- An entry of a product with a weight. -/
def prod (n : S8192x2048.Idx → EReal) (w : S2048x5632.Idx → EReal) (i : Fin 8192) (j : Fin 5632) : EReal :=
  ∑ k : Fin 2048, n (ix2 i k) * w (ix2 k j)

/-- The convolution's input: the two rows handed in, then the gate's product. -/
def past (buf : S2x5632.Idx → EReal) (n : S8192x2048.Idx → EReal) (w : S2048x5632.Idx → EReal) (r : Fin 8194) (j : Fin 5632) : EReal :=
  if h : r.val < 2 then buf (ix2 ⟨r.val, h⟩ j) else prod n w ⟨r.val - 2, by omega⟩ j

theorem past_of (buf : S2x5632.Idx → EReal) (n : S8192x2048.Idx → EReal) (w : S2048x5632.Idx → EReal) (r : Fin 8194) (i : Fin 8192) (h : r.val = i.val + 2)
    (j : Fin 5632) : past buf n w r j = prod n w i j := by
  unfold past
  rw [dif_neg (by omega)]
  exact congrArg (fun a => prod n w a j) (Fin.ext (by show r.val - 2 = i.val; omega))

/-- The convolution's sum at an entry. -/
def conv (buf : S2x5632.Idx → EReal) (n : S8192x2048.Idx → EReal) (w : S2048x5632.Idx → EReal) (cw : S3x5632.Idx → EReal) (cb : S5632.Idx → EReal)
    (i : Fin 8192) (j : Fin 5632) : EReal :=
  cw (ix2 0 j) * past buf n w ⟨i.val, by omega⟩ j + cw (ix2 1 j) * past buf n w ⟨i.val + 1, by omega⟩ j + cw (ix2 2 j) * prod n w i j + cb (ix1 j)

/-- One entry of the hidden activations. -/
def entry (buf : S2x5632.Idx → EReal) (n : S8192x2048.Idx → EReal) (w u : S2048x5632.Idx → EReal) (cw : S3x5632.Idx → EReal) (cb : S5632.Idx → EReal)
    (i : Fin 8192) (j : Fin 5632) : EReal :=
  conv buf n w cw cb i j * Ideal.logistic (conv buf n w cw cb i j) * prod n u i j

theorem pay6_apply (x0 : FVec Ideal S512x2048 .bf16) (w : FVec Ideal S2048x512 .bf16) (r : Fin 512) (d : Fin 512) :
    k0_pay6 (F := Ideal) x0 w (ix2 r d) = ∑ k : Fin 2048, (x0 (ix2 r k) : EReal) * (w (ix2 k d) : EReal) := by
  unfold k0_pay6
  show matmul (F := Ideal) dot_S512x2048_S2048x512_S512x512_1_0_0_1_n_n none x0 w (constant S512x512 .f32 0x00000000#32) (ix2 r d) = _
  rw [matmul_zero_eq_dotGeneral]
  exact StackMember.dotGeneral_plain_apply none x0 w r d

theorem pay7_apply (x0 : FVec Ideal S512x2048 .bf16) (w : FVec Ideal S2048x512 .bf16) (r : Fin 512) (d : Fin 512) :
    k0_pay7 (F := Ideal) x0 w (ix2 r d) = ∑ k : Fin 2048, (x0 (ix2 r k) : EReal) * (w (ix2 k d) : EReal) := by
  unfold k0_pay7
  show matmul (F := Ideal) dot_S512x2048_S2048x512_S512x512_1_0_0_1_n_n none x0 w (constant S512x512 .f32 0x00000000#32) (ix2 r d) = _
  rw [matmul_zero_eq_dotGeneral]
  exact StackMember.dotGeneral_plain_apply none x0 w r d

theorem tail_apply (x0 : FVec Ideal S512x2048 .bf16) (w : FVec Ideal S2048x512 .bf16) (r : Fin 8) (d : Fin 512) :
    tail (F := Ideal) x0 w (ix2 r d) = k0_pay6 (F := Ideal) x0 w (ix2 ⟨504 + r.val, by omega⟩ d) := by
  unfold tail k0_pay2
  refine congrArg (k0_pay6 (F := Ideal) x0 w) (funext fun a => Fin.ext ?_)
  fin_cases a
  · rfl
  · exact Nat.zero_add _

/-- The convolution's sum in a block. -/
theorem pay10_apply (x0 : FVec Ideal S512x2048 .bf16) (w : FVec Ideal S2048x512 .bf16) (x4 : FVec Ideal S8x512 .f32) (a b : FVec Ideal S512x512 .f32)
    (x5 : FVec Ideal S1x512 .f32) (r : Fin 512) (d : Fin 512) :
    k0_pay10 (F := Ideal) x0 w x4 a b x5 (ix2 r d)
      = ((x4 (ix2 0 d) : EReal) * (a (ix2 r d) : EReal) + (x4 (ix2 1 d) : EReal) * (b (ix2 r d) : EReal)
          + (x4 (ix2 2 d) : EReal) * (k0_pay6 (F := Ideal) x0 w (ix2 r d) : EReal) + (x5 (ix2 0 d) : EReal) : EReal) := by
  unfold k0_pay10
  generalize k0_pay6 (F := Ideal) x0 w = g
  simp only [shapeCast_self]
  pointwise

theorem pay1_apply (v u : FVec Ideal S512x512 .f32) (y : S512x512.Idx) :
    k0_pay1 (F := Ideal) v u y = ((u y : EReal) * Ideal.logistic (u y) * (v y : EReal) : EReal) := rfl

variable (m : (ℓ : Loc nD τ sig) → Buf (Elt Ideal) ℓ)

/-- The eight rows before the first row block: six zero rows, then the two handed in. -/
theorem bufp_read (c : Dev nD) (r : Fin 8) (h : 6 ≤ r.val) (j : Fin 5632) :
    (V m c main_v1 : S8x5632.Idx → EReal) (ix2 r j) = (m ((c : Thread nD τ).loc main_arg1) : S2x5632.Idx → EReal) (ix2 ⟨r.val - 6, by omega⟩ j) := by
  entry_read
  refine concatenate_pair_apply_right (t := S8x5632) (s₁ := S6x5632) (s₂ := S2x5632) (0 : Fin 2) _ _ _ _ rfl rfl (ix2 ⟨r.val - 6, by omega⟩ j : S2x5632.Idx) (fun b hb => ?_) ?_
  · fin_cases b
    · exact absurd rfl hb
    · rfl
  · show r.val - 6 + 6 = r.val
    omega

/-- The three weights of the convolution, in the first three of eight rows. -/
theorem cwp_read (c : Dev nD) (r : Fin 3) (q : Fin 8) (hq : q.val = r.val) (j : Fin 5632) :
    (V m c main_v3 : S8x5632.Idx → EReal) (ix2 q j) = (m ((c : Thread nD τ).loc main_arg4) : S3x5632.Idx → EReal) (ix2 r j) := by
  entry_read
  refine concatenate_pair_apply_left (t := S8x5632) (s₁ := S3x5632) (s₂ := S5x5632) (0 : Fin 2) _ _ _ _ rfl (ix2 r j : S3x5632.Idx) fun b => ?_
  fin_cases b
  · exact hq.symm
  · rfl

/-- The bias. -/
theorem bias_read (c : Dev nD) (j : Fin 5632) :
    (V m c main_v4 : S1x5632.Idx → EReal) (ix2 0 j) = (m ((c : Thread nD τ).loc main_arg5) : S5632.Idx → EReal) (ix1 j) := by
  entry_read
  pointwise

/-! ## The launch -/

theorem t_lt (t : Fin cfg0.N) : t.val < 176 := Nat.lt_of_lt_of_eq t.isLt N_0

def rowOf (t : Fin cfg0.N) (r : Fin 512) : Fin 8192 := ⟨512 * (t.val % 16) + r.val, by omega⟩
def colOf (t : Fin cfg0.N) (d : Fin 512) : Fin 5632 := ⟨512 * (t.val / 16) + d.val, by have := t_lt t; omega⟩

theorem n2_blk (c : Dev nD) (t : Fin cfg0.N) (r : Fin 512) (k : Fin 2048) :
    (iblk m c 0 t : S512x2048.Idx → EReal) (ix2 r k) = (V m c main_arg0 : S8192x2048.Idx → EReal) (ix2 (rowOf t r) k) := by
  have ht := coord_row t
  refine congrArg (V m c main_arg0 : S8192x2048.Idx → EReal) (funext fun a => Fin.ext ?_)
  refine (ValueKit.view_emb_slice_whole_unit_val main_arg0 _ _ _ _ a).trans ?_
  fin_cases a
  · show (BitVec.ofNat 32 (grid0.coords t 1).val).toNat * 512 + r.val = 512 * (t.val % 16) + r.val
    omega
  · show 0 * 2048 + k.val = k.val
    omega

theorem gate_blk (c : Dev nD) (t : Fin cfg0.N) (k : Fin 2048) (d : Fin 512) :
    (iblk m c 1 t : S2048x512.Idx → EReal) (ix2 k d) = (V m c main_arg2 : S2048x5632.Idx → EReal) (ix2 k (colOf t d)) :=
  iblk1_at m c t (ix2 k d) (colOf t d).isLt

theorem up_blk (c : Dev nD) (t : Fin cfg0.N) (k : Fin 2048) (d : Fin 512) :
    (iblk m c 2 t : S2048x512.Idx → EReal) (ix2 k d) = (V m c main_arg3 : S2048x5632.Idx → EReal) (ix2 k (colOf t d)) :=
  iblk2_at m c t (ix2 k d) (colOf t d).isLt

theorem bufp_blk (c : Dev nD) (t : Fin cfg0.N) (r : Fin 8) (d : Fin 512) :
    (iblk m c 3 t : S8x512.Idx → EReal) (ix2 r d) = (V m c main_v1 : S8x5632.Idx → EReal) (ix2 r (colOf t d)) := by
  have hs := coord_col t
  refine congrArg (V m c main_v1 : S8x5632.Idx → EReal) (funext fun a => Fin.ext ?_)
  refine (ValueKit.view_emb_slice_whole_unit_val main_v1 _ _ _ _ a).trans ?_
  fin_cases a
  · show 0 * 8 + r.val = r.val
    omega
  · show (BitVec.ofNat 32 (grid0.coords t 0).val).toNat * 512 + d.val = 512 * (t.val / 16) + d.val
    omega

theorem cwp_blk (c : Dev nD) (t : Fin cfg0.N) (r : Fin 8) (d : Fin 512) :
    (iblk m c 4 t : S8x512.Idx → EReal) (ix2 r d) = (V m c main_v3 : S8x5632.Idx → EReal) (ix2 r (colOf t d)) := by
  have hs := coord_col t
  refine congrArg (V m c main_v3 : S8x5632.Idx → EReal) (funext fun a => Fin.ext ?_)
  refine (ValueKit.view_emb_slice_whole_unit_val main_v3 _ _ _ _ a).trans ?_
  fin_cases a
  · show 0 * 8 + r.val = r.val
    omega
  · show (BitVec.ofNat 32 (grid0.coords t 0).val).toNat * 512 + d.val = 512 * (t.val / 16) + d.val
    omega

theorem bias_blk (c : Dev nD) (t : Fin cfg0.N) (r : Fin 1) (d : Fin 512) :
    (iblk m c 5 t : S1x512.Idx → EReal) (ix2 r d) = (V m c main_v4 : S1x5632.Idx → EReal) (ix2 r (colOf t d)) := by
  have hs := coord_col t
  refine congrArg (V m c main_v4 : S1x5632.Idx → EReal) (funext fun a => Fin.ext ?_)
  refine (ValueKit.view_emb_slice_whole_unit_val main_v4 _ _ _ _ a).trans ?_
  fin_cases a
  · show 0 * 1 + r.val = r.val
    omega
  · show (BitVec.ofNat 32 (grid0.coords t 0).val).toNat * 512 + d.val = 512 * (t.val / 16) + d.val
    omega

/-- The six arrays the launch is given. -/
abbrev aN (c : Dev nD) : S8192x2048.Idx → EReal := m ((c : Thread nD τ).loc main_arg0)
abbrev aBuf (c : Dev nD) : S2x5632.Idx → EReal := m ((c : Thread nD τ).loc main_arg1)
abbrev aGate (c : Dev nD) : S2048x5632.Idx → EReal := m ((c : Thread nD τ).loc main_arg2)
abbrev aUp (c : Dev nD) : S2048x5632.Idx → EReal := m ((c : Thread nD τ).loc main_arg3)
abbrev aW (c : Dev nD) : S3x5632.Idx → EReal := m ((c : Thread nD τ).loc main_arg4)
abbrev aB (c : Dev nD) : S5632.Idx → EReal := m ((c : Thread nD τ).loc main_arg5)

/-- The gate's product in a block. -/
theorem gate_at (c : Dev nD) (t : Fin cfg0.N) (r : Fin 512) (d : Fin 512) :
    k0_pay6 (F := Ideal) (iblk m c 0 t) (narrow (iblk m c 1 t)) (ix2 r d) = prod (aN m c) (aGate m c) (rowOf t r) (colOf t d) := by
  refine (pay6_apply _ _ r d).trans (Finset.sum_congr rfl fun k _ => ?_)
  exact congrArg₂ (· * ·) ((n2_blk m c t r k).trans (congrFun (V_main_arg0 m c) _)) ((gate_blk m c t k d).trans (congrFun (V_main_arg2 m c) _))

/-- The up product in a block. -/
theorem up_at (c : Dev nD) (t : Fin cfg0.N) (r : Fin 512) (d : Fin 512) :
    k0_pay7 (F := Ideal) (iblk m c 0 t) (narrow (iblk m c 2 t)) (ix2 r d) = prod (aN m c) (aUp m c) (rowOf t r) (colOf t d) := by
  refine (pay7_apply _ _ r d).trans (Finset.sum_congr rfl fun k _ => ?_)
  exact congrArg₂ (· * ·) ((n2_blk m c t r k).trans (congrFun (V_main_arg0 m c) _)) ((up_blk m c t k d).trans (congrFun (V_main_arg3 m c) _))

/-- The last two of the eight rows before a row block. -/
theorem before8_at (c : Dev nD) (t : Fin cfg0.N) (r : Fin 8) (h : 6 ≤ r.val) (d : Fin 512) (q : Fin 8194) (hq : q.val + 6 = 512 * (t.val % 16) + r.val) :
    (before8 m c t : S8x512.Idx → EReal) (ix2 r d) = past (aBuf m c) (aN m c) (aGate m c) q (colOf t d) := by
  by_cases h0 : t.val % 16 = 0
  · rw [before8_start m c t h0]
    refine (bufp_blk m c t r d).trans ((bufp_read m c r h _).trans ?_)
    unfold past
    rw [dif_pos (by omega)]
    exact congrArg (fun a => aBuf m c (ix2 a (colOf t d))) (Fin.ext (by show r.val - 6 = q.val; omega))
  · unfold before8
    rw [if_neg h0]
    have ep : (prevPt t).val = t.val - 1 := rfl
    refine (tail_apply _ _ r d).trans ((gate_at m c (prevPt t) _ d).trans ?_)
    have ec : colOf (prevPt t) d = colOf t d := Fin.ext (by
      show 512 * ((prevPt t).val / 16) + d.val = 512 * (t.val / 16) + d.val
      rw [ep]; omega)
    rw [ec]
    refine (past_of _ _ _ q _ ?_ _).symm
    show q.val = 512 * ((prevPt t).val % 16) + (504 + r.val) + 2
    rw [ep]; omega

/-- The rows the convolution reads, two and one before its own. -/
theorem halo_at (c : Dev nD) (t : Fin cfg0.N) (y : S520x512.Idx) (h : 6 ≤ (y 0).val) (d : Fin 512) (hd : (y 1).val = d.val) (q : Fin 8194)
    (hq : q.val + 6 = 512 * (t.val % 16) + (y 0).val) :
    (halo (F := Ideal) (before8 m c t) (k0_pay6 (iblk m c 0 t) (narrow (iblk m c 1 t))) : S520x512.Idx → EReal) y
      = past (aBuf m c) (aN m c) (aGate m c) q (colOf t d) := by
  have e1 : (⟨(y 1).val, (y 1).isLt⟩ : Fin 512) = d := Fin.ext hd
  unfold halo
  split
  · rename_i h8
    rw [e1]
    exact before8_at m c t ⟨(y 0).val, h8⟩ h d q hq
  · rename_i h8
    rw [e1]
    refine (gate_at m c t _ d).trans (past_of _ _ _ q _ ?_ _).symm
    show q.val = 512 * (t.val % 16) + ((y 0).val - 8) + 2
    omega

/-- The convolution's sum in a block. -/
theorem conv_at (c : Dev nD) (t : Fin cfg0.N) (r : Fin 512) (d : Fin 512) :
    k0_pay10 (F := Ideal) (iblk m c 0 t) (narrow (iblk m c 1 t)) (iblk m c 4 t)
      (rows 6 inb_S520x512_S512x512_6_0 (halo (before8 m c t) (k0_pay6 (iblk m c 0 t) (narrow (iblk m c 1 t)))))
      (rows 7 inb_S520x512_S512x512_7_0 (halo (before8 m c t) (k0_pay6 (iblk m c 0 t) (narrow (iblk m c 1 t))))) (iblk m c 5 t) (ix2 r d)
      = conv (aBuf m c) (aN m c) (aGate m c) (aW m c) (aB m c) (rowOf t r) (colOf t d) := by
  refine (pay10_apply _ _ _ _ _ _ r d).trans ?_
  unfold conv
  refine congrArg₂ (· + ·) (congrArg₂ (· + ·) (congrArg₂ (· + ·) (congrArg₂ (· * ·) ?_ ?_) (congrArg₂ (· * ·) ?_ ?_)) (congrArg₂ (· * ·) ?_ ?_)) ?_
  · exact (cwp_blk m c t 0 d).trans (cwp_read m c 0 0 rfl _)
  · refine halo_at m c t _ ?_ d ?_ _ ?_
    · show 6 ≤ 6 + 1 * r.val
      omega
    · show 0 + 1 * d.val = d.val
      omega
    · show 512 * (t.val % 16) + r.val + 6 = 512 * (t.val % 16) + (6 + 1 * r.val)
      omega
  · exact (cwp_blk m c t 1 d).trans (cwp_read m c 1 1 rfl _)
  · refine halo_at m c t _ ?_ d ?_ _ ?_
    · show 6 ≤ 7 + 1 * r.val
      omega
    · show 0 + 1 * d.val = d.val
      omega
    · show 512 * (t.val % 16) + r.val + 1 + 6 = 512 * (t.val % 16) + (7 + 1 * r.val)
      omega
  · exact (cwp_blk m c t 2 d).trans (cwp_read m c 2 2 rfl _)
  · exact gate_at m c t r d
  · exact (bias_blk m c t 0 d).trans (bias_read m c _)

/-- The two result arrays. -/
def hiddenArr (c : Dev nD) : S8192x5632.Idx → EReal := fun j => entry (aBuf m c) (aN m c) (aGate m c) (aUp m c) (aW m c) (aB m c) (j 0) (j 1)
def tailArr (c : Dev nD) : S8x5632.Idx → EReal := fun j =>
  prod (aN m c) (aGate m c) ⟨8184 + (j 0).val, by have : (j 0).val < 8 := (j 0).isLt; omega⟩ (j 1)

theorem hiddenArr_at (c : Dev nD) (i : Fin 8192) (k : Fin 5632) (j : S8192x5632.Idx) (e : ∀ a, (j a).val = (ix2 i k a : Fin _).val) :
    entry (aBuf m c) (aN m c) (aGate m c) (aUp m c) (aW m c) (aB m c) i k = hiddenArr m c j := by
  rw [show j = ix2 i k from funext fun a => Fin.ext (e a)]
  rfl

theorem tailArr_at (c : Dev nD) (i : Fin 8192) (k : Fin 5632) (j : S8x5632.Idx) (e0 : 8184 + (j 0).val = i.val) (e1 : (j 1).val = k.val) :
    prod (aN m c) (aGate m c) i k = tailArr m c j := by
  unfold tailArr
  exact congrArg₂ (prod (aN m c) (aGate m c)) (Fin.ext e0.symm) (Fin.ext e1.symm)

theorem hidden_after (c : Dev nD) (t : Fin cfg0.N) (y : S512x512.Idx) :
    ((dats m 0 c).after 6 t : S512x512.Idx → EReal) y
      = entry (aBuf m c) (aN m c) (aGate m c) (aUp m c) (aW m c) (aB m c) (rowOf t (y 0)) (colOf t (y 1)) := by
  rw [after0_6, show y = ix2 (y 0) (y 1) from funext fun a => by fin_cases a <;> rfl]
  unfold act entry
  refine (pay1_apply _ _ _).trans ?_
  have e := conv_at m c t (y 0) (y 1)
  exact congrArg₂ (· * ·) (congrArg₂ (· * ·) e (congrArg Ideal.logistic e)) (up_at m c t (y 0) (y 1))

theorem tail_after (c : Dev nD) (t : Fin cfg0.N) (y : S8x512.Idx) :
    ((dats m 0 c).after 7 t : S8x512.Idx → EReal) y
      = prod (aN m c) (aGate m c) (rowOf t ⟨504 + (y 0).val, by have : (y 0).val < 8 := (y 0).isLt; omega⟩) (colOf t (y 1)) := by
  rw [after0_7, show y = ix2 (y 0) (y 1) from funext fun a => by fin_cases a <;> rfl]
  exact (tail_apply _ _ (y 0) (y 1)).trans (gate_at m c t _ (y 1))

theorem covers_6 : (cfg0.win 6).Covers := by decide +kernel

theorem covers_7 : (cfg0.win 7).Covers := by decide +kernel

theorem final_6 (c : Dev nD) : (dats m 0 c).arrAt 6 cfg0.N = hiddenArr m c := by
  refine (dats m 0 c).arrAt_eq_of_covers 6 _ covers_6 fun t _ y => ?_
  have ht := coord_row t
  have hs := coord_col t
  refine (hidden_after m c t y).trans (hiddenArr_at m c _ _ _ fun a => ?_)
  refine (ValueKit.view_emb_slice_whole_unit_val main_v5_0 _ _ _ y a).trans ?_
  fin_cases a
  · show (BitVec.ofNat 32 (grid0.coords t 1).val).toNat * 512 + (y (0 : Fin 2)).val = 512 * (t.val % 16) + (y (0 : Fin 2)).val
    omega
  · show (BitVec.ofNat 32 (grid0.coords t 0).val).toNat * 512 + (y (1 : Fin 2)).val = 512 * (t.val / 16) + (y (1 : Fin 2)).val
    omega

theorem final_7 (c : Dev nD) : (dats m 0 c).arrAt 7 cfg0.N = tailArr m c := by
  refine (dats m 0 c).arrAt_eq_of_covers 7 _ covers_7 fun t hf y => ?_
  have ht := (flush0_7 t).mp hf
  have hs := coord_col t
  refine (tail_after m c t y).trans (tailArr_at m c _ _ _ ?_ ?_)
  · refine (congrArg (8184 + ·) (ValueKit.view_emb_slice_whole_unit_val main_v5_1 _ _ _ y (0 : Fin 2))).trans ?_
    show 8184 + (0 * 8 + (y (0 : Fin 2)).val) = 512 * (t.val % 16) + (504 + (y (0 : Fin 2)).val)
    omega
  · refine (ValueKit.view_emb_slice_whole_unit_val main_v5_1 _ _ _ y (1 : Fin 2)).trans ?_
    show (BitVec.ofNat 32 (grid0.coords t 0).val).toNat * 512 + (y (1 : Fin 2)).val = 512 * (t.val / 16) + (y (1 : Fin 2)).val
    omega

/-- The launch's two result arrays. -/
theorem kernel_run (ρ : Dev nD → PrngReg) :
    θ_run defs (onTc (τ := τ) (main (F := Ideal))) ⟨m, fun _ => 0, ρ⟩ (fun r => ∀ c : Dev nD,
      r.2.mem ((c.tc : Thread nD τ).loc main_v5_0) = hiddenArr m c ∧ r.2.mem ((c.tc : Thread nD τ).loc main_v5_1) = tailArr m c) :=
  (θ_run defs _ _).mono (fun r h c => ⟨(Pipeline.FramePost.out_eq h c 6).trans (final_6 m c), (Pipeline.FramePost.out_eq h c 7).trans (final_7 m c)⟩) (run_main m ρ)

/-! ## The reference -/

/-- A row of the convolution's weights, spread over the rows. -/
theorem row_apply (k : ℕ) (hs : S3x5632.Slices ![k, 0] HiddenRefIdeal.S1x5632) (cw : FVec Ideal HiddenRefIdeal.S3x5632 .f32) (r : Fin 3) (hr : k = r.val) (i : Fin 8192) (j : Fin 5632) :
    (broadcastInDim HiddenRefIdeal.S8192x5632 ![0, 1] HiddenRefIdeal.Gen.bcast_S1x5632_S8192x5632_0_1 (broadcastInDim HiddenRefIdeal.S1x5632 ![1] HiddenRefIdeal.Gen.bcast_S5632_S1x5632_1
      (shapeCast HiddenRefIdeal.S5632 (extractStridedSlice HiddenRefIdeal.S1x5632 ![k, 0] cw hs) HiddenRefIdeal.Gen.shapeCasts_S1x5632_S5632)) : FVec Ideal HiddenRefIdeal.S8192x5632 .f32) (ix2 i j)
      = cw (ix2 r j) := by
  subst hr
  pointwise

theorem bias_apply (cb : FVec Ideal HiddenRefIdeal.S5632 .f32) (i : Fin 8192) (j : Fin 5632) :
    (broadcastInDim HiddenRefIdeal.S8192x5632 ![0, 1] HiddenRefIdeal.Gen.bcast_S1x5632_S8192x5632_0_1 (broadcastInDim HiddenRefIdeal.S1x5632 ![1] HiddenRefIdeal.Gen.bcast_S5632_S1x5632_1 cb)
      : FVec Ideal HiddenRefIdeal.S8192x5632 .f32) (ix2 i j) = cb (ix1 j) := by
  pointwise

/-- A product of the reference. -/
theorem product_apply (n : FVec Ideal HiddenRefIdeal.S8192x2048 .bf16) (w : FVec Ideal HiddenRefIdeal.S2048x5632 .f32) (i : Fin 8192) (j : Fin 5632) :
    Host.dotGeneral HiddenRefIdeal.dot_S8192x2048_S2048x5632_S8192x5632_1_0_0_1_n_n none (extf .f32 n HiddenRefIdeal.Gen.bitsLt_bf16_f32) w (ix2 i j) = prod n w i j :=
  StackMember.dotGeneral_plain_apply none _ w i j

/-- The convolution's input, `k` rows on. -/
theorem shift_apply (k : ℕ) (hs : HiddenRefIdeal.S8194x5632.Slices ![k, 0] HiddenRefIdeal.S8192x5632) (buf : FVec Ideal HiddenRefIdeal.S2x5632 .f32)
    (n : FVec Ideal HiddenRefIdeal.S8192x2048 .bf16) (w : FVec Ideal HiddenRefIdeal.S2048x5632 .f32) (i : Fin 8192) (j : Fin 5632) (q : Fin 8194) (hq : q.val = k + i.val) :
    (extractStridedSlice HiddenRefIdeal.S8192x5632 ![k, 0] (concatenate HiddenRefIdeal.S8194x5632 0 [⟨HiddenRefIdeal.S2x5632, buf⟩,
      ⟨HiddenRefIdeal.S8192x5632, Host.dotGeneral HiddenRefIdeal.dot_S8192x2048_S2048x5632_S8192x5632_1_0_0_1_n_n none (extf .f32 n HiddenRefIdeal.Gen.bitsLt_bf16_f32) w⟩]
        HiddenRefIdeal.Gen.concatenates_S2x5632_S8192x5632_S8194x5632_d0) hs : FVec Ideal HiddenRefIdeal.S8192x5632 .f32) (ix2 i j) = past buf n w q j := by
  refine (extractStridedSlice_apply _ _ _ _ (ix2 q j : HiddenRefIdeal.S8194x5632.Idx) fun a => ?_).trans ?_
  · fin_cases a
    · exact hq
    · exact (Nat.zero_add _).symm
  unfold past
  split
  · rename_i h
    refine concatenate_pair_apply_left (t := HiddenRefIdeal.S8194x5632) (s₁ := HiddenRefIdeal.S2x5632) (s₂ := HiddenRefIdeal.S8192x5632) (0 : Fin 2) _ _ _ _ rfl (ix2 ⟨q.val, h⟩ j : HiddenRefIdeal.S2x5632.Idx) fun b => ?_
    fin_cases b <;> rfl
  · rename_i h
    refine (concatenate_pair_apply_right (t := HiddenRefIdeal.S8194x5632) (s₁ := HiddenRefIdeal.S2x5632) (s₂ := HiddenRefIdeal.S8192x5632) (0 : Fin 2) _ _ _ _ rfl rfl (ix2 ⟨q.val - 2, by omega⟩ j : HiddenRefIdeal.S8192x5632.Idx) (fun b hb => ?_) ?_).trans
      (product_apply n w _ j)
    · fin_cases b
      · exact absurd rfl hb
      · rfl
    · show q.val - 2 + 2 = q.val
      omega

/-- The product of a gated sum and the up product. -/
theorem silu_mul (G U : FVec Ideal HiddenRefIdeal.S8192x5632 .f32) (y : HiddenRefIdeal.S8192x5632.Idx) (s u : EReal) (hG : G y = s) (hU : U y = u) :
    truncf .bf16 (mulf (mulf G (Host.divf (broadcastInDim HiddenRefIdeal.S8192x5632 ![] HiddenRefIdeal.Gen.bcast_S_S8192x5632 (constant HiddenRefIdeal.S_ .f32 0x3F800000#32))
      (addf (broadcastInDim HiddenRefIdeal.S8192x5632 ![] HiddenRefIdeal.Gen.bcast_S_S8192x5632 (constant HiddenRefIdeal.S_ .f32 0x3F800000#32)) (Host.exp (Host.negf G))))) U)
        HiddenRefIdeal.Gen.bitsLt_bf16_f32 y = (s * Ideal.logistic s * u : EReal) := by
  subst hG hU
  have one : (FloatOps.ofBits (F := Ideal) .f32 0x3F800000#32 : EReal) = 1 := Ideal.ofBits_one_f32
  show (G y * Ideal.div (FloatOps.ofBits (F := Ideal) .f32 0x3F800000#32 : EReal) ((FloatOps.ofBits (F := Ideal) .f32 0x3F800000#32 : EReal) + Ideal.exp (-(G y : EReal))) * U y : EReal) = _
  rw [one]
  rfl

/-- The reference's hidden activations at an entry. -/
theorem reference_apply (μ : (ℓ : Loc HiddenRefIdeal.nD HiddenRefIdeal.τ HiddenRefIdeal.sig) → Buf (Elt Ideal) ℓ) (c : Dev HiddenRefIdeal.nD) (i : HiddenRefIdeal.S8192x5632.Idx) :
    (HiddenRefIdeal.Value.res_out0 μ c : HiddenRefIdeal.S8192x5632.Idx → EReal) i
      = entry (μ ((c.tc : Thread HiddenRefIdeal.nD HiddenRefIdeal.τ).loc HiddenRefIdeal.main_arg1)) (μ ((c.tc : Thread HiddenRefIdeal.nD HiddenRefIdeal.τ).loc HiddenRefIdeal.main_arg0))
          (μ ((c.tc : Thread HiddenRefIdeal.nD HiddenRefIdeal.τ).loc HiddenRefIdeal.main_arg2)) (μ ((c.tc : Thread HiddenRefIdeal.nD HiddenRefIdeal.τ).loc HiddenRefIdeal.main_arg3))
          (μ ((c.tc : Thread HiddenRefIdeal.nD HiddenRefIdeal.τ).loc HiddenRefIdeal.main_arg4)) (μ ((c.tc : Thread HiddenRefIdeal.nD HiddenRefIdeal.τ).loc HiddenRefIdeal.main_arg5)) (i 0) (i 1) := by
  rw [show i = ix2 (i 0) (i 1) from funext fun a => by fin_cases a <;> rfl]
  unfold HiddenRefIdeal.Value.res_out0 HiddenRefIdeal.Value.res_main_v29
  refine silu_mul _ _ _ _ _ ?_ (product_apply _ _ (i 0) (i 1))
  unfold conv
  refine congrArg₂ (· + ·) (congrArg₂ (· + ·) (congrArg₂ (· + ·) (congrArg₂ (· * ·) ?_ ?_) (congrArg₂ (· * ·) ?_ ?_)) (congrArg₂ (· * ·) ?_ ?_)) (bias_apply _ (i 0) (i 1))
  · exact row_apply 0 _ _ 0 rfl (i 0) (i 1)
  · exact shift_apply 0 _ _ _ _ (i 0) (i 1) _ (Nat.zero_add _).symm
  · exact row_apply 1 _ _ 1 rfl (i 0) (i 1)
  · exact shift_apply 1 _ _ _ _ (i 0) (i 1) _ (Nat.add_comm _ _)
  · exact row_apply 2 _ _ 2 rfl (i 0) (i 1)
  · exact (shift_apply 2 _ _ _ _ (i 0) (i 1) ⟨(i 0).val + 2, by have : (i 0).val < 8192 := (i 0).isLt; omega⟩ (Nat.add_comm _ _)).trans (past_of _ _ _ _ (i 0) rfl _)

/-- The reference's last eight rows of the gate's product. -/
theorem reference_tail (n : FVec Ideal HiddenRefIdeal.S8192x2048 .bf16) (w : FVec Ideal HiddenRefIdeal.S2048x5632 .f32) (i : HiddenRefIdeal.S8x5632.Idx) :
    extractStridedSlice HiddenRefIdeal.S8x5632 ![8184, 0] (Host.dotGeneral HiddenRefIdeal.dot_S8192x2048_S2048x5632_S8192x5632_1_0_0_1_n_n none (extf .f32 n HiddenRefIdeal.Gen.bitsLt_bf16_f32) w)
      HiddenRefIdeal.Gen.slices_S8192x5632_S8x5632_8184_0 i
      = prod n w ⟨8184 + (i 0).val, by have : (i 0).val < 8 := (i 0).isLt; omega⟩ (i 1) := by
  refine (extractStridedSlice_apply _ _ _ _ (ix2 ⟨8184 + (i 0).val, by have : (i 0).val < 8 := (i 0).isLt; omega⟩ (i 1) : HiddenRefIdeal.S8192x5632.Idx) fun a => ?_).trans
    (product_apply n w _ (i 1))
  fin_cases a
  · rfl
  · exact (Nat.zero_add _).symm

end Cert.HiddenValue
end
-- ==== Proof.NormValue.lean ====
/- The final norm's result: the launch's from its blocks, the reference's from its text, and their equality. -/
module

public import proofs.«01_k».proof.Proof.HiddenValue
public import proofs.«01_k».proof.Proof.Gen.NormIdeal.Frame
public import proofs.«01_k».proof.Proof.Gen.NormRefIdeal.Run
public import Idealize.ShloMosaic.Lib.Pointwise

@[expose] public section

set_option maxRecDepth 16384

noncomputable section

open Idealize.ShloMosaic Idealize.ShloMosaic.TcCoe Idealize.SL.Sem

namespace Cert.NormValue

open Cert.NormIdeal Cert.NormIdeal.Gen

/-- The scale of a row whose squares sum to `s`. -/
def scale (s : EReal) : EReal :=
  Ideal.rsqrt (Ideal.div s (Ideal.ofBits .f32 0x45000000#32) + Ideal.ofBits .f32 0x358637BD#32)

/-- One entry of the result: the row's entry, its row's scale, the column's gain. -/
def entry (x : S8192x2048.Idx → EReal) (g : S2048.Idx → EReal) (i : Fin 8192) (j : Fin 2048) : EReal :=
  x (ix2 i j) * scale (∑ k : Fin 2048, x (ix2 i k) * x (ix2 i k)) * g (ix1 j)

/-- A block's result at an entry. -/
theorem block_apply (x : FVec Ideal S512x2048 .f32) (g : FVec Ideal S1x2048 .f32) (r : Fin 512) (d : Fin 2048) :
    k0_pay1 (F := Ideal) x g (ix2 r d)
      = ((x (ix2 r d) : EReal) * scale (∑ k : Fin 2048, (x (ix2 r k) : EReal) * (x (ix2 r k) : EReal)) * (g (ix2 0 d) : EReal) : EReal) := by
  unfold k0_pay1 scale
  simp only [shapeCast_self]
  pointwise

variable (m : (ℓ : Loc nD τ sig) → Buf (Elt Ideal) ℓ)

theorem t_lt (t : Fin cfg0.N) : t.val < 16 := Nat.lt_of_lt_of_eq t.isLt N_0

theorem coord_row (t : Fin cfg0.N) : (BitVec.ofNat 32 (grid0.coords t 0).val).toNat = t.val := by
  have ht := t_lt t
  have e0 : (grid0.coords t 0).val = t.val / 1 % 16 := Pipeline.Grid.coords_val t 0 (by decide) rfl
  rw [e0, BitVec.toNat_ofNat]; omega

def rowOf (t : Fin cfg0.N) (r : Fin 512) : Fin 8192 := ⟨512 * t.val + r.val, by have := t_lt t; omega⟩

theorem stream_blk (c : Dev nD) (t : Fin cfg0.N) (r : Fin 512) (k : Fin 2048) :
    (iblk m c 0 t : S512x2048.Idx → EReal) (ix2 r k) = (V m c main_arg0 : S8192x2048.Idx → EReal) (ix2 (rowOf t r) k) := by
  have ht := coord_row t
  refine congrArg (V m c main_arg0 : S8192x2048.Idx → EReal) (funext fun a => Fin.ext ?_)
  refine (ValueKit.view_emb_slice_whole_unit_val main_arg0 _ _ _ _ a).trans ?_
  fin_cases a
  · show (BitVec.ofNat 32 (grid0.coords t 0).val).toNat * 512 + r.val = 512 * t.val + r.val
    omega
  · show 0 * 2048 + k.val = k.val
    omega

theorem gain_blk (c : Dev nD) (t : Fin cfg0.N) (k : Fin 2048) :
    (iblk m c 1 t : S1x2048.Idx → EReal) (ix2 0 k) = (V m c main_v0 : S1x2048.Idx → EReal) (ix2 0 k) := by
  refine congrArg (V m c main_v0 : S1x2048.Idx → EReal) (funext fun a => Fin.ext ?_)
  refine (ValueKit.view_emb_slice_whole_unit_val main_v0 _ _ _ _ a).trans ?_
  fin_cases a
  · show 0 * 1 + 0 = 0
    omega
  · show 0 * 2048 + k.val = k.val
    omega

/-- The gain as a row. -/
theorem gain_read (c : Dev nD) (k : Fin 2048) :
    (V m c main_v0 : S1x2048.Idx → EReal) (ix2 0 k) = (m ((c : Thread nD τ).loc main_arg1) : S2048.Idx → EReal) (ix1 k) := by
  entry_read
  pointwise

def aX (c : Dev nD) : S8192x2048.Idx → EReal := m ((c : Thread nD τ).loc main_arg0)
def aG (c : Dev nD) : S2048.Idx → EReal := m ((c : Thread nD τ).loc main_arg1)

/-- The result array. -/
def normArr (c : Dev nD) : S8192x2048.Idx → EReal := fun j => entry (aX m c) (aG m c) (j 0) (j 1)

theorem normArr_at (c : Dev nD) (i : Fin 8192) (k : Fin 2048) (j : S8192x2048.Idx) (e : ∀ a, (j a).val = (ix2 i k a : Fin _).val) :
    entry (aX m c) (aG m c) i k = normArr m c j := by
  rw [show j = ix2 i k from funext fun a => Fin.ext (e a)]
  rfl

theorem stream_at (c : Dev nD) (t : Fin cfg0.N) (r : Fin 512) (k : Fin 2048) :
    (iblk m c 0 t : S512x2048.Idx → EReal) (ix2 r k) = aX m c (ix2 (rowOf t r) k) :=
  (stream_blk m c t r k).trans (congrFun (V_main_arg0 m c) _)

theorem out_eq (x0 : Vec Ideal S512x2048 .f32) (x1 : Vec Ideal S1x2048 .f32) : out0_2 x0 x1 = k0_pay1 x0 x1 := by
  have z : (![0, 0] : Fin 2 → Nat) = fun _ => 0 := by decide
  unfold out0_2
  refine (View.canon_unit_zero z _ _).trans ?_
  exact congrArg₂ k0_pay1 (View.ld_unit_zero z _ x0) (View.ld_unit_zero z _ x1)

theorem after_at (c : Dev nD) (t : Fin cfg0.N) (y : S512x2048.Idx) :
    ((dats m 0 c).after 2 t : S512x2048.Idx → EReal) y = entry (aX m c) (aG m c) (rowOf t (y 0)) (y 1) := by
  rw [after0_2, out_eq, show y = ix2 (y 0) (y 1) from funext fun a => by fin_cases a <;> rfl]
  refine (block_apply _ _ (y 0) (y 1)).trans ?_
  refine congrArg₂ (· * ·) (congrArg₂ (· * ·) (stream_at m c t (y 0) (y 1)) (congrArg scale (Finset.sum_congr rfl fun k _ => ?_)))
    ((gain_blk m c t (y 1)).trans (gain_read m c (y 1)))
  exact congrArg₂ (· * ·) (stream_at m c t (y 0) k) (stream_at m c t (y 0) k)

theorem covers_2 : (cfg0.win 2).Covers := by decide +kernel

theorem final_2 (c : Dev nD) : (dats m 0 c).arrAt 2 cfg0.N = normArr m c := by
  refine (dats m 0 c).arrAt_eq_of_covers 2 _ covers_2 fun t _ y => ?_
  have ht := coord_row t
  refine (after_at m c t y).trans (normArr_at m c _ _ _ fun a => ?_)
  refine (ValueKit.view_emb_slice_whole_unit_val main_v1 _ _ _ y a).trans ?_
  fin_cases a
  · show (BitVec.ofNat 32 (grid0.coords t 0).val).toNat * 512 + (y (0 : Fin 2)).val = 512 * t.val + (y (0 : Fin 2)).val
    omega
  · show 0 * 2048 + (y (1 : Fin 2)).val = (y (1 : Fin 2)).val
    omega

/-- The launch's result array. -/
theorem kernel_run (ρ : Dev nD → PrngReg) :
    θ_run defs (onTc (τ := τ) (main (F := Ideal))) ⟨m, fun _ => 0, ρ⟩ (fun r => ∀ c : Dev nD,
      r.2.mem ((c.tc : Thread nD τ).loc main_v1) = normArr m c) :=
  (θ_run defs _ _).mono (fun r h c => (Pipeline.FramePost.out_eq h c 2).trans (final_2 m c)) (run_main m ρ)

/-- The reference's result at an entry. -/
theorem reference_apply (x : FVec Ideal NormRefIdeal.S8192x2048 .f32) (g : FVec Ideal NormRefIdeal.S2048 .f32) (i : NormRefIdeal.S8192x2048.Idx) :
    (mulf (mulf x (broadcastInDim NormRefIdeal.S8192x2048 ![0, 1] NormRefIdeal.Gen.bcast_S8192x1_S8192x2048_0_1 (Host.rsqrt (addf (Host.divf (broadcastInDim NormRefIdeal.S8192x1 ![0] NormRefIdeal.Gen.bcast_S8192_S8192x1_0 (Host.reduceAdd (mulf x x) (constant NormRefIdeal.S_ .f32 0x00000000#32) NormRefIdeal.Gen.reducesTo_S8192x2048_S8192_d1 NormRefIdeal.Gen.h_S_)) (broadcastInDim NormRefIdeal.S8192x1 ![] NormRefIdeal.Gen.bcast_S_S8192x1 (constant NormRefIdeal.S_ .f32 0x45000000#32))) (broadcastInDim NormRefIdeal.S8192x1 ![] NormRefIdeal.Gen.bcast_S_S8192x1 (constant NormRefIdeal.S_ .f32 0x358637BD#32)))))) (broadcastInDim NormRefIdeal.S8192x2048 ![0, 1] NormRefIdeal.Gen.bcast_S1x2048_S8192x2048_0_1 (broadcastInDim NormRefIdeal.S1x2048 ![1] NormRefIdeal.Gen.bcast_S2048_S1x2048_1 g))) i
      = entry x g (i 0) (i 1) := by
  rw [show i = ix2 (i 0) (i 1) from funext fun a => by fin_cases a <;> rfl]
  generalize i 0 = r
  generalize i 1 = d
  unfold entry scale
  pointwise

end Cert.NormValue
end
-- ==== Proof.GluRun.lean ====
/- One grid point of the gated projection: what the two loops over the weight blocks leave in the scratch buffers, and the body's
   triple at the points that start a column block and at those that go on. -/
module

public import proofs.«01_k».proof.Proof.Gen.GluIdeal.Frame.Runs
public import Idealize.ShloMosaic.Lib.WritesUnit
public import Idealize.ShloMosaic.Lib.WholeRead
public import Idealize.ShloMosaic.Lib.VecWindow
public import Idealize.ShloMosaic.Lib.Pointwise

@[expose] public section

set_option maxRecDepth 16384

noncomputable section

namespace Cert.GluIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- A weight block rounded to bf16, as its scratch buffer holds it. -/
def narrow (x : Vec F S2048x512 .f32) : Vec F S2048x512 .bf16 := truncf .bf16 x bitsLt_bf16_f32

theorem pay1_eq (v : Vec F S256x512 .f32) : k0_pay1 v = truncf .bf16 v bitsLt_bf16_f32 := by
  unfold k0_pay1
  exact shapeCast_self _ _

theorem pay2_eq (v : Vec F S256x512 .f32) : k0_pay2 v = truncf .bf16 v bitsLt_bf16_f32 := by
  unfold k0_pay2
  exact shapeCast_self _ _

/-- A trip's one store: 256 rows of the weight block, rounded. -/
theorem piece_eq1 (𝒱 : Variants) (c : Dev nD) (bd : Option 𝒱.V) (i : grid0.Coords) (arg2 : Memref sig .tc .vmem S512x2048 .bf16) (harg2 : arg2.IsWhole) (arg3 : Memref sig .tc .vmem S2048x512 .f32) (harg3 : arg3.IsWhole)
    (arg4 : Memref sig .tc .vmem S2048x512 .f32) (harg4 : arg4.IsWhole) (arg5 : Memref sig .tc .vmem S512x512 .f32) (harg5 : arg5.IsWhole)
    (arg6 : Memref sig .tc .vmem S2048x512 .bf16) (harg6 : arg6.IsWhole) (arg7 : Memref sig .tc .vmem S2048x512 .bf16) (harg7 : arg7.IsWhole)
    (h1 : k0_cond1 i = 1#1) (X : BufTy.Contents (Elt F) arg3.view.ty) (k : Fin k0_t1_loop.trips) :
    tripL_k0_t1 (F := F) 𝒱 c bd i arg2 harg2 arg3 harg3 arg4 harg4 arg5 harg5 arg6 harg6 arg7 harg7 h1 X k
      = [⟨Rect.unit (s := S2048x512) (k0_off1 k) S256x512.size (k0_off1_inb i k h1),
          k0_pay1 (View.readAt (Elt F) arg3.view (Rect.unit (s := S2048x512) (k0_off1 k) S256x512.size (k0_off1_inb i k h1)).toLoadRect X)⟩] := by
  unfold tripL_k0_t1 trip_k0_t1
  rfl

/-- Below the rows of the trips done so far the scratch buffer holds the rounded weight block. -/
theorem read_pb1 (𝒱 : Variants) (c : Dev nD) (bd : Option 𝒱.V) (i : grid0.Coords) (arg2 : Memref sig .tc .vmem S512x2048 .bf16) (harg2 : arg2.IsWhole) (arg3 : Memref sig .tc .vmem S2048x512 .f32) (harg3 : arg3.IsWhole)
    (arg4 : Memref sig .tc .vmem S2048x512 .f32) (harg4 : arg4.IsWhole) (arg5 : Memref sig .tc .vmem S512x512 .f32) (harg5 : arg5.IsWhole)
    (arg6 : Memref sig .tc .vmem S2048x512 .bf16) (harg6 : arg6.IsWhole) (arg7 : Memref sig .tc .vmem S2048x512 .bf16) (harg7 : arg7.IsWhole)
    (h1 : k0_cond1 i = 1#1) (x : Vec F S2048x512 .f32) (f : BufTy.Contents (Elt F) arg6.view.ty) (n : ℕ) (hn : n ≤ k0_t1_loop.trips)
    (y : S2048x512.Idx) (hy : (y 0).val < 256 * n) :
    arg6.view.read (Elt F) (arg6.view.writes (Elt F) f (pb_k0_t1 (F := F) 𝒱 c bd i arg2 harg2 arg3 harg3 arg4 harg4 arg5 harg5 arg6 harg6 arg7 harg7 h1 (harg3.unread x) n)) y
      = narrow x y := by
  induction n with
  | zero => omega
  | succ n ih =>
    have hk : n < k0_t1_loop.trips := hn
    have e := (pb_k0_t1_succ (F := F) 𝒱 c bd i arg2 harg2 arg3 harg3 arg4 harg4 arg5 harg5 arg6 harg6 arg7 harg7 h1 (harg3.unread x) ⟨n, hk⟩).trans
      (congrArg (· ++ _) (piece_eq1 (F := F) 𝒱 c bd i arg2 harg2 arg3 harg3 arg4 harg4 arg5 harg5 arg6 harg6 arg7 harg7 h1 (harg3.unread x) ⟨n, hk⟩))
    refine (congrArg (fun L => arg6.view.read (Elt F) (arg6.view.writes (Elt F) f L) y) e).trans ?_
    by_cases h : 256 * n ≤ (y 0).val
    · have hlt : (y 0).val - 256 * n < 256 := by omega
      refine (View.read_writes_cons_unit_of_mem arg6.view f _ _ _ y (ix2 ⟨(y 0).val - 256 * n, hlt⟩ ⟨(y 1).val, (y 1).isLt⟩ : S256x512.Idx)
        (k0_off1_eq ⟨n, hk⟩) ?_).trans ?_
      · intro a
        fin_cases a
        · show (y 0).val = 256 * n + ((y 0).val - 256 * n)
          omega
        · show (y 1).val = 0 + (y 1).val
          omega
      · rw [pay1_eq]
        refine congrArg (fun z => FloatOps.truncf .bf16 bitsLt_bf16_f32 z) ?_
        rw [Memref.IsWhole.readAt_unread]
        refine congrArg x (funext fun a => Fin.ext ?_)
        have e0 := congrFun (k0_off1_eq ⟨n, hk⟩) a
        fin_cases a
        · show k0_off1 ⟨n, hk⟩ 0 + 1 * ((y 0).val - 256 * n) = (y 0).val
          have e0' : k0_off1 ⟨n, hk⟩ 0 = 256 * n := e0
          omega
        · show k0_off1 ⟨n, hk⟩ 1 + 1 * (y 1).val = (y 1).val
          have e0' : k0_off1 ⟨n, hk⟩ 1 = 0 := e0
          omega
    · refine (View.read_writes_cons_unit_of_not_mem arg6.view f _ _ _ y (k0_off1_eq ⟨n, hk⟩) 0 (Or.inl ?_)).trans (ih (by omega) (by omega))
      show (y 0).val < 256 * n
      omega

/-- After the loop the scratch buffer holds the rounded weight block. -/
theorem read_all1 (𝒱 : Variants) (c : Dev nD) (bd : Option 𝒱.V) (i : grid0.Coords) (arg2 : Memref sig .tc .vmem S512x2048 .bf16) (harg2 : arg2.IsWhole) (arg3 : Memref sig .tc .vmem S2048x512 .f32) (harg3 : arg3.IsWhole)
    (arg4 : Memref sig .tc .vmem S2048x512 .f32) (harg4 : arg4.IsWhole) (arg5 : Memref sig .tc .vmem S512x512 .f32) (harg5 : arg5.IsWhole)
    (arg6 : Memref sig .tc .vmem S2048x512 .bf16) (harg6 : arg6.IsWhole) (arg7 : Memref sig .tc .vmem S2048x512 .bf16) (harg7 : arg7.IsWhole)
    (h1 : k0_cond1 i = 1#1) (x : Vec F S2048x512 .f32) (f : BufTy.Contents (Elt F) arg6.view.ty) :
    arg6.view.read (Elt F) (arg6.view.writes (Elt F) f (pb_k0_t1 (F := F) 𝒱 c bd i arg2 harg2 arg3 harg3 arg4 harg4 arg5 harg5 arg6 harg6 arg7 harg7 h1 (harg3.unread x) k0_t1_loop.trips))
      = narrow x := by
  funext y
  have ht : k0_t1_loop.trips = 8 := by decide +kernel
  have hy : (y 0).val < 2048 := (y 0).isLt
  exact read_pb1 𝒱 c bd i arg2 harg2 arg3 harg3 arg4 harg4 arg5 harg5 arg6 harg6 arg7 harg7 h1 x f _ (Nat.le_refl _) y (by rw [ht]; omega)

/-- A trip's one store: 256 rows of the weight block, rounded. -/
theorem piece_eq2 (𝒱 : Variants) (c : Dev nD) (bd : Option 𝒱.V) (i : grid0.Coords) (arg2 : Memref sig .tc .vmem S512x2048 .bf16) (harg2 : arg2.IsWhole) (arg3 : Memref sig .tc .vmem S2048x512 .f32) (harg3 : arg3.IsWhole)
    (arg4 : Memref sig .tc .vmem S2048x512 .f32) (harg4 : arg4.IsWhole) (arg5 : Memref sig .tc .vmem S512x512 .f32) (harg5 : arg5.IsWhole)
    (arg6 : Memref sig .tc .vmem S2048x512 .bf16) (harg6 : arg6.IsWhole) (arg7 : Memref sig .tc .vmem S2048x512 .bf16) (harg7 : arg7.IsWhole)
    (h1 : k0_cond1 i = 1#1) (X : BufTy.Contents (Elt F) arg4.view.ty) (k : Fin k0_t2_loop.trips) :
    tripL_k0_t2 (F := F) 𝒱 c bd i arg2 harg2 arg3 harg3 arg4 harg4 arg5 harg5 arg6 harg6 arg7 harg7 h1 X k
      = [⟨Rect.unit (s := S2048x512) (k0_off2 k) S256x512.size (k0_off2_inb i k h1),
          k0_pay2 (View.readAt (Elt F) arg4.view (Rect.unit (s := S2048x512) (k0_off2 k) S256x512.size (k0_off2_inb i k h1)).toLoadRect X)⟩] := by
  unfold tripL_k0_t2 trip_k0_t2
  rfl

/-- Below the rows of the trips done so far the scratch buffer holds the rounded weight block. -/
theorem read_pb2 (𝒱 : Variants) (c : Dev nD) (bd : Option 𝒱.V) (i : grid0.Coords) (arg2 : Memref sig .tc .vmem S512x2048 .bf16) (harg2 : arg2.IsWhole) (arg3 : Memref sig .tc .vmem S2048x512 .f32) (harg3 : arg3.IsWhole)
    (arg4 : Memref sig .tc .vmem S2048x512 .f32) (harg4 : arg4.IsWhole) (arg5 : Memref sig .tc .vmem S512x512 .f32) (harg5 : arg5.IsWhole)
    (arg6 : Memref sig .tc .vmem S2048x512 .bf16) (harg6 : arg6.IsWhole) (arg7 : Memref sig .tc .vmem S2048x512 .bf16) (harg7 : arg7.IsWhole)
    (h1 : k0_cond1 i = 1#1) (x : Vec F S2048x512 .f32) (f : BufTy.Contents (Elt F) arg7.view.ty) (n : ℕ) (hn : n ≤ k0_t2_loop.trips)
    (y : S2048x512.Idx) (hy : (y 0).val < 256 * n) :
    arg7.view.read (Elt F) (arg7.view.writes (Elt F) f (pb_k0_t2 (F := F) 𝒱 c bd i arg2 harg2 arg3 harg3 arg4 harg4 arg5 harg5 arg6 harg6 arg7 harg7 h1 (harg4.unread x) n)) y
      = narrow x y := by
  induction n with
  | zero => omega
  | succ n ih =>
    have hk : n < k0_t2_loop.trips := hn
    have e := (pb_k0_t2_succ (F := F) 𝒱 c bd i arg2 harg2 arg3 harg3 arg4 harg4 arg5 harg5 arg6 harg6 arg7 harg7 h1 (harg4.unread x) ⟨n, hk⟩).trans
      (congrArg (· ++ _) (piece_eq2 (F := F) 𝒱 c bd i arg2 harg2 arg3 harg3 arg4 harg4 arg5 harg5 arg6 harg6 arg7 harg7 h1 (harg4.unread x) ⟨n, hk⟩))
    refine (congrArg (fun L => arg7.view.read (Elt F) (arg7.view.writes (Elt F) f L) y) e).trans ?_
    by_cases h : 256 * n ≤ (y 0).val
    · have hlt : (y 0).val - 256 * n < 256 := by omega
      refine (View.read_writes_cons_unit_of_mem arg7.view f _ _ _ y (ix2 ⟨(y 0).val - 256 * n, hlt⟩ ⟨(y 1).val, (y 1).isLt⟩ : S256x512.Idx)
        (k0_off2_eq ⟨n, hk⟩) ?_).trans ?_
      · intro a
        fin_cases a
        · show (y 0).val = 256 * n + ((y 0).val - 256 * n)
          omega
        · show (y 1).val = 0 + (y 1).val
          omega
      · rw [pay2_eq]
        refine congrArg (fun z => FloatOps.truncf .bf16 bitsLt_bf16_f32 z) ?_
        rw [Memref.IsWhole.readAt_unread]
        refine congrArg x (funext fun a => Fin.ext ?_)
        have e0 := congrFun (k0_off2_eq ⟨n, hk⟩) a
        fin_cases a
        · show k0_off2 ⟨n, hk⟩ 0 + 1 * ((y 0).val - 256 * n) = (y 0).val
          have e0' : k0_off2 ⟨n, hk⟩ 0 = 256 * n := e0
          omega
        · show k0_off2 ⟨n, hk⟩ 1 + 1 * (y 1).val = (y 1).val
          have e0' : k0_off2 ⟨n, hk⟩ 1 = 0 := e0
          omega
    · refine (View.read_writes_cons_unit_of_not_mem arg7.view f _ _ _ y (k0_off2_eq ⟨n, hk⟩) 0 (Or.inl ?_)).trans (ih (by omega) (by omega))
      show (y 0).val < 256 * n
      omega

/-- After the loop the scratch buffer holds the rounded weight block. -/
theorem read_all2 (𝒱 : Variants) (c : Dev nD) (bd : Option 𝒱.V) (i : grid0.Coords) (arg2 : Memref sig .tc .vmem S512x2048 .bf16) (harg2 : arg2.IsWhole) (arg3 : Memref sig .tc .vmem S2048x512 .f32) (harg3 : arg3.IsWhole)
    (arg4 : Memref sig .tc .vmem S2048x512 .f32) (harg4 : arg4.IsWhole) (arg5 : Memref sig .tc .vmem S512x512 .f32) (harg5 : arg5.IsWhole)
    (arg6 : Memref sig .tc .vmem S2048x512 .bf16) (harg6 : arg6.IsWhole) (arg7 : Memref sig .tc .vmem S2048x512 .bf16) (harg7 : arg7.IsWhole)
    (h1 : k0_cond1 i = 1#1) (x : Vec F S2048x512 .f32) (f : BufTy.Contents (Elt F) arg7.view.ty) :
    arg7.view.read (Elt F) (arg7.view.writes (Elt F) f (pb_k0_t2 (F := F) 𝒱 c bd i arg2 harg2 arg3 harg3 arg4 harg4 arg5 harg5 arg6 harg6 arg7 harg7 h1 (harg4.unread x) k0_t2_loop.trips))
      = narrow x := by
  funext y
  have ht : k0_t2_loop.trips = 8 := by decide +kernel
  have hy : (y 0).val < 2048 := (y 0).isLt
  exact read_pb2 𝒱 c bd i arg2 harg2 arg3 harg3 arg4 harg4 arg5 harg5 arg6 harg6 arg7 harg7 h1 x f _ (Nat.le_refl _) y (by rw [ht]; omega)

/-- One whole-block store reads back as what was stored. -/
theorem read_store (v : View sig .tc .vmem S512x512 .f32) (f : v.ty.Contents (Elt F)) (w : Vec F S512x512 .f32) :
    v.read (Elt F) (v.writes (Elt F) f [⟨Rect.unit (s := S512x512) ![0, 0] S512x512.size inb_S512x512_S512x512_0_0, w⟩]) = w := by
  funext y
  refine View.read_writes_cons_unit_of_mem v f _ w [] y y rfl fun a => ?_
  fin_cases a
  · show (y 0).val = 0 + (y 0).val
    omega
  · show (y 1).val = 0 + (y 1).val
    omega

set_option maxHeartbeats 1000000 in
/-- The body at a point that starts a column block. -/
theorem run_fill (c : Dev nD) (i : grid0.Coords) (arg2 : Memref sig .tc .vmem S512x2048 .bf16) (harg2 : arg2.IsWhole) (arg3 : Memref sig .tc .vmem S2048x512 .f32) (harg3 : arg3.IsWhole)
    (arg4 : Memref sig .tc .vmem S2048x512 .f32) (harg4 : arg4.IsWhole) (arg5 : Memref sig .tc .vmem S512x512 .f32) (harg5 : arg5.IsWhole)
    (arg6 : Memref sig .tc .vmem S2048x512 .bf16) (harg6 : arg6.IsWhole) (arg7 : Memref sig .tc .vmem S2048x512 .bf16) (harg7 : arg7.IsWhole)
    (hc0 : cond0_0 i) (x0 : Vec F S512x2048 .bf16) (x1 : Vec F S2048x512 .f32) (x2 : Vec F S2048x512 .f32) :
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ (∃ d, owns (c : Thread nD τ) arg6 fullShare d) ∗ (∃ d, owns (c : Thread nD τ) arg7 fullShare d)
            ∗ (iprop(owns (c : Thread nD τ) arg2 fullShare x0 ∗ owns (c : Thread nD τ) arg3 fullShare x1 ∗ owns (c : Thread nD τ) arg4 fullShare x2 ∗ owns (c : Thread nD τ) arg5 fullShare (k0_pay3 x0 (narrow x1) (narrow x2)) ∗ owns (c : Thread nD τ) arg6 fullShare (narrow x1) ∗ owns (c : Thread nD τ) arg7 fullShare (narrow x2)) -∗ K ⟨⟩))
          ⊢ wp frame (wpE (defs₀ (F := F)) Variants.none c none) E (cc0_body i arg2 harg2 arg3 harg3 arg4 harg4 arg5 harg5 arg6 harg6 arg7 harg7) K := by
    intro E K
    simp only [cc0_body_eq_skeleton]; unfold cc0_body_skel
    unfold owns
    iintro ⟨⟨%f0, %hf0, H0⟩, ⟨%f1, %hf1, H1⟩, ⟨%f2, %hf2, H2⟩, ⟨%d3, %f3, -, H3⟩, ⟨%ds0, %fs0, -, HS0⟩, ⟨%ds1, %fs1, -, HS1⟩, Hk⟩
    obtain rfl := harg2.eq_unread hf0; obtain rfl := harg3.eq_unread hf1; obtain rfl := harg4.eq_unread hf2
    sl_exec (disch := first | sl_exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; swap; · iexact H3
      ipureintro
      refine (read_store arg5.view f3 _).trans ?_
      rw [View.readAt_full, View.readAt_full, View.readAt_full, harg2.read_unread, read_all1, read_all2]
    isplitl [HS0]
    · iexists _; isplitr; swap; · iexact HS0
      ipureintro
      exact read_all1 Variants.none c none i arg2 harg2 arg3 harg3 arg4 harg4 arg5 harg5 arg6 harg6 arg7 harg7 hc0 x1 fs0
    iexists _; isplitr; swap; · iexact HS1
    ipureintro
    exact read_all2 Variants.none c none i arg2 harg2 arg3 harg3 arg4 harg4 arg5 harg5 arg6 harg6 arg7 harg7 hc0 x2 fs1

set_option maxHeartbeats 1000000 in
/-- The body at a point that goes on with a column block. -/
theorem run_keep (c : Dev nD) (i : grid0.Coords) (arg2 : Memref sig .tc .vmem S512x2048 .bf16) (harg2 : arg2.IsWhole) (arg3 : Memref sig .tc .vmem S2048x512 .f32) (harg3 : arg3.IsWhole)
    (arg4 : Memref sig .tc .vmem S2048x512 .f32) (harg4 : arg4.IsWhole) (arg5 : Memref sig .tc .vmem S512x512 .f32) (harg5 : arg5.IsWhole)
    (arg6 : Memref sig .tc .vmem S2048x512 .bf16) (harg6 : arg6.IsWhole) (arg7 : Memref sig .tc .vmem S2048x512 .bf16) (harg7 : arg7.IsWhole)
    (hc0 : ¬cond0_0 i) (x0 : Vec F S512x2048 .bf16) (x1 : Vec F S2048x512 .f32) (x2 : Vec F S2048x512 .f32) (w1 w2 : Vec F S2048x512 .bf16) :
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ owns (c : Thread nD τ) arg6 fullShare w1 ∗ owns (c : Thread nD τ) arg7 fullShare w2
            ∗ (iprop(owns (c : Thread nD τ) arg2 fullShare x0 ∗ owns (c : Thread nD τ) arg3 fullShare x1 ∗ owns (c : Thread nD τ) arg4 fullShare x2 ∗ owns (c : Thread nD τ) arg5 fullShare (k0_pay3 x0 w1 w2) ∗ owns (c : Thread nD τ) arg6 fullShare w1 ∗ owns (c : Thread nD τ) arg7 fullShare w2) -∗ K ⟨⟩))
          ⊢ wp frame (wpE (defs₀ (F := F)) Variants.none c none) E (cc0_body i arg2 harg2 arg3 harg3 arg4 harg4 arg5 harg5 arg6 harg6 arg7 harg7) K := by
    intro E K
    simp only [cc0_body_eq_skeleton]; unfold cc0_body_skel
    unfold owns
    iintro ⟨⟨%f0, %hf0, H0⟩, ⟨%f1, %hf1, H1⟩, ⟨%f2, %hf2, H2⟩, ⟨%d3, %f3, -, H3⟩, ⟨%fs0, %hs0, HS0⟩, ⟨%fs1, %hs1, HS1⟩, Hk⟩
    obtain rfl := harg2.eq_unread hf0; obtain rfl := harg3.eq_unread hf1; obtain rfl := harg4.eq_unread hf2; obtain rfl := harg6.eq_unread hs0; obtain rfl := harg7.eq_unread hs1
    sl_exec (disch := first | sl_exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; swap; · iexact H3
      ipureintro
      refine (read_store arg5.view f3 _).trans ?_
      rw [View.readAt_full, View.readAt_full, View.readAt_full, harg2.read_unread, harg6.read_unread, harg7.read_unread]
    isplitl [HS0]
    · iexists _; isplitr; swap; · iexact HS0
      ipureintro
      exact harg6.read_unread _
    iexists _; isplitr; swap; · iexact HS1
    ipureintro
    exact harg7.read_unread _

end Cert.GluIdeal.Gen

end
-- ==== Proof.GluFrame.lean ====
/- The launch of the gated projection: the pipeline's proof data with the two scratch buffers tracked from point to point, the body
   obligation, the run of the whole program and the frame. -/
module

public import proofs.«01_k».proof.Proof.GluRun
public import Idealize.ShloMosaic.Lib.Pipeline.ValueKit
public import Idealize.ShloMosaic.Lib.Claim

@[expose] public section

set_option maxRecDepth 16384

noncomputable section

namespace Cert.GluIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The two grid coordinates of a point: the column block, and the row block. -/
theorem coord_col (t : Fin cfg0.N) : (BitVec.ofNat 32 (grid0.coords t 0).val).toNat = t.val / 16 := by
  have ht : t.val < 32 := Nat.lt_of_lt_of_eq t.isLt N_0
  have e0 : (grid0.coords t 0).val = t.val / 16 % 2 := Pipeline.Grid.coords_val t 0 (by decide) rfl
  rw [e0, BitVec.toNat_ofNat]; omega

theorem coord_row (t : Fin cfg0.N) : (BitVec.ofNat 32 (grid0.coords t 1).val).toNat = t.val % 16 := by
  have ht : t.val < 32 := Nat.lt_of_lt_of_eq t.isLt N_0
  have e1 : (grid0.coords t 1).val = t.val / 1 % 16 := Pipeline.Grid.coords_val t 1 (by decide) rfl
  rw [e1, BitVec.toNat_ofNat]; omega

theorem coord_col1 (t : Fin cfg0.N) : (Scalar.addi (BitVec.ofNat 32 (grid0.coords t 0).val) 0#32).toNat = t.val / 16 := by
  refine (congrArg BitVec.toNat (show Scalar.addi (BitVec.ofNat 32 (grid0.coords t 0).val) 0#32 = BitVec.ofNat 32 (grid0.coords t 0).val + 0#32 from rfl)).trans ?_
  rw [BitVec.add_zero]
  exact coord_col t

theorem coord_col2 (t : Fin cfg0.N) : (Scalar.addi (BitVec.ofNat 32 (grid0.coords t 0).val) 2#32).toNat = t.val / 16 + 2 := by
  have ht : t.val < 32 := Nat.lt_of_lt_of_eq t.isLt N_0
  refine (congrArg BitVec.toNat (show Scalar.addi (BitVec.ofNat 32 (grid0.coords t 0).val) 2#32 = BitVec.ofNat 32 (grid0.coords t 0).val + 2#32 from rfl)).trans ?_
  rw [BitVec.toNat_add, coord_col t]
  show (t.val / 16 + 2) % 4294967296 = t.val / 16 + 2
  omega

/-! The two weight blocks at a point: all rows, the 512 columns of the point's column block, of the first and of the second 1024 columns. -/

theorem x1_at (c : Dev nD) (t : Fin cfg0.N) (y : S2048x512.Idx) (hb : 512 * (t.val / 16) + (y 1).val < 4632) :
    (X0_1 m c t : S2048x512.Idx → Elt F .f32) y
      = (V m c main_arg1 : S2048x4632.Idx → Elt F .f32) (ix2 ⟨(y 0).val, (y 0).isLt⟩ ⟨512 * (t.val / 16) + (y 1).val, hb⟩) := by
  have ht := coord_col1 t
  unfold X0_1 Pipeline.Window.fill
  refine (dif_pos (moved0_1 t y)).trans ?_
  refine congrArg (V m c main_arg1 : S2048x4632.Idx → Elt F .f32) (funext fun a => Fin.ext ?_)
  refine (ValueKit.view_emb_slice_whole_unit_val main_arg1 _ _ _ _ a).trans ?_
  fin_cases a
  · show 0 * 2048 + (y 0).val = (y 0).val
    omega
  · show (Scalar.addi (BitVec.ofNat 32 (grid0.coords t 0).val) 0#32).toNat * 512 + (y 1).val = 512 * (t.val / 16) + (y 1).val
    omega

theorem x1_lt (t : Fin cfg0.N) (y : S2048x512.Idx) : 512 * (t.val / 16) + (y 1).val < 4632 := by
  have ht : t.val < 32 := Nat.lt_of_lt_of_eq t.isLt N_0
  have hy : (y 1).val < 512 := (y 1).isLt
  omega

/-- The weight block stays the same from a point to the next unless the next starts a column block. -/
theorem x1_same (c : Dev nD) (t t' : Fin cfg0.N) (h : t'.val = t.val + 1) (h0 : t'.val % 16 ≠ 0) :
    X0_1 m c t' = X0_1 m c t := by
  funext y
  refine (x1_at m c t' y (x1_lt t' y)).trans (Eq.trans ?_ (x1_at m c t y (x1_lt t y)).symm)
  have e : t'.val / 16 = t.val / 16 := by omega
  refine congrArg (V m c main_arg1 : S2048x4632.Idx → Elt F .f32) (funext fun a => Fin.ext ?_)
  fin_cases a
  · rfl
  · show 512 * (t'.val / 16) + (y 1).val = 512 * (t.val / 16) + (y 1).val
    rw [e]

theorem x2_at (c : Dev nD) (t : Fin cfg0.N) (y : S2048x512.Idx) (hb : 512 * (t.val / 16 + 2) + (y 1).val < 4632) :
    (X0_2 m c t : S2048x512.Idx → Elt F .f32) y
      = (V m c main_arg1 : S2048x4632.Idx → Elt F .f32) (ix2 ⟨(y 0).val, (y 0).isLt⟩ ⟨512 * (t.val / 16 + 2) + (y 1).val, hb⟩) := by
  have ht := coord_col2 t
  unfold X0_2 Pipeline.Window.fill
  refine (dif_pos (moved0_2 t y)).trans ?_
  refine congrArg (V m c main_arg1 : S2048x4632.Idx → Elt F .f32) (funext fun a => Fin.ext ?_)
  refine (ValueKit.view_emb_slice_whole_unit_val main_arg1 _ _ _ _ a).trans ?_
  fin_cases a
  · show 0 * 2048 + (y 0).val = (y 0).val
    omega
  · show (Scalar.addi (BitVec.ofNat 32 (grid0.coords t 0).val) 2#32).toNat * 512 + (y 1).val = 512 * (t.val / 16 + 2) + (y 1).val
    omega

theorem x2_lt (t : Fin cfg0.N) (y : S2048x512.Idx) : 512 * (t.val / 16 + 2) + (y 1).val < 4632 := by
  have ht : t.val < 32 := Nat.lt_of_lt_of_eq t.isLt N_0
  have hy : (y 1).val < 512 := (y 1).isLt
  omega

/-- The weight block stays the same from a point to the next unless the next starts a column block. -/
theorem x2_same (c : Dev nD) (t t' : Fin cfg0.N) (h : t'.val = t.val + 1) (h0 : t'.val % 16 ≠ 0) :
    X0_2 m c t' = X0_2 m c t := by
  funext y
  refine (x2_at m c t' y (x2_lt t' y)).trans (Eq.trans ?_ (x2_at m c t y (x2_lt t y)).symm)
  have e : t'.val / 16 = t.val / 16 := by omega
  refine congrArg (V m c main_arg1 : S2048x4632.Idx → Elt F .f32) (funext fun a => Fin.ext ?_)
  fin_cases a
  · rfl
  · show 512 * (t'.val / 16 + 2) + (y 1).val = 512 * (t.val / 16 + 2) + (y 1).val
    rw [e]

/-! ## The pipeline's proof data -/

/-- What is known before point `k`: unless the point starts a column block the scratch buffers hold its weight blocks, rounded. -/
def PhiS (c : Dev nD) (k : ℕ) : sProp 𝕄 :=
  iprop((∃ d, owns (c : Thread nD τ) scM0_0 fullShare d ∗ ⌜∀ t : Fin cfg0.N, t.val = k → t.val % 16 ≠ 0 → d = narrow (X0_1 m c t)⌝)
    ∗ (∃ d, owns (c : Thread nD τ) scM0_1 fullShare d ∗ ⌜∀ t : Fin cfg0.N, t.val = k → t.val % 16 ≠ 0 → d = narrow (X0_2 m c t)⌝) ∗ (∃ r, prngReg c r))

/-- The proof data: the arrays as launched, each input's buffer at its block, the output's at the gated product. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => X0_1 m c t
    | ⟨2, _⟩ => X0_2 m c t
    | ⟨3, _⟩ => k0_pay3 (iblk m c 0 t) (narrow (X0_1 m c t)) (narrow (X0_2 m c t))
  Φ t := PhiS m c t.val
  q w := Pipeline.shareOf spec0 w
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = X0_1 m c t := by dsimp only [dats]
theorem after0_2 (c : Dev nD) (t : Fin cfg0.N) : (dats m 0 c).after 2 t = X0_2 m c t := by dsimp only [dats]
theorem after0_3 (c : Dev nD) (t : Fin cfg0.N) :
    (dats m 0 c).after 3 t = k0_pay3 (iblk m c 0 t) (narrow (X0_1 m c t)) (narrow (X0_2 m c t)) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = X0_1 m c t :=
  before0_1_of m (dats m 0 c) (A_eq m c 1) (after0_1 m c) t d
theorem before0_2 (c : Dev nD) (t : Fin cfg0.N) (d) : (dats m 0 c).before 2 t d = X0_2 m c t :=
  before0_2_of m (dats m 0 c) (A_eq m c 2) (after0_2 m c) t d

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d)))

def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t))

set_option maxHeartbeats 800000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2]
  rw [show (dats m 0 c).owesAt () t.succ = (dats m 0 c).owesAt () t.castSucc from rfl,
    after0_0, after0_1, after0_2, after0_3]
  rw [show (dats m 0 c).Φ t.castSucc = PhiS m c t.val from rfl, show (dats m 0 c).Φ t.succ = PhiS m c (t.val + 1) from rfl]
  unfold PhiS
  have next1 : ∀ t' : Fin cfg0.N, t'.val = t.val + 1 → t'.val % 16 ≠ 0 → narrow (X0_1 m c t) = narrow (X0_1 m c t') :=
    fun t' h h0 => congrArg narrow (x1_same m c t t' h h0).symm
  have next2 : ∀ t' : Fin cfg0.N, t'.val = t.val + 1 → t'.val % 16 ≠ 0 → narrow (X0_2 m c t) = narrow (X0_2 m c t') :=
    fun t' h h0 => congrArg narrow (x2_same m c t t' h h0).symm
  by_cases h0 : t.val % 16 = 0
  · iintro ⟨⟨⟨%ds0, HS0, -⟩, ⟨%ds1, HS1, -⟩, Hg⟩, Ho, ⟨%d0, H0⟩, ⟨%d1, H1⟩, ⟨%d2, H2⟩, ⟨%d3, H3⟩⟩
    iapply ((run_fill c (grid0.coords t) _ _ _ _ _ _ _ _ _ _ _ _ ((hcond0_0 t).mpr h0) (iblk m c 0 t) (X0_1 m c t) (X0_2 m c t)) Set.univ _)
    isplitl [H0]; · iexact H0
    isplitl [H1]; · iexact H1
    isplitl [H2]; · iexact H2
    isplitl [H3]; · iexists _; iexact H3
    isplitl [HS0]; · iexists _; iexact HS0
    isplitl [HS1]; · iexists _; iexact HS1
    iintro ⟨H0, H1, H2, H3, HS0, HS1⟩
    isplitl [HS0 HS1 Hg]
    · isplitl [HS0]
      · iexists _; isplitl [HS0]; · iexact HS0
        ipureintro; exact next1
      isplitl [HS1]
      · iexists _; isplitl [HS1]; · iexact HS1
        ipureintro; exact next2
      iexact Hg
    isplitl [Ho]; · iexact Ho
    isplitl [H0]; · iexact H0
    isplitl [H1]; · iexact H1
    isplitl [H2]; · iexact H2
    iexact H3
  · iintro ⟨⟨⟨%ds0, HS0, %h1⟩, ⟨%ds1, HS1, %h2⟩, Hg⟩, Ho, ⟨%d0, H0⟩, ⟨%d1, H1⟩, ⟨%d2, H2⟩, ⟨%d3, H3⟩⟩
    obtain rfl := h1 t rfl h0; obtain rfl := h2 t rfl h0
    iapply ((run_keep c (grid0.coords t) _ _ _ _ _ _ _ _ _ _ _ _ (fun h => h0 ((hcond0_0 t).mp h)) (iblk m c 0 t) (X0_1 m c t) (X0_2 m c t) (narrow (X0_1 m c t)) (narrow (X0_2 m c t))) Set.univ _)
    isplitl [H0]; · iexact H0
    isplitl [H1]; · iexact H1
    isplitl [H2]; · iexact H2
    isplitl [H3]; · iexists _; iexact H3
    isplitl [HS0]; · iexact HS0
    isplitl [HS1]; · iexact HS1
    iintro ⟨H0, H1, H2, H3, HS0, HS1⟩
    isplitl [HS0 HS1 Hg]
    · isplitl [HS0]
      · iexists _; isplitl [HS0]; · iexact HS0
        ipureintro; exact next1
      isplitl [HS1]
      · iexists _; isplitl [HS1]; · iexact HS1
        ipureintro; exact next2
      iexact Hg
    isplitl [Ho]; · iexact Ho
    isplitl [H0]; · iexact H0
    isplitl [H1]; · iexact H1
    isplitl [H2]; · iexact H2
    iexact H3

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

theorem phi_in (c : Dev nD) : (Pipeline.ΦA spec0 c : sProp 𝕄) ⊢ PhiS m c 0 := by
  rw [PhiA0_eq]
  unfold PhiS
  iintro ⟨⟨⟨%d, HS0⟩, ⟨%d', HS1⟩⟩, Hg⟩
  isplitl [HS0]
  · iexists _; isplitl [HS0]; · iexact HS0
    ipureintro
    intro t h h0
    exact absurd (by rw [h]) h0
  isplitl [HS1]
  · iexists _; isplitl [HS1]; · iexact HS1
    ipureintro
    intro t h h0
    exact absurd (by rw [h]) h0
  iexact Hg

theorem phi_out (c : Dev nD) (k : ℕ) : PhiS m c k ⊢ (Pipeline.ΦA spec0 c : sProp 𝕄) := by
  rw [PhiA0_eq]
  unfold PhiS
  iintro ⟨⟨%d, HS0, -⟩, ⟨%d', HS1, -⟩, Hg⟩
  isplitl [HS0 HS1]
  · isplitl [HS0]
    · iexists _; iexact HS0
    iexists _; iexact HS1
  iexact Hg

set_option backward.isDefEq.respectTransparency.types false in
/-- The launch: the arrays at what the proof data says, every counter at zero. -/
theorem run_main_quiescent : θ_run defs (onTc (τ := τ) (main (F := F))) (s₀ m ρ) (fun r => (Pipeline.FramePost cfgs (dats m) 0 (V m)) r ∧ r.2.sem = fun _ => 0) :=
  Pipeline.θ_run_frame_track_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m)
    (hin := fun c => phi_in m c) (hout := fun c => phi_out m c _)

theorem run_main : θ_run defs (onTc (τ := τ) (main (F := F))) (s₀ m ρ) (Pipeline.FramePost cfgs (dats m) 0 (V m)) :=
  (θ_run defs _ _).mono (fun _ h => h.1) (run_main_quiescent m ρ)

/-- The argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  frame_of m ρ (dats m) (A_eq m) (run_main m ρ)

/-- The frame. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  θ_run_and (unchanged m ρ) ((θ_run defs _ _).mono (fun _ h => h.2) (run_main_quiescent m ρ))

end Cert.GluIdeal.Gen

end
-- ==== Proof.GluValue.lean ====
/- The gated projection's result: the launch's from its blocks, the reference's from its text, and their equality. -/
module

public import proofs.«01_k».proof.Proof.NormValue
public import proofs.«01_k».proof.Proof.GluFrame
public import proofs.«01_k».proof.Proof.Gen.GluRefIdeal.Run

@[expose] public section

set_option maxRecDepth 16384

noncomputable section

open Idealize.ShloMosaic Idealize.ShloMosaic.TcCoe Idealize.SL.Sem

namespace Cert.GluValue

open Cert.GluIdeal Cert.GluIdeal.Gen

/-- An entry of the product with the weight. -/
def prod (n : S8192x2048.Idx → EReal) (w : S2048x4632.Idx → EReal) (i : Fin 8192) (q : Fin 4632) : EReal :=
  ∑ k : Fin 2048, n (ix2 i k) * w (ix2 k q)

def fst (j : Fin 1024) : Fin 4632 := ⟨j.val, by omega⟩
def snd (j : Fin 1024) : Fin 4632 := ⟨1024 + j.val, by omega⟩

/-- One entry of the result: a column of the first half of the product, gated by its column of the second half. -/
def entry (n : S8192x2048.Idx → EReal) (w : S2048x4632.Idx → EReal) (i : Fin 8192) (j : Fin 1024) : EReal :=
  prod n w i (fst j) * Ideal.logistic (prod n w i (snd j))

theorem half_apply (x : FVec Ideal S512x2048 .bf16) (w : FVec Ideal S2048x512 .bf16) (r d : Fin 512) :
    matmul (F := Ideal) dot_S512x2048_S2048x512_S512x512_1_0_0_1_n_n none x w (constant S512x512 .f32 0x00000000#32) (ix2 r d)
      = ∑ k : Fin 2048, (x (ix2 r k) : EReal) * (w (ix2 k d) : EReal) := by
  rw [matmul_zero_eq_dotGeneral]
  exact StackMember.dotGeneral_plain_apply none x w r d

/-- A block's result at an entry. -/
theorem block_apply (x : FVec Ideal S512x2048 .bf16) (w u : FVec Ideal S2048x512 .bf16) (r d : Fin 512) :
    k0_pay3 (F := Ideal) x w u (ix2 r d)
      = ((∑ k : Fin 2048, (x (ix2 r k) : EReal) * (w (ix2 k d) : EReal))
          * Ideal.logistic (∑ k : Fin 2048, (x (ix2 r k) : EReal) * (u (ix2 k d) : EReal)) : EReal) := by
  unfold k0_pay3
  exact congrArg₂ (fun a b : EReal => a * Ideal.logistic b) (half_apply x w r d) (half_apply x u r d)

variable (m : (ℓ : Loc nD τ sig) → Buf (Elt Ideal) ℓ)

theorem t_lt (t : Fin cfg0.N) : t.val < 32 := Nat.lt_of_lt_of_eq t.isLt N_0

def rowOf (t : Fin cfg0.N) (r : Fin 512) : Fin 8192 := ⟨512 * (t.val % 16) + r.val, by omega⟩
def colOf (t : Fin cfg0.N) (d : Fin 512) : Fin 1024 := ⟨512 * (t.val / 16) + d.val, by have := t_lt t; omega⟩

theorem stream_blk (c : Dev nD) (t : Fin cfg0.N) (r : Fin 512) (k : Fin 2048) :
    (iblk m c 0 t : S512x2048.Idx → EReal) (ix2 r k) = (V m c main_arg0 : S8192x2048.Idx → EReal) (ix2 (rowOf t r) k) := by
  have ht := coord_row t
  refine congrArg (V m c main_arg0 : S8192x2048.Idx → EReal) (funext fun a => Fin.ext ?_)
  refine (ValueKit.view_emb_slice_whole_unit_val main_arg0 _ _ _ _ a).trans ?_
  fin_cases a
  · show (BitVec.ofNat 32 (grid0.coords t 1).val).toNat * 512 + r.val = 512 * (t.val % 16) + r.val
    omega
  · show 0 * 2048 + k.val = k.val
    omega

/-- Rounding changes no entry of the ideal block. -/
theorem narrow_apply (x : FVec Ideal S2048x512 .f32) (y : S2048x512.Idx) : (narrow (F := Ideal) x y : EReal) = (x y : EReal) := rfl

theorem first_blk (c : Dev nD) (t : Fin cfg0.N) (k : Fin 2048) (d : Fin 512) :
    (X0_1 m c t : S2048x512.Idx → EReal) (ix2 k d) = (V m c main_arg1 : S2048x4632.Idx → EReal) (ix2 k (fst (colOf t d))) :=
  x1_at m c t (ix2 k d) (x1_lt t (ix2 k d))

theorem second_blk (c : Dev nD) (t : Fin cfg0.N) (k : Fin 2048) (d : Fin 512) :
    (X0_2 m c t : S2048x512.Idx → EReal) (ix2 k d) = (V m c main_arg1 : S2048x4632.Idx → EReal) (ix2 k (snd (colOf t d))) := by
  refine (x2_at m c t (ix2 k d) (x2_lt t (ix2 k d))).trans ?_
  refine congrArg (fun q : Fin 4632 => (V m c main_arg1 : S2048x4632.Idx → EReal) (ix2 k q)) (Fin.ext ?_)
  show 512 * (t.val / 16 + 2) + d.val = 1024 + (512 * (t.val / 16) + d.val)
  omega

theorem covers_3 : (cfg0.win 3).Covers := by decide +kernel

theorem product_at (c : Dev nD) (t : Fin cfg0.N) (r d : Fin 512) (x : FVec Ideal S512x2048 .bf16) (w : FVec Ideal S2048x512 .f32) (q : Fin 4632)
    (hx : ∀ k, (x (ix2 r k) : EReal) = (V m c main_arg0 : S8192x2048.Idx → EReal) (ix2 (rowOf t r) k))
    (h : ∀ k, (w (ix2 k d) : EReal) = (V m c main_arg1 : S2048x4632.Idx → EReal) (ix2 k q)) :
    (∑ k : Fin 2048, (x (ix2 r k) : EReal) * (narrow (F := Ideal) w (ix2 k d) : EReal) : EReal)
      = prod (V m c main_arg0) (V m c main_arg1) (rowOf t r) q := by
  unfold prod
  refine Finset.sum_congr rfl fun k _ => ?_
  exact congrArg₂ (fun a b : EReal => a * b) (hx k) ((narrow_apply w (ix2 k d)).trans (h k))

/-- The result array. -/
def gluArr (c : Dev nD) : S8192x1024.Idx → EReal := fun j => entry (V m c main_arg0) (V m c main_arg1) (j 0) (j 1)

theorem gluArr_at (c : Dev nD) (i : Fin 8192) (k : Fin 1024) (j : S8192x1024.Idx) (e : ∀ a, (j a).val = (ix2 i k a : Fin _).val) :
    entry (V m c main_arg0) (V m c main_arg1) i k = gluArr m c j := by
  rw [show j = ix2 i k from funext fun a => Fin.ext (e a)]
  rfl

theorem after_at (c : Dev nD) (t : Fin cfg0.N) (y : S512x512.Idx) :
    ((dats m 0 c).after 3 t : S512x512.Idx → EReal) y = entry (V m c main_arg0) (V m c main_arg1) (rowOf t (y 0)) (colOf t (y 1)) := by
  rw [after0_3, show y = ix2 (y 0) (y 1) from funext fun a => by fin_cases a <;> rfl]
  refine (block_apply _ _ _ (y 0) (y 1)).trans ?_
  unfold entry
  have e1 := product_at m c t (y 0) (y 1) (iblk m c 0 t) (X0_1 m c t) (fst (colOf t (y 1))) (fun k => stream_blk m c t (y 0) k)
    fun k => first_blk m c t k (y 1)
  have e2 := product_at m c t (y 0) (y 1) (iblk m c 0 t) (X0_2 m c t) (snd (colOf t (y 1))) (fun k => stream_blk m c t (y 0) k)
    fun k => second_blk m c t k (y 1)
  exact congrArg₂ (fun a b : EReal => a * Ideal.logistic b) e1 e2

theorem final_3 (c : Dev nD) : (dats m 0 c).arrAt 3 cfg0.N = gluArr m c := by
  refine (dats m 0 c).arrAt_eq_of_covers 3 _ covers_3 fun t _ y => ?_
  have ht := coord_row t
  have hs := coord_col t
  refine (after_at m c t y).trans (gluArr_at m c _ _ _ fun a => ?_)
  refine (ValueKit.view_emb_slice_whole_unit_val main_v0 _ _ _ y a).trans ?_
  fin_cases a
  · show (BitVec.ofNat 32 (grid0.coords t 1).val).toNat * 512 + (y (0 : Fin 2)).val = 512 * (t.val % 16) + (y (0 : Fin 2)).val
    omega
  · show (BitVec.ofNat 32 (grid0.coords t 0).val).toNat * 512 + (y (1 : Fin 2)).val = 512 * (t.val / 16) + (y (1 : Fin 2)).val
    omega

/-- The launch's result array. -/
theorem kernel_run (ρ : Dev nD → PrngReg) :
    θ_run defs (onTc (τ := τ) (main (F := Ideal))) ⟨m, fun _ => 0, ρ⟩ (fun r => ∀ c : Dev nD,
      r.2.mem ((c.tc : Thread nD τ).loc main_v0) = gluArr m c) :=
  (θ_run defs _ _).mono (fun r h c => (Pipeline.FramePost.out_eq h c 3).trans (final_3 m c)) (run_main m ρ)

/-- The reference's product at an entry. -/
theorem reference_prod (n : FVec Ideal GluRefIdeal.S8192x2048 .bf16) (w : FVec Ideal GluRefIdeal.S2048x4632 .f32) (i : Fin 8192) (q : Fin 2048) :
    Host.dotGeneral (F := Ideal) GluRefIdeal.dot_S8192x2048_S2048x2048_S8192x2048_1_0_0_1_n_n none (extf .f32 n GluRefIdeal.Gen.bitsLt_bf16_f32)
        (extractStridedSlice GluRefIdeal.S2048x2048 ![0, 0] w GluRefIdeal.Gen.slices_S2048x4632_S2048x2048_0_0) (ix2 i q)
      = prod n w i ⟨q.val, by omega⟩ := by
  refine (StackMember.dotGeneral_plain_apply none _ _ i q).trans (Finset.sum_congr rfl fun k _ => ?_)
  refine congrArg (n (ix2 i k) * ·) ?_
  refine extractStridedSlice_apply _ _ _ _ (ix2 k ⟨q.val, by omega⟩) fun a => ?_
  fin_cases a
  · show k.val = 0 + k.val
    omega
  · show q.val = 0 + q.val
    omega

/-- A gated entry from the two halves' entries. -/
theorem gate_mul (A B : FVec Ideal GluRefIdeal.S8192x1024 .f32) (y : GluRefIdeal.S8192x1024.Idx) (s u : EReal) (hA : A y = s) (hB : B y = u) :
    mulf A (Host.divf (broadcastInDim GluRefIdeal.S8192x1024 ![] GluRefIdeal.Gen.bcast_S_S8192x1024 (constant GluRefIdeal.S_ .f32 0x3F800000#32))
      (addf (broadcastInDim GluRefIdeal.S8192x1024 ![] GluRefIdeal.Gen.bcast_S_S8192x1024 (constant GluRefIdeal.S_ .f32 0x3F800000#32))
        (Host.exp (Host.negf B)))) y = s * Ideal.logistic u := by
  show (A y : EReal) * Ideal.div (Ideal.ofBits .f32 0x3F800000#32) (Ideal.ofBits .f32 0x3F800000#32 + Ideal.exp (-(B y : EReal))) = s * Ideal.logistic u
  rw [Ideal.ofBits_one_f32, hA, hB]
  rfl

/-- The reference's result at an entry. -/
theorem reference_apply (n : FVec Ideal GluRefIdeal.S8192x2048 .bf16) (w : FVec Ideal GluRefIdeal.S2048x4632 .f32) (i : GluRefIdeal.S8192x1024.Idx) :
    (mulf (extractStridedSlice GluRefIdeal.S8192x1024 ![0, 0] (Host.dotGeneral GluRefIdeal.dot_S8192x2048_S2048x2048_S8192x2048_1_0_0_1_n_n none (extf .f32 n GluRefIdeal.Gen.bitsLt_bf16_f32) (extractStridedSlice GluRefIdeal.S2048x2048 ![0, 0] w GluRefIdeal.Gen.slices_S2048x4632_S2048x2048_0_0)) GluRefIdeal.Gen.slices_S8192x2048_S8192x1024_0_0) (Host.divf (broadcastInDim GluRefIdeal.S8192x1024 ![] GluRefIdeal.Gen.bcast_S_S8192x1024 (constant GluRefIdeal.S_ .f32 0x3F800000#32)) (addf (broadcastInDim GluRefIdeal.S8192x1024 ![] GluRefIdeal.Gen.bcast_S_S8192x1024 (constant GluRefIdeal.S_ .f32 0x3F800000#32)) (Host.exp (Host.negf (extractStridedSlice GluRefIdeal.S8192x1024 ![0, 1024] (Host.dotGeneral GluRefIdeal.dot_S8192x2048_S2048x2048_S8192x2048_1_0_0_1_n_n none (extf .f32 n GluRefIdeal.Gen.bitsLt_bf16_f32) (extractStridedSlice GluRefIdeal.S2048x2048 ![0, 0] w GluRefIdeal.Gen.slices_S2048x4632_S2048x2048_0_0)) GluRefIdeal.Gen.slices_S8192x2048_S8192x1024_0_1024)))))) i
      = entry n w (i 0) (i 1) := by
  rw [show i = ix2 (i 0) (i 1) from funext fun a => by fin_cases a <;> rfl]
  have h1 : (i 1).val < 1024 := (i 1).isLt
  refine gate_mul _ _ _ _ _ ?_ ?_
  · refine (extractStridedSlice_apply _ _ _ _ (ix2 (i 0) (⟨(i 1).val, by omega⟩ : Fin 2048)) fun a => ?_).trans (reference_prod n w (i 0) _)
    fin_cases a
    · show (i 0).val = 0 + (i 0).val
      omega
    · show (i 1).val = 0 + (i 1).val
      omega
  · refine (extractStridedSlice_apply _ _ _ _ (ix2 (i 0) (⟨1024 + (i 1).val, by omega⟩ : Fin 2048)) fun a => ?_).trans (reference_prod n w (i 0) _)
    fin_cases a
    · show (i 0).val = 0 + (i 0).val
      omega
    · show 1024 + (i 1).val = 1024 + (i 1).val
      omega

end Cert.GluValue
end
-- ==== Proof.StepRun.lean ====
/- One grid point of the sample batch's hidden activations: what the two loops over the weight blocks leave in the scratch buffers, and
   the body's triple. -/
module

public import proofs.«01_k».proof.Proof.Gen.StepIdeal.Frame.Runs
public import Idealize.ShloMosaic.Lib.WritesUnit
public import Idealize.ShloMosaic.Lib.WholeRead
public import Idealize.ShloMosaic.Lib.VecWindow
public import Idealize.ShloMosaic.Lib.Pointwise

@[expose] public section

set_option maxRecDepth 16384

noncomputable section

namespace Cert.StepIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- A weight block rounded to bf16, as its scratch buffer holds it. -/
def narrow (x : Vec F S2048x512 .f32) : Vec F S2048x512 .bf16 := truncf .bf16 x bitsLt_bf16_f32

theorem pay1_eq (v : Vec F S256x512 .f32) : k0_pay1 v = truncf .bf16 v bitsLt_bf16_f32 := by
  unfold k0_pay1
  exact shapeCast_self _ _

theorem pay2_eq (v : Vec F S256x512 .f32) : k0_pay2 v = truncf .bf16 v bitsLt_bf16_f32 := by
  unfold k0_pay2
  exact shapeCast_self _ _

/-- A trip's one store: 256 rows of the weight block, rounded. -/
theorem piece_eq1 (𝒱 : Variants) (c : Dev nD) (bd : Option 𝒱.V) (i : grid0.Coords) (arg2 : Memref sig .tc .vmem S128x2048 .bf16) (harg2 : arg2.IsWhole) (arg3 : Memref sig .tc .vmem S2048x512 .f32) (harg3 : arg3.IsWhole)
    (arg4 : Memref sig .tc .vmem S2048x512 .f32) (harg4 : arg4.IsWhole) (arg5 : Memref sig .tc .vmem S128x512 .f32) (harg5 : arg5.IsWhole)
    (arg6 : Memref sig .tc .vmem S128x512 .f32) (harg6 : arg6.IsWhole) (arg7 : Memref sig .tc .vmem S8x512 .f32) (harg7 : arg7.IsWhole)
    (arg8 : Memref sig .tc .vmem S1x512 .f32) (harg8 : arg8.IsWhole) (arg9 : Memref sig .tc .vmem S128x512 .bf16) (harg9 : arg9.IsWhole)
    (arg10 : Memref sig .tc .vmem S128x512 .f32) (harg10 : arg10.IsWhole) (arg11 : Memref sig .tc .vmem S2048x512 .bf16) (harg11 : arg11.IsWhole)
    (arg12 : Memref sig .tc .vmem S2048x512 .bf16) (harg12 : arg12.IsWhole)
    (h1 : k0_cond1 i = 1#1) (X : BufTy.Contents (Elt F) arg3.view.ty) (k : Fin k0_t1_loop.trips) :
    tripL_k0_t1 (F := F) 𝒱 c bd i arg2 harg2 arg3 harg3 arg4 harg4 arg5 harg5 arg6 harg6 arg7 harg7 arg8 harg8 arg9 harg9 arg10 harg10 arg11 harg11 arg12 harg12 h1 X k
      = [⟨Rect.unit (s := S2048x512) (k0_off1 k) S256x512.size (k0_off1_inb i k h1),
          k0_pay1 (View.readAt (Elt F) arg3.view (Rect.unit (s := S2048x512) (k0_off1 k) S256x512.size (k0_off1_inb i k h1)).toLoadRect X)⟩] := by
  unfold tripL_k0_t1 trip_k0_t1
  rfl

/-- Below the rows of the trips done so far the scratch buffer holds the rounded weight block. -/
theorem read_pb1 (𝒱 : Variants) (c : Dev nD) (bd : Option 𝒱.V) (i : grid0.Coords) (arg2 : Memref sig .tc .vmem S128x2048 .bf16) (harg2 : arg2.IsWhole) (arg3 : Memref sig .tc .vmem S2048x512 .f32) (harg3 : arg3.IsWhole)
    (arg4 : Memref sig .tc .vmem S2048x512 .f32) (harg4 : arg4.IsWhole) (arg5 : Memref sig .tc .vmem S128x512 .f32) (harg5 : arg5.IsWhole)
    (arg6 : Memref sig .tc .vmem S128x512 .f32) (harg6 : arg6.IsWhole) (arg7 : Memref sig .tc .vmem S8x512 .f32) (harg7 : arg7.IsWhole)
    (arg8 : Memref sig .tc .vmem S1x512 .f32) (harg8 : arg8.IsWhole) (arg9 : Memref sig .tc .vmem S128x512 .bf16) (harg9 : arg9.IsWhole)
    (arg10 : Memref sig .tc .vmem S128x512 .f32) (harg10 : arg10.IsWhole) (arg11 : Memref sig .tc .vmem S2048x512 .bf16) (harg11 : arg11.IsWhole)
    (arg12 : Memref sig .tc .vmem S2048x512 .bf16) (harg12 : arg12.IsWhole)
    (h1 : k0_cond1 i = 1#1) (x : Vec F S2048x512 .f32) (f : BufTy.Contents (Elt F) arg11.view.ty) (n : ℕ) (hn : n ≤ k0_t1_loop.trips)
    (y : S2048x512.Idx) (hy : (y 0).val < 256 * n) :
    arg11.view.read (Elt F) (arg11.view.writes (Elt F) f (pb_k0_t1 (F := F) 𝒱 c bd i arg2 harg2 arg3 harg3 arg4 harg4 arg5 harg5 arg6 harg6 arg7 harg7 arg8 harg8 arg9 harg9 arg10 harg10 arg11 harg11 arg12 harg12 h1 (harg3.unread x) n)) y
      = narrow x y := by
  induction n with
  | zero => omega
  | succ n ih =>
    have hk : n < k0_t1_loop.trips := hn
    have e := (pb_k0_t1_succ (F := F) 𝒱 c bd i arg2 harg2 arg3 harg3 arg4 harg4 arg5 harg5 arg6 harg6 arg7 harg7 arg8 harg8 arg9 harg9 arg10 harg10 arg11 harg11 arg12 harg12 h1 (harg3.unread x) ⟨n, hk⟩).trans
      (congrArg (· ++ _) (piece_eq1 (F := F) 𝒱 c bd i arg2 harg2 arg3 harg3 arg4 harg4 arg5 harg5 arg6 harg6 arg7 harg7 arg8 harg8 arg9 harg9 arg10 harg10 arg11 harg11 arg12 harg12 h1 (harg3.unread x) ⟨n, hk⟩))
    refine (congrArg (fun L => arg11.view.read (Elt F) (arg11.view.writes (Elt F) f L) y) e).trans ?_
    by_cases h : 256 * n ≤ (y 0).val
    · have hlt : (y 0).val - 256 * n < 256 := by omega
      refine (View.read_writes_cons_unit_of_mem arg11.view f _ _ _ y (ix2 ⟨(y 0).val - 256 * n, hlt⟩ ⟨(y 1).val, (y 1).isLt⟩ : S256x512.Idx)
        (k0_off1_eq ⟨n, hk⟩) ?_).trans ?_
      · intro a
        fin_cases a
        · show (y 0).val = 256 * n + ((y 0).val - 256 * n)
          omega
        · show (y 1).val = 0 + (y 1).val
          omega
      · rw [pay1_eq]
        refine congrArg (fun z => FloatOps.truncf .bf16 bitsLt_bf16_f32 z) ?_
        rw [Memref.IsWhole.readAt_unread]
        refine congrArg x (funext fun a => Fin.ext ?_)
        have e0 := congrFun (k0_off1_eq ⟨n, hk⟩) a
        fin_cases a
        · show k0_off1 ⟨n, hk⟩ 0 + 1 * ((y 0).val - 256 * n) = (y 0).val
          have e0' : k0_off1 ⟨n, hk⟩ 0 = 256 * n := e0
          omega
        · show k0_off1 ⟨n, hk⟩ 1 + 1 * (y 1).val = (y 1).val
          have e0' : k0_off1 ⟨n, hk⟩ 1 = 0 := e0
          omega
    · refine (View.read_writes_cons_unit_of_not_mem arg11.view f _ _ _ y (k0_off1_eq ⟨n, hk⟩) 0 (Or.inl ?_)).trans (ih (by omega) (by omega))
      show (y 0).val < 256 * n
      omega

/-- After the loop the scratch buffer holds the rounded weight block. -/
theorem read_all1 (𝒱 : Variants) (c : Dev nD) (bd : Option 𝒱.V) (i : grid0.Coords) (arg2 : Memref sig .tc .vmem S128x2048 .bf16) (harg2 : arg2.IsWhole) (arg3 : Memref sig .tc .vmem S2048x512 .f32) (harg3 : arg3.IsWhole)
    (arg4 : Memref sig .tc .vmem S2048x512 .f32) (harg4 : arg4.IsWhole) (arg5 : Memref sig .tc .vmem S128x512 .f32) (harg5 : arg5.IsWhole)
    (arg6 : Memref sig .tc .vmem S128x512 .f32) (harg6 : arg6.IsWhole) (arg7 : Memref sig .tc .vmem S8x512 .f32) (harg7 : arg7.IsWhole)
    (arg8 : Memref sig .tc .vmem S1x512 .f32) (harg8 : arg8.IsWhole) (arg9 : Memref sig .tc .vmem S128x512 .bf16) (harg9 : arg9.IsWhole)
    (arg10 : Memref sig .tc .vmem S128x512 .f32) (harg10 : arg10.IsWhole) (arg11 : Memref sig .tc .vmem S2048x512 .bf16) (harg11 : arg11.IsWhole)
    (arg12 : Memref sig .tc .vmem S2048x512 .bf16) (harg12 : arg12.IsWhole)
    (h1 : k0_cond1 i = 1#1) (x : Vec F S2048x512 .f32) (f : BufTy.Contents (Elt F) arg11.view.ty) :
    arg11.view.read (Elt F) (arg11.view.writes (Elt F) f (pb_k0_t1 (F := F) 𝒱 c bd i arg2 harg2 arg3 harg3 arg4 harg4 arg5 harg5 arg6 harg6 arg7 harg7 arg8 harg8 arg9 harg9 arg10 harg10 arg11 harg11 arg12 harg12 h1 (harg3.unread x) k0_t1_loop.trips))
      = narrow x := by
  funext y
  have ht : k0_t1_loop.trips = 8 := by decide +kernel
  have hy : (y 0).val < 2048 := (y 0).isLt
  exact read_pb1 𝒱 c bd i arg2 harg2 arg3 harg3 arg4 harg4 arg5 harg5 arg6 harg6 arg7 harg7 arg8 harg8 arg9 harg9 arg10 harg10 arg11 harg11 arg12 harg12 h1 x f _ (Nat.le_refl _) y (by rw [ht]; omega)

/-- A trip's one store: 256 rows of the weight block, rounded. -/
theorem piece_eq2 (𝒱 : Variants) (c : Dev nD) (bd : Option 𝒱.V) (i : grid0.Coords) (arg2 : Memref sig .tc .vmem S128x2048 .bf16) (harg2 : arg2.IsWhole) (arg3 : Memref sig .tc .vmem S2048x512 .f32) (harg3 : arg3.IsWhole)
    (arg4 : Memref sig .tc .vmem S2048x512 .f32) (harg4 : arg4.IsWhole) (arg5 : Memref sig .tc .vmem S128x512 .f32) (harg5 : arg5.IsWhole)
    (arg6 : Memref sig .tc .vmem S128x512 .f32) (harg6 : arg6.IsWhole) (arg7 : Memref sig .tc .vmem S8x512 .f32) (harg7 : arg7.IsWhole)
    (arg8 : Memref sig .tc .vmem S1x512 .f32) (harg8 : arg8.IsWhole) (arg9 : Memref sig .tc .vmem S128x512 .bf16) (harg9 : arg9.IsWhole)
    (arg10 : Memref sig .tc .vmem S128x512 .f32) (harg10 : arg10.IsWhole) (arg11 : Memref sig .tc .vmem S2048x512 .bf16) (harg11 : arg11.IsWhole)
    (arg12 : Memref sig .tc .vmem S2048x512 .bf16) (harg12 : arg12.IsWhole)
    (h1 : k0_cond1 i = 1#1) (X : BufTy.Contents (Elt F) arg4.view.ty) (k : Fin k0_t2_loop.trips) :
    tripL_k0_t2 (F := F) 𝒱 c bd i arg2 harg2 arg3 harg3 arg4 harg4 arg5 harg5 arg6 harg6 arg7 harg7 arg8 harg8 arg9 harg9 arg10 harg10 arg11 harg11 arg12 harg12 h1 X k
      = [⟨Rect.unit (s := S2048x512) (k0_off2 k) S256x512.size (k0_off2_inb i k h1),
          k0_pay2 (View.readAt (Elt F) arg4.view (Rect.unit (s := S2048x512) (k0_off2 k) S256x512.size (k0_off2_inb i k h1)).toLoadRect X)⟩] := by
  unfold tripL_k0_t2 trip_k0_t2
  rfl

/-- Below the rows of the trips done so far the scratch buffer holds the rounded weight block. -/
theorem read_pb2 (𝒱 : Variants) (c : Dev nD) (bd : Option 𝒱.V) (i : grid0.Coords) (arg2 : Memref sig .tc .vmem S128x2048 .bf16) (harg2 : arg2.IsWhole) (arg3 : Memref sig .tc .vmem S2048x512 .f32) (harg3 : arg3.IsWhole)
    (arg4 : Memref sig .tc .vmem S2048x512 .f32) (harg4 : arg4.IsWhole) (arg5 : Memref sig .tc .vmem S128x512 .f32) (harg5 : arg5.IsWhole)
    (arg6 : Memref sig .tc .vmem S128x512 .f32) (harg6 : arg6.IsWhole) (arg7 : Memref sig .tc .vmem S8x512 .f32) (harg7 : arg7.IsWhole)
    (arg8 : Memref sig .tc .vmem S1x512 .f32) (harg8 : arg8.IsWhole) (arg9 : Memref sig .tc .vmem S128x512 .bf16) (harg9 : arg9.IsWhole)
    (arg10 : Memref sig .tc .vmem S128x512 .f32) (harg10 : arg10.IsWhole) (arg11 : Memref sig .tc .vmem S2048x512 .bf16) (harg11 : arg11.IsWhole)
    (arg12 : Memref sig .tc .vmem S2048x512 .bf16) (harg12 : arg12.IsWhole)
    (h1 : k0_cond1 i = 1#1) (x : Vec F S2048x512 .f32) (f : BufTy.Contents (Elt F) arg12.view.ty) (n : ℕ) (hn : n ≤ k0_t2_loop.trips)
    (y : S2048x512.Idx) (hy : (y 0).val < 256 * n) :
    arg12.view.read (Elt F) (arg12.view.writes (Elt F) f (pb_k0_t2 (F := F) 𝒱 c bd i arg2 harg2 arg3 harg3 arg4 harg4 arg5 harg5 arg6 harg6 arg7 harg7 arg8 harg8 arg9 harg9 arg10 harg10 arg11 harg11 arg12 harg12 h1 (harg4.unread x) n)) y
      = narrow x y := by
  induction n with
  | zero => omega
  | succ n ih =>
    have hk : n < k0_t2_loop.trips := hn
    have e := (pb_k0_t2_succ (F := F) 𝒱 c bd i arg2 harg2 arg3 harg3 arg4 harg4 arg5 harg5 arg6 harg6 arg7 harg7 arg8 harg8 arg9 harg9 arg10 harg10 arg11 harg11 arg12 harg12 h1 (harg4.unread x) ⟨n, hk⟩).trans
      (congrArg (· ++ _) (piece_eq2 (F := F) 𝒱 c bd i arg2 harg2 arg3 harg3 arg4 harg4 arg5 harg5 arg6 harg6 arg7 harg7 arg8 harg8 arg9 harg9 arg10 harg10 arg11 harg11 arg12 harg12 h1 (harg4.unread x) ⟨n, hk⟩))
    refine (congrArg (fun L => arg12.view.read (Elt F) (arg12.view.writes (Elt F) f L) y) e).trans ?_
    by_cases h : 256 * n ≤ (y 0).val
    · have hlt : (y 0).val - 256 * n < 256 := by omega
      refine (View.read_writes_cons_unit_of_mem arg12.view f _ _ _ y (ix2 ⟨(y 0).val - 256 * n, hlt⟩ ⟨(y 1).val, (y 1).isLt⟩ : S256x512.Idx)
        (k0_off2_eq ⟨n, hk⟩) ?_).trans ?_
      · intro a
        fin_cases a
        · show (y 0).val = 256 * n + ((y 0).val - 256 * n)
          omega
        · show (y 1).val = 0 + (y 1).val
          omega
      · rw [pay2_eq]
        refine congrArg (fun z => FloatOps.truncf .bf16 bitsLt_bf16_f32 z) ?_
        rw [Memref.IsWhole.readAt_unread]
        refine congrArg x (funext fun a => Fin.ext ?_)
        have e0 := congrFun (k0_off2_eq ⟨n, hk⟩) a
        fin_cases a
        · show k0_off2 ⟨n, hk⟩ 0 + 1 * ((y 0).val - 256 * n) = (y 0).val
          have e0' : k0_off2 ⟨n, hk⟩ 0 = 256 * n := e0
          omega
        · show k0_off2 ⟨n, hk⟩ 1 + 1 * (y 1).val = (y 1).val
          have e0' : k0_off2 ⟨n, hk⟩ 1 = 0 := e0
          omega
    · refine (View.read_writes_cons_unit_of_not_mem arg12.view f _ _ _ y (k0_off2_eq ⟨n, hk⟩) 0 (Or.inl ?_)).trans (ih (by omega) (by omega))
      show (y 0).val < 256 * n
      omega

/-- After the loop the scratch buffer holds the rounded weight block. -/
theorem read_all2 (𝒱 : Variants) (c : Dev nD) (bd : Option 𝒱.V) (i : grid0.Coords) (arg2 : Memref sig .tc .vmem S128x2048 .bf16) (harg2 : arg2.IsWhole) (arg3 : Memref sig .tc .vmem S2048x512 .f32) (harg3 : arg3.IsWhole)
    (arg4 : Memref sig .tc .vmem S2048x512 .f32) (harg4 : arg4.IsWhole) (arg5 : Memref sig .tc .vmem S128x512 .f32) (harg5 : arg5.IsWhole)
    (arg6 : Memref sig .tc .vmem S128x512 .f32) (harg6 : arg6.IsWhole) (arg7 : Memref sig .tc .vmem S8x512 .f32) (harg7 : arg7.IsWhole)
    (arg8 : Memref sig .tc .vmem S1x512 .f32) (harg8 : arg8.IsWhole) (arg9 : Memref sig .tc .vmem S128x512 .bf16) (harg9 : arg9.IsWhole)
    (arg10 : Memref sig .tc .vmem S128x512 .f32) (harg10 : arg10.IsWhole) (arg11 : Memref sig .tc .vmem S2048x512 .bf16) (harg11 : arg11.IsWhole)
    (arg12 : Memref sig .tc .vmem S2048x512 .bf16) (harg12 : arg12.IsWhole)
    (h1 : k0_cond1 i = 1#1) (x : Vec F S2048x512 .f32) (f : BufTy.Contents (Elt F) arg12.view.ty) :
    arg12.view.read (Elt F) (arg12.view.writes (Elt F) f (pb_k0_t2 (F := F) 𝒱 c bd i arg2 harg2 arg3 harg3 arg4 harg4 arg5 harg5 arg6 harg6 arg7 harg7 arg8 harg8 arg9 harg9 arg10 harg10 arg11 harg11 arg12 harg12 h1 (harg4.unread x) k0_t2_loop.trips))
      = narrow x := by
  funext y
  have ht : k0_t2_loop.trips = 8 := by decide +kernel
  have hy : (y 0).val < 2048 := (y 0).isLt
  exact read_pb2 𝒱 c bd i arg2 harg2 arg3 harg3 arg4 harg4 arg5 harg5 arg6 harg6 arg7 harg7 arg8 harg8 arg9 harg9 arg10 harg10 arg11 harg11 arg12 harg12 h1 x f _ (Nat.le_refl _) y (by rw [ht]; omega)

/-- One whole-block store reads back as what was stored. -/
theorem read_store {e : EltTy} (v : View sig .tc .vmem S128x512 e) (f : v.ty.Contents (Elt F)) (w : Vec F S128x512 e) :
    v.read (Elt F) (v.writes (Elt F) f [⟨Rect.unit (s := S128x512) ![0, 0] S128x512.size inb_S128x512_S128x512_0_0, w⟩]) = w := by
  funext y
  refine View.read_writes_cons_unit_of_mem v f _ w [] y y rfl fun a => ?_
  fin_cases a
  · show (y 0).val = 0 + (y 0).val
    omega
  · show (y 1).val = 0 + (y 1).val
    omega

set_option maxHeartbeats 1000000 in
/-- The body: the hidden activations and the gate's product in the output buffers. -/
theorem run_fill (c : Dev nD) (i : grid0.Coords) (arg2 : Memref sig .tc .vmem S128x2048 .bf16) (harg2 : arg2.IsWhole) (arg3 : Memref sig .tc .vmem S2048x512 .f32) (harg3 : arg3.IsWhole)
    (arg4 : Memref sig .tc .vmem S2048x512 .f32) (harg4 : arg4.IsWhole) (arg5 : Memref sig .tc .vmem S128x512 .f32) (harg5 : arg5.IsWhole)
    (arg6 : Memref sig .tc .vmem S128x512 .f32) (harg6 : arg6.IsWhole) (arg7 : Memref sig .tc .vmem S8x512 .f32) (harg7 : arg7.IsWhole)
    (arg8 : Memref sig .tc .vmem S1x512 .f32) (harg8 : arg8.IsWhole) (arg9 : Memref sig .tc .vmem S128x512 .bf16) (harg9 : arg9.IsWhole)
    (arg10 : Memref sig .tc .vmem S128x512 .f32) (harg10 : arg10.IsWhole) (arg11 : Memref sig .tc .vmem S2048x512 .bf16) (harg11 : arg11.IsWhole)
    (arg12 : Memref sig .tc .vmem S2048x512 .bf16) (harg12 : arg12.IsWhole)
    (hc0 : cond0_0 i) (x0 : Vec F S128x2048 .bf16) (x1 : Vec F S2048x512 .f32) (x2 : Vec F S2048x512 .f32) (x3 : Vec F S128x512 .f32) (x4 : Vec F S128x512 .f32) (x5 : Vec F S8x512 .f32) (x6 : Vec F S1x512 .f32) :
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare (k0_pay4 x0 (narrow x1) (narrow x2) x5 x3 x4 x6) ∗ owns (c : Thread nD τ) arg10 fullShare (k0_pay3 x0 (narrow x1)) ∗ (∃ d, owns (c : Thread nD τ) arg11 fullShare d) ∗ (∃ d, owns (c : Thread nD τ) arg12 fullShare d)) -∗ K ⟨⟩))
          ⊢ wp frame (wpE (defs₀ (F := F)) Variants.none c none) E (cc0_body i arg2 harg2 arg3 harg3 arg4 harg4 arg5 harg5 arg6 harg6 arg7 harg7 arg8 harg8 arg9 harg9 arg10 harg10 arg11 harg11 arg12 harg12) K := by
    intro E K
    simp only [cc0_body_eq_skeleton]; unfold cc0_body_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%ds0, %fs0, -, HS0⟩, ⟨%ds1, %fs1, -, HS1⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6
    sl_exec (disch := first | sl_exact hc0)
    sl_step
    have e4 : (run_fill.sl.v4 c i arg2 harg2 arg3 harg3 arg4 harg4 arg5 harg5 arg6 harg6 arg7 harg7 arg8 harg8 arg9 harg9 arg10 harg10 arg11 harg11 arg12 harg12 hc0 x1 fs0 : Vec F S2048x512 .bf16) = narrow x1 := by
      unfold run_fill.sl.v4
      exact (View.readAt_full _ _ _).trans (read_all1 Variants.none c none i arg2 harg2 arg3 harg3 arg4 harg4 arg5 harg5 arg6 harg6 arg7 harg7 arg8 harg8 arg9 harg9 arg10 harg10 arg11 harg11 arg12 harg12 hc0 x1 fs0)
    have e6 : (run_fill.sl.v6 c i arg2 harg2 arg3 harg3 arg4 harg4 arg5 harg5 arg6 harg6 arg7 harg7 arg8 harg8 arg9 harg9 arg10 harg10 arg11 harg11 arg12 harg12 hc0 x2 fs1 : Vec F S2048x512 .bf16) = narrow x2 := by
      unfold run_fill.sl.v6
      exact (View.readAt_full _ _ _).trans (read_all2 Variants.none c none i arg2 harg2 arg3 harg3 arg4 harg4 arg5 harg5 arg6 harg6 arg7 harg7 arg8 harg8 arg9 harg9 arg10 harg10 arg11 harg11 arg12 harg12 hc0 x2 fs1)
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; swap; · iexact H7
      ipureintro
      refine (read_store arg9.view f7 _).trans ?_
      rw [e4, e6, View.readAt_full, View.readAt_full, View.readAt_full, View.readAt_full, View.readAt_full, harg2.read_unread, harg5.read_unread, harg6.read_unread, harg7.read_unread, harg8.read_unread]
    isplitl [H8]
    · iexists _; isplitr; swap; · iexact H8
      ipureintro
      refine (read_store arg10.view f8 _).trans ?_
      rw [e4, View.readAt_full, harg2.read_unread]
    isplitl [HS0]
    · iexists _, _; isplitr; swap; · iexact HS0
      ipureintro; rfl
    iexists _, _; isplitr; swap; · iexact HS1
    ipureintro; rfl

end Cert.StepIdeal.Gen

end
-- ==== Proof.StepFrame.lean ====
/- The launch of the sample batch's hidden activations: the pipeline's proof data, the body obligation, the run of the whole program and
   the frame. -/
module

public import proofs.«01_k».proof.Proof.StepRun
public import Idealize.ShloMosaic.Lib.Pipeline.ValueKit
public import Idealize.ShloMosaic.Lib.Claim

@[expose] public section

set_option maxRecDepth 16384

noncomputable section

namespace Cert.StepIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The grid coordinate of a point: the column block. -/
theorem coord_col (t : Fin cfg0.N) : (BitVec.ofNat 32 (grid0.coords t 0).val).toNat = t.val := by
  have ht : t.val < 11 := Nat.lt_of_lt_of_eq t.isLt N_0
  have e0 : (grid0.coords t 0).val = t.val / 1 % 11 := Pipeline.Grid.coords_val t 0 (by decide) rfl
  rw [e0, BitVec.toNat_ofNat]; omega

theorem coord_col' (t : Fin cfg0.N) : (Scalar.addi (BitVec.ofNat 32 (grid0.coords t 0).val) 0#32).toNat = t.val := by
  refine (congrArg BitVec.toNat (show Scalar.addi (BitVec.ofNat 32 (grid0.coords t 0).val) 0#32 = BitVec.ofNat 32 (grid0.coords t 0).val + 0#32 from rfl)).trans ?_
  rw [BitVec.add_zero]
  exact coord_col t

theorem coord_row (t : Fin cfg0.N) : (BitVec.ofNat 32 (grid0.coords t 1).val).toNat = 0 := by
  have e1 : (grid0.coords t 1).val = t.val / 1 % 1 := Pipeline.Grid.coords_val t 1 (by decide) rfl
  rw [e1, BitVec.toNat_ofNat]; omega

theorem coord_far (t : Fin cfg0.N) : (Scalar.addi (BitVec.ofNat 32 (grid0.coords t 0).val) 11#32).toNat = t.val + 11 := by
  have ht : t.val < 11 := Nat.lt_of_lt_of_eq t.isLt N_0
  refine (congrArg BitVec.toNat (show Scalar.addi (BitVec.ofNat 32 (grid0.coords t 0).val) 11#32 = BitVec.ofNat 32 (grid0.coords t 0).val + 11#32 from rfl)).trans ?_
  rw [BitVec.toNat_add, coord_col t]
  show (t.val + 11) % 4294967296 = t.val + 11
  omega

/-- The proof data: the arrays as launched, each input's buffer at its block, the outputs' at what the body computes from the blocks. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => k0_pay4 (iblk m c 0 t) (narrow (iblk m c 1 t)) (narrow (iblk m c 2 t)) (iblk m c 5 t) (iblk m c 3 t) (iblk m c 4 t) (iblk m c 6 t)
    | ⟨8, _⟩ => k0_pay3 (iblk m c 0 t) (narrow (iblk m c 1 t))
  Φ _ := Pipeline.ΦA spec0 c
  q w := Pipeline.shareOf spec0 w
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) :
    (dats m 0 c).after 7 t = k0_pay4 (iblk m c 0 t) (narrow (iblk m c 1 t)) (narrow (iblk m c 2 t)) (iblk m c 5 t) (iblk m c 3 t) (iblk m c 4 t) (iblk m c 6 t) := by dsimp only [dats]
theorem after0_8 (c : Dev nD) (t : Fin cfg0.N) : (dats m 0 c).after 8 t = k0_pay3 (iblk m c 0 t) (narrow (iblk m c 1 t)) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d)))

def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t))

set_option maxHeartbeats 800000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6]
  rw [show (dats m 0 c).owesAt () t.succ = (dats m 0 c).owesAt () t.castSucc from rfl,
    after0_0, after0_1, after0_2, after0_3, after0_4, after0_5, after0_6, after0_7, after0_8]
  rw [show (dats m 0 c).Φ t.castSucc = Pipeline.ΦA spec0 c from rfl, show (dats m 0 c).Φ t.succ = Pipeline.ΦA spec0 c from rfl, PhiA0_eq]
  iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply ((run_fill c (grid0.coords t) _ _ _ _ _ _ _ _ _ _ _ _ _ _ _ _ _ _ _ _ _ _ (hcond0_0 t) (iblk m c 0 t) (iblk m c 1 t) (iblk m c 2 t) (iblk m c 3 t) (iblk m c 4 t) (iblk m c 5 t) (iblk m c 6 t)) Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [H8]; · iexists _; iexact H8
  isplitl [HS0]; · iexact HS0
  isplitl [HS1]; · iexact HS1
  iintro ⟨H0, H1, H2, H3, H4, H5, H6, H7, H8, HS0, HS1⟩
  isplitl [HS0 HS1 Hg]
  · isplitl [HS0 HS1]
    · isplitl [HS0]; · iexact HS0
      iexact HS1
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

set_option backward.isDefEq.respectTransparency.types false in
/-- The launch: the arrays at what the proof data says, every counter at zero. -/
theorem run_main_quiescent : θ_run defs (onTc (τ := τ) (main (F := F))) (s₀ m ρ) (fun r => (Pipeline.FramePost cfgs (dats m) 0 (V m)) r ∧ r.2.sem = fun _ => 0) :=
  Pipeline.θ_run_frame_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hΦ := fun _ _ => rfl)

theorem run_main : θ_run defs (onTc (τ := τ) (main (F := F))) (s₀ m ρ) (Pipeline.FramePost cfgs (dats m) 0 (V m)) :=
  (θ_run defs _ _).mono (fun _ h => h.1) (run_main_quiescent m ρ)

/-- The argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  frame_of m ρ (dats m) (A_eq m) (run_main m ρ)

/-- The frame. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  θ_run_and (unchanged m ρ) ((θ_run defs _ _).mono (fun _ h => h.2) (run_main_quiescent m ρ))

end Cert.StepIdeal.Gen

end
-- ==== Proof.StepValue.lean ====
/- The sample batch's hidden activations: the launch's results from its blocks, the reference's from its text, and their equality. -/
module

public import proofs.«01_k».proof.Proof.GluValue
public import proofs.«01_k».proof.Proof.StepFrame
public import proofs.«01_k».proof.Proof.Gen.StepRefIdeal.Run

@[expose] public section

set_option maxRecDepth 16384

noncomputable section

open Idealize.ShloMosaic Idealize.ShloMosaic.TcCoe Idealize.SL.Sem

namespace Cert.StepValue

open Cert.StepIdeal Cert.StepIdeal.Gen

/-- An entry of a product with a weight. -/
def prod (n : S128x2048.Idx → EReal) (w : S2048x5632.Idx → EReal) (i : Fin 128) (j : Fin 5632) : EReal :=
  ∑ k : Fin 2048, n (ix2 i k) * w (ix2 k j)

/-- A column of the state's two rows, laid side by side: the older row first. -/
def older (j : Fin 5632) : Fin 11264 := ⟨j.val, by omega⟩
def newer (j : Fin 5632) : Fin 11264 := ⟨5632 + j.val, by omega⟩

/-- The convolution's sum at an entry. -/
def conv (s : S128x11264.Idx → EReal) (n : S128x2048.Idx → EReal) (w : S2048x5632.Idx → EReal) (cw : S3x5632.Idx → EReal) (cb : S5632.Idx → EReal)
    (i : Fin 128) (j : Fin 5632) : EReal :=
  cw (ix2 0 j) * s (ix2 i (older j)) + cw (ix2 1 j) * s (ix2 i (newer j)) + cw (ix2 2 j) * prod n w i j + cb (ix1 j)

/-- One entry of the hidden activations. -/
def entry (s : S128x11264.Idx → EReal) (n : S128x2048.Idx → EReal) (w u : S2048x5632.Idx → EReal) (cw : S3x5632.Idx → EReal) (cb : S5632.Idx → EReal)
    (i : Fin 128) (j : Fin 5632) : EReal :=
  conv s n w cw cb i j * Ideal.logistic (conv s n w cw cb i j) * prod n u i j

theorem pay3_apply (x : FVec Ideal S128x2048 .bf16) (w : FVec Ideal S2048x512 .bf16) (r : Fin 128) (d : Fin 512) :
    k0_pay3 (F := Ideal) x w (ix2 r d) = ∑ k : Fin 2048, (x (ix2 r k) : EReal) * (w (ix2 k d) : EReal) := by
  unfold k0_pay3
  show matmul (F := Ideal) dot_S128x2048_S2048x512_S128x512_1_0_0_1_n_n none x w (constant S128x512 .f32 0x00000000#32) (ix2 r d) = _
  rw [matmul_zero_eq_dotGeneral]
  exact StackMember.dotGeneral_plain_apply none x w r d

/-- The convolution's sum in a block, from the block of the gate's product. -/
def convBlk (g : FVec Ideal S128x512 .f32) (cw : FVec Ideal S8x512 .f32) (a b : FVec Ideal S128x512 .f32) (cb : FVec Ideal S1x512 .f32) : FVec Ideal S128x512 .f32 :=
  addf (addf (addf (mulf (broadcastTo S128x512 (extractStridedSlice S1x512 ![0, 0] cw slices_S8x512_o0_0_S1x512) broadcasts_S1x512_S128x512) a)
    (mulf (broadcastTo S128x512 (extractStridedSlice S1x512 ![1, 0] cw slices_S8x512_o1_0_S1x512) broadcasts_S1x512_S128x512) b))
    (mulf (broadcastTo S128x512 (extractStridedSlice S1x512 ![2, 0] cw slices_S8x512_o2_0_S1x512) broadcasts_S1x512_S128x512) g))
    (broadcastTo S128x512 cb broadcasts_S1x512_S128x512)

theorem convBlk_apply (g : FVec Ideal S128x512 .f32) (cw : FVec Ideal S8x512 .f32) (a b : FVec Ideal S128x512 .f32) (cb : FVec Ideal S1x512 .f32) (r : Fin 128)
    (d : Fin 512) :
    convBlk g cw a b cb (ix2 r d)
      = ((cw (ix2 0 d) : EReal) * (a (ix2 r d) : EReal) + (cw (ix2 1 d) : EReal) * (b (ix2 r d) : EReal)
          + (cw (ix2 2 d) : EReal) * (g (ix2 r d) : EReal) + (cb (ix2 0 d) : EReal) : EReal) := by
  unfold convBlk
  pointwise

/-- A block of the hidden activations. -/
theorem pay4_apply (x : FVec Ideal S128x2048 .bf16) (w u : FVec Ideal S2048x512 .bf16) (cw : FVec Ideal S8x512 .f32) (a b : FVec Ideal S128x512 .f32)
    (cb : FVec Ideal S1x512 .f32) (r : Fin 128) (d : Fin 512) :
    k0_pay4 (F := Ideal) x w u cw a b cb (ix2 r d)
      = ((convBlk (k0_pay3 x w) cw a b cb (ix2 r d) : EReal) * Ideal.logistic (convBlk (k0_pay3 x w) cw a b cb (ix2 r d))
          * (k0_pay3 (F := Ideal) x u (ix2 r d) : EReal) : EReal) := by
  have e : k0_pay4 (F := Ideal) x w u cw a b cb
      = truncf .bf16 (mulf (mulf (convBlk (k0_pay3 x w) cw a b cb) (logistic (convBlk (k0_pay3 x w) cw a b cb))) (k0_pay3 (F := Ideal) x u)) bitsLt_bf16_f32 := by
    unfold k0_pay4 convBlk
    simp only [shapeCast_self]
    rfl
  rw [e]
  rfl

variable (m : (ℓ : Loc nD τ sig) → Buf (Elt Ideal) ℓ)

/-- The three weights of the convolution, in the first three of eight rows. -/
theorem cwp_read (c : Dev nD) (r : Fin 3) (q : Fin 8) (hq : q.val = r.val) (j : Fin 5632) :
    (V m c main_v1 : S8x5632.Idx → EReal) (ix2 q j) = (m ((c : Thread nD τ).loc main_arg4) : S3x5632.Idx → EReal) (ix2 r j) := by
  entry_read
  refine concatenate_pair_apply_left (t := S8x5632) (s₁ := S3x5632) (s₂ := S5x5632) (0 : Fin 2) _ _ _ _ rfl (ix2 r j : S3x5632.Idx) fun b => ?_
  fin_cases b
  · exact hq.symm
  · rfl

/-- The bias. -/
theorem bias_read (c : Dev nD) (j : Fin 5632) :
    (V m c main_v2 : S1x5632.Idx → EReal) (ix2 0 j) = (m ((c : Thread nD τ).loc main_arg5) : S5632.Idx → EReal) (ix1 j) := by
  entry_read
  pointwise

/-! ## The launch -/

theorem t_lt (t : Fin cfg0.N) : t.val < 11 := Nat.lt_of_lt_of_eq t.isLt N_0

def colOf (t : Fin cfg0.N) (d : Fin 512) : Fin 5632 := ⟨512 * t.val + d.val, by have := t_lt t; omega⟩

theorem n2_blk (c : Dev nD) (t : Fin cfg0.N) (r : Fin 128) (d : Fin 2048) :
    (iblk m c 0 t : S128x2048.Idx → EReal) (ix2 r d) = (V m c main_arg0 : S128x2048.Idx → EReal) (ix2 r d) := by
  have hs := coord_col t
  have hf := coord_far t
  have hs' := coord_col' t
  have hr := coord_row t
  refine congrArg (V m c main_arg0 : S128x2048.Idx → EReal) (funext fun a => Fin.ext ?_)
  refine (ValueKit.view_emb_slice_whole_unit_val main_arg0 _ _ _ _ a).trans ?_
  fin_cases a
  · show (BitVec.ofNat 32 (grid0.coords t 1).val).toNat * 128 + r.val = r.val
    omega
  · show 0 * 2048 + d.val = d.val
    omega

theorem gate_blk (c : Dev nD) (t : Fin cfg0.N) (r : Fin 2048) (d : Fin 512) :
    (iblk m c 1 t : S2048x512.Idx → EReal) (ix2 r d) = (V m c main_arg2 : S2048x5632.Idx → EReal) (ix2 r (colOf t d)) := by
  have hs := coord_col t
  have hf := coord_far t
  have hs' := coord_col' t
  have hr := coord_row t
  refine congrArg (V m c main_arg2 : S2048x5632.Idx → EReal) (funext fun a => Fin.ext ?_)
  refine (ValueKit.view_emb_slice_whole_unit_val main_arg2 _ _ _ _ a).trans ?_
  fin_cases a
  · show 0 * 2048 + r.val = r.val
    omega
  · show (Scalar.addi (BitVec.ofNat 32 (grid0.coords t 0).val) 0#32).toNat * 512 + d.val = 512 * t.val + d.val
    omega

theorem up_blk (c : Dev nD) (t : Fin cfg0.N) (r : Fin 2048) (d : Fin 512) :
    (iblk m c 2 t : S2048x512.Idx → EReal) (ix2 r d) = (V m c main_arg3 : S2048x5632.Idx → EReal) (ix2 r (colOf t d)) := by
  have hs := coord_col t
  have hf := coord_far t
  have hs' := coord_col' t
  have hr := coord_row t
  refine congrArg (V m c main_arg3 : S2048x5632.Idx → EReal) (funext fun a => Fin.ext ?_)
  refine (ValueKit.view_emb_slice_whole_unit_val main_arg3 _ _ _ _ a).trans ?_
  fin_cases a
  · show 0 * 2048 + r.val = r.val
    omega
  · show (Scalar.addi (BitVec.ofNat 32 (grid0.coords t 0).val) 0#32).toNat * 512 + d.val = 512 * t.val + d.val
    omega

theorem older_blk (c : Dev nD) (t : Fin cfg0.N) (r : Fin 128) (d : Fin 512) :
    (iblk m c 3 t : S128x512.Idx → EReal) (ix2 r d) = (V m c main_arg1 : S128x11264.Idx → EReal) (ix2 r (older (colOf t d))) := by
  have hs := coord_col t
  have hf := coord_far t
  have hs' := coord_col' t
  have hr := coord_row t
  refine congrArg (V m c main_arg1 : S128x11264.Idx → EReal) (funext fun a => Fin.ext ?_)
  refine (ValueKit.view_emb_slice_whole_unit_val main_arg1 _ _ _ _ a).trans ?_
  fin_cases a
  · show 0 * 128 + r.val = r.val
    omega
  · show (BitVec.ofNat 32 (grid0.coords t 0).val).toNat * 512 + d.val = 512 * t.val + d.val
    omega

theorem newer_blk (c : Dev nD) (t : Fin cfg0.N) (r : Fin 128) (d : Fin 512) :
    (iblk m c 4 t : S128x512.Idx → EReal) (ix2 r d) = (V m c main_arg1 : S128x11264.Idx → EReal) (ix2 r (newer (colOf t d))) := by
  have hs := coord_col t
  have hf := coord_far t
  have hs' := coord_col' t
  have hr := coord_row t
  refine congrArg (V m c main_arg1 : S128x11264.Idx → EReal) (funext fun a => Fin.ext ?_)
  refine (ValueKit.view_emb_slice_whole_unit_val main_arg1 _ _ _ _ a).trans ?_
  fin_cases a
  · show 0 * 128 + r.val = r.val
    omega
  · show (Scalar.addi (BitVec.ofNat 32 (grid0.coords t 0).val) 11#32).toNat * 512 + d.val = 5632 + (512 * t.val + d.val)
    omega

theorem cwp_blk (c : Dev nD) (t : Fin cfg0.N) (r : Fin 8) (d : Fin 512) :
    (iblk m c 5 t : S8x512.Idx → EReal) (ix2 r d) = (V m c main_v1 : S8x5632.Idx → EReal) (ix2 r (colOf t d)) := by
  have hs := coord_col t
  have hf := coord_far t
  have hs' := coord_col' t
  have hr := coord_row t
  refine congrArg (V m c main_v1 : S8x5632.Idx → EReal) (funext fun a => Fin.ext ?_)
  refine (ValueKit.view_emb_slice_whole_unit_val main_v1 _ _ _ _ a).trans ?_
  fin_cases a
  · show 0 * 8 + r.val = r.val
    omega
  · show (BitVec.ofNat 32 (grid0.coords t 0).val).toNat * 512 + d.val = 512 * t.val + d.val
    omega

theorem bias_blk (c : Dev nD) (t : Fin cfg0.N) (r : Fin 1) (d : Fin 512) :
    (iblk m c 6 t : S1x512.Idx → EReal) (ix2 r d) = (V m c main_v2 : S1x5632.Idx → EReal) (ix2 r (colOf t d)) := by
  have hs := coord_col t
  have hf := coord_far t
  have hs' := coord_col' t
  have hr := coord_row t
  refine congrArg (V m c main_v2 : S1x5632.Idx → EReal) (funext fun a => Fin.ext ?_)
  refine (ValueKit.view_emb_slice_whole_unit_val main_v2 _ _ _ _ a).trans ?_
  fin_cases a
  · show 0 * 1 + r.val = r.val
    omega
  · show (BitVec.ofNat 32 (grid0.coords t 0).val).toNat * 512 + d.val = 512 * t.val + d.val
    omega

/-- Rounding changes no entry of the ideal block. -/
theorem narrow_apply (x : FVec Ideal S2048x512 .f32) (y : S2048x512.Idx) : (narrow (F := Ideal) x y : EReal) = (x y : EReal) := rfl

theorem product_at (t : Fin cfg0.N) (r : Fin 128) (d : Fin 512) (x : FVec Ideal S128x2048 .bf16) (w : FVec Ideal S2048x512 .f32)
    (N : S128x2048.Idx → EReal) (W : S2048x5632.Idx → EReal) (hx : ∀ k, (x (ix2 r k) : EReal) = N (ix2 r k)) (h : ∀ k, (w (ix2 k d) : EReal) = W (ix2 k (colOf t d))) :
    k0_pay3 (F := Ideal) x (narrow w) (ix2 r d) = prod N W r (colOf t d) := by
  refine (pay3_apply x (narrow (F := Ideal) w) r d).trans ?_
  unfold prod
  refine Finset.sum_congr rfl fun k _ => ?_
  exact congrArg₂ (fun a b : EReal => a * b) (hx k) ((narrow_apply w (ix2 k d)).trans (h k))

/-- The six arrays the launch is given. -/
abbrev aN (c : Dev nD) : S128x2048.Idx → EReal := m ((c : Thread nD τ).loc main_arg0)
abbrev aState (c : Dev nD) : S128x11264.Idx → EReal := m ((c : Thread nD τ).loc main_arg1)
abbrev aGate (c : Dev nD) : S2048x5632.Idx → EReal := m ((c : Thread nD τ).loc main_arg2)
abbrev aUp (c : Dev nD) : S2048x5632.Idx → EReal := m ((c : Thread nD τ).loc main_arg3)
abbrev aW (c : Dev nD) : S3x5632.Idx → EReal := m ((c : Thread nD τ).loc main_arg4)
abbrev aB (c : Dev nD) : S5632.Idx → EReal := m ((c : Thread nD τ).loc main_arg5)

theorem gate_at (c : Dev nD) (t : Fin cfg0.N) (r : Fin 128) (d : Fin 512) :
    k0_pay3 (F := Ideal) (iblk m c 0 t) (narrow (iblk m c 1 t)) (ix2 r d) = prod (aN m c) (aGate m c) r (colOf t d) :=
  product_at t r d (iblk m c 0 t) (iblk m c 1 t) _ _ (fun k => (n2_blk m c t r k).trans (congrFun (V_main_arg0 m c) _))
    fun k => (gate_blk m c t k d).trans (congrFun (V_main_arg2 m c) _)

theorem up_at (c : Dev nD) (t : Fin cfg0.N) (r : Fin 128) (d : Fin 512) :
    k0_pay3 (F := Ideal) (iblk m c 0 t) (narrow (iblk m c 2 t)) (ix2 r d) = prod (aN m c) (aUp m c) r (colOf t d) :=
  product_at t r d (iblk m c 0 t) (iblk m c 2 t) _ _ (fun k => (n2_blk m c t r k).trans (congrFun (V_main_arg0 m c) _))
    fun k => (up_blk m c t k d).trans (congrFun (V_main_arg3 m c) _)

/-- The convolution's sum in a block. -/
theorem conv_at (c : Dev nD) (t : Fin cfg0.N) (r : Fin 128) (d : Fin 512) :
    convBlk (k0_pay3 (F := Ideal) (iblk m c 0 t) (narrow (iblk m c 1 t))) (iblk m c 5 t) (iblk m c 3 t) (iblk m c 4 t) (iblk m c 6 t) (ix2 r d)
      = conv (aState m c) (aN m c) (aGate m c) (aW m c) (aB m c) r (colOf t d) := by
  refine (convBlk_apply _ _ _ _ _ r d).trans ?_
  unfold conv
  refine congrArg₂ (· + ·) (congrArg₂ (· + ·) (congrArg₂ (· + ·) (congrArg₂ (· * ·) ?_ ?_) (congrArg₂ (· * ·) ?_ ?_)) (congrArg₂ (· * ·) ?_ ?_)) ?_
  · exact (cwp_blk m c t 0 d).trans (cwp_read m c 0 0 rfl _)
  · exact (older_blk m c t r d).trans (congrFun (V_main_arg1 m c) _)
  · exact (cwp_blk m c t 1 d).trans (cwp_read m c 1 1 rfl _)
  · exact (newer_blk m c t r d).trans (congrFun (V_main_arg1 m c) _)
  · exact (cwp_blk m c t 2 d).trans (cwp_read m c 2 2 rfl _)
  · exact gate_at m c t r d
  · exact (bias_blk m c t 0 d).trans (bias_read m c _)

/-- The two result arrays. -/
def hiddenArr (c : Dev nD) : S128x5632.Idx → EReal := fun j => entry (aState m c) (aN m c) (aGate m c) (aUp m c) (aW m c) (aB m c) (j 0) (j 1)
def gateArr (c : Dev nD) : S128x5632.Idx → EReal := fun j => prod (aN m c) (aGate m c) (j 0) (j 1)

theorem hiddenArr_at (c : Dev nD) (i : Fin 128) (k : Fin 5632) (j : S128x5632.Idx) (e : ∀ a, (j a).val = (ix2 i k a : Fin _).val) :
    entry (aState m c) (aN m c) (aGate m c) (aUp m c) (aW m c) (aB m c) i k = hiddenArr m c j := by
  rw [show j = ix2 i k from funext fun a => Fin.ext (e a)]
  rfl

theorem gateArr_at (c : Dev nD) (i : Fin 128) (k : Fin 5632) (j : S128x5632.Idx) (e : ∀ a, (j a).val = (ix2 i k a : Fin _).val) :
    prod (aN m c) (aGate m c) i k = gateArr m c j := by
  rw [show j = ix2 i k from funext fun a => Fin.ext (e a)]
  rfl

theorem hidden_after (c : Dev nD) (t : Fin cfg0.N) (y : S128x512.Idx) :
    ((dats m 0 c).after 7 t : S128x512.Idx → EReal) y
      = entry (aState m c) (aN m c) (aGate m c) (aUp m c) (aW m c) (aB m c) (y 0) (colOf t (y 1)) := by
  rw [after0_7, show y = ix2 (y 0) (y 1) from funext fun a => by fin_cases a <;> rfl]
  refine (pay4_apply _ _ _ _ _ _ _ (y 0) (y 1)).trans ?_
  unfold entry
  have e := conv_at m c t (y 0) (y 1)
  exact congrArg₂ (· * ·) (congrArg₂ (· * ·) e (congrArg Ideal.logistic e)) (up_at m c t (y 0) (y 1))

theorem gate_after (c : Dev nD) (t : Fin cfg0.N) (y : S128x512.Idx) :
    ((dats m 0 c).after 8 t : S128x512.Idx → EReal) y = prod (aN m c) (aGate m c) (y 0) (colOf t (y 1)) := by
  rw [after0_8, show y = ix2 (y 0) (y 1) from funext fun a => by fin_cases a <;> rfl]
  exact gate_at m c t (y 0) (y 1)

theorem covers_7 : (cfg0.win 7).Covers := by decide +kernel

theorem covers_8 : (cfg0.win 8).Covers := by decide +kernel

theorem final_7 (c : Dev nD) : (dats m 0 c).arrAt 7 cfg0.N = hiddenArr m c := by
  refine (dats m 0 c).arrAt_eq_of_covers 7 _ covers_7 fun t _ y => ?_
  have hs := coord_col t
  have hr := coord_row t
  refine (hidden_after m c t y).trans (hiddenArr_at m c _ _ _ fun a => ?_)
  refine (ValueKit.view_emb_slice_whole_unit_val main_v3_0 _ _ _ y a).trans ?_
  fin_cases a
  · show (BitVec.ofNat 32 (grid0.coords t 1).val).toNat * 128 + (y (0 : Fin 2)).val = (y (0 : Fin 2)).val
    omega
  · show (BitVec.ofNat 32 (grid0.coords t 0).val).toNat * 512 + (y (1 : Fin 2)).val = 512 * t.val + (y (1 : Fin 2)).val
    omega

theorem final_8 (c : Dev nD) : (dats m 0 c).arrAt 8 cfg0.N = gateArr m c := by
  refine (dats m 0 c).arrAt_eq_of_covers 8 _ covers_8 fun t _ y => ?_
  have hs := coord_col t
  have hr := coord_row t
  refine (gate_after m c t y).trans (gateArr_at m c _ _ _ fun a => ?_)
  refine (ValueKit.view_emb_slice_whole_unit_val main_v3_1 _ _ _ y a).trans ?_
  fin_cases a
  · show (BitVec.ofNat 32 (grid0.coords t 1).val).toNat * 128 + (y (0 : Fin 2)).val = (y (0 : Fin 2)).val
    omega
  · show (BitVec.ofNat 32 (grid0.coords t 0).val).toNat * 512 + (y (1 : Fin 2)).val = 512 * t.val + (y (1 : Fin 2)).val
    omega

/-- The launch's two result arrays. -/
theorem kernel_run (ρ : Dev nD → PrngReg) :
    θ_run defs (onTc (τ := τ) (main (F := Ideal))) ⟨m, fun _ => 0, ρ⟩ (fun r => ∀ c : Dev nD,
      r.2.mem ((c.tc : Thread nD τ).loc main_v3_0) = hiddenArr m c ∧ r.2.mem ((c.tc : Thread nD τ).loc main_v3_1) = gateArr m c) :=
  (θ_run defs _ _).mono (fun r h c => ⟨(Pipeline.FramePost.out_eq h c 7).trans (final_7 m c), (Pipeline.FramePost.out_eq h c 8).trans (final_8 m c)⟩) (run_main m ρ)

/-! ## The reference -/

/-- A row of the convolution's weights, spread over the rows. -/
theorem row_apply (k : ℕ) (hs : S3x5632.Slices ![k, 0] StepRefIdeal.S1x5632) (cw : FVec Ideal StepRefIdeal.S3x5632 .f32) (r : Fin 3) (hr : k = r.val) (i : Fin 128) (j : Fin 5632) :
    (broadcastInDim StepRefIdeal.S128x5632 ![0, 1] StepRefIdeal.Gen.bcast_S1x5632_S128x5632_0_1 (broadcastInDim StepRefIdeal.S1x5632 ![1] StepRefIdeal.Gen.bcast_S5632_S1x5632_1
      (shapeCast StepRefIdeal.S5632 (extractStridedSlice StepRefIdeal.S1x5632 ![k, 0] cw hs) StepRefIdeal.Gen.shapeCasts_S1x5632_S5632)) : FVec Ideal StepRefIdeal.S128x5632 .f32) (ix2 i j)
      = cw (ix2 r j) := by
  subst hr
  pointwise

theorem bias_apply (cb : FVec Ideal StepRefIdeal.S5632 .f32) (i : Fin 128) (j : Fin 5632) :
    (broadcastInDim StepRefIdeal.S128x5632 ![0, 1] StepRefIdeal.Gen.bcast_S1x5632_S128x5632_0_1 (broadcastInDim StepRefIdeal.S1x5632 ![1] StepRefIdeal.Gen.bcast_S5632_S1x5632_1 cb)
      : FVec Ideal StepRefIdeal.S128x5632 .f32) (ix2 i j) = cb (ix1 j) := by
  pointwise

/-- A product of the reference. -/
theorem product_apply (n : FVec Ideal StepRefIdeal.S128x2048 .bf16) (w : FVec Ideal StepRefIdeal.S2048x5632 .f32) (i : Fin 128) (j : Fin 5632) :
    Host.dotGeneral StepRefIdeal.dot_S128x2048_S2048x5632_S128x5632_1_0_0_1_n_n none (extf .f32 n StepRefIdeal.Gen.bitsLt_bf16_f32) w (ix2 i j) = prod n w i j :=
  StackMember.dotGeneral_plain_apply none _ w i j

/-- One of the state's two rows. -/
theorem older_apply (s : FVec Ideal StepRefIdeal.S128x11264 .f32) (i : Fin 128) (j : Fin 5632) :
    (extractStridedSlice StepRefIdeal.S128x5632 ![0, 0] s StepRefIdeal.Gen.slices_S128x11264_S128x5632_0_0 : FVec Ideal StepRefIdeal.S128x5632 .f32) (ix2 i j) = s (ix2 i (older j)) := by
  refine extractStridedSlice_apply _ _ _ _ (ix2 i (older j)) fun a => ?_
  fin_cases a
  · exact (Nat.zero_add _).symm
  · exact (Nat.zero_add _).symm

theorem newer_apply (s : FVec Ideal StepRefIdeal.S128x11264 .f32) (i : Fin 128) (j : Fin 5632) :
    (extractStridedSlice StepRefIdeal.S128x5632 ![0, 5632] s StepRefIdeal.Gen.slices_S128x11264_S128x5632_0_5632 : FVec Ideal StepRefIdeal.S128x5632 .f32) (ix2 i j) = s (ix2 i (newer j)) := by
  refine extractStridedSlice_apply _ _ _ _ (ix2 i (newer j)) fun a => ?_
  fin_cases a
  · exact (Nat.zero_add _).symm
  · rfl

/-- The product of a gated sum and the up product. -/
theorem silu_mul (G U : FVec Ideal StepRefIdeal.S128x5632 .f32) (y : StepRefIdeal.S128x5632.Idx) (s u : EReal) (hG : G y = s) (hU : U y = u) :
    truncf .bf16 (mulf (mulf G (Host.divf (broadcastInDim StepRefIdeal.S128x5632 ![] StepRefIdeal.Gen.bcast_S_S128x5632 (constant StepRefIdeal.S_ .f32 0x3F800000#32))
      (addf (broadcastInDim StepRefIdeal.S128x5632 ![] StepRefIdeal.Gen.bcast_S_S128x5632 (constant StepRefIdeal.S_ .f32 0x3F800000#32)) (Host.exp (Host.negf G))))) U)
        StepRefIdeal.Gen.bitsLt_bf16_f32 y = (s * Ideal.logistic s * u : EReal) := by
  subst hG hU
  have one : (FloatOps.ofBits (F := Ideal) .f32 0x3F800000#32 : EReal) = 1 := Ideal.ofBits_one_f32
  show (G y * Ideal.div (FloatOps.ofBits (F := Ideal) .f32 0x3F800000#32 : EReal) ((FloatOps.ofBits (F := Ideal) .f32 0x3F800000#32 : EReal) + Ideal.exp (-(G y : EReal))) * U y : EReal) = _
  rw [one]
  rfl

/-- The reference's hidden activations at an entry. -/
theorem reference_apply (n : FVec Ideal StepRefIdeal.S128x2048 .bf16) (s : FVec Ideal StepRefIdeal.S128x11264 .f32) (w u : FVec Ideal StepRefIdeal.S2048x5632 .f32)
    (cw : FVec Ideal StepRefIdeal.S3x5632 .f32) (cb : FVec Ideal StepRefIdeal.S5632 .f32) (i : StepRefIdeal.S128x5632.Idx) :
    (truncf .bf16 (mulf (mulf (addf (addf (addf (mulf (broadcastInDim StepRefIdeal.S128x5632 ![0, 1] StepRefIdeal.Gen.bcast_S1x5632_S128x5632_0_1 (broadcastInDim StepRefIdeal.S1x5632 ![1] StepRefIdeal.Gen.bcast_S5632_S1x5632_1 (shapeCast StepRefIdeal.S5632 (extractStridedSlice StepRefIdeal.S1x5632 ![0, 0] cw StepRefIdeal.Gen.slices_S3x5632_S1x5632_0_0) StepRefIdeal.Gen.shapeCasts_S1x5632_S5632))) (extractStridedSlice StepRefIdeal.S128x5632 ![0, 0] s StepRefIdeal.Gen.slices_S128x11264_S128x5632_0_0)) (mulf (broadcastInDim StepRefIdeal.S128x5632 ![0, 1] StepRefIdeal.Gen.bcast_S1x5632_S128x5632_0_1 (broadcastInDim StepRefIdeal.S1x5632 ![1] StepRefIdeal.Gen.bcast_S5632_S1x5632_1 (shapeCast StepRefIdeal.S5632 (extractStridedSlice StepRefIdeal.S1x5632 ![1, 0] cw StepRefIdeal.Gen.slices_S3x5632_S1x5632_1_0) StepRefIdeal.Gen.shapeCasts_S1x5632_S5632))) (extractStridedSlice StepRefIdeal.S128x5632 ![0, 5632] s StepRefIdeal.Gen.slices_S128x11264_S128x5632_0_5632))) (mulf (broadcastInDim StepRefIdeal.S128x5632 ![0, 1] StepRefIdeal.Gen.bcast_S1x5632_S128x5632_0_1 (broadcastInDim StepRefIdeal.S1x5632 ![1] StepRefIdeal.Gen.bcast_S5632_S1x5632_1 (shapeCast StepRefIdeal.S5632 (extractStridedSlice StepRefIdeal.S1x5632 ![2, 0] cw StepRefIdeal.Gen.slices_S3x5632_S1x5632_2_0) StepRefIdeal.Gen.shapeCasts_S1x5632_S5632))) (Host.dotGeneral StepRefIdeal.dot_S128x2048_S2048x5632_S128x5632_1_0_0_1_n_n none (extf .f32 n StepRefIdeal.Gen.bitsLt_bf16_f32) w))) (broadcastInDim StepRefIdeal.S128x5632 ![0, 1] StepRefIdeal.Gen.bcast_S1x5632_S128x5632_0_1 (broadcastInDim StepRefIdeal.S1x5632 ![1] StepRefIdeal.Gen.bcast_S5632_S1x5632_1 cb))) (Host.divf (broadcastInDim StepRefIdeal.S128x5632 ![] StepRefIdeal.Gen.bcast_S_S128x5632 (constant StepRefIdeal.S_ .f32 0x3F800000#32)) (addf (broadcastInDim StepRefIdeal.S128x5632 ![] StepRefIdeal.Gen.bcast_S_S128x5632 (constant StepRefIdeal.S_ .f32 0x3F800000#32)) (Host.exp (Host.negf (addf (addf (addf (mulf (broadcastInDim StepRefIdeal.S128x5632 ![0, 1] StepRefIdeal.Gen.bcast_S1x5632_S128x5632_0_1 (broadcastInDim StepRefIdeal.S1x5632 ![1] StepRefIdeal.Gen.bcast_S5632_S1x5632_1 (shapeCast StepRefIdeal.S5632 (extractStridedSlice StepRefIdeal.S1x5632 ![0, 0] cw StepRefIdeal.Gen.slices_S3x5632_S1x5632_0_0) StepRefIdeal.Gen.shapeCasts_S1x5632_S5632))) (extractStridedSlice StepRefIdeal.S128x5632 ![0, 0] s StepRefIdeal.Gen.slices_S128x11264_S128x5632_0_0)) (mulf (broadcastInDim StepRefIdeal.S128x5632 ![0, 1] StepRefIdeal.Gen.bcast_S1x5632_S128x5632_0_1 (broadcastInDim StepRefIdeal.S1x5632 ![1] StepRefIdeal.Gen.bcast_S5632_S1x5632_1 (shapeCast StepRefIdeal.S5632 (extractStridedSlice StepRefIdeal.S1x5632 ![1, 0] cw StepRefIdeal.Gen.slices_S3x5632_S1x5632_1_0) StepRefIdeal.Gen.shapeCasts_S1x5632_S5632))) (extractStridedSlice StepRefIdeal.S128x5632 ![0, 5632] s StepRefIdeal.Gen.slices_S128x11264_S128x5632_0_5632))) (mulf (broadcastInDim StepRefIdeal.S128x5632 ![0, 1] StepRefIdeal.Gen.bcast_S1x5632_S128x5632_0_1 (broadcastInDim StepRefIdeal.S1x5632 ![1] StepRefIdeal.Gen.bcast_S5632_S1x5632_1 (shapeCast StepRefIdeal.S5632 (extractStridedSlice StepRefIdeal.S1x5632 ![2, 0] cw StepRefIdeal.Gen.slices_S3x5632_S1x5632_2_0) StepRefIdeal.Gen.shapeCasts_S1x5632_S5632))) (Host.dotGeneral StepRefIdeal.dot_S128x2048_S2048x5632_S128x5632_1_0_0_1_n_n none (extf .f32 n StepRefIdeal.Gen.bitsLt_bf16_f32) w))) (broadcastInDim StepRefIdeal.S128x5632 ![0, 1] StepRefIdeal.Gen.bcast_S1x5632_S128x5632_0_1 (broadcastInDim StepRefIdeal.S1x5632 ![1] StepRefIdeal.Gen.bcast_S5632_S1x5632_1 cb)))))))) (Host.dotGeneral StepRefIdeal.dot_S128x2048_S2048x5632_S128x5632_1_0_0_1_n_n none (extf .f32 n StepRefIdeal.Gen.bitsLt_bf16_f32) u)) bitsLt_bf16_f32) i
      = entry s n w u cw cb (i 0) (i 1) := by
  rw [show i = ix2 (i 0) (i 1) from funext fun a => by fin_cases a <;> rfl]
  refine silu_mul _ _ _ _ _ ?_ (product_apply _ _ (i 0) (i 1))
  unfold conv
  refine congrArg₂ (· + ·) (congrArg₂ (· + ·) (congrArg₂ (· + ·) (congrArg₂ (· * ·) ?_ ?_) (congrArg₂ (· * ·) ?_ ?_)) (congrArg₂ (· * ·) ?_ ?_)) (bias_apply _ (i 0) (i 1))
  · exact row_apply 0 _ _ 0 rfl (i 0) (i 1)
  · exact older_apply _ (i 0) (i 1)
  · exact row_apply 1 _ _ 1 rfl (i 0) (i 1)
  · exact newer_apply _ (i 0) (i 1)
  · exact row_apply 2 _ _ 2 rfl (i 0) (i 1)
  · exact product_apply _ _ (i 0) (i 1)

/-- The reference's product with the gate weight. -/
theorem reference_gate (n : FVec Ideal StepRefIdeal.S128x2048 .bf16) (w : FVec Ideal StepRefIdeal.S2048x5632 .f32) (i : StepRefIdeal.S128x5632.Idx) :
    Host.dotGeneral StepRefIdeal.dot_S128x2048_S2048x5632_S128x5632_1_0_0_1_n_n none (extf .f32 n StepRefIdeal.Gen.bitsLt_bf16_f32) w i = prod n w (i 0) (i 1) := by
  rw [show i = ix2 (i 0) (i 1) from funext fun a => by fin_cases a <;> rfl]
  exact product_apply n w (i 0) (i 1)

end Cert.StepValue
end
-- ==== Proof.MixRun.lean ====
/- One grid point of the output projection: what the two loops over the weight blocks leave in the scratch buffers, and the body's
   triple at the points that start a column block and at those that go on. -/
module

public import proofs.«01_k».proof.Proof.Gen.MixIdeal.Frame.Runs
public import Idealize.ShloMosaic.Lib.WritesUnit
public import Idealize.ShloMosaic.Lib.WholeRead
public import Idealize.ShloMosaic.Lib.VecWindow
public import Idealize.ShloMosaic.Lib.Pointwise

@[expose] public section

set_option maxRecDepth 16384

noncomputable section

namespace Cert.MixIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- A weight block rounded to bf16, as its scratch buffer holds it. -/
def narrow (x : Vec F S1024x512 .f32) : Vec F S1024x512 .bf16 := truncf .bf16 x bitsLt_bf16_f32

theorem pay1_eq (v : Vec F S256x512 .f32) : k0_pay1 v = truncf .bf16 v bitsLt_bf16_f32 := by
  unfold k0_pay1
  exact shapeCast_self _ _

theorem pay2_eq (v : Vec F S256x512 .f32) : k0_pay2 v = truncf .bf16 v bitsLt_bf16_f32 := by
  unfold k0_pay2
  exact shapeCast_self _ _

/-- A trip's one store: 256 rows of the weight block, rounded. -/
theorem piece_eq1 (𝒱 : Variants) (c : Dev nD) (bd : Option 𝒱.V) (i : grid0.Coords) (arg2 : Memref sig .tc .vmem S512x1024 .bf16) (harg2 : arg2.IsWhole) (arg3 : Memref sig .tc .vmem S512x1024 .bf16) (harg3 : arg3.IsWhole)
    (arg4 : Memref sig .tc .vmem S1024x512 .f32) (harg4 : arg4.IsWhole) (arg5 : Memref sig .tc .vmem S1024x512 .f32) (harg5 : arg5.IsWhole)
    (arg6 : Memref sig .tc .vmem S512x512 .f32) (harg6 : arg6.IsWhole) (arg7 : Memref sig .tc .vmem S512x512 .f32) (harg7 : arg7.IsWhole)
    (arg8 : Memref sig .tc .vmem S1024x512 .bf16) (harg8 : arg8.IsWhole) (arg9 : Memref sig .tc .vmem S1024x512 .bf16) (harg9 : arg9.IsWhole)
    (h1 : k0_cond1 i = 1#1) (X : BufTy.Contents (Elt F) arg4.view.ty) (k : Fin k0_t1_loop.trips) :
    tripL_k0_t1 (F := F) 𝒱 c bd i arg2 harg2 arg3 harg3 arg4 harg4 arg5 harg5 arg6 harg6 arg7 harg7 arg8 harg8 arg9 harg9 h1 X k
      = [⟨Rect.unit (s := S1024x512) (k0_off1 k) S256x512.size (k0_off1_inb i k h1),
          k0_pay1 (View.readAt (Elt F) arg4.view (Rect.unit (s := S1024x512) (k0_off1 k) S256x512.size (k0_off1_inb i k h1)).toLoadRect X)⟩] := by
  unfold tripL_k0_t1 trip_k0_t1
  rfl

/-- Below the rows of the trips done so far the scratch buffer holds the rounded weight block. -/
theorem read_pb1 (𝒱 : Variants) (c : Dev nD) (bd : Option 𝒱.V) (i : grid0.Coords) (arg2 : Memref sig .tc .vmem S512x1024 .bf16) (harg2 : arg2.IsWhole) (arg3 : Memref sig .tc .vmem S512x1024 .bf16) (harg3 : arg3.IsWhole)
    (arg4 : Memref sig .tc .vmem S1024x512 .f32) (harg4 : arg4.IsWhole) (arg5 : Memref sig .tc .vmem S1024x512 .f32) (harg5 : arg5.IsWhole)
    (arg6 : Memref sig .tc .vmem S512x512 .f32) (harg6 : arg6.IsWhole) (arg7 : Memref sig .tc .vmem S512x512 .f32) (harg7 : arg7.IsWhole)
    (arg8 : Memref sig .tc .vmem S1024x512 .bf16) (harg8 : arg8.IsWhole) (arg9 : Memref sig .tc .vmem S1024x512 .bf16) (harg9 : arg9.IsWhole)
    (h1 : k0_cond1 i = 1#1) (x : Vec F S1024x512 .f32) (f : BufTy.Contents (Elt F) arg8.view.ty) (n : ℕ) (hn : n ≤ k0_t1_loop.trips)
    (y : S1024x512.Idx) (hy : (y 0).val < 256 * n) :
    arg8.view.read (Elt F) (arg8.view.writes (Elt F) f (pb_k0_t1 (F := F) 𝒱 c bd i arg2 harg2 arg3 harg3 arg4 harg4 arg5 harg5 arg6 harg6 arg7 harg7 arg8 harg8 arg9 harg9 h1 (harg4.unread x) n)) y
      = narrow x y := by
  induction n with
  | zero => omega
  | succ n ih =>
    have hk : n < k0_t1_loop.trips := hn
    have e := (pb_k0_t1_succ (F := F) 𝒱 c bd i arg2 harg2 arg3 harg3 arg4 harg4 arg5 harg5 arg6 harg6 arg7 harg7 arg8 harg8 arg9 harg9 h1 (harg4.unread x) ⟨n, hk⟩).trans
      (congrArg (· ++ _) (piece_eq1 (F := F) 𝒱 c bd i arg2 harg2 arg3 harg3 arg4 harg4 arg5 harg5 arg6 harg6 arg7 harg7 arg8 harg8 arg9 harg9 h1 (harg4.unread x) ⟨n, hk⟩))
    refine (congrArg (fun L => arg8.view.read (Elt F) (arg8.view.writes (Elt F) f L) y) e).trans ?_
    by_cases h : 256 * n ≤ (y 0).val
    · have hlt : (y 0).val - 256 * n < 256 := by omega
      refine (View.read_writes_cons_unit_of_mem arg8.view f _ _ _ y (ix2 ⟨(y 0).val - 256 * n, hlt⟩ ⟨(y 1).val, (y 1).isLt⟩ : S256x512.Idx)
        (k0_off1_eq ⟨n, hk⟩) ?_).trans ?_
      · intro a
        fin_cases a
        · show (y 0).val = 256 * n + ((y 0).val - 256 * n)
          omega
        · show (y 1).val = 0 + (y 1).val
          omega
      · rw [pay1_eq]
        refine congrArg (fun z => FloatOps.truncf .bf16 bitsLt_bf16_f32 z) ?_
        rw [Memref.IsWhole.readAt_unread]
        refine congrArg x (funext fun a => Fin.ext ?_)
        have e0 := congrFun (k0_off1_eq ⟨n, hk⟩) a
        fin_cases a
        · show k0_off1 ⟨n, hk⟩ 0 + 1 * ((y 0).val - 256 * n) = (y 0).val
          have e0' : k0_off1 ⟨n, hk⟩ 0 = 256 * n := e0
          omega
        · show k0_off1 ⟨n, hk⟩ 1 + 1 * (y 1).val = (y 1).val
          have e0' : k0_off1 ⟨n, hk⟩ 1 = 0 := e0
          omega
    · refine (View.read_writes_cons_unit_of_not_mem arg8.view f _ _ _ y (k0_off1_eq ⟨n, hk⟩) 0 (Or.inl ?_)).trans (ih (by omega) (by omega))
      show (y 0).val < 256 * n
      omega

/-- After the loop the scratch buffer holds the rounded weight block. -/
theorem read_all1 (𝒱 : Variants) (c : Dev nD) (bd : Option 𝒱.V) (i : grid0.Coords) (arg2 : Memref sig .tc .vmem S512x1024 .bf16) (harg2 : arg2.IsWhole) (arg3 : Memref sig .tc .vmem S512x1024 .bf16) (harg3 : arg3.IsWhole)
    (arg4 : Memref sig .tc .vmem S1024x512 .f32) (harg4 : arg4.IsWhole) (arg5 : Memref sig .tc .vmem S1024x512 .f32) (harg5 : arg5.IsWhole)
    (arg6 : Memref sig .tc .vmem S512x512 .f32) (harg6 : arg6.IsWhole) (arg7 : Memref sig .tc .vmem S512x512 .f32) (harg7 : arg7.IsWhole)
    (arg8 : Memref sig .tc .vmem S1024x512 .bf16) (harg8 : arg8.IsWhole) (arg9 : Memref sig .tc .vmem S1024x512 .bf16) (harg9 : arg9.IsWhole)
    (h1 : k0_cond1 i = 1#1) (x : Vec F S1024x512 .f32) (f : BufTy.Contents (Elt F) arg8.view.ty) :
    arg8.view.read (Elt F) (arg8.view.writes (Elt F) f (pb_k0_t1 (F := F) 𝒱 c bd i arg2 harg2 arg3 harg3 arg4 harg4 arg5 harg5 arg6 harg6 arg7 harg7 arg8 harg8 arg9 harg9 h1 (harg4.unread x) k0_t1_loop.trips))
      = narrow x := by
  funext y
  have ht : k0_t1_loop.trips = 4 := by decide +kernel
  have hy : (y 0).val < 1024 := (y 0).isLt
  exact read_pb1 𝒱 c bd i arg2 harg2 arg3 harg3 arg4 harg4 arg5 harg5 arg6 harg6 arg7 harg7 arg8 harg8 arg9 harg9 h1 x f _ (Nat.le_refl _) y (by rw [ht]; omega)

/-- A trip's one store: 256 rows of the weight block, rounded. -/
theorem piece_eq2 (𝒱 : Variants) (c : Dev nD) (bd : Option 𝒱.V) (i : grid0.Coords) (arg2 : Memref sig .tc .vmem S512x1024 .bf16) (harg2 : arg2.IsWhole) (arg3 : Memref sig .tc .vmem S512x1024 .bf16) (harg3 : arg3.IsWhole)
    (arg4 : Memref sig .tc .vmem S1024x512 .f32) (harg4 : arg4.IsWhole) (arg5 : Memref sig .tc .vmem S1024x512 .f32) (harg5 : arg5.IsWhole)
    (arg6 : Memref sig .tc .vmem S512x512 .f32) (harg6 : arg6.IsWhole) (arg7 : Memref sig .tc .vmem S512x512 .f32) (harg7 : arg7.IsWhole)
    (arg8 : Memref sig .tc .vmem S1024x512 .bf16) (harg8 : arg8.IsWhole) (arg9 : Memref sig .tc .vmem S1024x512 .bf16) (harg9 : arg9.IsWhole)
    (h1 : k0_cond1 i = 1#1) (X : BufTy.Contents (Elt F) arg5.view.ty) (k : Fin k0_t2_loop.trips) :
    tripL_k0_t2 (F := F) 𝒱 c bd i arg2 harg2 arg3 harg3 arg4 harg4 arg5 harg5 arg6 harg6 arg7 harg7 arg8 harg8 arg9 harg9 h1 X k
      = [⟨Rect.unit (s := S1024x512) (k0_off2 k) S256x512.size (k0_off2_inb i k h1),
          k0_pay2 (View.readAt (Elt F) arg5.view (Rect.unit (s := S1024x512) (k0_off2 k) S256x512.size (k0_off2_inb i k h1)).toLoadRect X)⟩] := by
  unfold tripL_k0_t2 trip_k0_t2
  rfl

/-- Below the rows of the trips done so far the scratch buffer holds the rounded weight block. -/
theorem read_pb2 (𝒱 : Variants) (c : Dev nD) (bd : Option 𝒱.V) (i : grid0.Coords) (arg2 : Memref sig .tc .vmem S512x1024 .bf16) (harg2 : arg2.IsWhole) (arg3 : Memref sig .tc .vmem S512x1024 .bf16) (harg3 : arg3.IsWhole)
    (arg4 : Memref sig .tc .vmem S1024x512 .f32) (harg4 : arg4.IsWhole) (arg5 : Memref sig .tc .vmem S1024x512 .f32) (harg5 : arg5.IsWhole)
    (arg6 : Memref sig .tc .vmem S512x512 .f32) (harg6 : arg6.IsWhole) (arg7 : Memref sig .tc .vmem S512x512 .f32) (harg7 : arg7.IsWhole)
    (arg8 : Memref sig .tc .vmem S1024x512 .bf16) (harg8 : arg8.IsWhole) (arg9 : Memref sig .tc .vmem S1024x512 .bf16) (harg9 : arg9.IsWhole)
    (h1 : k0_cond1 i = 1#1) (x : Vec F S1024x512 .f32) (f : BufTy.Contents (Elt F) arg9.view.ty) (n : ℕ) (hn : n ≤ k0_t2_loop.trips)
    (y : S1024x512.Idx) (hy : (y 0).val < 256 * n) :
    arg9.view.read (Elt F) (arg9.view.writes (Elt F) f (pb_k0_t2 (F := F) 𝒱 c bd i arg2 harg2 arg3 harg3 arg4 harg4 arg5 harg5 arg6 harg6 arg7 harg7 arg8 harg8 arg9 harg9 h1 (harg5.unread x) n)) y
      = narrow x y := by
  induction n with
  | zero => omega
  | succ n ih =>
    have hk : n < k0_t2_loop.trips := hn
    have e := (pb_k0_t2_succ (F := F) 𝒱 c bd i arg2 harg2 arg3 harg3 arg4 harg4 arg5 harg5 arg6 harg6 arg7 harg7 arg8 harg8 arg9 harg9 h1 (harg5.unread x) ⟨n, hk⟩).trans
      (congrArg (· ++ _) (piece_eq2 (F := F) 𝒱 c bd i arg2 harg2 arg3 harg3 arg4 harg4 arg5 harg5 arg6 harg6 arg7 harg7 arg8 harg8 arg9 harg9 h1 (harg5.unread x) ⟨n, hk⟩))
    refine (congrArg (fun L => arg9.view.read (Elt F) (arg9.view.writes (Elt F) f L) y) e).trans ?_
    by_cases h : 256 * n ≤ (y 0).val
    · have hlt : (y 0).val - 256 * n < 256 := by omega
      refine (View.read_writes_cons_unit_of_mem arg9.view f _ _ _ y (ix2 ⟨(y 0).val - 256 * n, hlt⟩ ⟨(y 1).val, (y 1).isLt⟩ : S256x512.Idx)
        (k0_off2_eq ⟨n, hk⟩) ?_).trans ?_
      · intro a
        fin_cases a
        · show (y 0).val = 256 * n + ((y 0).val - 256 * n)
          omega
        · show (y 1).val = 0 + (y 1).val
          omega
      · rw [pay2_eq]
        refine congrArg (fun z => FloatOps.truncf .bf16 bitsLt_bf16_f32 z) ?_
        rw [Memref.IsWhole.readAt_unread]
        refine congrArg x (funext fun a => Fin.ext ?_)
        have e0 := congrFun (k0_off2_eq ⟨n, hk⟩) a
        fin_cases a
        · show k0_off2 ⟨n, hk⟩ 0 + 1 * ((y 0).val - 256 * n) = (y 0).val
          have e0' : k0_off2 ⟨n, hk⟩ 0 = 256 * n := e0
          omega
        · show k0_off2 ⟨n, hk⟩ 1 + 1 * (y 1).val = (y 1).val
          have e0' : k0_off2 ⟨n, hk⟩ 1 = 0 := e0
          omega
    · refine (View.read_writes_cons_unit_of_not_mem arg9.view f _ _ _ y (k0_off2_eq ⟨n, hk⟩) 0 (Or.inl ?_)).trans (ih (by omega) (by omega))
      show (y 0).val < 256 * n
      omega

/-- After the loop the scratch buffer holds the rounded weight block. -/
theorem read_all2 (𝒱 : Variants) (c : Dev nD) (bd : Option 𝒱.V) (i : grid0.Coords) (arg2 : Memref sig .tc .vmem S512x1024 .bf16) (harg2 : arg2.IsWhole) (arg3 : Memref sig .tc .vmem S512x1024 .bf16) (harg3 : arg3.IsWhole)
    (arg4 : Memref sig .tc .vmem S1024x512 .f32) (harg4 : arg4.IsWhole) (arg5 : Memref sig .tc .vmem S1024x512 .f32) (harg5 : arg5.IsWhole)
    (arg6 : Memref sig .tc .vmem S512x512 .f32) (harg6 : arg6.IsWhole) (arg7 : Memref sig .tc .vmem S512x512 .f32) (harg7 : arg7.IsWhole)
    (arg8 : Memref sig .tc .vmem S1024x512 .bf16) (harg8 : arg8.IsWhole) (arg9 : Memref sig .tc .vmem S1024x512 .bf16) (harg9 : arg9.IsWhole)
    (h1 : k0_cond1 i = 1#1) (x : Vec F S1024x512 .f32) (f : BufTy.Contents (Elt F) arg9.view.ty) :
    arg9.view.read (Elt F) (arg9.view.writes (Elt F) f (pb_k0_t2 (F := F) 𝒱 c bd i arg2 harg2 arg3 harg3 arg4 harg4 arg5 harg5 arg6 harg6 arg7 harg7 arg8 harg8 arg9 harg9 h1 (harg5.unread x) k0_t2_loop.trips))
      = narrow x := by
  funext y
  have ht : k0_t2_loop.trips = 4 := by decide +kernel
  have hy : (y 0).val < 1024 := (y 0).isLt
  exact read_pb2 𝒱 c bd i arg2 harg2 arg3 harg3 arg4 harg4 arg5 harg5 arg6 harg6 arg7 harg7 arg8 harg8 arg9 harg9 h1 x f _ (Nat.le_refl _) y (by rw [ht]; omega)

/-- One whole-block store reads back as what was stored. -/
theorem read_store (v : View sig .tc .vmem S512x512 .f32) (f : v.ty.Contents (Elt F)) (w : Vec F S512x512 .f32) :
    v.read (Elt F) (v.writes (Elt F) f [⟨Rect.unit (s := S512x512) ![0, 0] S512x512.size inb_S512x512_S512x512_0_0, w⟩]) = w := by
  funext y
  refine View.read_writes_cons_unit_of_mem v f _ w [] y y rfl fun a => ?_
  fin_cases a
  · show (y 0).val = 0 + (y 0).val
    omega
  · show (y 1).val = 0 + (y 1).val
    omega

set_option maxHeartbeats 1000000 in
/-- The body at a point that starts a column block. -/
theorem run_fill (c : Dev nD) (i : grid0.Coords) (arg2 : Memref sig .tc .vmem S512x1024 .bf16) (harg2 : arg2.IsWhole) (arg3 : Memref sig .tc .vmem S512x1024 .bf16) (harg3 : arg3.IsWhole)
    (arg4 : Memref sig .tc .vmem S1024x512 .f32) (harg4 : arg4.IsWhole) (arg5 : Memref sig .tc .vmem S1024x512 .f32) (harg5 : arg5.IsWhole)
    (arg6 : Memref sig .tc .vmem S512x512 .f32) (harg6 : arg6.IsWhole) (arg7 : Memref sig .tc .vmem S512x512 .f32) (harg7 : arg7.IsWhole)
    (arg8 : Memref sig .tc .vmem S1024x512 .bf16) (harg8 : arg8.IsWhole) (arg9 : Memref sig .tc .vmem S1024x512 .bf16) (harg9 : arg9.IsWhole)
    (hc0 : cond0_0 i) (x0 : Vec F S512x1024 .bf16) (x1 : Vec F S512x1024 .bf16) (x2 : Vec F S1024x512 .f32) (x3 : Vec F S1024x512 .f32) (x4 : Vec F S512x512 .f32) :
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ (∃ d, owns (c : Thread nD τ) arg8 fullShare d) ∗ (∃ d, owns (c : Thread nD τ) arg9 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare (k0_pay3 x0 x1 (narrow x2) (narrow x3) x4) ∗ owns (c : Thread nD τ) arg8 fullShare (narrow x2) ∗ owns (c : Thread nD τ) arg9 fullShare (narrow x3)) -∗ K ⟨⟩))
          ⊢ wp frame (wpE (defs₀ (F := F)) Variants.none c none) E (cc0_body i arg2 harg2 arg3 harg3 arg4 harg4 arg5 harg5 arg6 harg6 arg7 harg7 arg8 harg8 arg9 harg9) K := by
    intro E K
    simp only [cc0_body_eq_skeleton]; unfold cc0_body_skel
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%ds0, %fs0, -, HS0⟩, ⟨%ds1, %fs1, -, HS1⟩, Hk⟩
    obtain rfl := harg2.eq_unread hf0; obtain rfl := harg3.eq_unread hf1; obtain rfl := harg4.eq_unread hf2; obtain rfl := harg5.eq_unread hf3; obtain rfl := harg6.eq_unread hf4
    sl_exec (disch := first | sl_exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; swap; · iexact H5
      ipureintro
      refine (read_store arg7.view f5 _).trans ?_
      rw [View.readAt_full, View.readAt_full, View.readAt_full, View.readAt_full, View.readAt_full, harg2.read_unread, harg3.read_unread, harg6.read_unread, read_all1, read_all2]
    isplitl [HS0]
    · iexists _; isplitr; swap; · iexact HS0
      ipureintro
      exact read_all1 Variants.none c none i arg2 harg2 arg3 harg3 arg4 harg4 arg5 harg5 arg6 harg6 arg7 harg7 arg8 harg8 arg9 harg9 hc0 x2 fs0
    iexists _; isplitr; swap; · iexact HS1
    ipureintro
    exact read_all2 Variants.none c none i arg2 harg2 arg3 harg3 arg4 harg4 arg5 harg5 arg6 harg6 arg7 harg7 arg8 harg8 arg9 harg9 hc0 x3 fs1

set_option maxHeartbeats 1000000 in
/-- The body at a point that goes on with a column block. -/
theorem run_keep (c : Dev nD) (i : grid0.Coords) (arg2 : Memref sig .tc .vmem S512x1024 .bf16) (harg2 : arg2.IsWhole) (arg3 : Memref sig .tc .vmem S512x1024 .bf16) (harg3 : arg3.IsWhole)
    (arg4 : Memref sig .tc .vmem S1024x512 .f32) (harg4 : arg4.IsWhole) (arg5 : Memref sig .tc .vmem S1024x512 .f32) (harg5 : arg5.IsWhole)
    (arg6 : Memref sig .tc .vmem S512x512 .f32) (harg6 : arg6.IsWhole) (arg7 : Memref sig .tc .vmem S512x512 .f32) (harg7 : arg7.IsWhole)
    (arg8 : Memref sig .tc .vmem S1024x512 .bf16) (harg8 : arg8.IsWhole) (arg9 : Memref sig .tc .vmem S1024x512 .bf16) (harg9 : arg9.IsWhole)
    (hc0 : ¬cond0_0 i) (x0 : Vec F S512x1024 .bf16) (x1 : Vec F S512x1024 .bf16) (x2 : Vec F S1024x512 .f32) (x3 : Vec F S1024x512 .f32) (x4 : Vec F S512x512 .f32) (w1 w2 : Vec F S1024x512 .bf16) :
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ owns (c : Thread nD τ) arg8 fullShare w1 ∗ owns (c : Thread nD τ) arg9 fullShare w2
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare (k0_pay3 x0 x1 w1 w2 x4) ∗ owns (c : Thread nD τ) arg8 fullShare w1 ∗ owns (c : Thread nD τ) arg9 fullShare w2) -∗ K ⟨⟩))
          ⊢ wp frame (wpE (defs₀ (F := F)) Variants.none c none) E (cc0_body i arg2 harg2 arg3 harg3 arg4 harg4 arg5 harg5 arg6 harg6 arg7 harg7 arg8 harg8 arg9 harg9) K := by
    intro E K
    simp only [cc0_body_eq_skeleton]; unfold cc0_body_skel
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%fs0, %hs0, HS0⟩, ⟨%fs1, %hs1, HS1⟩, Hk⟩
    obtain rfl := harg2.eq_unread hf0; obtain rfl := harg3.eq_unread hf1; obtain rfl := harg4.eq_unread hf2; obtain rfl := harg5.eq_unread hf3; obtain rfl := harg6.eq_unread hf4; obtain rfl := harg8.eq_unread hs0; obtain rfl := harg9.eq_unread hs1
    sl_exec (disch := first | sl_exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; swap; · iexact H5
      ipureintro
      refine (read_store arg7.view f5 _).trans ?_
      rw [View.readAt_full, View.readAt_full, View.readAt_full, View.readAt_full, View.readAt_full, harg2.read_unread, harg3.read_unread, harg6.read_unread, harg8.read_unread, harg9.read_unread]
    isplitl [HS0]
    · iexists _; isplitr; swap; · iexact HS0
      ipureintro
      exact harg8.read_unread _
    iexists _; isplitr; swap; · iexact HS1
    ipureintro
    exact harg9.read_unread _

end Cert.MixIdeal.Gen

end
-- ==== Proof.MixFrame.lean ====
/- The launch of the output projection: the pipeline's proof data with the two scratch buffers tracked from point to point, the body
   obligation, the run of the whole program and the frame. -/
module

public import proofs.«01_k».proof.Proof.MixRun
public import Idealize.ShloMosaic.Lib.Pipeline.ValueKit
public import Idealize.ShloMosaic.Lib.Claim

@[expose] public section

set_option maxRecDepth 16384

noncomputable section

namespace Cert.MixIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The two grid coordinates of a point: the column block, and the row block. -/
theorem coord_col (t : Fin cfg0.N) : (BitVec.ofNat 32 (grid0.coords t 0).val).toNat = t.val / 16 := by
  have ht : t.val < 64 := Nat.lt_of_lt_of_eq t.isLt N_0
  have e0 : (grid0.coords t 0).val = t.val / 16 % 4 := Pipeline.Grid.coords_val t 0 (by decide) rfl
  rw [e0, BitVec.toNat_ofNat]; omega

theorem coord_row (t : Fin cfg0.N) : (BitVec.ofNat 32 (grid0.coords t 1).val).toNat = t.val % 16 := by
  have ht : t.val < 64 := Nat.lt_of_lt_of_eq t.isLt N_0
  have e1 : (grid0.coords t 1).val = t.val / 1 % 16 := Pipeline.Grid.coords_val t 1 (by decide) rfl
  rw [e1, BitVec.toNat_ofNat]; omega

theorem coord_col' (t : Fin cfg0.N) : (Scalar.addi (BitVec.ofNat 32 (grid0.coords t 0).val) 0#32).toNat = t.val / 16 := by
  refine (congrArg BitVec.toNat (show Scalar.addi (BitVec.ofNat 32 (grid0.coords t 0).val) 0#32 = BitVec.ofNat 32 (grid0.coords t 0).val + 0#32 from rfl)).trans ?_
  rw [BitVec.add_zero]
  exact coord_col t

/-! The two weight blocks at a point: the upper and the lower 1024 rows, the 512 columns of the point's column block. -/

theorem x1_lt (t : Fin cfg0.N) (y : S1024x512.Idx) : 512 * (t.val / 16) + (y 1).val < 2048 := by
  have ht : t.val < 64 := Nat.lt_of_lt_of_eq t.isLt N_0
  have hy : (y 1).val < 512 := (y 1).isLt
  omega

theorem x1_at (c : Dev nD) (t : Fin cfg0.N) (y : S1024x512.Idx) :
    (iblk m c 2 t : S1024x512.Idx → Elt F .f32) y
      = (V m c main_arg3 : S2048x2048.Idx → Elt F .f32) (ix2 ⟨(y 0).val, by have h : (y 0).val < 1024 := (y 0).isLt; omega⟩ ⟨512 * (t.val / 16) + (y 1).val, x1_lt t y⟩) := by
  have ht := coord_col' t
  refine congrArg (V m c main_arg3 : S2048x2048.Idx → Elt F .f32) (funext fun a => Fin.ext ?_)
  refine (ValueKit.view_emb_slice_whole_unit_val main_arg3 _ _ _ _ a).trans ?_
  fin_cases a
  · show 0 * 1024 + (y 0).val = (y 0).val
    omega
  · show (Scalar.addi (BitVec.ofNat 32 (grid0.coords t 0).val) 0#32).toNat * 512 + (y 1).val = 512 * (t.val / 16) + (y 1).val
    omega

/-- The weight block stays the same from a point to the next unless the next starts a column block. -/
theorem x1_same (c : Dev nD) (t t' : Fin cfg0.N) (h : t'.val = t.val + 1) (h0 : t'.val % 16 ≠ 0) :
    (iblk m c 2 t' : S1024x512.Idx → Elt F .f32) = (iblk m c 2 t : S1024x512.Idx → Elt F .f32) := by
  funext y
  refine (x1_at m c t' y).trans (Eq.trans ?_ (x1_at m c t y).symm)
  have e : t'.val / 16 = t.val / 16 := by omega
  refine congrArg (V m c main_arg3 : S2048x2048.Idx → Elt F .f32) (funext fun a => Fin.ext ?_)
  fin_cases a
  · rfl
  · show 512 * (t'.val / 16) + (y 1).val = 512 * (t.val / 16) + (y 1).val
    rw [e]

theorem x2_lt (t : Fin cfg0.N) (y : S1024x512.Idx) : 512 * (t.val / 16) + (y 1).val < 2048 := by
  have ht : t.val < 64 := Nat.lt_of_lt_of_eq t.isLt N_0
  have hy : (y 1).val < 512 := (y 1).isLt
  omega

theorem x2_at (c : Dev nD) (t : Fin cfg0.N) (y : S1024x512.Idx) :
    (iblk m c 3 t : S1024x512.Idx → Elt F .f32) y
      = (V m c main_arg3 : S2048x2048.Idx → Elt F .f32) (ix2 ⟨1024 + (y 0).val, by have h : (y 0).val < 1024 := (y 0).isLt; omega⟩ ⟨512 * (t.val / 16) + (y 1).val, x2_lt t y⟩) := by
  have ht := coord_col' t
  refine congrArg (V m c main_arg3 : S2048x2048.Idx → Elt F .f32) (funext fun a => Fin.ext ?_)
  refine (ValueKit.view_emb_slice_whole_unit_val main_arg3 _ _ _ _ a).trans ?_
  fin_cases a
  · show 1 * 1024 + (y 0).val = 1024 + (y 0).val
    omega
  · show (Scalar.addi (BitVec.ofNat 32 (grid0.coords t 0).val) 0#32).toNat * 512 + (y 1).val = 512 * (t.val / 16) + (y 1).val
    omega

/-- The weight block stays the same from a point to the next unless the next starts a column block. -/
theorem x2_same (c : Dev nD) (t t' : Fin cfg0.N) (h : t'.val = t.val + 1) (h0 : t'.val % 16 ≠ 0) :
    (iblk m c 3 t' : S1024x512.Idx → Elt F .f32) = (iblk m c 3 t : S1024x512.Idx → Elt F .f32) := by
  funext y
  refine (x2_at m c t' y).trans (Eq.trans ?_ (x2_at m c t y).symm)
  have e : t'.val / 16 = t.val / 16 := by omega
  refine congrArg (V m c main_arg3 : S2048x2048.Idx → Elt F .f32) (funext fun a => Fin.ext ?_)
  fin_cases a
  · rfl
  · show 512 * (t'.val / 16) + (y 1).val = 512 * (t.val / 16) + (y 1).val
    rw [e]

/-! ## The pipeline's proof data -/

/-- What is known before point `k`: unless the point starts a column block the scratch buffers hold its weight blocks, rounded. -/
def PhiS (c : Dev nD) (k : ℕ) : sProp 𝕄 :=
  iprop((∃ d, owns (c : Thread nD τ) scM0_0 fullShare d ∗ ⌜∀ t : Fin cfg0.N, t.val = k → t.val % 16 ≠ 0 → d = narrow (iblk m c 2 t)⌝)
    ∗ (∃ d, owns (c : Thread nD τ) scM0_1 fullShare d ∗ ⌜∀ t : Fin cfg0.N, t.val = k → t.val % 16 ≠ 0 → d = narrow (iblk m c 3 t)⌝) ∗ (∃ r, prngReg c r))

/-- The proof data: the arrays as launched, each input's buffer at its block, the output's at the sum. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => k0_pay3 (iblk m c 0 t) (iblk m c 1 t) (narrow (iblk m c 2 t)) (narrow (iblk m c 3 t)) (iblk m c 4 t)
  Φ t := PhiS m c t.val
  q w := Pipeline.shareOf spec0 w
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) :
    (dats m 0 c).after 5 t = k0_pay3 (iblk m c 0 t) (iblk m c 1 t) (narrow (iblk m c 2 t)) (narrow (iblk m c 3 t)) (iblk m c 4 t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d)))

def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t))

set_option maxHeartbeats 800000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4]
  rw [show (dats m 0 c).owesAt () t.succ = (dats m 0 c).owesAt () t.castSucc from rfl,
    after0_0, after0_1, after0_2, after0_3, after0_4, after0_5]
  rw [show (dats m 0 c).Φ t.castSucc = PhiS m c t.val from rfl, show (dats m 0 c).Φ t.succ = PhiS m c (t.val + 1) from rfl]
  unfold PhiS
  have next1 : ∀ t' : Fin cfg0.N, t'.val = t.val + 1 → t'.val % 16 ≠ 0 → narrow (iblk m c 2 t) = narrow (iblk m c 2 t') :=
    fun t' h h0 => congrArg narrow (x1_same m c t t' h h0).symm
  have next2 : ∀ t' : Fin cfg0.N, t'.val = t.val + 1 → t'.val % 16 ≠ 0 → narrow (iblk m c 3 t) = narrow (iblk m c 3 t') :=
    fun t' h h0 => congrArg narrow (x2_same m c t t' h h0).symm
  by_cases h0 : t.val % 16 = 0
  · iintro ⟨⟨⟨%ds0, HS0, -⟩, ⟨%ds1, HS1, -⟩, Hg⟩, Ho, ⟨%d0, H0⟩, ⟨%d1, H1⟩, ⟨%d2, H2⟩, ⟨%d3, H3⟩, ⟨%d4, H4⟩, ⟨%d5, H5⟩⟩
    iapply ((run_fill c (grid0.coords t) _ _ _ _ _ _ _ _ _ _ _ _ _ _ _ _ ((hcond0_0 t).mpr h0) (iblk m c 0 t) (iblk m c 1 t) (iblk m c 2 t) (iblk m c 3 t) (iblk m c 4 t)) Set.univ _)
    isplitl [H0]; · iexact H0
    isplitl [H1]; · iexact H1
    isplitl [H2]; · iexact H2
    isplitl [H3]; · iexact H3
    isplitl [H4]; · iexact H4
    isplitl [H5]; · iexists _; iexact H5
    isplitl [HS0]; · iexists _; iexact HS0
    isplitl [HS1]; · iexists _; iexact HS1
    iintro ⟨H0, H1, H2, H3, H4, H5, HS0, HS1⟩
    isplitl [HS0 HS1 Hg]
    · isplitl [HS0]
      · iexists _; isplitl [HS0]; · iexact HS0
        ipureintro; exact next1
      isplitl [HS1]
      · iexists _; isplitl [HS1]; · iexact HS1
        ipureintro; exact next2
      iexact Hg
    isplitl [Ho]; · iexact Ho
    isplitl [H0]; · iexact H0
    isplitl [H1]; · iexact H1
    isplitl [H2]; · iexact H2
    isplitl [H3]; · iexact H3
    isplitl [H4]; · iexact H4
    iexact H5
  · iintro ⟨⟨⟨%ds0, HS0, %h1⟩, ⟨%ds1, HS1, %h2⟩, Hg⟩, Ho, ⟨%d0, H0⟩, ⟨%d1, H1⟩, ⟨%d2, H2⟩, ⟨%d3, H3⟩, ⟨%d4, H4⟩, ⟨%d5, H5⟩⟩
    obtain rfl := h1 t rfl h0; obtain rfl := h2 t rfl h0
    iapply ((run_keep c (grid0.coords t) _ _ _ _ _ _ _ _ _ _ _ _ _ _ _ _ (fun h => h0 ((hcond0_0 t).mp h)) (iblk m c 0 t) (iblk m c 1 t) (iblk m c 2 t) (iblk m c 3 t) (iblk m c 4 t) (narrow (iblk m c 2 t)) (narrow (iblk m c 3 t))) Set.univ _)
    isplitl [H0]; · iexact H0
    isplitl [H1]; · iexact H1
    isplitl [H2]; · iexact H2
    isplitl [H3]; · iexact H3
    isplitl [H4]; · iexact H4
    isplitl [H5]; · iexists _; iexact H5
    isplitl [HS0]; · iexact HS0
    isplitl [HS1]; · iexact HS1
    iintro ⟨H0, H1, H2, H3, H4, H5, HS0, HS1⟩
    isplitl [HS0 HS1 Hg]
    · isplitl [HS0]
      · iexists _; isplitl [HS0]; · iexact HS0
        ipureintro; exact next1
      isplitl [HS1]
      · iexists _; isplitl [HS1]; · iexact HS1
        ipureintro; exact next2
      iexact Hg
    isplitl [Ho]; · iexact Ho
    isplitl [H0]; · iexact H0
    isplitl [H1]; · iexact H1
    isplitl [H2]; · iexact H2
    isplitl [H3]; · iexact H3
    isplitl [H4]; · iexact H4
    iexact H5

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

theorem phi_in (c : Dev nD) : (Pipeline.ΦA spec0 c : sProp 𝕄) ⊢ PhiS m c 0 := by
  rw [PhiA0_eq]
  unfold PhiS
  iintro ⟨⟨⟨%d, HS0⟩, ⟨%d', HS1⟩⟩, Hg⟩
  isplitl [HS0]
  · iexists _; isplitl [HS0]; · iexact HS0
    ipureintro
    intro t h h0
    exact absurd (by rw [h]) h0
  isplitl [HS1]
  · iexists _; isplitl [HS1]; · iexact HS1
    ipureintro
    intro t h h0
    exact absurd (by rw [h]) h0
  iexact Hg

theorem phi_out (c : Dev nD) (k : ℕ) : PhiS m c k ⊢ (Pipeline.ΦA spec0 c : sProp 𝕄) := by
  rw [PhiA0_eq]
  unfold PhiS
  iintro ⟨⟨%d, HS0, -⟩, ⟨%d', HS1, -⟩, Hg⟩
  isplitl [HS0 HS1]
  · isplitl [HS0]
    · iexists _; iexact HS0
    iexists _; iexact HS1
  iexact Hg

set_option backward.isDefEq.respectTransparency.types false in
/-- The launch: the arrays at what the proof data says, every counter at zero. -/
theorem run_main_quiescent : θ_run defs (onTc (τ := τ) (main (F := F))) (s₀ m ρ) (fun r => (Pipeline.FramePost cfgs (dats m) 0 (V m)) r ∧ r.2.sem = fun _ => 0) :=
  Pipeline.θ_run_frame_track_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m)
    (hin := fun c => phi_in m c) (hout := fun c => phi_out m c _)

theorem run_main : θ_run defs (onTc (τ := τ) (main (F := F))) (s₀ m ρ) (Pipeline.FramePost cfgs (dats m) 0 (V m)) :=
  (θ_run defs _ _).mono (fun _ h => h.1) (run_main_quiescent m ρ)

/-- The argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  frame_of m ρ (dats m) (A_eq m) (run_main m ρ)

/-- The frame. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (unchanged m ρ) ((θ_run defs _ _).mono (fun _ h => h.2) (run_main_quiescent m ρ))

end Cert.MixIdeal.Gen

end
-- ==== Proof.MixValue.lean ====
/- The output projection's result: the launch's from its blocks, the reference's from its text, and their equality. -/
module

public import proofs.«01_k».proof.Proof.StepValue
public import proofs.«01_k».proof.Proof.MixFrame
public import proofs.«01_k».proof.Proof.Gen.MixRefIdeal.Run

@[expose] public section

set_option maxRecDepth 16384

noncomputable section

open Idealize.ShloMosaic Idealize.ShloMosaic.TcCoe Idealize.SL.Sem

namespace Cert.MixValue

open Cert.MixIdeal Cert.MixIdeal.Gen

/-- A row of the weight's upper half, and one of its lower half. -/
def up (k : Fin 1024) : Fin 2048 := ⟨k.val, by omega⟩
def low (k : Fin 1024) : Fin 2048 := ⟨1024 + k.val, by omega⟩

/-- An entry of the product of a half of the mixer with its half of the weight. -/
def prod (a : S8192x1024.Idx → EReal) (w : S2048x2048.Idx → EReal) (p : Fin 1024 → Fin 2048) (i : Fin 8192) (j : Fin 2048) : EReal :=
  ∑ k : Fin 1024, a (ix2 i k) * w (ix2 (p k) j)

/-- One entry of the result: the residual and the two products. -/
def entry (x : S8192x2048.Idx → EReal) (a b : S8192x1024.Idx → EReal) (w : S2048x2048.Idx → EReal) (i : Fin 8192) (j : Fin 2048) : EReal :=
  x (ix2 i j) + prod a w up i j + prod b w low i j

theorem half_apply (x : FVec Ideal S512x1024 .bf16) (w : FVec Ideal S1024x512 .bf16) (r d : Fin 512) :
    matmul (F := Ideal) dot_S512x1024_S1024x512_S512x512_1_0_0_1_n_n none x w (constant S512x512 .f32 0x00000000#32) (ix2 r d)
      = ∑ k : Fin 1024, (x (ix2 r k) : EReal) * (w (ix2 k d) : EReal) := by
  rw [matmul_zero_eq_dotGeneral]
  exact StackMember.dotGeneral_plain_apply none x w r d

/-- A block's result at an entry. -/
theorem block_apply (a b : FVec Ideal S512x1024 .bf16) (w u : FVec Ideal S1024x512 .bf16) (x : FVec Ideal S512x512 .f32) (r d : Fin 512) :
    k0_pay3 (F := Ideal) a b w u x (ix2 r d)
      = ((x (ix2 r d) : EReal) + (∑ k : Fin 1024, (a (ix2 r k) : EReal) * (w (ix2 k d) : EReal))
          + (∑ k : Fin 1024, (b (ix2 r k) : EReal) * (u (ix2 k d) : EReal)) : EReal) := by
  unfold k0_pay3
  exact congrArg₂ (fun p q : EReal => (x (ix2 r d) : EReal) + p + q) (half_apply a w r d) (half_apply b u r d)

variable (m : (ℓ : Loc nD τ sig) → Buf (Elt Ideal) ℓ)

theorem t_lt (t : Fin cfg0.N) : t.val < 64 := Nat.lt_of_lt_of_eq t.isLt N_0

def rowOf (t : Fin cfg0.N) (r : Fin 512) : Fin 8192 := ⟨512 * (t.val % 16) + r.val, by omega⟩
def colOf (t : Fin cfg0.N) (d : Fin 512) : Fin 2048 := ⟨512 * (t.val / 16) + d.val, by have := t_lt t; omega⟩

theorem first_blk (c : Dev nD) (t : Fin cfg0.N) (r : Fin 512) (k : Fin 1024) :
    (iblk m c 0 t : S512x1024.Idx → EReal) (ix2 r k) = (V m c main_arg1 : S8192x1024.Idx → EReal) (ix2 (rowOf t r) k) := by
  have hr := coord_row t
  refine congrArg (V m c main_arg1 : S8192x1024.Idx → EReal) (funext fun a => Fin.ext ?_)
  refine (ValueKit.view_emb_slice_whole_unit_val main_arg1 _ _ _ _ a).trans ?_
  fin_cases a
  · show (BitVec.ofNat 32 (grid0.coords t 1).val).toNat * 512 + r.val = 512 * (t.val % 16) + r.val
    omega
  · show 0 * 1024 + k.val = k.val
    omega

theorem second_blk (c : Dev nD) (t : Fin cfg0.N) (r : Fin 512) (k : Fin 1024) :
    (iblk m c 1 t : S512x1024.Idx → EReal) (ix2 r k) = (V m c main_arg2 : S8192x1024.Idx → EReal) (ix2 (rowOf t r) k) := by
  have hr := coord_row t
  refine congrArg (V m c main_arg2 : S8192x1024.Idx → EReal) (funext fun a => Fin.ext ?_)
  refine (ValueKit.view_emb_slice_whole_unit_val main_arg2 _ _ _ _ a).trans ?_
  fin_cases a
  · show (BitVec.ofNat 32 (grid0.coords t 1).val).toNat * 512 + r.val = 512 * (t.val % 16) + r.val
    omega
  · show 0 * 1024 + k.val = k.val
    omega

theorem residual_blk (c : Dev nD) (t : Fin cfg0.N) (r : Fin 512) (d : Fin 512) :
    (iblk m c 4 t : S512x512.Idx → EReal) (ix2 r d) = (V m c main_arg0 : S8192x2048.Idx → EReal) (ix2 (rowOf t r) (colOf t d)) := by
  have hr := coord_row t
  have hs := coord_col t
  refine congrArg (V m c main_arg0 : S8192x2048.Idx → EReal) (funext fun a => Fin.ext ?_)
  refine (ValueKit.view_emb_slice_whole_unit_val main_arg0 _ _ _ _ a).trans ?_
  fin_cases a
  · show (BitVec.ofNat 32 (grid0.coords t 1).val).toNat * 512 + r.val = 512 * (t.val % 16) + r.val
    omega
  · show (BitVec.ofNat 32 (grid0.coords t 0).val).toNat * 512 + d.val = 512 * (t.val / 16) + d.val
    omega

theorem upper_blk (c : Dev nD) (t : Fin cfg0.N) (k : Fin 1024) (d : Fin 512) :
    (iblk m c 2 t : S1024x512.Idx → EReal) (ix2 k d) = (V m c main_arg3 : S2048x2048.Idx → EReal) (ix2 (up k) (colOf t d)) :=
  x1_at m c t (ix2 k d)

theorem lower_blk (c : Dev nD) (t : Fin cfg0.N) (k : Fin 1024) (d : Fin 512) :
    (iblk m c 3 t : S1024x512.Idx → EReal) (ix2 k d) = (V m c main_arg3 : S2048x2048.Idx → EReal) (ix2 (low k) (colOf t d)) :=
  x2_at m c t (ix2 k d)

/-- Rounding changes no entry of the ideal block. -/
theorem narrow_apply (x : FVec Ideal S1024x512 .f32) (y : S1024x512.Idx) : (narrow (F := Ideal) x y : EReal) = (x y : EReal) := rfl

theorem product_at (t : Fin cfg0.N) (r d : Fin 512) (a : FVec Ideal S512x1024 .bf16) (w : FVec Ideal S1024x512 .f32) (p : Fin 1024 → Fin 2048)
    (N : S8192x1024.Idx → EReal) (W : S2048x2048.Idx → EReal) (hx : ∀ k, (a (ix2 r k) : EReal) = N (ix2 (rowOf t r) k))
    (h : ∀ k, (w (ix2 k d) : EReal) = W (ix2 (p k) (colOf t d))) :
    (∑ k : Fin 1024, (a (ix2 r k) : EReal) * (narrow (F := Ideal) w (ix2 k d) : EReal) : EReal) = prod N W p (rowOf t r) (colOf t d) := by
  unfold prod
  refine Finset.sum_congr rfl fun k _ => ?_
  exact congrArg₂ (fun a b : EReal => a * b) (hx k) ((narrow_apply w (ix2 k d)).trans (h k))

/-- The result array. -/
def mixArr (c : Dev nD) : S8192x2048.Idx → EReal := fun j => entry (V m c main_arg0) (V m c main_arg1) (V m c main_arg2) (V m c main_arg3) (j 0) (j 1)

theorem mixArr_at (c : Dev nD) (i : Fin 8192) (k : Fin 2048) (j : S8192x2048.Idx) (e : ∀ a, (j a).val = (ix2 i k a : Fin _).val) :
    entry (V m c main_arg0) (V m c main_arg1) (V m c main_arg2) (V m c main_arg3) i k = mixArr m c j := by
  rw [show j = ix2 i k from funext fun a => Fin.ext (e a)]
  rfl

theorem after_at (c : Dev nD) (t : Fin cfg0.N) (y : S512x512.Idx) :
    ((dats m 0 c).after 5 t : S512x512.Idx → EReal) y
      = entry (V m c main_arg0) (V m c main_arg1) (V m c main_arg2) (V m c main_arg3) (rowOf t (y 0)) (colOf t (y 1)) := by
  rw [after0_5, show y = ix2 (y 0) (y 1) from funext fun a => by fin_cases a <;> rfl]
  refine (block_apply _ _ _ _ _ (y 0) (y 1)).trans ?_
  unfold entry
  have e0 := residual_blk m c t (y 0) (y 1)
  have e1 := product_at t (y 0) (y 1) (iblk m c 0 t) (iblk m c 2 t) up _ _ (fun k => first_blk m c t (y 0) k) fun k => upper_blk m c t k (y 1)
  have e2 := product_at t (y 0) (y 1) (iblk m c 1 t) (iblk m c 3 t) low _ _ (fun k => second_blk m c t (y 0) k) fun k => lower_blk m c t k (y 1)
  exact congrArg₂ (fun a b : EReal => a + b) (congrArg₂ (fun a b : EReal => a + b) e0 e1) e2

theorem covers_5 : (cfg0.win 5).Covers := by decide +kernel

theorem final_5 (c : Dev nD) : (dats m 0 c).arrAt 5 cfg0.N = mixArr m c := by
  refine (dats m 0 c).arrAt_eq_of_covers 5 _ covers_5 fun t _ y => ?_
  have ht := coord_row t
  have hs := coord_col t
  refine (after_at m c t y).trans (mixArr_at m c _ _ _ fun a => ?_)
  refine (ValueKit.view_emb_slice_whole_unit_val main_v0 _ _ _ y a).trans ?_
  fin_cases a
  · show (BitVec.ofNat 32 (grid0.coords t 1).val).toNat * 512 + (y (0 : Fin 2)).val = 512 * (t.val % 16) + (y (0 : Fin 2)).val
    omega
  · show (BitVec.ofNat 32 (grid0.coords t 0).val).toNat * 512 + (y (1 : Fin 2)).val = 512 * (t.val / 16) + (y (1 : Fin 2)).val
    omega

/-- The launch's result array. -/
theorem kernel_run (ρ : Dev nD → PrngReg) :
    θ_run defs (onTc (τ := τ) (main (F := Ideal))) ⟨m, fun _ => 0, ρ⟩ (fun r => ∀ c : Dev nD,
      r.2.mem ((c.tc : Thread nD τ).loc main_v0) = mixArr m c) :=
  (θ_run defs _ _).mono (fun r h c => (Pipeline.FramePost.out_eq h c 5).trans (final_5 m c)) (run_main m ρ)

/-! ## The reference -/

/-- A sum over all rows of the weight is the sum over the upper ones and the sum over the lower ones. -/
theorem sum_halves (f : Fin 2048 → EReal) : ∑ k : Fin 2048, f k = ∑ k : Fin 1024, f (up k) + ∑ k : Fin 1024, f (low k) :=
  Fin.sum_univ_add (a := 1024) (b := 1024) f

/-- The two halves laid side by side, at a column of the first and of the second. -/
theorem beside_up (a b : FVec Ideal MixRefIdeal.S8192x1024 .f32) (i : Fin 8192) (k : Fin 1024) :
    (concatenate MixRefIdeal.S8192x2048 1 [⟨MixRefIdeal.S8192x1024, a⟩, ⟨MixRefIdeal.S8192x1024, b⟩]
      MixRefIdeal.Gen.concatenates_S8192x1024_S8192x1024_S8192x2048_d1 : FVec Ideal MixRefIdeal.S8192x2048 .f32) (ix2 i (up k)) = a (ix2 i k) := by
  refine concatenate_pair_apply_left (t := MixRefIdeal.S8192x2048) (s₁ := MixRefIdeal.S8192x1024) (s₂ := MixRefIdeal.S8192x1024) (1 : Fin 2) _ _ _ _ rfl (ix2 i k : MixRefIdeal.S8192x1024.Idx) fun q => ?_
  fin_cases q <;> rfl

theorem beside_low (a b : FVec Ideal MixRefIdeal.S8192x1024 .f32) (i : Fin 8192) (k : Fin 1024) :
    (concatenate MixRefIdeal.S8192x2048 1 [⟨MixRefIdeal.S8192x1024, a⟩, ⟨MixRefIdeal.S8192x1024, b⟩]
      MixRefIdeal.Gen.concatenates_S8192x1024_S8192x1024_S8192x2048_d1 : FVec Ideal MixRefIdeal.S8192x2048 .f32) (ix2 i (low k)) = b (ix2 i k) := by
  refine concatenate_pair_apply_right (t := MixRefIdeal.S8192x2048) (s₁ := MixRefIdeal.S8192x1024) (s₂ := MixRefIdeal.S8192x1024) (1 : Fin 2) _ _ _ _ rfl rfl (ix2 i k : MixRefIdeal.S8192x1024.Idx) (fun q hq => ?_) ?_
  · fin_cases q
    · rfl
    · exact absurd rfl hq
  · show k.val + 1024 = 1024 + k.val
    omega

/-- The reference's result at an entry. -/
theorem reference_apply (x : FVec Ideal MixRefIdeal.S8192x2048 .f32) (a b : FVec Ideal MixRefIdeal.S8192x1024 .bf16) (w : FVec Ideal MixRefIdeal.S2048x2048 .f32)
    (i : MixRefIdeal.S8192x2048.Idx) :
    (addf x (Host.dotGeneral MixRefIdeal.dot_S8192x2048_S2048x2048_S8192x2048_1_0_0_1_n_n none (concatenate MixRefIdeal.S8192x2048 1 [⟨MixRefIdeal.S8192x1024, (extf .f32 a MixRefIdeal.Gen.bitsLt_bf16_f32)⟩, ⟨MixRefIdeal.S8192x1024, (extf .f32 b MixRefIdeal.Gen.bitsLt_bf16_f32)⟩] MixRefIdeal.Gen.concatenates_S8192x1024_S8192x1024_S8192x2048_d1) w)) i
      = entry x a b w (i 0) (i 1) := by
  rw [show i = ix2 (i 0) (i 1) from funext fun a => by fin_cases a <;> rfl]
  refine (congrArg (fun q : EReal => (x (ix2 (i 0) (i 1)) : EReal) + q) ((StackMember.dotGeneral_plain_apply none _ w (i 0) (i 1)).trans (sum_halves _))).trans ?_
  unfold entry prod
  refine (add_assoc _ _ _).symm.trans ?_
  refine congrArg₂ (fun a b : EReal => a + b) (congrArg (fun q : EReal => (x (ix2 (i 0) (i 1)) : EReal) + q) (Finset.sum_congr rfl fun k _ => ?_)) (Finset.sum_congr rfl fun k _ => ?_)
  · exact congrArg (fun q : EReal => q * (w (ix2 (up k) (i 1)) : EReal)) (beside_up _ _ (i 0) k)
  · exact congrArg (fun q : EReal => q * (w (ix2 (low k) (i 1)) : EReal)) (beside_low _ _ (i 0) k)

end Cert.MixValue
end
-- ==== Proof.LastValue.lean ====
/- The sample batch's final norm's result: the launch's from its blocks, the reference's from its text, and their equality. -/
module

public import proofs.«01_k».proof.Proof.MixValue
public import proofs.«01_k».proof.Proof.Gen.LastIdeal.Frame
public import proofs.«01_k».proof.Proof.Gen.LastRefIdeal.Run
public import Idealize.ShloMosaic.Lib.Pointwise

@[expose] public section

set_option maxRecDepth 16384

noncomputable section

open Idealize.ShloMosaic Idealize.ShloMosaic.TcCoe Idealize.SL.Sem

namespace Cert.LastValue

open Cert.LastIdeal Cert.LastIdeal.Gen

/-- The scale of a row whose squares sum to `s`. -/
def scale (s : EReal) : EReal :=
  Ideal.rsqrt (Ideal.div s (Ideal.ofBits .f32 0x45000000#32) + Ideal.ofBits .f32 0x358637BD#32)

/-- One entry of the result: the row's entry, its row's scale, the column's gain. -/
def entry (x : S128x2048.Idx → EReal) (g : S2048.Idx → EReal) (i : Fin 128) (j : Fin 2048) : EReal :=
  x (ix2 i j) * scale (∑ k : Fin 2048, x (ix2 i k) * x (ix2 i k)) * g (ix1 j)

/-- A block's result at an entry. -/
theorem block_apply (x : FVec Ideal S128x2048 .f32) (g : FVec Ideal S1x2048 .f32) (r : Fin 128) (d : Fin 2048) :
    k0_pay1 (F := Ideal) x g (ix2 r d)
      = ((x (ix2 r d) : EReal) * scale (∑ k : Fin 2048, (x (ix2 r k) : EReal) * (x (ix2 r k) : EReal)) * (g (ix2 0 d) : EReal) : EReal) := by
  unfold k0_pay1 scale
  simp only [shapeCast_self]
  pointwise

variable (m : (ℓ : Loc nD τ sig) → Buf (Elt Ideal) ℓ)

theorem t_lt (t : Fin cfg0.N) : t.val < 1 := Nat.lt_of_lt_of_eq t.isLt N_0

theorem coord_row (t : Fin cfg0.N) : (BitVec.ofNat 32 (grid0.coords t 0).val).toNat = t.val := by
  have ht := t_lt t
  have e0 : (grid0.coords t 0).val = t.val / 1 % 1 := Pipeline.Grid.coords_val t 0 (by decide) rfl
  rw [e0, BitVec.toNat_ofNat]; omega

def rowOf (t : Fin cfg0.N) (r : Fin 128) : Fin 128 := ⟨128 * t.val + r.val, by have := t_lt t; omega⟩

theorem stream_blk (c : Dev nD) (t : Fin cfg0.N) (r : Fin 128) (k : Fin 2048) :
    (iblk m c 0 t : S128x2048.Idx → EReal) (ix2 r k) = (V m c main_arg0 : S128x2048.Idx → EReal) (ix2 (rowOf t r) k) := by
  have ht := coord_row t
  refine congrArg (V m c main_arg0 : S128x2048.Idx → EReal) (funext fun a => Fin.ext ?_)
  refine (ValueKit.view_emb_slice_whole_unit_val main_arg0 _ _ _ _ a).trans ?_
  fin_cases a
  · show (BitVec.ofNat 32 (grid0.coords t 0).val).toNat * 128 + r.val = 128 * t.val + r.val
    omega
  · show 0 * 2048 + k.val = k.val
    omega

theorem gain_blk (c : Dev nD) (t : Fin cfg0.N) (k : Fin 2048) :
    (iblk m c 1 t : S1x2048.Idx → EReal) (ix2 0 k) = (V m c main_v0 : S1x2048.Idx → EReal) (ix2 0 k) := by
  refine congrArg (V m c main_v0 : S1x2048.Idx → EReal) (funext fun a => Fin.ext ?_)
  refine (ValueKit.view_emb_slice_whole_unit_val main_v0 _ _ _ _ a).trans ?_
  fin_cases a
  · show 0 * 1 + 0 = 0
    omega
  · show 0 * 2048 + k.val = k.val
    omega

/-- The gain as a row. -/
theorem gain_read (c : Dev nD) (k : Fin 2048) :
    (V m c main_v0 : S1x2048.Idx → EReal) (ix2 0 k) = (m ((c : Thread nD τ).loc main_arg1) : S2048.Idx → EReal) (ix1 k) := by
  entry_read
  pointwise

def aX (c : Dev nD) : S128x2048.Idx → EReal := m ((c : Thread nD τ).loc main_arg0)
def aG (c : Dev nD) : S2048.Idx → EReal := m ((c : Thread nD τ).loc main_arg1)

/-- The result array. -/
def lastArr (c : Dev nD) : S128x2048.Idx → EReal := fun j => entry (aX m c) (aG m c) (j 0) (j 1)

theorem lastArr_at (c : Dev nD) (i : Fin 128) (k : Fin 2048) (j : S128x2048.Idx) (e : ∀ a, (j a).val = (ix2 i k a : Fin _).val) :
    entry (aX m c) (aG m c) i k = lastArr m c j := by
  rw [show j = ix2 i k from funext fun a => Fin.ext (e a)]
  rfl

theorem stream_at (c : Dev nD) (t : Fin cfg0.N) (r : Fin 128) (k : Fin 2048) :
    (iblk m c 0 t : S128x2048.Idx → EReal) (ix2 r k) = aX m c (ix2 (rowOf t r) k) :=
  (stream_blk m c t r k).trans (congrFun (V_main_arg0 m c) _)

theorem out_eq (x0 : Vec Ideal S128x2048 .f32) (x1 : Vec Ideal S1x2048 .f32) : out0_2 x0 x1 = k0_pay1 x0 x1 := by
  have z : (![0, 0] : Fin 2 → Nat) = fun _ => 0 := by decide
  unfold out0_2
  refine (View.canon_unit_zero z _ _).trans ?_
  exact congrArg₂ k0_pay1 (View.ld_unit_zero z _ x0) (View.ld_unit_zero z _ x1)

theorem after_at (c : Dev nD) (t : Fin cfg0.N) (y : S128x2048.Idx) :
    ((dats m 0 c).after 2 t : S128x2048.Idx → EReal) y = entry (aX m c) (aG m c) (rowOf t (y 0)) (y 1) := by
  rw [after0_2, out_eq, show y = ix2 (y 0) (y 1) from funext fun a => by fin_cases a <;> rfl]
  refine (block_apply _ _ (y 0) (y 1)).trans ?_
  refine congrArg₂ (· * ·) (congrArg₂ (· * ·) (stream_at m c t (y 0) (y 1)) (congrArg scale (Finset.sum_congr rfl fun k _ => ?_)))
    ((gain_blk m c t (y 1)).trans (gain_read m c (y 1)))
  exact congrArg₂ (· * ·) (stream_at m c t (y 0) k) (stream_at m c t (y 0) k)

theorem covers_2 : (cfg0.win 2).Covers := by decide +kernel

theorem final_2 (c : Dev nD) : (dats m 0 c).arrAt 2 cfg0.N = lastArr m c := by
  refine (dats m 0 c).arrAt_eq_of_covers 2 _ covers_2 fun t _ y => ?_
  have ht := coord_row t
  refine (after_at m c t y).trans (lastArr_at m c _ _ _ fun a => ?_)
  refine (ValueKit.view_emb_slice_whole_unit_val main_v1 _ _ _ y a).trans ?_
  fin_cases a
  · show (BitVec.ofNat 32 (grid0.coords t 0).val).toNat * 128 + (y (0 : Fin 2)).val = 128 * t.val + (y (0 : Fin 2)).val
    omega
  · show 0 * 2048 + (y (1 : Fin 2)).val = (y (1 : Fin 2)).val
    omega

/-- The launch's result array. -/
theorem kernel_run (ρ : Dev nD → PrngReg) :
    θ_run defs (onTc (τ := τ) (main (F := Ideal))) ⟨m, fun _ => 0, ρ⟩ (fun r => ∀ c : Dev nD,
      r.2.mem ((c.tc : Thread nD τ).loc main_v1) = lastArr m c) :=
  (θ_run defs _ _).mono (fun r h c => (Pipeline.FramePost.out_eq h c 2).trans (final_2 m c)) (run_main m ρ)

/-- The reference's result at an entry. -/
theorem reference_apply (x : FVec Ideal LastRefIdeal.S128x2048 .f32) (g : FVec Ideal LastRefIdeal.S2048 .f32) (i : LastRefIdeal.S128x2048.Idx) :
    (mulf (mulf x (broadcastInDim LastRefIdeal.S128x2048 ![0, 1] LastRefIdeal.Gen.bcast_S128x1_S128x2048_0_1 (Host.rsqrt (addf (Host.divf (broadcastInDim LastRefIdeal.S128x1 ![0] LastRefIdeal.Gen.bcast_S128_S128x1_0 (Host.reduceAdd (mulf x x) (constant LastRefIdeal.S_ .f32 0x00000000#32) LastRefIdeal.Gen.reducesTo_S128x2048_S128_d1 LastRefIdeal.Gen.h_S_)) (broadcastInDim LastRefIdeal.S128x1 ![] LastRefIdeal.Gen.bcast_S_S128x1 (constant LastRefIdeal.S_ .f32 0x45000000#32))) (broadcastInDim LastRefIdeal.S128x1 ![] LastRefIdeal.Gen.bcast_S_S128x1 (constant LastRefIdeal.S_ .f32 0x358637BD#32)))))) (broadcastInDim LastRefIdeal.S128x2048 ![0, 1] LastRefIdeal.Gen.bcast_S1x2048_S128x2048_0_1 (broadcastInDim LastRefIdeal.S1x2048 ![1] LastRefIdeal.Gen.bcast_S2048_S1x2048_1 g))) i
      = entry x g (i 0) (i 1) := by
  rw [show i = ix2 (i 0) (i 1) from funext fun a => by fin_cases a <;> rfl]
  generalize i 0 = r
  generalize i 1 = d
  unfold entry scale
  pointwise

end Cert.LastValue
end
-- ==== Proof.BlendRun.lean ====
/- One grid point of the sample batch's gated projection: what the two loops over the weight blocks leave in the scratch buffers, and the
   body's triple. -/
module

public import proofs.«01_k».proof.Proof.Gen.BlendIdeal.Frame.Runs
public import Idealize.ShloMosaic.Lib.WritesUnit
public import Idealize.ShloMosaic.Lib.WholeRead
public import Idealize.ShloMosaic.Lib.VecWindow
public import Idealize.ShloMosaic.Lib.Pointwise

@[expose] public section

set_option maxRecDepth 16384

noncomputable section

namespace Cert.BlendIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- A weight block rounded to bf16, as its scratch buffer holds it. -/
def narrow (x : Vec F S2048x512 .f32) : Vec F S2048x512 .bf16 := truncf .bf16 x bitsLt_bf16_f32

theorem pay1_eq (v : Vec F S256x512 .f32) : k0_pay1 v = truncf .bf16 v bitsLt_bf16_f32 := by
  unfold k0_pay1
  exact shapeCast_self _ _

theorem pay2_eq (v : Vec F S256x512 .f32) : k0_pay2 v = truncf .bf16 v bitsLt_bf16_f32 := by
  unfold k0_pay2
  exact shapeCast_self _ _

/-- A trip's one store: 256 rows of the weight block, rounded. -/
theorem piece_eq1 (𝒱 : Variants) (c : Dev nD) (bd : Option 𝒱.V) (i : grid0.Coords) (arg2 : Memref sig .tc .vmem S128x2048 .bf16) (harg2 : arg2.IsWhole) (arg3 : Memref sig .tc .vmem S2048x512 .f32) (harg3 : arg3.IsWhole)
    (arg4 : Memref sig .tc .vmem S2048x512 .f32) (harg4 : arg4.IsWhole) (arg5 : Memref sig .tc .vmem S128x512 .f32) (harg5 : arg5.IsWhole)
    (arg6 : Memref sig .tc .vmem S2048x512 .bf16) (harg6 : arg6.IsWhole) (arg7 : Memref sig .tc .vmem S2048x512 .bf16) (harg7 : arg7.IsWhole)
    (h1 : k0_cond1 i = 1#1) (X : BufTy.Contents (Elt F) arg3.view.ty) (k : Fin k0_t1_loop.trips) :
    tripL_k0_t1 (F := F) 𝒱 c bd i arg2 harg2 arg3 harg3 arg4 harg4 arg5 harg5 arg6 harg6 arg7 harg7 h1 X k
      = [⟨Rect.unit (s := S2048x512) (k0_off1 k) S256x512.size (k0_off1_inb i k h1),
          k0_pay1 (View.readAt (Elt F) arg3.view (Rect.unit (s := S2048x512) (k0_off1 k) S256x512.size (k0_off1_inb i k h1)).toLoadRect X)⟩] := by
  unfold tripL_k0_t1 trip_k0_t1
  rfl

/-- Below the rows of the trips done so far the scratch buffer holds the rounded weight block. -/
theorem read_pb1 (𝒱 : Variants) (c : Dev nD) (bd : Option 𝒱.V) (i : grid0.Coords) (arg2 : Memref sig .tc .vmem S128x2048 .bf16) (harg2 : arg2.IsWhole) (arg3 : Memref sig .tc .vmem S2048x512 .f32) (harg3 : arg3.IsWhole)
    (arg4 : Memref sig .tc .vmem S2048x512 .f32) (harg4 : arg4.IsWhole) (arg5 : Memref sig .tc .vmem S128x512 .f32) (harg5 : arg5.IsWhole)
    (arg6 : Memref sig .tc .vmem S2048x512 .bf16) (harg6 : arg6.IsWhole) (arg7 : Memref sig .tc .vmem S2048x512 .bf16) (harg7 : arg7.IsWhole)
    (h1 : k0_cond1 i = 1#1) (x : Vec F S2048x512 .f32) (f : BufTy.Contents (Elt F) arg6.view.ty) (n : ℕ) (hn : n ≤ k0_t1_loop.trips)
    (y : S2048x512.Idx) (hy : (y 0).val < 256 * n) :
    arg6.view.read (Elt F) (arg6.view.writes (Elt F) f (pb_k0_t1 (F := F) 𝒱 c bd i arg2 harg2 arg3 harg3 arg4 harg4 arg5 harg5 arg6 harg6 arg7 harg7 h1 (harg3.unread x) n)) y
      = narrow x y := by
  induction n with
  | zero => omega
  | succ n ih =>
    have hk : n < k0_t1_loop.trips := hn
    have e := (pb_k0_t1_succ (F := F) 𝒱 c bd i arg2 harg2 arg3 harg3 arg4 harg4 arg5 harg5 arg6 harg6 arg7 harg7 h1 (harg3.unread x) ⟨n, hk⟩).trans
      (congrArg (· ++ _) (piece_eq1 (F := F) 𝒱 c bd i arg2 harg2 arg3 harg3 arg4 harg4 arg5 harg5 arg6 harg6 arg7 harg7 h1 (harg3.unread x) ⟨n, hk⟩))
    refine (congrArg (fun L => arg6.view.read (Elt F) (arg6.view.writes (Elt F) f L) y) e).trans ?_
    by_cases h : 256 * n ≤ (y 0).val
    · have hlt : (y 0).val - 256 * n < 256 := by omega
      refine (View.read_writes_cons_unit_of_mem arg6.view f _ _ _ y (ix2 ⟨(y 0).val - 256 * n, hlt⟩ ⟨(y 1).val, (y 1).isLt⟩ : S256x512.Idx)
        (k0_off1_eq ⟨n, hk⟩) ?_).trans ?_
      · intro a
        fin_cases a
        · show (y 0).val = 256 * n + ((y 0).val - 256 * n)
          omega
        · show (y 1).val = 0 + (y 1).val
          omega
      · rw [pay1_eq]
        refine congrArg (fun z => FloatOps.truncf .bf16 bitsLt_bf16_f32 z) ?_
        rw [Memref.IsWhole.readAt_unread]
        refine congrArg x (funext fun a => Fin.ext ?_)
        have e0 := congrFun (k0_off1_eq ⟨n, hk⟩) a
        fin_cases a
        · show k0_off1 ⟨n, hk⟩ 0 + 1 * ((y 0).val - 256 * n) = (y 0).val
          have e0' : k0_off1 ⟨n, hk⟩ 0 = 256 * n := e0
          omega
        · show k0_off1 ⟨n, hk⟩ 1 + 1 * (y 1).val = (y 1).val
          have e0' : k0_off1 ⟨n, hk⟩ 1 = 0 := e0
          omega
    · refine (View.read_writes_cons_unit_of_not_mem arg6.view f _ _ _ y (k0_off1_eq ⟨n, hk⟩) 0 (Or.inl ?_)).trans (ih (by omega) (by omega))
      show (y 0).val < 256 * n
      omega

/-- After the loop the scratch buffer holds the rounded weight block. -/
theorem read_all1 (𝒱 : Variants) (c : Dev nD) (bd : Option 𝒱.V) (i : grid0.Coords) (arg2 : Memref sig .tc .vmem S128x2048 .bf16) (harg2 : arg2.IsWhole) (arg3 : Memref sig .tc .vmem S2048x512 .f32) (harg3 : arg3.IsWhole)
    (arg4 : Memref sig .tc .vmem S2048x512 .f32) (harg4 : arg4.IsWhole) (arg5 : Memref sig .tc .vmem S128x512 .f32) (harg5 : arg5.IsWhole)
    (arg6 : Memref sig .tc .vmem S2048x512 .bf16) (harg6 : arg6.IsWhole) (arg7 : Memref sig .tc .vmem S2048x512 .bf16) (harg7 : arg7.IsWhole)
    (h1 : k0_cond1 i = 1#1) (x : Vec F S2048x512 .f32) (f : BufTy.Contents (Elt F) arg6.view.ty) :
    arg6.view.read (Elt F) (arg6.view.writes (Elt F) f (pb_k0_t1 (F := F) 𝒱 c bd i arg2 harg2 arg3 harg3 arg4 harg4 arg5 harg5 arg6 harg6 arg7 harg7 h1 (harg3.unread x) k0_t1_loop.trips))
      = narrow x := by
  funext y
  have ht : k0_t1_loop.trips = 8 := by decide +kernel
  have hy : (y 0).val < 2048 := (y 0).isLt
  exact read_pb1 𝒱 c bd i arg2 harg2 arg3 harg3 arg4 harg4 arg5 harg5 arg6 harg6 arg7 harg7 h1 x f _ (Nat.le_refl _) y (by rw [ht]; omega)

/-- A trip's one store: 256 rows of the weight block, rounded. -/
theorem piece_eq2 (𝒱 : Variants) (c : Dev nD) (bd : Option 𝒱.V) (i : grid0.Coords) (arg2 : Memref sig .tc .vmem S128x2048 .bf16) (harg2 : arg2.IsWhole) (arg3 : Memref sig .tc .vmem S2048x512 .f32) (harg3 : arg3.IsWhole)
    (arg4 : Memref sig .tc .vmem S2048x512 .f32) (harg4 : arg4.IsWhole) (arg5 : Memref sig .tc .vmem S128x512 .f32) (harg5 : arg5.IsWhole)
    (arg6 : Memref sig .tc .vmem S2048x512 .bf16) (harg6 : arg6.IsWhole) (arg7 : Memref sig .tc .vmem S2048x512 .bf16) (harg7 : arg7.IsWhole)
    (h1 : k0_cond1 i = 1#1) (X : BufTy.Contents (Elt F) arg4.view.ty) (k : Fin k0_t2_loop.trips) :
    tripL_k0_t2 (F := F) 𝒱 c bd i arg2 harg2 arg3 harg3 arg4 harg4 arg5 harg5 arg6 harg6 arg7 harg7 h1 X k
      = [⟨Rect.unit (s := S2048x512) (k0_off2 k) S256x512.size (k0_off2_inb i k h1),
          k0_pay2 (View.readAt (Elt F) arg4.view (Rect.unit (s := S2048x512) (k0_off2 k) S256x512.size (k0_off2_inb i k h1)).toLoadRect X)⟩] := by
  unfold tripL_k0_t2 trip_k0_t2
  rfl

/-- Below the rows of the trips done so far the scratch buffer holds the rounded weight block. -/
theorem read_pb2 (𝒱 : Variants) (c : Dev nD) (bd : Option 𝒱.V) (i : grid0.Coords) (arg2 : Memref sig .tc .vmem S128x2048 .bf16) (harg2 : arg2.IsWhole) (arg3 : Memref sig .tc .vmem S2048x512 .f32) (harg3 : arg3.IsWhole)
    (arg4 : Memref sig .tc .vmem S2048x512 .f32) (harg4 : arg4.IsWhole) (arg5 : Memref sig .tc .vmem S128x512 .f32) (harg5 : arg5.IsWhole)
    (arg6 : Memref sig .tc .vmem S2048x512 .bf16) (harg6 : arg6.IsWhole) (arg7 : Memref sig .tc .vmem S2048x512 .bf16) (harg7 : arg7.IsWhole)
    (h1 : k0_cond1 i = 1#1) (x : Vec F S2048x512 .f32) (f : BufTy.Contents (Elt F) arg7.view.ty) (n : ℕ) (hn : n ≤ k0_t2_loop.trips)
    (y : S2048x512.Idx) (hy : (y 0).val < 256 * n) :
    arg7.view.read (Elt F) (arg7.view.writes (Elt F) f (pb_k0_t2 (F := F) 𝒱 c bd i arg2 harg2 arg3 harg3 arg4 harg4 arg5 harg5 arg6 harg6 arg7 harg7 h1 (harg4.unread x) n)) y
      = narrow x y := by
  induction n with
  | zero => omega
  | succ n ih =>
    have hk : n < k0_t2_loop.trips := hn
    have e := (pb_k0_t2_succ (F := F) 𝒱 c bd i arg2 harg2 arg3 harg3 arg4 harg4 arg5 harg5 arg6 harg6 arg7 harg7 h1 (harg4.unread x) ⟨n, hk⟩).trans
      (congrArg (· ++ _) (piece_eq2 (F := F) 𝒱 c bd i arg2 harg2 arg3 harg3 arg4 harg4 arg5 harg5 arg6 harg6 arg7 harg7 h1 (harg4.unread x) ⟨n, hk⟩))
    refine (congrArg (fun L => arg7.view.read (Elt F) (arg7.view.writes (Elt F) f L) y) e).trans ?_
    by_cases h : 256 * n ≤ (y 0).val
    · have hlt : (y 0).val - 256 * n < 256 := by omega
      refine (View.read_writes_cons_unit_of_mem arg7.view f _ _ _ y (ix2 ⟨(y 0).val - 256 * n, hlt⟩ ⟨(y 1).val, (y 1).isLt⟩ : S256x512.Idx)
        (k0_off2_eq ⟨n, hk⟩) ?_).trans ?_
      · intro a
        fin_cases a
        · show (y 0).val = 256 * n + ((y 0).val - 256 * n)
          omega
        · show (y 1).val = 0 + (y 1).val
          omega
      · rw [pay2_eq]
        refine congrArg (fun z => FloatOps.truncf .bf16 bitsLt_bf16_f32 z) ?_
        rw [Memref.IsWhole.readAt_unread]
        refine congrArg x (funext fun a => Fin.ext ?_)
        have e0 := congrFun (k0_off2_eq ⟨n, hk⟩) a
        fin_cases a
        · show k0_off2 ⟨n, hk⟩ 0 + 1 * ((y 0).val - 256 * n) = (y 0).val
          have e0' : k0_off2 ⟨n, hk⟩ 0 = 256 * n := e0
          omega
        · show k0_off2 ⟨n, hk⟩ 1 + 1 * (y 1).val = (y 1).val
          have e0' : k0_off2 ⟨n, hk⟩ 1 = 0 := e0
          omega
    · refine (View.read_writes_cons_unit_of_not_mem arg7.view f _ _ _ y (k0_off2_eq ⟨n, hk⟩) 0 (Or.inl ?_)).trans (ih (by omega) (by omega))
      show (y 0).val < 256 * n
      omega

/-- After the loop the scratch buffer holds the rounded weight block. -/
theorem read_all2 (𝒱 : Variants) (c : Dev nD) (bd : Option 𝒱.V) (i : grid0.Coords) (arg2 : Memref sig .tc .vmem S128x2048 .bf16) (harg2 : arg2.IsWhole) (arg3 : Memref sig .tc .vmem S2048x512 .f32) (harg3 : arg3.IsWhole)
    (arg4 : Memref sig .tc .vmem S2048x512 .f32) (harg4 : arg4.IsWhole) (arg5 : Memref sig .tc .vmem S128x512 .f32) (harg5 : arg5.IsWhole)
    (arg6 : Memref sig .tc .vmem S2048x512 .bf16) (harg6 : arg6.IsWhole) (arg7 : Memref sig .tc .vmem S2048x512 .bf16) (harg7 : arg7.IsWhole)
    (h1 : k0_cond1 i = 1#1) (x : Vec F S2048x512 .f32) (f : BufTy.Contents (Elt F) arg7.view.ty) :
    arg7.view.read (Elt F) (arg7.view.writes (Elt F) f (pb_k0_t2 (F := F) 𝒱 c bd i arg2 harg2 arg3 harg3 arg4 harg4 arg5 harg5 arg6 harg6 arg7 harg7 h1 (harg4.unread x) k0_t2_loop.trips))
      = narrow x := by
  funext y
  have ht : k0_t2_loop.trips = 8 := by decide +kernel
  have hy : (y 0).val < 2048 := (y 0).isLt
  exact read_pb2 𝒱 c bd i arg2 harg2 arg3 harg3 arg4 harg4 arg5 harg5 arg6 harg6 arg7 harg7 h1 x f _ (Nat.le_refl _) y (by rw [ht]; omega)

/-- One whole-block store reads back as what was stored. -/
theorem read_store (v : View sig .tc .vmem S128x512 .f32) (f : v.ty.Contents (Elt F)) (w : Vec F S128x512 .f32) :
    v.read (Elt F) (v.writes (Elt F) f [⟨Rect.unit (s := S128x512) ![0, 0] S128x512.size inb_S128x512_S128x512_0_0, w⟩]) = w := by
  funext y
  refine View.read_writes_cons_unit_of_mem v f _ w [] y y rfl fun a => ?_
  fin_cases a
  · show (y 0).val = 0 + (y 0).val
    omega
  · show (y 1).val = 0 + (y 1).val
    omega

set_option maxHeartbeats 1000000 in
/-- The body: the gated product in the output buffer, the rounded weight blocks in the scratch buffers. -/
theorem run_fill (c : Dev nD) (i : grid0.Coords) (arg2 : Memref sig .tc .vmem S128x2048 .bf16) (harg2 : arg2.IsWhole) (arg3 : Memref sig .tc .vmem S2048x512 .f32) (harg3 : arg3.IsWhole)
    (arg4 : Memref sig .tc .vmem S2048x512 .f32) (harg4 : arg4.IsWhole) (arg5 : Memref sig .tc .vmem S128x512 .f32) (harg5 : arg5.IsWhole)
    (arg6 : Memref sig .tc .vmem S2048x512 .bf16) (harg6 : arg6.IsWhole) (arg7 : Memref sig .tc .vmem S2048x512 .bf16) (harg7 : arg7.IsWhole)
    (hc0 : cond0_0 i) (x0 : Vec F S128x2048 .bf16) (x1 : Vec F S2048x512 .f32) (x2 : Vec F S2048x512 .f32) :
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ (∃ d, owns (c : Thread nD τ) arg6 fullShare d) ∗ (∃ d, owns (c : Thread nD τ) arg7 fullShare d)
            ∗ (iprop(owns (c : Thread nD τ) arg2 fullShare x0 ∗ owns (c : Thread nD τ) arg3 fullShare x1 ∗ owns (c : Thread nD τ) arg4 fullShare x2 ∗ owns (c : Thread nD τ) arg5 fullShare (k0_pay3 x0 (narrow x1) (narrow x2)) ∗ owns (c : Thread nD τ) arg6 fullShare (narrow x1) ∗ owns (c : Thread nD τ) arg7 fullShare (narrow x2)) -∗ K ⟨⟩))
          ⊢ wp frame (wpE (defs₀ (F := F)) Variants.none c none) E (cc0_body i arg2 harg2 arg3 harg3 arg4 harg4 arg5 harg5 arg6 harg6 arg7 harg7) K := by
    intro E K
    simp only [cc0_body_eq_skeleton]; unfold cc0_body_skel
    unfold owns
    iintro ⟨⟨%f0, %hf0, H0⟩, ⟨%f1, %hf1, H1⟩, ⟨%f2, %hf2, H2⟩, ⟨%d3, %f3, -, H3⟩, ⟨%ds0, %fs0, -, HS0⟩, ⟨%ds1, %fs1, -, HS1⟩, Hk⟩
    obtain rfl := harg2.eq_unread hf0; obtain rfl := harg3.eq_unread hf1; obtain rfl := harg4.eq_unread hf2
    sl_exec (disch := first | sl_exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; swap; · iexact H3
      ipureintro
      refine (read_store arg5.view f3 _).trans ?_
      rw [View.readAt_full, View.readAt_full, View.readAt_full, harg2.read_unread, read_all1, read_all2]
    isplitl [HS0]
    · iexists _; isplitr; swap; · iexact HS0
      ipureintro
      exact read_all1 Variants.none c none i arg2 harg2 arg3 harg3 arg4 harg4 arg5 harg5 arg6 harg6 arg7 harg7 hc0 x1 fs0
    iexists _; isplitr; swap; · iexact HS1
    ipureintro
    exact read_all2 Variants.none c none i arg2 harg2 arg3 harg3 arg4 harg4 arg5 harg5 arg6 harg6 arg7 harg7 hc0 x2 fs1

end Cert.BlendIdeal.Gen

end
-- ==== Proof.BlendFrame.lean ====
/- The launch of the sample batch's gated projection: the pipeline's proof data, the body obligation, the run of the whole program and the
   frame. -/
module

public import proofs.«01_k».proof.Proof.BlendRun
public import Idealize.ShloMosaic.Lib.Pipeline.ValueKit
public import Idealize.ShloMosaic.Lib.Claim

@[expose] public section

set_option maxRecDepth 16384

noncomputable section

namespace Cert.BlendIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The two grid coordinates of a point: the column block, and the row block. -/
theorem coord_col (t : Fin cfg0.N) : (BitVec.ofNat 32 (grid0.coords t 0).val).toNat = t.val := by
  have ht : t.val < 2 := Nat.lt_of_lt_of_eq t.isLt N_0
  have e0 : (grid0.coords t 0).val = t.val / 1 % 2 := Pipeline.Grid.coords_val t 0 (by decide) rfl
  rw [e0, BitVec.toNat_ofNat]; omega

theorem coord_row (t : Fin cfg0.N) : (BitVec.ofNat 32 (grid0.coords t 1).val).toNat = 0 := by
  have ht : t.val < 2 := Nat.lt_of_lt_of_eq t.isLt N_0
  have e1 : (grid0.coords t 1).val = t.val / 1 % 1 := Pipeline.Grid.coords_val t 1 (by decide) rfl
  rw [e1, BitVec.toNat_ofNat]; omega

theorem coord_col1 (t : Fin cfg0.N) : (Scalar.addi (BitVec.ofNat 32 (grid0.coords t 0).val) 0#32).toNat = t.val := by
  refine (congrArg BitVec.toNat (show Scalar.addi (BitVec.ofNat 32 (grid0.coords t 0).val) 0#32 = BitVec.ofNat 32 (grid0.coords t 0).val + 0#32 from rfl)).trans ?_
  rw [BitVec.add_zero]
  exact coord_col t

theorem coord_col2 (t : Fin cfg0.N) : (Scalar.addi (BitVec.ofNat 32 (grid0.coords t 0).val) 2#32).toNat = t.val + 2 := by
  have ht : t.val < 2 := Nat.lt_of_lt_of_eq t.isLt N_0
  refine (congrArg BitVec.toNat (show Scalar.addi (BitVec.ofNat 32 (grid0.coords t 0).val) 2#32 = BitVec.ofNat 32 (grid0.coords t 0).val + 2#32 from rfl)).trans ?_
  rw [BitVec.toNat_add, coord_col t]
  show (t.val + 2) % 4294967296 = t.val + 2
  omega

/-! The two weight blocks at a point: all rows, the 512 columns of the point's column block, of the first and of the second 1024 columns. -/

theorem x1_at (c : Dev nD) (t : Fin cfg0.N) (y : S2048x512.Idx) (hb : 512 * (t.val) + (y 1).val < 4632) :
    (X0_1 m c t : S2048x512.Idx → Elt F .f32) y
      = (V m c main_arg1 : S2048x4632.Idx → Elt F .f32) (ix2 ⟨(y 0).val, (y 0).isLt⟩ ⟨512 * (t.val) + (y 1).val, hb⟩) := by
  have ht := coord_col1 t
  unfold X0_1 Pipeline.Window.fill
  refine (dif_pos (moved0_1 t y)).trans ?_
  refine congrArg (V m c main_arg1 : S2048x4632.Idx → Elt F .f32) (funext fun a => Fin.ext ?_)
  refine (ValueKit.view_emb_slice_whole_unit_val main_arg1 _ _ _ _ a).trans ?_
  fin_cases a
  · show 0 * 2048 + (y 0).val = (y 0).val
    omega
  · show (Scalar.addi (BitVec.ofNat 32 (grid0.coords t 0).val) 0#32).toNat * 512 + (y 1).val = 512 * (t.val) + (y 1).val
    omega

theorem x1_lt (t : Fin cfg0.N) (y : S2048x512.Idx) : 512 * (t.val) + (y 1).val < 4632 := by
  have ht : t.val < 2 := Nat.lt_of_lt_of_eq t.isLt N_0
  have hy : (y 1).val < 512 := (y 1).isLt
  omega

theorem x2_at (c : Dev nD) (t : Fin cfg0.N) (y : S2048x512.Idx) (hb : 512 * (t.val + 2) + (y 1).val < 4632) :
    (X0_2 m c t : S2048x512.Idx → Elt F .f32) y
      = (V m c main_arg1 : S2048x4632.Idx → Elt F .f32) (ix2 ⟨(y 0).val, (y 0).isLt⟩ ⟨512 * (t.val + 2) + (y 1).val, hb⟩) := by
  have ht := coord_col2 t
  unfold X0_2 Pipeline.Window.fill
  refine (dif_pos (moved0_2 t y)).trans ?_
  refine congrArg (V m c main_arg1 : S2048x4632.Idx → Elt F .f32) (funext fun a => Fin.ext ?_)
  refine (ValueKit.view_emb_slice_whole_unit_val main_arg1 _ _ _ _ a).trans ?_
  fin_cases a
  · show 0 * 2048 + (y 0).val = (y 0).val
    omega
  · show (Scalar.addi (BitVec.ofNat 32 (grid0.coords t 0).val) 2#32).toNat * 512 + (y 1).val = 512 * (t.val + 2) + (y 1).val
    omega

theorem x2_lt (t : Fin cfg0.N) (y : S2048x512.Idx) : 512 * (t.val + 2) + (y 1).val < 4632 := by
  have ht : t.val < 2 := Nat.lt_of_lt_of_eq t.isLt N_0
  have hy : (y 1).val < 512 := (y 1).isLt
  omega

/-! ## The pipeline's proof data -/

/-- The proof data: the arrays as launched, each input's buffer at its block, the output's at the gated product. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => X0_1 m c t
    | ⟨2, _⟩ => X0_2 m c t
    | ⟨3, _⟩ => k0_pay3 (iblk m c 0 t) (narrow (X0_1 m c t)) (narrow (X0_2 m c t))
  Φ _ := Pipeline.ΦA spec0 c
  q w := Pipeline.shareOf spec0 w
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = X0_1 m c t := by dsimp only [dats]
theorem after0_2 (c : Dev nD) (t : Fin cfg0.N) : (dats m 0 c).after 2 t = X0_2 m c t := by dsimp only [dats]
theorem after0_3 (c : Dev nD) (t : Fin cfg0.N) :
    (dats m 0 c).after 3 t = k0_pay3 (iblk m c 0 t) (narrow (X0_1 m c t)) (narrow (X0_2 m c t)) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = X0_1 m c t :=
  before0_1_of m (dats m 0 c) (A_eq m c 1) (after0_1 m c) t d
theorem before0_2 (c : Dev nD) (t : Fin cfg0.N) (d) : (dats m 0 c).before 2 t d = X0_2 m c t :=
  before0_2_of m (dats m 0 c) (A_eq m c 2) (after0_2 m c) t d

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d)))

def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t))

set_option maxHeartbeats 800000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2]
  rw [show (dats m 0 c).owesAt () t.succ = (dats m 0 c).owesAt () t.castSucc from rfl,
    after0_0, after0_1, after0_2, after0_3]
  rw [show (dats m 0 c).Φ t.castSucc = Pipeline.ΦA spec0 c from rfl, show (dats m 0 c).Φ t.succ = Pipeline.ΦA spec0 c from rfl, PhiA0_eq]
  iintro ⟨⟨⟨HS0, HS1⟩, Hg⟩, Ho, ⟨%d0, H0⟩, ⟨%d1, H1⟩, ⟨%d2, H2⟩, ⟨%d3, H3⟩⟩
  iapply ((run_fill c (grid0.coords t) _ _ _ _ _ _ _ _ _ _ _ _ (hcond0_0 t) (iblk m c 0 t) (X0_1 m c t) (X0_2 m c t)) Set.univ _)
  isplitl [H0]; · iexact H0
  isplitl [H1]; · iexact H1
  isplitl [H2]; · iexact H2
  isplitl [H3]; · iexists _; iexact H3
  isplitl [HS0]; · iexact HS0
  isplitl [HS1]; · iexact HS1
  iintro ⟨H0, H1, H2, H3, HS0, HS1⟩
  isplitl [HS0 HS1 Hg]
  · isplitl [HS0 HS1]
    · isplitl [HS0]; · iexists _; iexact HS0
      iexists _; iexact HS1
    iexact Hg
  isplitl [Ho]; · iexact Ho
  isplitl [H0]; · iexact H0
  isplitl [H1]; · iexact H1
  isplitl [H2]; · iexact H2
  iexact H3

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

set_option backward.isDefEq.respectTransparency.types false in
/-- The launch: the arrays at what the proof data says, every counter at zero. -/
theorem run_main_quiescent : θ_run defs (onTc (τ := τ) (main (F := F))) (s₀ m ρ) (fun r => (Pipeline.FramePost cfgs (dats m) 0 (V m)) r ∧ r.2.sem = fun _ => 0) :=
  Pipeline.θ_run_frame_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hΦ := fun _ _ => rfl)

theorem run_main : θ_run defs (onTc (τ := τ) (main (F := F))) (s₀ m ρ) (Pipeline.FramePost cfgs (dats m) 0 (V m)) :=
  (θ_run defs _ _).mono (fun _ h => h.1) (run_main_quiescent m ρ)

/-- The argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  frame_of m ρ (dats m) (A_eq m) (run_main m ρ)

/-- The frame. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  θ_run_and (unchanged m ρ) ((θ_run defs _ _).mono (fun _ h => h.2) (run_main_quiescent m ρ))

end Cert.BlendIdeal.Gen

end
-- ==== Proof.BlendValue.lean ====
/- The sample batch's gated projection's result: the launch's from its blocks, the reference's from its text, and their equality. -/
module

public import proofs.«01_k».proof.Proof.LastValue
public import proofs.«01_k».proof.Proof.BlendFrame
public import proofs.«01_k».proof.Proof.Gen.BlendRefIdeal.Run

@[expose] public section

set_option maxRecDepth 16384

noncomputable section

open Idealize.ShloMosaic Idealize.ShloMosaic.TcCoe Idealize.SL.Sem

namespace Cert.BlendValue

open Cert.BlendIdeal Cert.BlendIdeal.Gen

/-- An entry of the product with the weight. -/
def prod (n : S128x2048.Idx → EReal) (w : S2048x4632.Idx → EReal) (i : Fin 128) (q : Fin 4632) : EReal :=
  ∑ k : Fin 2048, n (ix2 i k) * w (ix2 k q)

def fst (j : Fin 1024) : Fin 4632 := ⟨j.val, by omega⟩
def snd (j : Fin 1024) : Fin 4632 := ⟨1024 + j.val, by omega⟩

/-- One entry of the result: a column of the first half of the product, gated by its column of the second half. -/
def entry (n : S128x2048.Idx → EReal) (w : S2048x4632.Idx → EReal) (i : Fin 128) (j : Fin 1024) : EReal :=
  prod n w i (fst j) * Ideal.logistic (prod n w i (snd j))

theorem half_apply (x : FVec Ideal S128x2048 .bf16) (w : FVec Ideal S2048x512 .bf16) (r : Fin 128) (d : Fin 512) :
    matmul (F := Ideal) dot_S128x2048_S2048x512_S128x512_1_0_0_1_n_n none x w (constant S128x512 .f32 0x00000000#32) (ix2 r d)
      = ∑ k : Fin 2048, (x (ix2 r k) : EReal) * (w (ix2 k d) : EReal) := by
  rw [matmul_zero_eq_dotGeneral]
  exact StackMember.dotGeneral_plain_apply none x w r d

/-- A block's result at an entry. -/
theorem block_apply (x : FVec Ideal S128x2048 .bf16) (w u : FVec Ideal S2048x512 .bf16) (r : Fin 128) (d : Fin 512) :
    k0_pay3 (F := Ideal) x w u (ix2 r d)
      = ((∑ k : Fin 2048, (x (ix2 r k) : EReal) * (w (ix2 k d) : EReal))
          * Ideal.logistic (∑ k : Fin 2048, (x (ix2 r k) : EReal) * (u (ix2 k d) : EReal)) : EReal) := by
  unfold k0_pay3
  exact congrArg₂ (fun a b : EReal => a * Ideal.logistic b) (half_apply x w r d) (half_apply x u r d)

variable (m : (ℓ : Loc nD τ sig) → Buf (Elt Ideal) ℓ)

theorem t_lt (t : Fin cfg0.N) : t.val < 2 := Nat.lt_of_lt_of_eq t.isLt N_0

def rowOf (t : Fin cfg0.N) (r : Fin 128) : Fin 128 := r
def colOf (t : Fin cfg0.N) (d : Fin 512) : Fin 1024 := ⟨512 * (t.val) + d.val, by have := t_lt t; omega⟩

theorem stream_blk (c : Dev nD) (t : Fin cfg0.N) (r : Fin 128) (k : Fin 2048) :
    (iblk m c 0 t : S128x2048.Idx → EReal) (ix2 r k) = (V m c main_arg0 : S128x2048.Idx → EReal) (ix2 (rowOf t r) k) := by
  have ht := coord_row t
  refine congrArg (V m c main_arg0 : S128x2048.Idx → EReal) (funext fun a => Fin.ext ?_)
  refine (ValueKit.view_emb_slice_whole_unit_val main_arg0 _ _ _ _ a).trans ?_
  fin_cases a
  · show (BitVec.ofNat 32 (grid0.coords t 1).val).toNat * 128 + r.val = r.val
    omega
  · show 0 * 2048 + k.val = k.val
    omega

/-- Rounding changes no entry of the ideal block. -/
theorem narrow_apply (x : FVec Ideal S2048x512 .f32) (y : S2048x512.Idx) : (narrow (F := Ideal) x y : EReal) = (x y : EReal) := rfl

theorem first_blk (c : Dev nD) (t : Fin cfg0.N) (k : Fin 2048) (d : Fin 512) :
    (X0_1 m c t : S2048x512.Idx → EReal) (ix2 k d) = (V m c main_arg1 : S2048x4632.Idx → EReal) (ix2 k (fst (colOf t d))) :=
  x1_at m c t (ix2 k d) (x1_lt t (ix2 k d))

theorem second_blk (c : Dev nD) (t : Fin cfg0.N) (k : Fin 2048) (d : Fin 512) :
    (X0_2 m c t : S2048x512.Idx → EReal) (ix2 k d) = (V m c main_arg1 : S2048x4632.Idx → EReal) (ix2 k (snd (colOf t d))) := by
  refine (x2_at m c t (ix2 k d) (x2_lt t (ix2 k d))).trans ?_
  refine congrArg (fun q : Fin 4632 => (V m c main_arg1 : S2048x4632.Idx → EReal) (ix2 k q)) (Fin.ext ?_)
  show 512 * (t.val + 2) + d.val = 1024 + (512 * (t.val) + d.val)
  omega

theorem covers_3 : (cfg0.win 3).Covers := by decide +kernel

theorem product_at (c : Dev nD) (t : Fin cfg0.N) (r : Fin 128) (d : Fin 512) (x : FVec Ideal S128x2048 .bf16) (w : FVec Ideal S2048x512 .f32) (q : Fin 4632)
    (hx : ∀ k, (x (ix2 r k) : EReal) = (V m c main_arg0 : S128x2048.Idx → EReal) (ix2 (rowOf t r) k))
    (h : ∀ k, (w (ix2 k d) : EReal) = (V m c main_arg1 : S2048x4632.Idx → EReal) (ix2 k q)) :
    (∑ k : Fin 2048, (x (ix2 r k) : EReal) * (narrow (F := Ideal) w (ix2 k d) : EReal) : EReal)
      = prod (V m c main_arg0) (V m c main_arg1) (rowOf t r) q := by
  unfold prod
  refine Finset.sum_congr rfl fun k _ => ?_
  exact congrArg₂ (fun a b : EReal => a * b) (hx k) ((narrow_apply w (ix2 k d)).trans (h k))

/-- The result array. -/
def blendArr (c : Dev nD) : S128x1024.Idx → EReal := fun j => entry (V m c main_arg0) (V m c main_arg1) (j 0) (j 1)

theorem blendArr_at (c : Dev nD) (i : Fin 128) (k : Fin 1024) (j : S128x1024.Idx) (e : ∀ a, (j a).val = (ix2 i k a : Fin _).val) :
    entry (V m c main_arg0) (V m c main_arg1) i k = blendArr m c j := by
  rw [show j = ix2 i k from funext fun a => Fin.ext (e a)]
  rfl

theorem after_at (c : Dev nD) (t : Fin cfg0.N) (y : S128x512.Idx) :
    ((dats m 0 c).after 3 t : S128x512.Idx → EReal) y = entry (V m c main_arg0) (V m c main_arg1) (rowOf t (y 0)) (colOf t (y 1)) := by
  rw [after0_3, show y = ix2 (y 0) (y 1) from funext fun a => by fin_cases a <;> rfl]
  refine (block_apply _ _ _ (y 0) (y 1)).trans ?_
  unfold entry
  have e1 := product_at m c t (y 0) (y 1) (iblk m c 0 t) (X0_1 m c t) (fst (colOf t (y 1))) (fun k => stream_blk m c t (y 0) k)
    fun k => first_blk m c t k (y 1)
  have e2 := product_at m c t (y 0) (y 1) (iblk m c 0 t) (X0_2 m c t) (snd (colOf t (y 1))) (fun k => stream_blk m c t (y 0) k)
    fun k => second_blk m c t k (y 1)
  exact congrArg₂ (fun a b : EReal => a * Ideal.logistic b) e1 e2

theorem final_3 (c : Dev nD) : (dats m 0 c).arrAt 3 cfg0.N = blendArr m c := by
  refine (dats m 0 c).arrAt_eq_of_covers 3 _ covers_3 fun t _ y => ?_
  have ht := coord_row t
  have hs := coord_col t
  refine (after_at m c t y).trans (blendArr_at m c _ _ _ fun a => ?_)
  refine (ValueKit.view_emb_slice_whole_unit_val main_v0 _ _ _ y a).trans ?_
  fin_cases a
  · show (BitVec.ofNat 32 (grid0.coords t 1).val).toNat * 128 + (y (0 : Fin 2)).val = (y (0 : Fin 2)).val
    omega
  · show (BitVec.ofNat 32 (grid0.coords t 0).val).toNat * 512 + (y (1 : Fin 2)).val = 512 * (t.val) + (y (1 : Fin 2)).val
    omega

/-- The launch's result array. -/
theorem kernel_run (ρ : Dev nD → PrngReg) :
    θ_run defs (onTc (τ := τ) (main (F := Ideal))) ⟨m, fun _ => 0, ρ⟩ (fun r => ∀ c : Dev nD,
      r.2.mem ((c.tc : Thread nD τ).loc main_v0) = blendArr m c) :=
  (θ_run defs _ _).mono (fun r h c => (Pipeline.FramePost.out_eq h c 3).trans (final_3 m c)) (run_main m ρ)

/-- The reference's product at an entry. -/
theorem reference_prod (n : FVec Ideal BlendRefIdeal.S128x2048 .bf16) (w : FVec Ideal BlendRefIdeal.S2048x4632 .f32) (i : Fin 128) (q : Fin 2048) :
    Host.dotGeneral (F := Ideal) BlendRefIdeal.dot_S128x2048_S2048x2048_S128x2048_1_0_0_1_n_n none (extf .f32 n BlendRefIdeal.Gen.bitsLt_bf16_f32)
        (extractStridedSlice BlendRefIdeal.S2048x2048 ![0, 0] w BlendRefIdeal.Gen.slices_S2048x4632_S2048x2048_0_0) (ix2 i q)
      = prod n w i ⟨q.val, by omega⟩ := by
  refine (StackMember.dotGeneral_plain_apply none _ _ i q).trans (Finset.sum_congr rfl fun k _ => ?_)
  refine congrArg (n (ix2 i k) * ·) ?_
  refine extractStridedSlice_apply _ _ _ _ (ix2 k ⟨q.val, by omega⟩) fun a => ?_
  fin_cases a
  · show k.val = 0 + k.val
    omega
  · show q.val = 0 + q.val
    omega

/-- A gated entry from the two halves' entries. -/
theorem gate_mul (A B : FVec Ideal BlendRefIdeal.S128x1024 .f32) (y : BlendRefIdeal.S128x1024.Idx) (s u : EReal) (hA : A y = s) (hB : B y = u) :
    mulf A (Host.divf (broadcastInDim BlendRefIdeal.S128x1024 ![] BlendRefIdeal.Gen.bcast_S_S128x1024 (constant BlendRefIdeal.S_ .f32 0x3F800000#32))
      (addf (broadcastInDim BlendRefIdeal.S128x1024 ![] BlendRefIdeal.Gen.bcast_S_S128x1024 (constant BlendRefIdeal.S_ .f32 0x3F800000#32))
        (Host.exp (Host.negf B)))) y = s * Ideal.logistic u := by
  show (A y : EReal) * Ideal.div (Ideal.ofBits .f32 0x3F800000#32) (Ideal.ofBits .f32 0x3F800000#32 + Ideal.exp (-(B y : EReal))) = s * Ideal.logistic u
  rw [Ideal.ofBits_one_f32, hA, hB]
  rfl

/-- The reference's result at an entry. -/
theorem reference_apply (n : FVec Ideal BlendRefIdeal.S128x2048 .bf16) (w : FVec Ideal BlendRefIdeal.S2048x4632 .f32) (i : BlendRefIdeal.S128x1024.Idx) :
    (mulf (extractStridedSlice BlendRefIdeal.S128x1024 ![0, 0] (Host.dotGeneral BlendRefIdeal.dot_S128x2048_S2048x2048_S128x2048_1_0_0_1_n_n none (extf .f32 n BlendRefIdeal.Gen.bitsLt_bf16_f32) (extractStridedSlice BlendRefIdeal.S2048x2048 ![0, 0] w BlendRefIdeal.Gen.slices_S2048x4632_S2048x2048_0_0)) BlendRefIdeal.Gen.slices_S128x2048_S128x1024_0_0) (Host.divf (broadcastInDim BlendRefIdeal.S128x1024 ![] BlendRefIdeal.Gen.bcast_S_S128x1024 (constant BlendRefIdeal.S_ .f32 0x3F800000#32)) (addf (broadcastInDim BlendRefIdeal.S128x1024 ![] BlendRefIdeal.Gen.bcast_S_S128x1024 (constant BlendRefIdeal.S_ .f32 0x3F800000#32)) (Host.exp (Host.negf (extractStridedSlice BlendRefIdeal.S128x1024 ![0, 1024] (Host.dotGeneral BlendRefIdeal.dot_S128x2048_S2048x2048_S128x2048_1_0_0_1_n_n none (extf .f32 n BlendRefIdeal.Gen.bitsLt_bf16_f32) (extractStridedSlice BlendRefIdeal.S2048x2048 ![0, 0] w BlendRefIdeal.Gen.slices_S2048x4632_S2048x2048_0_0)) BlendRefIdeal.Gen.slices_S128x2048_S128x1024_0_1024)))))) i
      = entry n w (i 0) (i 1) := by
  rw [show i = ix2 (i 0) (i 1) from funext fun a => by fin_cases a <;> rfl]
  have h1 : (i 1).val < 1024 := (i 1).isLt
  refine gate_mul _ _ _ _ _ ?_ ?_
  · refine (extractStridedSlice_apply _ _ _ _ (ix2 (i 0) (⟨(i 1).val, by omega⟩ : Fin 2048)) fun a => ?_).trans (reference_prod n w (i 0) _)
    fin_cases a
    · show (i 0).val = 0 + (i 0).val
      omega
    · show (i 1).val = 0 + (i 1).val
      omega
  · refine (extractStridedSlice_apply _ _ _ _ (ix2 (i 0) (⟨1024 + (i 1).val, by omega⟩ : Fin 2048)) fun a => ?_).trans (reference_prod n w (i 0) _)
    fin_cases a
    · show (i 0).val = 0 + (i 0).val
      omega
    · show 1024 + (i 1).val = 1024 + (i 1).val
      omega

end Cert.BlendValue
end
-- ==== Proof.lean ====
module

public import proofs.«01_k».proof.Defs
public import proofs.«01_k».proof.Proof.AttnPages
public import proofs.«01_k».proof.Proof.AttnIdealPages
public import proofs.«01_k».proof.Proof.Inputs
public import proofs.«01_k».proof.Proof.Value
public import proofs.«01_k».proof.Proof.DownValue
public import proofs.«01_k».proof.Proof.HiddenValue
public import proofs.«01_k».proof.Proof.NormValue
public import proofs.«01_k».proof.Proof.GluValue
public import proofs.«01_k».proof.Proof.StepValue
public import proofs.«01_k».proof.Proof.MixValue
public import proofs.«01_k».proof.Proof.LastValue
public import proofs.«01_k».proof.Proof.BlendValue
public import proofs.«01_k».proof.Proof.Gen.Down.Frame
public import proofs.«01_k».proof.Proof.Gen.DownRefIdeal
public import proofs.«01_k».proof.Proof.Gen.DownRefIdeal.Run
public import proofs.«01_k».proof.Proof.Gen.Step.Frame
public import proofs.«01_k».proof.Proof.Gen.StepIdeal.Frame.Runs
public import proofs.«01_k».proof.Proof.Gen.StepRefIdeal
public import proofs.«01_k».proof.Proof.Gen.StepRefIdeal.Run
public import proofs.«01_k».proof.Proof.Gen.Mix.Frame
public import proofs.«01_k».proof.Proof.Gen.MixIdeal.Frame.Runs
public import proofs.«01_k».proof.Proof.Gen.MixRefIdeal
public import proofs.«01_k».proof.Proof.Gen.MixRefIdeal.Run
public import proofs.«01_k».proof.Proof.Gen.Last.Frame
public import proofs.«01_k».proof.Proof.Gen.LastIdeal.Frame
public import proofs.«01_k».proof.Proof.Gen.LastRefIdeal
public import proofs.«01_k».proof.Proof.Gen.LastRefIdeal.Run
public import proofs.«01_k».proof.Proof.Gen.Blend.Frame
public import proofs.«01_k».proof.Proof.Gen.BlendIdeal.Frame.Runs
public import proofs.«01_k».proof.Proof.Gen.BlendRefIdeal
public import proofs.«01_k».proof.Proof.Gen.BlendRefIdeal.Run
public import proofs.«01_k».proof.Proof.Gen.Hidden.Frame
public import proofs.«01_k».proof.Proof.Gen.HiddenIdeal.Frame.Runs
public import proofs.«01_k».proof.Proof.Gen.HiddenRefIdeal
public import proofs.«01_k».proof.Proof.Gen.HiddenRefIdeal.Run
public import proofs.«01_k».proof.Proof.Gen.Glu.Frame
public import proofs.«01_k».proof.Proof.Gen.GluIdeal.Frame.Runs
public import proofs.«01_k».proof.Proof.Gen.GluRefIdeal
public import proofs.«01_k».proof.Proof.Gen.GluRefIdeal.Run
public import proofs.«01_k».proof.Proof.Gen.Norm.Frame
public import proofs.«01_k».proof.Proof.Gen.NormIdeal.Frame
public import proofs.«01_k».proof.Proof.Gen.NormRefIdeal
public import proofs.«01_k».proof.Proof.Gen.NormRefIdeal.Run
public import proofs.«01_k».proof.Proof.Gen.AttnRefIdeal
public import proofs.«01_k».proof.Proof.Gen.AttnRefIdeal.Run
public import proofs.«01_k».proof.Proof.Gen.AttnRefIdeal.Read
public import proofs.«01_k».proof.Proof.Gen.Pre_table_in_pool
public import proofs.«01_k».proof.Proof.Gen.Pre_step_inputs
public import proofs.«01_k».proof.Proof.Gen.On_query_rows
public import Idealize.ShloMosaic.Adequacy
public import Idealize.ShloMosaic.Init

@[expose] public section

set_option maxRecDepth 16384

noncomputable section

namespace Cert.Proof

open Idealize.ShloMosaic Idealize.ShloMosaic.TcCoe Idealize.SL.Sem

/-- The page table's words lie in the pool, so each page is inside the cache. -/
theorem ok_kernel (m : (ℓ : Loc Attn.nD Attn.τ Attn.sig) → Buf (Elt Bits) ℓ) (h : Pre_Attn m) : Attn.Gen.Ok m :=
  Attn.Pages.ok m (fun i => Inputs.table _ _ _ _ _ _ _ _ (h (0 : Dev Attn.nD)) i)

theorem ok_ideal (m : (ℓ : Loc AttnIdeal.nD AttnIdeal.τ AttnIdeal.sig) → Buf (Elt Ideal) ℓ) (h : Pre_AttnIdeal m) : AttnIdeal.Gen.Ok m :=
  AttnIdeal.Pages.ok m (fun i => Inputs.table _ _ _ _ _ _ _ _ (h (0 : Dev AttnIdeal.nD)) i)

theorem good_inputs (m : (ℓ : Loc AttnIdeal.nD AttnIdeal.τ AttnIdeal.sig) → Buf (Elt Ideal) ℓ) (h : Pre_AttnIdeal_step_inputs m) (c : Dev AttnIdeal.nD) :
    Compare.Good m c := Inputs.good _ _ _ _ _ _ _ _ (h c)

theorem ok_inputs (m : (ℓ : Loc AttnIdeal.nD AttnIdeal.τ AttnIdeal.sig) → Buf (Elt Ideal) ℓ) (h : Pre_AttnIdeal_step_inputs m) : AttnIdeal.Gen.Ok m :=
  AttnIdeal.Pages.ok m (fun i => (good_inputs m h (0 : Dev AttnIdeal.nD)).table i)

theorem frame_kernel : quiescent_Attn := fun m g h => Attn.Gen.frame m g (ok_kernel m h)

theorem frame_ideal : quiescent_AttnIdeal := fun m g h => AttnIdeal.Gen.frame m g (ok_ideal m h)

theorem frame_ideal_inputs : quiescent_AttnIdeal_pre_step_inputs := fun m g h => AttnIdeal.Gen.frame m g (ok_inputs m h)

theorem frame_reference : quiescent_AttnRefIdeal := fun m g _ =>
  (θ_run AttnRefIdeal.defs _ _).mono (fun r hr => ⟨fun c => (hr c).2.2, sem_eq_zero_of_no_sems (by decide) r.2⟩) (AttnRefIdeal.Value.run (F := Ideal) m g)

theorem frame_reference_inputs : quiescent_AttnRefIdeal_pre_step_inputs := fun m g _ =>
  (θ_run AttnRefIdeal.defs _ _).mono (fun r hr => ⟨fun c => (hr c).2.2, sem_eq_zero_of_no_sems (by decide) r.2⟩) (AttnRefIdeal.Value.run (F := Ideal) m g)

theorem preserves : preserves_Attn_AttnIdeal :=
  IdealRules.named_const.statement AttnIdeal.κ "masked" .f32 0xF149F2CA#32 ⊥ rfl

theorem equal : algebraic_AttnIdeal_AttnRefIdeal_on_query_rows_pre_step_inputs := by
  intro m g m' g' h e
  refine ⟨fun c => Final.attendedArr m (ok_inputs m h) c, fun c => Final.movedArr m (ok_inputs m h) c, ?_, ?_⟩
  · refine (θ_run _ _ _).mono (fun r hr c => ?_) (θ_run_and (Value.kernel_run m g (ok_inputs m h)) (AttnIdeal.Gen.unchanged m g (ok_inputs m h)))
    exact ⟨fun i _ => congrFun (hr.1 c).1 i, fun i _ => congrFun (hr.1 c).2 i, hr.2 c⟩
  · refine (θ_run _ _ _).mono (fun r hr c => ?_) (AttnRefIdeal.Value.run m' g')
    obtain ⟨r92, r94, rest⟩ := hr c
    obtain ⟨e0, e1, e2, e3, e4, e5, e6, e7⟩ := e c
    refine ⟨fun i hi => ?_, fun i _ => ?_, rest⟩
    · exact (congrFun (r92.trans ((AttnRefIdeal.Read.val_main_v92_eq m' c).trans (Value.v92_of e0 e1 e2 e3 e4 e5 e6 e7))) i).trans
        (Value.attended_stage m (ok_inputs m h) c (good_inputs m h c) i (Value.row_lt _ _ _ _ _ _ _ _ i hi)).symm
    · exact (congrFun (r94.trans ((AttnRefIdeal.Read.val_main_v94_eq _ _).trans (Value.v94_of e3 e6))) i).trans
        (Value.moved_stage m (ok_inputs m h) c i).symm

theorem frame_down : quiescent_Down := fun m g _ => Down.Gen.frame m g

theorem frame_down_ideal : quiescent_DownIdeal := fun m g _ => DownIdeal.Gen.frame m g

theorem frame_down_reference : quiescent_DownRefIdeal := fun m g _ =>
  (θ_run DownRefIdeal.defs _ _).mono (fun r hr => ⟨fun c => (hr c).2, sem_eq_zero_of_no_sems (by decide) r.2⟩) (DownRefIdeal.Value.run (F := Ideal) m g)

theorem equal_down : algebraic_DownIdeal_DownRefIdeal := by
  intro m g m' g' _ e
  refine ⟨fun c => DownValue.sumArr m c, ?_, ?_⟩
  · refine (θ_run _ _ _).mono (fun r hr c => ?_) (θ_run_and (DownValue.kernel_run m g) (DownIdeal.Gen.unchanged m g))
    exact ⟨hr.1 c, hr.2 c⟩
  · refine (θ_run _ _ _).mono (fun r hr c => ?_) (DownRefIdeal.Value.run m' g')
    obtain ⟨r2, rest⟩ := hr c
    obtain ⟨e0, e1, e2⟩ := e c
    refine ⟨r2.trans ?_, rest⟩
    rw [e0, e1, e2]
    funext i
    exact DownValue.reference_apply _ _ _ i

theorem frame_hidden : quiescent_Hidden := fun m g _ => Hidden.Gen.frame m g

theorem frame_hidden_ideal : quiescent_HiddenIdeal := fun m g _ => HiddenIdeal.Gen.frame m g

theorem frame_hidden_reference : quiescent_HiddenRefIdeal := fun m g _ =>
  (θ_run HiddenRefIdeal.defs _ _).mono (fun r hr => ⟨fun c => (hr c).2.2, sem_eq_zero_of_no_sems (by decide) r.2⟩) (HiddenRefIdeal.Value.run (F := Ideal) m g)

theorem equal_hidden : algebraic_HiddenIdeal_HiddenRefIdeal := by
  intro m g m' g' _ e
  refine ⟨fun c => HiddenValue.hiddenArr m c, fun c => HiddenValue.tailArr m c, ?_, ?_⟩
  · refine (θ_run _ _ _).mono (fun r hr c => ?_) (θ_run_and (HiddenValue.kernel_run m g) (HiddenIdeal.Gen.frame m g))
    exact ⟨(hr.1 c).1, (hr.1 c).2, hr.2.1 c⟩
  · refine (θ_run _ _ _).mono (fun r hr c => ?_) (HiddenRefIdeal.Value.run m' g')
    obtain ⟨r29, r30, rest⟩ := hr c
    obtain ⟨e0, e1, e2, e3, e4, e5⟩ := e c
    refine ⟨r29.trans ?_, r30.trans ?_, rest⟩
    · funext i
      refine (HiddenValue.reference_apply m' c i).trans ?_
      rw [e0, e1, e2, e3, e4, e5]
      rfl
    · rw [e0, e2]
      funext i
      exact HiddenValue.reference_tail _ _ i

theorem frame_glu : quiescent_Glu := fun m g _ => Glu.Gen.frame m g

theorem frame_glu_ideal : quiescent_GluIdeal := fun m g _ => GluIdeal.Gen.frame m g

theorem frame_glu_reference : quiescent_GluRefIdeal := fun m g _ =>
  (θ_run GluRefIdeal.defs _ _).mono (fun r hr => ⟨fun c => (hr c).2, sem_eq_zero_of_no_sems (by decide) r.2⟩) (GluRefIdeal.Value.run (F := Ideal) m g)

theorem equal_glu : algebraic_GluIdeal_GluRefIdeal := by
  intro m g m' g' _ e
  refine ⟨fun c => GluValue.gluArr m c, ?_, ?_⟩
  · refine (θ_run _ _ _).mono (fun r hr c => ?_) (θ_run_and (GluValue.kernel_run m g) (GluIdeal.Gen.unchanged m g))
    exact ⟨hr.1 c, hr.2 c⟩
  · refine (θ_run _ _ _).mono (fun r hr c => ?_) (GluRefIdeal.Value.run m' g')
    obtain ⟨r2, rest⟩ := hr c
    obtain ⟨e0, e1⟩ := e c
    refine ⟨r2.trans ?_, rest⟩
    rw [e0, e1]
    funext i
    exact GluValue.reference_apply _ _ i

theorem frame_norm : quiescent_Norm := fun m g _ => Norm.Gen.frame m g

theorem frame_norm_ideal : quiescent_NormIdeal := fun m g _ => NormIdeal.Gen.frame m g

theorem frame_norm_reference : quiescent_NormRefIdeal := fun m g _ =>
  (θ_run NormRefIdeal.defs _ _).mono (fun r hr => ⟨fun c => (hr c).2, sem_eq_zero_of_no_sems (by decide) r.2⟩) (NormRefIdeal.Value.run (F := Ideal) m g)

theorem equal_norm : algebraic_NormIdeal_NormRefIdeal := by
  intro m g m' g' _ e
  refine ⟨fun c => NormValue.normArr m c, ?_, ?_⟩
  · refine (θ_run _ _ _).mono (fun r hr c => ?_) (θ_run_and (NormValue.kernel_run m g) (NormIdeal.Gen.unchanged m g))
    exact ⟨hr.1 c, hr.2 c⟩
  · refine (θ_run _ _ _).mono (fun r hr c => ?_) (NormRefIdeal.Value.run m' g')
    obtain ⟨r2, rest⟩ := hr c
    obtain ⟨e0, e1⟩ := e c
    refine ⟨r2.trans ?_, rest⟩
    rw [e0, e1]
    funext i
    exact NormValue.reference_apply _ _ i

theorem frame_step : quiescent_Step := fun m g _ => Step.Gen.frame m g

theorem frame_step_ideal : quiescent_StepIdeal := fun m g _ => StepIdeal.Gen.frame m g

theorem frame_step_reference : quiescent_StepRefIdeal := fun m g _ =>
  (θ_run StepRefIdeal.defs _ _).mono (fun r hr => ⟨fun c => (hr c).2.2, sem_eq_zero_of_no_sems (by decide) r.2⟩) (StepRefIdeal.Value.run (F := Ideal) m g)

theorem equal_step : algebraic_StepIdeal_StepRefIdeal := by
  intro m g m' g' _ e
  refine ⟨fun c => StepValue.hiddenArr m c, fun c => StepValue.gateArr m c, ?_, ?_⟩
  · refine (θ_run _ _ _).mono (fun r hr c => ?_) (θ_run_and (StepValue.kernel_run m g) (StepIdeal.Gen.unchanged m g))
    exact ⟨(hr.1 c).1, (hr.1 c).2, hr.2 c⟩
  · refine (θ_run _ _ _).mono (fun r hr c => ?_) (StepRefIdeal.Value.run m' g')
    obtain ⟨r27, r1, rest⟩ := hr c
    obtain ⟨e0, e1, e2, e3, e4, e5⟩ := e c
    refine ⟨r27.trans ?_, r1.trans ?_, rest⟩
    · rw [e0, e1, e2, e3, e4, e5]
      funext i
      exact StepValue.reference_apply _ _ _ _ _ _ i
    · rw [e0, e2]
      funext i
      exact StepValue.reference_gate _ _ i

theorem frame_mix : quiescent_Mix := fun m g _ => Mix.Gen.frame m g

theorem frame_mix_ideal : quiescent_MixIdeal := fun m g _ => MixIdeal.Gen.frame m g

theorem frame_mix_reference : quiescent_MixRefIdeal := fun m g _ =>
  (θ_run MixRefIdeal.defs _ _).mono (fun r hr => ⟨fun c => (hr c).2, sem_eq_zero_of_no_sems (by decide) r.2⟩) (MixRefIdeal.Value.run (F := Ideal) m g)

theorem equal_mix : algebraic_MixIdeal_MixRefIdeal := by
  intro m g m' g' _ e
  refine ⟨fun c => MixValue.mixArr m c, ?_, ?_⟩
  · refine (θ_run _ _ _).mono (fun r hr c => ?_) (θ_run_and (MixValue.kernel_run m g) (MixIdeal.Gen.unchanged m g))
    exact ⟨hr.1 c, hr.2 c⟩
  · refine (θ_run _ _ _).mono (fun r hr c => ?_) (MixRefIdeal.Value.run m' g')
    obtain ⟨r5, rest⟩ := hr c
    obtain ⟨e0, e1, e2, e3⟩ := e c
    refine ⟨r5.trans ?_, rest⟩
    rw [e0, e1, e2, e3]
    funext i
    exact MixValue.reference_apply _ _ _ _ i

theorem frame_last : quiescent_Last := fun m g _ => Last.Gen.frame m g

theorem frame_last_ideal : quiescent_LastIdeal := fun m g _ => LastIdeal.Gen.frame m g

theorem frame_last_reference : quiescent_LastRefIdeal := fun m g _ =>
  (θ_run LastRefIdeal.defs _ _).mono (fun r hr => ⟨fun c => (hr c).2, sem_eq_zero_of_no_sems (by decide) r.2⟩) (LastRefIdeal.Value.run (F := Ideal) m g)

theorem equal_last : algebraic_LastIdeal_LastRefIdeal := by
  intro m g m' g' _ e
  refine ⟨fun c => LastValue.lastArr m c, ?_, ?_⟩
  · refine (θ_run _ _ _).mono (fun r hr c => ?_) (θ_run_and (LastValue.kernel_run m g) (LastIdeal.Gen.unchanged m g))
    exact ⟨hr.1 c, hr.2 c⟩
  · refine (θ_run _ _ _).mono (fun r hr c => ?_) (LastRefIdeal.Value.run m' g')
    obtain ⟨r2, rest⟩ := hr c
    obtain ⟨e0, e1⟩ := e c
    refine ⟨r2.trans ?_, rest⟩
    rw [e0, e1]
    funext i
    exact LastValue.reference_apply _ _ i

theorem frame_blend : quiescent_Blend := fun m g _ => Blend.Gen.frame m g

theorem frame_blend_ideal : quiescent_BlendIdeal := fun m g _ => BlendIdeal.Gen.frame m g

theorem frame_blend_reference : quiescent_BlendRefIdeal := fun m g _ =>
  (θ_run BlendRefIdeal.defs _ _).mono (fun r hr => ⟨fun c => (hr c).2, sem_eq_zero_of_no_sems (by decide) r.2⟩) (BlendRefIdeal.Value.run (F := Ideal) m g)

theorem equal_blend : algebraic_BlendIdeal_BlendRefIdeal := by
  intro m g m' g' _ e
  refine ⟨fun c => BlendValue.blendArr m c, ?_, ?_⟩
  · refine (θ_run _ _ _).mono (fun r hr c => ?_) (θ_run_and (BlendValue.kernel_run m g) (BlendIdeal.Gen.unchanged m g))
    exact ⟨hr.1 c, hr.2 c⟩
  · refine (θ_run _ _ _).mono (fun r hr c => ?_) (BlendRefIdeal.Value.run m' g')
    obtain ⟨r2, rest⟩ := hr c
    obtain ⟨e0, e1⟩ := e c
    refine ⟨r2.trans ?_, rest⟩
    rw [e0, e1]
    funext i
    exact BlendValue.reference_apply _ _ i

theorem claim : Cert.Claim := ⟨Cert.Attn.Gen.facts, Cert.AttnIdeal.Gen.facts, Cert.AttnRefIdeal.Gen.facts, Cert.Down.Gen.facts, Cert.DownIdeal.Gen.facts,
  Cert.DownRefIdeal.Gen.facts, Cert.Hidden.Gen.facts, Cert.HiddenIdeal.Gen.facts, Cert.HiddenRefIdeal.Gen.facts, Cert.Glu.Gen.facts,
  Cert.GluIdeal.Gen.facts, Cert.GluRefIdeal.Gen.facts, Cert.Norm.Gen.facts, Cert.NormIdeal.Gen.facts, Cert.NormRefIdeal.Gen.facts,
  Cert.Step.Gen.facts, Cert.StepIdeal.Gen.facts, Cert.StepRefIdeal.Gen.facts,
  Cert.Mix.Gen.facts, Cert.MixIdeal.Gen.facts, Cert.MixRefIdeal.Gen.facts,
  Cert.Last.Gen.facts, Cert.LastIdeal.Gen.facts, Cert.LastRefIdeal.Gen.facts,
  Cert.Blend.Gen.facts, Cert.BlendIdeal.Gen.facts, Cert.BlendRefIdeal.Gen.facts, Cert.Pre_table_in_pool.Gen.facts,
  Cert.Pre_step_inputs.Gen.facts, Cert.On_query_rows.Gen.facts,
  frame_kernel, frame_ideal, frame_ideal_inputs, frame_reference, frame_reference_inputs, frame_down, frame_down_ideal, frame_down_reference,
  frame_hidden, frame_hidden_ideal, frame_hidden_reference, frame_glu, frame_glu_ideal, frame_glu_reference,
  frame_norm, frame_norm_ideal, frame_norm_reference,
  frame_step, frame_step_ideal, frame_step_reference,
  frame_mix, frame_mix_ideal, frame_mix_reference,
  frame_last, frame_last_ideal, frame_last_reference,
  frame_blend, frame_blend_ideal, frame_blend_reference, preserves, equal, trivial, equal_down, trivial, equal_hidden, trivial, equal_glu, trivial,
  equal_norm, trivial, equal_step, trivial, equal_mix, trivial, equal_last, trivial, equal_blend⟩

end Cert.Proof

end
